-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def Pre_Up (m : (ℓ : Loc Cert.Up.nD Cert.Up.τ Cert.Up.sig) → Buf (Elt Bits) ℓ) : Prop :=
  True

def Pre_UpIdeal (m : (ℓ : Loc Cert.UpIdeal.nD Cert.UpIdeal.τ Cert.UpIdeal.sig) → Buf (Elt Ideal) ℓ) : Prop :=
  True

def Pre_RefUpIdeal (m : (ℓ : Loc Cert.RefUpIdeal.nD Cert.RefUpIdeal.τ Cert.RefUpIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_RefDownIdeal (m : (ℓ : Loc Cert.RefDownIdeal.nD Cert.RefDownIdeal.τ Cert.RefDownIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_RefOutIdeal (m : (ℓ : Loc Cert.RefOutIdeal.nD Cert.RefOutIdeal.τ Cert.RefOutIdeal.sig) → Buf (Elt Ideal) ℓ) : Prop :=
  True

def Pre_In (m : (ℓ : Loc Cert.In.nD Cert.In.τ Cert.In.sig) → Buf (Elt Bits) ℓ) : Prop :=
  True

def Pre_InIdeal (m : (ℓ : Loc Cert.InIdeal.nD Cert.InIdeal.τ Cert.InIdeal.sig) → Buf (Elt Ideal) ℓ) : Prop :=
  True

def Pre_RefInIdeal (m : (ℓ : Loc Cert.RefInIdeal.nD Cert.RefInIdeal.τ Cert.RefInIdeal.sig) → Buf (Elt Ideal) ℓ) : Prop :=
  True

def Pre_Gates (m : (ℓ : Loc Cert.Gates.nD Cert.Gates.τ Cert.Gates.sig) → Buf (Elt Bits) ℓ) : Prop :=
  True

def Pre_GatesIdeal (m : (ℓ : Loc Cert.GatesIdeal.nD Cert.GatesIdeal.τ Cert.GatesIdeal.sig) → Buf (Elt Ideal) ℓ) : Prop :=
  True

def Pre_RefGatesIdeal (m : (ℓ : Loc Cert.RefGatesIdeal.nD Cert.RefGatesIdeal.τ Cert.RefGatesIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_RefMergeIdeal (m : (ℓ : Loc Cert.RefMergeIdeal.nD Cert.RefMergeIdeal.τ Cert.RefMergeIdeal.sig) → Buf (Elt Ideal) ℓ) : Prop :=
  True

def Pre_MoeUp [hPre_routed : Cert.Pre_routed.Facts] (m : (ℓ : Loc Cert.MoeUp.nD Cert.MoeUp.τ Cert.MoeUp.sig) → Buf (Elt Bits) ℓ) : Prop :=
  ∀ c : Dev Cert.MoeUp.nD,
    (Cert.Pre_routed.fn (F := Bits) (m ((c.tc : Thread Cert.MoeUp.nD Cert.MoeUp.τ).loc Cert.MoeUp.main_arg0)) (m ((c.tc : Thread Cert.MoeUp.nD Cert.MoeUp.τ).loc Cert.MoeUp.main_arg1)) (m ((c.tc : Thread Cert.MoeUp.nD Cert.MoeUp.τ).loc Cert.MoeUp.main_arg2)) (m ((c.tc : Thread Cert.MoeUp.nD Cert.MoeUp.τ).loc Cert.MoeUp.main_arg3)) (m ((c.tc : Thread Cert.MoeUp.nD Cert.MoeUp.τ).loc Cert.MoeUp.main_arg4))) = (fun _ => 1#1)

def Pre_MoeUpIdeal [hPre_routed : Cert.Pre_routed.Facts] (m : (ℓ : Loc Cert.MoeUpIdeal.nD Cert.MoeUpIdeal.τ Cert.MoeUpIdeal.sig) → Buf (Elt Ideal) ℓ) : Prop :=
  ∀ c : Dev Cert.MoeUpIdeal.nD,
    (Cert.Pre_routed.fn (F := Ideal) (m ((c.tc : Thread Cert.MoeUpIdeal.nD Cert.MoeUpIdeal.τ).loc Cert.MoeUpIdeal.main_arg0)) (m ((c.tc : Thread Cert.MoeUpIdeal.nD Cert.MoeUpIdeal.τ).loc Cert.MoeUpIdeal.main_arg1)) (m ((c.tc : Thread Cert.MoeUpIdeal.nD Cert.MoeUpIdeal.τ).loc Cert.MoeUpIdeal.main_arg2)) (m ((c.tc : Thread Cert.MoeUpIdeal.nD Cert.MoeUpIdeal.τ).loc Cert.MoeUpIdeal.main_arg3)) (m ((c.tc : Thread Cert.MoeUpIdeal.nD Cert.MoeUpIdeal.τ).loc Cert.MoeUpIdeal.main_arg4))) = (fun _ => 1#1)

def Pre_RefMoeUpIdeal (m : (ℓ : Loc Cert.RefMoeUpIdeal.nD Cert.RefMoeUpIdeal.τ Cert.RefMoeUpIdeal.sig) → Buf (Elt Ideal) ℓ) : Prop :=
  True

def Pre_RefMoeUpIdeal_routed [hPre_routed : Cert.Pre_routed.Facts] (m : (ℓ : Loc Cert.RefMoeUpIdeal.nD Cert.RefMoeUpIdeal.τ Cert.RefMoeUpIdeal.sig) → Buf (Elt Ideal) ℓ) : Prop :=
  ∀ c : Dev Cert.RefMoeUpIdeal.nD,
    (Cert.Pre_routed.fn (F := Ideal) (m ((c.tc : Thread Cert.RefMoeUpIdeal.nD Cert.RefMoeUpIdeal.τ).loc Cert.RefMoeUpIdeal.main_arg0)) (m ((c.tc : Thread Cert.RefMoeUpIdeal.nD Cert.RefMoeUpIdeal.τ).loc Cert.RefMoeUpIdeal.main_arg1)) (m ((c.tc : Thread Cert.RefMoeUpIdeal.nD Cert.RefMoeUpIdeal.τ).loc Cert.RefMoeUpIdeal.main_arg2)) (m ((c.tc : Thread Cert.RefMoeUpIdeal.nD Cert.RefMoeUpIdeal.τ).loc Cert.RefMoeUpIdeal.main_arg3)) (m ((c.tc : Thread Cert.RefMoeUpIdeal.nD Cert.RefMoeUpIdeal.τ).loc Cert.RefMoeUpIdeal.main_arg4))) = (fun _ => 1#1)

def Pre_MoeDown [hPre_routed_down : Cert.Pre_routed_down.Facts] (m : (ℓ : Loc Cert.MoeDown.nD Cert.MoeDown.τ Cert.MoeDown.sig) → Buf (Elt Bits) ℓ) : Prop :=
  ∀ c : Dev Cert.MoeDown.nD,
    (Cert.Pre_routed_down.fn (F := Bits) (m ((c.tc : Thread Cert.MoeDown.nD Cert.MoeDown.τ).loc Cert.MoeDown.main_arg0)) (m ((c.tc : Thread Cert.MoeDown.nD Cert.MoeDown.τ).loc Cert.MoeDown.main_arg1)) (m ((c.tc : Thread Cert.MoeDown.nD Cert.MoeDown.τ).loc Cert.MoeDown.main_arg2)) (m ((c.tc : Thread Cert.MoeDown.nD Cert.MoeDown.τ).loc Cert.MoeDown.main_arg3)) (m ((c.tc : Thread Cert.MoeDown.nD Cert.MoeDown.τ).loc Cert.MoeDown.main_arg4))) = (fun _ => 1#1)

def Pre_MoeDownIdeal [hPre_routed_down : Cert.Pre_routed_down.Facts] (m : (ℓ : Loc Cert.MoeDownIdeal.nD Cert.MoeDownIdeal.τ Cert.MoeDownIdeal.sig) → Buf (Elt Ideal) ℓ) : Prop :=
  ∀ c : Dev Cert.MoeDownIdeal.nD,
    (Cert.Pre_routed_down.fn (F := Ideal) (m ((c.tc : Thread Cert.MoeDownIdeal.nD Cert.MoeDownIdeal.τ).loc Cert.MoeDownIdeal.main_arg0)) (m ((c.tc : Thread Cert.MoeDownIdeal.nD Cert.MoeDownIdeal.τ).loc Cert.MoeDownIdeal.main_arg1)) (m ((c.tc : Thread Cert.MoeDownIdeal.nD Cert.MoeDownIdeal.τ).loc Cert.MoeDownIdeal.main_arg2)) (m ((c.tc : Thread Cert.MoeDownIdeal.nD Cert.MoeDownIdeal.τ).loc Cert.MoeDownIdeal.main_arg3)) (m ((c.tc : Thread Cert.MoeDownIdeal.nD Cert.MoeDownIdeal.τ).loc Cert.MoeDownIdeal.main_arg4))) = (fun _ => 1#1)

def Pre_RefMoeDownIdeal (m : (ℓ : Loc Cert.RefMoeDownIdeal.nD Cert.RefMoeDownIdeal.τ Cert.RefMoeDownIdeal.sig) → Buf (Elt Ideal) ℓ) : Prop :=
  True

def Pre_RefMoeDownIdeal_routed_down [hPre_routed_down : Cert.Pre_routed_down.Facts] (m : (ℓ : Loc Cert.RefMoeDownIdeal.nD Cert.RefMoeDownIdeal.τ Cert.RefMoeDownIdeal.sig) → Buf (Elt Ideal) ℓ) : Prop :=
  ∀ c : Dev Cert.RefMoeDownIdeal.nD,
    (Cert.Pre_routed_down.fn (F := Ideal) (m ((c.tc : Thread Cert.RefMoeDownIdeal.nD Cert.RefMoeDownIdeal.τ).loc Cert.RefMoeDownIdeal.main_arg0)) (m ((c.tc : Thread Cert.RefMoeDownIdeal.nD Cert.RefMoeDownIdeal.τ).loc Cert.RefMoeDownIdeal.main_arg1)) (m ((c.tc : Thread Cert.RefMoeDownIdeal.nD Cert.RefMoeDownIdeal.τ).loc Cert.RefMoeDownIdeal.main_arg2)) (m ((c.tc : Thread Cert.RefMoeDownIdeal.nD Cert.RefMoeDownIdeal.τ).loc Cert.RefMoeDownIdeal.main_arg3)) (m ((c.tc : Thread Cert.RefMoeDownIdeal.nD Cert.RefMoeDownIdeal.τ).loc Cert.RefMoeDownIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Up [hUp : Cert.Up.Facts] : Prop :=
  ∀ (m : (ℓ : Loc Cert.Up.nD Cert.Up.τ Cert.Up.sig) → Buf (Elt Bits) ℓ) (g : Dev Cert.Up.nD → PrngReg), Pre_Up m →
    θ_run (Cert.Up.defs (F := Bits)) (onTc (τ := Cert.Up.τ) (Cert.Up.main (F := Bits))) ⟨m, fun _ => 0, g⟩ (fun r => (∀ c : Dev Cert.Up.nD,
      r.2.mem ((c.tc : Thread Cert.Up.nD Cert.Up.τ).loc Cert.Up.main_arg0) = m ((c.tc : Thread Cert.Up.nD Cert.Up.τ).loc Cert.Up.main_arg0)
      ∧ r.2.mem ((c.tc : Thread Cert.Up.nD Cert.Up.τ).loc Cert.Up.main_arg1) = m ((c.tc : Thread Cert.Up.nD Cert.Up.τ).loc Cert.Up.main_arg1)
      ∧ r.2.mem ((c.tc : Thread Cert.Up.nD Cert.Up.τ).loc Cert.Up.main_arg2) = m ((c.tc : Thread Cert.Up.nD Cert.Up.τ).loc Cert.Up.main_arg2))
      ∧ r.2.sem = fun _ => 0)

def quiescent_UpIdeal [hUpIdeal : Cert.UpIdeal.Facts] : Prop :=
  ∀ (m : (ℓ : Loc Cert.UpIdeal.nD Cert.UpIdeal.τ Cert.UpIdeal.sig) → Buf (Elt Ideal) ℓ) (g : Dev Cert.UpIdeal.nD → PrngReg), Pre_UpIdeal m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
      ∧ r.2.mem ((c.tc : Thread Cert.UpIdeal.nD Cert.UpIdeal.τ).loc Cert.UpIdeal.main_arg2) = m ((c.tc : Thread Cert.UpIdeal.nD Cert.UpIdeal.τ).loc Cert.UpIdeal.main_arg2))
      ∧ r.2.sem = fun _ => 0)

def quiescent_RefUpIdeal [hRefUpIdeal : Cert.RefUpIdeal.Facts] : Prop :=
  ∀ (m : (ℓ : Loc Cert.RefUpIdeal.nD Cert.RefUpIdeal.τ Cert.RefUpIdeal.sig) → Buf (Elt Ideal) ℓ) (g : Dev Cert.RefUpIdeal.nD → PrngReg), Pre_RefUpIdeal m →
    θ_run (Cert.RefUpIdeal.defs (F := Ideal)) (onTc (τ := Cert.RefUpIdeal.τ) (Cert.RefUpIdeal.main (F := Ideal))) ⟨m, fun _ => 0, g⟩ (fun r => (∀ c : Dev Cert.RefUpIdeal.nD,
      r.2.mem ((c.tc : Thread Cert.RefUpIdeal.nD Cert.RefUpIdeal.τ).loc Cert.RefUpIdeal.main_arg0) = m ((c.tc : Thread Cert.RefUpIdeal.nD Cert.RefUpIdeal.τ).loc Cert.RefUpIdeal.main_arg0)
      ∧ r.2.mem ((c.tc : Thread Cert.RefUpIdeal.nD Cert.RefUpIdeal.τ).loc Cert.RefUpIdeal.main_arg1) = m ((c.tc : Thread Cert.RefUpIdeal.nD Cert.RefUpIdeal.τ).loc Cert.RefUpIdeal.main_arg1)
      ∧ r.2.mem ((c.tc : Thread Cert.RefUpIdeal.nD Cert.RefUpIdeal.τ).loc Cert.RefUpIdeal.main_arg2) = m ((c.tc : Thread Cert.RefUpIdeal.nD Cert.RefUpIdeal.τ).loc Cert.RefUpIdeal.main_arg2))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2)
      ∧ r.2.mem ((c.tc : Thread Cert.Down.nD Cert.Down.τ).loc Cert.Down.main_arg3) = m ((c.tc : Thread Cert.Down.nD Cert.Down.τ).loc Cert.Down.main_arg3))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
      ∧ r.2.mem ((c.tc : Thread Cert.DownIdeal.nD Cert.DownIdeal.τ).loc Cert.DownIdeal.main_arg3) = m ((c.tc : Thread Cert.DownIdeal.nD Cert.DownIdeal.τ).loc Cert.DownIdeal.main_arg3))
      ∧ r.2.sem = fun _ => 0)

def quiescent_RefDownIdeal [hRefDownIdeal : Cert.RefDownIdeal.Facts] : Prop :=
  ∀ (m : (ℓ : Loc Cert.RefDownIdeal.nD Cert.RefDownIdeal.τ Cert.RefDownIdeal.sig) → Buf (Elt Ideal) ℓ) (g : Dev Cert.RefDownIdeal.nD → PrngReg), Pre_RefDownIdeal m →
    θ_run (Cert.RefDownIdeal.defs (F := Ideal)) (onTc (τ := Cert.RefDownIdeal.τ) (Cert.RefDownIdeal.main (F := Ideal))) ⟨m, fun _ => 0, g⟩ (fun r => (∀ c : Dev Cert.RefDownIdeal.nD,
      r.2.mem ((c.tc : Thread Cert.RefDownIdeal.nD Cert.RefDownIdeal.τ).loc Cert.RefDownIdeal.main_arg0) = m ((c.tc : Thread Cert.RefDownIdeal.nD Cert.RefDownIdeal.τ).loc Cert.RefDownIdeal.main_arg0)
      ∧ r.2.mem ((c.tc : Thread Cert.RefDownIdeal.nD Cert.RefDownIdeal.τ).loc Cert.RefDownIdeal.main_arg1) = m ((c.tc : Thread Cert.RefDownIdeal.nD Cert.RefDownIdeal.τ).loc Cert.RefDownIdeal.main_arg1)
      ∧ r.2.mem ((c.tc : Thread Cert.RefDownIdeal.nD Cert.RefDownIdeal.τ).loc Cert.RefDownIdeal.main_arg2) = m ((c.tc : Thread Cert.RefDownIdeal.nD Cert.RefDownIdeal.τ).loc Cert.RefDownIdeal.main_arg2)
      ∧ r.2.mem ((c.tc : Thread Cert.RefDownIdeal.nD Cert.RefDownIdeal.τ).loc Cert.RefDownIdeal.main_arg3) = m ((c.tc : Thread Cert.RefDownIdeal.nD Cert.RefDownIdeal.τ).loc Cert.RefDownIdeal.main_arg3))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2)
      ∧ r.2.mem ((c.tc : Thread Cert.Out.nD Cert.Out.τ).loc Cert.Out.main_arg3) = m ((c.tc : Thread Cert.Out.nD Cert.Out.τ).loc Cert.Out.main_arg3))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
      ∧ r.2.mem ((c.tc : Thread Cert.OutIdeal.nD Cert.OutIdeal.τ).loc Cert.OutIdeal.main_arg3) = m ((c.tc : Thread Cert.OutIdeal.nD Cert.OutIdeal.τ).loc Cert.OutIdeal.main_arg3))
      ∧ r.2.sem = fun _ => 0)

def quiescent_RefOutIdeal [hRefOutIdeal : Cert.RefOutIdeal.Facts] : Prop :=
  ∀ (m : (ℓ : Loc Cert.RefOutIdeal.nD Cert.RefOutIdeal.τ Cert.RefOutIdeal.sig) → Buf (Elt Ideal) ℓ) (g : Dev Cert.RefOutIdeal.nD → PrngReg), Pre_RefOutIdeal m →
    θ_run (Cert.RefOutIdeal.defs (F := Ideal)) (onTc (τ := Cert.RefOutIdeal.τ) (Cert.RefOutIdeal.main (F := Ideal))) ⟨m, fun _ => 0, g⟩ (fun r => (∀ c : Dev Cert.RefOutIdeal.nD,
      r.2.mem ((c.tc : Thread Cert.RefOutIdeal.nD Cert.RefOutIdeal.τ).loc Cert.RefOutIdeal.main_arg0) = m ((c.tc : Thread Cert.RefOutIdeal.nD Cert.RefOutIdeal.τ).loc Cert.RefOutIdeal.main_arg0)
      ∧ r.2.mem ((c.tc : Thread Cert.RefOutIdeal.nD Cert.RefOutIdeal.τ).loc Cert.RefOutIdeal.main_arg1) = m ((c.tc : Thread Cert.RefOutIdeal.nD Cert.RefOutIdeal.τ).loc Cert.RefOutIdeal.main_arg1)
      ∧ r.2.mem ((c.tc : Thread Cert.RefOutIdeal.nD Cert.RefOutIdeal.τ).loc Cert.RefOutIdeal.main_arg2) = m ((c.tc : Thread Cert.RefOutIdeal.nD Cert.RefOutIdeal.τ).loc Cert.RefOutIdeal.main_arg2)
      ∧ r.2.mem ((c.tc : Thread Cert.RefOutIdeal.nD Cert.RefOutIdeal.τ).loc Cert.RefOutIdeal.main_arg3) = m ((c.tc : Thread Cert.RefOutIdeal.nD Cert.RefOutIdeal.τ).loc Cert.RefOutIdeal.main_arg3))
      ∧ r.2.sem = fun _ => 0)

def quiescent_In [hIn : Cert.In.Facts] : Prop :=
  ∀ (m : (ℓ : Loc Cert.In.nD Cert.In.τ Cert.In.sig) → Buf (Elt Bits) ℓ) (g : Dev Cert.In.nD → PrngReg), Pre_In m →
    θ_run (Cert.In.defs (F := Bits)) (onTc (τ := Cert.In.τ) (Cert.In.main (F := Bits))) ⟨m, fun _ => 0, g⟩ (fun r => (∀ c : Dev Cert.In.nD,
      r.2.mem ((c.tc : Thread Cert.In.nD Cert.In.τ).loc Cert.In.main_arg0) = m ((c.tc : Thread Cert.In.nD Cert.In.τ).loc Cert.In.main_arg0)
      ∧ r.2.mem ((c.tc : Thread Cert.In.nD Cert.In.τ).loc Cert.In.main_arg1) = m ((c.tc : Thread Cert.In.nD Cert.In.τ).loc Cert.In.main_arg1))
      ∧ r.2.sem = fun _ => 0)

def quiescent_InIdeal [hInIdeal : Cert.InIdeal.Facts] : Prop :=
  ∀ (m : (ℓ : Loc Cert.InIdeal.nD Cert.InIdeal.τ Cert.InIdeal.sig) → Buf (Elt Ideal) ℓ) (g : Dev Cert.InIdeal.nD → PrngReg), Pre_InIdeal m →
    θ_run (Cert.InIdeal.defs (F := Ideal)) (onTc (τ := Cert.InIdeal.τ) (Cert.InIdeal.main (F := Ideal))) ⟨m, fun _ => 0, g⟩ (fun r => (∀ c : Dev Cert.InIdeal.nD,
      r.2.mem ((c.tc : Thread Cert.InIdeal.nD Cert.InIdeal.τ).loc Cert.InIdeal.main_arg0) = m ((c.tc : Thread Cert.InIdeal.nD Cert.InIdeal.τ).loc Cert.InIdeal.main_arg0)
      ∧ r.2.mem ((c.tc : Thread Cert.InIdeal.nD Cert.InIdeal.τ).loc Cert.InIdeal.main_arg1) = m ((c.tc : Thread Cert.InIdeal.nD Cert.InIdeal.τ).loc Cert.InIdeal.main_arg1))
      ∧ r.2.sem = fun _ => 0)

def quiescent_RefInIdeal [hRefInIdeal : Cert.RefInIdeal.Facts] : Prop :=
  ∀ (m : (ℓ : Loc Cert.RefInIdeal.nD Cert.RefInIdeal.τ Cert.RefInIdeal.sig) → Buf (Elt Ideal) ℓ) (g : Dev Cert.RefInIdeal.nD → PrngReg), Pre_RefInIdeal m →
    θ_run (Cert.RefInIdeal.defs (F := Ideal)) (onTc (τ := Cert.RefInIdeal.τ) (Cert.RefInIdeal.main (F := Ideal))) ⟨m, fun _ => 0, g⟩ (fun r => (∀ c : Dev Cert.RefInIdeal.nD,
      r.2.mem ((c.tc : Thread Cert.RefInIdeal.nD Cert.RefInIdeal.τ).loc Cert.RefInIdeal.main_arg0) = m ((c.tc : Thread Cert.RefInIdeal.nD Cert.RefInIdeal.τ).loc Cert.RefInIdeal.main_arg0)
      ∧ r.2.mem ((c.tc : Thread Cert.RefInIdeal.nD Cert.RefInIdeal.τ).loc Cert.RefInIdeal.main_arg1) = m ((c.tc : Thread Cert.RefInIdeal.nD Cert.RefInIdeal.τ).loc Cert.RefInIdeal.main_arg1))
      ∧ r.2.sem = fun _ => 0)

def quiescent_Gates [hGates : Cert.Gates.Facts] : Prop :=
  ∀ (m : (ℓ : Loc Cert.Gates.nD Cert.Gates.τ Cert.Gates.sig) → Buf (Elt Bits) ℓ) (g : Dev Cert.Gates.nD → PrngReg), Pre_Gates m →
    θ_run (Cert.Gates.defs (F := Bits)) (onTc (τ := Cert.Gates.τ) (Cert.Gates.main (F := Bits))) ⟨m, fun _ => 0, g⟩ (fun r => (∀ c : Dev Cert.Gates.nD,
      r.2.mem ((c.tc : Thread Cert.Gates.nD Cert.Gates.τ).loc Cert.Gates.main_arg0) = m ((c.tc : Thread Cert.Gates.nD Cert.Gates.τ).loc Cert.Gates.main_arg0)
      ∧ r.2.mem ((c.tc : Thread Cert.Gates.nD Cert.Gates.τ).loc Cert.Gates.main_arg1) = m ((c.tc : Thread Cert.Gates.nD Cert.Gates.τ).loc Cert.Gates.main_arg1))
      ∧ r.2.sem = fun _ => 0)

def quiescent_GatesIdeal [hGatesIdeal : Cert.GatesIdeal.Facts] : Prop :=
  ∀ (m : (ℓ : Loc Cert.GatesIdeal.nD Cert.GatesIdeal.τ Cert.GatesIdeal.sig) → Buf (Elt Ideal) ℓ) (g : Dev Cert.GatesIdeal.nD → PrngReg), Pre_GatesIdeal m →
    θ_run (Cert.GatesIdeal.defs (F := Ideal)) (onTc (τ := Cert.GatesIdeal.τ) (Cert.GatesIdeal.main (F := Ideal))) ⟨m, fun _ => 0, g⟩ (fun r => (∀ c : Dev Cert.GatesIdeal.nD,
      r.2.mem ((c.tc : Thread Cert.GatesIdeal.nD Cert.GatesIdeal.τ).loc Cert.GatesIdeal.main_arg0) = m ((c.tc : Thread Cert.GatesIdeal.nD Cert.GatesIdeal.τ).loc Cert.GatesIdeal.main_arg0)
      ∧ r.2.mem ((c.tc : Thread Cert.GatesIdeal.nD Cert.GatesIdeal.τ).loc Cert.GatesIdeal.main_arg1) = m ((c.tc : Thread Cert.GatesIdeal.nD Cert.GatesIdeal.τ).loc Cert.GatesIdeal.main_arg1))
      ∧ r.2.sem = fun _ => 0)

def quiescent_RefGatesIdeal [hRefGatesIdeal : Cert.RefGatesIdeal.Facts] : Prop :=
  ∀ (m : (ℓ : Loc Cert.RefGatesIdeal.nD Cert.RefGatesIdeal.τ Cert.RefGatesIdeal.sig) → Buf (Elt Ideal) ℓ) (g : Dev Cert.RefGatesIdeal.nD → PrngReg), Pre_RefGatesIdeal m →
    θ_run (Cert.RefGatesIdeal.defs (F := Ideal)) (onTc (τ := Cert.RefGatesIdeal.τ) (Cert.RefGatesIdeal.main (F := Ideal))) ⟨m, fun _ => 0, g⟩ (fun r => (∀ c : Dev Cert.RefGatesIdeal.nD,
      r.2.mem ((c.tc : Thread Cert.RefGatesIdeal.nD Cert.RefGatesIdeal.τ).loc Cert.RefGatesIdeal.main_arg0) = m ((c.tc : Thread Cert.RefGatesIdeal.nD Cert.RefGatesIdeal.τ).loc Cert.RefGatesIdeal.main_arg0)
      ∧ r.2.mem ((c.tc : Thread Cert.RefGatesIdeal.nD Cert.RefGatesIdeal.τ).loc Cert.RefGatesIdeal.main_arg1) = m ((c.tc : Thread Cert.RefGatesIdeal.nD Cert.RefGatesIdeal.τ).loc Cert.RefGatesIdeal.main_arg1))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4))
      ∧ r.2.sem = fun _ => 0)

def quiescent_RefMergeIdeal [hRefMergeIdeal : Cert.RefMergeIdeal.Facts] : Prop :=
  ∀ (m : (ℓ : Loc Cert.RefMergeIdeal.nD Cert.RefMergeIdeal.τ Cert.RefMergeIdeal.sig) → Buf (Elt Ideal) ℓ) (g : Dev Cert.RefMergeIdeal.nD → PrngReg), Pre_RefMergeIdeal m →
    θ_run (Cert.RefMergeIdeal.defs (F := Ideal)) (onTc (τ := Cert.RefMergeIdeal.τ) (Cert.RefMergeIdeal.main (F := Ideal))) ⟨m, fun _ => 0, g⟩ (fun r => (∀ c : Dev Cert.RefMergeIdeal.nD,
      r.2.mem ((c.tc : Thread Cert.RefMergeIdeal.nD Cert.RefMergeIdeal.τ).loc Cert.RefMergeIdeal.main_arg0) = m ((c.tc : Thread Cert.RefMergeIdeal.nD Cert.RefMergeIdeal.τ).loc Cert.RefMergeIdeal.main_arg0)
      ∧ r.2.mem ((c.tc : Thread Cert.RefMergeIdeal.nD Cert.RefMergeIdeal.τ).loc Cert.RefMergeIdeal.main_arg1) = m ((c.tc : Thread Cert.RefMergeIdeal.nD Cert.RefMergeIdeal.τ).loc Cert.RefMergeIdeal.main_arg1)
      ∧ r.2.mem ((c.tc : Thread Cert.RefMergeIdeal.nD Cert.RefMergeIdeal.τ).loc Cert.RefMergeIdeal.main_arg2) = m ((c.tc : Thread Cert.RefMergeIdeal.nD Cert.RefMergeIdeal.τ).loc Cert.RefMergeIdeal.main_arg2)
      ∧ r.2.mem ((c.tc : Thread Cert.RefMergeIdeal.nD Cert.RefMergeIdeal.τ).loc Cert.RefMergeIdeal.main_arg3) = m ((c.tc : Thread Cert.RefMergeIdeal.nD Cert.RefMergeIdeal.τ).loc Cert.RefMergeIdeal.main_arg3)
      ∧ r.2.mem ((c.tc : Thread Cert.RefMergeIdeal.nD Cert.RefMergeIdeal.τ).loc Cert.RefMergeIdeal.main_arg4) = m ((c.tc : Thread Cert.RefMergeIdeal.nD Cert.RefMergeIdeal.τ).loc Cert.RefMergeIdeal.main_arg4))
      ∧ r.2.sem = fun _ => 0)

def quiescent_MoeUp [hMoeUp : Cert.MoeUp.Facts] [hPre_routed : Cert.Pre_routed.Facts] : Prop :=
  ∀ (m : (ℓ : Loc Cert.MoeUp.nD Cert.MoeUp.τ Cert.MoeUp.sig) → Buf (Elt Bits) ℓ) (g : Dev Cert.MoeUp.nD → PrngReg), Pre_MoeUp m →
    θ_run (Cert.MoeUp.defs (F := Bits)) (onTc (τ := Cert.MoeUp.τ) (Cert.MoeUp.main (F := Bits))) ⟨m, fun _ => 0, g⟩ (fun r => (∀ c : Dev Cert.MoeUp.nD,
      r.2.mem ((c.tc : Thread Cert.MoeUp.nD Cert.MoeUp.τ).loc Cert.MoeUp.main_arg0) = m ((c.tc : Thread Cert.MoeUp.nD Cert.MoeUp.τ).loc Cert.MoeUp.main_arg0)
      ∧ r.2.mem ((c.tc : Thread Cert.MoeUp.nD Cert.MoeUp.τ).loc Cert.MoeUp.main_arg1) = m ((c.tc : Thread Cert.MoeUp.nD Cert.MoeUp.τ).loc Cert.MoeUp.main_arg1)
      ∧ r.2.mem ((c.tc : Thread Cert.MoeUp.nD Cert.MoeUp.τ).loc Cert.MoeUp.main_arg2) = m ((c.tc : Thread Cert.MoeUp.nD Cert.MoeUp.τ).loc Cert.MoeUp.main_arg2)
      ∧ r.2.mem ((c.tc : Thread Cert.MoeUp.nD Cert.MoeUp.τ).loc Cert.MoeUp.main_arg3) = m ((c.tc : Thread Cert.MoeUp.nD Cert.MoeUp.τ).loc Cert.MoeUp.main_arg3)
      ∧ r.2.mem ((c.tc : Thread Cert.MoeUp.nD Cert.MoeUp.τ).loc Cert.MoeUp.main_arg4) = m ((c.tc : Thread Cert.MoeUp.nD Cert.MoeUp.τ).loc Cert.MoeUp.main_arg4))
      ∧ r.2.sem = fun _ => 0)

def quiescent_MoeUpIdeal [hMoeUpIdeal : Cert.MoeUpIdeal.Facts] [hPre_routed : Cert.Pre_routed.Facts] : Prop :=
  ∀ (m : (ℓ : Loc Cert.MoeUpIdeal.nD Cert.MoeUpIdeal.τ Cert.MoeUpIdeal.sig) → Buf (Elt Ideal) ℓ) (g : Dev Cert.MoeUpIdeal.nD → PrngReg), Pre_MoeUpIdeal m →
    θ_run (Cert.MoeUpIdeal.defs (F := Ideal)) (onTc (τ := Cert.MoeUpIdeal.τ) (Cert.MoeUpIdeal.main (F := Ideal))) ⟨m, fun _ => 0, g⟩ (fun r => (∀ c : Dev Cert.MoeUpIdeal.nD,
      r.2.mem ((c.tc : Thread Cert.MoeUpIdeal.nD Cert.MoeUpIdeal.τ).loc Cert.MoeUpIdeal.main_arg0) = m ((c.tc : Thread Cert.MoeUpIdeal.nD Cert.MoeUpIdeal.τ).loc Cert.MoeUpIdeal.main_arg0)
      ∧ r.2.mem ((c.tc : Thread Cert.MoeUpIdeal.nD Cert.MoeUpIdeal.τ).loc Cert.MoeUpIdeal.main_arg1) = m ((c.tc : Thread Cert.MoeUpIdeal.nD Cert.MoeUpIdeal.τ).loc Cert.MoeUpIdeal.main_arg1)
      ∧ r.2.mem ((c.tc : Thread Cert.MoeUpIdeal.nD Cert.MoeUpIdeal.τ).loc Cert.MoeUpIdeal.main_arg2) = m ((c.tc : Thread Cert.MoeUpIdeal.nD Cert.MoeUpIdeal.τ).loc Cert.MoeUpIdeal.main_arg2)
      ∧ r.2.mem ((c.tc : Thread Cert.MoeUpIdeal.nD Cert.MoeUpIdeal.τ).loc Cert.MoeUpIdeal.main_arg3) = m ((c.tc : Thread Cert.MoeUpIdeal.nD Cert.MoeUpIdeal.τ).loc Cert.MoeUpIdeal.main_arg3)
      ∧ r.2.mem ((c.tc : Thread Cert.MoeUpIdeal.nD Cert.MoeUpIdeal.τ).loc Cert.MoeUpIdeal.main_arg4) = m ((c.tc : Thread Cert.MoeUpIdeal.nD Cert.MoeUpIdeal.τ).loc Cert.MoeUpIdeal.main_arg4))
      ∧ r.2.sem = fun _ => 0)

def quiescent_RefMoeUpIdeal [hRefMoeUpIdeal : Cert.RefMoeUpIdeal.Facts] : Prop :=
  ∀ (m : (ℓ : Loc Cert.RefMoeUpIdeal.nD Cert.RefMoeUpIdeal.τ Cert.RefMoeUpIdeal.sig) → Buf (Elt Ideal) ℓ) (g : Dev Cert.RefMoeUpIdeal.nD → PrngReg), Pre_RefMoeUpIdeal m →
    θ_run (Cert.RefMoeUpIdeal.defs (F := Ideal)) (onTc (τ := Cert.RefMoeUpIdeal.τ) (Cert.RefMoeUpIdeal.main (F := Ideal))) ⟨m, fun _ => 0, g⟩ (fun r => (∀ c : Dev Cert.RefMoeUpIdeal.nD,
      r.2.mem ((c.tc : Thread Cert.RefMoeUpIdeal.nD Cert.RefMoeUpIdeal.τ).loc Cert.RefMoeUpIdeal.main_arg0) = m ((c.tc : Thread Cert.RefMoeUpIdeal.nD Cert.RefMoeUpIdeal.τ).loc Cert.RefMoeUpIdeal.main_arg0)
      ∧ r.2.mem ((c.tc : Thread Cert.RefMoeUpIdeal.nD Cert.RefMoeUpIdeal.τ).loc Cert.RefMoeUpIdeal.main_arg1) = m ((c.tc : Thread Cert.RefMoeUpIdeal.nD Cert.RefMoeUpIdeal.τ).loc Cert.RefMoeUpIdeal.main_arg1)
      ∧ r.2.mem ((c.tc : Thread Cert.RefMoeUpIdeal.nD Cert.RefMoeUpIdeal.τ).loc Cert.RefMoeUpIdeal.main_arg2) = m ((c.tc : Thread Cert.RefMoeUpIdeal.nD Cert.RefMoeUpIdeal.τ).loc Cert.RefMoeUpIdeal.main_arg2)
      ∧ r.2.mem ((c.tc : Thread Cert.RefMoeUpIdeal.nD Cert.RefMoeUpIdeal.τ).loc Cert.RefMoeUpIdeal.main_arg3) = m ((c.tc : Thread Cert.RefMoeUpIdeal.nD Cert.RefMoeUpIdeal.τ).loc Cert.RefMoeUpIdeal.main_arg3)
      ∧ r.2.mem ((c.tc : Thread Cert.RefMoeUpIdeal.nD Cert.RefMoeUpIdeal.τ).loc Cert.RefMoeUpIdeal.main_arg4) = m ((c.tc : Thread Cert.RefMoeUpIdeal.nD Cert.RefMoeUpIdeal.τ).loc Cert.RefMoeUpIdeal.main_arg4))
      ∧ r.2.sem = fun _ => 0)

def quiescent_RefMoeUpIdeal_pre_routed [hRefMoeUpIdeal : Cert.RefMoeUpIdeal.Facts] [hPre_routed : Cert.Pre_routed.Facts] : Prop :=
  ∀ (m : (ℓ : Loc Cert.RefMoeUpIdeal.nD Cert.RefMoeUpIdeal.τ Cert.RefMoeUpIdeal.sig) → Buf (Elt Ideal) ℓ) (g : Dev Cert.RefMoeUpIdeal.nD → PrngReg), Pre_RefMoeUpIdeal_routed m →
    θ_run (Cert.RefMoeUpIdeal.defs (F := Ideal)) (onTc (τ := Cert.RefMoeUpIdeal.τ) (Cert.RefMoeUpIdeal.main (F := Ideal))) ⟨m, fun _ => 0, g⟩ (fun r => (∀ c : Dev Cert.RefMoeUpIdeal.nD,
      r.2.mem ((c.tc : Thread Cert.RefMoeUpIdeal.nD Cert.RefMoeUpIdeal.τ).loc Cert.RefMoeUpIdeal.main_arg0) = m ((c.tc : Thread Cert.RefMoeUpIdeal.nD Cert.RefMoeUpIdeal.τ).loc Cert.RefMoeUpIdeal.main_arg0)
      ∧ r.2.mem ((c.tc : Thread Cert.RefMoeUpIdeal.nD Cert.RefMoeUpIdeal.τ).loc Cert.RefMoeUpIdeal.main_arg1) = m ((c.tc : Thread Cert.RefMoeUpIdeal.nD Cert.RefMoeUpIdeal.τ).loc Cert.RefMoeUpIdeal.main_arg1)
      ∧ r.2.mem ((c.tc : Thread Cert.RefMoeUpIdeal.nD Cert.RefMoeUpIdeal.τ).loc Cert.RefMoeUpIdeal.main_arg2) = m ((c.tc : Thread Cert.RefMoeUpIdeal.nD Cert.RefMoeUpIdeal.τ).loc Cert.RefMoeUpIdeal.main_arg2)
      ∧ r.2.mem ((c.tc : Thread Cert.RefMoeUpIdeal.nD Cert.RefMoeUpIdeal.τ).loc Cert.RefMoeUpIdeal.main_arg3) = m ((c.tc : Thread Cert.RefMoeUpIdeal.nD Cert.RefMoeUpIdeal.τ).loc Cert.RefMoeUpIdeal.main_arg3)
      ∧ r.2.mem ((c.tc : Thread Cert.RefMoeUpIdeal.nD Cert.RefMoeUpIdeal.τ).loc Cert.RefMoeUpIdeal.main_arg4) = m ((c.tc : Thread Cert.RefMoeUpIdeal.nD Cert.RefMoeUpIdeal.τ).loc Cert.RefMoeUpIdeal.main_arg4))
      ∧ r.2.sem = fun _ => 0)

def quiescent_MoeDown [hMoeDown : Cert.MoeDown.Facts] [hPre_routed_down : Cert.Pre_routed_down.Facts] : Prop :=
  ∀ (m : (ℓ : Loc Cert.MoeDown.nD Cert.MoeDown.τ Cert.MoeDown.sig) → Buf (Elt Bits) ℓ) (g : Dev Cert.MoeDown.nD → PrngReg), Pre_MoeDown m →
    θ_run (Cert.MoeDown.defs (F := Bits)) (onTc (τ := Cert.MoeDown.τ) (Cert.MoeDown.main (F := Bits))) ⟨m, fun _ => 0, g⟩ (fun r => (∀ c : Dev Cert.MoeDown.nD,
      r.2.mem ((c.tc : Thread Cert.MoeDown.nD Cert.MoeDown.τ).loc Cert.MoeDown.main_arg0) = m ((c.tc : Thread Cert.MoeDown.nD Cert.MoeDown.τ).loc Cert.MoeDown.main_arg0)
      ∧ r.2.mem ((c.tc : Thread Cert.MoeDown.nD Cert.MoeDown.τ).loc Cert.MoeDown.main_arg1) = m ((c.tc : Thread Cert.MoeDown.nD Cert.MoeDown.τ).loc Cert.MoeDown.main_arg1)
      ∧ r.2.mem ((c.tc : Thread Cert.MoeDown.nD Cert.MoeDown.τ).loc Cert.MoeDown.main_arg2) = m ((c.tc : Thread Cert.MoeDown.nD Cert.MoeDown.τ).loc Cert.MoeDown.main_arg2)
      ∧ r.2.mem ((c.tc : Thread Cert.MoeDown.nD Cert.MoeDown.τ).loc Cert.MoeDown.main_arg3) = m ((c.tc : Thread Cert.MoeDown.nD Cert.MoeDown.τ).loc Cert.MoeDown.main_arg3)
      ∧ r.2.mem ((c.tc : Thread Cert.MoeDown.nD Cert.MoeDown.τ).loc Cert.MoeDown.main_arg4) = m ((c.tc : Thread Cert.MoeDown.nD Cert.MoeDown.τ).loc Cert.MoeDown.main_arg4))
      ∧ r.2.sem = fun _ => 0)

def quiescent_MoeDownIdeal [hMoeDownIdeal : Cert.MoeDownIdeal.Facts] [hPre_routed_down : Cert.Pre_routed_down.Facts] : Prop :=
  ∀ (m : (ℓ : Loc Cert.MoeDownIdeal.nD Cert.MoeDownIdeal.τ Cert.MoeDownIdeal.sig) → Buf (Elt Ideal) ℓ) (g : Dev Cert.MoeDownIdeal.nD → PrngReg), Pre_MoeDownIdeal m →
    θ_run (Cert.MoeDownIdeal.defs (F := Ideal)) (onTc (τ := Cert.MoeDownIdeal.τ) (Cert.MoeDownIdeal.main (F := Ideal))) ⟨m, fun _ => 0, g⟩ (fun r => (∀ c : Dev Cert.MoeDownIdeal.nD,
      r.2.mem ((c.tc : Thread Cert.MoeDownIdeal.nD Cert.MoeDownIdeal.τ).loc Cert.MoeDownIdeal.main_arg0) = m ((c.tc : Thread Cert.MoeDownIdeal.nD Cert.MoeDownIdeal.τ).loc Cert.MoeDownIdeal.main_arg0)
      ∧ r.2.mem ((c.tc : Thread Cert.MoeDownIdeal.nD Cert.MoeDownIdeal.τ).loc Cert.MoeDownIdeal.main_arg1) = m ((c.tc : Thread Cert.MoeDownIdeal.nD Cert.MoeDownIdeal.τ).loc Cert.MoeDownIdeal.main_arg1)
      ∧ r.2.mem ((c.tc : Thread Cert.MoeDownIdeal.nD Cert.MoeDownIdeal.τ).loc Cert.MoeDownIdeal.main_arg2) = m ((c.tc : Thread Cert.MoeDownIdeal.nD Cert.MoeDownIdeal.τ).loc Cert.MoeDownIdeal.main_arg2)
      ∧ r.2.mem ((c.tc : Thread Cert.MoeDownIdeal.nD Cert.MoeDownIdeal.τ).loc Cert.MoeDownIdeal.main_arg3) = m ((c.tc : Thread Cert.MoeDownIdeal.nD Cert.MoeDownIdeal.τ).loc Cert.MoeDownIdeal.main_arg3)
      ∧ r.2.mem ((c.tc : Thread Cert.MoeDownIdeal.nD Cert.MoeDownIdeal.τ).loc Cert.MoeDownIdeal.main_arg4) = m ((c.tc : Thread Cert.MoeDownIdeal.nD Cert.MoeDownIdeal.τ).loc Cert.MoeDownIdeal.main_arg4))
      ∧ r.2.sem = fun _ => 0)

def quiescent_RefMoeDownIdeal [hRefMoeDownIdeal : Cert.RefMoeDownIdeal.Facts] : Prop :=
  ∀ (m : (ℓ : Loc Cert.RefMoeDownIdeal.nD Cert.RefMoeDownIdeal.τ Cert.RefMoeDownIdeal.sig) → Buf (Elt Ideal) ℓ) (g : Dev Cert.RefMoeDownIdeal.nD → PrngReg), Pre_RefMoeDownIdeal m →
    θ_run (Cert.RefMoeDownIdeal.defs (F := Ideal)) (onTc (τ := Cert.RefMoeDownIdeal.τ) (Cert.RefMoeDownIdeal.main (F := Ideal))) ⟨m, fun _ => 0, g⟩ (fun r => (∀ c : Dev Cert.RefMoeDownIdeal.nD,
      r.2.mem ((c.tc : Thread Cert.RefMoeDownIdeal.nD Cert.RefMoeDownIdeal.τ).loc Cert.RefMoeDownIdeal.main_arg0) = m ((c.tc : Thread Cert.RefMoeDownIdeal.nD Cert.RefMoeDownIdeal.τ).loc Cert.RefMoeDownIdeal.main_arg0)
      ∧ r.2.mem ((c.tc : Thread Cert.RefMoeDownIdeal.nD Cert.RefMoeDownIdeal.τ).loc Cert.RefMoeDownIdeal.main_arg1) = m ((c.tc : Thread Cert.RefMoeDownIdeal.nD Cert.RefMoeDownIdeal.τ).loc Cert.RefMoeDownIdeal.main_arg1)
      ∧ r.2.mem ((c.tc : Thread Cert.RefMoeDownIdeal.nD Cert.RefMoeDownIdeal.τ).loc Cert.RefMoeDownIdeal.main_arg2) = m ((c.tc : Thread Cert.RefMoeDownIdeal.nD Cert.RefMoeDownIdeal.τ).loc Cert.RefMoeDownIdeal.main_arg2)
      ∧ r.2.mem ((c.tc : Thread Cert.RefMoeDownIdeal.nD Cert.RefMoeDownIdeal.τ).loc Cert.RefMoeDownIdeal.main_arg3) = m ((c.tc : Thread Cert.RefMoeDownIdeal.nD Cert.RefMoeDownIdeal.τ).loc Cert.RefMoeDownIdeal.main_arg3)
      ∧ r.2.mem ((c.tc : Thread Cert.RefMoeDownIdeal.nD Cert.RefMoeDownIdeal.τ).loc Cert.RefMoeDownIdeal.main_arg4) = m ((c.tc : Thread Cert.RefMoeDownIdeal.nD Cert.RefMoeDownIdeal.τ).loc Cert.RefMoeDownIdeal.main_arg4))
      ∧ r.2.sem = fun _ => 0)

def quiescent_RefMoeDownIdeal_pre_routed_down [hRefMoeDownIdeal : Cert.RefMoeDownIdeal.Facts] [hPre_routed_down : Cert.Pre_routed_down.Facts] : Prop :=
  ∀ (m : (ℓ : Loc Cert.RefMoeDownIdeal.nD Cert.RefMoeDownIdeal.τ Cert.RefMoeDownIdeal.sig) → Buf (Elt Ideal) ℓ) (g : Dev Cert.RefMoeDownIdeal.nD → PrngReg), Pre_RefMoeDownIdeal_routed_down m →
    θ_run (Cert.RefMoeDownIdeal.defs (F := Ideal)) (onTc (τ := Cert.RefMoeDownIdeal.τ) (Cert.RefMoeDownIdeal.main (F := Ideal))) ⟨m, fun _ => 0, g⟩ (fun r => (∀ c : Dev Cert.RefMoeDownIdeal.nD,
      r.2.mem ((c.tc : Thread Cert.RefMoeDownIdeal.nD Cert.RefMoeDownIdeal.τ).loc Cert.RefMoeDownIdeal.main_arg0) = m ((c.tc : Thread Cert.RefMoeDownIdeal.nD Cert.RefMoeDownIdeal.τ).loc Cert.RefMoeDownIdeal.main_arg0)
      ∧ r.2.mem ((c.tc : Thread Cert.RefMoeDownIdeal.nD Cert.RefMoeDownIdeal.τ).loc Cert.RefMoeDownIdeal.main_arg1) = m ((c.tc : Thread Cert.RefMoeDownIdeal.nD Cert.RefMoeDownIdeal.τ).loc Cert.RefMoeDownIdeal.main_arg1)
      ∧ r.2.mem ((c.tc : Thread Cert.RefMoeDownIdeal.nD Cert.RefMoeDownIdeal.τ).loc Cert.RefMoeDownIdeal.main_arg2) = m ((c.tc : Thread Cert.RefMoeDownIdeal.nD Cert.RefMoeDownIdeal.τ).loc Cert.RefMoeDownIdeal.main_arg2)
      ∧ r.2.mem ((c.tc : Thread Cert.RefMoeDownIdeal.nD Cert.RefMoeDownIdeal.τ).loc Cert.RefMoeDownIdeal.main_arg3) = m ((c.tc : Thread Cert.RefMoeDownIdeal.nD Cert.RefMoeDownIdeal.τ).loc Cert.RefMoeDownIdeal.main_arg3)
      ∧ r.2.mem ((c.tc : Thread Cert.RefMoeDownIdeal.nD Cert.RefMoeDownIdeal.τ).loc Cert.RefMoeDownIdeal.main_arg4) = m ((c.tc : Thread Cert.RefMoeDownIdeal.nD Cert.RefMoeDownIdeal.τ).loc Cert.RefMoeDownIdeal.main_arg4))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v70_0)) (v1 : (c : Dev Cert.KernelIdeal.nD) → Buf (Elt Ideal) ((c.tc : Thread Cert.KernelIdeal.nD Cert.KernelIdeal.τ).loc Cert.KernelIdeal.main_v70_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v70_0) = v0 c
          ∧ r.2.mem ((c.tc : Thread Cert.KernelIdeal.nD Cert.KernelIdeal.τ).loc Cert.KernelIdeal.main_v70_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v69) = v0 c
          ∧ r.2.mem ((c.tc : Thread Cert.ReferenceIdeal.nD Cert.ReferenceIdeal.τ).loc Cert.ReferenceIdeal.main_v76) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Up_UpIdeal : Prop :=
  True

def algebraic_UpIdeal_RefUpIdeal [hUpIdeal : Cert.UpIdeal.Facts] [hRefUpIdeal : Cert.RefUpIdeal.Facts] : Prop :=
  ∀ (m : (ℓ : Loc Cert.UpIdeal.nD Cert.UpIdeal.τ Cert.UpIdeal.sig) → Buf (Elt Ideal) ℓ) (g : Dev Cert.UpIdeal.nD → PrngReg)
    (m' : (ℓ : Loc Cert.RefUpIdeal.nD Cert.RefUpIdeal.τ Cert.RefUpIdeal.sig) → Buf (Elt Ideal) ℓ) (g' : Dev Cert.RefUpIdeal.nD → PrngReg), Pre_UpIdeal m →
    (∀ c : Dev Cert.UpIdeal.nD,
      m' ((c.tc : Thread Cert.RefUpIdeal.nD Cert.RefUpIdeal.τ).loc Cert.RefUpIdeal.main_arg0) = m ((c.tc : Thread Cert.UpIdeal.nD Cert.UpIdeal.τ).loc Cert.UpIdeal.main_arg0)
      ∧ m' ((c.tc : Thread Cert.RefUpIdeal.nD Cert.RefUpIdeal.τ).loc Cert.RefUpIdeal.main_arg1) = m ((c.tc : Thread Cert.UpIdeal.nD Cert.UpIdeal.τ).loc Cert.UpIdeal.main_arg1)
      ∧ m' ((c.tc : Thread Cert.RefUpIdeal.nD Cert.RefUpIdeal.τ).loc Cert.RefUpIdeal.main_arg2) = m ((c.tc : Thread Cert.UpIdeal.nD Cert.UpIdeal.τ).loc Cert.UpIdeal.main_arg2)) →
    ∃ (v0 : (c : Dev Cert.UpIdeal.nD) → Buf (Elt Ideal) ((c.tc : Thread Cert.UpIdeal.nD Cert.UpIdeal.τ).loc Cert.UpIdeal.main_v1)),
      θ_run (Cert.UpIdeal.defs (F := Ideal)) (onTc (τ := Cert.UpIdeal.τ) (Cert.UpIdeal.main (F := Ideal))) ⟨m, fun _ => 0, g⟩ (fun r => ∀ c : Dev Cert.UpIdeal.nD,
          r.2.mem ((c.tc : Thread Cert.UpIdeal.nD Cert.UpIdeal.τ).loc Cert.UpIdeal.main_v1) = v0 c
          ∧ r.2.mem ((c.tc : Thread Cert.UpIdeal.nD Cert.UpIdeal.τ).loc Cert.UpIdeal.main_arg0) = m ((c.tc : Thread Cert.UpIdeal.nD Cert.UpIdeal.τ).loc Cert.UpIdeal.main_arg0)
          ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
          ∧ r.2.mem ((c.tc : Thread Cert.UpIdeal.nD Cert.UpIdeal.τ).loc Cert.UpIdeal.main_arg2) = m ((c.tc : Thread Cert.UpIdeal.nD Cert.UpIdeal.τ).loc Cert.UpIdeal.main_arg2))
      ∧ θ_run (Cert.RefUpIdeal.defs (F := Ideal)) (onTc (τ := Cert.RefUpIdeal.τ) (Cert.RefUpIdeal.main (F := Ideal))) ⟨m', fun _ => 0, g'⟩ (fun r => ∀ c : Dev Cert.RefUpIdeal.nD,
          r.2.mem ((c.tc : Thread Cert.RefUpIdeal.nD Cert.RefUpIdeal.τ).loc Cert.RefUpIdeal.main_v8) = v0 c
          ∧ r.2.mem ((c.tc : Thread Cert.RefUpIdeal.nD Cert.RefUpIdeal.τ).loc Cert.RefUpIdeal.main_arg0) = m' ((c.tc : Thread Cert.RefUpIdeal.nD Cert.RefUpIdeal.τ).loc Cert.RefUpIdeal.main_arg0)
          ∧ r.2.mem ((c.tc : Thread Cert.RefUpIdeal.nD Cert.RefUpIdeal.τ).loc Cert.RefUpIdeal.main_arg1) = m' ((c.tc : Thread Cert.RefUpIdeal.nD Cert.RefUpIdeal.τ).loc Cert.RefUpIdeal.main_arg1)
          ∧ r.2.mem ((c.tc : Thread Cert.RefUpIdeal.nD Cert.RefUpIdeal.τ).loc Cert.RefUpIdeal.main_arg2) = m' ((c.tc : Thread Cert.RefUpIdeal.nD Cert.RefUpIdeal.τ).loc Cert.RefUpIdeal.main_arg2))

def preserves_Down_DownIdeal : Prop :=
  True

def algebraic_DownIdeal_RefDownIdeal [hDownIdeal : Cert.DownIdeal.Facts] [hRefDownIdeal : Cert.RefDownIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.RefDownIdeal.nD Cert.RefDownIdeal.τ Cert.RefDownIdeal.sig) → Buf (Elt Ideal) ℓ) (g' : Dev Cert.RefDownIdeal.nD → PrngReg), Pre_DownIdeal m →
    (∀ c : Dev Cert.DownIdeal.nD,
      m' ((c.tc : Thread Cert.RefDownIdeal.nD Cert.RefDownIdeal.τ).loc Cert.RefDownIdeal.main_arg0) = m ((c.tc : Thread Cert.DownIdeal.nD Cert.DownIdeal.τ).loc Cert.DownIdeal.main_arg0)
      ∧ m' ((c.tc : Thread Cert.RefDownIdeal.nD Cert.RefDownIdeal.τ).loc Cert.RefDownIdeal.main_arg1) = m ((c.tc : Thread Cert.DownIdeal.nD Cert.DownIdeal.τ).loc Cert.DownIdeal.main_arg1)
      ∧ m' ((c.tc : Thread Cert.RefDownIdeal.nD Cert.RefDownIdeal.τ).loc Cert.RefDownIdeal.main_arg2) = m ((c.tc : Thread Cert.DownIdeal.nD Cert.DownIdeal.τ).loc Cert.DownIdeal.main_arg2)
      ∧ m' ((c.tc : Thread Cert.RefDownIdeal.nD Cert.RefDownIdeal.τ).loc Cert.RefDownIdeal.main_arg3) = m ((c.tc : Thread Cert.DownIdeal.nD Cert.DownIdeal.τ).loc Cert.DownIdeal.main_arg3)) →
    ∃ (v0 : (c : Dev Cert.DownIdeal.nD) → Buf (Elt Ideal) ((c.tc : Thread Cert.DownIdeal.nD Cert.DownIdeal.τ).loc Cert.DownIdeal.main_v1)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v1) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
          ∧ r.2.mem ((c.tc : Thread Cert.DownIdeal.nD Cert.DownIdeal.τ).loc Cert.DownIdeal.main_arg3) = m ((c.tc : Thread Cert.DownIdeal.nD Cert.DownIdeal.τ).loc Cert.DownIdeal.main_arg3))
      ∧ θ_run (Cert.RefDownIdeal.defs (F := Ideal)) (onTc (τ := Cert.RefDownIdeal.τ) (Cert.RefDownIdeal.main (F := Ideal))) ⟨m', fun _ => 0, g'⟩ (fun r => ∀ c : Dev Cert.RefDownIdeal.nD,
          r.2.mem ((c.tc : Thread Cert.RefDownIdeal.nD Cert.RefDownIdeal.τ).loc Cert.RefDownIdeal.main_v13) = v0 c
          ∧ r.2.mem ((c.tc : Thread Cert.RefDownIdeal.nD Cert.RefDownIdeal.τ).loc Cert.RefDownIdeal.main_arg0) = m' ((c.tc : Thread Cert.RefDownIdeal.nD Cert.RefDownIdeal.τ).loc Cert.RefDownIdeal.main_arg0)
          ∧ r.2.mem ((c.tc : Thread Cert.RefDownIdeal.nD Cert.RefDownIdeal.τ).loc Cert.RefDownIdeal.main_arg1) = m' ((c.tc : Thread Cert.RefDownIdeal.nD Cert.RefDownIdeal.τ).loc Cert.RefDownIdeal.main_arg1)
          ∧ r.2.mem ((c.tc : Thread Cert.RefDownIdeal.nD Cert.RefDownIdeal.τ).loc Cert.RefDownIdeal.main_arg2) = m' ((c.tc : Thread Cert.RefDownIdeal.nD Cert.RefDownIdeal.τ).loc Cert.RefDownIdeal.main_arg2)
          ∧ r.2.mem ((c.tc : Thread Cert.RefDownIdeal.nD Cert.RefDownIdeal.τ).loc Cert.RefDownIdeal.main_arg3) = m' ((c.tc : Thread Cert.RefDownIdeal.nD Cert.RefDownIdeal.τ).loc Cert.RefDownIdeal.main_arg3))

def preserves_Out_OutIdeal : Prop :=
  True

def algebraic_OutIdeal_RefOutIdeal [hOutIdeal : Cert.OutIdeal.Facts] [hRefOutIdeal : Cert.RefOutIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.RefOutIdeal.nD Cert.RefOutIdeal.τ Cert.RefOutIdeal.sig) → Buf (Elt Ideal) ℓ) (g' : Dev Cert.RefOutIdeal.nD → PrngReg), Pre_OutIdeal m →
    (∀ c : Dev Cert.OutIdeal.nD,
      m' ((c.tc : Thread Cert.RefOutIdeal.nD Cert.RefOutIdeal.τ).loc Cert.RefOutIdeal.main_arg0) = m ((c.tc : Thread Cert.OutIdeal.nD Cert.OutIdeal.τ).loc Cert.OutIdeal.main_arg0)
      ∧ m' ((c.tc : Thread Cert.RefOutIdeal.nD Cert.RefOutIdeal.τ).loc Cert.RefOutIdeal.main_arg1) = m ((c.tc : Thread Cert.OutIdeal.nD Cert.OutIdeal.τ).loc Cert.OutIdeal.main_arg1)
      ∧ m' ((c.tc : Thread Cert.RefOutIdeal.nD Cert.RefOutIdeal.τ).loc Cert.RefOutIdeal.main_arg2) = m ((c.tc : Thread Cert.OutIdeal.nD Cert.OutIdeal.τ).loc Cert.OutIdeal.main_arg2)
      ∧ m' ((c.tc : Thread Cert.RefOutIdeal.nD Cert.RefOutIdeal.τ).loc Cert.RefOutIdeal.main_arg3) = m ((c.tc : Thread Cert.OutIdeal.nD Cert.OutIdeal.τ).loc Cert.OutIdeal.main_arg3)) →
    ∃ (v0 : (c : Dev Cert.OutIdeal.nD) → Buf (Elt Ideal) ((c.tc : Thread Cert.OutIdeal.nD Cert.OutIdeal.τ).loc Cert.OutIdeal.main_v1)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v1) = v0 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
          ∧ r.2.mem ((c.tc : Thread Cert.OutIdeal.nD Cert.OutIdeal.τ).loc Cert.OutIdeal.main_arg3) = m ((c.tc : Thread Cert.OutIdeal.nD Cert.OutIdeal.τ).loc Cert.OutIdeal.main_arg3))
      ∧ θ_run (Cert.RefOutIdeal.defs (F := Ideal)) (onTc (τ := Cert.RefOutIdeal.τ) (Cert.RefOutIdeal.main (F := Ideal))) ⟨m', fun _ => 0, g'⟩ (fun r => ∀ c : Dev Cert.RefOutIdeal.nD,
          r.2.mem ((c.tc : Thread Cert.RefOutIdeal.nD Cert.RefOutIdeal.τ).loc Cert.RefOutIdeal.main_v13) = v0 c
          ∧ r.2.mem ((c.tc : Thread Cert.RefOutIdeal.nD Cert.RefOutIdeal.τ).loc Cert.RefOutIdeal.main_arg0) = m' ((c.tc : Thread Cert.RefOutIdeal.nD Cert.RefOutIdeal.τ).loc Cert.RefOutIdeal.main_arg0)
          ∧ r.2.mem ((c.tc : Thread Cert.RefOutIdeal.nD Cert.RefOutIdeal.τ).loc Cert.RefOutIdeal.main_arg1) = m' ((c.tc : Thread Cert.RefOutIdeal.nD Cert.RefOutIdeal.τ).loc Cert.RefOutIdeal.main_arg1)
          ∧ r.2.mem ((c.tc : Thread Cert.RefOutIdeal.nD Cert.RefOutIdeal.τ).loc Cert.RefOutIdeal.main_arg2) = m' ((c.tc : Thread Cert.RefOutIdeal.nD Cert.RefOutIdeal.τ).loc Cert.RefOutIdeal.main_arg2)
          ∧ r.2.mem ((c.tc : Thread Cert.RefOutIdeal.nD Cert.RefOutIdeal.τ).loc Cert.RefOutIdeal.main_arg3) = m' ((c.tc : Thread Cert.RefOutIdeal.nD Cert.RefOutIdeal.τ).loc Cert.RefOutIdeal.main_arg3))

def preserves_In_InIdeal : Prop :=
  True

def algebraic_InIdeal_RefInIdeal [hInIdeal : Cert.InIdeal.Facts] [hRefInIdeal : Cert.RefInIdeal.Facts] : Prop :=
  ∀ (m : (ℓ : Loc Cert.InIdeal.nD Cert.InIdeal.τ Cert.InIdeal.sig) → Buf (Elt Ideal) ℓ) (g : Dev Cert.InIdeal.nD → PrngReg)
    (m' : (ℓ : Loc Cert.RefInIdeal.nD Cert.RefInIdeal.τ Cert.RefInIdeal.sig) → Buf (Elt Ideal) ℓ) (g' : Dev Cert.RefInIdeal.nD → PrngReg), Pre_InIdeal m →
    (∀ c : Dev Cert.InIdeal.nD,
      m' ((c.tc : Thread Cert.RefInIdeal.nD Cert.RefInIdeal.τ).loc Cert.RefInIdeal.main_arg0) = m ((c.tc : Thread Cert.InIdeal.nD Cert.InIdeal.τ).loc Cert.InIdeal.main_arg0)
      ∧ m' ((c.tc : Thread Cert.RefInIdeal.nD Cert.RefInIdeal.τ).loc Cert.RefInIdeal.main_arg1) = m ((c.tc : Thread Cert.InIdeal.nD Cert.InIdeal.τ).loc Cert.InIdeal.main_arg1)) →
    ∃ (v0 : (c : Dev Cert.InIdeal.nD) → Buf (Elt Ideal) ((c.tc : Thread Cert.InIdeal.nD Cert.InIdeal.τ).loc Cert.InIdeal.main_v1)),
      θ_run (Cert.InIdeal.defs (F := Ideal)) (onTc (τ := Cert.InIdeal.τ) (Cert.InIdeal.main (F := Ideal))) ⟨m, fun _ => 0, g⟩ (fun r => ∀ c : Dev Cert.InIdeal.nD,
          r.2.mem ((c.tc : Thread Cert.InIdeal.nD Cert.InIdeal.τ).loc Cert.InIdeal.main_v1) = v0 c
          ∧ r.2.mem ((c.tc : Thread Cert.InIdeal.nD Cert.InIdeal.τ).loc Cert.InIdeal.main_arg0) = m ((c.tc : Thread Cert.InIdeal.nD Cert.InIdeal.τ).loc Cert.InIdeal.main_arg0)
          ∧ r.2.mem ((c.tc : Thread Cert.InIdeal.nD Cert.InIdeal.τ).loc Cert.InIdeal.main_arg1) = m ((c.tc : Thread Cert.InIdeal.nD Cert.InIdeal.τ).loc Cert.InIdeal.main_arg1))
      ∧ θ_run (Cert.RefInIdeal.defs (F := Ideal)) (onTc (τ := Cert.RefInIdeal.τ) (Cert.RefInIdeal.main (F := Ideal))) ⟨m', fun _ => 0, g'⟩ (fun r => ∀ c : Dev Cert.RefInIdeal.nD,
          r.2.mem ((c.tc : Thread Cert.RefInIdeal.nD Cert.RefInIdeal.τ).loc Cert.RefInIdeal.main_v2) = v0 c
          ∧ r.2.mem ((c.tc : Thread Cert.RefInIdeal.nD Cert.RefInIdeal.τ).loc Cert.RefInIdeal.main_arg0) = m' ((c.tc : Thread Cert.RefInIdeal.nD Cert.RefInIdeal.τ).loc Cert.RefInIdeal.main_arg0)
          ∧ r.2.mem ((c.tc : Thread Cert.RefInIdeal.nD Cert.RefInIdeal.τ).loc Cert.RefInIdeal.main_arg1) = m' ((c.tc : Thread Cert.RefInIdeal.nD Cert.RefInIdeal.τ).loc Cert.RefInIdeal.main_arg1))

def preserves_Gates_GatesIdeal : Prop :=
  True

def algebraic_GatesIdeal_RefGatesIdeal [hGatesIdeal : Cert.GatesIdeal.Facts] [hRefGatesIdeal : Cert.RefGatesIdeal.Facts] : Prop :=
  ∀ (m : (ℓ : Loc Cert.GatesIdeal.nD Cert.GatesIdeal.τ Cert.GatesIdeal.sig) → Buf (Elt Ideal) ℓ) (g : Dev Cert.GatesIdeal.nD → PrngReg)
    (m' : (ℓ : Loc Cert.RefGatesIdeal.nD Cert.RefGatesIdeal.τ Cert.RefGatesIdeal.sig) → Buf (Elt Ideal) ℓ) (g' : Dev Cert.RefGatesIdeal.nD → PrngReg), Pre_GatesIdeal m →
    (∀ c : Dev Cert.GatesIdeal.nD,
      m' ((c.tc : Thread Cert.RefGatesIdeal.nD Cert.RefGatesIdeal.τ).loc Cert.RefGatesIdeal.main_arg0) = m ((c.tc : Thread Cert.GatesIdeal.nD Cert.GatesIdeal.τ).loc Cert.GatesIdeal.main_arg0)
      ∧ m' ((c.tc : Thread Cert.RefGatesIdeal.nD Cert.RefGatesIdeal.τ).loc Cert.RefGatesIdeal.main_arg1) = m ((c.tc : Thread Cert.GatesIdeal.nD Cert.GatesIdeal.τ).loc Cert.GatesIdeal.main_arg1)) →
    ∃ (v0 : (c : Dev Cert.GatesIdeal.nD) → Buf (Elt Ideal) ((c.tc : Thread Cert.GatesIdeal.nD Cert.GatesIdeal.τ).loc Cert.GatesIdeal.main_v3)),
      θ_run (Cert.GatesIdeal.defs (F := Ideal)) (onTc (τ := Cert.GatesIdeal.τ) (Cert.GatesIdeal.main (F := Ideal))) ⟨m, fun _ => 0, g⟩ (fun r => ∀ c : Dev Cert.GatesIdeal.nD,
          r.2.mem ((c.tc : Thread Cert.GatesIdeal.nD Cert.GatesIdeal.τ).loc Cert.GatesIdeal.main_v3) = v0 c
          ∧ r.2.mem ((c.tc : Thread Cert.GatesIdeal.nD Cert.GatesIdeal.τ).loc Cert.GatesIdeal.main_arg0) = m ((c.tc : Thread Cert.GatesIdeal.nD Cert.GatesIdeal.τ).loc Cert.GatesIdeal.main_arg0)
          ∧ r.2.mem ((c.tc : Thread Cert.GatesIdeal.nD Cert.GatesIdeal.τ).loc Cert.GatesIdeal.main_arg1) = m ((c.tc : Thread Cert.GatesIdeal.nD Cert.GatesIdeal.τ).loc Cert.GatesIdeal.main_arg1))
      ∧ θ_run (Cert.RefGatesIdeal.defs (F := Ideal)) (onTc (τ := Cert.RefGatesIdeal.τ) (Cert.RefGatesIdeal.main (F := Ideal))) ⟨m', fun _ => 0, g'⟩ (fun r => ∀ c : Dev Cert.RefGatesIdeal.nD,
          r.2.mem ((c.tc : Thread Cert.RefGatesIdeal.nD Cert.RefGatesIdeal.τ).loc Cert.RefGatesIdeal.main_v2) = v0 c
          ∧ r.2.mem ((c.tc : Thread Cert.RefGatesIdeal.nD Cert.RefGatesIdeal.τ).loc Cert.RefGatesIdeal.main_arg0) = m' ((c.tc : Thread Cert.RefGatesIdeal.nD Cert.RefGatesIdeal.τ).loc Cert.RefGatesIdeal.main_arg0)
          ∧ r.2.mem ((c.tc : Thread Cert.RefGatesIdeal.nD Cert.RefGatesIdeal.τ).loc Cert.RefGatesIdeal.main_arg1) = m' ((c.tc : Thread Cert.RefGatesIdeal.nD Cert.RefGatesIdeal.τ).loc Cert.RefGatesIdeal.main_arg1))

def preserves_Merge_MergeIdeal : Prop :=
  True

def algebraic_MergeIdeal_RefMergeIdeal [hMergeIdeal : Cert.MergeIdeal.Facts] [hRefMergeIdeal : Cert.RefMergeIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.RefMergeIdeal.nD Cert.RefMergeIdeal.τ Cert.RefMergeIdeal.sig) → Buf (Elt Ideal) ℓ) (g' : Dev Cert.RefMergeIdeal.nD → PrngReg), Pre_MergeIdeal m →
    (∀ c : Dev Cert.MergeIdeal.nD,
      m' ((c.tc : Thread Cert.RefMergeIdeal.nD Cert.RefMergeIdeal.τ).loc Cert.RefMergeIdeal.main_arg0) = m ((c.tc : Thread Cert.MergeIdeal.nD Cert.MergeIdeal.τ).loc Cert.MergeIdeal.main_arg0)
      ∧ m' ((c.tc : Thread Cert.RefMergeIdeal.nD Cert.RefMergeIdeal.τ).loc Cert.RefMergeIdeal.main_arg1) = m ((c.tc : Thread Cert.MergeIdeal.nD Cert.MergeIdeal.τ).loc Cert.MergeIdeal.main_arg1)
      ∧ m' ((c.tc : Thread Cert.RefMergeIdeal.nD Cert.RefMergeIdeal.τ).loc Cert.RefMergeIdeal.main_arg2) = m ((c.tc : Thread Cert.MergeIdeal.nD Cert.MergeIdeal.τ).loc Cert.MergeIdeal.main_arg2)
      ∧ m' ((c.tc : Thread Cert.RefMergeIdeal.nD Cert.RefMergeIdeal.τ).loc Cert.RefMergeIdeal.main_arg3) = m ((c.tc : Thread Cert.MergeIdeal.nD Cert.MergeIdeal.τ).loc Cert.MergeIdeal.main_arg3)
      ∧ m' ((c.tc : Thread Cert.RefMergeIdeal.nD Cert.RefMergeIdeal.τ).loc Cert.RefMergeIdeal.main_arg4) = m ((c.tc : Thread Cert.MergeIdeal.nD Cert.MergeIdeal.τ).loc Cert.MergeIdeal.main_arg4)) →
    ∃ (v0 : (c : Dev Cert.MergeIdeal.nD) → Buf (Elt Ideal) ((c.tc : Thread Cert.MergeIdeal.nD Cert.MergeIdeal.τ).loc Cert.MergeIdeal.main_v2)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v2) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4))
      ∧ θ_run (Cert.RefMergeIdeal.defs (F := Ideal)) (onTc (τ := Cert.RefMergeIdeal.τ) (Cert.RefMergeIdeal.main (F := Ideal))) ⟨m', fun _ => 0, g'⟩ (fun r => ∀ c : Dev Cert.RefMergeIdeal.nD,
          r.2.mem ((c.tc : Thread Cert.RefMergeIdeal.nD Cert.RefMergeIdeal.τ).loc Cert.RefMergeIdeal.main_v23) = v0 c
          ∧ r.2.mem ((c.tc : Thread Cert.RefMergeIdeal.nD Cert.RefMergeIdeal.τ).loc Cert.RefMergeIdeal.main_arg0) = m' ((c.tc : Thread Cert.RefMergeIdeal.nD Cert.RefMergeIdeal.τ).loc Cert.RefMergeIdeal.main_arg0)
          ∧ r.2.mem ((c.tc : Thread Cert.RefMergeIdeal.nD Cert.RefMergeIdeal.τ).loc Cert.RefMergeIdeal.main_arg1) = m' ((c.tc : Thread Cert.RefMergeIdeal.nD Cert.RefMergeIdeal.τ).loc Cert.RefMergeIdeal.main_arg1)
          ∧ r.2.mem ((c.tc : Thread Cert.RefMergeIdeal.nD Cert.RefMergeIdeal.τ).loc Cert.RefMergeIdeal.main_arg2) = m' ((c.tc : Thread Cert.RefMergeIdeal.nD Cert.RefMergeIdeal.τ).loc Cert.RefMergeIdeal.main_arg2)
          ∧ r.2.mem ((c.tc : Thread Cert.RefMergeIdeal.nD Cert.RefMergeIdeal.τ).loc Cert.RefMergeIdeal.main_arg3) = m' ((c.tc : Thread Cert.RefMergeIdeal.nD Cert.RefMergeIdeal.τ).loc Cert.RefMergeIdeal.main_arg3)
          ∧ r.2.mem ((c.tc : Thread Cert.RefMergeIdeal.nD Cert.RefMergeIdeal.τ).loc Cert.RefMergeIdeal.main_arg4) = m' ((c.tc : Thread Cert.RefMergeIdeal.nD Cert.RefMergeIdeal.τ).loc Cert.RefMergeIdeal.main_arg4))

def preserves_MoeUp_MoeUpIdeal : Prop :=
  True

def algebraic_MoeUpIdeal_RefMoeUpIdeal [hMoeUpIdeal : Cert.MoeUpIdeal.Facts] [hRefMoeUpIdeal : Cert.RefMoeUpIdeal.Facts] [hPre_routed : Cert.Pre_routed.Facts] : Prop :=
  ∀ (m : (ℓ : Loc Cert.MoeUpIdeal.nD Cert.MoeUpIdeal.τ Cert.MoeUpIdeal.sig) → Buf (Elt Ideal) ℓ) (g : Dev Cert.MoeUpIdeal.nD → PrngReg)
    (m' : (ℓ : Loc Cert.RefMoeUpIdeal.nD Cert.RefMoeUpIdeal.τ Cert.RefMoeUpIdeal.sig) → Buf (Elt Ideal) ℓ) (g' : Dev Cert.RefMoeUpIdeal.nD → PrngReg), Pre_MoeUpIdeal m →
    (∀ c : Dev Cert.MoeUpIdeal.nD,
      m' ((c.tc : Thread Cert.RefMoeUpIdeal.nD Cert.RefMoeUpIdeal.τ).loc Cert.RefMoeUpIdeal.main_arg0) = m ((c.tc : Thread Cert.MoeUpIdeal.nD Cert.MoeUpIdeal.τ).loc Cert.MoeUpIdeal.main_arg0)
      ∧ m' ((c.tc : Thread Cert.RefMoeUpIdeal.nD Cert.RefMoeUpIdeal.τ).loc Cert.RefMoeUpIdeal.main_arg1) = m ((c.tc : Thread Cert.MoeUpIdeal.nD Cert.MoeUpIdeal.τ).loc Cert.MoeUpIdeal.main_arg1)
      ∧ m' ((c.tc : Thread Cert.RefMoeUpIdeal.nD Cert.RefMoeUpIdeal.τ).loc Cert.RefMoeUpIdeal.main_arg2) = m ((c.tc : Thread Cert.MoeUpIdeal.nD Cert.MoeUpIdeal.τ).loc Cert.MoeUpIdeal.main_arg2)
      ∧ m' ((c.tc : Thread Cert.RefMoeUpIdeal.nD Cert.RefMoeUpIdeal.τ).loc Cert.RefMoeUpIdeal.main_arg3) = m ((c.tc : Thread Cert.MoeUpIdeal.nD Cert.MoeUpIdeal.τ).loc Cert.MoeUpIdeal.main_arg3)
      ∧ m' ((c.tc : Thread Cert.RefMoeUpIdeal.nD Cert.RefMoeUpIdeal.τ).loc Cert.RefMoeUpIdeal.main_arg4) = m ((c.tc : Thread Cert.MoeUpIdeal.nD Cert.MoeUpIdeal.τ).loc Cert.MoeUpIdeal.main_arg4)) →
    ∃ (v0 : (c : Dev Cert.MoeUpIdeal.nD) → Buf (Elt Ideal) ((c.tc : Thread Cert.MoeUpIdeal.nD Cert.MoeUpIdeal.τ).loc Cert.MoeUpIdeal.main_v19)),
      θ_run (Cert.MoeUpIdeal.defs (F := Ideal)) (onTc (τ := Cert.MoeUpIdeal.τ) (Cert.MoeUpIdeal.main (F := Ideal))) ⟨m, fun _ => 0, g⟩ (fun r => ∀ c : Dev Cert.MoeUpIdeal.nD,
          r.2.mem ((c.tc : Thread Cert.MoeUpIdeal.nD Cert.MoeUpIdeal.τ).loc Cert.MoeUpIdeal.main_v19) = v0 c
          ∧ r.2.mem ((c.tc : Thread Cert.MoeUpIdeal.nD Cert.MoeUpIdeal.τ).loc Cert.MoeUpIdeal.main_arg0) = m ((c.tc : Thread Cert.MoeUpIdeal.nD Cert.MoeUpIdeal.τ).loc Cert.MoeUpIdeal.main_arg0)
          ∧ r.2.mem ((c.tc : Thread Cert.MoeUpIdeal.nD Cert.MoeUpIdeal.τ).loc Cert.MoeUpIdeal.main_arg1) = m ((c.tc : Thread Cert.MoeUpIdeal.nD Cert.MoeUpIdeal.τ).loc Cert.MoeUpIdeal.main_arg1)
          ∧ r.2.mem ((c.tc : Thread Cert.MoeUpIdeal.nD Cert.MoeUpIdeal.τ).loc Cert.MoeUpIdeal.main_arg2) = m ((c.tc : Thread Cert.MoeUpIdeal.nD Cert.MoeUpIdeal.τ).loc Cert.MoeUpIdeal.main_arg2)
          ∧ r.2.mem ((c.tc : Thread Cert.MoeUpIdeal.nD Cert.MoeUpIdeal.τ).loc Cert.MoeUpIdeal.main_arg3) = m ((c.tc : Thread Cert.MoeUpIdeal.nD Cert.MoeUpIdeal.τ).loc Cert.MoeUpIdeal.main_arg3)
          ∧ r.2.mem ((c.tc : Thread Cert.MoeUpIdeal.nD Cert.MoeUpIdeal.τ).loc Cert.MoeUpIdeal.main_arg4) = m ((c.tc : Thread Cert.MoeUpIdeal.nD Cert.MoeUpIdeal.τ).loc Cert.MoeUpIdeal.main_arg4))
      ∧ θ_run (Cert.RefMoeUpIdeal.defs (F := Ideal)) (onTc (τ := Cert.RefMoeUpIdeal.τ) (Cert.RefMoeUpIdeal.main (F := Ideal))) ⟨m', fun _ => 0, g'⟩ (fun r => ∀ c : Dev Cert.RefMoeUpIdeal.nD,
          r.2.mem ((c.tc : Thread Cert.RefMoeUpIdeal.nD Cert.RefMoeUpIdeal.τ).loc Cert.RefMoeUpIdeal.main_v100) = v0 c
          ∧ r.2.mem ((c.tc : Thread Cert.RefMoeUpIdeal.nD Cert.RefMoeUpIdeal.τ).loc Cert.RefMoeUpIdeal.main_arg0) = m' ((c.tc : Thread Cert.RefMoeUpIdeal.nD Cert.RefMoeUpIdeal.τ).loc Cert.RefMoeUpIdeal.main_arg0)
          ∧ r.2.mem ((c.tc : Thread Cert.RefMoeUpIdeal.nD Cert.RefMoeUpIdeal.τ).loc Cert.RefMoeUpIdeal.main_arg1) = m' ((c.tc : Thread Cert.RefMoeUpIdeal.nD Cert.RefMoeUpIdeal.τ).loc Cert.RefMoeUpIdeal.main_arg1)
          ∧ r.2.mem ((c.tc : Thread Cert.RefMoeUpIdeal.nD Cert.RefMoeUpIdeal.τ).loc Cert.RefMoeUpIdeal.main_arg2) = m' ((c.tc : Thread Cert.RefMoeUpIdeal.nD Cert.RefMoeUpIdeal.τ).loc Cert.RefMoeUpIdeal.main_arg2)
          ∧ r.2.mem ((c.tc : Thread Cert.RefMoeUpIdeal.nD Cert.RefMoeUpIdeal.τ).loc Cert.RefMoeUpIdeal.main_arg3) = m' ((c.tc : Thread Cert.RefMoeUpIdeal.nD Cert.RefMoeUpIdeal.τ).loc Cert.RefMoeUpIdeal.main_arg3)
          ∧ r.2.mem ((c.tc : Thread Cert.RefMoeUpIdeal.nD Cert.RefMoeUpIdeal.τ).loc Cert.RefMoeUpIdeal.main_arg4) = m' ((c.tc : Thread Cert.RefMoeUpIdeal.nD Cert.RefMoeUpIdeal.τ).loc Cert.RefMoeUpIdeal.main_arg4))

def preserves_MoeDown_MoeDownIdeal : Prop :=
  True

def algebraic_MoeDownIdeal_RefMoeDownIdeal [hMoeDownIdeal : Cert.MoeDownIdeal.Facts] [hRefMoeDownIdeal : Cert.RefMoeDownIdeal.Facts] [hPre_routed_down : Cert.Pre_routed_down.Facts] : Prop :=
  ∀ (m : (ℓ : Loc Cert.MoeDownIdeal.nD Cert.MoeDownIdeal.τ Cert.MoeDownIdeal.sig) → Buf (Elt Ideal) ℓ) (g : Dev Cert.MoeDownIdeal.nD → PrngReg)
    (m' : (ℓ : Loc Cert.RefMoeDownIdeal.nD Cert.RefMoeDownIdeal.τ Cert.RefMoeDownIdeal.sig) → Buf (Elt Ideal) ℓ) (g' : Dev Cert.RefMoeDownIdeal.nD → PrngReg), Pre_MoeDownIdeal m →
    (∀ c : Dev Cert.MoeDownIdeal.nD,
      m' ((c.tc : Thread Cert.RefMoeDownIdeal.nD Cert.RefMoeDownIdeal.τ).loc Cert.RefMoeDownIdeal.main_arg0) = m ((c.tc : Thread Cert.MoeDownIdeal.nD Cert.MoeDownIdeal.τ).loc Cert.MoeDownIdeal.main_arg0)
      ∧ m' ((c.tc : Thread Cert.RefMoeDownIdeal.nD Cert.RefMoeDownIdeal.τ).loc Cert.RefMoeDownIdeal.main_arg1) = m ((c.tc : Thread Cert.MoeDownIdeal.nD Cert.MoeDownIdeal.τ).loc Cert.MoeDownIdeal.main_arg1)
      ∧ m' ((c.tc : Thread Cert.RefMoeDownIdeal.nD Cert.RefMoeDownIdeal.τ).loc Cert.RefMoeDownIdeal.main_arg2) = m ((c.tc : Thread Cert.MoeDownIdeal.nD Cert.MoeDownIdeal.τ).loc Cert.MoeDownIdeal.main_arg2)
      ∧ m' ((c.tc : Thread Cert.RefMoeDownIdeal.nD Cert.RefMoeDownIdeal.τ).loc Cert.RefMoeDownIdeal.main_arg3) = m ((c.tc : Thread Cert.MoeDownIdeal.nD Cert.MoeDownIdeal.τ).loc Cert.MoeDownIdeal.main_arg3)
      ∧ m' ((c.tc : Thread Cert.RefMoeDownIdeal.nD Cert.RefMoeDownIdeal.τ).loc Cert.RefMoeDownIdeal.main_arg4) = m ((c.tc : Thread Cert.MoeDownIdeal.nD Cert.MoeDownIdeal.τ).loc Cert.MoeDownIdeal.main_arg4)) →
    ∃ (v0 : (c : Dev Cert.MoeDownIdeal.nD) → Buf (Elt Ideal) ((c.tc : Thread Cert.MoeDownIdeal.nD Cert.MoeDownIdeal.τ).loc Cert.MoeDownIdeal.main_v19)),
      θ_run (Cert.MoeDownIdeal.defs (F := Ideal)) (onTc (τ := Cert.MoeDownIdeal.τ) (Cert.MoeDownIdeal.main (F := Ideal))) ⟨m, fun _ => 0, g⟩ (fun r => ∀ c : Dev Cert.MoeDownIdeal.nD,
          r.2.mem ((c.tc : Thread Cert.MoeDownIdeal.nD Cert.MoeDownIdeal.τ).loc Cert.MoeDownIdeal.main_v19) = v0 c
          ∧ r.2.mem ((c.tc : Thread Cert.MoeDownIdeal.nD Cert.MoeDownIdeal.τ).loc Cert.MoeDownIdeal.main_arg0) = m ((c.tc : Thread Cert.MoeDownIdeal.nD Cert.MoeDownIdeal.τ).loc Cert.MoeDownIdeal.main_arg0)
          ∧ r.2.mem ((c.tc : Thread Cert.MoeDownIdeal.nD Cert.MoeDownIdeal.τ).loc Cert.MoeDownIdeal.main_arg1) = m ((c.tc : Thread Cert.MoeDownIdeal.nD Cert.MoeDownIdeal.τ).loc Cert.MoeDownIdeal.main_arg1)
          ∧ r.2.mem ((c.tc : Thread Cert.MoeDownIdeal.nD Cert.MoeDownIdeal.τ).loc Cert.MoeDownIdeal.main_arg2) = m ((c.tc : Thread Cert.MoeDownIdeal.nD Cert.MoeDownIdeal.τ).loc Cert.MoeDownIdeal.main_arg2)
          ∧ r.2.mem ((c.tc : Thread Cert.MoeDownIdeal.nD Cert.MoeDownIdeal.τ).loc Cert.MoeDownIdeal.main_arg3) = m ((c.tc : Thread Cert.MoeDownIdeal.nD Cert.MoeDownIdeal.τ).loc Cert.MoeDownIdeal.main_arg3)
          ∧ r.2.mem ((c.tc : Thread Cert.MoeDownIdeal.nD Cert.MoeDownIdeal.τ).loc Cert.MoeDownIdeal.main_arg4) = m ((c.tc : Thread Cert.MoeDownIdeal.nD Cert.MoeDownIdeal.τ).loc Cert.MoeDownIdeal.main_arg4))
      ∧ θ_run (Cert.RefMoeDownIdeal.defs (F := Ideal)) (onTc (τ := Cert.RefMoeDownIdeal.τ) (Cert.RefMoeDownIdeal.main (F := Ideal))) ⟨m', fun _ => 0, g'⟩ (fun r => ∀ c : Dev Cert.RefMoeDownIdeal.nD,
          r.2.mem ((c.tc : Thread Cert.RefMoeDownIdeal.nD Cert.RefMoeDownIdeal.τ).loc Cert.RefMoeDownIdeal.main_v75) = v0 c
          ∧ r.2.mem ((c.tc : Thread Cert.RefMoeDownIdeal.nD Cert.RefMoeDownIdeal.τ).loc Cert.RefMoeDownIdeal.main_arg0) = m' ((c.tc : Thread Cert.RefMoeDownIdeal.nD Cert.RefMoeDownIdeal.τ).loc Cert.RefMoeDownIdeal.main_arg0)
          ∧ r.2.mem ((c.tc : Thread Cert.RefMoeDownIdeal.nD Cert.RefMoeDownIdeal.τ).loc Cert.RefMoeDownIdeal.main_arg1) = m' ((c.tc : Thread Cert.RefMoeDownIdeal.nD Cert.RefMoeDownIdeal.τ).loc Cert.RefMoeDownIdeal.main_arg1)
          ∧ r.2.mem ((c.tc : Thread Cert.RefMoeDownIdeal.nD Cert.RefMoeDownIdeal.τ).loc Cert.RefMoeDownIdeal.main_arg2) = m' ((c.tc : Thread Cert.RefMoeDownIdeal.nD Cert.RefMoeDownIdeal.τ).loc Cert.RefMoeDownIdeal.main_arg2)
          ∧ r.2.mem ((c.tc : Thread Cert.RefMoeDownIdeal.nD Cert.RefMoeDownIdeal.τ).loc Cert.RefMoeDownIdeal.main_arg3) = m' ((c.tc : Thread Cert.RefMoeDownIdeal.nD Cert.RefMoeDownIdeal.τ).loc Cert.RefMoeDownIdeal.main_arg3)
          ∧ r.2.mem ((c.tc : Thread Cert.RefMoeDownIdeal.nD Cert.RefMoeDownIdeal.τ).loc Cert.RefMoeDownIdeal.main_arg4) = m' ((c.tc : Thread Cert.RefMoeDownIdeal.nD Cert.RefMoeDownIdeal.τ).loc Cert.RefMoeDownIdeal.main_arg4))

def Claim : Prop :=
  ∃ (hKernel : Cert.Kernel.Facts) (hKernelIdeal : Cert.KernelIdeal.Facts) (hReferenceIdeal : Cert.ReferenceIdeal.Facts) (hUp : Cert.Up.Facts) (hUpIdeal : Cert.UpIdeal.Facts) (hRefUpIdeal : Cert.RefUpIdeal.Facts) (hDown : Cert.Down.Facts) (hDownIdeal : Cert.DownIdeal.Facts) (hRefDownIdeal : Cert.RefDownIdeal.Facts) (hOut : Cert.Out.Facts) (hOutIdeal : Cert.OutIdeal.Facts) (hRefOutIdeal : Cert.RefOutIdeal.Facts) (hIn : Cert.In.Facts) (hInIdeal : Cert.InIdeal.Facts) (hRefInIdeal : Cert.RefInIdeal.Facts) (hGates : Cert.Gates.Facts) (hGatesIdeal : Cert.GatesIdeal.Facts) (hRefGatesIdeal : Cert.RefGatesIdeal.Facts) (hMerge : Cert.Merge.Facts) (hMergeIdeal : Cert.MergeIdeal.Facts) (hRefMergeIdeal : Cert.RefMergeIdeal.Facts) (hMoeUp : Cert.MoeUp.Facts) (hMoeUpIdeal : Cert.MoeUpIdeal.Facts) (hRefMoeUpIdeal : Cert.RefMoeUpIdeal.Facts) (hMoeDown : Cert.MoeDown.Facts) (hMoeDownIdeal : Cert.MoeDownIdeal.Facts) (hRefMoeDownIdeal : Cert.RefMoeDownIdeal.Facts) (hPre_finite : Cert.Pre_finite.Facts) (hPre_routed : Cert.Pre_routed.Facts) (hPre_routed_down : Cert.Pre_routed_down.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Up (hUp := hUp)
    ∧ quiescent_UpIdeal (hUpIdeal := hUpIdeal)
    ∧ quiescent_RefUpIdeal (hRefUpIdeal := hRefUpIdeal)
    ∧ quiescent_Down (hDown := hDown)
    ∧ quiescent_DownIdeal (hDownIdeal := hDownIdeal)
    ∧ quiescent_RefDownIdeal (hRefDownIdeal := hRefDownIdeal)
    ∧ quiescent_Out (hOut := hOut)
    ∧ quiescent_OutIdeal (hOutIdeal := hOutIdeal)
    ∧ quiescent_RefOutIdeal (hRefOutIdeal := hRefOutIdeal)
    ∧ quiescent_In (hIn := hIn)
    ∧ quiescent_InIdeal (hInIdeal := hInIdeal)
    ∧ quiescent_RefInIdeal (hRefInIdeal := hRefInIdeal)
    ∧ quiescent_Gates (hGates := hGates)
    ∧ quiescent_GatesIdeal (hGatesIdeal := hGatesIdeal)
    ∧ quiescent_RefGatesIdeal (hRefGatesIdeal := hRefGatesIdeal)
    ∧ quiescent_Merge (hMerge := hMerge)
    ∧ quiescent_MergeIdeal (hMergeIdeal := hMergeIdeal)
    ∧ quiescent_RefMergeIdeal (hRefMergeIdeal := hRefMergeIdeal)
    ∧ quiescent_MoeUp (hMoeUp := hMoeUp) (hPre_routed := hPre_routed)
    ∧ quiescent_MoeUpIdeal (hMoeUpIdeal := hMoeUpIdeal) (hPre_routed := hPre_routed)
    ∧ quiescent_RefMoeUpIdeal (hRefMoeUpIdeal := hRefMoeUpIdeal)
    ∧ quiescent_RefMoeUpIdeal_pre_routed (hRefMoeUpIdeal := hRefMoeUpIdeal) (hPre_routed := hPre_routed)
    ∧ quiescent_MoeDown (hMoeDown := hMoeDown) (hPre_routed_down := hPre_routed_down)
    ∧ quiescent_MoeDownIdeal (hMoeDownIdeal := hMoeDownIdeal) (hPre_routed_down := hPre_routed_down)
    ∧ quiescent_RefMoeDownIdeal (hRefMoeDownIdeal := hRefMoeDownIdeal)
    ∧ quiescent_RefMoeDownIdeal_pre_routed_down (hRefMoeDownIdeal := hRefMoeDownIdeal) (hPre_routed_down := hPre_routed_down)
    ∧ preserves_Kernel_KernelIdeal
    ∧ algebraic_KernelIdeal_ReferenceIdeal_pre_finite (hKernelIdeal := hKernelIdeal) (hReferenceIdeal := hReferenceIdeal) (hPre_finite := hPre_finite)
    ∧ preserves_Up_UpIdeal
    ∧ algebraic_UpIdeal_RefUpIdeal (hUpIdeal := hUpIdeal) (hRefUpIdeal := hRefUpIdeal)
    ∧ preserves_Down_DownIdeal
    ∧ algebraic_DownIdeal_RefDownIdeal (hDownIdeal := hDownIdeal) (hRefDownIdeal := hRefDownIdeal)
    ∧ preserves_Out_OutIdeal
    ∧ algebraic_OutIdeal_RefOutIdeal (hOutIdeal := hOutIdeal) (hRefOutIdeal := hRefOutIdeal)
    ∧ preserves_In_InIdeal
    ∧ algebraic_InIdeal_RefInIdeal (hInIdeal := hInIdeal) (hRefInIdeal := hRefInIdeal)
    ∧ preserves_Gates_GatesIdeal
    ∧ algebraic_GatesIdeal_RefGatesIdeal (hGatesIdeal := hGatesIdeal) (hRefGatesIdeal := hRefGatesIdeal)
    ∧ preserves_Merge_MergeIdeal
    ∧ algebraic_MergeIdeal_RefMergeIdeal (hMergeIdeal := hMergeIdeal) (hRefMergeIdeal := hRefMergeIdeal)
    ∧ preserves_MoeUp_MoeUpIdeal
    ∧ algebraic_MoeUpIdeal_RefMoeUpIdeal (hMoeUpIdeal := hMoeUpIdeal) (hRefMoeUpIdeal := hRefMoeUpIdeal) (hPre_routed := hPre_routed)
    ∧ preserves_MoeDown_MoeDownIdeal
    ∧ algebraic_MoeDownIdeal_RefMoeDownIdeal (hMoeDownIdeal := hMoeDownIdeal) (hRefMoeDownIdeal := hRefMoeDownIdeal) (hPre_routed_down := hPre_routed_down)
-- ==== Pre_finite.lean ====
abbrev S2x4352x16x64 : Shape := ⟨4, ![2, 4352, 16, 64]⟩
abbrev S2x2x4352x16x64 : Shape := ⟨5, ![2, 2, 4352, 16, 64]⟩
abbrev S_ : Shape := ⟨0, ![]⟩
abbrev S1x2x4352x16x64 : Shape := ⟨5, ![1, 2, 4352, 16, 64]⟩

class Facts : Prop where
  bcast_S_S2x4352x16x64 : S_.BroadcastsInDim S2x4352x16x64 (![] : Fin 0 → Fin S2x4352x16x64.rank)
  bcast_S2x4352x16x64_S1x2x4352x16x64_1_2_3_4 : S2x4352x16x64.BroadcastsInDim S1x2x4352x16x64 (![1, 2, 3, 4] : Fin 4 → Fin S1x2x4352x16x64.rank)
  bcast_S_S2x2x4352x16x64 : S_.BroadcastsInDim S2x2x4352x16x64 (![] : Fin 0 → Fin S2x2x4352x16x64.rank)
  bcast_S1x2x4352x16x64_S2x2x4352x16x64_0_1_2_3_4 : S1x2x4352x16x64.BroadcastsInDim S2x2x4352x16x64 (![0, 1, 2, 3, 4] : Fin 5 → Fin S2x2x4352x16x64.rank)

variable [Facts]

def fn_part1 {F : FTy → Type} [FloatOps F] (main_arg5 : FVec F S2x2x4352x16x64 .f32) (main_v16 : IVec S2x2x4352x16x64 1) (main_v17 : FVec F S2x2x4352x16x64 .f32) (main_v18 : FVec F S2x2x4352x16x64 .f32) : IVec S2x2x4352x16x64 1 :=
  let main_v19 : IVec S2x2x4352x16x64 1 := cmpf .olt main_v17 main_v18
  let main_v20 : IVec S2x2x4352x16x64 1 := andi main_v16 main_v19
  let main_v21 : FVec F S2x2x4352x16x64 .f32 := Host.absf main_arg5
  let main_cst_4 : FVec F S_ .f32 := constant S_ .f32 0x7F800000#32
  let main_v22 : FVec F S2x2x4352x16x64 .f32 := broadcastInDim S2x2x4352x16x64 ![] bcast_S_S2x2x4352x16x64 main_cst_4
  let main_v23 : IVec S2x2x4352x16x64 1 := cmpf .olt main_v21 main_v22
  let main_v24 : IVec S2x2x4352x16x64 1 := andi main_v20 main_v23
  main_v24

def fn {F : FTy → Type} [FloatOps F] (main_arg0 : FVec F S2x4352x16x64 .f32) (main_arg1 : FVec F S2x4352x16x64 .f32) (main_arg2 : FVec F S2x4352x16x64 .f32) (main_arg3 : FVec F S2x2x4352x16x64 .f32) (main_arg4 : FVec F S2x2x4352x16x64 .f32) (main_arg5 : FVec F S2x2x4352x16x64 .f32) : IVec S2x2x4352x16x64 1 :=
  let main_v0 : FVec F S2x4352x16x64 .f32 := Host.absf main_arg0
  let main_cst : FVec F S_ .f32 := constant S_ .f32 0x7F800000#32
  let main_v1 : FVec F S2x4352x16x64 .f32 := broadcastInDim S2x4352x16x64 ![] bcast_S_S2x4352x16x64 main_cst
  let main_v2 : IVec S2x4352x16x64 1 := cmpf .olt main_v0 main_v1
  let main_v3 : FVec F S2x4352x16x64 .f32 := Host.absf main_arg1
  let main_cst_0 : FVec F S_ .f32 := constant S_ .f32 0x7F800000#32
  let main_v4 : FVec F S2x4352x16x64 .f32 := broadcastInDim S2x4352x16x64 ![] bcast_S_S2x4352x16x64 main_cst_0
  let main_v5 : IVec S2x4352x16x64 1 := cmpf .olt main_v3 main_v4
  let main_v6 : IVec S2x4352x16x64 1 := andi main_v2 main_v5
  let main_v7 : FVec F S2x4352x16x64 .f32 := Host.absf main_arg2
  let main_cst_1 : FVec F S_ .f32 := constant S_ .f32 0x7F800000#32
  let main_v8 : FVec F S2x4352x16x64 .f32 := broadcastInDim S2x4352x16x64 ![] bcast_S_S2x4352x16x64 main_cst_1
  let main_v9 : IVec S2x4352x16x64 1 := cmpf .olt main_v7 main_v8
  let main_v10 : IVec S2x4352x16x64 1 := andi main_v6 main_v9
  let main_v11 : IVec S1x2x4352x16x64 1 := broadcastInDim S1x2x4352x16x64 ![1, 2, 3, 4] bcast_S2x4352x16x64_S1x2x4352x16x64_1_2_3_4 main_v10
  let main_v12 : FVec F S2x2x4352x16x64 .f32 := Host.absf main_arg3
  let main_cst_2 : FVec F S_ .f32 := constant S_ .f32 0x7F800000#32
  let main_v13 : FVec F S2x2x4352x16x64 .f32 := broadcastInDim S2x2x4352x16x64 ![] bcast_S_S2x2x4352x16x64 main_cst_2
  let main_v14 : IVec S2x2x4352x16x64 1 := cmpf .olt main_v12 main_v13
  let main_v15 : IVec S2x2x4352x16x64 1 := broadcastInDim S2x2x4352x16x64 ![0, 1, 2, 3, 4] bcast_S1x2x4352x16x64_S2x2x4352x16x64_0_1_2_3_4 main_v11
  let main_v16 : IVec S2x2x4352x16x64 1 := andi main_v15 main_v14
  let main_v17 : FVec F S2x2x4352x16x64 .f32 := Host.absf main_arg4
  let main_cst_3 : FVec F S_ .f32 := constant S_ .f32 0x7F800000#32
  let main_v18 : FVec F S2x2x4352x16x64 .f32 := broadcastInDim S2x2x4352x16x64 ![] bcast_S_S2x2x4352x16x64 main_cst_3
  fn_part1 (F := F) main_arg5 main_v16 main_v17 main_v18
-- ==== Pre_routed.lean ====
abbrev S25600x2048 : Shape := ⟨2, ![25600, 2048]⟩
abbrev S2x8x2048x2816 : Shape := ⟨4, ![2, 8, 2048, 2816]⟩
abbrev S25 : Shape := ⟨1, ![25]⟩
abbrev S1 : Shape := ⟨1, ![1]⟩
abbrev S_ : Shape := ⟨0, ![]⟩

class Facts : Prop where
  bcast_S_S25 : S_.BroadcastsInDim S25 (![] : Fin 0 → Fin S25.rank)
  bcast_S_S1 : S_.BroadcastsInDim S1 (![] : Fin 0 → Fin S1.rank)
  bcast_S1_S25_0 : S1.BroadcastsInDim S25 (![0] : Fin 1 → Fin S25.rank)

variable [Facts]

def fn {F : FTy → Type} [FloatOps F] (main_arg0 : FVec F S25600x2048 .f32) (main_arg1 : FVec F S2x8x2048x2816 .f32) (main_arg2 : FVec F S2x8x2048x2816 .f32) (main_arg3 : IVec S25 32) (main_arg4 : IVec S1 32) : IVec S25 1 :=
  let main_c : IVec S_ 32 := constantI S_ 32 0#32
  let main_v0 : IVec S25 32 := broadcastInDim S25 ![] bcast_S_S25 main_c
  let main_v1 : IVec S25 1 := cmpi .sge main_arg3 main_v0
  let main_c_0 : IVec S_ 32 := constantI S_ 32 8#32
  let main_v2 : IVec S25 32 := broadcastInDim S25 ![] bcast_S_S25 main_c_0
  let main_v3 : IVec S25 1 := cmpi .slt main_arg3 main_v2
  let main_v4 : IVec S25 1 := andi main_v1 main_v3
  let main_c_1 : IVec S_ 32 := constantI S_ 32 1#32
  let main_v5 : IVec S1 32 := broadcastInDim S1 ![] bcast_S_S1 main_c_1
  let main_v6 : IVec S1 1 := cmpi .sge main_arg4 main_v5
  let main_c_2 : IVec S_ 32 := constantI S_ 32 25#32
  let main_v7 : IVec S1 32 := broadcastInDim S1 ![] bcast_S_S1 main_c_2
  let main_v8 : IVec S1 1 := cmpi .sle main_arg4 main_v7
  let main_v9 : IVec S1 1 := andi main_v6 main_v8
  let main_v10 : IVec S25 1 := broadcastInDim S25 ![0] bcast_S1_S25_0 main_v9
  let main_v11 : IVec S25 1 := andi main_v4 main_v10
  main_v11
-- ==== Pre_routed_down.lean ====
abbrev S25600x2816 : Shape := ⟨2, ![25600, 2816]⟩
abbrev S2x8x2816x2048 : Shape := ⟨4, ![2, 8, 2816, 2048]⟩
abbrev S25600x1 : Shape := ⟨2, ![25600, 1]⟩
abbrev S25 : Shape := ⟨1, ![25]⟩
abbrev S1 : Shape := ⟨1, ![1]⟩
abbrev S_ : Shape := ⟨0, ![]⟩

class Facts : Prop where
  bcast_S_S25 : S_.BroadcastsInDim S25 (![] : Fin 0 → Fin S25.rank)
  bcast_S_S1 : S_.BroadcastsInDim S1 (![] : Fin 0 → Fin S1.rank)
  bcast_S1_S25_0 : S1.BroadcastsInDim S25 (![0] : Fin 1 → Fin S25.rank)

variable [Facts]

def fn {F : FTy → Type} [FloatOps F] (main_arg0 : FVec F S25600x2816 .f32) (main_arg1 : FVec F S2x8x2816x2048 .f32) (main_arg2 : FVec F S25600x1 .f32) (main_arg3 : IVec S25 32) (main_arg4 : IVec S1 32) : IVec S25 1 :=
  let main_c : IVec S_ 32 := constantI S_ 32 0#32
  let main_v0 : IVec S25 32 := broadcastInDim S25 ![] bcast_S_S25 main_c
  let main_v1 : IVec S25 1 := cmpi .sge main_arg3 main_v0
  let main_c_0 : IVec S_ 32 := constantI S_ 32 8#32
  let main_v2 : IVec S25 32 := broadcastInDim S25 ![] bcast_S_S25 main_c_0
  let main_v3 : IVec S25 1 := cmpi .slt main_arg3 main_v2
  let main_v4 : IVec S25 1 := andi main_v1 main_v3
  let main_c_1 : IVec S_ 32 := constantI S_ 32 1#32
  let main_v5 : IVec S1 32 := broadcastInDim S1 ![] bcast_S_S1 main_c_1
  let main_v6 : IVec S1 1 := cmpi .sge main_arg4 main_v5
  let main_c_2 : IVec S_ 32 := constantI S_ 32 25#32
  let main_v7 : IVec S1 32 := broadcastInDim S1 ![] bcast_S_S1 main_c_2
  let main_v8 : IVec S1 1 := cmpi .sle main_arg4 main_v7
  let main_v9 : IVec S1 1 := andi main_v6 main_v8
  let main_v10 : IVec S25 1 := broadcastInDim S25 ![0] bcast_S1_S25_0 main_v9
  let main_v11 : IVec S25 1 := andi main_v4 main_v10
  main_v11
-- ==== Kernel.lean ====
abbrev S2x4352x16x64 : Shape := ⟨4, ![2, 4352, 16, 64]⟩
abbrev S2x2x4352x16x64 : Shape := ⟨5, ![2, 2, 4352, 16, 64]⟩
abbrev S136x64x1024 : Shape := ⟨3, ![136, 64, 1024]⟩
abbrev S2x136x64x1024 : Shape := ⟨4, ![2, 136, 64, 1024]⟩
abbrev S1x136x64x1024 : Shape := ⟨4, ![1, 136, 64, 1024]⟩
abbrev S_ : Shape := ⟨0, ![]⟩
abbrev S1x136x1x1024 : Shape := ⟨4, ![1, 136, 1, 1024]⟩
abbrev S136x1024 : Shape := ⟨2, ![136, 1024]⟩
abbrev S1x136x1024 : Shape := ⟨3, ![1, 136, 1024]⟩
abbrev S2x136x1024 : Shape := ⟨3, ![2, 136, 1024]⟩
abbrev S2x136x1x1024 : Shape := ⟨4, ![2, 136, 1, 1024]⟩
abbrev S2x8704x1024 : Shape := ⟨3, ![2, 8704, 1024]⟩
abbrev S8704x1024 : Shape := ⟨2, ![8704, 1024]⟩
abbrev S1x64x1024 : Shape := ⟨3, ![1, 64, 1024]⟩
abbrev S64x1024 : Shape := ⟨2, ![64, 1024]⟩
abbrev S1x1x1x1024 : Shape := ⟨4, ![1, 1, 1, 1024]⟩
abbrev S2x8x128x128 : Shape := ⟨4, ![2, 8, 128, 128]⟩
abbrev S128x128 : Shape := ⟨2, ![128, 128]⟩
abbrev S64x128 : Shape := ⟨2, ![64, 128]⟩
abbrev S1x64x128 : Shape := ⟨3, ![1, 64, 128]⟩
abbrev S1x1x128x128 : Shape := ⟨4, ![1, 1, 128, 128]⟩
abbrev S256x128 : Shape := ⟨2, ![256, 128]⟩
abbrev S128x256 : Shape := ⟨2, ![128, 256]⟩
abbrev S64x256 : Shape := ⟨2, ![64, 256]⟩
abbrev S1x1x1x128 : Shape := ⟨4, ![1, 1, 1, 128]⟩
abbrev S1x128 : Shape := ⟨2, ![1, 128]⟩

abbrev nBuf : Space → Nat
  | .hbm => 87
  | .vmem => 37
  | .smem => 0
  | _ => 0

abbrev bufTy : (tb : Table) → Fin (tcTables nBuf tb) → BufTy
  | .hbm, ⟨0, _⟩ => ⟨S2x4352x16x64, .f32⟩
  | .hbm, ⟨1, _⟩ => ⟨S2x4352x16x64, .f32⟩
  | .hbm, ⟨2, _⟩ => ⟨S2x4352x16x64, .f32⟩
  | .hbm, ⟨3, _⟩ => ⟨S2x2x4352x16x64, .f32⟩
  | .hbm, ⟨4, _⟩ => ⟨S2x2x4352x16x64, .f32⟩
  | .hbm, ⟨5, _⟩ => ⟨S2x2x4352x16x64, .f32⟩
  | .hbm, ⟨6, _⟩ => ⟨S136x64x1024, .f32⟩
  | .hbm, ⟨7, _⟩ => ⟨S136x64x1024, .f32⟩
  | .hbm, ⟨8, _⟩ => ⟨S136x64x1024, .f32⟩
  | .hbm, ⟨9, _⟩ => ⟨S2x136x64x1024, .f32⟩
  | .hbm, ⟨10, _⟩ => ⟨S2x136x64x1024, .f32⟩
  | .hbm, ⟨11, _⟩ => ⟨S2x136x64x1024, .f32⟩
  | .hbm, ⟨12, _⟩ => ⟨S1x136x64x1024, .f32⟩
  | .hbm, ⟨13, _⟩ => ⟨S2x136x64x1024, .f32⟩
  | .hbm, ⟨14, _⟩ => ⟨S2x136x64x1024, .f32⟩
  | .hbm, ⟨15, _⟩ => ⟨S1x136x64x1024, .f32⟩
  | .hbm, ⟨16, _⟩ => ⟨S136x64x1024, .f32⟩
  | .hbm, ⟨17, _⟩ => ⟨S_, .f32⟩
  | .hbm, ⟨18, _⟩ => ⟨S_, .f32⟩
  | .hbm, ⟨19, _⟩ => ⟨S136x64x1024, .f32⟩
  | .hbm, ⟨20, _⟩ => ⟨S1x136x64x1024, .f32⟩
  | .hbm, ⟨21, _⟩ => ⟨S136x64x1024, .f32⟩
  | .hbm, ⟨22, _⟩ => ⟨S_, .f32⟩
  | .hbm, ⟨23, _⟩ => ⟨S_, .f32⟩
  | .hbm, ⟨24, _⟩ => ⟨S136x64x1024, .f32⟩
  | .hbm, ⟨25, _⟩ => ⟨S1x136x64x1024, .f32⟩
  | .hbm, ⟨26, _⟩ => ⟨S1x136x64x1024, .f32⟩
  | .hbm, ⟨27, _⟩ => ⟨S2x136x64x1024, .f32⟩
  | .hbm, ⟨28, _⟩ => ⟨S1x136x1x1024, .f32⟩
  | .hbm, ⟨29, _⟩ => ⟨S136x1024, .f32⟩
  | .hbm, ⟨30, _⟩ => ⟨S1x136x1x1024, .f32⟩
  | .hbm, ⟨31, _⟩ => ⟨S136x1024, .f32⟩
  | .hbm, ⟨32, _⟩ => ⟨S1x136x1024, .f32⟩
  | .hbm, ⟨33, _⟩ => ⟨S1x136x1024, .f32⟩
  | .hbm, ⟨34, _⟩ => ⟨S2x136x1024, .f32⟩
  | .hbm, ⟨35, _⟩ => ⟨S2x136x1x1024, .f32⟩
  | .hbm, ⟨36, _⟩ => ⟨S2x136x64x1024, .f32⟩
  | .hbm, ⟨37, _⟩ => ⟨S2x136x64x1024, .f32⟩
  | .hbm, ⟨38, _⟩ => ⟨S_, .f32⟩
  | .hbm, ⟨39, _⟩ => ⟨S2x136x64x1024, .f32⟩
  | .hbm, ⟨40, _⟩ => ⟨S2x136x64x1024, .f32⟩
  | .hbm, ⟨41, _⟩ => ⟨S2x136x64x1024, .f32⟩
  | .hbm, ⟨42, _⟩ => ⟨S2x136x64x1024, .f32⟩
  | .hbm, ⟨43, _⟩ => ⟨S_, .f32⟩
  | .hbm, ⟨44, _⟩ => ⟨S2x136x64x1024, .f32⟩
  | .hbm, ⟨45, _⟩ => ⟨S2x136x64x1024, .f32⟩
  | .hbm, ⟨46, _⟩ => ⟨S2x136x64x1024, .f32⟩
  | .hbm, ⟨47, _⟩ => ⟨S_, .f32⟩
  | .hbm, ⟨48, _⟩ => ⟨S2x136x64x1024, .f32⟩
  | .hbm, ⟨49, _⟩ => ⟨S2x136x64x1024, .f32⟩
  | .hbm, ⟨50, _⟩ => ⟨S2x136x64x1024, .f32⟩
  | .hbm, ⟨51, _⟩ => ⟨S136x64x1024, .f32⟩
  | .hbm, ⟨52, _⟩ => ⟨S2x136x64x1024, .f32⟩
  | .hbm, ⟨53, _⟩ => ⟨S_, .f32⟩
  | .hbm, ⟨54, _⟩ => ⟨S2x136x64x1024, .f32⟩
  | .hbm, ⟨55, _⟩ => ⟨S2x136x64x1024, .f32⟩
  | .hbm, ⟨56, _⟩ => ⟨S2x136x64x1024, .f32⟩
  | .hbm, ⟨57, _⟩ => ⟨S1x136x64x1024, .f32⟩
  | .hbm, ⟨58, _⟩ => ⟨S2x136x64x1024, .f32⟩
  | .hbm, ⟨59, _⟩ => ⟨S2x136x64x1024, .f32⟩
  | .hbm, ⟨60, _⟩ => ⟨S2x136x64x1024, .bf16⟩
  | .hbm, ⟨61, _⟩ => ⟨S2x8704x1024, .bf16⟩
  | .hbm, ⟨62, _⟩ => ⟨S1x136x64x1024, .f32⟩
  | .hbm, ⟨63, _⟩ => ⟨S2x136x64x1024, .f32⟩
  | .hbm, ⟨64, _⟩ => ⟨S2x136x64x1024, .f32⟩
  | .hbm, ⟨65, _⟩ => ⟨S2x136x64x1024, .bf16⟩
  | .hbm, ⟨66, _⟩ => ⟨S2x8704x1024, .bf16⟩
  | .hbm, ⟨67, _⟩ => ⟨S2x136x64x1024, .f32⟩
  | .hbm, ⟨68, _⟩ => ⟨S2x136x64x1024, .bf16⟩
  | .hbm, ⟨69, _⟩ => ⟨S2x8704x1024, .bf16⟩
  | .hbm, ⟨70, _⟩ => ⟨S2x136x64x1024, .f32⟩
  | .hbm, ⟨71, _⟩ => ⟨S2x136x64x1024, .bf16⟩
  | .hbm, ⟨72, _⟩ => ⟨S2x8704x1024, .bf16⟩
  | .hbm, ⟨73, _⟩ => ⟨S2x136x64x1024, .f32⟩
  | .hbm, ⟨74, _⟩ => ⟨S2x136x64x1024, .bf16⟩
  | .hbm, ⟨75, _⟩ => ⟨S2x8704x1024, .bf16⟩
  | .hbm, ⟨76, _⟩ => ⟨S2x136x64x1024, .f32⟩
  | .hbm, ⟨77, _⟩ => ⟨S2x136x64x1024, .bf16⟩
  | .hbm, ⟨78, _⟩ => ⟨S2x8704x1024, .bf16⟩
  | .hbm, ⟨79, _⟩ => ⟨S_, .f32⟩
  | .hbm, ⟨80, _⟩ => ⟨S2x136x1x1024, .f32⟩
  | .hbm, ⟨81, _⟩ => ⟨S2x136x1x1024, .f32⟩
  | .hbm, ⟨82, _⟩ => ⟨S2x136x1x1024, .f32⟩
  | .hbm, ⟨83, _⟩ => ⟨S136x64x1024, .bf16⟩
  | .hbm, ⟨84, _⟩ => ⟨S8704x1024, .bf16⟩
  | .hbm, ⟨85, _⟩ => ⟨S8704x1024, .f32⟩
  | .hbm, ⟨86, _⟩ => ⟨S8704x1024, .f32⟩
  | .local _ .vmem, ⟨0, _⟩ => ⟨S1x64x1024, .bf16⟩
  | .local _ .vmem, ⟨1, _⟩ => ⟨S1x64x1024, .bf16⟩
  | .local _ .vmem, ⟨2, _⟩ => ⟨S1x64x1024, .bf16⟩
  | .local _ .vmem, ⟨3, _⟩ => ⟨S1x64x1024, .bf16⟩
  | .local _ .vmem, ⟨4, _⟩ => ⟨S1x64x1024, .bf16⟩
  | .local _ .vmem, ⟨5, _⟩ => ⟨S1x64x1024, .bf16⟩
  | .local _ .vmem, ⟨6, _⟩ => ⟨S1x64x1024, .bf16⟩
  | .local _ .vmem, ⟨7, _⟩ => ⟨S1x64x1024, .bf16⟩
  | .local _ .vmem, ⟨8, _⟩ => ⟨S1x64x1024, .bf16⟩
  | .local _ .vmem, ⟨9, _⟩ => ⟨S1x64x1024, .bf16⟩
  | .local _ .vmem, ⟨10, _⟩ => ⟨S1x64x1024, .bf16⟩
  | .local _ .vmem, ⟨11, _⟩ => ⟨S1x64x1024, .bf16⟩
  | .local _ .vmem, ⟨12, _⟩ => ⟨S64x1024, .bf16⟩
  | .local _ .vmem, ⟨13, _⟩ => ⟨S64x1024, .bf16⟩
  | .local _ .vmem, ⟨14, _⟩ => ⟨S1x1x1x1024, .f32⟩
  | .local _ .vmem, ⟨15, _⟩ => ⟨S1x1x1x1024, .f32⟩
  | .local _ .vmem, ⟨16, _⟩ => ⟨S1x64x1024, .bf16⟩
  | .local _ .vmem, ⟨17, _⟩ => ⟨S1x64x1024, .bf16⟩
  | .local _ .vmem, ⟨18, _⟩ => ⟨S1x64x1024, .bf16⟩
  | .local _ .vmem, ⟨19, _⟩ => ⟨S1x64x1024, .bf16⟩
  | .local _ .vmem, ⟨20, _⟩ => ⟨S1x64x1024, .bf16⟩
  | .local _ .vmem, ⟨21, _⟩ => ⟨S1x64x1024, .bf16⟩
  | .local _ .vmem, ⟨22, _⟩ => ⟨S1x64x1024, .bf16⟩
  | .local _ .vmem, ⟨23, _⟩ => ⟨S1x64x1024, .bf16⟩
  | .local _ .vmem, ⟨24, _⟩ => ⟨S1x64x1024, .bf16⟩
  | .local _ .vmem, ⟨25, _⟩ => ⟨S1x64x1024, .bf16⟩
  | .local _ .vmem, ⟨26, _⟩ => ⟨S1x64x1024, .bf16⟩
  | .local _ .vmem, ⟨27, _⟩ => ⟨S1x64x1024, .bf16⟩
  | .local _ .vmem, ⟨28, _⟩ => ⟨S64x1024, .bf16⟩
  | .local _ .vmem, ⟨29, _⟩ => ⟨S64x1024, .bf16⟩
  | .local _ .vmem, ⟨30, _⟩ => ⟨S1x1x1x1024, .f32⟩
  | .local _ .vmem, ⟨31, _⟩ => ⟨S1x1x1x1024, .f32⟩
  | .local _ .vmem, ⟨32, _⟩ => ⟨S64x1024, .f32⟩
  | .local _ .vmem, ⟨33, _⟩ => ⟨S64x1024, .f32⟩
  | .local _ .vmem, ⟨34, _⟩ => ⟨S64x1024, .f32⟩
  | .local _ .vmem, ⟨35, _⟩ => ⟨S64x1024, .f32⟩
  | .local _ .vmem, ⟨36, _⟩ => ⟨S2x8x128x128, .f32⟩
  | _, _ => ⟨S2x4352x16x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_call0_cst : Ref sig .tc := ⟨.hbm, 17, rfl⟩
abbrev main_call0_v0 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_call1_cst : Ref sig .tc := ⟨.hbm, 22, rfl⟩
abbrev main_call1_v0 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_cst_0 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_cst_1 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_cst_2 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_cst_3 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70_0 : Ref sig .tc := ⟨.hbm, 85, rfl⟩
abbrev main_v70_1 : Ref sig .tc := ⟨.hbm, 86, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_stg16_0 : Ref sig .tc := ⟨.vmem, 32, rfl⟩
abbrev cc0_stg16_1 : Ref sig .tc := ⟨.vmem, 33, rfl⟩
abbrev cc0_stg17_0 : Ref sig .tc := ⟨.vmem, 34, rfl⟩
abbrev cc0_stg17_1 : Ref sig .tc := ⟨.vmem, 35, rfl⟩
abbrev cc0_scratch0 : Ref sig .tc := ⟨.vmem, 36, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31
abbrev cc0_sem16_0 : DmaSem sig := 32
abbrev cc0_sem16_1 : DmaSem sig := 33
abbrev cc0_sem17_0 : DmaSem sig := 34
abbrev cc0_sem17_1 : DmaSem sig := 35

abbrev nD : Nat := 1
abbrev τ : Topo := Topo.v7x

variable {F : FTy → Type} [FloatOps F]

abbrev grid0 : Pipeline.Grid := ⟨2, ![2, 68], ![false, false]⟩

def cc0_transform_0 (i : grid0.Coords) : Fin 3 → Nat :=
  let arg0 : BitVec 32 := BitVec.ofNat 32 (i 0).val
  let arg1 : BitVec 32 := BitVec.ofNat 32 (i 1).val
  let c68_i32 : BitVec 32 := 68#32
  let v0 : BitVec 32 := Scalar.muli arg0 c68_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c68_i32 : BitVec 32 := 68#32
  let v0 : BitVec 32 := Scalar.muli arg0 c68_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_2 (i : grid0.Coords) : Fin 3 → Nat :=
  let arg0 : BitVec 32 := BitVec.ofNat 32 (i 0).val
  let arg1 : BitVec 32 := BitVec.ofNat 32 (i 1).val
  let c68_i32 : BitVec 32 := 68#32
  let v0 : BitVec 32 := Scalar.muli arg0 c68_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_3 (i : grid0.Coords) : Fin 3 → Nat :=
  let arg0 : BitVec 32 := BitVec.ofNat 32 (i 0).val
  let arg1 : BitVec 32 := BitVec.ofNat 32 (i 1).val
  let c68_i32 : BitVec 32 := 68#32
  let v0 : BitVec 32 := Scalar.muli arg0 c68_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_4 (i : grid0.Coords) : Fin 3 → Nat :=
  let arg0 : BitVec 32 := BitVec.ofNat 32 (i 0).val
  let arg1 : BitVec 32 := BitVec.ofNat 32 (i 1).val
  let c68_i32 : BitVec 32 := 68#32
  let v0 : BitVec 32 := Scalar.muli arg0 c68_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_5 (i : grid0.Coords) : Fin 3 → Nat :=
  let arg0 : BitVec 32 := BitVec.ofNat 32 (i 0).val
  let arg1 : BitVec 32 := BitVec.ofNat 32 (i 1).val
  let c68_i32 : BitVec 32 := 68#32
  let v0 : BitVec 32 := Scalar.muli arg0 c68_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_6 (i : grid0.Coords) : Fin 2 → Nat :=
  let arg0 : BitVec 32 := BitVec.ofNat 32 (i 0).val
  let arg1 : BitVec 32 := BitVec.ofNat 32 (i 1).val
  let c68_i32 : BitVec 32 := 68#32
  let v0 : BitVec 32 := Scalar.muli arg0 c68_i32
  let v1 : BitVec 32 := Scalar.addi v0 arg1
  let c0_i32 : BitVec 32 := 0#32
  let c0_i32_0 : BitVec 32 := 0#32
  ![v1.toNat, c0_i32.toNat]

def cc0_transform_7 (i : grid0.Coords) : Fin 4 → Nat :=
  let arg0 : BitVec 32 := BitVec.ofNat 32 (i 0).val
  let arg1 : BitVec 32 := BitVec.ofNat 32 (i 1).val
  let c68_i32 : BitVec 32 := 68#32
  let v0 : BitVec 32 := Scalar.muli arg0 c68_i32
  let v1 : BitVec 32 := Scalar.addi v0 arg1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_8 (i : grid0.Coords) : Fin 3 → Nat :=
  let arg0 : BitVec 32 := BitVec.ofNat 32 (i 0).val
  let arg1 : BitVec 32 := BitVec.ofNat 32 (i 1).val
  let c68_i32 : BitVec 32 := 68#32
  let v0 : BitVec 32 := Scalar.muli arg0 c68_i32
  let c4_i32 : BitVec 32 := 4#32
  let v1 : BitVec 1 := Scalar.cmpi .slt arg1 c4_i32
  let c3_i32 : BitVec 32 := 3#32
  let v2 : BitVec 32 := Scalar.subi c3_i32 arg1
  let c4_i32_0 : BitVec 32 := 4#32
  let v3 : BitVec 32 := Scalar.subi arg1 c4_i32_0
  let c67_i32 : BitVec 32 := 67#32
  let v4 : BitVec 32 := Scalar.subi c67_i32 v3
  let v5 : BitVec 32 := Scalar.select v1 v2 v4
  let v6 : BitVec 32 := Scalar.addi v0 v5
  let c1_i32 : BitVec 32 := 1#32
  let c0_i32 : BitVec 32 := 0#32
  let c0_i32_1 : BitVec 32 := 0#32
  ![c1_i32.toNat, v6.toNat, c0_i32.toNat]

def cc0_transform_9 (i : grid0.Coords) : Fin 3 → Nat :=
  let arg0 : BitVec 32 := BitVec.ofNat 32 (i 0).val
  let arg1 : BitVec 32 := BitVec.ofNat 32 (i 1).val
  let c68_i32 : BitVec 32 := 68#32
  let v0 : BitVec 32 := Scalar.muli arg0 c68_i32
  let c4_i32 : BitVec 32 := 4#32
  let v1 : BitVec 1 := Scalar.cmpi .slt arg1 c4_i32
  let c3_i32 : BitVec 32 := 3#32
  let v2 : BitVec 32 := Scalar.subi c3_i32 arg1
  let c4_i32_0 : BitVec 32 := 4#32
  let v3 : BitVec 32 := Scalar.subi arg1 c4_i32_0
  let c67_i32 : BitVec 32 := 67#32
  let v4 : BitVec 32 := Scalar.subi c67_i32 v3
  let v5 : BitVec 32 := Scalar.select v1 v2 v4
  let v6 : BitVec 32 := Scalar.addi v0 v5
  let c1_i32 : BitVec 32 := 1#32
  let c0_i32 : BitVec 32 := 0#32
  let c0_i32_1 : BitVec 32 := 0#32
  ![c1_i32.toNat, v6.toNat, c0_i32.toNat]

def cc0_transform_10 (i : grid0.Coords) : Fin 3 → Nat :=
  let arg0 : BitVec 32 := BitVec.ofNat 32 (i 0).val
  let arg1 : BitVec 32 := BitVec.ofNat 32 (i 1).val
  let c68_i32 : BitVec 32 := 68#32
  let v0 : BitVec 32 := Scalar.muli arg0 c68_i32
  let c4_i32 : BitVec 32 := 4#32
  let v1 : BitVec 1 := Scalar.cmpi .slt arg1 c4_i32
  let c3_i32 : BitVec 32 := 3#32
  let v2 : BitVec 32 := Scalar.subi c3_i32 arg1
  let c4_i32_0 : BitVec 32 := 4#32
  let v3 : BitVec 32 := Scalar.subi arg1 c4_i32_0
  let c67_i32 : BitVec 32 := 67#32
  let v4 : BitVec 32 := Scalar.subi c67_i32 v3
  let v5 : BitVec 32 := Scalar.select v1 v2 v4
  let v6 : BitVec 32 := Scalar.addi v0 v5
  let c1_i32 : BitVec 32 := 1#32
  let c0_i32 : BitVec 32 := 0#32
  let c0_i32_1 : BitVec 32 := 0#32
  ![c1_i32.toNat, v6.toNat, c0_i32.toNat]

def cc0_transform_11 (i : grid0.Coords) : Fin 3 → Nat :=
  let arg0 : BitVec 32 := BitVec.ofNat 32 (i 0).val
  let arg1 : BitVec 32 := BitVec.ofNat 32 (i 1).val
  let c68_i32 : BitVec 32 := 68#32
  let v0 : BitVec 32 := Scalar.muli arg0 c68_i32
  let c4_i32 : BitVec 32 := 4#32
  let v1 : BitVec 1 := Scalar.cmpi .slt arg1 c4_i32
  let c3_i32 : BitVec 32 := 3#32
  let v2 : BitVec 32 := Scalar.subi c3_i32 arg1
  let c4_i32_0 : BitVec 32 := 4#32
  let v3 : BitVec 32 := Scalar.subi arg1 c4_i32_0
  let c67_i32 : BitVec 32 := 67#32
  let v4 : BitVec 32 := Scalar.subi c67_i32 v3
  let v5 : BitVec 32 := Scalar.select v1 v2 v4
  let v6 : BitVec 32 := Scalar.addi v0 v5
  let c1_i32 : BitVec 32 := 1#32
  let c0_i32 : BitVec 32 := 0#32
  let c0_i32_1 : BitVec 32 := 0#32
  ![c1_i32.toNat, v6.toNat, c0_i32.toNat]

def cc0_transform_12 (i : grid0.Coords) : Fin 3 → Nat :=
  let arg0 : BitVec 32 := BitVec.ofNat 32 (i 0).val
  let arg1 : BitVec 32 := BitVec.ofNat 32 (i 1).val
  let c68_i32 : BitVec 32 := 68#32
  let v0 : BitVec 32 := Scalar.muli arg0 c68_i32
  let c4_i32 : BitVec 32 := 4#32
  let v1 : BitVec 1 := Scalar.cmpi .slt arg1 c4_i32
  let c3_i32 : BitVec 32 := 3#32
  let v2 : BitVec 32 := Scalar.subi c3_i32 arg1
  let c4_i32_0 : BitVec 32 := 4#32
  let v3 : BitVec 32 := Scalar.subi arg1 c4_i32_0
  let c67_i32 : BitVec 32 := 67#32
  let v4 : BitVec 32 := Scalar.subi c67_i32 v3
  let v5 : BitVec 32 := Scalar.select v1 v2 v4
  let v6 : BitVec 32 := Scalar.addi v0 v5
  let c1_i32 : BitVec 32 := 1#32
  let c0_i32 : BitVec 32 := 0#32
  let c0_i32_1 : BitVec 32 := 0#32
  ![c1_i32.toNat, v6.toNat, c0_i32.toNat]

def cc0_transform_13 (i : grid0.Coords) : Fin 3 → Nat :=
  let arg0 : BitVec 32 := BitVec.ofNat 32 (i 0).val
  let arg1 : BitVec 32 := BitVec.ofNat 32 (i 1).val
  let c68_i32 : BitVec 32 := 68#32
  let v0 : BitVec 32 := Scalar.muli arg0 c68_i32
  let c4_i32 : BitVec 32 := 4#32
  let v1 : BitVec 1 := Scalar.cmpi .slt arg1 c4_i32
  let c3_i32 : BitVec 32 := 3#32
  let v2 : BitVec 32 := Scalar.subi c3_i32 arg1
  let c4_i32_0 : BitVec 32 := 4#32
  let v3 : BitVec 32 := Scalar.subi arg1 c4_i32_0
  let c67_i32 : BitVec 32 := 67#32
  let v4 : BitVec 32 := Scalar.subi c67_i32 v3
  let v5 : BitVec 32 := Scalar.select v1 v2 v4
  let v6 : BitVec 32 := Scalar.addi v0 v5
  let c1_i32 : BitVec 32 := 1#32
  let c0_i32 : BitVec 32 := 0#32
  let c0_i32_1 : BitVec 32 := 0#32
  ![c1_i32.toNat, v6.toNat, c0_i32.toNat]

def cc0_transform_14 (i : grid0.Coords) : Fin 2 → Nat :=
  let arg0 : BitVec 32 := BitVec.ofNat 32 (i 0).val
  let arg1 : BitVec 32 := BitVec.ofNat 32 (i 1).val
  let c68_i32 : BitVec 32 := 68#32
  let v0 : BitVec 32 := Scalar.muli arg0 c68_i32
  let c4_i32 : BitVec 32 := 4#32
  let v1 : BitVec 1 := Scalar.cmpi .slt arg1 c4_i32
  let c3_i32 : BitVec 32 := 3#32
  let v2 : BitVec 32 := Scalar.subi c3_i32 arg1
  let c4_i32_0 : BitVec 32 := 4#32
  let v3 : BitVec 32 := Scalar.subi arg1 c4_i32_0
  let c67_i32 : BitVec 32 := 67#32
  let v4 : BitVec 32 := Scalar.subi c67_i32 v3
  let v5 : BitVec 32 := Scalar.select v1 v2 v4
  let v6 : BitVec 32 := Scalar.addi v0 v5
  let c0_i32 : BitVec 32 := 0#32
  let c0_i32_1 : BitVec 32 := 0#32
  ![v6.toNat, c0_i32.toNat]

def cc0_transform_15 (i : grid0.Coords) : Fin 4 → Nat :=
  let arg0 : BitVec 32 := BitVec.ofNat 32 (i 0).val
  let arg1 : BitVec 32 := BitVec.ofNat 32 (i 1).val
  let c68_i32 : BitVec 32 := 68#32
  let v0 : BitVec 32 := Scalar.muli arg0 c68_i32
  let c4_i32 : BitVec 32 := 4#32
  let v1 : BitVec 1 := Scalar.cmpi .slt arg1 c4_i32
  let c3_i32 : BitVec 32 := 3#32
  let v2 : BitVec 32 := Scalar.subi c3_i32 arg1
  let c4_i32_0 : BitVec 32 := 4#32
  let v3 : BitVec 32 := Scalar.subi arg1 c4_i32_0
  let c67_i32 : BitVec 32 := 67#32
  let v4 : BitVec 32 := Scalar.subi c67_i32 v3
  let v5 : BitVec 32 := Scalar.select v1 v2 v4
  let v6 : BitVec 32 := Scalar.addi v0 v5
  let c1_i32 : BitVec 32 := 1#32
  let c0_i32 : BitVec 32 := 0#32
  let c0_i32_1 : BitVec 32 := 0#32
  let c0_i32_2 : BitVec 32 := 0#32
  ![c1_i32.toNat, v6.toNat, c0_i32.toNat, c0_i32_1.toNat]

def cc0_transform_16 (i : grid0.Coords) : Fin 2 → Nat :=
  let arg0 : BitVec 32 := BitVec.ofNat 32 (i 0).val
  let arg1 : BitVec 32 := BitVec.ofNat 32 (i 1).val
  let c68_i32 : BitVec 32 := 68#32
  let v0 : BitVec 32 := Scalar.muli arg0 c68_i32
  let v1 : BitVec 32 := Scalar.addi v0 arg1
  let c0_i32 : BitVec 32 := 0#32
  let c0_i32_0 : BitVec 32 := 0#32
  ![v1.toNat, c0_i32.toNat]

def cc0_transform_17 (i : grid0.Coords) : Fin 2 → Nat :=
  let arg0 : BitVec 32 := BitVec.ofNat 32 (i 0).val
  let arg1 : BitVec 32 := BitVec.ofNat 32 (i 1).val
  let c68_i32 : BitVec 32 := 68#32
  let v0 : BitVec 32 := Scalar.muli arg0 c68_i32
  let c4_i32 : BitVec 32 := 4#32
  let v1 : BitVec 1 := Scalar.cmpi .slt arg1 c4_i32
  let c3_i32 : BitVec 32 := 3#32
  let v2 : BitVec 32 := Scalar.subi c3_i32 arg1
  let c4_i32_0 : BitVec 32 := 4#32
  let v3 : BitVec 32 := Scalar.subi arg1 c4_i32_0
  let c67_i32 : BitVec 32 := 67#32
  let v4 : BitVec 32 := Scalar.subi c67_i32 v3
  let v5 : BitVec 32 := Scalar.select v1 v2 v4
  let v6 : BitVec 32 := Scalar.addi v0 v5
  let c0_i32 : BitVec 32 := 0#32
  let c0_i32_1 : BitVec 32 := 0#32
  ![v6.toNat, c0_i32.toNat]

abbrev stage0_0 : Fin 2 → Memref sig .tc .vmem S1x64x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x64x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x64x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x64x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x64x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x64x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S64x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1x1x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x64x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x64x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x64x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x64x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x64x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x64x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S64x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x1x1x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S64x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S64x1024 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]
-- ==== ReferenceIdeal.lean ====
abbrev S2x4352x16x64 : Shape := ⟨4, ![2, 4352, 16, 64]⟩
abbrev S2x2x4352x16x64 : Shape := ⟨5, ![2, 2, 4352, 16, 64]⟩
abbrev S_ : Shape := ⟨0, ![]⟩
abbrev S4x16x64x64 : Shape := ⟨4, ![4, 16, 64, 64]⟩
abbrev S2x256x16x64 : Shape := ⟨4, ![2, 256, 16, 64]⟩
abbrev S2x4096x16x64 : Shape := ⟨4, ![2, 4096, 16, 64]⟩
abbrev S4x4352x16x64 : Shape := ⟨4, ![4, 4352, 16, 64]⟩
abbrev S1x2x4352x16x64 : Shape := ⟨5, ![1, 2, 4352, 16, 64]⟩
abbrev S4352x4x16x64 : Shape := ⟨4, ![4352, 4, 16, 64]⟩
abbrev S1x4x16x64 : Shape := ⟨4, ![1, 4, 16, 64]⟩
abbrev S4x16x64 : Shape := ⟨3, ![4, 16, 64]⟩
abbrev S4x16x1x64 : Shape := ⟨4, ![4, 16, 1, 64]⟩
abbrev S4x16x64x1 : Shape := ⟨4, ![4, 16, 64, 1]⟩
abbrev S8704x1024 : Shape := ⟨2, ![8704, 1024]⟩

abbrev nBuf : Space → Nat
  | .hbm => 152
  | .vmem => 0
  | .smem => 0
  | _ => 0

abbrev hbmTy0_0 (i : Nat) : BufTy := match i % 128 with
  | 0 => ⟨S2x4352x16x64, .f32⟩
  | 1 => ⟨S2x4352x16x64, .f32⟩
  | 2 => ⟨S2x4352x16x64, .f32⟩
  | 3 => ⟨S2x2x4352x16x64, .f32⟩
  | 4 => ⟨S2x2x4352x16x64, .f32⟩
  | 5 => ⟨S2x2x4352x16x64, .f32⟩
  | 6 => ⟨S_, .f32⟩
  | 7 => ⟨S4x16x64x64, .f32⟩
  | 8 => ⟨S2x256x16x64, .f32⟩
  | 9 => ⟨S2x256x16x64, .f32⟩
  | 10 => ⟨S2x4096x16x64, .f32⟩
  | 11 => ⟨S2x4096x16x64, .f32⟩
  | 12 => ⟨S2x4352x16x64, .f32⟩
  | 13 => ⟨S4x4352x16x64, .f32⟩
  | 14 => ⟨S1x2x4352x16x64, .f32⟩
  | 15 => ⟨S2x4352x16x64, .f32⟩
  | 16 => ⟨S_, .f32⟩
  | 17 => ⟨S2x4352x16x64, .f32⟩
  | 18 => ⟨S2x4352x16x64, .f32⟩
  | 19 => ⟨S2x4352x16x64, .f32⟩
  | 20 => ⟨S1x2x4352x16x64, .f32⟩
  | 21 => ⟨S2x4352x16x64, .f32⟩
  | 22 => ⟨S_, .f32⟩
  | 23 => ⟨S2x4352x16x64, .f32⟩
  | 24 => ⟨S2x4352x16x64, .f32⟩
  | 25 => ⟨S2x4352x16x64, .f32⟩
  | 26 => ⟨S2x256x16x64, .f32⟩
  | 27 => ⟨S2x256x16x64, .f32⟩
  | 28 => ⟨S2x4096x16x64, .f32⟩
  | 29 => ⟨S2x4096x16x64, .f32⟩
  | 30 => ⟨S2x4352x16x64, .f32⟩
  | 31 => ⟨S4x4352x16x64, .f32⟩
  | 32 => ⟨S1x2x4352x16x64, .f32⟩
  | 33 => ⟨S2x4352x16x64, .f32⟩
  | 34 => ⟨S1x2x4352x16x64, .f32⟩
  | 35 => ⟨S2x4352x16x64, .f32⟩
  | 36 => ⟨S2x256x16x64, .f32⟩
  | 37 => ⟨S2x256x16x64, .f32⟩
  | 38 => ⟨S2x4096x16x64, .f32⟩
  | 39 => ⟨S2x4096x16x64, .f32⟩
  | 40 => ⟨S2x4352x16x64, .f32⟩
  | 41 => ⟨S4x4352x16x64, .f32⟩
  | 42 => ⟨S2x256x16x64, .f32⟩
  | 43 => ⟨S2x256x16x64, .f32⟩
  | 44 => ⟨S2x4096x16x64, .f32⟩
  | 45 => ⟨S2x4096x16x64, .f32⟩
  | 46 => ⟨S2x4352x16x64, .f32⟩
  | 47 => ⟨S4x4352x16x64, .f32⟩
  | 48 => ⟨S2x4352x16x64, .f32⟩
  | 49 => ⟨S2x4352x16x64, .f32⟩
  | 50 => ⟨S2x256x16x64, .f32⟩
  | 51 => ⟨S2x256x16x64, .f32⟩
  | 52 => ⟨S2x4096x16x64, .f32⟩
  | 53 => ⟨S2x4096x16x64, .f32⟩
  | 54 => ⟨S2x4352x16x64, .f32⟩
  | 55 => ⟨S4x4352x16x64, .f32⟩
  | 56 => ⟨S1x2x4352x16x64, .f32⟩
  | 57 => ⟨S2x4352x16x64, .f32⟩
  | 58 => ⟨S2x4352x16x64, .f32⟩
  | 59 => ⟨S1x2x4352x16x64, .f32⟩
  | 60 => ⟨S2x4352x16x64, .f32⟩
  | 61 => ⟨S2x4352x16x64, .f32⟩
  | 62 => ⟨S2x256x16x64, .f32⟩
  | 63 => ⟨S2x256x16x64, .f32⟩
  | 64 => ⟨S2x4096x16x64, .f32⟩
  | 65 => ⟨S2x4096x16x64, .f32⟩
  | 66 => ⟨S2x4352x16x64, .f32⟩
  | 67 => ⟨S4x4352x16x64, .f32⟩
  | 68 => ⟨S4352x4x16x64, .f32⟩
  | 69 => ⟨S4352x4x16x64, .f32⟩
  | 70 => ⟨S4352x4x16x64, .f32⟩
  | 71 => ⟨S4352x4x16x64, .f32⟩
  | 72 => ⟨S4352x4x16x64, .f32⟩
  | 73 => ⟨S4352x4x16x64, .f32⟩
  | 74 => ⟨S_, .f32⟩
  | 75 => ⟨S4352x4x16x64, .f32⟩
  | 76 => ⟨S_, .i32⟩
  | 77 => ⟨S4352x4x16x64, .f32⟩
  | 78 => ⟨S4352x4x16x64, .f32⟩
  | 79 => ⟨S4352x4x16x64, .f32⟩
  | 80 => ⟨S4352x4x16x64, .f32⟩
  | 81 => ⟨S4352x4x16x64, .f32⟩
  | 82 => ⟨S4352x4x16x64, .f32⟩
  | 83 => ⟨S_, .i32⟩
  | 84 => ⟨S4x16x64x64, .f32⟩
  | 85 => ⟨S4352x4x16x64, .f32⟩
  | 86 => ⟨S_, .i32⟩
  | 87 => ⟨S_, .i1⟩
  | 88 => ⟨S_, .i32⟩
  | 89 => ⟨S_, .i32⟩
  | 90 => ⟨S_, .i32⟩
  | 91 => ⟨S1x4x16x64, .f32⟩
  | 92 => ⟨S4x16x64, .f32⟩
  | 93 => ⟨S_, .i32⟩
  | 94 => ⟨S_, .i32⟩
  | 95 => ⟨S_, .i32⟩
  | 96 => ⟨S1x4x16x64, .f32⟩
  | 97 => ⟨S4x16x64, .f32⟩
  | 98 => ⟨S_, .i32⟩
  | 99 => ⟨S_, .i32⟩
  | 100 => ⟨S_, .i32⟩
  | 101 => ⟨S1x4x16x64, .f32⟩
  | 102 => ⟨S4x16x64, .f32⟩
  | 103 => ⟨S_, .i32⟩
  | 104 => ⟨S_, .i32⟩
  | 105 => ⟨S_, .i32⟩
  | 106 => ⟨S1x4x16x64, .f32⟩
  | 107 => ⟨S4x16x64, .f32⟩
  | 108 => ⟨S_, .i32⟩
  | 109 => ⟨S_, .i32⟩
  | 110 => ⟨S_, .i32⟩
  | 111 => ⟨S1x4x16x64, .f32⟩
  | 112 => ⟨S4x16x64, .f32⟩
  | 113 => ⟨S_, .i32⟩
  | 114 => ⟨S_, .i32⟩
  | 115 => ⟨S_, .i32⟩
  | 116 => ⟨S1x4x16x64, .f32⟩
  | 117 => ⟨S4x16x64, .f32⟩
  | 118 => ⟨S4x16x64, .f32⟩
  | 119 => ⟨S4x16x1x64, .f32⟩
  | 120 => ⟨S4x16x64x64, .f32⟩
  | 121 => ⟨S4x16x64x64, .f32⟩
  | 122 => ⟨S4x16x64x1, .f32⟩
  | 123 => ⟨S4x16x1x64, .f32⟩
  | 124 => ⟨S4x16x64x64, .f32⟩
  | 125 => ⟨S4x16x64x64, .f32⟩
  | 126 => ⟨S4x16x64x64, .f32⟩
  | 127 => ⟨S4x16x64x64, .f32⟩
  | _ => ⟨S2x4352x16x64, .f32⟩

abbrev hbmTy0_1 (i : Nat) : BufTy := match i % 128 with
  | 0 => ⟨S4x16x64x1, .f32⟩
  | 1 => ⟨S4x16x1x64, .f32⟩
  | 2 => ⟨S4x16x64x64, .f32⟩
  | 3 => ⟨S4x16x64x64, .f32⟩
  | 4 => ⟨S4x16x64x64, .f32⟩
  | 5 => ⟨S4x16x64x64, .f32⟩
  | 6 => ⟨S4x16x64, .f32⟩
  | 7 => ⟨S1x4x16x64, .f32⟩
  | 8 => ⟨S_, .i32⟩
  | 9 => ⟨S_, .i32⟩
  | 10 => ⟨S_, .i32⟩
  | 11 => ⟨S4352x4x16x64, .f32⟩
  | 12 => ⟨S_, .i32⟩
  | 13 => ⟨S_, .i32⟩
  | 14 => ⟨S4x4352x16x64, .f32⟩
  | 15 => ⟨S2x4352x16x64, .f32⟩
  | 16 => ⟨S8704x1024, .f32⟩
  | 17 => ⟨S2x4352x16x64, .f32⟩
  | 18 => ⟨S2x256x16x64, .f32⟩
  | 19 => ⟨S2x256x16x64, .f32⟩
  | 20 => ⟨S2x4096x16x64, .f32⟩
  | 21 => ⟨S2x4096x16x64, .f32⟩
  | 22 => ⟨S2x4352x16x64, .f32⟩
  | 23 => ⟨S8704x1024, .f32⟩
  | _ => ⟨S2x4352x16x64, .f32⟩

abbrev hbmTy (i : Nat) : BufTy := match i / 128 with
  | 0 => hbmTy0_0 i
  | 1 => hbmTy0_1 i
  | _ => ⟨S2x4352x16x64, .f32⟩

abbrev bufTy : (tb : Table) → Fin (tcTables nBuf tb) → BufTy
  | .hbm, ⟨i, _⟩ => hbmTy i
  | _, _ => ⟨S2x4352x16x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_1 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_v57 : Ref sig .tc := ⟨.hbm, 66, rfl⟩
abbrev main_v58 : Ref sig .tc := ⟨.hbm, 67, rfl⟩
abbrev main_v59 : Ref sig .tc := ⟨.hbm, 68, rfl⟩
abbrev main_v60 : Ref sig .tc := ⟨.hbm, 69, rfl⟩
abbrev main_v61 : Ref sig .tc := ⟨.hbm, 70, rfl⟩
abbrev main_v62 : Ref sig .tc := ⟨.hbm, 71, rfl⟩
abbrev main_v63 : Ref sig .tc := ⟨.hbm, 72, rfl⟩
abbrev main_v64 : Ref sig .tc := ⟨.hbm, 73, rfl⟩
abbrev main_cst_2 : Ref sig .tc := ⟨.hbm, 74, rfl⟩
abbrev main_v65 : Ref sig .tc := ⟨.hbm, 75, rfl⟩
abbrev main_c : Ref sig .tc := ⟨.hbm, 76, rfl⟩
abbrev main_v66_0 : Ref sig .tc := ⟨.hbm, 77, rfl⟩
abbrev main_v66_1 : Ref sig .tc := ⟨.hbm, 78, rfl⟩
abbrev main_v66_2 : Ref sig .tc := ⟨.hbm, 79, rfl⟩
abbrev main_v66_3 : Ref sig .tc := ⟨.hbm, 80, rfl⟩
abbrev main_v66_4 : Ref sig .tc := ⟨.hbm, 81, rfl⟩
abbrev main_v66_5 : Ref sig .tc := ⟨.hbm, 82, rfl⟩
abbrev main_v66_6 : Ref sig .tc := ⟨.hbm, 83, rfl⟩
abbrev main_v66_7 : Ref sig .tc := ⟨.hbm, 84, rfl⟩
abbrev main_v66_8 : Ref sig .tc := ⟨.hbm, 85, rfl⟩
abbrev main_while0c_c_11 : Ref sig .tc := ⟨.hbm, 86, rfl⟩
abbrev main_while0c_v77 : Ref sig .tc := ⟨.hbm, 87, rfl⟩
abbrev main_while0b_call12_c : Ref sig .tc := ⟨.hbm, 88, rfl⟩
abbrev main_while0b_call12_c_0 : Ref sig .tc := ⟨.hbm, 89, rfl⟩
abbrev main_while0b_call12_c_1 : Ref sig .tc := ⟨.hbm, 90, rfl⟩
abbrev main_while0b_call12_v0 : Ref sig .tc := ⟨.hbm, 91, rfl⟩
abbrev main_while0b_v77 : Ref sig .tc := ⟨.hbm, 92, rfl⟩
abbrev main_while0b_call13_c : Ref sig .tc := ⟨.hbm, 93, rfl⟩
abbrev main_while0b_call13_c_0 : Ref sig .tc := ⟨.hbm, 94, rfl⟩
abbrev main_while0b_call13_c_1 : Ref sig .tc := ⟨.hbm, 95, rfl⟩
abbrev main_while0b_call13_v0 : Ref sig .tc := ⟨.hbm, 96, rfl⟩
abbrev main_while0b_v78 : Ref sig .tc := ⟨.hbm, 97, rfl⟩
abbrev main_while0b_call14_c : Ref sig .tc := ⟨.hbm, 98, rfl⟩
abbrev main_while0b_call14_c_0 : Ref sig .tc := ⟨.hbm, 99, rfl⟩
abbrev main_while0b_call14_c_1 : Ref sig .tc := ⟨.hbm, 100, rfl⟩
abbrev main_while0b_call14_v0 : Ref sig .tc := ⟨.hbm, 101, rfl⟩
abbrev main_while0b_v79 : Ref sig .tc := ⟨.hbm, 102, rfl⟩
abbrev main_while0b_call15_c : Ref sig .tc := ⟨.hbm, 103, rfl⟩
abbrev main_while0b_call15_c_0 : Ref sig .tc := ⟨.hbm, 104, rfl⟩
abbrev main_while0b_call15_c_1 : Ref sig .tc := ⟨.hbm, 105, rfl⟩
abbrev main_while0b_call15_v0 : Ref sig .tc := ⟨.hbm, 106, rfl⟩
abbrev main_while0b_v80 : Ref sig .tc := ⟨.hbm, 107, rfl⟩
abbrev main_while0b_call16_c : Ref sig .tc := ⟨.hbm, 108, rfl⟩
abbrev main_while0b_call16_c_0 : Ref sig .tc := ⟨.hbm, 109, rfl⟩
abbrev main_while0b_call16_c_1 : Ref sig .tc := ⟨.hbm, 110, rfl⟩
abbrev main_while0b_call16_v0 : Ref sig .tc := ⟨.hbm, 111, rfl⟩
abbrev main_while0b_v81 : Ref sig .tc := ⟨.hbm, 112, rfl⟩
abbrev main_while0b_call17_c : Ref sig .tc := ⟨.hbm, 113, rfl⟩
abbrev main_while0b_call17_c_0 : Ref sig .tc := ⟨.hbm, 114, rfl⟩
abbrev main_while0b_call17_c_1 : Ref sig .tc := ⟨.hbm, 115, rfl⟩
abbrev main_while0b_call17_v0 : Ref sig .tc := ⟨.hbm, 116, rfl⟩
abbrev main_while0b_v82 : Ref sig .tc := ⟨.hbm, 117, rfl⟩
abbrev main_while0b_v83 : Ref sig .tc := ⟨.hbm, 118, rfl⟩
abbrev main_while0b_v84 : Ref sig .tc := ⟨.hbm, 119, rfl⟩
abbrev main_while0b_v85 : Ref sig .tc := ⟨.hbm, 120, rfl⟩
abbrev main_while0b_v86 : Ref sig .tc := ⟨.hbm, 121, rfl⟩
abbrev main_while0b_v87 : Ref sig .tc := ⟨.hbm, 122, rfl⟩
abbrev main_while0b_v88 : Ref sig .tc := ⟨.hbm, 123, rfl⟩
abbrev main_while0b_v89 : Ref sig .tc := ⟨.hbm, 124, rfl⟩
abbrev main_while0b_v90 : Ref sig .tc := ⟨.hbm, 125, rfl⟩
abbrev main_while0b_v91 : Ref sig .tc := ⟨.hbm, 126, rfl⟩
abbrev main_while0b_v92 : Ref sig .tc := ⟨.hbm, 127, rfl⟩
abbrev main_while0b_v93 : Ref sig .tc := ⟨.hbm, 128, rfl⟩
abbrev main_while0b_v94 : Ref sig .tc := ⟨.hbm, 129, rfl⟩
abbrev main_while0b_v95 : Ref sig .tc := ⟨.hbm, 130, rfl⟩
abbrev main_while0b_v96 : Ref sig .tc := ⟨.hbm, 131, rfl⟩
abbrev main_while0b_v97 : Ref sig .tc := ⟨.hbm, 132, rfl⟩
abbrev main_while0b_v98 : Ref sig .tc := ⟨.hbm, 133, rfl⟩
abbrev main_while0b_v99 : Ref sig .tc := ⟨.hbm, 134, rfl⟩
abbrev main_while0b_call18_v0 : Ref sig .tc := ⟨.hbm, 135, rfl⟩
abbrev main_while0b_call18_c : Ref sig .tc := ⟨.hbm, 136, rfl⟩
abbrev main_while0b_call18_c_0 : Ref sig .tc := ⟨.hbm, 137, rfl⟩
abbrev main_while0b_call18_c_1 : Ref sig .tc := ⟨.hbm, 138, rfl⟩
abbrev main_while0b_v100 : Ref sig .tc := ⟨.hbm, 139, rfl⟩
abbrev main_while0b_c_11 : Ref sig .tc := ⟨.hbm, 140, rfl⟩
abbrev main_while0b_v101 : Ref sig .tc := ⟨.hbm, 141, rfl⟩
abbrev main_v67 : Ref sig .tc := ⟨.hbm, 142, rfl⟩
abbrev main_v68 : Ref sig .tc := ⟨.hbm, 143, rfl⟩
abbrev main_v69 : Ref sig .tc := ⟨.hbm, 144, rfl⟩
abbrev main_v70 : Ref sig .tc := ⟨.hbm, 145, rfl⟩
abbrev main_v71 : Ref sig .tc := ⟨.hbm, 146, rfl⟩
abbrev main_v72 : Ref sig .tc := ⟨.hbm, 147, rfl⟩
abbrev main_v73 : Ref sig .tc := ⟨.hbm, 148, rfl⟩
abbrev main_v74 : Ref sig .tc := ⟨.hbm, 149, rfl⟩
abbrev main_v75 : Ref sig .tc := ⟨.hbm, 150, rfl⟩
abbrev main_v76 : Ref sig .tc := ⟨.hbm, 151, rfl⟩

abbrev nD : Nat := 1
abbrev τ : Topo := Topo.v7x

variable {F : FTy → Type} [FloatOps F]

abbrev main_while0_count : Scf.Loop 32 := ⟨0#32, 4352#32, 1#32⟩
-- ==== Up.lean ====
abbrev S8704x2048 : Shape := ⟨2, ![8704, 2048]⟩
abbrev S2x2048x5632 : Shape := ⟨3, ![2, 2048, 5632]⟩
abbrev S8704x5632 : Shape := ⟨2, ![8704, 5632]⟩
abbrev S1088x2048 : Shape := ⟨2, ![1088, 2048]⟩
abbrev S1x2048x512 : Shape := ⟨3, ![1, 2048, 512]⟩
abbrev S1088x512 : Shape := ⟨2, ![1088, 512]⟩
abbrev S2048x512 : Shape := ⟨2, ![2048, 512]⟩

abbrev nBuf : Space → Nat
  | .hbm => 5
  | .vmem => 10
  | .smem => 0
  | _ => 0

abbrev bufTy : (tb : Table) → Fin (tcTables nBuf tb) → BufTy
  | .hbm, ⟨0, _⟩ => ⟨S8704x2048, .f32⟩
  | .hbm, ⟨1, _⟩ => ⟨S2x2048x5632, .f32⟩
  | .hbm, ⟨2, _⟩ => ⟨S2x2048x5632, .f32⟩
  | .hbm, ⟨3, _⟩ => ⟨S8704x2048, .bf16⟩
  | .hbm, ⟨4, _⟩ => ⟨S8704x5632, .bf16⟩
  | .local _ .vmem, ⟨0, _⟩ => ⟨S1088x2048, .bf16⟩
  | .local _ .vmem, ⟨1, _⟩ => ⟨S1088x2048, .bf16⟩
  | .local _ .vmem, ⟨2, _⟩ => ⟨S1x2048x512, .f32⟩
  | .local _ .vmem, ⟨3, _⟩ => ⟨S1x2048x512, .f32⟩
  | .local _ .vmem, ⟨4, _⟩ => ⟨S1x2048x512, .f32⟩
  | .local _ .vmem, ⟨5, _⟩ => ⟨S1x2048x512, .f32⟩
  | .local _ .vmem, ⟨6, _⟩ => ⟨S1088x512, .bf16⟩
  | .local _ .vmem, ⟨7, _⟩ => ⟨S1088x512, .bf16⟩
  | .local _ .vmem, ⟨8, _⟩ => ⟨S2048x512, .bf16⟩
  | .local _ .vmem, ⟨9, _⟩ => ⟨S2048x512, .bf16⟩
  | _, _ => ⟨S8704x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![11, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1088x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1088x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== RefUpIdeal.lean ====
abbrev S8704x2048 : Shape := ⟨2, ![8704, 2048]⟩
abbrev S2x2048x5632 : Shape := ⟨3, ![2, 2048, 5632]⟩
abbrev S1x2048x5632 : Shape := ⟨3, ![1, 2048, 5632]⟩
abbrev S2048x5632 : Shape := ⟨2, ![2048, 5632]⟩
abbrev S8704x5632 : Shape := ⟨2, ![8704, 5632]⟩
abbrev S_ : Shape := ⟨0, ![]⟩

abbrev nBuf : Space → Nat
  | .hbm => 20
  | .vmem => 0
  | .smem => 0
  | _ => 0

abbrev bufTy : (tb : Table) → Fin (tcTables nBuf tb) → BufTy
  | .hbm, ⟨0, _⟩ => ⟨S8704x2048, .f32⟩
  | .hbm, ⟨1, _⟩ => ⟨S2x2048x5632, .f32⟩
  | .hbm, ⟨2, _⟩ => ⟨S2x2048x5632, .f32⟩
  | .hbm, ⟨3, _⟩ => ⟨S1x2048x5632, .f32⟩
  | .hbm, ⟨4, _⟩ => ⟨S2048x5632, .f32⟩
  | .hbm, ⟨5, _⟩ => ⟨S8704x5632, .f32⟩
  | .hbm, ⟨6, _⟩ => ⟨S8704x5632, .f32⟩
  | .hbm, ⟨7, _⟩ => ⟨S8704x5632, .f32⟩
  | .hbm, ⟨8, _⟩ => ⟨S_, .f32⟩
  | .hbm, ⟨9, _⟩ => ⟨S8704x5632, .f32⟩
  | .hbm, ⟨10, _⟩ => ⟨S8704x5632, .f32⟩
  | .hbm, ⟨11, _⟩ => ⟨S_, .f32⟩
  | .hbm, ⟨12, _⟩ => ⟨S8704x5632, .f32⟩
  | .hbm, ⟨13, _⟩ => ⟨S8704x5632, .f32⟩
  | .hbm, ⟨14, _⟩ => ⟨S8704x5632, .f32⟩
  | .hbm, ⟨15, _⟩ => ⟨S1x2048x5632, .f32⟩
  | .hbm, ⟨16, _⟩ => ⟨S2048x5632, .f32⟩
  | .hbm, ⟨17, _⟩ => ⟨S8704x5632, .f32⟩
  | .hbm, ⟨18, _⟩ => ⟨S8704x5632, .f32⟩
  | .hbm, ⟨19, _⟩ => ⟨S8704x5632, .bf16⟩
  | _, _ => ⟨S8704x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_call0_v5 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩

abbrev nD : Nat := 1
abbrev τ : Topo := Topo.v7x

variable {F : FTy → Type} [FloatOps F]
-- ==== Down.lean ====
abbrev S8704x5632 : Shape := ⟨2, ![8704, 5632]⟩
abbrev S2x5632x2048 : Shape := ⟨3, ![2, 5632, 2048]⟩
abbrev S8704x2048 : Shape := ⟨2, ![8704, 2048]⟩
abbrev S8x12288 : Shape := ⟨2, ![8, 12288]⟩
abbrev S544x5632 : Shape := ⟨2, ![544, 5632]⟩
abbrev S1x5632x512 : Shape := ⟨3, ![1, 5632, 512]⟩
abbrev S544x512 : Shape := ⟨2, ![544, 512]⟩
abbrev S8x512 : Shape := ⟨2, ![8, 512]⟩
abbrev S5632x512 : Shape := ⟨2, ![5632, 512]⟩
abbrev S544x1 : Shape := ⟨2, ![544, 1]⟩
abbrev S1x512 : Shape := ⟨2, ![1, 512]⟩

abbrev nBuf : Space → Nat
  | .hbm => 6
  | .vmem => 11
  | .smem => 0
  | _ => 0

abbrev bufTy : (tb : Table) → Fin (tcTables nBuf tb) → BufTy
  | .hbm, ⟨0, _⟩ => ⟨S8704x5632, .f32⟩
  | .hbm, ⟨1, _⟩ => ⟨S2x5632x2048, .f32⟩
  | .hbm, ⟨2, _⟩ => ⟨S8704x2048, .f32⟩
  | .hbm, ⟨3, _⟩ => ⟨S8x12288, .f32⟩
  | .hbm, ⟨4, _⟩ => ⟨S8704x5632, .bf16⟩
  | .hbm, ⟨5, _⟩ => ⟨S8704x2048, .f32⟩
  | .local _ .vmem, ⟨0, _⟩ => ⟨S544x5632, .bf16⟩
  | .local _ .vmem, ⟨1, _⟩ => ⟨S544x5632, .bf16⟩
  | .local _ .vmem, ⟨2, _⟩ => ⟨S1x5632x512, .f32⟩
  | .local _ .vmem, ⟨3, _⟩ => ⟨S1x5632x512, .f32⟩
  | .local _ .vmem, ⟨4, _⟩ => ⟨S544x512, .f32⟩
  | .local _ .vmem, ⟨5, _⟩ => ⟨S544x512, .f32⟩
  | .local _ .vmem, ⟨6, _⟩ => ⟨S8x512, .f32⟩
  | .local _ .vmem, ⟨7, _⟩ => ⟨S8x512, .f32⟩
  | .local _ .vmem, ⟨8, _⟩ => ⟨S544x512, .f32⟩
  | .local _ .vmem, ⟨9, _⟩ => ⟨S544x512, .f32⟩
  | .local _ .vmem, ⟨10, _⟩ => ⟨S5632x512, .bf16⟩
  | _, _ => ⟨S8704x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 16], ![false, false]⟩

def k0_off1 (i : grid0.Coords) : Fin 2 → Nat :=
  let c1_i32_12 : BitVec 32 := 1#32
  let arg1 : BitVec 32 := BitVec.ofNat 32 (i 1).val
  let c544_i32 : BitVec 32 := 544#32
  let v7 : BitVec 32 := Scalar.muli arg1 c544_i32
  let c0_i32_4 : BitVec 32 := 0#32
  let v9 : BitVec 1 := Scalar.cmpi .sgt v7 c0_i32_4
  let v10 : BitVec 32 := Scalar.extui v9
  let c0_i32_5 : BitVec 32 := 0#32
  let v11 : BitVec 1 := Scalar.cmpi .slt v7 c0_i32_5
  let v12 : BitVec 32 := Scalar.extui v11
  let v13 : BitVec 32 := Scalar.subi v10 v12
  let c4352_i32 : BitVec 32 := 4352#32
  let c0_i32_6 : BitVec 32 := 0#32
  let v14 : BitVec 1 := Scalar.cmpi .sgt c4352_i32 c0_i32_6
  let v15 : BitVec 32 := Scalar.extui v14
  let c0_i32_7 : BitVec 32 := 0#32
  let v16 : BitVec 1 := Scalar.cmpi .slt c4352_i32 c0_i32_7
  let v17 : BitVec 32 := Scalar.extui v16
  let v18 : BitVec 32 := Scalar.subi v15 v17
  let v19 : BitVec 1 := Scalar.cmpi .ne v13 v18
  let v20 : BitVec 32 := Scalar.remsi v7 c4352_i32
  let c0_i32_8 : BitVec 32 := 0#32
  let v21 : BitVec 1 := Scalar.cmpi .ne v20 c0_i32_8
  let v22 : BitVec 1 := Scalar.andi v19 v21
  let v8 : BitVec 32 := Scalar.divsi v7 c4352_i32
  let c1_i32 : BitVec 32 := 1#32
  let v23 : BitVec 32 := Scalar.subi v8 c1_i32
  let v24 : BitVec 32 := Scalar.select v22 v23 v8
  let v31 : BitVec 32 := Scalar.addi c1_i32_12 v24
  let v32 : Index := Scalar.indexCast v31
  let c0_13 : Index := 0#32
  ![v32.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c20_i32 : BitVec 32 := 20#32
  let v0 : BitVec 32 := Scalar.addi c20_i32 arg0
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S544x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x5632x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S544x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S544x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== RefDownIdeal.lean ====
abbrev S8704x5632 : Shape := ⟨2, ![8704, 5632]⟩
abbrev S2x5632x2048 : Shape := ⟨3, ![2, 5632, 2048]⟩
abbrev S8704x2048 : Shape := ⟨2, ![8704, 2048]⟩
abbrev S8x12288 : Shape := ⟨2, ![8, 12288]⟩
abbrev S8x2048 : Shape := ⟨2, ![8, 2048]⟩
abbrev S1x2048 : Shape := ⟨2, ![1, 2048]⟩
abbrev S2048 : Shape := ⟨1, ![2048]⟩
abbrev S2x256x2048 : Shape := ⟨3, ![2, 256, 2048]⟩
abbrev S2x2048 : Shape := ⟨2, ![2, 2048]⟩
abbrev S2x1x2048 : Shape := ⟨3, ![2, 1, 2048]⟩
abbrev S2x4096x2048 : Shape := ⟨3, ![2, 4096, 2048]⟩
abbrev S2x4352x2048 : Shape := ⟨3, ![2, 4352, 2048]⟩
abbrev S1x5632x2048 : Shape := ⟨3, ![1, 5632, 2048]⟩
abbrev S5632x2048 : Shape := ⟨2, ![5632, 2048]⟩

abbrev nBuf : Space → Nat
  | .hbm => 18
  | .vmem => 0
  | .smem => 0
  | _ => 0

abbrev bufTy : (tb : Table) → Fin (tcTables nBuf tb) → BufTy
  | .hbm, ⟨0, _⟩ => ⟨S8704x5632, .f32⟩
  | .hbm, ⟨1, _⟩ => ⟨S2x5632x2048, .f32⟩
  | .hbm, ⟨2, _⟩ => ⟨S8704x2048, .f32⟩
  | .hbm, ⟨3, _⟩ => ⟨S8x12288, .f32⟩
  | .hbm, ⟨4, _⟩ => ⟨S8x2048, .f32⟩
  | .hbm, ⟨5, _⟩ => ⟨S1x2048, .f32⟩
  | .hbm, ⟨6, _⟩ => ⟨S2048, .f32⟩
  | .hbm, ⟨7, _⟩ => ⟨S2x256x2048, .f32⟩
  | .hbm, ⟨8, _⟩ => ⟨S2x2048, .f32⟩
  | .hbm, ⟨9, _⟩ => ⟨S2x1x2048, .f32⟩
  | .hbm, ⟨10, _⟩ => ⟨S2x4096x2048, .f32⟩
  | .hbm, ⟨11, _⟩ => ⟨S2x4352x2048, .f32⟩
  | .hbm, ⟨12, _⟩ => ⟨S8704x2048, .f32⟩
  | .hbm, ⟨13, _⟩ => ⟨S1x5632x2048, .f32⟩
  | .hbm, ⟨14, _⟩ => ⟨S5632x2048, .f32⟩
  | .hbm, ⟨15, _⟩ => ⟨S8704x2048, .f32⟩
  | .hbm, ⟨16, _⟩ => ⟨S8704x2048, .f32⟩
  | .hbm, ⟨17, _⟩ => ⟨S8704x2048, .f32⟩
  | _, _ => ⟨S8704x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩

abbrev nD : Nat := 1
abbrev τ : Topo := Topo.v7x

variable {F : FTy → Type} [FloatOps F]
-- ==== Out.lean ====
abbrev S8704x2048 : Shape := ⟨2, ![8704, 2048]⟩
abbrev S4x2048x2048 : Shape := ⟨3, ![4, 2048, 2048]⟩
abbrev S8x12288 : Shape := ⟨2, ![8, 12288]⟩
abbrev S1088x2048 : Shape := ⟨2, ![1088, 2048]⟩
abbrev S1x2048x1024 : Shape := ⟨3, ![1, 2048, 1024]⟩
abbrev S1088x1024 : Shape := ⟨2, ![1088, 1024]⟩
abbrev S8x1024 : Shape := ⟨2, ![8, 1024]⟩
abbrev S2048x1024 : Shape := ⟨2, ![2048, 1024]⟩
abbrev S1088x1 : Shape := ⟨2, ![1088, 1]⟩
abbrev S1x1024 : Shape := ⟨2, ![1, 1024]⟩

abbrev nBuf : Space → Nat
  | .hbm => 6
  | .vmem => 11
  | .smem => 0
  | _ => 0

abbrev bufTy : (tb : Table) → Fin (tcTables nBuf tb) → BufTy
  | .hbm, ⟨0, _⟩ => ⟨S8704x2048, .f32⟩
  | .hbm, ⟨1, _⟩ => ⟨S4x2048x2048, .f32⟩
  | .hbm, ⟨2, _⟩ => ⟨S8704x2048, .f32⟩
  | .hbm, ⟨3, _⟩ => ⟨S8x12288, .f32⟩
  | .hbm, ⟨4, _⟩ => ⟨S8704x2048, .bf16⟩
  | .hbm, ⟨5, _⟩ => ⟨S8704x2048, .f32⟩
  | .local _ .vmem, ⟨0, _⟩ => ⟨S1088x2048, .bf16⟩
  | .local _ .vmem, ⟨1, _⟩ => ⟨S1088x2048, .bf16⟩
  | .local _ .vmem, ⟨2, _⟩ => ⟨S1x2048x1024, .f32⟩
  | .local _ .vmem, ⟨3, _⟩ => ⟨S1x2048x1024, .f32⟩
  | .local _ .vmem, ⟨4, _⟩ => ⟨S1088x1024, .f32⟩
  | .local _ .vmem, ⟨5, _⟩ => ⟨S1088x1024, .f32⟩
  | .local _ .vmem, ⟨6, _⟩ => ⟨S8x1024, .f32⟩
  | .local _ .vmem, ⟨7, _⟩ => ⟨S8x1024, .f32⟩
  | .local _ .vmem, ⟨8, _⟩ => ⟨S1088x1024, .f32⟩
  | .local _ .vmem, ⟨9, _⟩ => ⟨S1088x1024, .f32⟩
  | .local _ .vmem, ⟨10, _⟩ => ⟨S2048x1024, .bf16⟩
  | _, _ => ⟨S8704x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![2, 8], ![false, false]⟩

def k0_off1 (i : grid0.Coords) : Fin 2 → Nat :=
  let c1_i32_12 : BitVec 32 := 1#32
  let arg1 : BitVec 32 := BitVec.ofNat 32 (i 1).val
  let c1088_i32 : BitVec 32 := 1088#32
  let v7 : BitVec 32 := Scalar.muli arg1 c1088_i32
  let c0_i32_4 : BitVec 32 := 0#32
  let v9 : BitVec 1 := Scalar.cmpi .sgt v7 c0_i32_4
  let v10 : BitVec 32 := Scalar.extui v9
  let c0_i32_5 : BitVec 32 := 0#32
  let v11 : BitVec 1 := Scalar.cmpi .slt v7 c0_i32_5
  let v12 : BitVec 32 := Scalar.extui v11
  let v13 : BitVec 32 := Scalar.subi v10 v12
  let c4352_i32 : BitVec 32 := 4352#32
  let c0_i32_6 : BitVec 32 := 0#32
  let v14 : BitVec 1 := Scalar.cmpi .sgt c4352_i32 c0_i32_6
  let v15 : BitVec 32 := Scalar.extui v14
  let c0_i32_7 : BitVec 32 := 0#32
  let v16 : BitVec 1 := Scalar.cmpi .slt c4352_i32 c0_i32_7
  let v17 : BitVec 32 := Scalar.extui v16
  let v18 : BitVec 32 := Scalar.subi v15 v17
  let v19 : BitVec 1 := Scalar.cmpi .ne v13 v18
  let v20 : BitVec 32 := Scalar.remsi v7 c4352_i32
  let c0_i32_8 : BitVec 32 := 0#32
  let v21 : BitVec 1 := Scalar.cmpi .ne v20 c0_i32_8
  let v22 : BitVec 1 := Scalar.andi v19 v21
  let v8 : BitVec 32 := Scalar.divsi v7 c4352_i32
  let c1_i32 : BitVec 32 := 1#32
  let v23 : BitVec 32 := Scalar.subi v8 c1_i32
  let v24 : BitVec 32 := Scalar.select v22 v23 v8
  let v31 : BitVec 32 := Scalar.addi c1_i32_12 v24
  let v32 : Index := Scalar.indexCast v31
  let c0_13 : Index := 0#32
  ![v32.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1088x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1088x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1088x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== RefOutIdeal.lean ====
abbrev S8704x2048 : Shape := ⟨2, ![8704, 2048]⟩
abbrev S4x2048x2048 : Shape := ⟨3, ![4, 2048, 2048]⟩
abbrev S8x12288 : Shape := ⟨2, ![8, 12288]⟩
abbrev S8x2048 : Shape := ⟨2, ![8, 2048]⟩
abbrev S1x2048 : Shape := ⟨2, ![1, 2048]⟩
abbrev S2048 : Shape := ⟨1, ![2048]⟩
abbrev S2x256x2048 : Shape := ⟨3, ![2, 256, 2048]⟩
abbrev S2x2048 : Shape := ⟨2, ![2, 2048]⟩
abbrev S2x1x2048 : Shape := ⟨3, ![2, 1, 2048]⟩
abbrev S2x4096x2048 : Shape := ⟨3, ![2, 4096, 2048]⟩
abbrev S2x4352x2048 : Shape := ⟨3, ![2, 4352, 2048]⟩
abbrev S1x2048x2048 : Shape := ⟨3, ![1, 2048, 2048]⟩
abbrev S2048x2048 : Shape := ⟨2, ![2048, 2048]⟩

abbrev nBuf : Space → Nat
  | .hbm => 18
  | .vmem => 0
  | .smem => 0
  | _ => 0

abbrev bufTy : (tb : Table) → Fin (tcTables nBuf tb) → BufTy
  | .hbm, ⟨0, _⟩ => ⟨S8704x2048, .f32⟩
  | .hbm, ⟨1, _⟩ => ⟨S4x2048x2048, .f32⟩
  | .hbm, ⟨2, _⟩ => ⟨S8704x2048, .f32⟩
  | .hbm, ⟨3, _⟩ => ⟨S8x12288, .f32⟩
  | .hbm, ⟨4, _⟩ => ⟨S8x2048, .f32⟩
  | .hbm, ⟨5, _⟩ => ⟨S1x2048, .f32⟩
  | .hbm, ⟨6, _⟩ => ⟨S2048, .f32⟩
  | .hbm, ⟨7, _⟩ => ⟨S2x256x2048, .f32⟩
  | .hbm, ⟨8, _⟩ => ⟨S2x2048, .f32⟩
  | .hbm, ⟨9, _⟩ => ⟨S2x1x2048, .f32⟩
  | .hbm, ⟨10, _⟩ => ⟨S2x4096x2048, .f32⟩
  | .hbm, ⟨11, _⟩ => ⟨S2x4352x2048, .f32⟩
  | .hbm, ⟨12, _⟩ => ⟨S8704x2048, .f32⟩
  | .hbm, ⟨13, _⟩ => ⟨S1x2048x2048, .f32⟩
  | .hbm, ⟨14, _⟩ => ⟨S2048x2048, .f32⟩
  | .hbm, ⟨15, _⟩ => ⟨S8704x2048, .f32⟩
  | .hbm, ⟨16, _⟩ => ⟨S8704x2048, .f32⟩
  | .hbm, ⟨17, _⟩ => ⟨S8704x2048, .f32⟩
  | _, _ => ⟨S8704x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩

abbrev nD : Nat := 1
abbrev τ : Topo := Topo.v7x

variable {F : FTy → Type} [FloatOps F]
-- ==== In.lean ====
abbrev S8704x2048 : Shape := ⟨2, ![8704, 2048]⟩
abbrev S4x2048x8096 : Shape := ⟨3, ![4, 2048, 8096]⟩
abbrev S8704x4096 : Shape := ⟨2, ![8704, 4096]⟩
abbrev S1088x2048 : Shape := ⟨2, ![1088, 2048]⟩
abbrev S1x2048x1024 : Shape := ⟨3, ![1, 2048, 1024]⟩
abbrev S1088x1024 : Shape := ⟨2, ![1088, 1024]⟩
abbrev S2048x1024 : Shape := ⟨2, ![2048, 1024]⟩

abbrev nBuf : Space → Nat
  | .hbm => 4
  | .vmem => 7
  | .smem => 0
  | _ => 0

abbrev bufTy : (tb : Table) → Fin (tcTables nBuf tb) → BufTy
  | .hbm, ⟨0, _⟩ => ⟨S8704x2048, .f32⟩
  | .hbm, ⟨1, _⟩ => ⟨S4x2048x8096, .f32⟩
  | .hbm, ⟨2, _⟩ => ⟨S8704x2048, .bf16⟩
  | .hbm, ⟨3, _⟩ => ⟨S8704x4096, .f32⟩
  | .local _ .vmem, ⟨0, _⟩ => ⟨S1088x2048, .bf16⟩
  | .local _ .vmem, ⟨1, _⟩ => ⟨S1088x2048, .bf16⟩
  | .local _ .vmem, ⟨2, _⟩ => ⟨S1x2048x1024, .f32⟩
  | .local _ .vmem, ⟨3, _⟩ => ⟨S1x2048x1024, .f32⟩
  | .local _ .vmem, ⟨4, _⟩ => ⟨S1088x1024, .f32⟩
  | .local _ .vmem, ⟨5, _⟩ => ⟨S1088x1024, .f32⟩
  | .local _ .vmem, ⟨6, _⟩ => ⟨S2048x1024, .bf16⟩
  | _, _ => ⟨S8704x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  let c0_i32_2 : BitVec 32 := 0#32
  ![c0_i32_0.toNat, c0_i32_1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1088x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1088x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== RefInIdeal.lean ====
abbrev S8704x2048 : Shape := ⟨2, ![8704, 2048]⟩
abbrev S4x2048x8096 : Shape := ⟨3, ![4, 2048, 8096]⟩
abbrev S1x2048x4096 : Shape := ⟨3, ![1, 2048, 4096]⟩
abbrev S2048x4096 : Shape := ⟨2, ![2048, 4096]⟩
abbrev S8704x4096 : Shape := ⟨2, ![8704, 4096]⟩

abbrev nBuf : Space → Nat
  | .hbm => 5
  | .vmem => 0
  | .smem => 0
  | _ => 0

abbrev bufTy : (tb : Table) → Fin (tcTables nBuf tb) → BufTy
  | .hbm, ⟨0, _⟩ => ⟨S8704x2048, .f32⟩
  | .hbm, ⟨1, _⟩ => ⟨S4x2048x8096, .f32⟩
  | .hbm, ⟨2, _⟩ => ⟨S1x2048x4096, .f32⟩
  | .hbm, ⟨3, _⟩ => ⟨S2048x4096, .f32⟩
  | .hbm, ⟨4, _⟩ => ⟨S8704x4096, .f32⟩
  | _, _ => ⟨S8704x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Gates.lean ====
abbrev S8704x2048 : Shape := ⟨2, ![8704, 2048]⟩
abbrev S4x2048x8096 : Shape := ⟨3, ![4, 2048, 8096]⟩
abbrev S4x2048x4096 : Shape := ⟨3, ![4, 2048, 4096]⟩
abbrev S8704x4096 : Shape := ⟨2, ![8704, 4096]⟩
abbrev S1088x2048 : Shape := ⟨2, ![1088, 2048]⟩
abbrev S1x2048x1024 : Shape := ⟨3, ![1, 2048, 1024]⟩
abbrev S1088x1024 : Shape := ⟨2, ![1088, 1024]⟩
abbrev S2048x1024 : Shape := ⟨2, ![2048, 1024]⟩

abbrev nBuf : Space → Nat
  | .hbm => 6
  | .vmem => 7
  | .smem => 0
  | _ => 0

abbrev bufTy : (tb : Table) → Fin (tcTables nBuf tb) → BufTy
  | .hbm, ⟨0, _⟩ => ⟨S8704x2048, .f32⟩
  | .hbm, ⟨1, _⟩ => ⟨S4x2048x8096, .f32⟩
  | .hbm, ⟨2, _⟩ => ⟨S4x2048x4096, .f32⟩
  | .hbm, ⟨3, _⟩ => ⟨S4x2048x4096, .bf16⟩
  | .hbm, ⟨4, _⟩ => ⟨S8704x2048, .bf16⟩
  | .hbm, ⟨5, _⟩ => ⟨S8704x4096, .f32⟩
  | .local _ .vmem, ⟨0, _⟩ => ⟨S1088x2048, .bf16⟩
  | .local _ .vmem, ⟨1, _⟩ => ⟨S1088x2048, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1088x1024, .f32⟩
  | .local _ .vmem, ⟨5, _⟩ => ⟨S1088x1024, .f32⟩
  | .local _ .vmem, ⟨6, _⟩ => ⟨S2048x1024, .bf16⟩
  | _, _ => ⟨S8704x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  let c0_i32_2 : BitVec 32 := 0#32
  ![c0_i32_0.toNat, c0_i32_1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1088x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1088x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== RefGatesIdeal.lean ====
abbrev S8704x2048 : Shape := ⟨2, ![8704, 2048]⟩
abbrev S4x2048x8096 : Shape := ⟨3, ![4, 2048, 8096]⟩
abbrev S1x2048x4096 : Shape := ⟨3, ![1, 2048, 4096]⟩
abbrev S2048x4096 : Shape := ⟨2, ![2048, 4096]⟩
abbrev S8704x4096 : Shape := ⟨2, ![8704, 4096]⟩

abbrev nBuf : Space → Nat
  | .hbm => 5
  | .vmem => 0
  | .smem => 0
  | _ => 0

abbrev bufTy : (tb : Table) → Fin (tcTables nBuf tb) → BufTy
  | .hbm, ⟨0, _⟩ => ⟨S8704x2048, .f32⟩
  | .hbm, ⟨1, _⟩ => ⟨S4x2048x8096, .f32⟩
  | .hbm, ⟨2, _⟩ => ⟨S1x2048x4096, .f32⟩
  | .hbm, ⟨3, _⟩ => ⟨S2048x4096, .f32⟩
  | .hbm, ⟨4, _⟩ => ⟨S8704x4096, .f32⟩
  | _, _ => ⟨S8704x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Merge.lean ====
abbrev S8704x512 : Shape := ⟨2, ![8704, 512]⟩
abbrev S8704x1024 : Shape := ⟨2, ![8704, 1024]⟩
abbrev S4x512x2048 : Shape := ⟨3, ![4, 512, 2048]⟩
abbrev S4x1024x2048 : Shape := ⟨3, ![4, 1024, 2048]⟩
abbrev S8704x4096 : Shape := ⟨2, ![8704, 4096]⟩
abbrev S8704x2048 : Shape := ⟨2, ![8704, 2048]⟩
abbrev S1088x512 : Shape := ⟨2, ![1088, 512]⟩
abbrev S1088x1024 : Shape := ⟨2, ![1088, 1024]⟩
abbrev S1x512x1024 : Shape := ⟨3, ![1, 512, 1024]⟩
abbrev S1x1024x1024 : Shape := ⟨3, ![1, 1024, 1024]⟩
abbrev S512x1024 : Shape := ⟨2, ![512, 1024]⟩
abbrev S1024x1024 : Shape := ⟨2, ![1024, 1024]⟩

abbrev nBuf : Space → Nat
  | .hbm => 8
  | .vmem => 16
  | .smem => 0
  | _ => 0

abbrev bufTy : (tb : Table) → Fin (tcTables nBuf tb) → BufTy
  | .hbm, ⟨0, _⟩ => ⟨S8704x512, .f32⟩
  | .hbm, ⟨1, _⟩ => ⟨S8704x1024, .f32⟩
  | .hbm, ⟨2, _⟩ => ⟨S4x512x2048, .f32⟩
  | .hbm, ⟨3, _⟩ => ⟨S4x1024x2048, .f32⟩
  | .hbm, ⟨4, _⟩ => ⟨S8704x4096, .f32⟩
  | .hbm, ⟨5, _⟩ => ⟨S8704x512, .bf16⟩
  | .hbm, ⟨6, _⟩ => ⟨S8704x1024, .bf16⟩
  | .hbm, ⟨7, _⟩ => ⟨S8704x2048, .bf16⟩
  | .local _ .vmem, ⟨0, _⟩ => ⟨S1088x512, .bf16⟩
  | .local _ .vmem, ⟨1, _⟩ => ⟨S1088x512, .bf16⟩
  | .local _ .vmem, ⟨2, _⟩ => ⟨S1088x1024, .bf16⟩
  | .local _ .vmem, ⟨3, _⟩ => ⟨S1088x1024, .bf16⟩
  | .local _ .vmem, ⟨4, _⟩ => ⟨S1x512x1024, .f32⟩
  | .local _ .vmem, ⟨5, _⟩ => ⟨S1x512x1024, .f32⟩
  | .local _ .vmem, ⟨6, _⟩ => ⟨S1x1024x1024, .f32⟩
  | .local _ .vmem, ⟨7, _⟩ => ⟨S1x1024x1024, .f32⟩
  | .local _ .vmem, ⟨8, _⟩ => ⟨S1088x1024, .f32⟩
  | .local _ .vmem, ⟨9, _⟩ => ⟨S1088x1024, .f32⟩
  | .local _ .vmem, ⟨10, _⟩ => ⟨S1088x1024, .f32⟩
  | .local _ .vmem, ⟨11, _⟩ => ⟨S1088x1024, .f32⟩
  | .local _ .vmem, ⟨12, _⟩ => ⟨S1088x1024, .bf16⟩
  | .local _ .vmem, ⟨13, _⟩ => ⟨S1088x1024, .bf16⟩
  | .local _ .vmem, ⟨14, _⟩ => ⟨S512x1024, .bf16⟩
  | .local _ .vmem, ⟨15, _⟩ => ⟨S1024x1024, .bf16⟩
  | _, _ => ⟨S8704x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg0
  let c0_i32 : BitVec 32 := 0#32
  ![arg1.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1088x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1088x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1088x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1088x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1088x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== RefMergeIdeal.lean ====
abbrev S8704x512 : Shape := ⟨2, ![8704, 512]⟩
abbrev S8704x1024 : Shape := ⟨2, ![8704, 1024]⟩
abbrev S4x512x2048 : Shape := ⟨3, ![4, 512, 2048]⟩
abbrev S4x1024x2048 : Shape := ⟨3, ![4, 1024, 2048]⟩
abbrev S8704x4096 : Shape := ⟨2, ![8704, 4096]⟩
abbrev S8704x2048 : Shape := ⟨2, ![8704, 2048]⟩
abbrev S_ : Shape := ⟨0, ![]⟩
abbrev S1x512x2048 : Shape := ⟨3, ![1, 512, 2048]⟩
abbrev S512x2048 : Shape := ⟨2, ![512, 2048]⟩
abbrev S1x1024x2048 : Shape := ⟨3, ![1, 1024, 2048]⟩
abbrev S1024x2048 : Shape := ⟨2, ![1024, 2048]⟩

abbrev nBuf : Space → Nat
  | .hbm => 33
  | .vmem => 0
  | .smem => 0
  | _ => 0

abbrev bufTy : (tb : Table) → Fin (tcTables nBuf tb) → BufTy
  | .hbm, ⟨0, _⟩ => ⟨S8704x512, .f32⟩
  | .hbm, ⟨1, _⟩ => ⟨S8704x1024, .f32⟩
  | .hbm, ⟨2, _⟩ => ⟨S4x512x2048, .f32⟩
  | .hbm, ⟨3, _⟩ => ⟨S4x1024x2048, .f32⟩
  | .hbm, ⟨4, _⟩ => ⟨S8704x4096, .f32⟩
  | .hbm, ⟨5, _⟩ => ⟨S8704x2048, .f32⟩
  | .hbm, ⟨6, _⟩ => ⟨S8704x2048, .f32⟩
  | .hbm, ⟨7, _⟩ => ⟨S8704x2048, .f32⟩
  | .hbm, ⟨8, _⟩ => ⟨S8704x2048, .f32⟩
  | .hbm, ⟨9, _⟩ => ⟨S_, .f32⟩
  | .hbm, ⟨10, _⟩ => ⟨S8704x2048, .f32⟩
  | .hbm, ⟨11, _⟩ => ⟨S8704x2048, .f32⟩
  | .hbm, ⟨12, _⟩ => ⟨S_, .f32⟩
  | .hbm, ⟨13, _⟩ => ⟨S8704x2048, .f32⟩
  | .hbm, ⟨14, _⟩ => ⟨S8704x2048, .f32⟩
  | .hbm, ⟨15, _⟩ => ⟨S1x512x2048, .f32⟩
  | .hbm, ⟨16, _⟩ => ⟨S512x2048, .f32⟩
  | .hbm, ⟨17, _⟩ => ⟨S8704x2048, .f32⟩
  | .hbm, ⟨18, _⟩ => ⟨S8704x2048, .f32⟩
  | .hbm, ⟨19, _⟩ => ⟨S8704x2048, .f32⟩
  | .hbm, ⟨20, _⟩ => ⟨S8704x2048, .f32⟩
  | .hbm, ⟨21, _⟩ => ⟨S_, .f32⟩
  | .hbm, ⟨22, _⟩ => ⟨S8704x2048, .f32⟩
  | .hbm, ⟨23, _⟩ => ⟨S8704x2048, .f32⟩
  | .hbm, ⟨24, _⟩ => ⟨S_, .f32⟩
  | .hbm, ⟨25, _⟩ => ⟨S8704x2048, .f32⟩
  | .hbm, ⟨26, _⟩ => ⟨S8704x2048, .f32⟩
  | .hbm, ⟨27, _⟩ => ⟨S1x1024x2048, .f32⟩
  | .hbm, ⟨28, _⟩ => ⟨S1024x2048, .f32⟩
  | .hbm, ⟨29, _⟩ => ⟨S8704x2048, .f32⟩
  | .hbm, ⟨30, _⟩ => ⟨S8704x2048, .f32⟩
  | .hbm, ⟨31, _⟩ => ⟨S8704x2048, .f32⟩
  | .hbm, ⟨32, _⟩ => ⟨S8704x2048, .bf16⟩
  | _, _ => ⟨S8704x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_1 : Ref sig .tc := ⟨.hbm, 21, rfl⟩
abbrev main_v14 : Ref sig .tc := ⟨.hbm, 22, rfl⟩
abbrev main_v15 : Ref sig .tc := ⟨.hbm, 23, rfl⟩
abbrev main_cst_2 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩

abbrev nD : Nat := 1
abbrev τ : Topo := Topo.v7x

variable {F : FTy → Type} [FloatOps F]
-- ==== MoeUp.lean ====
abbrev S25600x2048 : Shape := ⟨2, ![25600, 2048]⟩
abbrev S2x8x2048x2816 : Shape := ⟨4, ![2, 8, 2048, 2816]⟩
abbrev S25 : Shape := ⟨1, ![25]⟩
abbrev S1 : Shape := ⟨1, ![1]⟩
abbrev S_ : Shape := ⟨0, ![]⟩
abbrev S24 : Shape := ⟨1, ![24]⟩
abbrev S25x1 : Shape := ⟨2, ![25, 1]⟩
abbrev S25600x2816 : Shape := ⟨2, ![25600, 2816]⟩
abbrev S1024x2048 : Shape := ⟨2, ![1024, 2048]⟩
abbrev S1x1x2048x256 : Shape := ⟨4, ![1, 1, 2048, 256]⟩
abbrev S1024x256 : Shape := ⟨2, ![1024, 256]⟩
abbrev S2048x256 : Shape := ⟨2, ![2048, 256]⟩

abbrev nBuf : Space → Nat
  | .hbm => 26
  | .vmem => 10
  | .smem => 3
  | _ => 0

abbrev bufTy : (tb : Table) → Fin (tcTables nBuf tb) → BufTy
  | .hbm, ⟨0, _⟩ => ⟨S25600x2048, .f32⟩
  | .hbm, ⟨1, _⟩ => ⟨S2x8x2048x2816, .f32⟩
  | .hbm, ⟨2, _⟩ => ⟨S2x8x2048x2816, .f32⟩
  | .hbm, ⟨3, _⟩ => ⟨S25, .i32⟩
  | .hbm, ⟨4, _⟩ => ⟨S_, .i32⟩
  | .hbm, ⟨5, _⟩ => ⟨S1, .i32⟩
  | .hbm, ⟨6, _⟩ => ⟨S24, .i32⟩
  | .hbm, ⟨7, _⟩ => ⟨S24, .i32⟩
  | .hbm, ⟨8, _⟩ => ⟨S24, .i1⟩
  | .hbm, ⟨9, _⟩ => ⟨S24, .i32⟩
  | .hbm, ⟨10, _⟩ => ⟨S25, .i32⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S25, .i32⟩
  | .hbm, ⟨15, _⟩ => ⟨S25, .i32⟩
  | .hbm, ⟨16, _⟩ => ⟨S_, .i32⟩
  | .hbm, ⟨17, _⟩ => ⟨S25, .i32⟩
  | .hbm, ⟨18, _⟩ => ⟨S25, .i1⟩
  | .hbm, ⟨19, _⟩ => ⟨S_, .i32⟩
  | .hbm, ⟨20, _⟩ => ⟨S25, .i32⟩
  | .hbm, ⟨21, _⟩ => ⟨S25, .i32⟩
  | .hbm, ⟨22, _⟩ => ⟨S25, .i32⟩
  | .hbm, ⟨23, _⟩ => ⟨S25x1, .i32⟩
  | .hbm, ⟨24, _⟩ => ⟨S25600x2048, .bf16⟩
  | .hbm, ⟨25, _⟩ => ⟨S25600x2816, .bf16⟩
  | .local _ .vmem, ⟨0, _⟩ => ⟨S1024x2048, .bf16⟩
  | .local _ .vmem, ⟨1, _⟩ => ⟨S1024x2048, .bf16⟩
  | .local _ .vmem, ⟨2, _⟩ => ⟨S1x1x2048x256, .f32⟩
  | .local _ .vmem, ⟨3, _⟩ => ⟨S1x1x2048x256, .f32⟩
  | .local _ .vmem, ⟨4, _⟩ => ⟨S1x1x2048x256, .f32⟩
  | .local _ .vmem, ⟨5, _⟩ => ⟨S1x1x2048x256, .f32⟩
  | .local _ .vmem, ⟨6, _⟩ => ⟨S1024x256, .bf16⟩
  | .local _ .vmem, ⟨7, _⟩ => ⟨S1024x256, .bf16⟩
  | .local _ .vmem, ⟨8, _⟩ => ⟨S2048x256, .bf16⟩
  | .local _ .vmem, ⟨9, _⟩ => ⟨S2048x256, .bf16⟩
  | .local _ .smem, ⟨0, _⟩ => ⟨S25, .i32⟩
  | .local _ .smem, ⟨1, _⟩ => ⟨S25, .i32⟩
  | .local _ .smem, ⟨2, _⟩ => ⟨S1, .i32⟩
  | _, _ => ⟨S25600x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v6 : Ref sig .tc := ⟨.hbm, 10, rfl⟩
abbrev main_v7 : Ref sig .tc := ⟨.hbm, 11, rfl⟩
abbrev main_c_0 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_c_1 : Ref sig .tc := ⟨.hbm, 16, rfl⟩
abbrev main_v11 : Ref sig .tc := ⟨.hbm, 17, rfl⟩
abbrev main_v12 : Ref sig .tc := ⟨.hbm, 18, rfl⟩
abbrev main_c_2 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v18 : Ref sig .tc := ⟨.hbm, 24, rfl⟩
abbrev main_v19 : Ref sig .tc := ⟨.hbm, 25, rfl⟩
abbrev main_v17 : Ref sig .tc := ⟨.smem, 0, rfl⟩
abbrev main_v5 : Ref sig .tc := ⟨.smem, 1, rfl⟩
abbrev main_arg4 : Ref sig .tc := ⟨.smem, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![11, 25], ![false, false]⟩

abbrev pre0 : Pipeline.Prefetch sig := ⟨3, ![main_v17.idx, main_v5.idx, main_arg4.idx], fun | 0 => main_v17.names | 1 => main_v5.names | 2 => main_arg4.names | ⟨_ + 3, h⟩ => absurd h (Nat.not_lt.2 (Nat.le_add_left _ _)), fun | 0 => rfl | 1 => rfl | 2 => rfl | ⟨_ + 3, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def k0_off2 (i : grid0.Coords) : Fin 1 → Nat :=
  let arg1 : BitVec 32 := BitVec.ofNat 32 (i 1).val
  let v8 : Index := Scalar.indexCast arg1
  ![v8.toNat]
def k0_cond1 (i : grid0.Coords) (v0 : BitVec 32) : BitVec 1 :=
  let arg1 : BitVec 32 := BitVec.ofNat 32 (i 1).val
  let v1 : BitVec 1 := Scalar.cmpi .slt arg1 v0
  let v2 : BitVec 32 := Scalar.extui v1
  let c0_i32 : BitVec 32 := 0#32
  let v3 : BitVec 1 := Scalar.cmpi .ne v2 c0_i32
  v3

def k0_cond3 (i : grid0.Coords) (v4 : BitVec 32) : BitVec 1 :=
  let arg1 : BitVec 32 := BitVec.ofNat 32 (i 1).val
  let v5 : BitVec 1 := Scalar.cmpi .sge arg1 v4
  let v6 : BitVec 32 := Scalar.extui v5
  let c0_i32_1 : BitVec 32 := 0#32
  let v7 : BitVec 1 := Scalar.cmpi .ne v6 c0_i32_1
  v7

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 2 (Rect.unit (s := S1) ![0] S1.size inb_S1_S1_0) numel1_S1
  let c1_i32 : BitVec 32 := 1#32
  let v1 : BitVec 32 := Scalar.subi v0 c1_i32
  let v2 : BitVec 32 := Scalar.minsi arg1 v1
  let c0_i32 : BitVec 32 := 0#32
  let c0_i32_0 : BitVec 32 := 0#32
  ![v2.toNat, c0_i32.toNat]

def cc0_transform_1 (k0_off1_inb : ∀ i : grid0.Coords, ∀ a, (k0_off1 i) a + S1.size a ≤ S25.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S25) ![v0.toNat] S1.size (k0_off1_inb i)) numel1_S1
  let c0_i32 : BitVec 32 := 0#32
  let c0_i32_0 : BitVec 32 := 0#32
  let c0_i32_1 : BitVec 32 := 0#32
  ![c0_i32.toNat, v1.toNat, c0_i32_0.toNat, arg0.toNat]

def cc0_transform_2 (k0_off1_inb : ∀ i : grid0.Coords, ∀ a, (k0_off1 i) a + S1.size a ≤ S25.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S25) ![v0.toNat] S1.size (k0_off1_inb i)) numel1_S1
  let c0_i32 : BitVec 32 := 0#32
  let c0_i32_0 : BitVec 32 := 0#32
  let c0_i32_1 : BitVec 32 := 0#32
  ![c0_i32.toNat, v1.toNat, c0_i32_0.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1x2048x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== RefMoeUpIdeal.lean ====
abbrev S25600x2048 : Shape := ⟨2, ![25600, 2048]⟩
abbrev S2x8x2048x2816 : Shape := ⟨4, ![2, 8, 2048, 2816]⟩
abbrev S25 : Shape := ⟨1, ![25]⟩
abbrev S1 : Shape := ⟨1, ![1]⟩
abbrev S25x1 : Shape := ⟨2, ![25, 1]⟩
abbrev S25x1024 : Shape := ⟨2, ![25, 1024]⟩
abbrev S25600x1 : Shape := ⟨2, ![25600, 1]⟩
abbrev S_ : Shape := ⟨0, ![]⟩
abbrev S25600x2816 : Shape := ⟨2, ![25600, 2816]⟩
abbrev S1x1x2048x2816 : Shape := ⟨4, ![1, 1, 2048, 2816]⟩
abbrev S2048x2816 : Shape := ⟨2, ![2048, 2816]⟩

abbrev nBuf : Space → Nat
  | .hbm => 191
  | .vmem => 0
  | .smem => 0
  | _ => 0

abbrev hbmTy0_0 (i : Nat) : BufTy := match i % 128 with
  | 0 => ⟨S25600x2048, .f32⟩
  | 1 => ⟨S2x8x2048x2816, .f32⟩
  | 2 => ⟨S2x8x2048x2816, .f32⟩
  | 3 => ⟨S25, .i32⟩
  | 4 => ⟨S1, .i32⟩
  | 5 => ⟨S25x1, .i32⟩
  | 6 => ⟨S25x1024, .i32⟩
  | 7 => ⟨S25600x1, .i32⟩
  | 8 => ⟨S_, .f32⟩
  | 9 => ⟨S25600x2816, .f32⟩
  | 10 => ⟨S_, .i32⟩
  | 11 => ⟨S25600x1, .i32⟩
  | 12 => ⟨S25600x1, .i1⟩
  | 13 => ⟨S1x1x2048x2816, .f32⟩
  | 14 => ⟨S2048x2816, .f32⟩
  | 15 => ⟨S25600x2816, .f32⟩
  | 16 => ⟨S25600x2816, .f32⟩
  | 17 => ⟨S25600x2816, .f32⟩
  | 18 => ⟨S_, .f32⟩
  | 19 => ⟨S25600x2816, .f32⟩
  | 20 => ⟨S25600x2816, .f32⟩
  | 21 => ⟨S_, .f32⟩
  | 22 => ⟨S25600x2816, .f32⟩
  | 23 => ⟨S25600x2816, .f32⟩
  | 24 => ⟨S25600x2816, .f32⟩
  | 25 => ⟨S1x1x2048x2816, .f32⟩
  | 26 => ⟨S2048x2816, .f32⟩
  | 27 => ⟨S25600x2816, .f32⟩
  | 28 => ⟨S25600x2816, .f32⟩
  | 29 => ⟨S25600x2816, .i1⟩
  | 30 => ⟨S25600x2816, .f32⟩
  | 31 => ⟨S_, .i32⟩
  | 32 => ⟨S25600x1, .i32⟩
  | 33 => ⟨S25600x1, .i1⟩
  | 34 => ⟨S1x1x2048x2816, .f32⟩
  | 35 => ⟨S2048x2816, .f32⟩
  | 36 => ⟨S25600x2816, .f32⟩
  | 37 => ⟨S25600x2816, .f32⟩
  | 38 => ⟨S25600x2816, .f32⟩
  | 39 => ⟨S_, .f32⟩
  | 40 => ⟨S25600x2816, .f32⟩
  | 41 => ⟨S25600x2816, .f32⟩
  | 42 => ⟨S_, .f32⟩
  | 43 => ⟨S25600x2816, .f32⟩
  | 44 => ⟨S25600x2816, .f32⟩
  | 45 => ⟨S25600x2816, .f32⟩
  | 46 => ⟨S1x1x2048x2816, .f32⟩
  | 47 => ⟨S2048x2816, .f32⟩
  | 48 => ⟨S25600x2816, .f32⟩
  | 49 => ⟨S25600x2816, .f32⟩
  | 50 => ⟨S25600x2816, .i1⟩
  | 51 => ⟨S25600x2816, .f32⟩
  | 52 => ⟨S_, .i32⟩
  | 53 => ⟨S25600x1, .i32⟩
  | 54 => ⟨S25600x1, .i1⟩
  | 55 => ⟨S1x1x2048x2816, .f32⟩
  | 56 => ⟨S2048x2816, .f32⟩
  | 57 => ⟨S25600x2816, .f32⟩
  | 58 => ⟨S25600x2816, .f32⟩
  | 59 => ⟨S25600x2816, .f32⟩
  | 60 => ⟨S_, .f32⟩
  | 61 => ⟨S25600x2816, .f32⟩
  | 62 => ⟨S25600x2816, .f32⟩
  | 63 => ⟨S_, .f32⟩
  | 64 => ⟨S25600x2816, .f32⟩
  | 65 => ⟨S25600x2816, .f32⟩
  | 66 => ⟨S25600x2816, .f32⟩
  | 67 => ⟨S1x1x2048x2816, .f32⟩
  | 68 => ⟨S2048x2816, .f32⟩
  | 69 => ⟨S25600x2816, .f32⟩
  | 70 => ⟨S25600x2816, .f32⟩
  | 71 => ⟨S25600x2816, .i1⟩
  | 72 => ⟨S25600x2816, .f32⟩
  | 73 => ⟨S_, .i32⟩
  | 74 => ⟨S25600x1, .i32⟩
  | 75 => ⟨S25600x1, .i1⟩
  | 76 => ⟨S1x1x2048x2816, .f32⟩
  | 77 => ⟨S2048x2816, .f32⟩
  | 78 => ⟨S25600x2816, .f32⟩
  | 79 => ⟨S25600x2816, .f32⟩
  | 80 => ⟨S25600x2816, .f32⟩
  | 81 => ⟨S_, .f32⟩
  | 82 => ⟨S25600x2816, .f32⟩
  | 83 => ⟨S25600x2816, .f32⟩
  | 84 => ⟨S_, .f32⟩
  | 85 => ⟨S25600x2816, .f32⟩
  | 86 => ⟨S25600x2816, .f32⟩
  | 87 => ⟨S25600x2816, .f32⟩
  | 88 => ⟨S1x1x2048x2816, .f32⟩
  | 89 => ⟨S2048x2816, .f32⟩
  | 90 => ⟨S25600x2816, .f32⟩
  | 91 => ⟨S25600x2816, .f32⟩
  | 92 => ⟨S25600x2816, .i1⟩
  | 93 => ⟨S25600x2816, .f32⟩
  | 94 => ⟨S_, .i32⟩
  | 95 => ⟨S25600x1, .i32⟩
  | 96 => ⟨S25600x1, .i1⟩
  | 97 => ⟨S1x1x2048x2816, .f32⟩
  | 98 => ⟨S2048x2816, .f32⟩
  | 99 => ⟨S25600x2816, .f32⟩
  | 100 => ⟨S25600x2816, .f32⟩
  | 101 => ⟨S25600x2816, .f32⟩
  | 102 => ⟨S_, .f32⟩
  | 103 => ⟨S25600x2816, .f32⟩
  | 104 => ⟨S25600x2816, .f32⟩
  | 105 => ⟨S_, .f32⟩
  | 106 => ⟨S25600x2816, .f32⟩
  | 107 => ⟨S25600x2816, .f32⟩
  | 108 => ⟨S25600x2816, .f32⟩
  | 109 => ⟨S1x1x2048x2816, .f32⟩
  | 110 => ⟨S2048x2816, .f32⟩
  | 111 => ⟨S25600x2816, .f32⟩
  | 112 => ⟨S25600x2816, .f32⟩
  | 113 => ⟨S25600x2816, .i1⟩
  | 114 => ⟨S25600x2816, .f32⟩
  | 115 => ⟨S_, .i32⟩
  | 116 => ⟨S25600x1, .i32⟩
  | 117 => ⟨S25600x1, .i1⟩
  | 118 => ⟨S1x1x2048x2816, .f32⟩
  | 119 => ⟨S2048x2816, .f32⟩
  | 120 => ⟨S25600x2816, .f32⟩
  | 121 => ⟨S25600x2816, .f32⟩
  | 122 => ⟨S25600x2816, .f32⟩
  | 123 => ⟨S_, .f32⟩
  | 124 => ⟨S25600x2816, .f32⟩
  | 125 => ⟨S25600x2816, .f32⟩
  | 126 => ⟨S_, .f32⟩
  | 127 => ⟨S25600x2816, .f32⟩
  | _ => ⟨S25600x2048, .f32⟩

abbrev hbmTy0_1 (i : Nat) : BufTy := match i % 128 with
  | 0 => ⟨S25600x2816, .f32⟩
  | 1 => ⟨S25600x2816, .f32⟩
  | 2 => ⟨S1x1x2048x2816, .f32⟩
  | 3 => ⟨S2048x2816, .f32⟩
  | 4 => ⟨S25600x2816, .f32⟩
  | 5 => ⟨S25600x2816, .f32⟩
  | 6 => ⟨S25600x2816, .i1⟩
  | 7 => ⟨S25600x2816, .f32⟩
  | 8 => ⟨S_, .i32⟩
  | 9 => ⟨S25600x1, .i32⟩
  | 10 => ⟨S25600x1, .i1⟩
  | 11 => ⟨S1x1x2048x2816, .f32⟩
  | 12 => ⟨S2048x2816, .f32⟩
  | 13 => ⟨S25600x2816, .f32⟩
  | 14 => ⟨S25600x2816, .f32⟩
  | 15 => ⟨S25600x2816, .f32⟩
  | 16 => ⟨S_, .f32⟩
  | 17 => ⟨S25600x2816, .f32⟩
  | 18 => ⟨S25600x2816, .f32⟩
  | 19 => ⟨S_, .f32⟩
  | 20 => ⟨S25600x2816, .f32⟩
  | 21 => ⟨S25600x2816, .f32⟩
  | 22 => ⟨S25600x2816, .f32⟩
  | 23 => ⟨S1x1x2048x2816, .f32⟩
  | 24 => ⟨S2048x2816, .f32⟩
  | 25 => ⟨S25600x2816, .f32⟩
  | 26 => ⟨S25600x2816, .f32⟩
  | 27 => ⟨S25600x2816, .i1⟩
  | 28 => ⟨S25600x2816, .f32⟩
  | 29 => ⟨S_, .i32⟩
  | 30 => ⟨S25600x1, .i32⟩
  | 31 => ⟨S25600x1, .i1⟩
  | 32 => ⟨S1x1x2048x2816, .f32⟩
  | 33 => ⟨S2048x2816, .f32⟩
  | 34 => ⟨S25600x2816, .f32⟩
  | 35 => ⟨S25600x2816, .f32⟩
  | 36 => ⟨S25600x2816, .f32⟩
  | 37 => ⟨S_, .f32⟩
  | 38 => ⟨S25600x2816, .f32⟩
  | 39 => ⟨S25600x2816, .f32⟩
  | 40 => ⟨S_, .f32⟩
  | 41 => ⟨S25600x2816, .f32⟩
  | 42 => ⟨S25600x2816, .f32⟩
  | 43 => ⟨S25600x2816, .f32⟩
  | 44 => ⟨S1x1x2048x2816, .f32⟩
  | 45 => ⟨S2048x2816, .f32⟩
  | 46 => ⟨S25600x2816, .f32⟩
  | 47 => ⟨S25600x2816, .f32⟩
  | 48 => ⟨S25600x2816, .i1⟩
  | 49 => ⟨S25600x2816, .f32⟩
  | 50 => ⟨S25, .i32⟩
  | 51 => ⟨S_, .i32⟩
  | 52 => ⟨S25, .i32⟩
  | 53 => ⟨S25, .i1⟩
  | 54 => ⟨S25x1, .i1⟩
  | 55 => ⟨S25x1024, .i1⟩
  | 56 => ⟨S25600x1, .i1⟩
  | 57 => ⟨S_, .f32⟩
  | 58 => ⟨S_, .f32⟩
  | 59 => ⟨S25600x2816, .i1⟩
  | 60 => ⟨S25600x2816, .f32⟩
  | 61 => ⟨S25600x2816, .f32⟩
  | 62 => ⟨S25600x2816, .bf16⟩
  | _ => ⟨S25600x2048, .f32⟩

abbrev hbmTy (i : Nat) : BufTy := match i / 128 with
  | 0 => hbmTy0_0 i
  | 1 => hbmTy0_1 i
  | _ => ⟨S25600x2048, .f32⟩

abbrev bufTy : (tb : Table) → Fin (tcTables nBuf tb) → BufTy
  | .hbm, ⟨i, _⟩ => hbmTy i
  | _, _ => ⟨S25600x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_c : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_call0_v0 : Ref sig .tc := ⟨.hbm, 16, rfl⟩
abbrev main_call0_v1 : Ref sig .tc := ⟨.hbm, 17, rfl⟩
abbrev main_call0_cst : Ref sig .tc := ⟨.hbm, 18, rfl⟩
abbrev main_call0_v2 : Ref sig .tc := ⟨.hbm, 19, rfl⟩
abbrev main_call0_v3 : Ref sig .tc := ⟨.hbm, 20, rfl⟩
abbrev main_call0_cst_0 : Ref sig .tc := ⟨.hbm, 21, rfl⟩
abbrev main_call0_v4 : Ref sig .tc := ⟨.hbm, 22, rfl⟩
abbrev main_call0_v5 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_call1_v0 : Ref sig .tc := ⟨.hbm, 29, rfl⟩
abbrev main_v14 : Ref sig .tc := ⟨.hbm, 30, rfl⟩
abbrev main_c_0 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_call2_v0 : Ref sig .tc := ⟨.hbm, 37, rfl⟩
abbrev main_call2_v1 : Ref sig .tc := ⟨.hbm, 38, rfl⟩
abbrev main_call2_cst : Ref sig .tc := ⟨.hbm, 39, rfl⟩
abbrev main_call2_v2 : Ref sig .tc := ⟨.hbm, 40, rfl⟩
abbrev main_call2_v3 : Ref sig .tc := ⟨.hbm, 41, rfl⟩
abbrev main_call2_cst_0 : Ref sig .tc := ⟨.hbm, 42, rfl⟩
abbrev main_call2_v4 : Ref sig .tc := ⟨.hbm, 43, rfl⟩
abbrev main_call2_v5 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_call3_v0 : Ref sig .tc := ⟨.hbm, 50, rfl⟩
abbrev main_v25 : Ref sig .tc := ⟨.hbm, 51, rfl⟩
abbrev main_c_1 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_call4_v0 : Ref sig .tc := ⟨.hbm, 58, rfl⟩
abbrev main_call4_v1 : Ref sig .tc := ⟨.hbm, 59, rfl⟩
abbrev main_call4_cst : Ref sig .tc := ⟨.hbm, 60, rfl⟩
abbrev main_call4_v2 : Ref sig .tc := ⟨.hbm, 61, rfl⟩
abbrev main_call4_v3 : Ref sig .tc := ⟨.hbm, 62, rfl⟩
abbrev main_call4_cst_0 : Ref sig .tc := ⟨.hbm, 63, rfl⟩
abbrev main_call4_v4 : Ref sig .tc := ⟨.hbm, 64, rfl⟩
abbrev main_call4_v5 : Ref sig .tc := ⟨.hbm, 65, rfl⟩
abbrev main_v31 : Ref sig .tc := ⟨.hbm, 66, rfl⟩
abbrev main_v32 : Ref sig .tc := ⟨.hbm, 67, rfl⟩
abbrev main_v33 : Ref sig .tc := ⟨.hbm, 68, rfl⟩
abbrev main_v34 : Ref sig .tc := ⟨.hbm, 69, rfl⟩
abbrev main_v35 : Ref sig .tc := ⟨.hbm, 70, rfl⟩
abbrev main_call5_v0 : Ref sig .tc := ⟨.hbm, 71, rfl⟩
abbrev main_v36 : Ref sig .tc := ⟨.hbm, 72, rfl⟩
abbrev main_c_2 : Ref sig .tc := ⟨.hbm, 73, rfl⟩
abbrev main_v37 : Ref sig .tc := ⟨.hbm, 74, rfl⟩
abbrev main_v38 : Ref sig .tc := ⟨.hbm, 75, rfl⟩
abbrev main_v39 : Ref sig .tc := ⟨.hbm, 76, rfl⟩
abbrev main_v40 : Ref sig .tc := ⟨.hbm, 77, rfl⟩
abbrev main_v41 : Ref sig .tc := ⟨.hbm, 78, rfl⟩
abbrev main_call6_v0 : Ref sig .tc := ⟨.hbm, 79, rfl⟩
abbrev main_call6_v1 : Ref sig .tc := ⟨.hbm, 80, rfl⟩
abbrev main_call6_cst : Ref sig .tc := ⟨.hbm, 81, rfl⟩
abbrev main_call6_v2 : Ref sig .tc := ⟨.hbm, 82, rfl⟩
abbrev main_call6_v3 : Ref sig .tc := ⟨.hbm, 83, rfl⟩
abbrev main_call6_cst_0 : Ref sig .tc := ⟨.hbm, 84, rfl⟩
abbrev main_call6_v4 : Ref sig .tc := ⟨.hbm, 85, rfl⟩
abbrev main_call6_v5 : Ref sig .tc := ⟨.hbm, 86, rfl⟩
abbrev main_v42 : Ref sig .tc := ⟨.hbm, 87, rfl⟩
abbrev main_v43 : Ref sig .tc := ⟨.hbm, 88, rfl⟩
abbrev main_v44 : Ref sig .tc := ⟨.hbm, 89, rfl⟩
abbrev main_v45 : Ref sig .tc := ⟨.hbm, 90, rfl⟩
abbrev main_v46 : Ref sig .tc := ⟨.hbm, 91, rfl⟩
abbrev main_call7_v0 : Ref sig .tc := ⟨.hbm, 92, rfl⟩
abbrev main_v47 : Ref sig .tc := ⟨.hbm, 93, rfl⟩
abbrev main_c_3 : Ref sig .tc := ⟨.hbm, 94, rfl⟩
abbrev main_v48 : Ref sig .tc := ⟨.hbm, 95, rfl⟩
abbrev main_v49 : Ref sig .tc := ⟨.hbm, 96, rfl⟩
abbrev main_v50 : Ref sig .tc := ⟨.hbm, 97, rfl⟩
abbrev main_v51 : Ref sig .tc := ⟨.hbm, 98, rfl⟩
abbrev main_v52 : Ref sig .tc := ⟨.hbm, 99, rfl⟩
abbrev main_call8_v0 : Ref sig .tc := ⟨.hbm, 100, rfl⟩
abbrev main_call8_v1 : Ref sig .tc := ⟨.hbm, 101, rfl⟩
abbrev main_call8_cst : Ref sig .tc := ⟨.hbm, 102, rfl⟩
abbrev main_call8_v2 : Ref sig .tc := ⟨.hbm, 103, rfl⟩
abbrev main_call8_v3 : Ref sig .tc := ⟨.hbm, 104, rfl⟩
abbrev main_call8_cst_0 : Ref sig .tc := ⟨.hbm, 105, rfl⟩
abbrev main_call8_v4 : Ref sig .tc := ⟨.hbm, 106, rfl⟩
abbrev main_call8_v5 : Ref sig .tc := ⟨.hbm, 107, rfl⟩
abbrev main_v53 : Ref sig .tc := ⟨.hbm, 108, rfl⟩
abbrev main_v54 : Ref sig .tc := ⟨.hbm, 109, rfl⟩
abbrev main_v55 : Ref sig .tc := ⟨.hbm, 110, rfl⟩
abbrev main_v56 : Ref sig .tc := ⟨.hbm, 111, rfl⟩
abbrev main_v57 : Ref sig .tc := ⟨.hbm, 112, rfl⟩
abbrev main_call9_v0 : Ref sig .tc := ⟨.hbm, 113, rfl⟩
abbrev main_v58 : Ref sig .tc := ⟨.hbm, 114, rfl⟩
abbrev main_c_4 : Ref sig .tc := ⟨.hbm, 115, rfl⟩
abbrev main_v59 : Ref sig .tc := ⟨.hbm, 116, rfl⟩
abbrev main_v60 : Ref sig .tc := ⟨.hbm, 117, rfl⟩
abbrev main_v61 : Ref sig .tc := ⟨.hbm, 118, rfl⟩
abbrev main_v62 : Ref sig .tc := ⟨.hbm, 119, rfl⟩
abbrev main_v63 : Ref sig .tc := ⟨.hbm, 120, rfl⟩
abbrev main_call10_v0 : Ref sig .tc := ⟨.hbm, 121, rfl⟩
abbrev main_call10_v1 : Ref sig .tc := ⟨.hbm, 122, rfl⟩
abbrev main_call10_cst : Ref sig .tc := ⟨.hbm, 123, rfl⟩
abbrev main_call10_v2 : Ref sig .tc := ⟨.hbm, 124, rfl⟩
abbrev main_call10_v3 : Ref sig .tc := ⟨.hbm, 125, rfl⟩
abbrev main_call10_cst_0 : Ref sig .tc := ⟨.hbm, 126, rfl⟩
abbrev main_call10_v4 : Ref sig .tc := ⟨.hbm, 127, rfl⟩
abbrev main_call10_v5 : Ref sig .tc := ⟨.hbm, 128, rfl⟩
abbrev main_v64 : Ref sig .tc := ⟨.hbm, 129, rfl⟩
abbrev main_v65 : Ref sig .tc := ⟨.hbm, 130, rfl⟩
abbrev main_v66 : Ref sig .tc := ⟨.hbm, 131, rfl⟩
abbrev main_v67 : Ref sig .tc := ⟨.hbm, 132, rfl⟩
abbrev main_v68 : Ref sig .tc := ⟨.hbm, 133, rfl⟩
abbrev main_call11_v0 : Ref sig .tc := ⟨.hbm, 134, rfl⟩
abbrev main_v69 : Ref sig .tc := ⟨.hbm, 135, rfl⟩
abbrev main_c_5 : Ref sig .tc := ⟨.hbm, 136, rfl⟩
abbrev main_v70 : Ref sig .tc := ⟨.hbm, 137, rfl⟩
abbrev main_v71 : Ref sig .tc := ⟨.hbm, 138, rfl⟩
abbrev main_v72 : Ref sig .tc := ⟨.hbm, 139, rfl⟩
abbrev main_v73 : Ref sig .tc := ⟨.hbm, 140, rfl⟩
abbrev main_v74 : Ref sig .tc := ⟨.hbm, 141, rfl⟩
abbrev main_call12_v0 : Ref sig .tc := ⟨.hbm, 142, rfl⟩
abbrev main_call12_v1 : Ref sig .tc := ⟨.hbm, 143, rfl⟩
abbrev main_call12_cst : Ref sig .tc := ⟨.hbm, 144, rfl⟩
abbrev main_call12_v2 : Ref sig .tc := ⟨.hbm, 145, rfl⟩
abbrev main_call12_v3 : Ref sig .tc := ⟨.hbm, 146, rfl⟩
abbrev main_call12_cst_0 : Ref sig .tc := ⟨.hbm, 147, rfl⟩
abbrev main_call12_v4 : Ref sig .tc := ⟨.hbm, 148, rfl⟩
abbrev main_call12_v5 : Ref sig .tc := ⟨.hbm, 149, rfl⟩
abbrev main_v75 : Ref sig .tc := ⟨.hbm, 150, rfl⟩
abbrev main_v76 : Ref sig .tc := ⟨.hbm, 151, rfl⟩
abbrev main_v77 : Ref sig .tc := ⟨.hbm, 152, rfl⟩
abbrev main_v78 : Ref sig .tc := ⟨.hbm, 153, rfl⟩
abbrev main_v79 : Ref sig .tc := ⟨.hbm, 154, rfl⟩
abbrev main_call13_v0 : Ref sig .tc := ⟨.hbm, 155, rfl⟩
abbrev main_v80 : Ref sig .tc := ⟨.hbm, 156, rfl⟩
abbrev main_c_6 : Ref sig .tc := ⟨.hbm, 157, rfl⟩
abbrev main_v81 : Ref sig .tc := ⟨.hbm, 158, rfl⟩
abbrev main_v82 : Ref sig .tc := ⟨.hbm, 159, rfl⟩
abbrev main_v83 : Ref sig .tc := ⟨.hbm, 160, rfl⟩
abbrev main_v84 : Ref sig .tc := ⟨.hbm, 161, rfl⟩
abbrev main_v85 : Ref sig .tc := ⟨.hbm, 162, rfl⟩
abbrev main_call14_v0 : Ref sig .tc := ⟨.hbm, 163, rfl⟩
abbrev main_call14_v1 : Ref sig .tc := ⟨.hbm, 164, rfl⟩
abbrev main_call14_cst : Ref sig .tc := ⟨.hbm, 165, rfl⟩
abbrev main_call14_v2 : Ref sig .tc := ⟨.hbm, 166, rfl⟩
abbrev main_call14_v3 : Ref sig .tc := ⟨.hbm, 167, rfl⟩
abbrev main_call14_cst_0 : Ref sig .tc := ⟨.hbm, 168, rfl⟩
abbrev main_call14_v4 : Ref sig .tc := ⟨.hbm, 169, rfl⟩
abbrev main_call14_v5 : Ref sig .tc := ⟨.hbm, 170, rfl⟩
abbrev main_v86 : Ref sig .tc := ⟨.hbm, 171, rfl⟩
abbrev main_v87 : Ref sig .tc := ⟨.hbm, 172, rfl⟩
abbrev main_v88 : Ref sig .tc := ⟨.hbm, 173, rfl⟩
abbrev main_v89 : Ref sig .tc := ⟨.hbm, 174, rfl⟩
abbrev main_v90 : Ref sig .tc := ⟨.hbm, 175, rfl⟩
abbrev main_call15_v0 : Ref sig .tc := ⟨.hbm, 176, rfl⟩
abbrev main_v91 : Ref sig .tc := ⟨.hbm, 177, rfl⟩
abbrev main_v92 : Ref sig .tc := ⟨.hbm, 178, rfl⟩
abbrev main_v93 : Ref sig .tc := ⟨.hbm, 179, rfl⟩
abbrev main_v94 : Ref sig .tc := ⟨.hbm, 180, rfl⟩
abbrev main_v95 : Ref sig .tc := ⟨.hbm, 181, rfl⟩
abbrev main_v96 : Ref sig .tc := ⟨.hbm, 182, rfl⟩
abbrev main_v97 : Ref sig .tc := ⟨.hbm, 183, rfl⟩
abbrev main_v98 : Ref sig .tc := ⟨.hbm, 184, rfl⟩
abbrev main_cst_7 : Ref sig .tc := ⟨.hbm, 185, rfl⟩
abbrev main_call16_v0 : Ref sig .tc := ⟨.hbm, 186, rfl⟩
abbrev main_call16_v1 : Ref sig .tc := ⟨.hbm, 187, rfl⟩
abbrev main_call16_v2 : Ref sig .tc := ⟨.hbm, 188, rfl⟩
abbrev main_v99 : Ref sig .tc := ⟨.hbm, 189, rfl⟩
abbrev main_v100 : Ref sig .tc := ⟨.hbm, 190, rfl⟩

abbrev nD : Nat := 1
abbrev τ : Topo := Topo.v7x

variable {F : FTy → Type} [FloatOps F]
-- ==== MoeDown.lean ====
abbrev S25600x2816 : Shape := ⟨2, ![25600, 2816]⟩
abbrev S2x8x2816x2048 : Shape := ⟨4, ![2, 8, 2816, 2048]⟩
abbrev S25600x1 : Shape := ⟨2, ![25600, 1]⟩
abbrev S25 : Shape := ⟨1, ![25]⟩
abbrev S1 : Shape := ⟨1, ![1]⟩
abbrev S_ : Shape := ⟨0, ![]⟩
abbrev S24 : Shape := ⟨1, ![24]⟩
abbrev S25x1 : Shape := ⟨2, ![25, 1]⟩
abbrev S25600x2048 : Shape := ⟨2, ![25600, 2048]⟩
abbrev S1024x2816 : Shape := ⟨2, ![1024, 2816]⟩
abbrev S1x1x2816x512 : Shape := ⟨4, ![1, 1, 2816, 512]⟩
abbrev S1024x1 : Shape := ⟨2, ![1024, 1]⟩
abbrev S1024x512 : Shape := ⟨2, ![1024, 512]⟩
abbrev S2816x512 : Shape := ⟨2, ![2816, 512]⟩

abbrev nBuf : Space → Nat
  | .hbm => 26
  | .vmem => 9
  | .smem => 3
  | _ => 0

abbrev bufTy : (tb : Table) → Fin (tcTables nBuf tb) → BufTy
  | .hbm, ⟨0, _⟩ => ⟨S25600x2816, .f32⟩
  | .hbm, ⟨1, _⟩ => ⟨S2x8x2816x2048, .f32⟩
  | .hbm, ⟨2, _⟩ => ⟨S25600x1, .f32⟩
  | .hbm, ⟨3, _⟩ => ⟨S25, .i32⟩
  | .hbm, ⟨4, _⟩ => ⟨S_, .i32⟩
  | .hbm, ⟨5, _⟩ => ⟨S1, .i32⟩
  | .hbm, ⟨6, _⟩ => ⟨S24, .i32⟩
  | .hbm, ⟨7, _⟩ => ⟨S24, .i32⟩
  | .hbm, ⟨8, _⟩ => ⟨S24, .i1⟩
  | .hbm, ⟨9, _⟩ => ⟨S24, .i32⟩
  | .hbm, ⟨10, _⟩ => ⟨S25, .i32⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S25, .i32⟩
  | .hbm, ⟨15, _⟩ => ⟨S25, .i32⟩
  | .hbm, ⟨16, _⟩ => ⟨S_, .i32⟩
  | .hbm, ⟨17, _⟩ => ⟨S25, .i32⟩
  | .hbm, ⟨18, _⟩ => ⟨S25, .i1⟩
  | .hbm, ⟨19, _⟩ => ⟨S_, .i32⟩
  | .hbm, ⟨20, _⟩ => ⟨S25, .i32⟩
  | .hbm, ⟨21, _⟩ => ⟨S25, .i32⟩
  | .hbm, ⟨22, _⟩ => ⟨S25, .i32⟩
  | .hbm, ⟨23, _⟩ => ⟨S25x1, .i32⟩
  | .hbm, ⟨24, _⟩ => ⟨S25600x2816, .bf16⟩
  | .hbm, ⟨25, _⟩ => ⟨S25600x2048, .f32⟩
  | .local _ .vmem, ⟨0, _⟩ => ⟨S1024x2816, .bf16⟩
  | .local _ .vmem, ⟨1, _⟩ => ⟨S1024x2816, .bf16⟩
  | .local _ .vmem, ⟨2, _⟩ => ⟨S1x1x2816x512, .f32⟩
  | .local _ .vmem, ⟨3, _⟩ => ⟨S1x1x2816x512, .f32⟩
  | .local _ .vmem, ⟨4, _⟩ => ⟨S1024x1, .f32⟩
  | .local _ .vmem, ⟨5, _⟩ => ⟨S1024x1, .f32⟩
  | .local _ .vmem, ⟨6, _⟩ => ⟨S1024x512, .f32⟩
  | .local _ .vmem, ⟨7, _⟩ => ⟨S1024x512, .f32⟩
  | .local _ .vmem, ⟨8, _⟩ => ⟨S2816x512, .bf16⟩
  | .local _ .smem, ⟨0, _⟩ => ⟨S25, .i32⟩
  | .local _ .smem, ⟨1, _⟩ => ⟨S25, .i32⟩
  | .local _ .smem, ⟨2, _⟩ => ⟨S1, .i32⟩
  | _, _ => ⟨S25600x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v6 : Ref sig .tc := ⟨.hbm, 10, rfl⟩
abbrev main_v7 : Ref sig .tc := ⟨.hbm, 11, rfl⟩
abbrev main_c_0 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_c_1 : Ref sig .tc := ⟨.hbm, 16, rfl⟩
abbrev main_v11 : Ref sig .tc := ⟨.hbm, 17, rfl⟩
abbrev main_v12 : Ref sig .tc := ⟨.hbm, 18, rfl⟩
abbrev main_c_2 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v18 : Ref sig .tc := ⟨.hbm, 24, rfl⟩
abbrev main_v19 : Ref sig .tc := ⟨.hbm, 25, rfl⟩
abbrev main_v17 : Ref sig .tc := ⟨.smem, 0, rfl⟩
abbrev main_v5 : Ref sig .tc := ⟨.smem, 1, rfl⟩
abbrev main_arg4 : Ref sig .tc := ⟨.smem, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 25], ![false, false]⟩

abbrev pre0 : Pipeline.Prefetch sig := ⟨3, ![main_v17.idx, main_v5.idx, main_arg4.idx], fun | 0 => main_v17.names | 1 => main_v5.names | 2 => main_arg4.names | ⟨_ + 3, h⟩ => absurd h (Nat.not_lt.2 (Nat.le_add_left _ _)), fun | 0 => rfl | 1 => rfl | 2 => rfl | ⟨_ + 3, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def k0_off2 (i : grid0.Coords) : Fin 1 → Nat :=
  let arg1 : BitVec 32 := BitVec.ofNat 32 (i 1).val
  let v8 : Index := Scalar.indexCast arg1
  ![v8.toNat]
def k0_cond1 (i : grid0.Coords) (v0 : BitVec 32) : BitVec 1 :=
  let arg1 : BitVec 32 := BitVec.ofNat 32 (i 1).val
  let v1 : BitVec 1 := Scalar.cmpi .slt arg1 v0
  let v2 : BitVec 32 := Scalar.extui v1
  let c0_i32 : BitVec 32 := 0#32
  let v3 : BitVec 1 := Scalar.cmpi .ne v2 c0_i32
  v3

def k0_cond3 (i : grid0.Coords) (v4 : BitVec 32) : BitVec 1 :=
  let arg1 : BitVec 32 := BitVec.ofNat 32 (i 1).val
  let v5 : BitVec 1 := Scalar.cmpi .sge arg1 v4
  let v6 : BitVec 32 := Scalar.extui v5
  let c0_i32_1 : BitVec 32 := 0#32
  let v7 : BitVec 1 := Scalar.cmpi .ne v6 c0_i32_1
  v7

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 2 (Rect.unit (s := S1) ![0] S1.size inb_S1_S1_0) numel1_S1
  let c1_i32 : BitVec 32 := 1#32
  let v1 : BitVec 32 := Scalar.subi v0 c1_i32
  let v2 : BitVec 32 := Scalar.minsi arg1 v1
  let c0_i32 : BitVec 32 := 0#32
  let c0_i32_0 : BitVec 32 := 0#32
  ![v2.toNat, c0_i32.toNat]

def cc0_transform_1 (k0_off1_inb : ∀ i : grid0.Coords, ∀ a, (k0_off1 i) a + S1.size a ≤ S25.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S25) ![v0.toNat] S1.size (k0_off1_inb i)) numel1_S1
  let c0_i32 : BitVec 32 := 0#32
  let c0_i32_0 : BitVec 32 := 0#32
  let c0_i32_1 : BitVec 32 := 0#32
  ![c0_i32.toNat, v1.toNat, c0_i32_0.toNat, arg0.toNat]

def cc0_transform_2 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 2 (Rect.unit (s := S1) ![0] S1.size inb_S1_S1_0) numel1_S1
  let c1_i32 : BitVec 32 := 1#32
  let v1 : BitVec 32 := Scalar.subi v0 c1_i32
  let v2 : BitVec 32 := Scalar.minsi arg1 v1
  let c0_i32 : BitVec 32 := 0#32
  let c0_i32_0 : BitVec 32 := 0#32
  ![v2.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1x2816x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== RefMoeDownIdeal.lean ====
abbrev S25600x2816 : Shape := ⟨2, ![25600, 2816]⟩
abbrev S2x8x2816x2048 : Shape := ⟨4, ![2, 8, 2816, 2048]⟩
abbrev S25600x1 : Shape := ⟨2, ![25600, 1]⟩
abbrev S25 : Shape := ⟨1, ![25]⟩
abbrev S1 : Shape := ⟨1, ![1]⟩
abbrev S25x1 : Shape := ⟨2, ![25, 1]⟩
abbrev S25x1024 : Shape := ⟨2, ![25, 1024]⟩
abbrev S_ : Shape := ⟨0, ![]⟩
abbrev S25600x2048 : Shape := ⟨2, ![25600, 2048]⟩
abbrev S1x1x2816x2048 : Shape := ⟨4, ![1, 1, 2816, 2048]⟩
abbrev S2816x2048 : Shape := ⟨2, ![2816, 2048]⟩

abbrev nBuf : Space → Nat
  | .hbm => 102
  | .vmem => 0
  | .smem => 0
  | _ => 0

abbrev bufTy : (tb : Table) → Fin (tcTables nBuf tb) → BufTy
  | .hbm, ⟨0, _⟩ => ⟨S25600x2816, .f32⟩
  | .hbm, ⟨1, _⟩ => ⟨S2x8x2816x2048, .f32⟩
  | .hbm, ⟨2, _⟩ => ⟨S25600x1, .f32⟩
  | .hbm, ⟨3, _⟩ => ⟨S25, .i32⟩
  | .hbm, ⟨4, _⟩ => ⟨S1, .i32⟩
  | .hbm, ⟨5, _⟩ => ⟨S25x1, .i32⟩
  | .hbm, ⟨6, _⟩ => ⟨S25x1024, .i32⟩
  | .hbm, ⟨7, _⟩ => ⟨S25600x1, .i32⟩
  | .hbm, ⟨8, _⟩ => ⟨S_, .f32⟩
  | .hbm, ⟨9, _⟩ => ⟨S25600x2048, .f32⟩
  | .hbm, ⟨10, _⟩ => ⟨S_, .i32⟩
  | .hbm, ⟨11, _⟩ => ⟨S25600x1, .i32⟩
  | .hbm, ⟨12, _⟩ => ⟨S25600x1, .i1⟩
  | .hbm, ⟨13, _⟩ => ⟨S1x1x2816x2048, .f32⟩
  | .hbm, ⟨14, _⟩ => ⟨S2816x2048, .f32⟩
  | .hbm, ⟨15, _⟩ => ⟨S25600x2048, .f32⟩
  | .hbm, ⟨16, _⟩ => ⟨S25600x2048, .f32⟩
  | .hbm, ⟨17, _⟩ => ⟨S25600x2048, .f32⟩
  | .hbm, ⟨18, _⟩ => ⟨S25600x2048, .i1⟩
  | .hbm, ⟨19, _⟩ => ⟨S25600x2048, .f32⟩
  | .hbm, ⟨20, _⟩ => ⟨S_, .i32⟩
  | .hbm, ⟨21, _⟩ => ⟨S25600x1, .i32⟩
  | .hbm, ⟨22, _⟩ => ⟨S25600x1, .i1⟩
  | .hbm, ⟨23, _⟩ => ⟨S1x1x2816x2048, .f32⟩
  | .hbm, ⟨24, _⟩ => ⟨S2816x2048, .f32⟩
  | .hbm, ⟨25, _⟩ => ⟨S25600x2048, .f32⟩
  | .hbm, ⟨26, _⟩ => ⟨S25600x2048, .f32⟩
  | .hbm, ⟨27, _⟩ => ⟨S25600x2048, .f32⟩
  | .hbm, ⟨28, _⟩ => ⟨S25600x2048, .i1⟩
  | .hbm, ⟨29, _⟩ => ⟨S25600x2048, .f32⟩
  | .hbm, ⟨30, _⟩ => ⟨S_, .i32⟩
  | .hbm, ⟨31, _⟩ => ⟨S25600x1, .i32⟩
  | .hbm, ⟨32, _⟩ => ⟨S25600x1, .i1⟩
  | .hbm, ⟨33, _⟩ => ⟨S1x1x2816x2048, .f32⟩
  | .hbm, ⟨34, _⟩ => ⟨S2816x2048, .f32⟩
  | .hbm, ⟨35, _⟩ => ⟨S25600x2048, .f32⟩
  | .hbm, ⟨36, _⟩ => ⟨S25600x2048, .f32⟩
  | .hbm, ⟨37, _⟩ => ⟨S25600x2048, .f32⟩
  | .hbm, ⟨38, _⟩ => ⟨S25600x2048, .i1⟩
  | .hbm, ⟨39, _⟩ => ⟨S25600x2048, .f32⟩
  | .hbm, ⟨40, _⟩ => ⟨S_, .i32⟩
  | .hbm, ⟨41, _⟩ => ⟨S25600x1, .i32⟩
  | .hbm, ⟨42, _⟩ => ⟨S25600x1, .i1⟩
  | .hbm, ⟨43, _⟩ => ⟨S1x1x2816x2048, .f32⟩
  | .hbm, ⟨44, _⟩ => ⟨S2816x2048, .f32⟩
  | .hbm, ⟨45, _⟩ => ⟨S25600x2048, .f32⟩
  | .hbm, ⟨46, _⟩ => ⟨S25600x2048, .f32⟩
  | .hbm, ⟨47, _⟩ => ⟨S25600x2048, .f32⟩
  | .hbm, ⟨48, _⟩ => ⟨S25600x2048, .i1⟩
  | .hbm, ⟨49, _⟩ => ⟨S25600x2048, .f32⟩
  | .hbm, ⟨50, _⟩ => ⟨S_, .i32⟩
  | .hbm, ⟨51, _⟩ => ⟨S25600x1, .i32⟩
  | .hbm, ⟨52, _⟩ => ⟨S25600x1, .i1⟩
  | .hbm, ⟨53, _⟩ => ⟨S1x1x2816x2048, .f32⟩
  | .hbm, ⟨54, _⟩ => ⟨S2816x2048, .f32⟩
  | .hbm, ⟨55, _⟩ => ⟨S25600x2048, .f32⟩
  | .hbm, ⟨56, _⟩ => ⟨S25600x2048, .f32⟩
  | .hbm, ⟨57, _⟩ => ⟨S25600x2048, .f32⟩
  | .hbm, ⟨58, _⟩ => ⟨S25600x2048, .i1⟩
  | .hbm, ⟨59, _⟩ => ⟨S25600x2048, .f32⟩
  | .hbm, ⟨60, _⟩ => ⟨S_, .i32⟩
  | .hbm, ⟨61, _⟩ => ⟨S25600x1, .i32⟩
  | .hbm, ⟨62, _⟩ => ⟨S25600x1, .i1⟩
  | .hbm, ⟨63, _⟩ => ⟨S1x1x2816x2048, .f32⟩
  | .hbm, ⟨64, _⟩ => ⟨S2816x2048, .f32⟩
  | .hbm, ⟨65, _⟩ => ⟨S25600x2048, .f32⟩
  | .hbm, ⟨66, _⟩ => ⟨S25600x2048, .f32⟩
  | .hbm, ⟨67, _⟩ => ⟨S25600x2048, .f32⟩
  | .hbm, ⟨68, _⟩ => ⟨S25600x2048, .i1⟩
  | .hbm, ⟨69, _⟩ => ⟨S25600x2048, .f32⟩
  | .hbm, ⟨70, _⟩ => ⟨S_, .i32⟩
  | .hbm, ⟨71, _⟩ => ⟨S25600x1, .i32⟩
  | .hbm, ⟨72, _⟩ => ⟨S25600x1, .i1⟩
  | .hbm, ⟨73, _⟩ => ⟨S1x1x2816x2048, .f32⟩
  | .hbm, ⟨74, _⟩ => ⟨S2816x2048, .f32⟩
  | .hbm, ⟨75, _⟩ => ⟨S25600x2048, .f32⟩
  | .hbm, ⟨76, _⟩ => ⟨S25600x2048, .f32⟩
  | .hbm, ⟨77, _⟩ => ⟨S25600x2048, .f32⟩
  | .hbm, ⟨78, _⟩ => ⟨S25600x2048, .i1⟩
  | .hbm, ⟨79, _⟩ => ⟨S25600x2048, .f32⟩
  | .hbm, ⟨80, _⟩ => ⟨S_, .i32⟩
  | .hbm, ⟨81, _⟩ => ⟨S25600x1, .i32⟩
  | .hbm, ⟨82, _⟩ => ⟨S25600x1, .i1⟩
  | .hbm, ⟨83, _⟩ => ⟨S1x1x2816x2048, .f32⟩
  | .hbm, ⟨84, _⟩ => ⟨S2816x2048, .f32⟩
  | .hbm, ⟨85, _⟩ => ⟨S25600x2048, .f32⟩
  | .hbm, ⟨86, _⟩ => ⟨S25600x2048, .f32⟩
  | .hbm, ⟨87, _⟩ => ⟨S25600x2048, .f32⟩
  | .hbm, ⟨88, _⟩ => ⟨S25600x2048, .i1⟩
  | .hbm, ⟨89, _⟩ => ⟨S25600x2048, .f32⟩
  | .hbm, ⟨90, _⟩ => ⟨S25, .i32⟩
  | .hbm, ⟨91, _⟩ => ⟨S_, .i32⟩
  | .hbm, ⟨92, _⟩ => ⟨S25, .i32⟩
  | .hbm, ⟨93, _⟩ => ⟨S25, .i1⟩
  | .hbm, ⟨94, _⟩ => ⟨S25x1, .i1⟩
  | .hbm, ⟨95, _⟩ => ⟨S25x1024, .i1⟩
  | .hbm, ⟨96, _⟩ => ⟨S25600x1, .i1⟩
  | .hbm, ⟨97, _⟩ => ⟨S_, .f32⟩
  | .hbm, ⟨98, _⟩ => ⟨S_, .f32⟩
  | .hbm, ⟨99, _⟩ => ⟨S25600x2048, .i1⟩
  | .hbm, ⟨100, _⟩ => ⟨S25600x2048, .f32⟩
  | .hbm, ⟨101, _⟩ => ⟨S25600x2048, .f32⟩
  | _, _ => ⟨S25600x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_c : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_call0_v0 : Ref sig .tc := ⟨.hbm, 18, rfl⟩
abbrev main_v11 : Ref sig .tc := ⟨.hbm, 19, rfl⟩
abbrev main_c_0 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_call1_v0 : Ref sig .tc := ⟨.hbm, 28, rfl⟩
abbrev main_v19 : Ref sig .tc := ⟨.hbm, 29, rfl⟩
abbrev main_c_1 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_call2_v0 : Ref sig .tc := ⟨.hbm, 38, rfl⟩
abbrev main_v27 : Ref sig .tc := ⟨.hbm, 39, rfl⟩
abbrev main_c_2 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_call3_v0 : Ref sig .tc := ⟨.hbm, 48, rfl⟩
abbrev main_v35 : Ref sig .tc := ⟨.hbm, 49, rfl⟩
abbrev main_c_3 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_call4_v0 : Ref sig .tc := ⟨.hbm, 58, rfl⟩
abbrev main_v43 : Ref sig .tc := ⟨.hbm, 59, rfl⟩
abbrev main_c_4 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_call5_v0 : Ref sig .tc := ⟨.hbm, 68, rfl⟩
abbrev main_v51 : Ref sig .tc := ⟨.hbm, 69, rfl⟩
abbrev main_c_5 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_call6_v0 : Ref sig .tc := ⟨.hbm, 78, rfl⟩
abbrev main_v59 : Ref sig .tc := ⟨.hbm, 79, rfl⟩
abbrev main_c_6 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_call7_v0 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_cst_7 : Ref sig .tc := ⟨.hbm, 97, rfl⟩
abbrev main_call8_v0 : Ref sig .tc := ⟨.hbm, 98, rfl⟩
abbrev main_call8_v1 : Ref sig .tc := ⟨.hbm, 99, rfl⟩
abbrev main_call8_v2 : Ref sig .tc := ⟨.hbm, 100, rfl⟩
abbrev main_v75 : Ref sig .tc := ⟨.hbm, 101, rfl⟩

abbrev nD : Nat := 1
abbrev τ : Topo := Topo.v7x

variable {F : FTy → Type} [FloatOps F]
-- ==== Proof.Chain.lean ====
/- One chain of the kernel's body: one pair of heads of one direction, a 128-lane block of the arrays. The same operations
   in the same order, as functions of the loaded blocks. -/
module

public import proofs.«01_k».proof.Proof.Gen.KernelIdeal.Frame.RunB

@[expose] public section

set_option maxRecDepth 16384

noncomputable section

namespace Cert.KernelIdeal.Chain

open Idealize.ShloMosaic Idealize.ShloMosaic.TcCoe
open Cert.KernelIdeal Cert.KernelIdeal.Gen

variable {F : FTy → Type} [FloatOps F]

/-- The lanes of the pair's first head. -/
def lo : IVec S64x128 1 := cmpi .slt (iota .tc S64x128 32 [1] iota_S64x128_d1_w32) (broadcast S64x128 64#32)

/-- A block with its two heads on the diagonal. -/
def bd (x : FVec F S64x128 .bf16) : FVec F S128x128 .bf16 :=
  concatenate S128x128 0 [⟨S64x128, select lo x (broadcast S64x128 (Scalar.ofBits .bf16 0x0000#16))⟩,
    ⟨S64x128, select lo (broadcast S64x128 (Scalar.ofBits .bf16 0x0000#16)) x⟩] concatenates_S64x128_S64x128_S128x128_d0

/-- Two blocks one over the other. -/
def over (x y : FVec F S64x128 .bf16) : FVec F S128x128 .bf16 :=
  concatenate S128x128 0 [⟨S64x128, x⟩, ⟨S64x128, y⟩] concatenates_S64x128_S64x128_S128x128_d0

/-- The products of the two left rows with the rows of `bh` and of `kh`, head by head. -/
def pbk (ah rh bh kh : FVec F S64x128 .bf16) : FVec F S128x256 .f32 :=
  matmul dot_S128x128_S256x128_S128x256_1_1_0_0_n_n none (over ah rh)
    (concatenate S256x128 0 [⟨S128x128, bd bh⟩, ⟨S128x128, bd kh⟩] concatenates_S128x128_S128x128_S256x128_d0)
    (constant S128x256 .f32 0x00000000#32)

/-- The products of the two left rows with the state. -/
def ps (ah rh : FVec F S64x128 .bf16) (s : FVec F S128x128 .f32) : FVec F S128x128 .f32 :=
  matmul dot_S128x128_S128x128_S128x128_1_1_0_0_n_n none (over ah rh) (truncf .bf16 s bitsLt_bf16_f32)
    (constant S128x128 .f32 0x00000000#32)

/-- The masked products with `bh`. -/
def pb (tri : IVec S128x128 1) (z : FVec F S128x256 .f32) : FVec F S128x128 .f32 :=
  select tri (extractStridedSlice S128x128 ![0, 0] z slices_S128x256_o0_0_S128x128)
    (broadcast S128x128 (Scalar.ofBits .f32 0x00000000#32))

/-- The masked products with `kh`. -/
def pk (tri : IVec S128x128 1) (z : FVec F S128x256 .f32) : FVec F S128x128 .f32 :=
  select tri (extractStridedSlice S128x128 ![0, 128] z slices_S128x256_o0_128_S128x128)
    (broadcast S128x128 (Scalar.ofBits .f32 0x00000000#32))

/-- The first 64 rows. -/
def top (z : FVec F S128x128 .f32) : FVec F S64x128 .f32 := extractStridedSlice S64x128 ![0, 0] z slices_S128x128_o0_0_S64x128

/-- The last 64 rows. -/
def bot (z : FVec F S128x128 .f32) : FVec F S64x128 .f32 := extractStridedSlice S64x128 ![64, 0] z slices_S128x128_o64_0_S64x128

/-- A block times a block on the diagonal. -/
def mmB (l : FVec F S64x128 .bf16) (x : FVec F S64x128 .bf16) : FVec F S64x128 .f32 :=
  matmul dot_S64x128_S128x128_S64x128_1_0_0_1_n_n none l (bd x) (constant S64x128 .f32 0x00000000#32)

/-- The right-hand side of the chunk's system. -/
def x0 (zs : FVec F S128x128 .f32) (zk : FVec F S128x128 .f32) (v : FVec F S64x128 .bf16) : FVec F S64x128 .f32 :=
  addf (top zs) (mmB (truncf .bf16 (top zk) bitsLt_bf16_f32) v)

/-- The power `lp` times the partial solution and itself, side by side. -/
def prod (x : FVec F S64x128 .f32) (lp : FVec F S64x128 .bf16) : FVec F S64x256 .f32 :=
  matmul dot_S64x128_S128x256_S64x256_1_0_0_1_n_n none lp
    (concatenate S128x256 1 [⟨S128x128, bd (truncf .bf16 x bitsLt_bf16_f32)⟩, ⟨S128x128, bd lp⟩] concatenates_S128x128_S128x128_S128x256_d1)
    (constant S64x256 .f32 0x00000000#32)

/-- The partial solution after a doubling. -/
def nextX (x : FVec F S64x128 .f32) (lp : FVec F S64x128 .bf16) : FVec F S64x128 .f32 :=
  addf x (extractStridedSlice S64x128 ![0, 0] (prod x lp) slices_S64x256_o0_0_S64x128)

/-- The power after a doubling. -/
def nextL (x : FVec F S64x128 .f32) (lp : FVec F S64x128 .bf16) : FVec F S64x128 .bf16 :=
  truncf .bf16 (extractStridedSlice S64x128 ![0, 128] (prod x lp) slices_S64x256_o0_128_S64x128) bitsLt_bf16_f32

/-- The last doubling, which needs no next power. -/
def lastX (x : FVec F S64x128 .f32) (lp : FVec F S64x128 .bf16) : FVec F S64x128 .f32 :=
  addf x (mmB lp (truncf .bf16 x bitsLt_bf16_f32))

/-- The six doublings. -/
def solve (x0 : FVec F S64x128 .f32) (l0 : FVec F S64x128 .bf16) : FVec F S64x128 .f32 :=
  have x1 := nextX x0 l0
  have l1 := nextL x0 l0
  have x2 := nextX x1 l1
  have l2 := nextL x1 l1
  have x3 := nextX x2 l2
  have l3 := nextL x2 l2
  have x4 := nextX x3 l3
  have l4 := nextL x3 l3
  have x5 := nextX x4 l4
  have l5 := nextL x4 l4
  lastX x5 l5

/-- The chunk's corrections, rounded as the kernel rounds them. -/
def chainU (tri : IVec S128x128 1) (ah rh bh kh v : FVec F S64x128 .bf16) (s : FVec F S128x128 .f32) : FVec F S64x128 .bf16 :=
  truncf .bf16 (solve (x0 (ps ah rh s) (pk tri (pbk ah rh bh kh)) v)
    (truncf .bf16 (top (pb tri (pbk ah rh bh kh))) bitsLt_bf16_f32)) bitsLt_bf16_f32

/-- The outputs from the corrections. -/
def outY (zs zb zk : FVec F S128x128 .f32) (u v : FVec F S64x128 .bf16) : FVec F S64x128 .f32 :=
  addf (bot zs) (matmul dot_S64x256_S256x128_S64x128_1_0_0_1_n_n none
    (truncf .bf16 (concatenate S64x256 1 [⟨S64x128, bot zb⟩, ⟨S64x128, bot zk⟩] concatenates_S64x128_S64x128_S64x256_d1) bitsLt_bf16_f32)
    (concatenate S256x128 0 [⟨S128x128, bd u⟩, ⟨S128x128, bd v⟩] concatenates_S128x128_S128x128_S256x128_d0)
    (constant S64x128 .f32 0x00000000#32))

/-- The chunk's outputs. -/
def chainY (tri : IVec S128x128 1) (ah rh bh kh v : FVec F S64x128 .bf16) (s : FVec F S128x128 .f32) : FVec F S64x128 .f32 :=
  outY (ps ah rh s) (pb tri (pbk ah rh bh kh)) (pk tri (pbk ah rh bh kh)) (chainU tri ah rh bh kh v s) v

/-- The state the chunk leaves. -/
def chainS (tri same : IVec S128x128 1) (ah rh bh kh v bt kt : FVec F S64x128 .bf16) (pt : FVec F S1x128 .f32)
    (s : FVec F S128x128 .f32) : FVec F S128x128 .f32 :=
  addf (mulf s (broadcastTo S128x128 pt broadcasts_S1x128_S128x128))
    (select same (matmul dot_S128x128_S128x128_S128x128_0_0_1_1_n_n none (over (chainU tri ah rh bh kh v s) v) (over bt kt)
      (constant S128x128 .f32 0x00000000#32)) (broadcast S128x128 (Scalar.ofBits .f32 0x00000000#32)))

end Cert.KernelIdeal.Chain
-- ==== Proof.Blocks.lean ====
/- The blocks a chain loads: 128 lanes of a window's block, and one 128 by 128 plane of the state; read at an index. -/
module

public import proofs.«01_k».proof.Proof.Chain
public import proofs.«01_k».proof.Proof.Gen.KernelIdeal.Frame
public import Idealize.ShloMosaic.Lib.Pipeline.Value
public import Idealize.ShloMosaic.Lib.Pipeline.ValueKit.Basic
public import Idealize.ShloMosaic.Lib.Pipeline.ValueKit.Tiles
public import Idealize.ShloMosaic.Lib.Pointwise

@[expose] public section

set_option maxRecDepth 16384

noncomputable section

namespace Cert.KernelIdeal.Chain

open Idealize.ShloMosaic Idealize.ShloMosaic.TcCoe
open Cert.KernelIdeal Cert.KernelIdeal.Gen

variable {F : FTy → Type} [FloatOps F]

/-- Lane `l` of pair `q`. -/
def lane (q : Fin 8) (l : Fin 128) : Fin 1024 := ⟨128 * q.val + l.val, by omega⟩

/-- The 128 lanes of pair `q` of a block with a leading axis of extent 1. -/
def laneBlk (X : Vec F S1x64x1024 .bf16) (q : Fin 8) : FVec F S64x128 .bf16 := fun i => X (ix3 0 (i 0) (lane q (i 1)))

/-- The 128 lanes of pair `q` of a block. -/
def rowBlk (X : Vec F S64x1024 .bf16) (q : Fin 8) : FVec F S64x128 .bf16 := fun i => X (ix2 (i 0) (lane q (i 1)))

/-- The 128 lanes of pair `q` of the chunk's whole decay. -/
def ptBlk (X : Vec F S1x1x1x1024 .f32) (q : Fin 8) : FVec F S1x128 .f32 := fun i => X (ix4 0 0 0 (lane q (i 1)))

/-- The plane of direction `d` and pair `q`. -/
def stBlk (X : Vec F S2x8x128x128 .f32) (d : Fin 2) (q : Fin 8) : FVec F S128x128 .f32 := fun i => X (ix4 d q (i 0) (i 1))

/-- The load of 128 lanes from lane `o` on of a block with a leading axis. -/
abbrev rd3 {arg : Memref sig .tc .vmem S1x64x1024 .bf16} (harg : arg.IsWhole) (X : Vec F S1x64x1024 .bf16) (o : ℕ)
    (inb : ∀ a, (![0, 0, o] : Fin 3 → ℕ) a + S1x64x128.size a ≤ S1x64x1024.size a) : FVec F S64x128 .bf16 :=
  shapeCast S64x128 (View.readAt (Elt F) arg.view (Rect.unit (s := S1x64x1024) ![0, 0, o] S1x64x128.size inb).toLoadRect
    (harg.unread X)) shapeCasts_S1x64x128_S64x128

/-- The load of 128 lanes from lane `o` on of a block. -/
abbrev rd2 {arg : Memref sig .tc .vmem S64x1024 .bf16} (harg : arg.IsWhole) (X : Vec F S64x1024 .bf16) (o : ℕ)
    (inb : ∀ a, (![0, o] : Fin 2 → ℕ) a + S64x128.size a ≤ S64x1024.size a) : FVec F S64x128 .bf16 :=
  shapeCast S64x128 (View.readAt (Elt F) arg.view (Rect.unit (s := S64x1024) ![0, o] S64x128.size inb).toLoadRect
    (harg.unread X)) shapeCasts_S64x128_S64x128

/-- The load of 128 lanes from lane `o` on of the chunk's whole decay. -/
abbrev rd4 {arg : Memref sig .tc .vmem S1x1x1x1024 .f32} (harg : arg.IsWhole) (X : Vec F S1x1x1x1024 .f32) (o : ℕ)
    (inb : ∀ a, (![0, 0, 0, o] : Fin 4 → ℕ) a + S1x1x1x128.size a ≤ S1x1x1x1024.size a) : FVec F S1x128 .f32 :=
  shapeCast S1x128 (View.readAt (Elt F) arg.view (Rect.unit (s := S1x1x1x1024) ![0, 0, 0, o] S1x1x1x128.size inb).toLoadRect
    (harg.unread X)) shapeCasts_S1x1x1x128_S1x128

/-- The load of the state's plane at `d`, `q`. -/
abbrev rdS {arg : Memref sig .tc .vmem S2x8x128x128 .f32} (harg : arg.IsWhole) (X : Vec F S2x8x128x128 .f32) (d q : ℕ)
    (inb : ∀ a, (![d, q, 0, 0] : Fin 4 → ℕ) a + S1x1x128x128.size a ≤ S2x8x128x128.size a) : FVec F S128x128 .f32 :=
  shapeCast S128x128 (View.readAt (Elt F) arg.view (Rect.unit (s := S2x8x128x128) ![d, q, 0, 0] S1x1x128x128.size inb).toLoadRect
    (harg.unread X)) shapeCasts_S1x1x128x128_S128x128

/-- The load of the state's plane at `d`, `q` after the whole state has been stored as zero. -/
abbrev rdZ (arg : Memref sig .tc .vmem S2x8x128x128 .f32) (d q : ℕ)
    (inb : ∀ a, (![d, q, 0, 0] : Fin 4 → ℕ) a + S1x1x128x128.size a ≤ S2x8x128x128.size a) : FVec F S128x128 .f32 :=
  shapeCast S128x128 (arg.view.readCov (Val := Elt F) [⟨Rect.unit ![0, 0, 0, 0] S2x8x128x128.size inb_S2x8x128x128_S2x8x128x128_0_0_0_0, k0_pay3⟩]
    (Rect.unit (s := S2x8x128x128) ![d, q, 0, 0] S1x1x128x128.size inb).toLoadRect) shapeCasts_S1x1x128x128_S128x128

/-- The load of 128 lanes is the pair's block. -/
theorem rd3_eq {arg : Memref sig .tc .vmem S1x64x1024 .bf16} (harg : arg.IsWhole) (X : Vec F S1x64x1024 .bf16) (o : ℕ) (q : Fin 8)
    (ho : o = 128 * q.val) (inb) : rd3 harg X o inb = laneBlk X q := by
  unfold rd3
  rw [View.readAt_eq_ld, harg.read_unread]
  funext i
  obtain ⟨r, l, rfl⟩ : ∃ r l, i = ix2 r l := ⟨_, _, eq_ix2 i⟩
  simp only [pointwise]
  subst ho
  refine congrArg X ?_
  funext a; apply Fin.ext; fin_cases a <;> simp [lane, ix3]

/-- The load of 128 lanes is the pair's block. -/
theorem rd2_eq {arg : Memref sig .tc .vmem S64x1024 .bf16} (harg : arg.IsWhole) (X : Vec F S64x1024 .bf16) (o : ℕ) (q : Fin 8)
    (ho : o = 128 * q.val) (inb) : rd2 harg X o inb = rowBlk X q := by
  unfold rd2
  rw [View.readAt_eq_ld, harg.read_unread]
  funext i
  obtain ⟨r, l, rfl⟩ : ∃ r l, i = ix2 r l := ⟨_, _, eq_ix2 i⟩
  simp only [pointwise]
  subst ho
  refine congrArg X ?_
  funext a; apply Fin.ext; fin_cases a <;> simp [lane, ix2]

/-- The load of 128 lanes is the pair's block. -/
theorem rd4_eq {arg : Memref sig .tc .vmem S1x1x1x1024 .f32} (harg : arg.IsWhole) (X : Vec F S1x1x1x1024 .f32) (o : ℕ) (q : Fin 8)
    (ho : o = 128 * q.val) (inb) : rd4 harg X o inb = ptBlk X q := by
  unfold rd4
  rw [View.readAt_eq_ld, harg.read_unread]
  funext i
  obtain ⟨r, l, rfl⟩ : ∃ r l, i = ix2 r l := ⟨_, _, eq_ix2 i⟩
  simp only [pointwise]
  subst ho
  refine congrArg X ?_
  funext a; apply Fin.ext; fin_cases a <;> simp [lane, ix4]

/-- A plane of the state, read. -/
theorem plane_ld (X : Vec F S2x8x128x128 .f32) (d' q' : ℕ) (d : Fin 2) (q : Fin 8) (hd : d' = d.val) (hq : q' = q.val) (inb) :
    shapeCast S128x128 (View.ld X (Rect.unit (s := S2x8x128x128) ![d', q', 0, 0] S1x1x128x128.size inb)) shapeCasts_S1x1x128x128_S128x128
      = stBlk X d q := by
  funext i
  obtain ⟨r, l, rfl⟩ : ∃ r l, i = ix2 r l := ⟨_, _, eq_ix2 i⟩
  simp only [pointwise]
  subst hd hq
  refine congrArg X ?_
  funext a; apply Fin.ext; fin_cases a <;> simp [ix4]

/-- The load of a plane of the state. -/
theorem rdS_eq {arg : Memref sig .tc .vmem S2x8x128x128 .f32} (harg : arg.IsWhole) (X : Vec F S2x8x128x128 .f32) (d' q' : ℕ) (d : Fin 2)
    (q : Fin 8) (hd : d' = d.val) (hq : q' = q.val) (inb) : rdS harg X d' q' inb = stBlk X d q := by
  unfold rdS
  rw [View.readAt_eq_ld, harg.read_unread]
  exact plane_ld X d' q' d q hd hq inb

/-- The load of a plane of the state just zeroed. -/
theorem rdZ_eq (arg : Memref sig .tc .vmem S2x8x128x128 .f32) (d' q' : ℕ) (d : Fin 2)
    (q : Fin 8) (hd : d' = d.val) (hq : q' = q.val) (inb) : rdZ arg d' q' inb = stBlk (k0_pay3 (F := F)) d q := by
  unfold rdZ
  rw [View.readCov_eq_canon_ld, View.canon_cons_unit_lit _ _ _ (by decide)]
  · exact plane_ld _ d' q' d q hd hq inb
  · exact View.cover_of_wholeMem _ (by sl_whole_mem)

end Cert.KernelIdeal.Chain
-- ==== Proof.Pieces.lean ====
/- What the body stores at a grid point, in closed form: each store is a chain over the blocks its pair loads. -/
module

public import proofs.«01_k».proof.Proof.Blocks

@[expose] public section

set_option maxRecDepth 16384

noncomputable section

namespace Cert.KernelIdeal.Chain

open Idealize.ShloMosaic Idealize.ShloMosaic.TcCoe
open Cert.KernelIdeal Cert.KernelIdeal.Gen

variable {F : FTy → Type} [FloatOps F]

/-- The rows and lanes of one head: the mask of the state. -/
noncomputable def sameHead : IVec S128x128 1 := cmpi .eq kernelRun0_B.sl.v49 kernelRun0_B.sl.v73

/-- The pair a lane belongs to. -/
def pairOf (l : Fin 1024) : Fin 8 := ⟨l.val / 128, by omega⟩

/-- The lane within its pair. -/
def within (l : Fin 1024) : Fin 128 := ⟨l.val % 128, by omega⟩

/-- The outputs of one direction at a grid point. -/
noncomputable def outPoint (tri : IVec S128x128 1) (d : Fin 2) (ah rh bh kh : Vec F S1x64x1024 .bf16) (v : Vec F S64x1024 .bf16)
    (s : Vec F S2x8x128x128 .f32) : Vec F S64x1024 .f32 := fun y =>
  chainY tri (laneBlk ah (pairOf (y 1))) (laneBlk rh (pairOf (y 1))) (laneBlk bh (pairOf (y 1))) (laneBlk kh (pairOf (y 1)))
    (rowBlk v (pairOf (y 1))) (stBlk s d (pairOf (y 1))) (ix2 (y 0) (within (y 1)))

/-- The state of one direction and pair after a grid point. -/
noncomputable def stPoint (tri : IVec S128x128 1) (d : Fin 2) (q : Fin 8) (ah rh bh kh bt kt : Vec F S1x64x1024 .bf16) (v : Vec F S64x1024 .bf16)
    (pt : Vec F S1x1x1x1024 .f32) (s : Vec F S2x8x128x128 .f32) : FVec F S128x128 .f32 :=
  chainS tri sameHead (laneBlk ah q) (laneBlk rh q) (laneBlk bh q) (laneBlk kh q) (rowBlk v q) (laneBlk bt q) (laneBlk kt q)
    (ptBlk pt q) (stBlk s d q)

/-- The whole state after a grid point. -/
noncomputable def statePoint (ah rh bh kh bt kt : Vec F S1x64x1024 .bf16) (v : Vec F S64x1024 .bf16) (pt : Vec F S1x1x1x1024 .f32)
    (ah' rh' bh' kh' bt' kt' : Vec F S1x64x1024 .bf16) (v' : Vec F S64x1024 .bf16) (pt' : Vec F S1x1x1x1024 .f32)
    (s : Vec F S2x8x128x128 .f32) : Vec F S2x8x128x128 .f32 := fun y =>
  if (y 0).val = 0 then stPoint k0_pay5 0 (y 1) ah rh bh kh bt kt v pt s (ix2 (y 2) (y 3))
  else stPoint k0_pay6 1 (y 1) ah' rh' bh' kh' bt' kt' v' pt' s (ix2 (y 2) (y 3))

/-- The pieces of an output, one per pair, are the output's values at their places. -/
theorem out_piece (tri : IVec S128x128 1) (d : Fin 2) (ah rh bh kh : Vec F S1x64x1024 .bf16) (v : Vec F S64x1024 .bf16)
    (s : Vec F S2x8x128x128 .f32) (q : Fin 8) (o : ℕ) (ho : o = 128 * q.val) (inb) (x : S64x128.Idx) :
    chainY tri (laneBlk ah q) (laneBlk rh q) (laneBlk bh q) (laneBlk kh q) (rowBlk v q) (stBlk s d q) x
      = outPoint tri d ah rh bh kh v s ((Rect.unit (s := S64x1024) ![0, o] S64x128.size inb).emb x) := by
  have h1 : ((Rect.unit (s := S64x1024) ![0, o] S64x128.size inb).emb x) = ix2 (x 0) (lane q (x 1)) := by
    subst ho; funext a; apply Fin.ext
    refine (Rect.idx_unit_val _ _ _ _ _).trans ?_
    fin_cases a <;> simp [ix2, lane]
  have h2 : pairOf (lane q (x 1)) = q := Fin.ext (by
    have h1 := (x 1).isLt; have : S64x128.size 1 = 128 := rfl; simp only [pairOf, lane]; omega)
  have h3 : within (lane q (x 1)) = x 1 := Fin.ext (by
    have h1 := (x 1).isLt; have : S64x128.size 1 = 128 := rfl; simp only [within, lane]; omega)
  rw [h1]
  show _ = chainY tri (laneBlk ah (pairOf (lane q (x 1)))) (laneBlk rh (pairOf (lane q (x 1)))) (laneBlk bh (pairOf (lane q (x 1))))
    (laneBlk kh (pairOf (lane q (x 1)))) (rowBlk v (pairOf (lane q (x 1)))) (stBlk s d (pairOf (lane q (x 1))))
    (ix2 (x 0) (within (lane q (x 1))))
  rw [h2, h3]
  exact congrArg _ (eq_ix2 x)

/-- A piece of the state, cast back to a plane. -/
theorem plane_piece (X : FVec F S128x128 .f32) (d' q' : ℕ) (d : Fin 2) (q : Fin 8) (hd : d' = d.val) (hq : q' = q.val)
    (inb) (x : S1x1x128x128.Idx) (G : Vec F S2x8x128x128 .f32)
    (hG : ∀ i j, X (ix2 i j) = G (ix4 d q i j)) :
    shapeCast S1x1x128x128 X shapeCasts_S128x128_S1x1x128x128 x
      = G ((Rect.unit (s := S2x8x128x128) ![d', q', 0, 0] S1x1x128x128.size inb).emb x) := by
  have h1 : ((Rect.unit (s := S2x8x128x128) ![d', q', 0, 0] S1x1x128x128.size inb).emb x) = ix4 d q (x 2) (x 3) := by
    subst hd hq; funext a; apply Fin.ext
    refine (Rect.idx_unit_val _ _ _ _ _).trans ?_
    have h0 : (x 0).val < 1 := (x 0).isLt
    have h1 : (x 1).val < 1 := (x 1).isLt
    fin_cases a <;> simp [ix4] <;> omega
  rw [h1]
  refine Eq.trans ?_ (hG (x 2) (x 3))
  obtain ⟨a, b, i, j, rfl⟩ : ∃ a b i j, x = ix4 a b i j := ⟨_, _, _, _, eq_ix4 x⟩
  simp only [pointwise]

/-- The pieces stored into output 16, case A: one chain per pair. -/
theorem listA16 (c : Dev nD) (i : grid0.Coords) (arg2 : Memref sig .tc .vmem S1x64x1024 .bf16) (harg2 : arg2.IsWhole) (arg3 : Memref sig .tc .vmem S1x64x1024 .bf16) (harg3 : arg3.IsWhole) (arg4 : Memref sig .tc .vmem S1x64x1024 .bf16) (harg4 : arg4.IsWhole) (arg5 : Memref sig .tc .vmem S1x64x1024 .bf16) (harg5 : arg5.IsWhole) (arg6 : Memref sig .tc .vmem S1x64x1024 .bf16) (harg6 : arg6.IsWhole) (arg7 : Memref sig .tc .vmem S1x64x1024 .bf16) (harg7 : arg7.IsWhole) (arg8 : Memref sig .tc .vmem S64x1024 .bf16) (harg8 : arg8.IsWhole) (arg9 : Memref sig .tc .vmem S1x1x1x1024 .f32) (harg9 : arg9.IsWhole) (arg10 : Memref sig .tc .vmem S1x64x1024 .bf16) (harg10 : arg10.IsWhole) (arg11 : Memref sig .tc .vmem S1x64x1024 .bf16) (harg11 : arg11.IsWhole) (arg12 : Memref sig .tc .vmem S1x64x1024 .bf16) (harg12 : arg12.IsWhole) (arg13 : Memref sig .tc .vmem S1x64x1024 .bf16) (harg13 : arg13.IsWhole) (arg14 : Memref sig .tc .vmem S1x64x1024 .bf16) (harg14 : arg14.IsWhole) (arg15 : Memref sig .tc .vmem S1x64x1024 .bf16) (harg15 : arg15.IsWhole) (arg16 : Memref sig .tc .vmem S64x1024 .bf16) (harg16 : arg16.IsWhole) (arg17 : Memref sig .tc .vmem S1x1x1x1024 .f32) (harg17 : arg17.IsWhole) (arg18 : Memref sig .tc .vmem S64x1024 .f32) (harg18 : arg18.IsWhole) (arg19 : Memref sig .tc .vmem S64x1024 .f32) (harg19 : arg19.IsWhole) (arg20 : Memref sig .tc .vmem S2x8x128x128 .f32) (harg20 : arg20.IsWhole) (hc0 : cond0_0 i)
    (x0 : Vec F S1x64x1024 .bf16) (x1 : Vec F S1x64x1024 .bf16) (x2 : Vec F S1x64x1024 .bf16) (x3 : Vec F S1x64x1024 .bf16) (x4 : Vec F S1x64x1024 .bf16) (x5 : Vec F S1x64x1024 .bf16) (x6 : Vec F S64x1024 .bf16) (x7 : Vec F S1x1x1x1024 .f32) (x8 : Vec F S1x64x1024 .bf16) (x9 : Vec F S1x64x1024 .bf16) (x10 : Vec F S1x64x1024 .bf16) (x11 : Vec F S1x64x1024 .bf16) (x12 : Vec F S1x64x1024 .bf16) (x13 : Vec F S1x64x1024 .bf16) (x14 : Vec F S64x1024 .bf16) (x15 : Vec F S1x1x1x1024 .f32) :
    (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 x11 x12 x13 x14 x15).1 = [
      ⟨Rect.unit ![0, 896] S64x128.size inb_S64x1024_S64x128_0_896, chainY k0_pay5 (rd3 harg2 x0 896 inb_S1x64x1024_S1x64x128_0_0_896) (rd3 harg3 x1 896 inb_S1x64x1024_S1x64x128_0_0_896) (rd3 harg4 x2 896 inb_S1x64x1024_S1x64x128_0_0_896) (rd3 harg5 x3 896 inb_S1x64x1024_S1x64x128_0_0_896) (rd2 harg8 x6 896 inb_S64x1024_S64x128_0_896) (rdZ arg20 0 7 inb_S2x8x128x128_S1x1x128x128_0_7_0_0)⟩,
      ⟨Rect.unit ![0, 768] S64x128.size inb_S64x1024_S64x128_0_768, chainY k0_pay5 (rd3 harg2 x0 768 inb_S1x64x1024_S1x64x128_0_0_768) (rd3 harg3 x1 768 inb_S1x64x1024_S1x64x128_0_0_768) (rd3 harg4 x2 768 inb_S1x64x1024_S1x64x128_0_0_768) (rd3 harg5 x3 768 inb_S1x64x1024_S1x64x128_0_0_768) (rd2 harg8 x6 768 inb_S64x1024_S64x128_0_768) (rdZ arg20 0 6 inb_S2x8x128x128_S1x1x128x128_0_6_0_0)⟩,
      ⟨Rect.unit ![0, 640] S64x128.size inb_S64x1024_S64x128_0_640, chainY k0_pay5 (rd3 harg2 x0 640 inb_S1x64x1024_S1x64x128_0_0_640) (rd3 harg3 x1 640 inb_S1x64x1024_S1x64x128_0_0_640) (rd3 harg4 x2 640 inb_S1x64x1024_S1x64x128_0_0_640) (rd3 harg5 x3 640 inb_S1x64x1024_S1x64x128_0_0_640) (rd2 harg8 x6 640 inb_S64x1024_S64x128_0_640) (rdZ arg20 0 5 inb_S2x8x128x128_S1x1x128x128_0_5_0_0)⟩,
      ⟨Rect.unit ![0, 512] S64x128.size inb_S64x1024_S64x128_0_512, chainY k0_pay5 (rd3 harg2 x0 512 inb_S1x64x1024_S1x64x128_0_0_512) (rd3 harg3 x1 512 inb_S1x64x1024_S1x64x128_0_0_512) (rd3 harg4 x2 512 inb_S1x64x1024_S1x64x128_0_0_512) (rd3 harg5 x3 512 inb_S1x64x1024_S1x64x128_0_0_512) (rd2 harg8 x6 512 inb_S64x1024_S64x128_0_512) (rdZ arg20 0 4 inb_S2x8x128x128_S1x1x128x128_0_4_0_0)⟩,
      ⟨Rect.unit ![0, 384] S64x128.size inb_S64x1024_S64x128_0_384, chainY k0_pay5 (rd3 harg2 x0 384 inb_S1x64x1024_S1x64x128_0_0_384) (rd3 harg3 x1 384 inb_S1x64x1024_S1x64x128_0_0_384) (rd3 harg4 x2 384 inb_S1x64x1024_S1x64x128_0_0_384) (rd3 harg5 x3 384 inb_S1x64x1024_S1x64x128_0_0_384) (rd2 harg8 x6 384 inb_S64x1024_S64x128_0_384) (rdZ arg20 0 3 inb_S2x8x128x128_S1x1x128x128_0_3_0_0)⟩,
      ⟨Rect.unit ![0, 256] S64x128.size inb_S64x1024_S64x128_0_256, chainY k0_pay5 (rd3 harg2 x0 256 inb_S1x64x1024_S1x64x128_0_0_256) (rd3 harg3 x1 256 inb_S1x64x1024_S1x64x128_0_0_256) (rd3 harg4 x2 256 inb_S1x64x1024_S1x64x128_0_0_256) (rd3 harg5 x3 256 inb_S1x64x1024_S1x64x128_0_0_256) (rd2 harg8 x6 256 inb_S64x1024_S64x128_0_256) (rdZ arg20 0 2 inb_S2x8x128x128_S1x1x128x128_0_2_0_0)⟩,
      ⟨Rect.unit ![0, 128] S64x128.size inb_S64x1024_S64x128_0_128, chainY k0_pay5 (rd3 harg2 x0 128 inb_S1x64x1024_S1x64x128_0_0_128) (rd3 harg3 x1 128 inb_S1x64x1024_S1x64x128_0_0_128) (rd3 harg4 x2 128 inb_S1x64x1024_S1x64x128_0_0_128) (rd3 harg5 x3 128 inb_S1x64x1024_S1x64x128_0_0_128) (rd2 harg8 x6 128 inb_S64x1024_S64x128_0_128) (rdZ arg20 0 1 inb_S2x8x128x128_S1x1x128x128_0_1_0_0)⟩,
      ⟨Rect.unit ![0, 0] S64x128.size inb_S64x1024_S64x128_0_0, chainY k0_pay5 (rd3 harg2 x0 0 inb_S1x64x1024_S1x64x128_0_0_0) (rd3 harg3 x1 0 inb_S1x64x1024_S1x64x128_0_0_0) (rd3 harg4 x2 0 inb_S1x64x1024_S1x64x128_0_0_0) (rd3 harg5 x3 0 inb_S1x64x1024_S1x64x128_0_0_0) (rd2 harg8 x6 0 inb_S64x1024_S64x128_0_0) (rdZ arg20 0 0 inb_S2x8x128x128_S1x1x128x128_0_0_0_0)⟩] := rfl

/-- What case A leaves in output 16's block. -/
theorem outA16 (c : Dev nD) (i : grid0.Coords) (arg2 : Memref sig .tc .vmem S1x64x1024 .bf16) (harg2 : arg2.IsWhole) (arg3 : Memref sig .tc .vmem S1x64x1024 .bf16) (harg3 : arg3.IsWhole) (arg4 : Memref sig .tc .vmem S1x64x1024 .bf16) (harg4 : arg4.IsWhole) (arg5 : Memref sig .tc .vmem S1x64x1024 .bf16) (harg5 : arg5.IsWhole) (arg6 : Memref sig .tc .vmem S1x64x1024 .bf16) (harg6 : arg6.IsWhole) (arg7 : Memref sig .tc .vmem S1x64x1024 .bf16) (harg7 : arg7.IsWhole) (arg8 : Memref sig .tc .vmem S64x1024 .bf16) (harg8 : arg8.IsWhole) (arg9 : Memref sig .tc .vmem S1x1x1x1024 .f32) (harg9 : arg9.IsWhole) (arg10 : Memref sig .tc .vmem S1x64x1024 .bf16) (harg10 : arg10.IsWhole) (arg11 : Memref sig .tc .vmem S1x64x1024 .bf16) (harg11 : arg11.IsWhole) (arg12 : Memref sig .tc .vmem S1x64x1024 .bf16) (harg12 : arg12.IsWhole) (arg13 : Memref sig .tc .vmem S1x64x1024 .bf16) (harg13 : arg13.IsWhole) (arg14 : Memref sig .tc .vmem S1x64x1024 .bf16) (harg14 : arg14.IsWhole) (arg15 : Memref sig .tc .vmem S1x64x1024 .bf16) (harg15 : arg15.IsWhole) (arg16 : Memref sig .tc .vmem S64x1024 .bf16) (harg16 : arg16.IsWhole) (arg17 : Memref sig .tc .vmem S1x1x1x1024 .f32) (harg17 : arg17.IsWhole) (arg18 : Memref sig .tc .vmem S64x1024 .f32) (harg18 : arg18.IsWhole) (arg19 : Memref sig .tc .vmem S64x1024 .f32) (harg19 : arg19.IsWhole) (arg20 : Memref sig .tc .vmem S2x8x128x128 .f32) (harg20 : arg20.IsWhole) (hc0 : cond0_0 i)
    (x0 : Vec F S1x64x1024 .bf16) (x1 : Vec F S1x64x1024 .bf16) (x2 : Vec F S1x64x1024 .bf16) (x3 : Vec F S1x64x1024 .bf16) (x4 : Vec F S1x64x1024 .bf16) (x5 : Vec F S1x64x1024 .bf16) (x6 : Vec F S64x1024 .bf16) (x7 : Vec F S1x1x1x1024 .f32) (x8 : Vec F S1x64x1024 .bf16) (x9 : Vec F S1x64x1024 .bf16) (x10 : Vec F S1x64x1024 .bf16) (x11 : Vec F S1x64x1024 .bf16) (x12 : Vec F S1x64x1024 .bf16) (x13 : Vec F S1x64x1024 .bf16) (x14 : Vec F S64x1024 .bf16) (x15 : Vec F S1x1x1x1024 .f32) :
    out0_A_16 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 x11 x12 x13 x14 x15 = outPoint k0_pay5 0 x0 x1 x2 x3 x6 (k0_pay3 (F := F)) := by
  unfold out0_A_16
  rw [View.read_writes_eq_canon _ _ _ (cover0_A_16 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 x11 x12 x13 x14 x15)]
  funext y
  refine View.canon_apply_of_pieces (outPoint k0_pay5 0 x0 x1 x2 x3 x6 (k0_pay3 (F := F))) _ ?_ y (cover0_A_16 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 x11 x12 x13 x14 x15 y)
  rw [listA16]
  refine List.forall_mem_cons.mpr ⟨?_, List.forall_mem_cons.mpr ⟨?_, List.forall_mem_cons.mpr ⟨?_, List.forall_mem_cons.mpr ⟨?_, List.forall_mem_cons.mpr ⟨?_, List.forall_mem_cons.mpr ⟨?_, List.forall_mem_cons.mpr ⟨?_, List.forall_mem_cons.mpr ⟨?_, fun _ h => absurd h List.not_mem_nil⟩⟩⟩⟩⟩⟩⟩⟩
  · intro x
    refine Eq.trans (congrFun ?_ x) (out_piece k0_pay5 0 x0 x1 x2 x3 x6 (k0_pay3 (F := F)) 7 896 rfl inb_S64x1024_S64x128_0_896 x)
    simp only [rd3_eq _ _ 896 7 rfl, rd2_eq _ _ 896 7 rfl, rdZ_eq _ 0 7 0 7 rfl rfl]
  · intro x
    refine Eq.trans (congrFun ?_ x) (out_piece k0_pay5 0 x0 x1 x2 x3 x6 (k0_pay3 (F := F)) 6 768 rfl inb_S64x1024_S64x128_0_768 x)
    simp only [rd3_eq _ _ 768 6 rfl, rd2_eq _ _ 768 6 rfl, rdZ_eq _ 0 6 0 6 rfl rfl]
  · intro x
    refine Eq.trans (congrFun ?_ x) (out_piece k0_pay5 0 x0 x1 x2 x3 x6 (k0_pay3 (F := F)) 5 640 rfl inb_S64x1024_S64x128_0_640 x)
    simp only [rd3_eq _ _ 640 5 rfl, rd2_eq _ _ 640 5 rfl, rdZ_eq _ 0 5 0 5 rfl rfl]
  · intro x
    refine Eq.trans (congrFun ?_ x) (out_piece k0_pay5 0 x0 x1 x2 x3 x6 (k0_pay3 (F := F)) 4 512 rfl inb_S64x1024_S64x128_0_512 x)
    simp only [rd3_eq _ _ 512 4 rfl, rd2_eq _ _ 512 4 rfl, rdZ_eq _ 0 4 0 4 rfl rfl]
  · intro x
    refine Eq.trans (congrFun ?_ x) (out_piece k0_pay5 0 x0 x1 x2 x3 x6 (k0_pay3 (F := F)) 3 384 rfl inb_S64x1024_S64x128_0_384 x)
    simp only [rd3_eq _ _ 384 3 rfl, rd2_eq _ _ 384 3 rfl, rdZ_eq _ 0 3 0 3 rfl rfl]
  · intro x
    refine Eq.trans (congrFun ?_ x) (out_piece k0_pay5 0 x0 x1 x2 x3 x6 (k0_pay3 (F := F)) 2 256 rfl inb_S64x1024_S64x128_0_256 x)
    simp only [rd3_eq _ _ 256 2 rfl, rd2_eq _ _ 256 2 rfl, rdZ_eq _ 0 2 0 2 rfl rfl]
  · intro x
    refine Eq.trans (congrFun ?_ x) (out_piece k0_pay5 0 x0 x1 x2 x3 x6 (k0_pay3 (F := F)) 1 128 rfl inb_S64x1024_S64x128_0_128 x)
    simp only [rd3_eq _ _ 128 1 rfl, rd2_eq _ _ 128 1 rfl, rdZ_eq _ 0 1 0 1 rfl rfl]
  · intro x
    refine Eq.trans (congrFun ?_ x) (out_piece k0_pay5 0 x0 x1 x2 x3 x6 (k0_pay3 (F := F)) 0 0 rfl inb_S64x1024_S64x128_0_0 x)
    simp only [rd3_eq _ _ 0 0 rfl, rd2_eq _ _ 0 0 rfl, rdZ_eq _ 0 0 0 0 rfl rfl]

/-- The pieces stored into output 17, case A: one chain per pair. -/
theorem listA17 (c : Dev nD) (i : grid0.Coords) (arg2 : Memref sig .tc .vmem S1x64x1024 .bf16) (harg2 : arg2.IsWhole) (arg3 : Memref sig .tc .vmem S1x64x1024 .bf16) (harg3 : arg3.IsWhole) (arg4 : Memref sig .tc .vmem S1x64x1024 .bf16) (harg4 : arg4.IsWhole) (arg5 : Memref sig .tc .vmem S1x64x1024 .bf16) (harg5 : arg5.IsWhole) (arg6 : Memref sig .tc .vmem S1x64x1024 .bf16) (harg6 : arg6.IsWhole) (arg7 : Memref sig .tc .vmem S1x64x1024 .bf16) (harg7 : arg7.IsWhole) (arg8 : Memref sig .tc .vmem S64x1024 .bf16) (harg8 : arg8.IsWhole) (arg9 : Memref sig .tc .vmem S1x1x1x1024 .f32) (harg9 : arg9.IsWhole) (arg10 : Memref sig .tc .vmem S1x64x1024 .bf16) (harg10 : arg10.IsWhole) (arg11 : Memref sig .tc .vmem S1x64x1024 .bf16) (harg11 : arg11.IsWhole) (arg12 : Memref sig .tc .vmem S1x64x1024 .bf16) (harg12 : arg12.IsWhole) (arg13 : Memref sig .tc .vmem S1x64x1024 .bf16) (harg13 : arg13.IsWhole) (arg14 : Memref sig .tc .vmem S1x64x1024 .bf16) (harg14 : arg14.IsWhole) (arg15 : Memref sig .tc .vmem S1x64x1024 .bf16) (harg15 : arg15.IsWhole) (arg16 : Memref sig .tc .vmem S64x1024 .bf16) (harg16 : arg16.IsWhole) (arg17 : Memref sig .tc .vmem S1x1x1x1024 .f32) (harg17 : arg17.IsWhole) (arg18 : Memref sig .tc .vmem S64x1024 .f32) (harg18 : arg18.IsWhole) (arg19 : Memref sig .tc .vmem S64x1024 .f32) (harg19 : arg19.IsWhole) (arg20 : Memref sig .tc .vmem S2x8x128x128 .f32) (harg20 : arg20.IsWhole) (hc0 : cond0_0 i)
    (x0 : Vec F S1x64x1024 .bf16) (x1 : Vec F S1x64x1024 .bf16) (x2 : Vec F S1x64x1024 .bf16) (x3 : Vec F S1x64x1024 .bf16) (x4 : Vec F S1x64x1024 .bf16) (x5 : Vec F S1x64x1024 .bf16) (x6 : Vec F S64x1024 .bf16) (x7 : Vec F S1x1x1x1024 .f32) (x8 : Vec F S1x64x1024 .bf16) (x9 : Vec F S1x64x1024 .bf16) (x10 : Vec F S1x64x1024 .bf16) (x11 : Vec F S1x64x1024 .bf16) (x12 : Vec F S1x64x1024 .bf16) (x13 : Vec F S1x64x1024 .bf16) (x14 : Vec F S64x1024 .bf16) (x15 : Vec F S1x1x1x1024 .f32) :
    (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 x11 x12 x13 x14 x15).2.1 = [
      ⟨Rect.unit ![0, 896] S64x128.size inb_S64x1024_S64x128_0_896, chainY k0_pay6 (rd3 harg10 x8 896 inb_S1x64x1024_S1x64x128_0_0_896) (rd3 harg11 x9 896 inb_S1x64x1024_S1x64x128_0_0_896) (rd3 harg12 x10 896 inb_S1x64x1024_S1x64x128_0_0_896) (rd3 harg13 x11 896 inb_S1x64x1024_S1x64x128_0_0_896) (rd2 harg16 x14 896 inb_S64x1024_S64x128_0_896) (rdZ arg20 1 7 inb_S2x8x128x128_S1x1x128x128_1_7_0_0)⟩,
      ⟨Rect.unit ![0, 768] S64x128.size inb_S64x1024_S64x128_0_768, chainY k0_pay6 (rd3 harg10 x8 768 inb_S1x64x1024_S1x64x128_0_0_768) (rd3 harg11 x9 768 inb_S1x64x1024_S1x64x128_0_0_768) (rd3 harg12 x10 768 inb_S1x64x1024_S1x64x128_0_0_768) (rd3 harg13 x11 768 inb_S1x64x1024_S1x64x128_0_0_768) (rd2 harg16 x14 768 inb_S64x1024_S64x128_0_768) (rdZ arg20 1 6 inb_S2x8x128x128_S1x1x128x128_1_6_0_0)⟩,
      ⟨Rect.unit ![0, 640] S64x128.size inb_S64x1024_S64x128_0_640, chainY k0_pay6 (rd3 harg10 x8 640 inb_S1x64x1024_S1x64x128_0_0_640) (rd3 harg11 x9 640 inb_S1x64x1024_S1x64x128_0_0_640) (rd3 harg12 x10 640 inb_S1x64x1024_S1x64x128_0_0_640) (rd3 harg13 x11 640 inb_S1x64x1024_S1x64x128_0_0_640) (rd2 harg16 x14 640 inb_S64x1024_S64x128_0_640) (rdZ arg20 1 5 inb_S2x8x128x128_S1x1x128x128_1_5_0_0)⟩,
      ⟨Rect.unit ![0, 512] S64x128.size inb_S64x1024_S64x128_0_512, chainY k0_pay6 (rd3 harg10 x8 512 inb_S1x64x1024_S1x64x128_0_0_512) (rd3 harg11 x9 512 inb_S1x64x1024_S1x64x128_0_0_512) (rd3 harg12 x10 512 inb_S1x64x1024_S1x64x128_0_0_512) (rd3 harg13 x11 512 inb_S1x64x1024_S1x64x128_0_0_512) (rd2 harg16 x14 512 inb_S64x1024_S64x128_0_512) (rdZ arg20 1 4 inb_S2x8x128x128_S1x1x128x128_1_4_0_0)⟩,
      ⟨Rect.unit ![0, 384] S64x128.size inb_S64x1024_S64x128_0_384, chainY k0_pay6 (rd3 harg10 x8 384 inb_S1x64x1024_S1x64x128_0_0_384) (rd3 harg11 x9 384 inb_S1x64x1024_S1x64x128_0_0_384) (rd3 harg12 x10 384 inb_S1x64x1024_S1x64x128_0_0_384) (rd3 harg13 x11 384 inb_S1x64x1024_S1x64x128_0_0_384) (rd2 harg16 x14 384 inb_S64x1024_S64x128_0_384) (rdZ arg20 1 3 inb_S2x8x128x128_S1x1x128x128_1_3_0_0)⟩,
      ⟨Rect.unit ![0, 256] S64x128.size inb_S64x1024_S64x128_0_256, chainY k0_pay6 (rd3 harg10 x8 256 inb_S1x64x1024_S1x64x128_0_0_256) (rd3 harg11 x9 256 inb_S1x64x1024_S1x64x128_0_0_256) (rd3 harg12 x10 256 inb_S1x64x1024_S1x64x128_0_0_256) (rd3 harg13 x11 256 inb_S1x64x1024_S1x64x128_0_0_256) (rd2 harg16 x14 256 inb_S64x1024_S64x128_0_256) (rdZ arg20 1 2 inb_S2x8x128x128_S1x1x128x128_1_2_0_0)⟩,
      ⟨Rect.unit ![0, 128] S64x128.size inb_S64x1024_S64x128_0_128, chainY k0_pay6 (rd3 harg10 x8 128 inb_S1x64x1024_S1x64x128_0_0_128) (rd3 harg11 x9 128 inb_S1x64x1024_S1x64x128_0_0_128) (rd3 harg12 x10 128 inb_S1x64x1024_S1x64x128_0_0_128) (rd3 harg13 x11 128 inb_S1x64x1024_S1x64x128_0_0_128) (rd2 harg16 x14 128 inb_S64x1024_S64x128_0_128) (rdZ arg20 1 1 inb_S2x8x128x128_S1x1x128x128_1_1_0_0)⟩,
      ⟨Rect.unit ![0, 0] S64x128.size inb_S64x1024_S64x128_0_0, chainY k0_pay6 (rd3 harg10 x8 0 inb_S1x64x1024_S1x64x128_0_0_0) (rd3 harg11 x9 0 inb_S1x64x1024_S1x64x128_0_0_0) (rd3 harg12 x10 0 inb_S1x64x1024_S1x64x128_0_0_0) (rd3 harg13 x11 0 inb_S1x64x1024_S1x64x128_0_0_0) (rd2 harg16 x14 0 inb_S64x1024_S64x128_0_0) (rdZ arg20 1 0 inb_S2x8x128x128_S1x1x128x128_1_0_0_0)⟩] := rfl

/-- What case A leaves in output 17's block. -/
theorem outA17 (c : Dev nD) (i : grid0.Coords) (arg2 : Memref sig .tc .vmem S1x64x1024 .bf16) (harg2 : arg2.IsWhole) (arg3 : Memref sig .tc .vmem S1x64x1024 .bf16) (harg3 : arg3.IsWhole) (arg4 : Memref sig .tc .vmem S1x64x1024 .bf16) (harg4 : arg4.IsWhole) (arg5 : Memref sig .tc .vmem S1x64x1024 .bf16) (harg5 : arg5.IsWhole) (arg6 : Memref sig .tc .vmem S1x64x1024 .bf16) (harg6 : arg6.IsWhole) (arg7 : Memref sig .tc .vmem S1x64x1024 .bf16) (harg7 : arg7.IsWhole) (arg8 : Memref sig .tc .vmem S64x1024 .bf16) (harg8 : arg8.IsWhole) (arg9 : Memref sig .tc .vmem S1x1x1x1024 .f32) (harg9 : arg9.IsWhole) (arg10 : Memref sig .tc .vmem S1x64x1024 .bf16) (harg10 : arg10.IsWhole) (arg11 : Memref sig .tc .vmem S1x64x1024 .bf16) (harg11 : arg11.IsWhole) (arg12 : Memref sig .tc .vmem S1x64x1024 .bf16) (harg12 : arg12.IsWhole) (arg13 : Memref sig .tc .vmem S1x64x1024 .bf16) (harg13 : arg13.IsWhole) (arg14 : Memref sig .tc .vmem S1x64x1024 .bf16) (harg14 : arg14.IsWhole) (arg15 : Memref sig .tc .vmem S1x64x1024 .bf16) (harg15 : arg15.IsWhole) (arg16 : Memref sig .tc .vmem S64x1024 .bf16) (harg16 : arg16.IsWhole) (arg17 : Memref sig .tc .vmem S1x1x1x1024 .f32) (harg17 : arg17.IsWhole) (arg18 : Memref sig .tc .vmem S64x1024 .f32) (harg18 : arg18.IsWhole) (arg19 : Memref sig .tc .vmem S64x1024 .f32) (harg19 : arg19.IsWhole) (arg20 : Memref sig .tc .vmem S2x8x128x128 .f32) (harg20 : arg20.IsWhole) (hc0 : cond0_0 i)
    (x0 : Vec F S1x64x1024 .bf16) (x1 : Vec F S1x64x1024 .bf16) (x2 : Vec F S1x64x1024 .bf16) (x3 : Vec F S1x64x1024 .bf16) (x4 : Vec F S1x64x1024 .bf16) (x5 : Vec F S1x64x1024 .bf16) (x6 : Vec F S64x1024 .bf16) (x7 : Vec F S1x1x1x1024 .f32) (x8 : Vec F S1x64x1024 .bf16) (x9 : Vec F S1x64x1024 .bf16) (x10 : Vec F S1x64x1024 .bf16) (x11 : Vec F S1x64x1024 .bf16) (x12 : Vec F S1x64x1024 .bf16) (x13 : Vec F S1x64x1024 .bf16) (x14 : Vec F S64x1024 .bf16) (x15 : Vec F S1x1x1x1024 .f32) :
    out0_A_17 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 x11 x12 x13 x14 x15 = outPoint k0_pay6 1 x8 x9 x10 x11 x14 (k0_pay3 (F := F)) := by
  unfold out0_A_17
  rw [View.read_writes_eq_canon _ _ _ (cover0_A_17 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 x11 x12 x13 x14 x15)]
  funext y
  refine View.canon_apply_of_pieces (outPoint k0_pay6 1 x8 x9 x10 x11 x14 (k0_pay3 (F := F))) _ ?_ y (cover0_A_17 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 x11 x12 x13 x14 x15 y)
  rw [listA17]
  refine List.forall_mem_cons.mpr ⟨?_, List.forall_mem_cons.mpr ⟨?_, List.forall_mem_cons.mpr ⟨?_, List.forall_mem_cons.mpr ⟨?_, List.forall_mem_cons.mpr ⟨?_, List.forall_mem_cons.mpr ⟨?_, List.forall_mem_cons.mpr ⟨?_, List.forall_mem_cons.mpr ⟨?_, fun _ h => absurd h List.not_mem_nil⟩⟩⟩⟩⟩⟩⟩⟩
  · intro x
    refine Eq.trans (congrFun ?_ x) (out_piece k0_pay6 1 x8 x9 x10 x11 x14 (k0_pay3 (F := F)) 7 896 rfl inb_S64x1024_S64x128_0_896 x)
    simp only [rd3_eq _ _ 896 7 rfl, rd2_eq _ _ 896 7 rfl, rdZ_eq _ 1 7 1 7 rfl rfl]
  · intro x
    refine Eq.trans (congrFun ?_ x) (out_piece k0_pay6 1 x8 x9 x10 x11 x14 (k0_pay3 (F := F)) 6 768 rfl inb_S64x1024_S64x128_0_768 x)
    simp only [rd3_eq _ _ 768 6 rfl, rd2_eq _ _ 768 6 rfl, rdZ_eq _ 1 6 1 6 rfl rfl]
  · intro x
    refine Eq.trans (congrFun ?_ x) (out_piece k0_pay6 1 x8 x9 x10 x11 x14 (k0_pay3 (F := F)) 5 640 rfl inb_S64x1024_S64x128_0_640 x)
    simp only [rd3_eq _ _ 640 5 rfl, rd2_eq _ _ 640 5 rfl, rdZ_eq _ 1 5 1 5 rfl rfl]
  · intro x
    refine Eq.trans (congrFun ?_ x) (out_piece k0_pay6 1 x8 x9 x10 x11 x14 (k0_pay3 (F := F)) 4 512 rfl inb_S64x1024_S64x128_0_512 x)
    simp only [rd3_eq _ _ 512 4 rfl, rd2_eq _ _ 512 4 rfl, rdZ_eq _ 1 4 1 4 rfl rfl]
  · intro x
    refine Eq.trans (congrFun ?_ x) (out_piece k0_pay6 1 x8 x9 x10 x11 x14 (k0_pay3 (F := F)) 3 384 rfl inb_S64x1024_S64x128_0_384 x)
    simp only [rd3_eq _ _ 384 3 rfl, rd2_eq _ _ 384 3 rfl, rdZ_eq _ 1 3 1 3 rfl rfl]
  · intro x
    refine Eq.trans (congrFun ?_ x) (out_piece k0_pay6 1 x8 x9 x10 x11 x14 (k0_pay3 (F := F)) 2 256 rfl inb_S64x1024_S64x128_0_256 x)
    simp only [rd3_eq _ _ 256 2 rfl, rd2_eq _ _ 256 2 rfl, rdZ_eq _ 1 2 1 2 rfl rfl]
  · intro x
    refine Eq.trans (congrFun ?_ x) (out_piece k0_pay6 1 x8 x9 x10 x11 x14 (k0_pay3 (F := F)) 1 128 rfl inb_S64x1024_S64x128_0_128 x)
    simp only [rd3_eq _ _ 128 1 rfl, rd2_eq _ _ 128 1 rfl, rdZ_eq _ 1 1 1 1 rfl rfl]
  · intro x
    refine Eq.trans (congrFun ?_ x) (out_piece k0_pay6 1 x8 x9 x10 x11 x14 (k0_pay3 (F := F)) 0 0 rfl inb_S64x1024_S64x128_0_0 x)
    simp only [rd3_eq _ _ 0 0 rfl, rd2_eq _ _ 0 0 rfl, rdZ_eq _ 1 0 1 0 rfl rfl]

/-- Pieces that cover the buffer hide what was stored before them. -/
theorem canon_drop_last {S : Shape} {e : EltTy} {Val : EltTy → Type} [∀ e, Nonempty (Val e)] (G : S.Idx → Val e) :
    ∀ (L : List (View.Piece Val S e)) (p : View.Piece Val S e) (_ : ∀ p ∈ L, ∀ x : p.1.shape.Idx, p.2 x = G (p.1.emb x)) (y : S.Idx)
      (_ : ∃ p ∈ L, y ∈ p.1.set), View.canon (L ++ [p]) y = G y
  | [], _, _, _, hy => by obtain ⟨p, hp, _⟩ := hy; simp at hp
  | q :: L, p, hL, y, hy => by
    by_cases hm : y ∈ q.1.set
    · obtain ⟨x, rfl⟩ := q.1.exists_idx_of_mem hm
      exact (View.canon_cons_emb _ _ _ _).trans (hL q (List.mem_cons_self ..) x)
    · rw [List.cons_append, View.canon_cons_of_not_mem _ _ hm]
      refine canon_drop_last G L p (fun r hr => hL r (List.mem_cons_of_mem _ hr)) y ?_
      obtain ⟨r, hr, hy⟩ := hy
      rcases List.mem_cons.mp hr with rfl | hr
      · exact absurd hy hm
      · exact ⟨r, hr, hy⟩

/-- The pieces stored into the state, case A: one chain per direction and pair. -/
theorem listAS (c : Dev nD) (i : grid0.Coords) (arg2 : Memref sig .tc .vmem S1x64x1024 .bf16) (harg2 : arg2.IsWhole) (arg3 : Memref sig .tc .vmem S1x64x1024 .bf16) (harg3 : arg3.IsWhole) (arg4 : Memref sig .tc .vmem S1x64x1024 .bf16) (harg4 : arg4.IsWhole) (arg5 : Memref sig .tc .vmem S1x64x1024 .bf16) (harg5 : arg5.IsWhole) (arg6 : Memref sig .tc .vmem S1x64x1024 .bf16) (harg6 : arg6.IsWhole) (arg7 : Memref sig .tc .vmem S1x64x1024 .bf16) (harg7 : arg7.IsWhole) (arg8 : Memref sig .tc .vmem S64x1024 .bf16) (harg8 : arg8.IsWhole) (arg9 : Memref sig .tc .vmem S1x1x1x1024 .f32) (harg9 : arg9.IsWhole) (arg10 : Memref sig .tc .vmem S1x64x1024 .bf16) (harg10 : arg10.IsWhole) (arg11 : Memref sig .tc .vmem S1x64x1024 .bf16) (harg11 : arg11.IsWhole) (arg12 : Memref sig .tc .vmem S1x64x1024 .bf16) (harg12 : arg12.IsWhole) (arg13 : Memref sig .tc .vmem S1x64x1024 .bf16) (harg13 : arg13.IsWhole) (arg14 : Memref sig .tc .vmem S1x64x1024 .bf16) (harg14 : arg14.IsWhole) (arg15 : Memref sig .tc .vmem S1x64x1024 .bf16) (harg15 : arg15.IsWhole) (arg16 : Memref sig .tc .vmem S64x1024 .bf16) (harg16 : arg16.IsWhole) (arg17 : Memref sig .tc .vmem S1x1x1x1024 .f32) (harg17 : arg17.IsWhole) (arg18 : Memref sig .tc .vmem S64x1024 .f32) (harg18 : arg18.IsWhole) (arg19 : Memref sig .tc .vmem S64x1024 .f32) (harg19 : arg19.IsWhole) (arg20 : Memref sig .tc .vmem S2x8x128x128 .f32) (harg20 : arg20.IsWhole) (hc0 : cond0_0 i)
    (x0 : Vec F S1x64x1024 .bf16) (x1 : Vec F S1x64x1024 .bf16) (x2 : Vec F S1x64x1024 .bf16) (x3 : Vec F S1x64x1024 .bf16) (x4 : Vec F S1x64x1024 .bf16) (x5 : Vec F S1x64x1024 .bf16) (x6 : Vec F S64x1024 .bf16) (x7 : Vec F S1x1x1x1024 .f32) (x8 : Vec F S1x64x1024 .bf16) (x9 : Vec F S1x64x1024 .bf16) (x10 : Vec F S1x64x1024 .bf16) (x11 : Vec F S1x64x1024 .bf16) (x12 : Vec F S1x64x1024 .bf16) (x13 : Vec F S1x64x1024 .bf16) (x14 : Vec F S64x1024 .bf16) (x15 : Vec F S1x1x1x1024 .f32) :
    (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 x11 x12 x13 x14 x15).2.2.1 = [
      ⟨Rect.unit ![1, 7, 0, 0] S1x1x128x128.size inb_S2x8x128x128_S1x1x128x128_1_7_0_0, shapeCast S1x1x128x128 (chainS k0_pay6 sameHead (rd3 harg10 x8 896 inb_S1x64x1024_S1x64x128_0_0_896) (rd3 harg11 x9 896 inb_S1x64x1024_S1x64x128_0_0_896) (rd3 harg12 x10 896 inb_S1x64x1024_S1x64x128_0_0_896) (rd3 harg13 x11 896 inb_S1x64x1024_S1x64x128_0_0_896) (rd2 harg16 x14 896 inb_S64x1024_S64x128_0_896) (rd3 harg14 x12 896 inb_S1x64x1024_S1x64x128_0_0_896) (rd3 harg15 x13 896 inb_S1x64x1024_S1x64x128_0_0_896) (rd4 harg17 x15 896 inb_S1x1x1x1024_S1x1x1x128_0_0_0_896) (rdZ arg20 1 7 inb_S2x8x128x128_S1x1x128x128_1_7_0_0)) shapeCasts_S128x128_S1x1x128x128⟩,
      ⟨Rect.unit ![1, 6, 0, 0] S1x1x128x128.size inb_S2x8x128x128_S1x1x128x128_1_6_0_0, shapeCast S1x1x128x128 (chainS k0_pay6 sameHead (rd3 harg10 x8 768 inb_S1x64x1024_S1x64x128_0_0_768) (rd3 harg11 x9 768 inb_S1x64x1024_S1x64x128_0_0_768) (rd3 harg12 x10 768 inb_S1x64x1024_S1x64x128_0_0_768) (rd3 harg13 x11 768 inb_S1x64x1024_S1x64x128_0_0_768) (rd2 harg16 x14 768 inb_S64x1024_S64x128_0_768) (rd3 harg14 x12 768 inb_S1x64x1024_S1x64x128_0_0_768) (rd3 harg15 x13 768 inb_S1x64x1024_S1x64x128_0_0_768) (rd4 harg17 x15 768 inb_S1x1x1x1024_S1x1x1x128_0_0_0_768) (rdZ arg20 1 6 inb_S2x8x128x128_S1x1x128x128_1_6_0_0)) shapeCasts_S128x128_S1x1x128x128⟩,
      ⟨Rect.unit ![1, 5, 0, 0] S1x1x128x128.size inb_S2x8x128x128_S1x1x128x128_1_5_0_0, shapeCast S1x1x128x128 (chainS k0_pay6 sameHead (rd3 harg10 x8 640 inb_S1x64x1024_S1x64x128_0_0_640) (rd3 harg11 x9 640 inb_S1x64x1024_S1x64x128_0_0_640) (rd3 harg12 x10 640 inb_S1x64x1024_S1x64x128_0_0_640) (rd3 harg13 x11 640 inb_S1x64x1024_S1x64x128_0_0_640) (rd2 harg16 x14 640 inb_S64x1024_S64x128_0_640) (rd3 harg14 x12 640 inb_S1x64x1024_S1x64x128_0_0_640) (rd3 harg15 x13 640 inb_S1x64x1024_S1x64x128_0_0_640) (rd4 harg17 x15 640 inb_S1x1x1x1024_S1x1x1x128_0_0_0_640) (rdZ arg20 1 5 inb_S2x8x128x128_S1x1x128x128_1_5_0_0)) shapeCasts_S128x128_S1x1x128x128⟩,
      ⟨Rect.unit ![1, 4, 0, 0] S1x1x128x128.size inb_S2x8x128x128_S1x1x128x128_1_4_0_0, shapeCast S1x1x128x128 (chainS k0_pay6 sameHead (rd3 harg10 x8 512 inb_S1x64x1024_S1x64x128_0_0_512) (rd3 harg11 x9 512 inb_S1x64x1024_S1x64x128_0_0_512) (rd3 harg12 x10 512 inb_S1x64x1024_S1x64x128_0_0_512) (rd3 harg13 x11 512 inb_S1x64x1024_S1x64x128_0_0_512) (rd2 harg16 x14 512 inb_S64x1024_S64x128_0_512) (rd3 harg14 x12 512 inb_S1x64x1024_S1x64x128_0_0_512) (rd3 harg15 x13 512 inb_S1x64x1024_S1x64x128_0_0_512) (rd4 harg17 x15 512 inb_S1x1x1x1024_S1x1x1x128_0_0_0_512) (rdZ arg20 1 4 inb_S2x8x128x128_S1x1x128x128_1_4_0_0)) shapeCasts_S128x128_S1x1x128x128⟩,
      ⟨Rect.unit ![1, 3, 0, 0] S1x1x128x128.size inb_S2x8x128x128_S1x1x128x128_1_3_0_0, shapeCast S1x1x128x128 (chainS k0_pay6 sameHead (rd3 harg10 x8 384 inb_S1x64x1024_S1x64x128_0_0_384) (rd3 harg11 x9 384 inb_S1x64x1024_S1x64x128_0_0_384) (rd3 harg12 x10 384 inb_S1x64x1024_S1x64x128_0_0_384) (rd3 harg13 x11 384 inb_S1x64x1024_S1x64x128_0_0_384) (rd2 harg16 x14 384 inb_S64x1024_S64x128_0_384) (rd3 harg14 x12 384 inb_S1x64x1024_S1x64x128_0_0_384) (rd3 harg15 x13 384 inb_S1x64x1024_S1x64x128_0_0_384) (rd4 harg17 x15 384 inb_S1x1x1x1024_S1x1x1x128_0_0_0_384) (rdZ arg20 1 3 inb_S2x8x128x128_S1x1x128x128_1_3_0_0)) shapeCasts_S128x128_S1x1x128x128⟩,
      ⟨Rect.unit ![1, 2, 0, 0] S1x1x128x128.size inb_S2x8x128x128_S1x1x128x128_1_2_0_0, shapeCast S1x1x128x128 (chainS k0_pay6 sameHead (rd3 harg10 x8 256 inb_S1x64x1024_S1x64x128_0_0_256) (rd3 harg11 x9 256 inb_S1x64x1024_S1x64x128_0_0_256) (rd3 harg12 x10 256 inb_S1x64x1024_S1x64x128_0_0_256) (rd3 harg13 x11 256 inb_S1x64x1024_S1x64x128_0_0_256) (rd2 harg16 x14 256 inb_S64x1024_S64x128_0_256) (rd3 harg14 x12 256 inb_S1x64x1024_S1x64x128_0_0_256) (rd3 harg15 x13 256 inb_S1x64x1024_S1x64x128_0_0_256) (rd4 harg17 x15 256 inb_S1x1x1x1024_S1x1x1x128_0_0_0_256) (rdZ arg20 1 2 inb_S2x8x128x128_S1x1x128x128_1_2_0_0)) shapeCasts_S128x128_S1x1x128x128⟩,
      ⟨Rect.unit ![1, 1, 0, 0] S1x1x128x128.size inb_S2x8x128x128_S1x1x128x128_1_1_0_0, shapeCast S1x1x128x128 (chainS k0_pay6 sameHead (rd3 harg10 x8 128 inb_S1x64x1024_S1x64x128_0_0_128) (rd3 harg11 x9 128 inb_S1x64x1024_S1x64x128_0_0_128) (rd3 harg12 x10 128 inb_S1x64x1024_S1x64x128_0_0_128) (rd3 harg13 x11 128 inb_S1x64x1024_S1x64x128_0_0_128) (rd2 harg16 x14 128 inb_S64x1024_S64x128_0_128) (rd3 harg14 x12 128 inb_S1x64x1024_S1x64x128_0_0_128) (rd3 harg15 x13 128 inb_S1x64x1024_S1x64x128_0_0_128) (rd4 harg17 x15 128 inb_S1x1x1x1024_S1x1x1x128_0_0_0_128) (rdZ arg20 1 1 inb_S2x8x128x128_S1x1x128x128_1_1_0_0)) shapeCasts_S128x128_S1x1x128x128⟩,
      ⟨Rect.unit ![1, 0, 0, 0] S1x1x128x128.size inb_S2x8x128x128_S1x1x128x128_1_0_0_0, shapeCast S1x1x128x128 (chainS k0_pay6 sameHead (rd3 harg10 x8 0 inb_S1x64x1024_S1x64x128_0_0_0) (rd3 harg11 x9 0 inb_S1x64x1024_S1x64x128_0_0_0) (rd3 harg12 x10 0 inb_S1x64x1024_S1x64x128_0_0_0) (rd3 harg13 x11 0 inb_S1x64x1024_S1x64x128_0_0_0) (rd2 harg16 x14 0 inb_S64x1024_S64x128_0_0) (rd3 harg14 x12 0 inb_S1x64x1024_S1x64x128_0_0_0) (rd3 harg15 x13 0 inb_S1x64x1024_S1x64x128_0_0_0) (rd4 harg17 x15 0 inb_S1x1x1x1024_S1x1x1x128_0_0_0_0) (rdZ arg20 1 0 inb_S2x8x128x128_S1x1x128x128_1_0_0_0)) shapeCasts_S128x128_S1x1x128x128⟩,
      ⟨Rect.unit ![0, 7, 0, 0] S1x1x128x128.size inb_S2x8x128x128_S1x1x128x128_0_7_0_0, shapeCast S1x1x128x128 (chainS k0_pay5 sameHead (rd3 harg2 x0 896 inb_S1x64x1024_S1x64x128_0_0_896) (rd3 harg3 x1 896 inb_S1x64x1024_S1x64x128_0_0_896) (rd3 harg4 x2 896 inb_S1x64x1024_S1x64x128_0_0_896) (rd3 harg5 x3 896 inb_S1x64x1024_S1x64x128_0_0_896) (rd2 harg8 x6 896 inb_S64x1024_S64x128_0_896) (rd3 harg6 x4 896 inb_S1x64x1024_S1x64x128_0_0_896) (rd3 harg7 x5 896 inb_S1x64x1024_S1x64x128_0_0_896) (rd4 harg9 x7 896 inb_S1x1x1x1024_S1x1x1x128_0_0_0_896) (rdZ arg20 0 7 inb_S2x8x128x128_S1x1x128x128_0_7_0_0)) shapeCasts_S128x128_S1x1x128x128⟩,
      ⟨Rect.unit ![0, 6, 0, 0] S1x1x128x128.size inb_S2x8x128x128_S1x1x128x128_0_6_0_0, shapeCast S1x1x128x128 (chainS k0_pay5 sameHead (rd3 harg2 x0 768 inb_S1x64x1024_S1x64x128_0_0_768) (rd3 harg3 x1 768 inb_S1x64x1024_S1x64x128_0_0_768) (rd3 harg4 x2 768 inb_S1x64x1024_S1x64x128_0_0_768) (rd3 harg5 x3 768 inb_S1x64x1024_S1x64x128_0_0_768) (rd2 harg8 x6 768 inb_S64x1024_S64x128_0_768) (rd3 harg6 x4 768 inb_S1x64x1024_S1x64x128_0_0_768) (rd3 harg7 x5 768 inb_S1x64x1024_S1x64x128_0_0_768) (rd4 harg9 x7 768 inb_S1x1x1x1024_S1x1x1x128_0_0_0_768) (rdZ arg20 0 6 inb_S2x8x128x128_S1x1x128x128_0_6_0_0)) shapeCasts_S128x128_S1x1x128x128⟩,
      ⟨Rect.unit ![0, 5, 0, 0] S1x1x128x128.size inb_S2x8x128x128_S1x1x128x128_0_5_0_0, shapeCast S1x1x128x128 (chainS k0_pay5 sameHead (rd3 harg2 x0 640 inb_S1x64x1024_S1x64x128_0_0_640) (rd3 harg3 x1 640 inb_S1x64x1024_S1x64x128_0_0_640) (rd3 harg4 x2 640 inb_S1x64x1024_S1x64x128_0_0_640) (rd3 harg5 x3 640 inb_S1x64x1024_S1x64x128_0_0_640) (rd2 harg8 x6 640 inb_S64x1024_S64x128_0_640) (rd3 harg6 x4 640 inb_S1x64x1024_S1x64x128_0_0_640) (rd3 harg7 x5 640 inb_S1x64x1024_S1x64x128_0_0_640) (rd4 harg9 x7 640 inb_S1x1x1x1024_S1x1x1x128_0_0_0_640) (rdZ arg20 0 5 inb_S2x8x128x128_S1x1x128x128_0_5_0_0)) shapeCasts_S128x128_S1x1x128x128⟩,
      ⟨Rect.unit ![0, 4, 0, 0] S1x1x128x128.size inb_S2x8x128x128_S1x1x128x128_0_4_0_0, shapeCast S1x1x128x128 (chainS k0_pay5 sameHead (rd3 harg2 x0 512 inb_S1x64x1024_S1x64x128_0_0_512) (rd3 harg3 x1 512 inb_S1x64x1024_S1x64x128_0_0_512) (rd3 harg4 x2 512 inb_S1x64x1024_S1x64x128_0_0_512) (rd3 harg5 x3 512 inb_S1x64x1024_S1x64x128_0_0_512) (rd2 harg8 x6 512 inb_S64x1024_S64x128_0_512) (rd3 harg6 x4 512 inb_S1x64x1024_S1x64x128_0_0_512) (rd3 harg7 x5 512 inb_S1x64x1024_S1x64x128_0_0_512) (rd4 harg9 x7 512 inb_S1x1x1x1024_S1x1x1x128_0_0_0_512) (rdZ arg20 0 4 inb_S2x8x128x128_S1x1x128x128_0_4_0_0)) shapeCasts_S128x128_S1x1x128x128⟩,
      ⟨Rect.unit ![0, 3, 0, 0] S1x1x128x128.size inb_S2x8x128x128_S1x1x128x128_0_3_0_0, shapeCast S1x1x128x128 (chainS k0_pay5 sameHead (rd3 harg2 x0 384 inb_S1x64x1024_S1x64x128_0_0_384) (rd3 harg3 x1 384 inb_S1x64x1024_S1x64x128_0_0_384) (rd3 harg4 x2 384 inb_S1x64x1024_S1x64x128_0_0_384) (rd3 harg5 x3 384 inb_S1x64x1024_S1x64x128_0_0_384) (rd2 harg8 x6 384 inb_S64x1024_S64x128_0_384) (rd3 harg6 x4 384 inb_S1x64x1024_S1x64x128_0_0_384) (rd3 harg7 x5 384 inb_S1x64x1024_S1x64x128_0_0_384) (rd4 harg9 x7 384 inb_S1x1x1x1024_S1x1x1x128_0_0_0_384) (rdZ arg20 0 3 inb_S2x8x128x128_S1x1x128x128_0_3_0_0)) shapeCasts_S128x128_S1x1x128x128⟩,
      ⟨Rect.unit ![0, 2, 0, 0] S1x1x128x128.size inb_S2x8x128x128_S1x1x128x128_0_2_0_0, shapeCast S1x1x128x128 (chainS k0_pay5 sameHead (rd3 harg2 x0 256 inb_S1x64x1024_S1x64x128_0_0_256) (rd3 harg3 x1 256 inb_S1x64x1024_S1x64x128_0_0_256) (rd3 harg4 x2 256 inb_S1x64x1024_S1x64x128_0_0_256) (rd3 harg5 x3 256 inb_S1x64x1024_S1x64x128_0_0_256) (rd2 harg8 x6 256 inb_S64x1024_S64x128_0_256) (rd3 harg6 x4 256 inb_S1x64x1024_S1x64x128_0_0_256) (rd3 harg7 x5 256 inb_S1x64x1024_S1x64x128_0_0_256) (rd4 harg9 x7 256 inb_S1x1x1x1024_S1x1x1x128_0_0_0_256) (rdZ arg20 0 2 inb_S2x8x128x128_S1x1x128x128_0_2_0_0)) shapeCasts_S128x128_S1x1x128x128⟩,
      ⟨Rect.unit ![0, 1, 0, 0] S1x1x128x128.size inb_S2x8x128x128_S1x1x128x128_0_1_0_0, shapeCast S1x1x128x128 (chainS k0_pay5 sameHead (rd3 harg2 x0 128 inb_S1x64x1024_S1x64x128_0_0_128) (rd3 harg3 x1 128 inb_S1x64x1024_S1x64x128_0_0_128) (rd3 harg4 x2 128 inb_S1x64x1024_S1x64x128_0_0_128) (rd3 harg5 x3 128 inb_S1x64x1024_S1x64x128_0_0_128) (rd2 harg8 x6 128 inb_S64x1024_S64x128_0_128) (rd3 harg6 x4 128 inb_S1x64x1024_S1x64x128_0_0_128) (rd3 harg7 x5 128 inb_S1x64x1024_S1x64x128_0_0_128) (rd4 harg9 x7 128 inb_S1x1x1x1024_S1x1x1x128_0_0_0_128) (rdZ arg20 0 1 inb_S2x8x128x128_S1x1x128x128_0_1_0_0)) shapeCasts_S128x128_S1x1x128x128⟩,
      ⟨Rect.unit ![0, 0, 0, 0] S1x1x128x128.size inb_S2x8x128x128_S1x1x128x128_0_0_0_0, shapeCast S1x1x128x128 (chainS k0_pay5 sameHead (rd3 harg2 x0 0 inb_S1x64x1024_S1x64x128_0_0_0) (rd3 harg3 x1 0 inb_S1x64x1024_S1x64x128_0_0_0) (rd3 harg4 x2 0 inb_S1x64x1024_S1x64x128_0_0_0) (rd3 harg5 x3 0 inb_S1x64x1024_S1x64x128_0_0_0) (rd2 harg8 x6 0 inb_S64x1024_S64x128_0_0) (rd3 harg6 x4 0 inb_S1x64x1024_S1x64x128_0_0_0) (rd3 harg7 x5 0 inb_S1x64x1024_S1x64x128_0_0_0) (rd4 harg9 x7 0 inb_S1x1x1x1024_S1x1x1x128_0_0_0_0) (rdZ arg20 0 0 inb_S2x8x128x128_S1x1x128x128_0_0_0_0)) shapeCasts_S128x128_S1x1x128x128⟩] ++ [⟨Rect.unit ![0, 0, 0, 0] S2x8x128x128.size inb_S2x8x128x128_S2x8x128x128_0_0_0_0, k0_pay3⟩] := rfl

/-- What case A leaves in the state: the planes' pieces cover it, so the zeros stored first do not show. -/
theorem outAS (c : Dev nD) (i : grid0.Coords) (arg2 : Memref sig .tc .vmem S1x64x1024 .bf16) (harg2 : arg2.IsWhole) (arg3 : Memref sig .tc .vmem S1x64x1024 .bf16) (harg3 : arg3.IsWhole) (arg4 : Memref sig .tc .vmem S1x64x1024 .bf16) (harg4 : arg4.IsWhole) (arg5 : Memref sig .tc .vmem S1x64x1024 .bf16) (harg5 : arg5.IsWhole) (arg6 : Memref sig .tc .vmem S1x64x1024 .bf16) (harg6 : arg6.IsWhole) (arg7 : Memref sig .tc .vmem S1x64x1024 .bf16) (harg7 : arg7.IsWhole) (arg8 : Memref sig .tc .vmem S64x1024 .bf16) (harg8 : arg8.IsWhole) (arg9 : Memref sig .tc .vmem S1x1x1x1024 .f32) (harg9 : arg9.IsWhole) (arg10 : Memref sig .tc .vmem S1x64x1024 .bf16) (harg10 : arg10.IsWhole) (arg11 : Memref sig .tc .vmem S1x64x1024 .bf16) (harg11 : arg11.IsWhole) (arg12 : Memref sig .tc .vmem S1x64x1024 .bf16) (harg12 : arg12.IsWhole) (arg13 : Memref sig .tc .vmem S1x64x1024 .bf16) (harg13 : arg13.IsWhole) (arg14 : Memref sig .tc .vmem S1x64x1024 .bf16) (harg14 : arg14.IsWhole) (arg15 : Memref sig .tc .vmem S1x64x1024 .bf16) (harg15 : arg15.IsWhole) (arg16 : Memref sig .tc .vmem S64x1024 .bf16) (harg16 : arg16.IsWhole) (arg17 : Memref sig .tc .vmem S1x1x1x1024 .f32) (harg17 : arg17.IsWhole) (arg18 : Memref sig .tc .vmem S64x1024 .f32) (harg18 : arg18.IsWhole) (arg19 : Memref sig .tc .vmem S64x1024 .f32) (harg19 : arg19.IsWhole) (arg20 : Memref sig .tc .vmem S2x8x128x128 .f32) (harg20 : arg20.IsWhole) (hc0 : cond0_0 i)
    (x0 : Vec F S1x64x1024 .bf16) (x1 : Vec F S1x64x1024 .bf16) (x2 : Vec F S1x64x1024 .bf16) (x3 : Vec F S1x64x1024 .bf16) (x4 : Vec F S1x64x1024 .bf16) (x5 : Vec F S1x64x1024 .bf16) (x6 : Vec F S64x1024 .bf16) (x7 : Vec F S1x1x1x1024 .f32) (x8 : Vec F S1x64x1024 .bf16) (x9 : Vec F S1x64x1024 .bf16) (x10 : Vec F S1x64x1024 .bf16) (x11 : Vec F S1x64x1024 .bf16) (x12 : Vec F S1x64x1024 .bf16) (x13 : Vec F S1x64x1024 .bf16) (x14 : Vec F S64x1024 .bf16) (x15 : Vec F S1x1x1x1024 .f32) :
    sout0_A_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 x11 x12 x13 x14 x15 = statePoint x0 x1 x2 x3 x4 x5 x6 x7 x8 x9 x10 x11 x12 x13 x14 x15 (k0_pay3 (F := F)) := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 x11 x12 x13 x14 x15), listAS]
  funext y
  refine canon_drop_last (statePoint x0 x1 x2 x3 x4 x5 x6 x7 x8 x9 x10 x11 x12 x13 x14 x15 (k0_pay3 (F := F))) _ _ ?_ y (View.cover_of_tiledL (s := S2x8x128x128) _ S1x1x128x128.size (by sl_kernel_rfl) y)
  refine List.forall_mem_cons.mpr ⟨?_, List.forall_mem_cons.mpr ⟨?_, List.forall_mem_cons.mpr ⟨?_, List.forall_mem_cons.mpr ⟨?_, List.forall_mem_cons.mpr ⟨?_, List.forall_mem_cons.mpr ⟨?_, List.forall_mem_cons.mpr ⟨?_, List.forall_mem_cons.mpr ⟨?_, List.forall_mem_cons.mpr ⟨?_, List.forall_mem_cons.mpr ⟨?_, List.forall_mem_cons.mpr ⟨?_, List.forall_mem_cons.mpr ⟨?_, List.forall_mem_cons.mpr ⟨?_, List.forall_mem_cons.mpr ⟨?_, List.forall_mem_cons.mpr ⟨?_, List.forall_mem_cons.mpr ⟨?_, fun _ h => absurd h List.not_mem_nil⟩⟩⟩⟩⟩⟩⟩⟩⟩⟩⟩⟩⟩⟩⟩⟩
  · intro x
    refine Eq.trans (congrFun ?_ x) (plane_piece (stPoint k0_pay6 1 7 x8 x9 x10 x11 x12 x13 x14 x15 (k0_pay3 (F := F))) 1 7 1 7 rfl rfl inb_S2x8x128x128_S1x1x128x128_1_7_0_0 x (statePoint x0 x1 x2 x3 x4 x5 x6 x7 x8 x9 x10 x11 x12 x13 x14 x15 (k0_pay3 (F := F))) (fun i j => rfl))
    simp only [stPoint, rd3_eq _ _ 896 7 rfl, rd2_eq _ _ 896 7 rfl, rd4_eq _ _ 896 7 rfl, rdZ_eq _ 1 7 1 7 rfl rfl]
  · intro x
    refine Eq.trans (congrFun ?_ x) (plane_piece (stPoint k0_pay6 1 6 x8 x9 x10 x11 x12 x13 x14 x15 (k0_pay3 (F := F))) 1 6 1 6 rfl rfl inb_S2x8x128x128_S1x1x128x128_1_6_0_0 x (statePoint x0 x1 x2 x3 x4 x5 x6 x7 x8 x9 x10 x11 x12 x13 x14 x15 (k0_pay3 (F := F))) (fun i j => rfl))
    simp only [stPoint, rd3_eq _ _ 768 6 rfl, rd2_eq _ _ 768 6 rfl, rd4_eq _ _ 768 6 rfl, rdZ_eq _ 1 6 1 6 rfl rfl]
  · intro x
    refine Eq.trans (congrFun ?_ x) (plane_piece (stPoint k0_pay6 1 5 x8 x9 x10 x11 x12 x13 x14 x15 (k0_pay3 (F := F))) 1 5 1 5 rfl rfl inb_S2x8x128x128_S1x1x128x128_1_5_0_0 x (statePoint x0 x1 x2 x3 x4 x5 x6 x7 x8 x9 x10 x11 x12 x13 x14 x15 (k0_pay3 (F := F))) (fun i j => rfl))
    simp only [stPoint, rd3_eq _ _ 640 5 rfl, rd2_eq _ _ 640 5 rfl, rd4_eq _ _ 640 5 rfl, rdZ_eq _ 1 5 1 5 rfl rfl]
  · intro x
    refine Eq.trans (congrFun ?_ x) (plane_piece (stPoint k0_pay6 1 4 x8 x9 x10 x11 x12 x13 x14 x15 (k0_pay3 (F := F))) 1 4 1 4 rfl rfl inb_S2x8x128x128_S1x1x128x128_1_4_0_0 x (statePoint x0 x1 x2 x3 x4 x5 x6 x7 x8 x9 x10 x11 x12 x13 x14 x15 (k0_pay3 (F := F))) (fun i j => rfl))
    simp only [stPoint, rd3_eq _ _ 512 4 rfl, rd2_eq _ _ 512 4 rfl, rd4_eq _ _ 512 4 rfl, rdZ_eq _ 1 4 1 4 rfl rfl]
  · intro x
    refine Eq.trans (congrFun ?_ x) (plane_piece (stPoint k0_pay6 1 3 x8 x9 x10 x11 x12 x13 x14 x15 (k0_pay3 (F := F))) 1 3 1 3 rfl rfl inb_S2x8x128x128_S1x1x128x128_1_3_0_0 x (statePoint x0 x1 x2 x3 x4 x5 x6 x7 x8 x9 x10 x11 x12 x13 x14 x15 (k0_pay3 (F := F))) (fun i j => rfl))
    simp only [stPoint, rd3_eq _ _ 384 3 rfl, rd2_eq _ _ 384 3 rfl, rd4_eq _ _ 384 3 rfl, rdZ_eq _ 1 3 1 3 rfl rfl]
  · intro x
    refine Eq.trans (congrFun ?_ x) (plane_piece (stPoint k0_pay6 1 2 x8 x9 x10 x11 x12 x13 x14 x15 (k0_pay3 (F := F))) 1 2 1 2 rfl rfl inb_S2x8x128x128_S1x1x128x128_1_2_0_0 x (statePoint x0 x1 x2 x3 x4 x5 x6 x7 x8 x9 x10 x11 x12 x13 x14 x15 (k0_pay3 (F := F))) (fun i j => rfl))
    simp only [stPoint, rd3_eq _ _ 256 2 rfl, rd2_eq _ _ 256 2 rfl, rd4_eq _ _ 256 2 rfl, rdZ_eq _ 1 2 1 2 rfl rfl]
  · intro x
    refine Eq.trans (congrFun ?_ x) (plane_piece (stPoint k0_pay6 1 1 x8 x9 x10 x11 x12 x13 x14 x15 (k0_pay3 (F := F))) 1 1 1 1 rfl rfl inb_S2x8x128x128_S1x1x128x128_1_1_0_0 x (statePoint x0 x1 x2 x3 x4 x5 x6 x7 x8 x9 x10 x11 x12 x13 x14 x15 (k0_pay3 (F := F))) (fun i j => rfl))
    simp only [stPoint, rd3_eq _ _ 128 1 rfl, rd2_eq _ _ 128 1 rfl, rd4_eq _ _ 128 1 rfl, rdZ_eq _ 1 1 1 1 rfl rfl]
  · intro x
    refine Eq.trans (congrFun ?_ x) (plane_piece (stPoint k0_pay6 1 0 x8 x9 x10 x11 x12 x13 x14 x15 (k0_pay3 (F := F))) 1 0 1 0 rfl rfl inb_S2x8x128x128_S1x1x128x128_1_0_0_0 x (statePoint x0 x1 x2 x3 x4 x5 x6 x7 x8 x9 x10 x11 x12 x13 x14 x15 (k0_pay3 (F := F))) (fun i j => rfl))
    simp only [stPoint, rd3_eq _ _ 0 0 rfl, rd2_eq _ _ 0 0 rfl, rd4_eq _ _ 0 0 rfl, rdZ_eq _ 1 0 1 0 rfl rfl]
  · intro x
    refine Eq.trans (congrFun ?_ x) (plane_piece (stPoint k0_pay5 0 7 x0 x1 x2 x3 x4 x5 x6 x7 (k0_pay3 (F := F))) 0 7 0 7 rfl rfl inb_S2x8x128x128_S1x1x128x128_0_7_0_0 x (statePoint x0 x1 x2 x3 x4 x5 x6 x7 x8 x9 x10 x11 x12 x13 x14 x15 (k0_pay3 (F := F))) (fun i j => rfl))
    simp only [stPoint, rd3_eq _ _ 896 7 rfl, rd2_eq _ _ 896 7 rfl, rd4_eq _ _ 896 7 rfl, rdZ_eq _ 0 7 0 7 rfl rfl]
  · intro x
    refine Eq.trans (congrFun ?_ x) (plane_piece (stPoint k0_pay5 0 6 x0 x1 x2 x3 x4 x5 x6 x7 (k0_pay3 (F := F))) 0 6 0 6 rfl rfl inb_S2x8x128x128_S1x1x128x128_0_6_0_0 x (statePoint x0 x1 x2 x3 x4 x5 x6 x7 x8 x9 x10 x11 x12 x13 x14 x15 (k0_pay3 (F := F))) (fun i j => rfl))
    simp only [stPoint, rd3_eq _ _ 768 6 rfl, rd2_eq _ _ 768 6 rfl, rd4_eq _ _ 768 6 rfl, rdZ_eq _ 0 6 0 6 rfl rfl]
  · intro x
    refine Eq.trans (congrFun ?_ x) (plane_piece (stPoint k0_pay5 0 5 x0 x1 x2 x3 x4 x5 x6 x7 (k0_pay3 (F := F))) 0 5 0 5 rfl rfl inb_S2x8x128x128_S1x1x128x128_0_5_0_0 x (statePoint x0 x1 x2 x3 x4 x5 x6 x7 x8 x9 x10 x11 x12 x13 x14 x15 (k0_pay3 (F := F))) (fun i j => rfl))
    simp only [stPoint, rd3_eq _ _ 640 5 rfl, rd2_eq _ _ 640 5 rfl, rd4_eq _ _ 640 5 rfl, rdZ_eq _ 0 5 0 5 rfl rfl]
  · intro x
    refine Eq.trans (congrFun ?_ x) (plane_piece (stPoint k0_pay5 0 4 x0 x1 x2 x3 x4 x5 x6 x7 (k0_pay3 (F := F))) 0 4 0 4 rfl rfl inb_S2x8x128x128_S1x1x128x128_0_4_0_0 x (statePoint x0 x1 x2 x3 x4 x5 x6 x7 x8 x9 x10 x11 x12 x13 x14 x15 (k0_pay3 (F := F))) (fun i j => rfl))
    simp only [stPoint, rd3_eq _ _ 512 4 rfl, rd2_eq _ _ 512 4 rfl, rd4_eq _ _ 512 4 rfl, rdZ_eq _ 0 4 0 4 rfl rfl]
  · intro x
    refine Eq.trans (congrFun ?_ x) (plane_piece (stPoint k0_pay5 0 3 x0 x1 x2 x3 x4 x5 x6 x7 (k0_pay3 (F := F))) 0 3 0 3 rfl rfl inb_S2x8x128x128_S1x1x128x128_0_3_0_0 x (statePoint x0 x1 x2 x3 x4 x5 x6 x7 x8 x9 x10 x11 x12 x13 x14 x15 (k0_pay3 (F := F))) (fun i j => rfl))
    simp only [stPoint, rd3_eq _ _ 384 3 rfl, rd2_eq _ _ 384 3 rfl, rd4_eq _ _ 384 3 rfl, rdZ_eq _ 0 3 0 3 rfl rfl]
  · intro x
    refine Eq.trans (congrFun ?_ x) (plane_piece (stPoint k0_pay5 0 2 x0 x1 x2 x3 x4 x5 x6 x7 (k0_pay3 (F := F))) 0 2 0 2 rfl rfl inb_S2x8x128x128_S1x1x128x128_0_2_0_0 x (statePoint x0 x1 x2 x3 x4 x5 x6 x7 x8 x9 x10 x11 x12 x13 x14 x15 (k0_pay3 (F := F))) (fun i j => rfl))
    simp only [stPoint, rd3_eq _ _ 256 2 rfl, rd2_eq _ _ 256 2 rfl, rd4_eq _ _ 256 2 rfl, rdZ_eq _ 0 2 0 2 rfl rfl]
  · intro x
    refine Eq.trans (congrFun ?_ x) (plane_piece (stPoint k0_pay5 0 1 x0 x1 x2 x3 x4 x5 x6 x7 (k0_pay3 (F := F))) 0 1 0 1 rfl rfl inb_S2x8x128x128_S1x1x128x128_0_1_0_0 x (statePoint x0 x1 x2 x3 x4 x5 x6 x7 x8 x9 x10 x11 x12 x13 x14 x15 (k0_pay3 (F := F))) (fun i j => rfl))
    simp only [stPoint, rd3_eq _ _ 128 1 rfl, rd2_eq _ _ 128 1 rfl, rd4_eq _ _ 128 1 rfl, rdZ_eq _ 0 1 0 1 rfl rfl]
  · intro x
    refine Eq.trans (congrFun ?_ x) (plane_piece (stPoint k0_pay5 0 0 x0 x1 x2 x3 x4 x5 x6 x7 (k0_pay3 (F := F))) 0 0 0 0 rfl rfl inb_S2x8x128x128_S1x1x128x128_0_0_0_0 x (statePoint x0 x1 x2 x3 x4 x5 x6 x7 x8 x9 x10 x11 x12 x13 x14 x15 (k0_pay3 (F := F))) (fun i j => rfl))
    simp only [stPoint, rd3_eq _ _ 0 0 rfl, rd2_eq _ _ 0 0 rfl, rd4_eq _ _ 0 0 rfl, rdZ_eq _ 0 0 0 0 rfl rfl]

/-- The pieces stored into output 16, case B: one chain per pair. -/
theorem listB16 (c : Dev nD) (i : grid0.Coords) (arg2 : Memref sig .tc .vmem S1x64x1024 .bf16) (harg2 : arg2.IsWhole) (arg3 : Memref sig .tc .vmem S1x64x1024 .bf16) (harg3 : arg3.IsWhole) (arg4 : Memref sig .tc .vmem S1x64x1024 .bf16) (harg4 : arg4.IsWhole) (arg5 : Memref sig .tc .vmem S1x64x1024 .bf16) (harg5 : arg5.IsWhole) (arg6 : Memref sig .tc .vmem S1x64x1024 .bf16) (harg6 : arg6.IsWhole) (arg7 : Memref sig .tc .vmem S1x64x1024 .bf16) (harg7 : arg7.IsWhole) (arg8 : Memref sig .tc .vmem S64x1024 .bf16) (harg8 : arg8.IsWhole) (arg9 : Memref sig .tc .vmem S1x1x1x1024 .f32) (harg9 : arg9.IsWhole) (arg10 : Memref sig .tc .vmem S1x64x1024 .bf16) (harg10 : arg10.IsWhole) (arg11 : Memref sig .tc .vmem S1x64x1024 .bf16) (harg11 : arg11.IsWhole) (arg12 : Memref sig .tc .vmem S1x64x1024 .bf16) (harg12 : arg12.IsWhole) (arg13 : Memref sig .tc .vmem S1x64x1024 .bf16) (harg13 : arg13.IsWhole) (arg14 : Memref sig .tc .vmem S1x64x1024 .bf16) (harg14 : arg14.IsWhole) (arg15 : Memref sig .tc .vmem S1x64x1024 .bf16) (harg15 : arg15.IsWhole) (arg16 : Memref sig .tc .vmem S64x1024 .bf16) (harg16 : arg16.IsWhole) (arg17 : Memref sig .tc .vmem S1x1x1x1024 .f32) (harg17 : arg17.IsWhole) (arg18 : Memref sig .tc .vmem S64x1024 .f32) (harg18 : arg18.IsWhole) (arg19 : Memref sig .tc .vmem S64x1024 .f32) (harg19 : arg19.IsWhole) (arg20 : Memref sig .tc .vmem S2x8x128x128 .f32) (harg20 : arg20.IsWhole) (hc0 : ¬cond0_0 i)
    (x0 : Vec F S1x64x1024 .bf16) (x1 : Vec F S1x64x1024 .bf16) (x2 : Vec F S1x64x1024 .bf16) (x3 : Vec F S1x64x1024 .bf16) (x4 : Vec F S1x64x1024 .bf16) (x5 : Vec F S1x64x1024 .bf16) (x6 : Vec F S64x1024 .bf16) (x7 : Vec F S1x1x1x1024 .f32) (x8 : Vec F S1x64x1024 .bf16) (x9 : Vec F S1x64x1024 .bf16) (x10 : Vec F S1x64x1024 .bf16) (x11 : Vec F S1x64x1024 .bf16) (x12 : Vec F S1x64x1024 .bf16) (x13 : Vec F S1x64x1024 .bf16) (x14 : Vec F S64x1024 .bf16) (x15 : Vec F S1x1x1x1024 .f32) (xs0 : Vec F S2x8x128x128 .f32) :
    (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 x11 x12 x13 x14 x15 xs0).1 = [
      ⟨Rect.unit ![0, 896] S64x128.size inb_S64x1024_S64x128_0_896, chainY k0_pay5 (rd3 harg2 x0 896 inb_S1x64x1024_S1x64x128_0_0_896) (rd3 harg3 x1 896 inb_S1x64x1024_S1x64x128_0_0_896) (rd3 harg4 x2 896 inb_S1x64x1024_S1x64x128_0_0_896) (rd3 harg5 x3 896 inb_S1x64x1024_S1x64x128_0_0_896) (rd2 harg8 x6 896 inb_S64x1024_S64x128_0_896) (rdS harg20 xs0 0 7 inb_S2x8x128x128_S1x1x128x128_0_7_0_0)⟩,
      ⟨Rect.unit ![0, 768] S64x128.size inb_S64x1024_S64x128_0_768, chainY k0_pay5 (rd3 harg2 x0 768 inb_S1x64x1024_S1x64x128_0_0_768) (rd3 harg3 x1 768 inb_S1x64x1024_S1x64x128_0_0_768) (rd3 harg4 x2 768 inb_S1x64x1024_S1x64x128_0_0_768) (rd3 harg5 x3 768 inb_S1x64x1024_S1x64x128_0_0_768) (rd2 harg8 x6 768 inb_S64x1024_S64x128_0_768) (rdS harg20 xs0 0 6 inb_S2x8x128x128_S1x1x128x128_0_6_0_0)⟩,
      ⟨Rect.unit ![0, 640] S64x128.size inb_S64x1024_S64x128_0_640, chainY k0_pay5 (rd3 harg2 x0 640 inb_S1x64x1024_S1x64x128_0_0_640) (rd3 harg3 x1 640 inb_S1x64x1024_S1x64x128_0_0_640) (rd3 harg4 x2 640 inb_S1x64x1024_S1x64x128_0_0_640) (rd3 harg5 x3 640 inb_S1x64x1024_S1x64x128_0_0_640) (rd2 harg8 x6 640 inb_S64x1024_S64x128_0_640) (rdS harg20 xs0 0 5 inb_S2x8x128x128_S1x1x128x128_0_5_0_0)⟩,
      ⟨Rect.unit ![0, 512] S64x128.size inb_S64x1024_S64x128_0_512, chainY k0_pay5 (rd3 harg2 x0 512 inb_S1x64x1024_S1x64x128_0_0_512) (rd3 harg3 x1 512 inb_S1x64x1024_S1x64x128_0_0_512) (rd3 harg4 x2 512 inb_S1x64x1024_S1x64x128_0_0_512) (rd3 harg5 x3 512 inb_S1x64x1024_S1x64x128_0_0_512) (rd2 harg8 x6 512 inb_S64x1024_S64x128_0_512) (rdS harg20 xs0 0 4 inb_S2x8x128x128_S1x1x128x128_0_4_0_0)⟩,
      ⟨Rect.unit ![0, 384] S64x128.size inb_S64x1024_S64x128_0_384, chainY k0_pay5 (rd3 harg2 x0 384 inb_S1x64x1024_S1x64x128_0_0_384) (rd3 harg3 x1 384 inb_S1x64x1024_S1x64x128_0_0_384) (rd3 harg4 x2 384 inb_S1x64x1024_S1x64x128_0_0_384) (rd3 harg5 x3 384 inb_S1x64x1024_S1x64x128_0_0_384) (rd2 harg8 x6 384 inb_S64x1024_S64x128_0_384) (rdS harg20 xs0 0 3 inb_S2x8x128x128_S1x1x128x128_0_3_0_0)⟩,
      ⟨Rect.unit ![0, 256] S64x128.size inb_S64x1024_S64x128_0_256, chainY k0_pay5 (rd3 harg2 x0 256 inb_S1x64x1024_S1x64x128_0_0_256) (rd3 harg3 x1 256 inb_S1x64x1024_S1x64x128_0_0_256) (rd3 harg4 x2 256 inb_S1x64x1024_S1x64x128_0_0_256) (rd3 harg5 x3 256 inb_S1x64x1024_S1x64x128_0_0_256) (rd2 harg8 x6 256 inb_S64x1024_S64x128_0_256) (rdS harg20 xs0 0 2 inb_S2x8x128x128_S1x1x128x128_0_2_0_0)⟩,
      ⟨Rect.unit ![0, 128] S64x128.size inb_S64x1024_S64x128_0_128, chainY k0_pay5 (rd3 harg2 x0 128 inb_S1x64x1024_S1x64x128_0_0_128) (rd3 harg3 x1 128 inb_S1x64x1024_S1x64x128_0_0_128) (rd3 harg4 x2 128 inb_S1x64x1024_S1x64x128_0_0_128) (rd3 harg5 x3 128 inb_S1x64x1024_S1x64x128_0_0_128) (rd2 harg8 x6 128 inb_S64x1024_S64x128_0_128) (rdS harg20 xs0 0 1 inb_S2x8x128x128_S1x1x128x128_0_1_0_0)⟩,
      ⟨Rect.unit ![0, 0] S64x128.size inb_S64x1024_S64x128_0_0, chainY k0_pay5 (rd3 harg2 x0 0 inb_S1x64x1024_S1x64x128_0_0_0) (rd3 harg3 x1 0 inb_S1x64x1024_S1x64x128_0_0_0) (rd3 harg4 x2 0 inb_S1x64x1024_S1x64x128_0_0_0) (rd3 harg5 x3 0 inb_S1x64x1024_S1x64x128_0_0_0) (rd2 harg8 x6 0 inb_S64x1024_S64x128_0_0) (rdS harg20 xs0 0 0 inb_S2x8x128x128_S1x1x128x128_0_0_0_0)⟩] := rfl

/-- What case B leaves in output 16's block. -/
theorem outB16 (c : Dev nD) (i : grid0.Coords) (arg2 : Memref sig .tc .vmem S1x64x1024 .bf16) (harg2 : arg2.IsWhole) (arg3 : Memref sig .tc .vmem S1x64x1024 .bf16) (harg3 : arg3.IsWhole) (arg4 : Memref sig .tc .vmem S1x64x1024 .bf16) (harg4 : arg4.IsWhole) (arg5 : Memref sig .tc .vmem S1x64x1024 .bf16) (harg5 : arg5.IsWhole) (arg6 : Memref sig .tc .vmem S1x64x1024 .bf16) (harg6 : arg6.IsWhole) (arg7 : Memref sig .tc .vmem S1x64x1024 .bf16) (harg7 : arg7.IsWhole) (arg8 : Memref sig .tc .vmem S64x1024 .bf16) (harg8 : arg8.IsWhole) (arg9 : Memref sig .tc .vmem S1x1x1x1024 .f32) (harg9 : arg9.IsWhole) (arg10 : Memref sig .tc .vmem S1x64x1024 .bf16) (harg10 : arg10.IsWhole) (arg11 : Memref sig .tc .vmem S1x64x1024 .bf16) (harg11 : arg11.IsWhole) (arg12 : Memref sig .tc .vmem S1x64x1024 .bf16) (harg12 : arg12.IsWhole) (arg13 : Memref sig .tc .vmem S1x64x1024 .bf16) (harg13 : arg13.IsWhole) (arg14 : Memref sig .tc .vmem S1x64x1024 .bf16) (harg14 : arg14.IsWhole) (arg15 : Memref sig .tc .vmem S1x64x1024 .bf16) (harg15 : arg15.IsWhole) (arg16 : Memref sig .tc .vmem S64x1024 .bf16) (harg16 : arg16.IsWhole) (arg17 : Memref sig .tc .vmem S1x1x1x1024 .f32) (harg17 : arg17.IsWhole) (arg18 : Memref sig .tc .vmem S64x1024 .f32) (harg18 : arg18.IsWhole) (arg19 : Memref sig .tc .vmem S64x1024 .f32) (harg19 : arg19.IsWhole) (arg20 : Memref sig .tc .vmem S2x8x128x128 .f32) (harg20 : arg20.IsWhole) (hc0 : ¬cond0_0 i)
    (x0 : Vec F S1x64x1024 .bf16) (x1 : Vec F S1x64x1024 .bf16) (x2 : Vec F S1x64x1024 .bf16) (x3 : Vec F S1x64x1024 .bf16) (x4 : Vec F S1x64x1024 .bf16) (x5 : Vec F S1x64x1024 .bf16) (x6 : Vec F S64x1024 .bf16) (x7 : Vec F S1x1x1x1024 .f32) (x8 : Vec F S1x64x1024 .bf16) (x9 : Vec F S1x64x1024 .bf16) (x10 : Vec F S1x64x1024 .bf16) (x11 : Vec F S1x64x1024 .bf16) (x12 : Vec F S1x64x1024 .bf16) (x13 : Vec F S1x64x1024 .bf16) (x14 : Vec F S64x1024 .bf16) (x15 : Vec F S1x1x1x1024 .f32) (xs0 : Vec F S2x8x128x128 .f32) :
    out0_B_16 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 x11 x12 x13 x14 x15 xs0 = outPoint k0_pay5 0 x0 x1 x2 x3 x6 xs0 := by
  unfold out0_B_16
  rw [View.read_writes_eq_canon _ _ _ (cover0_B_16 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 x11 x12 x13 x14 x15 xs0)]
  funext y
  refine View.canon_apply_of_pieces (outPoint k0_pay5 0 x0 x1 x2 x3 x6 xs0) _ ?_ y (cover0_B_16 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 x11 x12 x13 x14 x15 xs0 y)
  rw [listB16]
  refine List.forall_mem_cons.mpr ⟨?_, List.forall_mem_cons.mpr ⟨?_, List.forall_mem_cons.mpr ⟨?_, List.forall_mem_cons.mpr ⟨?_, List.forall_mem_cons.mpr ⟨?_, List.forall_mem_cons.mpr ⟨?_, List.forall_mem_cons.mpr ⟨?_, List.forall_mem_cons.mpr ⟨?_, fun _ h => absurd h List.not_mem_nil⟩⟩⟩⟩⟩⟩⟩⟩
  · intro x
    refine Eq.trans (congrFun ?_ x) (out_piece k0_pay5 0 x0 x1 x2 x3 x6 xs0 7 896 rfl inb_S64x1024_S64x128_0_896 x)
    simp only [rd3_eq _ _ 896 7 rfl, rd2_eq _ _ 896 7 rfl, rdS_eq _ _ 0 7 0 7 rfl rfl]
  · intro x
    refine Eq.trans (congrFun ?_ x) (out_piece k0_pay5 0 x0 x1 x2 x3 x6 xs0 6 768 rfl inb_S64x1024_S64x128_0_768 x)
    simp only [rd3_eq _ _ 768 6 rfl, rd2_eq _ _ 768 6 rfl, rdS_eq _ _ 0 6 0 6 rfl rfl]
  · intro x
    refine Eq.trans (congrFun ?_ x) (out_piece k0_pay5 0 x0 x1 x2 x3 x6 xs0 5 640 rfl inb_S64x1024_S64x128_0_640 x)
    simp only [rd3_eq _ _ 640 5 rfl, rd2_eq _ _ 640 5 rfl, rdS_eq _ _ 0 5 0 5 rfl rfl]
  · intro x
    refine Eq.trans (congrFun ?_ x) (out_piece k0_pay5 0 x0 x1 x2 x3 x6 xs0 4 512 rfl inb_S64x1024_S64x128_0_512 x)
    simp only [rd3_eq _ _ 512 4 rfl, rd2_eq _ _ 512 4 rfl, rdS_eq _ _ 0 4 0 4 rfl rfl]
  · intro x
    refine Eq.trans (congrFun ?_ x) (out_piece k0_pay5 0 x0 x1 x2 x3 x6 xs0 3 384 rfl inb_S64x1024_S64x128_0_384 x)
    simp only [rd3_eq _ _ 384 3 rfl, rd2_eq _ _ 384 3 rfl, rdS_eq _ _ 0 3 0 3 rfl rfl]
  · intro x
    refine Eq.trans (congrFun ?_ x) (out_piece k0_pay5 0 x0 x1 x2 x3 x6 xs0 2 256 rfl inb_S64x1024_S64x128_0_256 x)
    simp only [rd3_eq _ _ 256 2 rfl, rd2_eq _ _ 256 2 rfl, rdS_eq _ _ 0 2 0 2 rfl rfl]
  · intro x
    refine Eq.trans (congrFun ?_ x) (out_piece k0_pay5 0 x0 x1 x2 x3 x6 xs0 1 128 rfl inb_S64x1024_S64x128_0_128 x)
    simp only [rd3_eq _ _ 128 1 rfl, rd2_eq _ _ 128 1 rfl, rdS_eq _ _ 0 1 0 1 rfl rfl]
  · intro x
    refine Eq.trans (congrFun ?_ x) (out_piece k0_pay5 0 x0 x1 x2 x3 x6 xs0 0 0 rfl inb_S64x1024_S64x128_0_0 x)
    simp only [rd3_eq _ _ 0 0 rfl, rd2_eq _ _ 0 0 rfl, rdS_eq _ _ 0 0 0 0 rfl rfl]

/-- The pieces stored into output 17, case B: one chain per pair. -/
theorem listB17 (c : Dev nD) (i : grid0.Coords) (arg2 : Memref sig .tc .vmem S1x64x1024 .bf16) (harg2 : arg2.IsWhole) (arg3 : Memref sig .tc .vmem S1x64x1024 .bf16) (harg3 : arg3.IsWhole) (arg4 : Memref sig .tc .vmem S1x64x1024 .bf16) (harg4 : arg4.IsWhole) (arg5 : Memref sig .tc .vmem S1x64x1024 .bf16) (harg5 : arg5.IsWhole) (arg6 : Memref sig .tc .vmem S1x64x1024 .bf16) (harg6 : arg6.IsWhole) (arg7 : Memref sig .tc .vmem S1x64x1024 .bf16) (harg7 : arg7.IsWhole) (arg8 : Memref sig .tc .vmem S64x1024 .bf16) (harg8 : arg8.IsWhole) (arg9 : Memref sig .tc .vmem S1x1x1x1024 .f32) (harg9 : arg9.IsWhole) (arg10 : Memref sig .tc .vmem S1x64x1024 .bf16) (harg10 : arg10.IsWhole) (arg11 : Memref sig .tc .vmem S1x64x1024 .bf16) (harg11 : arg11.IsWhole) (arg12 : Memref sig .tc .vmem S1x64x1024 .bf16) (harg12 : arg12.IsWhole) (arg13 : Memref sig .tc .vmem S1x64x1024 .bf16) (harg13 : arg13.IsWhole) (arg14 : Memref sig .tc .vmem S1x64x1024 .bf16) (harg14 : arg14.IsWhole) (arg15 : Memref sig .tc .vmem S1x64x1024 .bf16) (harg15 : arg15.IsWhole) (arg16 : Memref sig .tc .vmem S64x1024 .bf16) (harg16 : arg16.IsWhole) (arg17 : Memref sig .tc .vmem S1x1x1x1024 .f32) (harg17 : arg17.IsWhole) (arg18 : Memref sig .tc .vmem S64x1024 .f32) (harg18 : arg18.IsWhole) (arg19 : Memref sig .tc .vmem S64x1024 .f32) (harg19 : arg19.IsWhole) (arg20 : Memref sig .tc .vmem S2x8x128x128 .f32) (harg20 : arg20.IsWhole) (hc0 : ¬cond0_0 i)
    (x0 : Vec F S1x64x1024 .bf16) (x1 : Vec F S1x64x1024 .bf16) (x2 : Vec F S1x64x1024 .bf16) (x3 : Vec F S1x64x1024 .bf16) (x4 : Vec F S1x64x1024 .bf16) (x5 : Vec F S1x64x1024 .bf16) (x6 : Vec F S64x1024 .bf16) (x7 : Vec F S1x1x1x1024 .f32) (x8 : Vec F S1x64x1024 .bf16) (x9 : Vec F S1x64x1024 .bf16) (x10 : Vec F S1x64x1024 .bf16) (x11 : Vec F S1x64x1024 .bf16) (x12 : Vec F S1x64x1024 .bf16) (x13 : Vec F S1x64x1024 .bf16) (x14 : Vec F S64x1024 .bf16) (x15 : Vec F S1x1x1x1024 .f32) (xs0 : Vec F S2x8x128x128 .f32) :
    (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 x11 x12 x13 x14 x15 xs0).2.1 = [
      ⟨Rect.unit ![0, 896] S64x128.size inb_S64x1024_S64x128_0_896, chainY k0_pay6 (rd3 harg10 x8 896 inb_S1x64x1024_S1x64x128_0_0_896) (rd3 harg11 x9 896 inb_S1x64x1024_S1x64x128_0_0_896) (rd3 harg12 x10 896 inb_S1x64x1024_S1x64x128_0_0_896) (rd3 harg13 x11 896 inb_S1x64x1024_S1x64x128_0_0_896) (rd2 harg16 x14 896 inb_S64x1024_S64x128_0_896) (rdS harg20 xs0 1 7 inb_S2x8x128x128_S1x1x128x128_1_7_0_0)⟩,
      ⟨Rect.unit ![0, 768] S64x128.size inb_S64x1024_S64x128_0_768, chainY k0_pay6 (rd3 harg10 x8 768 inb_S1x64x1024_S1x64x128_0_0_768) (rd3 harg11 x9 768 inb_S1x64x1024_S1x64x128_0_0_768) (rd3 harg12 x10 768 inb_S1x64x1024_S1x64x128_0_0_768) (rd3 harg13 x11 768 inb_S1x64x1024_S1x64x128_0_0_768) (rd2 harg16 x14 768 inb_S64x1024_S64x128_0_768) (rdS harg20 xs0 1 6 inb_S2x8x128x128_S1x1x128x128_1_6_0_0)⟩,
      ⟨Rect.unit ![0, 640] S64x128.size inb_S64x1024_S64x128_0_640, chainY k0_pay6 (rd3 harg10 x8 640 inb_S1x64x1024_S1x64x128_0_0_640) (rd3 harg11 x9 640 inb_S1x64x1024_S1x64x128_0_0_640) (rd3 harg12 x10 640 inb_S1x64x1024_S1x64x128_0_0_640) (rd3 harg13 x11 640 inb_S1x64x1024_S1x64x128_0_0_640) (rd2 harg16 x14 640 inb_S64x1024_S64x128_0_640) (rdS harg20 xs0 1 5 inb_S2x8x128x128_S1x1x128x128_1_5_0_0)⟩,
      ⟨Rect.unit ![0, 512] S64x128.size inb_S64x1024_S64x128_0_512, chainY k0_pay6 (rd3 harg10 x8 512 inb_S1x64x1024_S1x64x128_0_0_512) (rd3 harg11 x9 512 inb_S1x64x1024_S1x64x128_0_0_512) (rd3 harg12 x10 512 inb_S1x64x1024_S1x64x128_0_0_512) (rd3 harg13 x11 512 inb_S1x64x1024_S1x64x128_0_0_512) (rd2 harg16 x14 512 inb_S64x1024_S64x128_0_512) (rdS harg20 xs0 1 4 inb_S2x8x128x128_S1x1x128x128_1_4_0_0)⟩,
      ⟨Rect.unit ![0, 384] S64x128.size inb_S64x1024_S64x128_0_384, chainY k0_pay6 (rd3 harg10 x8 384 inb_S1x64x1024_S1x64x128_0_0_384) (rd3 harg11 x9 384 inb_S1x64x1024_S1x64x128_0_0_384) (rd3 harg12 x10 384 inb_S1x64x1024_S1x64x128_0_0_384) (rd3 harg13 x11 384 inb_S1x64x1024_S1x64x128_0_0_384) (rd2 harg16 x14 384 inb_S64x1024_S64x128_0_384) (rdS harg20 xs0 1 3 inb_S2x8x128x128_S1x1x128x128_1_3_0_0)⟩,
      ⟨Rect.unit ![0, 256] S64x128.size inb_S64x1024_S64x128_0_256, chainY k0_pay6 (rd3 harg10 x8 256 inb_S1x64x1024_S1x64x128_0_0_256) (rd3 harg11 x9 256 inb_S1x64x1024_S1x64x128_0_0_256) (rd3 harg12 x10 256 inb_S1x64x1024_S1x64x128_0_0_256) (rd3 harg13 x11 256 inb_S1x64x1024_S1x64x128_0_0_256) (rd2 harg16 x14 256 inb_S64x1024_S64x128_0_256) (rdS harg20 xs0 1 2 inb_S2x8x128x128_S1x1x128x128_1_2_0_0)⟩,
      ⟨Rect.unit ![0, 128] S64x128.size inb_S64x1024_S64x128_0_128, chainY k0_pay6 (rd3 harg10 x8 128 inb_S1x64x1024_S1x64x128_0_0_128) (rd3 harg11 x9 128 inb_S1x64x1024_S1x64x128_0_0_128) (rd3 harg12 x10 128 inb_S1x64x1024_S1x64x128_0_0_128) (rd3 harg13 x11 128 inb_S1x64x1024_S1x64x128_0_0_128) (rd2 harg16 x14 128 inb_S64x1024_S64x128_0_128) (rdS harg20 xs0 1 1 inb_S2x8x128x128_S1x1x128x128_1_1_0_0)⟩,
      ⟨Rect.unit ![0, 0] S64x128.size inb_S64x1024_S64x128_0_0, chainY k0_pay6 (rd3 harg10 x8 0 inb_S1x64x1024_S1x64x128_0_0_0) (rd3 harg11 x9 0 inb_S1x64x1024_S1x64x128_0_0_0) (rd3 harg12 x10 0 inb_S1x64x1024_S1x64x128_0_0_0) (rd3 harg13 x11 0 inb_S1x64x1024_S1x64x128_0_0_0) (rd2 harg16 x14 0 inb_S64x1024_S64x128_0_0) (rdS harg20 xs0 1 0 inb_S2x8x128x128_S1x1x128x128_1_0_0_0)⟩] := rfl

/-- What case B leaves in output 17's block. -/
theorem outB17 (c : Dev nD) (i : grid0.Coords) (arg2 : Memref sig .tc .vmem S1x64x1024 .bf16) (harg2 : arg2.IsWhole) (arg3 : Memref sig .tc .vmem S1x64x1024 .bf16) (harg3 : arg3.IsWhole) (arg4 : Memref sig .tc .vmem S1x64x1024 .bf16) (harg4 : arg4.IsWhole) (arg5 : Memref sig .tc .vmem S1x64x1024 .bf16) (harg5 : arg5.IsWhole) (arg6 : Memref sig .tc .vmem S1x64x1024 .bf16) (harg6 : arg6.IsWhole) (arg7 : Memref sig .tc .vmem S1x64x1024 .bf16) (harg7 : arg7.IsWhole) (arg8 : Memref sig .tc .vmem S64x1024 .bf16) (harg8 : arg8.IsWhole) (arg9 : Memref sig .tc .vmem S1x1x1x1024 .f32) (harg9 : arg9.IsWhole) (arg10 : Memref sig .tc .vmem S1x64x1024 .bf16) (harg10 : arg10.IsWhole) (arg11 : Memref sig .tc .vmem S1x64x1024 .bf16) (harg11 : arg11.IsWhole) (arg12 : Memref sig .tc .vmem S1x64x1024 .bf16) (harg12 : arg12.IsWhole) (arg13 : Memref sig .tc .vmem S1x64x1024 .bf16) (harg13 : arg13.IsWhole) (arg14 : Memref sig .tc .vmem S1x64x1024 .bf16) (harg14 : arg14.IsWhole) (arg15 : Memref sig .tc .vmem S1x64x1024 .bf16) (harg15 : arg15.IsWhole) (arg16 : Memref sig .tc .vmem S64x1024 .bf16) (harg16 : arg16.IsWhole) (arg17 : Memref sig .tc .vmem S1x1x1x1024 .f32) (harg17 : arg17.IsWhole) (arg18 : Memref sig .tc .vmem S64x1024 .f32) (harg18 : arg18.IsWhole) (arg19 : Memref sig .tc .vmem S64x1024 .f32) (harg19 : arg19.IsWhole) (arg20 : Memref sig .tc .vmem S2x8x128x128 .f32) (harg20 : arg20.IsWhole) (hc0 : ¬cond0_0 i)
    (x0 : Vec F S1x64x1024 .bf16) (x1 : Vec F S1x64x1024 .bf16) (x2 : Vec F S1x64x1024 .bf16) (x3 : Vec F S1x64x1024 .bf16) (x4 : Vec F S1x64x1024 .bf16) (x5 : Vec F S1x64x1024 .bf16) (x6 : Vec F S64x1024 .bf16) (x7 : Vec F S1x1x1x1024 .f32) (x8 : Vec F S1x64x1024 .bf16) (x9 : Vec F S1x64x1024 .bf16) (x10 : Vec F S1x64x1024 .bf16) (x11 : Vec F S1x64x1024 .bf16) (x12 : Vec F S1x64x1024 .bf16) (x13 : Vec F S1x64x1024 .bf16) (x14 : Vec F S64x1024 .bf16) (x15 : Vec F S1x1x1x1024 .f32) (xs0 : Vec F S2x8x128x128 .f32) :
    out0_B_17 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 x11 x12 x13 x14 x15 xs0 = outPoint k0_pay6 1 x8 x9 x10 x11 x14 xs0 := by
  unfold out0_B_17
  rw [View.read_writes_eq_canon _ _ _ (cover0_B_17 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 x11 x12 x13 x14 x15 xs0)]
  funext y
  refine View.canon_apply_of_pieces (outPoint k0_pay6 1 x8 x9 x10 x11 x14 xs0) _ ?_ y (cover0_B_17 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 x11 x12 x13 x14 x15 xs0 y)
  rw [listB17]
  refine List.forall_mem_cons.mpr ⟨?_, List.forall_mem_cons.mpr ⟨?_, List.forall_mem_cons.mpr ⟨?_, List.forall_mem_cons.mpr ⟨?_, List.forall_mem_cons.mpr ⟨?_, List.forall_mem_cons.mpr ⟨?_, List.forall_mem_cons.mpr ⟨?_, List.forall_mem_cons.mpr ⟨?_, fun _ h => absurd h List.not_mem_nil⟩⟩⟩⟩⟩⟩⟩⟩
  · intro x
    refine Eq.trans (congrFun ?_ x) (out_piece k0_pay6 1 x8 x9 x10 x11 x14 xs0 7 896 rfl inb_S64x1024_S64x128_0_896 x)
    simp only [rd3_eq _ _ 896 7 rfl, rd2_eq _ _ 896 7 rfl, rdS_eq _ _ 1 7 1 7 rfl rfl]
  · intro x
    refine Eq.trans (congrFun ?_ x) (out_piece k0_pay6 1 x8 x9 x10 x11 x14 xs0 6 768 rfl inb_S64x1024_S64x128_0_768 x)
    simp only [rd3_eq _ _ 768 6 rfl, rd2_eq _ _ 768 6 rfl, rdS_eq _ _ 1 6 1 6 rfl rfl]
  · intro x
    refine Eq.trans (congrFun ?_ x) (out_piece k0_pay6 1 x8 x9 x10 x11 x14 xs0 5 640 rfl inb_S64x1024_S64x128_0_640 x)
    simp only [rd3_eq _ _ 640 5 rfl, rd2_eq _ _ 640 5 rfl, rdS_eq _ _ 1 5 1 5 rfl rfl]
  · intro x
    refine Eq.trans (congrFun ?_ x) (out_piece k0_pay6 1 x8 x9 x10 x11 x14 xs0 4 512 rfl inb_S64x1024_S64x128_0_512 x)
    simp only [rd3_eq _ _ 512 4 rfl, rd2_eq _ _ 512 4 rfl, rdS_eq _ _ 1 4 1 4 rfl rfl]
  · intro x
    refine Eq.trans (congrFun ?_ x) (out_piece k0_pay6 1 x8 x9 x10 x11 x14 xs0 3 384 rfl inb_S64x1024_S64x128_0_384 x)
    simp only [rd3_eq _ _ 384 3 rfl, rd2_eq _ _ 384 3 rfl, rdS_eq _ _ 1 3 1 3 rfl rfl]
  · intro x
    refine Eq.trans (congrFun ?_ x) (out_piece k0_pay6 1 x8 x9 x10 x11 x14 xs0 2 256 rfl inb_S64x1024_S64x128_0_256 x)
    simp only [rd3_eq _ _ 256 2 rfl, rd2_eq _ _ 256 2 rfl, rdS_eq _ _ 1 2 1 2 rfl rfl]
  · intro x
    refine Eq.trans (congrFun ?_ x) (out_piece k0_pay6 1 x8 x9 x10 x11 x14 xs0 1 128 rfl inb_S64x1024_S64x128_0_128 x)
    simp only [rd3_eq _ _ 128 1 rfl, rd2_eq _ _ 128 1 rfl, rdS_eq _ _ 1 1 1 1 rfl rfl]
  · intro x
    refine Eq.trans (congrFun ?_ x) (out_piece k0_pay6 1 x8 x9 x10 x11 x14 xs0 0 0 rfl inb_S64x1024_S64x128_0_0 x)
    simp only [rd3_eq _ _ 0 0 rfl, rd2_eq _ _ 0 0 rfl, rdS_eq _ _ 1 0 1 0 rfl rfl]

/-- The pieces stored into the state, case B: one chain per direction and pair. -/
theorem listBS (c : Dev nD) (i : grid0.Coords) (arg2 : Memref sig .tc .vmem S1x64x1024 .bf16) (harg2 : arg2.IsWhole) (arg3 : Memref sig .tc .vmem S1x64x1024 .bf16) (harg3 : arg3.IsWhole) (arg4 : Memref sig .tc .vmem S1x64x1024 .bf16) (harg4 : arg4.IsWhole) (arg5 : Memref sig .tc .vmem S1x64x1024 .bf16) (harg5 : arg5.IsWhole) (arg6 : Memref sig .tc .vmem S1x64x1024 .bf16) (harg6 : arg6.IsWhole) (arg7 : Memref sig .tc .vmem S1x64x1024 .bf16) (harg7 : arg7.IsWhole) (arg8 : Memref sig .tc .vmem S64x1024 .bf16) (harg8 : arg8.IsWhole) (arg9 : Memref sig .tc .vmem S1x1x1x1024 .f32) (harg9 : arg9.IsWhole) (arg10 : Memref sig .tc .vmem S1x64x1024 .bf16) (harg10 : arg10.IsWhole) (arg11 : Memref sig .tc .vmem S1x64x1024 .bf16) (harg11 : arg11.IsWhole) (arg12 : Memref sig .tc .vmem S1x64x1024 .bf16) (harg12 : arg12.IsWhole) (arg13 : Memref sig .tc .vmem S1x64x1024 .bf16) (harg13 : arg13.IsWhole) (arg14 : Memref sig .tc .vmem S1x64x1024 .bf16) (harg14 : arg14.IsWhole) (arg15 : Memref sig .tc .vmem S1x64x1024 .bf16) (harg15 : arg15.IsWhole) (arg16 : Memref sig .tc .vmem S64x1024 .bf16) (harg16 : arg16.IsWhole) (arg17 : Memref sig .tc .vmem S1x1x1x1024 .f32) (harg17 : arg17.IsWhole) (arg18 : Memref sig .tc .vmem S64x1024 .f32) (harg18 : arg18.IsWhole) (arg19 : Memref sig .tc .vmem S64x1024 .f32) (harg19 : arg19.IsWhole) (arg20 : Memref sig .tc .vmem S2x8x128x128 .f32) (harg20 : arg20.IsWhole) (hc0 : ¬cond0_0 i)
    (x0 : Vec F S1x64x1024 .bf16) (x1 : Vec F S1x64x1024 .bf16) (x2 : Vec F S1x64x1024 .bf16) (x3 : Vec F S1x64x1024 .bf16) (x4 : Vec F S1x64x1024 .bf16) (x5 : Vec F S1x64x1024 .bf16) (x6 : Vec F S64x1024 .bf16) (x7 : Vec F S1x1x1x1024 .f32) (x8 : Vec F S1x64x1024 .bf16) (x9 : Vec F S1x64x1024 .bf16) (x10 : Vec F S1x64x1024 .bf16) (x11 : Vec F S1x64x1024 .bf16) (x12 : Vec F S1x64x1024 .bf16) (x13 : Vec F S1x64x1024 .bf16) (x14 : Vec F S64x1024 .bf16) (x15 : Vec F S1x1x1x1024 .f32) (xs0 : Vec F S2x8x128x128 .f32) :
    (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 x11 x12 x13 x14 x15 xs0).2.2.1 = [
      ⟨Rect.unit ![1, 7, 0, 0] S1x1x128x128.size inb_S2x8x128x128_S1x1x128x128_1_7_0_0, shapeCast S1x1x128x128 (chainS k0_pay6 sameHead (rd3 harg10 x8 896 inb_S1x64x1024_S1x64x128_0_0_896) (rd3 harg11 x9 896 inb_S1x64x1024_S1x64x128_0_0_896) (rd3 harg12 x10 896 inb_S1x64x1024_S1x64x128_0_0_896) (rd3 harg13 x11 896 inb_S1x64x1024_S1x64x128_0_0_896) (rd2 harg16 x14 896 inb_S64x1024_S64x128_0_896) (rd3 harg14 x12 896 inb_S1x64x1024_S1x64x128_0_0_896) (rd3 harg15 x13 896 inb_S1x64x1024_S1x64x128_0_0_896) (rd4 harg17 x15 896 inb_S1x1x1x1024_S1x1x1x128_0_0_0_896) (rdS harg20 xs0 1 7 inb_S2x8x128x128_S1x1x128x128_1_7_0_0)) shapeCasts_S128x128_S1x1x128x128⟩,
      ⟨Rect.unit ![1, 6, 0, 0] S1x1x128x128.size inb_S2x8x128x128_S1x1x128x128_1_6_0_0, shapeCast S1x1x128x128 (chainS k0_pay6 sameHead (rd3 harg10 x8 768 inb_S1x64x1024_S1x64x128_0_0_768) (rd3 harg11 x9 768 inb_S1x64x1024_S1x64x128_0_0_768) (rd3 harg12 x10 768 inb_S1x64x1024_S1x64x128_0_0_768) (rd3 harg13 x11 768 inb_S1x64x1024_S1x64x128_0_0_768) (rd2 harg16 x14 768 inb_S64x1024_S64x128_0_768) (rd3 harg14 x12 768 inb_S1x64x1024_S1x64x128_0_0_768) (rd3 harg15 x13 768 inb_S1x64x1024_S1x64x128_0_0_768) (rd4 harg17 x15 768 inb_S1x1x1x1024_S1x1x1x128_0_0_0_768) (rdS harg20 xs0 1 6 inb_S2x8x128x128_S1x1x128x128_1_6_0_0)) shapeCasts_S128x128_S1x1x128x128⟩,
      ⟨Rect.unit ![1, 5, 0, 0] S1x1x128x128.size inb_S2x8x128x128_S1x1x128x128_1_5_0_0, shapeCast S1x1x128x128 (chainS k0_pay6 sameHead (rd3 harg10 x8 640 inb_S1x64x1024_S1x64x128_0_0_640) (rd3 harg11 x9 640 inb_S1x64x1024_S1x64x128_0_0_640) (rd3 harg12 x10 640 inb_S1x64x1024_S1x64x128_0_0_640) (rd3 harg13 x11 640 inb_S1x64x1024_S1x64x128_0_0_640) (rd2 harg16 x14 640 inb_S64x1024_S64x128_0_640) (rd3 harg14 x12 640 inb_S1x64x1024_S1x64x128_0_0_640) (rd3 harg15 x13 640 inb_S1x64x1024_S1x64x128_0_0_640) (rd4 harg17 x15 640 inb_S1x1x1x1024_S1x1x1x128_0_0_0_640) (rdS harg20 xs0 1 5 inb_S2x8x128x128_S1x1x128x128_1_5_0_0)) shapeCasts_S128x128_S1x1x128x128⟩,
      ⟨Rect.unit ![1, 4, 0, 0] S1x1x128x128.size inb_S2x8x128x128_S1x1x128x128_1_4_0_0, shapeCast S1x1x128x128 (chainS k0_pay6 sameHead (rd3 harg10 x8 512 inb_S1x64x1024_S1x64x128_0_0_512) (rd3 harg11 x9 512 inb_S1x64x1024_S1x64x128_0_0_512) (rd3 harg12 x10 512 inb_S1x64x1024_S1x64x128_0_0_512) (rd3 harg13 x11 512 inb_S1x64x1024_S1x64x128_0_0_512) (rd2 harg16 x14 512 inb_S64x1024_S64x128_0_512) (rd3 harg14 x12 512 inb_S1x64x1024_S1x64x128_0_0_512) (rd3 harg15 x13 512 inb_S1x64x1024_S1x64x128_0_0_512) (rd4 harg17 x15 512 inb_S1x1x1x1024_S1x1x1x128_0_0_0_512) (rdS harg20 xs0 1 4 inb_S2x8x128x128_S1x1x128x128_1_4_0_0)) shapeCasts_S128x128_S1x1x128x128⟩,
      ⟨Rect.unit ![1, 3, 0, 0] S1x1x128x128.size inb_S2x8x128x128_S1x1x128x128_1_3_0_0, shapeCast S1x1x128x128 (chainS k0_pay6 sameHead (rd3 harg10 x8 384 inb_S1x64x1024_S1x64x128_0_0_384) (rd3 harg11 x9 384 inb_S1x64x1024_S1x64x128_0_0_384) (rd3 harg12 x10 384 inb_S1x64x1024_S1x64x128_0_0_384) (rd3 harg13 x11 384 inb_S1x64x1024_S1x64x128_0_0_384) (rd2 harg16 x14 384 inb_S64x1024_S64x128_0_384) (rd3 harg14 x12 384 inb_S1x64x1024_S1x64x128_0_0_384) (rd3 harg15 x13 384 inb_S1x64x1024_S1x64x128_0_0_384) (rd4 harg17 x15 384 inb_S1x1x1x1024_S1x1x1x128_0_0_0_384) (rdS harg20 xs0 1 3 inb_S2x8x128x128_S1x1x128x128_1_3_0_0)) shapeCasts_S128x128_S1x1x128x128⟩,
      ⟨Rect.unit ![1, 2, 0, 0] S1x1x128x128.size inb_S2x8x128x128_S1x1x128x128_1_2_0_0, shapeCast S1x1x128x128 (chainS k0_pay6 sameHead (rd3 harg10 x8 256 inb_S1x64x1024_S1x64x128_0_0_256) (rd3 harg11 x9 256 inb_S1x64x1024_S1x64x128_0_0_256) (rd3 harg12 x10 256 inb_S1x64x1024_S1x64x128_0_0_256) (rd3 harg13 x11 256 inb_S1x64x1024_S1x64x128_0_0_256) (rd2 harg16 x14 256 inb_S64x1024_S64x128_0_256) (rd3 harg14 x12 256 inb_S1x64x1024_S1x64x128_0_0_256) (rd3 harg15 x13 256 inb_S1x64x1024_S1x64x128_0_0_256) (rd4 harg17 x15 256 inb_S1x1x1x1024_S1x1x1x128_0_0_0_256) (rdS harg20 xs0 1 2 inb_S2x8x128x128_S1x1x128x128_1_2_0_0)) shapeCasts_S128x128_S1x1x128x128⟩,
      ⟨Rect.unit ![1, 1, 0, 0] S1x1x128x128.size inb_S2x8x128x128_S1x1x128x128_1_1_0_0, shapeCast S1x1x128x128 (chainS k0_pay6 sameHead (rd3 harg10 x8 128 inb_S1x64x1024_S1x64x128_0_0_128) (rd3 harg11 x9 128 inb_S1x64x1024_S1x64x128_0_0_128) (rd3 harg12 x10 128 inb_S1x64x1024_S1x64x128_0_0_128) (rd3 harg13 x11 128 inb_S1x64x1024_S1x64x128_0_0_128) (rd2 harg16 x14 128 inb_S64x1024_S64x128_0_128) (rd3 harg14 x12 128 inb_S1x64x1024_S1x64x128_0_0_128) (rd3 harg15 x13 128 inb_S1x64x1024_S1x64x128_0_0_128) (rd4 harg17 x15 128 inb_S1x1x1x1024_S1x1x1x128_0_0_0_128) (rdS harg20 xs0 1 1 inb_S2x8x128x128_S1x1x128x128_1_1_0_0)) shapeCasts_S128x128_S1x1x128x128⟩,
      ⟨Rect.unit ![1, 0, 0, 0] S1x1x128x128.size inb_S2x8x128x128_S1x1x128x128_1_0_0_0, shapeCast S1x1x128x128 (chainS k0_pay6 sameHead (rd3 harg10 x8 0 inb_S1x64x1024_S1x64x128_0_0_0) (rd3 harg11 x9 0 inb_S1x64x1024_S1x64x128_0_0_0) (rd3 harg12 x10 0 inb_S1x64x1024_S1x64x128_0_0_0) (rd3 harg13 x11 0 inb_S1x64x1024_S1x64x128_0_0_0) (rd2 harg16 x14 0 inb_S64x1024_S64x128_0_0) (rd3 harg14 x12 0 inb_S1x64x1024_S1x64x128_0_0_0) (rd3 harg15 x13 0 inb_S1x64x1024_S1x64x128_0_0_0) (rd4 harg17 x15 0 inb_S1x1x1x1024_S1x1x1x128_0_0_0_0) (rdS harg20 xs0 1 0 inb_S2x8x128x128_S1x1x128x128_1_0_0_0)) shapeCasts_S128x128_S1x1x128x128⟩,
      ⟨Rect.unit ![0, 7, 0, 0] S1x1x128x128.size inb_S2x8x128x128_S1x1x128x128_0_7_0_0, shapeCast S1x1x128x128 (chainS k0_pay5 sameHead (rd3 harg2 x0 896 inb_S1x64x1024_S1x64x128_0_0_896) (rd3 harg3 x1 896 inb_S1x64x1024_S1x64x128_0_0_896) (rd3 harg4 x2 896 inb_S1x64x1024_S1x64x128_0_0_896) (rd3 harg5 x3 896 inb_S1x64x1024_S1x64x128_0_0_896) (rd2 harg8 x6 896 inb_S64x1024_S64x128_0_896) (rd3 harg6 x4 896 inb_S1x64x1024_S1x64x128_0_0_896) (rd3 harg7 x5 896 inb_S1x64x1024_S1x64x128_0_0_896) (rd4 harg9 x7 896 inb_S1x1x1x1024_S1x1x1x128_0_0_0_896) (rdS harg20 xs0 0 7 inb_S2x8x128x128_S1x1x128x128_0_7_0_0)) shapeCasts_S128x128_S1x1x128x128⟩,
      ⟨Rect.unit ![0, 6, 0, 0] S1x1x128x128.size inb_S2x8x128x128_S1x1x128x128_0_6_0_0, shapeCast S1x1x128x128 (chainS k0_pay5 sameHead (rd3 harg2 x0 768 inb_S1x64x1024_S1x64x128_0_0_768) (rd3 harg3 x1 768 inb_S1x64x1024_S1x64x128_0_0_768) (rd3 harg4 x2 768 inb_S1x64x1024_S1x64x128_0_0_768) (rd3 harg5 x3 768 inb_S1x64x1024_S1x64x128_0_0_768) (rd2 harg8 x6 768 inb_S64x1024_S64x128_0_768) (rd3 harg6 x4 768 inb_S1x64x1024_S1x64x128_0_0_768) (rd3 harg7 x5 768 inb_S1x64x1024_S1x64x128_0_0_768) (rd4 harg9 x7 768 inb_S1x1x1x1024_S1x1x1x128_0_0_0_768) (rdS harg20 xs0 0 6 inb_S2x8x128x128_S1x1x128x128_0_6_0_0)) shapeCasts_S128x128_S1x1x128x128⟩,
      ⟨Rect.unit ![0, 5, 0, 0] S1x1x128x128.size inb_S2x8x128x128_S1x1x128x128_0_5_0_0, shapeCast S1x1x128x128 (chainS k0_pay5 sameHead (rd3 harg2 x0 640 inb_S1x64x1024_S1x64x128_0_0_640) (rd3 harg3 x1 640 inb_S1x64x1024_S1x64x128_0_0_640) (rd3 harg4 x2 640 inb_S1x64x1024_S1x64x128_0_0_640) (rd3 harg5 x3 640 inb_S1x64x1024_S1x64x128_0_0_640) (rd2 harg8 x6 640 inb_S64x1024_S64x128_0_640) (rd3 harg6 x4 640 inb_S1x64x1024_S1x64x128_0_0_640) (rd3 harg7 x5 640 inb_S1x64x1024_S1x64x128_0_0_640) (rd4 harg9 x7 640 inb_S1x1x1x1024_S1x1x1x128_0_0_0_640) (rdS harg20 xs0 0 5 inb_S2x8x128x128_S1x1x128x128_0_5_0_0)) shapeCasts_S128x128_S1x1x128x128⟩,
      ⟨Rect.unit ![0, 4, 0, 0] S1x1x128x128.size inb_S2x8x128x128_S1x1x128x128_0_4_0_0, shapeCast S1x1x128x128 (chainS k0_pay5 sameHead (rd3 harg2 x0 512 inb_S1x64x1024_S1x64x128_0_0_512) (rd3 harg3 x1 512 inb_S1x64x1024_S1x64x128_0_0_512) (rd3 harg4 x2 512 inb_S1x64x1024_S1x64x128_0_0_512) (rd3 harg5 x3 512 inb_S1x64x1024_S1x64x128_0_0_512) (rd2 harg8 x6 512 inb_S64x1024_S64x128_0_512) (rd3 harg6 x4 512 inb_S1x64x1024_S1x64x128_0_0_512) (rd3 harg7 x5 512 inb_S1x64x1024_S1x64x128_0_0_512) (rd4 harg9 x7 512 inb_S1x1x1x1024_S1x1x1x128_0_0_0_512) (rdS harg20 xs0 0 4 inb_S2x8x128x128_S1x1x128x128_0_4_0_0)) shapeCasts_S128x128_S1x1x128x128⟩,
      ⟨Rect.unit ![0, 3, 0, 0] S1x1x128x128.size inb_S2x8x128x128_S1x1x128x128_0_3_0_0, shapeCast S1x1x128x128 (chainS k0_pay5 sameHead (rd3 harg2 x0 384 inb_S1x64x1024_S1x64x128_0_0_384) (rd3 harg3 x1 384 inb_S1x64x1024_S1x64x128_0_0_384) (rd3 harg4 x2 384 inb_S1x64x1024_S1x64x128_0_0_384) (rd3 harg5 x3 384 inb_S1x64x1024_S1x64x128_0_0_384) (rd2 harg8 x6 384 inb_S64x1024_S64x128_0_384) (rd3 harg6 x4 384 inb_S1x64x1024_S1x64x128_0_0_384) (rd3 harg7 x5 384 inb_S1x64x1024_S1x64x128_0_0_384) (rd4 harg9 x7 384 inb_S1x1x1x1024_S1x1x1x128_0_0_0_384) (rdS harg20 xs0 0 3 inb_S2x8x128x128_S1x1x128x128_0_3_0_0)) shapeCasts_S128x128_S1x1x128x128⟩,
      ⟨Rect.unit ![0, 2, 0, 0] S1x1x128x128.size inb_S2x8x128x128_S1x1x128x128_0_2_0_0, shapeCast S1x1x128x128 (chainS k0_pay5 sameHead (rd3 harg2 x0 256 inb_S1x64x1024_S1x64x128_0_0_256) (rd3 harg3 x1 256 inb_S1x64x1024_S1x64x128_0_0_256) (rd3 harg4 x2 256 inb_S1x64x1024_S1x64x128_0_0_256) (rd3 harg5 x3 256 inb_S1x64x1024_S1x64x128_0_0_256) (rd2 harg8 x6 256 inb_S64x1024_S64x128_0_256) (rd3 harg6 x4 256 inb_S1x64x1024_S1x64x128_0_0_256) (rd3 harg7 x5 256 inb_S1x64x1024_S1x64x128_0_0_256) (rd4 harg9 x7 256 inb_S1x1x1x1024_S1x1x1x128_0_0_0_256) (rdS harg20 xs0 0 2 inb_S2x8x128x128_S1x1x128x128_0_2_0_0)) shapeCasts_S128x128_S1x1x128x128⟩,
      ⟨Rect.unit ![0, 1, 0, 0] S1x1x128x128.size inb_S2x8x128x128_S1x1x128x128_0_1_0_0, shapeCast S1x1x128x128 (chainS k0_pay5 sameHead (rd3 harg2 x0 128 inb_S1x64x1024_S1x64x128_0_0_128) (rd3 harg3 x1 128 inb_S1x64x1024_S1x64x128_0_0_128) (rd3 harg4 x2 128 inb_S1x64x1024_S1x64x128_0_0_128) (rd3 harg5 x3 128 inb_S1x64x1024_S1x64x128_0_0_128) (rd2 harg8 x6 128 inb_S64x1024_S64x128_0_128) (rd3 harg6 x4 128 inb_S1x64x1024_S1x64x128_0_0_128) (rd3 harg7 x5 128 inb_S1x64x1024_S1x64x128_0_0_128) (rd4 harg9 x7 128 inb_S1x1x1x1024_S1x1x1x128_0_0_0_128) (rdS harg20 xs0 0 1 inb_S2x8x128x128_S1x1x128x128_0_1_0_0)) shapeCasts_S128x128_S1x1x128x128⟩,
      ⟨Rect.unit ![0, 0, 0, 0] S1x1x128x128.size inb_S2x8x128x128_S1x1x128x128_0_0_0_0, shapeCast S1x1x128x128 (chainS k0_pay5 sameHead (rd3 harg2 x0 0 inb_S1x64x1024_S1x64x128_0_0_0) (rd3 harg3 x1 0 inb_S1x64x1024_S1x64x128_0_0_0) (rd3 harg4 x2 0 inb_S1x64x1024_S1x64x128_0_0_0) (rd3 harg5 x3 0 inb_S1x64x1024_S1x64x128_0_0_0) (rd2 harg8 x6 0 inb_S64x1024_S64x128_0_0) (rd3 harg6 x4 0 inb_S1x64x1024_S1x64x128_0_0_0) (rd3 harg7 x5 0 inb_S1x64x1024_S1x64x128_0_0_0) (rd4 harg9 x7 0 inb_S1x1x1x1024_S1x1x1x128_0_0_0_0) (rdS harg20 xs0 0 0 inb_S2x8x128x128_S1x1x128x128_0_0_0_0)) shapeCasts_S128x128_S1x1x128x128⟩] := rfl

/-- What case B leaves in the state. -/
theorem outBS (c : Dev nD) (i : grid0.Coords) (arg2 : Memref sig .tc .vmem S1x64x1024 .bf16) (harg2 : arg2.IsWhole) (arg3 : Memref sig .tc .vmem S1x64x1024 .bf16) (harg3 : arg3.IsWhole) (arg4 : Memref sig .tc .vmem S1x64x1024 .bf16) (harg4 : arg4.IsWhole) (arg5 : Memref sig .tc .vmem S1x64x1024 .bf16) (harg5 : arg5.IsWhole) (arg6 : Memref sig .tc .vmem S1x64x1024 .bf16) (harg6 : arg6.IsWhole) (arg7 : Memref sig .tc .vmem S1x64x1024 .bf16) (harg7 : arg7.IsWhole) (arg8 : Memref sig .tc .vmem S64x1024 .bf16) (harg8 : arg8.IsWhole) (arg9 : Memref sig .tc .vmem S1x1x1x1024 .f32) (harg9 : arg9.IsWhole) (arg10 : Memref sig .tc .vmem S1x64x1024 .bf16) (harg10 : arg10.IsWhole) (arg11 : Memref sig .tc .vmem S1x64x1024 .bf16) (harg11 : arg11.IsWhole) (arg12 : Memref sig .tc .vmem S1x64x1024 .bf16) (harg12 : arg12.IsWhole) (arg13 : Memref sig .tc .vmem S1x64x1024 .bf16) (harg13 : arg13.IsWhole) (arg14 : Memref sig .tc .vmem S1x64x1024 .bf16) (harg14 : arg14.IsWhole) (arg15 : Memref sig .tc .vmem S1x64x1024 .bf16) (harg15 : arg15.IsWhole) (arg16 : Memref sig .tc .vmem S64x1024 .bf16) (harg16 : arg16.IsWhole) (arg17 : Memref sig .tc .vmem S1x1x1x1024 .f32) (harg17 : arg17.IsWhole) (arg18 : Memref sig .tc .vmem S64x1024 .f32) (harg18 : arg18.IsWhole) (arg19 : Memref sig .tc .vmem S64x1024 .f32) (harg19 : arg19.IsWhole) (arg20 : Memref sig .tc .vmem S2x8x128x128 .f32) (harg20 : arg20.IsWhole) (hc0 : ¬cond0_0 i)
    (x0 : Vec F S1x64x1024 .bf16) (x1 : Vec F S1x64x1024 .bf16) (x2 : Vec F S1x64x1024 .bf16) (x3 : Vec F S1x64x1024 .bf16) (x4 : Vec F S1x64x1024 .bf16) (x5 : Vec F S1x64x1024 .bf16) (x6 : Vec F S64x1024 .bf16) (x7 : Vec F S1x1x1x1024 .f32) (x8 : Vec F S1x64x1024 .bf16) (x9 : Vec F S1x64x1024 .bf16) (x10 : Vec F S1x64x1024 .bf16) (x11 : Vec F S1x64x1024 .bf16) (x12 : Vec F S1x64x1024 .bf16) (x13 : Vec F S1x64x1024 .bf16) (x14 : Vec F S64x1024 .bf16) (x15 : Vec F S1x1x1x1024 .f32) (xs0 : Vec F S2x8x128x128 .f32) :
    sout0_B_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 x11 x12 x13 x14 x15 xs0 = statePoint x0 x1 x2 x3 x4 x5 x6 x7 x8 x9 x10 x11 x12 x13 x14 x15 xs0 := by
  unfold sout0_B_0
  rw [View.read_writes_eq_canon _ _ _ (scover0_B_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 x11 x12 x13 x14 x15 xs0)]
  funext y
  refine View.canon_apply_of_pieces (statePoint x0 x1 x2 x3 x4 x5 x6 x7 x8 x9 x10 x11 x12 x13 x14 x15 xs0) _ ?_ y (scover0_B_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 x11 x12 x13 x14 x15 xs0 y)
  rw [listBS]
  refine List.forall_mem_cons.mpr ⟨?_, List.forall_mem_cons.mpr ⟨?_, List.forall_mem_cons.mpr ⟨?_, List.forall_mem_cons.mpr ⟨?_, List.forall_mem_cons.mpr ⟨?_, List.forall_mem_cons.mpr ⟨?_, List.forall_mem_cons.mpr ⟨?_, List.forall_mem_cons.mpr ⟨?_, List.forall_mem_cons.mpr ⟨?_, List.forall_mem_cons.mpr ⟨?_, List.forall_mem_cons.mpr ⟨?_, List.forall_mem_cons.mpr ⟨?_, List.forall_mem_cons.mpr ⟨?_, List.forall_mem_cons.mpr ⟨?_, List.forall_mem_cons.mpr ⟨?_, List.forall_mem_cons.mpr ⟨?_, fun _ h => absurd h List.not_mem_nil⟩⟩⟩⟩⟩⟩⟩⟩⟩⟩⟩⟩⟩⟩⟩⟩
  · intro x
    refine Eq.trans (congrFun ?_ x) (plane_piece (stPoint k0_pay6 1 7 x8 x9 x10 x11 x12 x13 x14 x15 xs0) 1 7 1 7 rfl rfl inb_S2x8x128x128_S1x1x128x128_1_7_0_0 x (statePoint x0 x1 x2 x3 x4 x5 x6 x7 x8 x9 x10 x11 x12 x13 x14 x15 xs0) (fun i j => rfl))
    simp only [stPoint, rd3_eq _ _ 896 7 rfl, rd2_eq _ _ 896 7 rfl, rd4_eq _ _ 896 7 rfl, rdS_eq _ _ 1 7 1 7 rfl rfl]
  · intro x
    refine Eq.trans (congrFun ?_ x) (plane_piece (stPoint k0_pay6 1 6 x8 x9 x10 x11 x12 x13 x14 x15 xs0) 1 6 1 6 rfl rfl inb_S2x8x128x128_S1x1x128x128_1_6_0_0 x (statePoint x0 x1 x2 x3 x4 x5 x6 x7 x8 x9 x10 x11 x12 x13 x14 x15 xs0) (fun i j => rfl))
    simp only [stPoint, rd3_eq _ _ 768 6 rfl, rd2_eq _ _ 768 6 rfl, rd4_eq _ _ 768 6 rfl, rdS_eq _ _ 1 6 1 6 rfl rfl]
  · intro x
    refine Eq.trans (congrFun ?_ x) (plane_piece (stPoint k0_pay6 1 5 x8 x9 x10 x11 x12 x13 x14 x15 xs0) 1 5 1 5 rfl rfl inb_S2x8x128x128_S1x1x128x128_1_5_0_0 x (statePoint x0 x1 x2 x3 x4 x5 x6 x7 x8 x9 x10 x11 x12 x13 x14 x15 xs0) (fun i j => rfl))
    simp only [stPoint, rd3_eq _ _ 640 5 rfl, rd2_eq _ _ 640 5 rfl, rd4_eq _ _ 640 5 rfl, rdS_eq _ _ 1 5 1 5 rfl rfl]
  · intro x
    refine Eq.trans (congrFun ?_ x) (plane_piece (stPoint k0_pay6 1 4 x8 x9 x10 x11 x12 x13 x14 x15 xs0) 1 4 1 4 rfl rfl inb_S2x8x128x128_S1x1x128x128_1_4_0_0 x (statePoint x0 x1 x2 x3 x4 x5 x6 x7 x8 x9 x10 x11 x12 x13 x14 x15 xs0) (fun i j => rfl))
    simp only [stPoint, rd3_eq _ _ 512 4 rfl, rd2_eq _ _ 512 4 rfl, rd4_eq _ _ 512 4 rfl, rdS_eq _ _ 1 4 1 4 rfl rfl]
  · intro x
    refine Eq.trans (congrFun ?_ x) (plane_piece (stPoint k0_pay6 1 3 x8 x9 x10 x11 x12 x13 x14 x15 xs0) 1 3 1 3 rfl rfl inb_S2x8x128x128_S1x1x128x128_1_3_0_0 x (statePoint x0 x1 x2 x3 x4 x5 x6 x7 x8 x9 x10 x11 x12 x13 x14 x15 xs0) (fun i j => rfl))
    simp only [stPoint, rd3_eq _ _ 384 3 rfl, rd2_eq _ _ 384 3 rfl, rd4_eq _ _ 384 3 rfl, rdS_eq _ _ 1 3 1 3 rfl rfl]
  · intro x
    refine Eq.trans (congrFun ?_ x) (plane_piece (stPoint k0_pay6 1 2 x8 x9 x10 x11 x12 x13 x14 x15 xs0) 1 2 1 2 rfl rfl inb_S2x8x128x128_S1x1x128x128_1_2_0_0 x (statePoint x0 x1 x2 x3 x4 x5 x6 x7 x8 x9 x10 x11 x12 x13 x14 x15 xs0) (fun i j => rfl))
    simp only [stPoint, rd3_eq _ _ 256 2 rfl, rd2_eq _ _ 256 2 rfl, rd4_eq _ _ 256 2 rfl, rdS_eq _ _ 1 2 1 2 rfl rfl]
  · intro x
    refine Eq.trans (congrFun ?_ x) (plane_piece (stPoint k0_pay6 1 1 x8 x9 x10 x11 x12 x13 x14 x15 xs0) 1 1 1 1 rfl rfl inb_S2x8x128x128_S1x1x128x128_1_1_0_0 x (statePoint x0 x1 x2 x3 x4 x5 x6 x7 x8 x9 x10 x11 x12 x13 x14 x15 xs0) (fun i j => rfl))
    simp only [stPoint, rd3_eq _ _ 128 1 rfl, rd2_eq _ _ 128 1 rfl, rd4_eq _ _ 128 1 rfl, rdS_eq _ _ 1 1 1 1 rfl rfl]
  · intro x
    refine Eq.trans (congrFun ?_ x) (plane_piece (stPoint k0_pay6 1 0 x8 x9 x10 x11 x12 x13 x14 x15 xs0) 1 0 1 0 rfl rfl inb_S2x8x128x128_S1x1x128x128_1_0_0_0 x (statePoint x0 x1 x2 x3 x4 x5 x6 x7 x8 x9 x10 x11 x12 x13 x14 x15 xs0) (fun i j => rfl))
    simp only [stPoint, rd3_eq _ _ 0 0 rfl, rd2_eq _ _ 0 0 rfl, rd4_eq _ _ 0 0 rfl, rdS_eq _ _ 1 0 1 0 rfl rfl]
  · intro x
    refine Eq.trans (congrFun ?_ x) (plane_piece (stPoint k0_pay5 0 7 x0 x1 x2 x3 x4 x5 x6 x7 xs0) 0 7 0 7 rfl rfl inb_S2x8x128x128_S1x1x128x128_0_7_0_0 x (statePoint x0 x1 x2 x3 x4 x5 x6 x7 x8 x9 x10 x11 x12 x13 x14 x15 xs0) (fun i j => rfl))
    simp only [stPoint, rd3_eq _ _ 896 7 rfl, rd2_eq _ _ 896 7 rfl, rd4_eq _ _ 896 7 rfl, rdS_eq _ _ 0 7 0 7 rfl rfl]
  · intro x
    refine Eq.trans (congrFun ?_ x) (plane_piece (stPoint k0_pay5 0 6 x0 x1 x2 x3 x4 x5 x6 x7 xs0) 0 6 0 6 rfl rfl inb_S2x8x128x128_S1x1x128x128_0_6_0_0 x (statePoint x0 x1 x2 x3 x4 x5 x6 x7 x8 x9 x10 x11 x12 x13 x14 x15 xs0) (fun i j => rfl))
    simp only [stPoint, rd3_eq _ _ 768 6 rfl, rd2_eq _ _ 768 6 rfl, rd4_eq _ _ 768 6 rfl, rdS_eq _ _ 0 6 0 6 rfl rfl]
  · intro x
    refine Eq.trans (congrFun ?_ x) (plane_piece (stPoint k0_pay5 0 5 x0 x1 x2 x3 x4 x5 x6 x7 xs0) 0 5 0 5 rfl rfl inb_S2x8x128x128_S1x1x128x128_0_5_0_0 x (statePoint x0 x1 x2 x3 x4 x5 x6 x7 x8 x9 x10 x11 x12 x13 x14 x15 xs0) (fun i j => rfl))
    simp only [stPoint, rd3_eq _ _ 640 5 rfl, rd2_eq _ _ 640 5 rfl, rd4_eq _ _ 640 5 rfl, rdS_eq _ _ 0 5 0 5 rfl rfl]
  · intro x
    refine Eq.trans (congrFun ?_ x) (plane_piece (stPoint k0_pay5 0 4 x0 x1 x2 x3 x4 x5 x6 x7 xs0) 0 4 0 4 rfl rfl inb_S2x8x128x128_S1x1x128x128_0_4_0_0 x (statePoint x0 x1 x2 x3 x4 x5 x6 x7 x8 x9 x10 x11 x12 x13 x14 x15 xs0) (fun i j => rfl))
    simp only [stPoint, rd3_eq _ _ 512 4 rfl, rd2_eq _ _ 512 4 rfl, rd4_eq _ _ 512 4 rfl, rdS_eq _ _ 0 4 0 4 rfl rfl]
  · intro x
    refine Eq.trans (congrFun ?_ x) (plane_piece (stPoint k0_pay5 0 3 x0 x1 x2 x3 x4 x5 x6 x7 xs0) 0 3 0 3 rfl rfl inb_S2x8x128x128_S1x1x128x128_0_3_0_0 x (statePoint x0 x1 x2 x3 x4 x5 x6 x7 x8 x9 x10 x11 x12 x13 x14 x15 xs0) (fun i j => rfl))
    simp only [stPoint, rd3_eq _ _ 384 3 rfl, rd2_eq _ _ 384 3 rfl, rd4_eq _ _ 384 3 rfl, rdS_eq _ _ 0 3 0 3 rfl rfl]
  · intro x
    refine Eq.trans (congrFun ?_ x) (plane_piece (stPoint k0_pay5 0 2 x0 x1 x2 x3 x4 x5 x6 x7 xs0) 0 2 0 2 rfl rfl inb_S2x8x128x128_S1x1x128x128_0_2_0_0 x (statePoint x0 x1 x2 x3 x4 x5 x6 x7 x8 x9 x10 x11 x12 x13 x14 x15 xs0) (fun i j => rfl))
    simp only [stPoint, rd3_eq _ _ 256 2 rfl, rd2_eq _ _ 256 2 rfl, rd4_eq _ _ 256 2 rfl, rdS_eq _ _ 0 2 0 2 rfl rfl]
  · intro x
    refine Eq.trans (congrFun ?_ x) (plane_piece (stPoint k0_pay5 0 1 x0 x1 x2 x3 x4 x5 x6 x7 xs0) 0 1 0 1 rfl rfl inb_S2x8x128x128_S1x1x128x128_0_1_0_0 x (statePoint x0 x1 x2 x3 x4 x5 x6 x7 x8 x9 x10 x11 x12 x13 x14 x15 xs0) (fun i j => rfl))
    simp only [stPoint, rd3_eq _ _ 128 1 rfl, rd2_eq _ _ 128 1 rfl, rd4_eq _ _ 128 1 rfl, rdS_eq _ _ 0 1 0 1 rfl rfl]
  · intro x
    refine Eq.trans (congrFun ?_ x) (plane_piece (stPoint k0_pay5 0 0 x0 x1 x2 x3 x4 x5 x6 x7 xs0) 0 0 0 0 rfl rfl inb_S2x8x128x128_S1x1x128x128_0_0_0_0 x (statePoint x0 x1 x2 x3 x4 x5 x6 x7 x8 x9 x10 x11 x12 x13 x14 x15 xs0) (fun i j => rfl))
    simp only [stPoint, rd3_eq _ _ 0 0 rfl, rd2_eq _ _ 0 0 rfl, rd4_eq _ _ 0 0 rfl, rdS_eq _ _ 0 0 0 0 rfl rfl]

end Cert.KernelIdeal.Chain
-- ==== Proof.Masks.lean ====
/- The masks of the body, read at an index: earlier rows of the chunk, the two heads of a pair, the first head's lanes. -/
module

public import proofs.«01_k».proof.Proof.Pieces
public import Idealize.ShloMosaic.Lib.Pointwise

@[expose] public section

set_option maxRecDepth 16384

noncomputable section

namespace Cert.KernelIdeal.Chain

open Idealize.ShloMosaic Idealize.ShloMosaic.TcCoe
open Cert.KernelIdeal Cert.KernelIdeal.Gen

/-- Lane `j` of head `h` of a pair; also row `j` of the half `h` of a stack. -/
def lane2 (h : Fin 2) (j : Fin 64) : Fin 128 := ⟨64 * h.val + j.val, by omega⟩

/-- The first head's lanes. -/
theorem lo_apply (r : Fin 64) (h : Fin 2) (j : Fin 64) : lo (ix2 r (lane2 h j)) = if h = 0 then 1#1 else 0#1 := by
  simp only [lo, pointwise]
  show IntOp.cmpi CmpIPredicate.slt (BitVec.ofNat 32 (0 * 128 + (lane2 h j).val)) 64#32 = _
  revert h j
  decide +kernel

/-- The mask of the first direction. -/
theorem fwd_apply (g : Fin 2) (r : Fin 64) (h : Fin 2) (j : Fin 64) :
    k0_pay5 (ix2 (lane2 g r) (lane2 h j)) = if (if g = 0 then j < r else j ≤ r) then 1#1 else 0#1 := by
  simp only [k0_pay5, k0_pay4, pointwise]
  have hr : ∀ (g : Fin 2) (r : Fin 64), IntOp.andi (BitVec.ofNat 32 (0 * 128 + (lane2 g r).val)) 63#32 = BitVec.ofNat 32 r.val := by
    decide +kernel
  have hg : ∀ (g : Fin 2) (r : Fin 64), IntOp.cmpi CmpIPredicate.slt (BitVec.ofNat 32 (0 * 128 + (lane2 g r).val)) 64#32
      = if g = 0 then 1#1 else 0#1 := by decide +kernel
  show IntOp.cmpi CmpIPredicate.sgt (Scalar.select (IntOp.cmpi CmpIPredicate.slt (BitVec.ofNat 32 (0 * 128 + (lane2 g r).val)) 64#32)
        (IntOp.subi (IntOp.andi (BitVec.ofNat 32 (0 * 128 + (lane2 g r).val)) 63#32)
          (IntOp.andi (BitVec.ofNat 32 (0 * 128 + (lane2 h j).val)) 63#32))
        (IntOp.addi (IntOp.subi (IntOp.andi (BitVec.ofNat 32 (0 * 128 + (lane2 g r).val)) 63#32)
          (IntOp.andi (BitVec.ofNat 32 (0 * 128 + (lane2 h j).val)) 63#32)) 1#32)) 0#32 = _
  rw [hr, hr, hg]
  clear hr hg
  revert g r j
  decide +kernel

/-- The mask of the second direction. -/
theorem bwd_apply (g : Fin 2) (r : Fin 64) (h : Fin 2) (j : Fin 64) :
    k0_pay6 (ix2 (lane2 g r) (lane2 h j)) = if (if g = 0 then Fin.rev j < Fin.rev r else Fin.rev j ≤ Fin.rev r) then 1#1 else 0#1 := by
  simp only [k0_pay6, k0_pay4, pointwise]
  have hr : ∀ (g : Fin 2) (r : Fin 64), IntOp.andi (BitVec.ofNat 32 (0 * 128 + (lane2 g r).val)) 63#32 = BitVec.ofNat 32 r.val := by
    decide +kernel
  have hg : ∀ (g : Fin 2) (r : Fin 64), IntOp.cmpi CmpIPredicate.slt (BitVec.ofNat 32 (0 * 128 + (lane2 g r).val)) 64#32
      = if g = 0 then 1#1 else 0#1 := by decide +kernel
  show IntOp.cmpi CmpIPredicate.sgt (Scalar.select (IntOp.cmpi CmpIPredicate.slt (BitVec.ofNat 32 (0 * 128 + (lane2 g r).val)) 64#32)
        (IntOp.subi 0#32 (IntOp.subi (IntOp.andi (BitVec.ofNat 32 (0 * 128 + (lane2 g r).val)) 63#32)
          (IntOp.andi (BitVec.ofNat 32 (0 * 128 + (lane2 h j).val)) 63#32)))
        (IntOp.subi 1#32 (IntOp.subi (IntOp.andi (BitVec.ofNat 32 (0 * 128 + (lane2 g r).val)) 63#32)
          (IntOp.andi (BitVec.ofNat 32 (0 * 128 + (lane2 h j).val)) 63#32)))) 0#32 = _
  rw [hr, hr, hg]
  clear hr hg
  revert g r j
  decide +kernel

/-- The number of a row's half. -/
theorem half_row : ∀ (g : Fin 2) (r : Fin 64), kernelRun0_B.sl.v49 (ix2 (lane2 g r) 0) = BitVec.ofNat 32 g.val := by decide +kernel

/-- The number of a lane's half. -/
theorem half_lane : ∀ (h : Fin 2) (j : Fin 64), kernelRun0_B.sl.v73 (ix2 0 (lane2 h j)) = BitVec.ofNat 32 h.val := by decide +kernel

/-- The mask of the state. -/
theorem same_apply (g : Fin 2) (r : Fin 64) (h : Fin 2) (j : Fin 64) :
    sameHead (ix2 (lane2 g r) (lane2 h j)) = if g = h then 1#1 else 0#1 := by
  have h1 : kernelRun0_B.sl.v49 (ix2 (lane2 g r) (lane2 h j)) = kernelRun0_B.sl.v49 (ix2 (lane2 g r) 0) := rfl
  have h2 : kernelRun0_B.sl.v73 (ix2 (lane2 g r) (lane2 h j)) = kernelRun0_B.sl.v73 (ix2 0 (lane2 h j)) := rfl
  show IntOp.cmpi CmpIPredicate.eq (kernelRun0_B.sl.v49 (ix2 (lane2 g r) (lane2 h j))) (kernelRun0_B.sl.v73 (ix2 (lane2 g r) (lane2 h j))) = _
  rw [h1, h2, half_row, half_lane]
  clear h1 h2
  revert g h
  decide +kernel

end Cert.KernelIdeal.Chain
-- ==== Proof.ChunkReal.lean ====
/- The delta rule over the real numbers: the sequential recurrence, and its chunked form over 64 steps. Everything
   here is plain real algebra; no program is mentioned. -/
module

public import Mathlib.Data.Real.Basic
public import Mathlib.Algebra.BigOperators.Fin
public import Mathlib.Data.Matrix.Mul
public import Mathlib.Tactic.Ring
public import Mathlib.Tactic.Abel
public import Mathlib.Tactic.Linarith
public import Mathlib.Tactic.NormNum

@[expose] public section

noncomputable section

namespace DeltaRule

open Finset

/-- A head's state: value channel by key channel. -/
abbrev Mat := Matrix (Fin 64) (Fin 64) ℝ

/-- One step of the rule: the decayed state, the correction along `a` and `b`, and the new key and value. -/
def seqStep (w k v a b : Fin 64 → ℝ) (S : Mat) : Mat := fun i j =>
  S i j * w j + (∑ m, S i m * a m) * b j + v i * k j

/-- The state after `n` steps. -/
def seqState (w k v a b : ℕ → Fin 64 → ℝ) (S₀ : Mat) : ℕ → Mat
  | 0 => S₀
  | n + 1 => seqStep (w n) (k n) (v n) (a n) (b n) (seqState w k v a b S₀ n)

/-- Stepping `n` times further starts over from the state reached. -/
theorem seqState_add (w k v a b : ℕ → Fin 64 → ℝ) (S₀ : Mat) (p n : ℕ) :
    seqState w k v a b S₀ (p + n)
      = seqState (fun m => w (p + m)) (fun m => k (p + m)) (fun m => v (p + m)) (fun m => a (p + m)) (fun m => b (p + m))
          (seqState w k v a b S₀ p) n := by
  induction n with
  | zero => rfl
  | succ n ih => rw [← Nat.add_assoc]; simp only [seqState, ih]

/-- The state depends only on the steps taken. -/
theorem seqState_congr {w k v a b w' k' v' a' b' : ℕ → Fin 64 → ℝ} (S₀ : Mat) (n : ℕ)
    (hw : ∀ m < n, w m = w' m) (hk : ∀ m < n, k m = k' m) (hv : ∀ m < n, v m = v' m) (ha : ∀ m < n, a m = a' m)
    (hb : ∀ m < n, b m = b' m) : seqState w k v a b S₀ n = seqState w' k' v' a' b' S₀ n := by
  induction n with
  | zero => rfl
  | succ n ih =>
    have h := ih (fun m hm => hw m (by omega)) (fun m hm => hk m (by omega)) (fun m hm => hv m (by omega))
      (fun m hm => ha m (by omega)) (fun m hm => hb m (by omega))
    simp only [seqState, h, hw n (by omega), hk n (by omega), hv n (by omega), ha n (by omega), hb n (by omega)]

section Closed

variable {w k v a b r : ℕ → Fin 64 → ℝ} {S₀ : Mat} {Q : ℕ → Fin 64 → ℝ} {ah rh bh kh u : ℕ → Fin 64 → ℝ}

/-- The state inside a chunk, divided by the decay so far, is the chunk's first state plus one rank-two term per step. -/
theorem state_closed (C : ℕ) (hQ0 : ∀ j, Q 0 j = 1) (hQ : ∀ n < C, ∀ j, Q (n + 1) j = Q n j * w n j)
    (hah : ∀ n < C, ∀ j, ah n j = a n j * Q n j) (hbh : ∀ n < C, ∀ j, bh n j * Q (n + 1) j = b n j)
    (hkh : ∀ n < C, ∀ j, kh n j * Q (n + 1) j = k n j)
    (hu : ∀ n < C, ∀ i, u n i = ∑ j, S₀ i j * ah n j
      + ∑ s ∈ range n, ((∑ j, ah n j * bh s j) * u s i + (∑ j, ah n j * kh s j) * v s i))
    (n : ℕ) (hn : n ≤ C) (i j : Fin 64) :
    seqState w k v a b S₀ n i j = (S₀ i j + ∑ s ∈ range n, (u s i * bh s j + v s i * kh s j)) * Q n j := by
  induction n generalizing i j with
  | zero => simp [seqState, hQ0]
  | succ n ih =>
    have ih' := fun i j => ih (by omega) i j
    have hun : ∑ m, seqState w k v a b S₀ n i m * a n m = u n i := by
      rw [hu n (by omega) i]
      have e : ∀ m, seqState w k v a b S₀ n i m * a n m
          = S₀ i m * ah n m + ∑ s ∈ range n, (ah n m * bh s m * u s i + ah n m * kh s m * v s i) := by
        intro m
        rw [ih' i m, mul_assoc, mul_comm (Q n m), ← hah n (by omega) m, add_mul, sum_mul]
        congr 1
        exact sum_congr rfl fun s _ => by ring
      rw [sum_congr rfl fun m _ => e m, sum_add_distrib, sum_comm]
      congr 1
      refine sum_congr rfl fun s _ => ?_
      rw [sum_add_distrib, sum_mul, sum_mul]
    show seqState w k v a b S₀ n i j * w n j + (∑ m, seqState w k v a b S₀ n i m * a n m) * b n j + v n i * k n j = _
    rw [hun, ih' i j, ← hbh n (by omega) j, ← hkh n (by omega) j, sum_range_succ, hQ n (by omega) j]
    ring

/-- A step's output, from the chunk's first state and the steps up to and including this one. -/
theorem out_closed (C : ℕ) (hQ0 : ∀ j, Q 0 j = 1) (hQ : ∀ n < C, ∀ j, Q (n + 1) j = Q n j * w n j)
    (hah : ∀ n < C, ∀ j, ah n j = a n j * Q n j) (hrh : ∀ n < C, ∀ j, rh n j = r n j * Q (n + 1) j)
    (hbh : ∀ n < C, ∀ j, bh n j * Q (n + 1) j = b n j)
    (hkh : ∀ n < C, ∀ j, kh n j * Q (n + 1) j = k n j)
    (hu : ∀ n < C, ∀ i, u n i = ∑ j, S₀ i j * ah n j
      + ∑ s ∈ range n, ((∑ j, ah n j * bh s j) * u s i + (∑ j, ah n j * kh s j) * v s i))
    (n : ℕ) (hn : n < C) (i : Fin 64) :
    ∑ j, seqState w k v a b S₀ (n + 1) i j * r n j
      = ∑ j, S₀ i j * rh n j
        + ∑ s ∈ range (n + 1), ((∑ j, rh n j * bh s j) * u s i + (∑ j, rh n j * kh s j) * v s i) := by
  have e : ∀ m, seqState w k v a b S₀ (n + 1) i m * r n m
      = S₀ i m * rh n m + ∑ s ∈ range (n + 1), (rh n m * bh s m * u s i + rh n m * kh s m * v s i) := by
    intro m
    rw [state_closed C hQ0 hQ hah hbh hkh hu (n + 1) (by omega) i m, mul_assoc, mul_comm (Q (n + 1) m), ← hrh n hn m,
      add_mul, sum_mul]
    congr 1
    exact sum_congr rfl fun s _ => by ring
  rw [sum_congr rfl fun m _ => e m, sum_add_distrib, sum_comm]
  congr 1
  refine sum_congr rfl fun s _ => ?_
  rw [sum_add_distrib, sum_mul, sum_mul]

end Closed

/-! ## The repeated squaring -/

/-- A strictly triangular matrix (for any numbering of the rows by the numbers below 64) has a zero 64th power. -/
theorem pow_eq_zero_of_strict (pos : Fin 64 → Fin 64) (L : Matrix (Fin 64) (Fin 64) ℝ)
    (hL : ∀ t s, ¬ pos s < pos t → L t s = 0) : L ^ 64 = 0 := by
  have key : ∀ n : ℕ, ∀ t s, (pos t : ℕ) < pos s + n → (L ^ n) t s = 0 := by
    intro n
    induction n with
    | zero =>
      intro t s h
      rw [pow_zero, Matrix.one_apply_ne]
      rintro rfl
      omega
    | succ n ih =>
      intro t s h
      rw [pow_succ, Matrix.mul_apply]
      refine sum_eq_zero fun x _ => ?_
      by_cases hx : (pos t : ℕ) < pos x + n
      · rw [ih t x hx, zero_mul]
      · rw [hL x s (by rw [Fin.lt_def]; omega), mul_zero]
  ext t s
  exact key 64 t s (by have := (pos t).isLt; omega)

/-- One doubling: `x` becomes `x + M x` for the power `M` reached so far. -/
theorem double_step {L M x x₀ : Matrix (Fin 64) (Fin 64) ℝ} (hc : Commute L M) (h : x = x₀ + L * x - M * x₀) :
    x + M * x = x₀ + L * (x + M * x) - (M * M) * x₀ := by
  have h1 : M * x = M * x₀ + L * (M * x) - M * M * x₀ := by
    conv_lhs => rw [h]
    rw [Matrix.mul_sub, Matrix.mul_add, ← Matrix.mul_assoc, ← hc.eq, Matrix.mul_assoc, Matrix.mul_assoc]
  rw [Matrix.mul_add]
  calc x + M * x = (x₀ + L * x - M * x₀) + (M * x₀ + L * (M * x) - M * M * x₀) := congrArg₂ (· + ·) h h1
    _ = _ := by abel

/-- The six doublings solve `u = x₀ + L u`. -/
theorem doubled_solves (pos : Fin 64 → Fin 64) (L x₀ : Matrix (Fin 64) (Fin 64) ℝ)
    (hL : ∀ t s, ¬ pos s < pos t → L t s = 0)
    (L1 L2 L3 L4 L5 x1 x2 x3 x4 x5 u : Matrix (Fin 64) (Fin 64) ℝ)
    (h1 : x1 = x₀ + L * x₀) (g1 : L1 = L * L) (h2 : x2 = x1 + L1 * x1) (g2 : L2 = L1 * L1) (h3 : x3 = x2 + L2 * x2)
    (g3 : L3 = L2 * L2) (h4 : x4 = x3 + L3 * x3) (g4 : L4 = L3 * L3) (h5 : x5 = x4 + L4 * x4) (g5 : L5 = L4 * L4)
    (hu : u = x5 + L5 * x5) : u = x₀ + L * u := by
  have c1 : Commute L L1 := g1 ▸ (Commute.refl L).mul_right (Commute.refl L)
  have c2 : Commute L L2 := g2 ▸ c1.mul_right c1
  have c3 : Commute L L3 := g3 ▸ c2.mul_right c2
  have c4 : Commute L L4 := g4 ▸ c3.mul_right c3
  have c5 : Commute L L5 := g5 ▸ c4.mul_right c4
  have s1 := double_step (x₀ := x₀) (x := x₀) (Commute.refl L) (by abel)
  rw [← h1, ← g1] at s1
  have s2 := double_step c1 s1; rw [← h2, ← g2] at s2
  have s3 := double_step c2 s2; rw [← h3, ← g3] at s3
  have s4 := double_step c3 s3; rw [← h4, ← g4] at s4
  have s5 := double_step c4 s4; rw [← h5, ← g5] at s5
  have s6 := double_step c5 s5; rw [← hu] at s6
  have z : L5 * L5 = 0 := by
    have : L5 * L5 = L ^ 64 := by rw [g5, g4, g3, g2, g1]; simp only [← pow_two, ← pow_mul]; norm_num
    rw [this, pow_eq_zero_of_strict pos L hL]
  rwa [z, Matrix.zero_mul, sub_zero] at s6

/-! ## A chunk as the kernel computes it, for one head -/

/-- Products of rows of `A` with rows of `B`, kept where row `s` comes strictly before row `t`. -/
def strictPart (pos : Fin 64 → Fin 64) (A B : Mat) : Mat := fun t s => if pos s < pos t then ∑ j, A t j * B s j else 0

/-- Products of rows of `A` with rows of `B`, kept where row `s` comes before row `t` or is it. -/
def lowerPart (pos : Fin 64 → Fin 64) (A B : Mat) : Mat := fun t s => if pos s ≤ pos t then ∑ j, A t j * B s j else 0

/-- The right-hand side of the chunk's triangular system. -/
def chunkX (pos : Fin 64 → Fin 64) (AH KH V S : Mat) : Mat := fun t i =>
  (∑ j, AH t j * S i j) + ∑ s, strictPart pos AH KH t s * V s i

/-- One doubling of the pair (partial solution, power). -/
def dbl (p : Mat × Mat) : Mat × Mat := (p.1 + p.2 * p.1, p.2 * p.2)

/-- The chunk's corrections. -/
def chunkU (pos : Fin 64 → Fin 64) (AH BH KH V S : Mat) : Mat :=
  (dbl (dbl (dbl (dbl (dbl (dbl (chunkX pos AH KH V S, strictPart pos AH BH))))))).1

/-- The chunk's outputs. -/
def chunkY (pos : Fin 64 → Fin 64) (AH RH BH KH V S : Mat) : Mat := fun t i =>
  (∑ j, RH t j * S i j)
    + ((∑ s, lowerPart pos RH BH t s * chunkU pos AH BH KH V S s i) + ∑ s, lowerPart pos RH KH t s * V s i)

/-- The state the chunk leaves. -/
def chunkS (pos : Fin 64 → Fin 64) (AH BH KH V BT KT : Mat) (PT : Fin 64 → ℝ) (S : Mat) : Mat := fun i j =>
  S i j * PT j + ((∑ s, chunkU pos AH BH KH V S s i * BT s j) + ∑ s, V s i * KT s j)

theorem chunkU_solves (pos : Fin 64 → Fin 64) (AH BH KH V S : Mat) :
    chunkU pos AH BH KH V S = chunkX pos AH KH V S + strictPart pos AH BH * chunkU pos AH BH KH V S :=
  doubled_solves pos (strictPart pos AH BH) (chunkX pos AH KH V S)
    (fun _ _ h => if_neg h) _ _ _ _ _ _ _ _ _ _ _ rfl rfl rfl rfl rfl rfl rfl rfl rfl rfl rfl

/-- A sum over the first `N` of 64 places. -/
theorem sum_lt (N : ℕ) (hN : N ≤ 64) (g : ℕ → ℝ) :
    ∑ x : Fin 64, (if (x : ℕ) < N then g x else 0) = ∑ s ∈ range N, g s := by
  rw [Fin.sum_univ_eq_sum_range (fun s => if s < N then g s else 0) 64, ← sum_filter]
  congr 1
  ext x
  simp only [mem_filter, mem_range]
  omega

variable {pos : Fin 64 → Fin 64}

/-- The rows of a tile in the order of the steps. -/
def rowsOf (pos : Fin 64 → Fin 64) (A : Mat) (n : ℕ) : Fin 64 → ℝ := if h : n < 64 then A (pos ⟨n, h⟩) else 0

theorem rowsOf_val (A : Mat) (n : Fin 64) : rowsOf pos A n = A (pos n) := by
  unfold rowsOf; rw [dif_pos n.isLt]

/-- A sum over the rows before the `N`-th step is a sum over the first `N` steps. -/
theorem sum_before (hpos : ∀ t, pos (pos t) = t) (N : ℕ) (hN : N ≤ 64) (f : Fin 64 → ℝ) (g : ℕ → ℝ)
    (hg : ∀ s : Fin 64, g s = f (pos s)) :
    ∑ s, (if (pos s : ℕ) < N then f s else 0) = ∑ s ∈ range N, g s := by
  have e : Function.Bijective pos := (show Function.Involutive pos from hpos).bijective
  rw [← e.sum_comp, ← sum_lt N hN]
  simp only [hpos, ← hg]

theorem strict_sum (hpos : ∀ t, pos (pos t) = t) (A B X : Mat) (n : Fin 64) (i : Fin 64) :
    ∑ s, strictPart pos A B (pos n) s * X s i
      = ∑ s ∈ range (n : ℕ), (∑ j, rowsOf pos A n j * rowsOf pos B s j) * rowsOf pos X s i := by
  rw [← sum_before hpos n n.isLt.le (fun s => (∑ j, A (pos n) j * B s j) * X s i)]
  · refine sum_congr rfl fun s _ => ?_
    unfold strictPart
    rw [hpos]
    by_cases hx : pos s < n
    · rw [if_pos hx, if_pos (Fin.lt_def.mp hx)]
    · rw [if_neg hx, if_neg (fun hc => hx (Fin.lt_def.mpr hc)), zero_mul]
  · intro s; simp only [rowsOf_val]

theorem lower_sum (hpos : ∀ t, pos (pos t) = t) (A B X : Mat) (n : Fin 64) (i : Fin 64) :
    ∑ s, lowerPart pos A B (pos n) s * X s i
      = ∑ s ∈ range ((n : ℕ) + 1), (∑ j, rowsOf pos A n j * rowsOf pos B s j) * rowsOf pos X s i := by
  rw [← sum_before hpos (n + 1) n.isLt (fun s => (∑ j, A (pos n) j * B s j) * X s i)]
  · refine sum_congr rfl fun s _ => ?_
    unfold lowerPart
    rw [hpos]
    by_cases hx : pos s ≤ n
    · rw [if_pos hx, if_pos (Nat.lt_succ_of_le (Fin.le_def.mp hx))]
    · rw [if_neg hx, if_neg (fun hc => hx (Fin.le_def.mpr (Nat.le_of_lt_succ hc))), zero_mul]
  · intro s; simp only [rowsOf_val]

/-- What the arrays of a chunk must be for the chunk to be 64 steps of the rule: the decay so far `Q`, and the tiles' rows,
    taken in the order of the steps, scaled by it. -/
structure IsChunk (pos : Fin 64 → Fin 64) (w k v a b r Q : ℕ → Fin 64 → ℝ) (AH RH BH KH V BT KT : Mat)
    (PT : Fin 64 → ℝ) : Prop where
  inv : ∀ t, pos (pos t) = t
  q0 : ∀ j, Q 0 j = 1
  qs : ∀ (n : Fin 64) (j), Q (n + 1) j = Q n j * w n j
  ah : ∀ (n : Fin 64) (j), AH (pos n) j = a n j * Q n j
  rh : ∀ (n : Fin 64) (j), RH (pos n) j = r n j * Q (n + 1) j
  bh : ∀ (n : Fin 64) (j), BH (pos n) j * Q (n + 1) j = b n j
  kh : ∀ (n : Fin 64) (j), KH (pos n) j * Q (n + 1) j = k n j
  hv : ∀ (n : Fin 64) (j), V (pos n) j = v n j
  bt : ∀ (n : Fin 64) (j), BT (pos n) j = BH (pos n) j * Q 64 j
  kt : ∀ (n : Fin 64) (j), KT (pos n) j = KH (pos n) j * Q 64 j
  pt : ∀ j, PT j = Q 64 j

section Correct

variable {w k v a b r Q : ℕ → Fin 64 → ℝ} {AH RH BH KH V BT KT : Mat} {PT : Fin 64 → ℝ} {S₀ : Mat}

theorem chunk_u (h : IsChunk pos w k v a b r Q AH RH BH KH V BT KT PT) (n : ℕ) (hn : n < 64) (i : Fin 64) :
    rowsOf pos (chunkU pos AH BH KH V S₀) n i
      = ∑ j, S₀ i j * rowsOf pos AH n j
        + ∑ s ∈ range n, ((∑ j, rowsOf pos AH n j * rowsOf pos BH s j) * rowsOf pos (chunkU pos AH BH KH V S₀) s i
          + (∑ j, rowsOf pos AH n j * rowsOf pos KH s j) * v s i) := by
  obtain ⟨n, rfl⟩ : ∃ m : Fin 64, (m : ℕ) = n := ⟨⟨n, hn⟩, rfl⟩
  rw [rowsOf_val]
  refine (congrFun (congrFun (chunkU_solves pos AH BH KH V S₀) (pos n)) i).trans ?_
  rw [Matrix.add_apply, Matrix.mul_apply, strict_sum h.inv, sum_add_distrib]
  unfold chunkX
  rw [strict_sum h.inv]
  have e : ∀ s ∈ range (n : ℕ), (∑ j, rowsOf pos AH n j * rowsOf pos KH s j) * rowsOf pos V s i
      = (∑ j, rowsOf pos AH n j * rowsOf pos KH s j) * v s i := by
    intro s hs
    have hs' : s < 64 := by have := mem_range.mp hs; omega
    rw [show rowsOf pos V s i = v s i from
      (congrFun (rowsOf_val V ⟨s, hs'⟩) i).trans (h.hv ⟨s, hs'⟩ i)]
  rw [sum_congr rfl e, rowsOf_val, sum_congr rfl fun j _ => mul_comm (AH (pos n) j) (S₀ i j)]
  ring

private theorem lift {f g : ℕ → Fin 64 → ℝ} (h : ∀ (n : Fin 64) (j), f n j = g n j) : ∀ n < 64, ∀ j, f n j = g n j :=
  fun n hn j => h ⟨n, hn⟩ j

/-- The chunk's outputs are the rule's outputs. -/
theorem chunk_out (h : IsChunk pos w k v a b r Q AH RH BH KH V BT KT PT) (n : Fin 64) (i : Fin 64) :
    chunkY pos AH RH BH KH V S₀ (pos n) i = ∑ j, seqState w k v a b S₀ (n + 1) i j * r n j := by
  rw [out_closed (Q := Q) (ah := rowsOf pos AH) (rh := rowsOf pos RH) (bh := rowsOf pos BH) (kh := rowsOf pos KH)
    (u := rowsOf pos (chunkU pos AH BH KH V S₀)) 64 h.q0 (lift h.qs)
    (lift fun n j => by rw [rowsOf_val, h.ah]) (lift fun n j => by rw [rowsOf_val, h.rh])
    (lift (f := fun n j => rowsOf pos BH n j * Q (n + 1) j) fun n j => by simp only [rowsOf_val, h.bh])
    (lift (f := fun n j => rowsOf pos KH n j * Q (n + 1) j) fun n j => by simp only [rowsOf_val, h.kh])
    (chunk_u h) n n.isLt i]
  unfold chunkY
  rw [lower_sum h.inv, lower_sum h.inv, sum_add_distrib]
  have e : ∀ s ∈ range ((n : ℕ) + 1), (∑ j, rowsOf pos RH n j * rowsOf pos KH s j) * rowsOf pos V s i
      = (∑ j, rowsOf pos RH n j * rowsOf pos KH s j) * v s i := by
    intro s hs
    have hs' : s < 64 := by have := mem_range.mp hs; have := n.isLt; omega
    rw [show rowsOf pos V s i = v s i from
      (congrFun (rowsOf_val V ⟨s, hs'⟩) i).trans (h.hv ⟨s, hs'⟩ i)]
  rw [sum_congr rfl e, rowsOf_val, sum_congr rfl fun j _ => mul_comm (RH (pos n) j) (S₀ i j)]

/-- The state a chunk leaves is the rule's state 64 steps later. -/
theorem chunk_state (h : IsChunk pos w k v a b r Q AH RH BH KH V BT KT PT) :
    chunkS pos AH BH KH V BT KT PT S₀ = seqState w k v a b S₀ 64 := by
  ext i j
  rw [state_closed (Q := Q) (ah := rowsOf pos AH) (bh := rowsOf pos BH) (kh := rowsOf pos KH)
    (u := rowsOf pos (chunkU pos AH BH KH V S₀)) 64 h.q0 (lift h.qs)
    (lift fun n j => by rw [rowsOf_val, h.ah])
    (lift (f := fun n j => rowsOf pos BH n j * Q (n + 1) j) fun n j => by simp only [rowsOf_val, h.bh])
    (lift (f := fun n j => rowsOf pos KH n j * Q (n + 1) j) fun n j => by simp only [rowsOf_val, h.kh])
    (chunk_u h) 64 le_rfl i j]
  unfold chunkS
  have hb : Function.Bijective pos := (show Function.Involutive pos from h.inv).bijective
  rw [← hb.sum_comp fun s => chunkU pos AH BH KH V S₀ s i * BT s j, ← hb.sum_comp fun s => V s i * KT s j, sum_range,
    ← sum_add_distrib, h.pt, add_mul, sum_mul]
  congr 1
  refine sum_congr rfl fun s _ => ?_
  rw [rowsOf_val, rowsOf_val, rowsOf_val, h.bt, h.kt, h.hv]
  ring

end Correct

end DeltaRule
-- ==== Proof.Rep.lean ====
/- A chain over blocks that hold real numbers: its outputs and its state, head by head, are those of the real chunk. -/
module

public import proofs.«01_k».proof.Proof.Masks
public import proofs.«01_k».proof.Proof.ChunkReal
public import Idealize.ShloMosaic.Lib.Pointwise
public import Mathlib.Data.Matrix.Mul
public import Mathlib.Data.EReal.Operations

@[expose] public section

set_option maxRecDepth 16384

noncomputable section

namespace Cert.KernelIdeal.Chain

open Idealize.ShloMosaic Idealize.ShloMosaic.TcCoe
open Cert.KernelIdeal Cert.KernelIdeal.Gen
open DeltaRule (Mat strictPart lowerPart chunkX chunkU chunkY chunkS dbl)

/-- A sum of reals, taken in the extended reals. -/
theorem coe_sum {ι : Type*} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

/-- A block of a pair of heads holding reals, head by head. -/
def IsB (x : S64x128.Idx → EReal) (X : Fin 2 → Mat) : Prop := ∀ r h j, x (ix2 r (lane2 h j)) = ((X h r j : ℝ) : EReal)

/-- A stack of two blocks holding reals, half by half and head by head. -/
def Is22 (z : S128x128.Idx → EReal) (Z : Fin 2 → Fin 2 → Mat) : Prop :=
  ∀ g r h j, z (ix2 (lane2 g r) (lane2 h j)) = ((Z g h r j : ℝ) : EReal)

/-- Every place of a pair is a lane of a head. -/
theorem exists_lane2 (l : Fin 128) : ∃ h j, l = lane2 h j :=
  ⟨⟨l.val / 64, by omega⟩, ⟨l.val % 64, by omega⟩, Fin.ext (by simp only [lane2]; omega)⟩

/-- A sum over a pair's lanes, head by head. -/
theorem sum128 (f : Fin 128 → EReal) : ∑ k, f k = ∑ h, ∑ j, f (lane2 h j) := by
  rw [← Fintype.sum_prod_type']
  refine (Fintype.sum_equiv (finProdFinEquiv (m := 2) (n := 64)) _ _ fun p => ?_).symm
  refine congrArg f (Fin.ext ?_)
  simp [lane2, finProdFinEquiv]; omega

/-- The sum of the products of reals at a pair's lanes. -/
theorem dot128 (f g : Fin 128 → EReal) (A B : Fin 2 → Fin 64 → ℝ) (hf : ∀ h j, f (lane2 h j) = (A h j : EReal))
    (hg : ∀ h j, g (lane2 h j) = (B h j : EReal)) : ∑ k, f k * g k = ((∑ h, ∑ j, A h j * B h j : ℝ) : EReal) := by
  rw [sum128, ← coe_sum]
  refine Finset.sum_congr rfl fun h _ => ?_
  rw [← coe_sum]
  refine Finset.sum_congr rfl fun j _ => ?_
  rw [hf, hg, EReal.coe_mul]

theorem lane2_zero (j : Fin 64) : (lane2 0 j).val = j.val := by simp [lane2]
theorem lane2_one (j : Fin 64) : (lane2 1 j).val = 64 + j.val := by simp [lane2]

/-- Two blocks one over the other, read at a row of a half. -/
theorem over_apply (x y : FVec Ideal S64x128 .bf16) (g : Fin 2) (r : Fin 64) (l : Fin 128) :
    over x y (ix2 (lane2 g r) l) = if g = 0 then x (ix2 r l) else y (ix2 r l) := by
  simp only [over, pointwise]
  obtain rfl | rfl : g = 0 ∨ g = 1 := by omega
  · have h := lane2_zero r
    refine (dif_pos (show (lane2 0 r).val < 64 by omega)).trans ?_
    rw [if_pos rfl]
    exact congrArg (fun a => x (ix2 a l)) (Fin.ext h)
  · have h := lane2_one r
    refine (dif_neg (show ¬ (lane2 1 r).val < 64 by omega)).trans ?_
    refine Eq.trans ?_ (if_neg (show ¬ (1 : Fin 2) = 0 by decide)).symm
    refine congrArg₂ (fun a b => y (ix2 a b)) (Fin.ext ?_) (Fin.ext ?_)
    · show (lane2 1 r).val - 64 = r.val
      omega
    · rfl

/-- A block with its two heads on the diagonal, read at a row of a half and a lane of a head. -/
theorem bd_apply (x : FVec Ideal S64x128 .bf16) (g : Fin 2) (r : Fin 64) (h : Fin 2) (j : Fin 64) :
    bd x (ix2 (lane2 g r) (lane2 h j)) = if g = h then x (ix2 r (lane2 h j)) else 0 := by
  have e : bd x = over (select lo x (broadcast S64x128 (Scalar.ofBits .bf16 0x0000#16)))
      (select lo (broadcast S64x128 (Scalar.ofBits .bf16 0x0000#16)) x) := rfl
  rw [e, over_apply]
  simp only [pointwise, lo_apply]
  fin_cases g <;> fin_cases h <;> simp [Scalar.select]

variable {x y : FVec Ideal S64x128 .bf16} {X Y : Fin 2 → Mat}

/-- The diagonal arrangement holds the heads on the diagonal. -/
theorem Is22.bd (hx : IsB x X) : Is22 (bd x) (fun g h => if g = h then X h else 0) := fun g r h j => by
  rw [bd_apply]
  by_cases e : g = h
  · simp only [if_pos e]; exact hx r h j
  · simp only [if_neg e]; rfl

theorem Is22.over (hx : IsB x X) (hy : IsB y Y) : Is22 (over x y) (fun g h => if g = 0 then X h else Y h) := fun g r h j => by
  rw [over_apply]
  by_cases e : g = 0
  · simp only [if_pos e]; exact hx r h j
  · simp only [if_neg e]; exact hy r h j

/-- A sum over the two heads of which one is kept. -/
theorem sum_head (h : Fin 2) (f : Fin 2 → Fin 64 → ℝ) (A : Fin 2 → Fin 64 → ℝ) :
    (∑ h', ∑ j, f h' j * (if h = h' then A h' j else 0)) = ∑ j, f h j * A h j := by
  rw [Finset.sum_eq_single h]
  · simp
  · intro b _ hb
    refine Finset.sum_eq_zero fun j _ => ?_
    rw [if_neg (Ne.symm hb), mul_zero]
  · intro hh; exact absurd (Finset.mem_univ _) hh

/-- The same sum with the kept head named on the other side. -/
theorem sum_head' (h : Fin 2) (f : Fin 2 → Fin 64 → ℝ) (A : Fin 2 → Fin 64 → ℝ) :
    (∑ h', ∑ j, f h' j * (if h' = h then A h' j else 0)) = ∑ j, f h j * A h j := by
  rw [← sum_head]
  simp only [eq_comm]

/-- A block times a block on the diagonal: head by head the product. -/
theorem IsB.mmB (hx : IsB x X) (hy : IsB y Y) : IsB (mmB x y) (fun h => X h * Y h) := fun r h i => by
  simp only [Chain.mmB, pointwise]
  rw [zero_add, dot128 _ _ (fun h' s => X h' r s) (fun h' s => if h' = h then Y h' s i else 0) (fun h' s => hx r h' s)
    (fun h' s => by
      rw [bd_apply]
      by_cases e : h' = h
      · subst e; rw [if_pos rfl, if_pos rfl]; exact hy s h' i
      · rw [if_neg e, if_neg e]; simp), sum_head', Matrix.mul_apply]

theorem IsB.top {z : FVec Ideal S128x128 .f32} {Z : Fin 2 → Fin 2 → Mat} (hz : Is22 z Z) : IsB (top z) (fun h => Z 0 h) := fun r h j => by
  simp only [Chain.top, pointwise]
  refine Eq.trans (congrArg z ?_) (hz 0 r h j)
  refine congrArg₂ ix2 (Fin.ext ?_) (Fin.ext ?_) <;> simp [lane2]

theorem IsB.bot {z : FVec Ideal S128x128 .f32} {Z : Fin 2 → Fin 2 → Mat} (hz : Is22 z Z) : IsB (bot z) (fun h => Z 1 h) := fun r h j => by
  simp only [Chain.bot, pointwise]
  refine Eq.trans (congrArg z ?_) (hz 1 r h j)
  refine congrArg₂ ix2 (Fin.ext ?_) (Fin.ext ?_) <;> simp [lane2]

theorem IsB.add {x y : FVec Ideal S64x128 .f32} (hx : IsB x X) (hy : IsB y Y) : IsB (addf x y) (fun h => X h + Y h) := fun r h j => by
  simp only [pointwise]
  rw [hx, hy, Matrix.add_apply, EReal.coe_add]

theorem IsB.trunc {x : FVec Ideal S64x128 .f32} (hx : IsB x X) : IsB (truncf .bf16 x bitsLt_bf16_f32) X := fun r h j => by
  simp only [pointwise]
  exact hx r h j

/-- The products with the state's rows. -/
theorem Is22.ps {s : FVec Ideal S128x128 .f32} {S : Fin 2 → Mat} (hx : IsB x X) (hy : IsB y Y)
    (hs : Is22 s (fun g h => if g = h then S h else 0)) :
    Is22 (ps x y s) (fun g h t i => ∑ j, (if g = 0 then X h else Y h) t j * S h i j) := fun g r h i => by
  simp only [Chain.ps, pointwise]
  rw [zero_add, dot128 _ _ (fun h' j => (if g = 0 then X h' else Y h') r j) (fun h' j => if h = h' then S h' i j else 0)
    (fun h' j => Is22.over hx hy g r h' j)
    (fun h' j => by
      refine (hs h i h' j).trans ?_
      by_cases e : h = h'
      · simp only [if_pos e]
      · simp only [if_neg e]; rfl), sum_head]

/-- The rows of two arrangements, one over the other, read in the first. -/
theorem stack_left (x y : FVec Ideal S128x128 .bf16) (k l : Fin 128) (i : S256x128.Idx) (h0 : (i 0).val = k.val) (h1 : (i 1).val = l.val) :
    concatenate S256x128 0 [⟨S128x128, x⟩, ⟨S128x128, y⟩] concatenates_S128x128_S128x128_S256x128_d0 i = x (ix2 k l) := by
  obtain ⟨a, b, rfl⟩ : ∃ a b, i = ix2 a b := ⟨_, _, eq_ix2 i⟩
  simp only [pointwise]
  have h0 : a.val = k.val := h0
  have h1 : b.val = l.val := h1
  refine (dif_pos (show a.val < 128 by omega)).trans ?_
  exact congrArg₂ (fun a b => x (ix2 a b)) (Fin.ext h0) (Fin.ext h1)

/-- The rows of two arrangements, one over the other, read in the second. -/
theorem stack_right (x y : FVec Ideal S128x128 .bf16) (k l : Fin 128) (i : S256x128.Idx) (h0 : (i 0).val = 128 + k.val) (h1 : (i 1).val = l.val) :
    concatenate S256x128 0 [⟨S128x128, x⟩, ⟨S128x128, y⟩] concatenates_S128x128_S128x128_S256x128_d0 i = y (ix2 k l) := by
  obtain ⟨a, b, rfl⟩ : ∃ a b, i = ix2 a b := ⟨_, _, eq_ix2 i⟩
  simp only [pointwise]
  have h0 : a.val = 128 + k.val := h0
  have h1 : b.val = l.val := h1
  refine (dif_neg (show ¬ a.val < 128 by omega)).trans ?_
  refine congrArg₂ (fun a b => y (ix2 a b)) (Fin.ext ?_) (Fin.ext h1)
  show a.val - 128 = k.val
  omega

/-- The columns of two arrangements side by side, read in the first. -/
theorem side_left (x y : FVec Ideal S128x128 .bf16) (k l : Fin 128) (i : S128x256.Idx) (h0 : (i 0).val = k.val) (h1 : (i 1).val = l.val) :
    concatenate S128x256 1 [⟨S128x128, x⟩, ⟨S128x128, y⟩] concatenates_S128x128_S128x128_S128x256_d1 i = x (ix2 k l) := by
  obtain ⟨a, b, rfl⟩ : ∃ a b, i = ix2 a b := ⟨_, _, eq_ix2 i⟩
  simp only [pointwise]
  have h0 : a.val = k.val := h0
  have h1 : b.val = l.val := h1
  refine (dif_pos (show b.val < 128 by omega)).trans ?_
  exact congrArg₂ (fun a b => x (ix2 a b)) (Fin.ext h0) (Fin.ext h1)

/-- The columns of two arrangements side by side, read in the second. -/
theorem side_right (x y : FVec Ideal S128x128 .bf16) (k l : Fin 128) (i : S128x256.Idx) (h0 : (i 0).val = k.val) (h1 : (i 1).val = 128 + l.val) :
    concatenate S128x256 1 [⟨S128x128, x⟩, ⟨S128x128, y⟩] concatenates_S128x128_S128x128_S128x256_d1 i = y (ix2 k l) := by
  obtain ⟨a, b, rfl⟩ : ∃ a b, i = ix2 a b := ⟨_, _, eq_ix2 i⟩
  simp only [pointwise]
  have h0 : a.val = k.val := h0
  have h1 : b.val = 128 + l.val := h1
  refine (dif_neg (show ¬ b.val < 128 by omega)).trans ?_
  refine congrArg₂ (fun a b => y (ix2 a b)) (Fin.ext h0) (Fin.ext ?_)
  show b.val - 128 = l.val
  omega

/-- The products of rows with rows, read at an index. -/
theorem mm_rows256 (a : FVec Ideal S128x128 .bf16) (b : FVec Ideal S256x128 .bf16) (i : Fin 128) (c : Fin 256) :
    matmul dot_S128x128_S256x128_S128x256_1_1_0_0_n_n none a b (constant S128x256 .f32 0x00000000#32) (ix2 i c)
      = ∑ k, a (ix2 i k) * b (ix2 c k) := by
  simp only [pointwise]; rw [zero_add]

/-- The product with 256 columns, read at an index. -/
theorem mm_cols256 (a : FVec Ideal S64x128 .bf16) (b : FVec Ideal S128x256 .bf16) (i : Fin 64) (c : Fin 256) :
    matmul dot_S64x128_S128x256_S64x256_1_0_0_1_n_n none a b (constant S64x256 .f32 0x00000000#32) (ix2 i c)
      = ∑ k, a (ix2 i k) * b (ix2 k c) := by
  simp only [pointwise]; rw [zero_add]

/-- The product over 256 places, read at an index. -/
theorem mm_over256 (a : FVec Ideal S64x256 .bf16) (b : FVec Ideal S256x128 .bf16) (i : Fin 64) (c : Fin 128) :
    matmul dot_S64x256_S256x128_S64x128_1_0_0_1_n_n none a b (constant S64x128 .f32 0x00000000#32) (ix2 i c)
      = ∑ k, a (ix2 i k) * b (ix2 k c) := by
  simp only [pointwise]; rw [zero_add]

/-- The products of columns with columns, read at an index. -/
theorem mm_cols (a b : FVec Ideal S128x128 .bf16) (i c : Fin 128) :
    matmul dot_S128x128_S128x128_S128x128_0_0_1_1_n_n none a b (constant S128x128 .f32 0x00000000#32) (ix2 i c)
      = ∑ k, a (ix2 k i) * b (ix2 k c) := by
  simp only [pointwise]; rw [zero_add]

/-- Two 64-row blocks side by side, read in the first. -/
theorem side64_left (x y : FVec Ideal S64x128 .f32) (r : Fin 64) (k : Fin 128) (c : Fin 256) (h : c.val = k.val) :
    concatenate S64x256 1 [⟨S64x128, x⟩, ⟨S64x128, y⟩] concatenates_S64x128_S64x128_S64x256_d1 (ix2 r c) = x (ix2 r k) := by
  simp only [pointwise]
  refine (dif_pos (show c.val < 128 by omega)).trans ?_
  exact congrArg (fun b => x (ix2 r b)) (Fin.ext h)

/-- Two 64-row blocks side by side, read in the second. -/
theorem side64_right (x y : FVec Ideal S64x128 .f32) (r : Fin 64) (k : Fin 128) (c : Fin 256) (h : c.val = 128 + k.val) :
    concatenate S64x256 1 [⟨S64x128, x⟩, ⟨S64x128, y⟩] concatenates_S64x128_S64x128_S64x256_d1 (ix2 r c) = y (ix2 r k) := by
  simp only [pointwise]
  refine (dif_neg (show ¬ c.val < 128 by omega)).trans ?_
  refine congrArg₂ (fun a b => y (ix2 a b)) rfl (Fin.ext ?_)
  show c.val - 128 = k.val
  omega

/-- The first half of 256 places. -/
def lft (k : Fin 128) : Fin 256 := ⟨k.val, by omega⟩
/-- The second half of 256 places. -/
def rgt (k : Fin 128) : Fin 256 := ⟨128 + k.val, by omega⟩

/-- A sum over 256 places, half by half. -/
theorem sum256 (f : Fin 256 → EReal) : ∑ k, f k = (∑ k, f (lft k)) + ∑ k, f (rgt k) :=
  Fin.sum_univ_add (a := 128) (b := 128) f

/-- The left 128 columns. -/
theorem cols_left (z : FVec Ideal S64x256 .f32) (r : Fin 64) (k : Fin 128) :
    extractStridedSlice S64x128 ![0, 0] z slices_S64x256_o0_0_S64x128 (ix2 r k) = z (ix2 r (lft k)) := by
  simp only [pointwise]
  refine congrArg z (congrArg₂ ix2 (Fin.ext ?_) (Fin.ext ?_)) <;> simp [lft]

/-- The right 128 columns. -/
theorem cols_right (z : FVec Ideal S64x256 .f32) (r : Fin 64) (k : Fin 128) :
    extractStridedSlice S64x128 ![0, 128] z slices_S64x256_o0_128_S64x128 (ix2 r k) = z (ix2 r (rgt k)) := by
  simp only [pointwise]
  refine congrArg z (congrArg₂ ix2 (Fin.ext ?_) (Fin.ext ?_)) <;> simp [rgt]

/-- The left 128 columns. -/
theorem half_left (z : FVec Ideal S128x256 .f32) (r : Fin 128) (k : Fin 128) :
    extractStridedSlice S128x128 ![0, 0] z slices_S128x256_o0_0_S128x128 (ix2 r k) = z (ix2 r (lft k)) := by
  simp only [pointwise]
  refine congrArg z (congrArg₂ ix2 (Fin.ext ?_) (Fin.ext ?_)) <;> simp [lft]

/-- The right 128 columns. -/
theorem half_right (z : FVec Ideal S128x256 .f32) (r : Fin 128) (k : Fin 128) :
    extractStridedSlice S128x128 ![0, 128] z slices_S128x256_o0_128_S128x128 (ix2 r k) = z (ix2 r (rgt k)) := by
  simp only [pointwise]
  refine congrArg z (congrArg₂ ix2 (Fin.ext ?_) (Fin.ext ?_)) <;> simp [rgt]

/-- What a direction's mask keeps: rows before, in the upper half; rows before or the same, in the lower. -/
def IsTri (tri : IVec S128x128 1) (pos : Fin 64 → Fin 64) : Prop := ∀ g r h j,
  tri (ix2 (lane2 g r) (lane2 h j)) = if (if g = 0 then pos j < pos r else pos j ≤ pos r) then 1#1 else 0#1

/-- The masked product of a half's rows with rows of a head. -/
theorem tri_part {tri : IVec S128x128 1} {pos : Fin 64 → Fin 64} (ht : IsTri tri pos) (A B C : Mat) (g : Fin 2) (r : Fin 64) (h : Fin 2)
    (s : Fin 64) (z : EReal) (hz : z = ((∑ j, (if g = 0 then A else B) r j * C s j : ℝ) : EReal)) :
    Scalar.select (tri (ix2 (lane2 g r) (lane2 h s))) z 0
      = (((if g = 0 then strictPart pos A C else lowerPart pos B C) r s : ℝ) : EReal) := by
  rw [ht, hz]
  by_cases e : g = 0
  · subst e
    simp only [if_true, strictPart]
    by_cases p : pos s < pos r
    · simp only [if_pos p]; rfl
    · simp only [if_neg p]; rfl
  · simp only [if_neg e, lowerPart]
    by_cases p : pos s ≤ pos r
    · simp only [if_pos p]; rfl
    · simp only [if_neg p]; rfl

section
variable {ah rh bh kh v bt kt : FVec Ideal S64x128 .bf16} {AH RH BH KH V BT KT : Fin 2 → Mat}
  {tri : IVec S128x128 1} {pos : Fin 64 → Fin 64} {s : FVec Ideal S128x128 .f32} {S : Fin 2 → Mat}

/-- A half's rows times the rows of a head, as the sum the products take. -/
theorem rows_dot (ha : IsB ah AH) (hr : IsB rh RH) (hb : IsB bh BH) (g : Fin 2) (r : Fin 64) (h : Fin 2) (t : Fin 64) :
    ∑ k, over ah rh (ix2 (lane2 g r) k) * bd bh (ix2 (lane2 h t) k)
      = ((∑ j, (if g = 0 then AH h else RH h) r j * BH h t j : ℝ) : EReal) := by
  rw [dot128 _ _ (fun h' j => (if g = 0 then AH h' else RH h') r j) (fun h' j => if h = h' then BH h' t j else 0)
    (fun h' j => Is22.over ha hr g r h' j)
    (fun h' j => by
      rw [bd_apply]
      by_cases e : h = h'
      · simp only [if_pos e]; exact hb t h' j
      · simp only [if_neg e]; rfl), sum_head]

theorem Is22.pb (ht : IsTri tri pos) (ha : IsB ah AH) (hr : IsB rh RH) (hb : IsB bh BH) :
    Is22 (pb tri (pbk ah rh bh kh)) (fun g h => if g = 0 then strictPart pos (AH h) (BH h) else lowerPart pos (RH h) (BH h)) :=
  fun g r h t => by
  show Scalar.select (tri (ix2 (lane2 g r) (lane2 h t)))
    (extractStridedSlice S128x128 ![0, 0] (pbk ah rh bh kh) slices_S128x256_o0_0_S128x128 (ix2 (lane2 g r) (lane2 h t))) (Ideal.ofBits .f32 0x00000000#32) = _
  rw [Ideal.ofBits_zero]
  refine tri_part ht _ _ _ g r h t _ ?_
  rw [half_left, pbk, mm_rows256, ← rows_dot ha hr hb]
  exact Finset.sum_congr rfl fun k _ => congrArg _ (stack_left _ _ (lane2 h t) k _ rfl rfl)

theorem Is22.pk (ht : IsTri tri pos) (ha : IsB ah AH) (hr : IsB rh RH) (hk : IsB kh KH) :
    Is22 (pk tri (pbk ah rh bh kh)) (fun g h => if g = 0 then strictPart pos (AH h) (KH h) else lowerPart pos (RH h) (KH h)) :=
  fun g r h t => by
  show Scalar.select (tri (ix2 (lane2 g r) (lane2 h t)))
    (extractStridedSlice S128x128 ![0, 128] (pbk ah rh bh kh) slices_S128x256_o0_128_S128x128 (ix2 (lane2 g r) (lane2 h t))) (Ideal.ofBits .f32 0x00000000#32) = _
  rw [Ideal.ofBits_zero]
  refine tri_part ht _ _ _ g r h t _ ?_
  rw [half_right, pbk, mm_rows256, ← rows_dot ha hr hk]
  exact Finset.sum_congr rfl fun k _ => congrArg _ (stack_right _ _ (lane2 h t) k _ rfl rfl)

/-- A power times a block on the diagonal: head by head the product. -/
theorem dot_bd {l x : FVec Ideal S64x128 .bf16} {L X : Fin 2 → Mat} (hl : IsB l L) (hx : IsB x X) (r : Fin 64) (h : Fin 2) (i : Fin 64) :
    ∑ k, l (ix2 r k) * bd x (ix2 k (lane2 h i)) = (((L h * X h) r i : ℝ) : EReal) := by
  rw [dot128 _ _ (fun h' s => L h' r s) (fun h' s => if h' = h then X h' s i else 0) (fun h' s => hl r h' s)
    (fun h' s => by
      rw [bd_apply]
      by_cases e : h' = h
      · subst e; rw [if_pos rfl, if_pos rfl]; exact hx s h' i
      · rw [if_neg e, if_neg e]; simp), sum_head', Matrix.mul_apply]

theorem IsB.nextX {x : FVec Ideal S64x128 .f32} {l : FVec Ideal S64x128 .bf16} {L X : Fin 2 → Mat} (hx : IsB x X) (hl : IsB l L) :
    IsB (nextX x l) (fun h => X h + L h * X h) := by
  refine IsB.add hx fun r h i => ?_
  rw [cols_left, prod, mm_cols256, ← dot_bd hl hx.trunc]
  exact Finset.sum_congr rfl fun k _ => congrArg _ (side_left _ _ k (lane2 h i) _ rfl rfl)

theorem IsB.nextL {x : FVec Ideal S64x128 .f32} {l : FVec Ideal S64x128 .bf16} {L : Fin 2 → Mat} (hl : IsB l L) :
    IsB (nextL x l) (fun h => L h * L h) := by
  refine IsB.trunc fun r h i => ?_
  rw [cols_right, prod, mm_cols256, ← dot_bd hl hl]
  exact Finset.sum_congr rfl fun k _ => congrArg _ (side_right _ _ k (lane2 h i) _ rfl rfl)

theorem IsB.lastX {x : FVec Ideal S64x128 .f32} {l : FVec Ideal S64x128 .bf16} {L X : Fin 2 → Mat} (hx : IsB x X) (hl : IsB l L) :
    IsB (lastX x l) (fun h => X h + L h * X h) :=
  IsB.add hx (IsB.mmB hl hx.trunc)

/-- The six doublings, head by head. -/
theorem IsB.solve {x : FVec Ideal S64x128 .f32} {l : FVec Ideal S64x128 .bf16} {L X : Fin 2 → Mat} (hx : IsB x X) (hl : IsB l L) :
    IsB (solve x l) (fun h => (dbl (dbl (dbl (dbl (dbl (dbl (X h, L h))))))).1) :=
  IsB.lastX
    (IsB.nextX (IsB.nextX (IsB.nextX (IsB.nextX (IsB.nextX hx hl) (IsB.nextL hl)) (IsB.nextL (IsB.nextL hl)))
      (IsB.nextL (IsB.nextL (IsB.nextL hl)))) (IsB.nextL (IsB.nextL (IsB.nextL (IsB.nextL hl)))))
    (IsB.nextL (IsB.nextL (IsB.nextL (IsB.nextL (IsB.nextL hl)))))

/-- The chunk's corrections, head by head. -/
theorem IsB.chainU (ht : IsTri tri pos) (ha : IsB ah AH) (hr : IsB rh RH) (hb : IsB bh BH) (hk : IsB kh KH) (hv : IsB v V)
    (hs : Is22 s (fun g h => if g = h then S h else 0)) :
    IsB (chainU tri ah rh bh kh v s) (fun h => chunkU pos (AH h) (BH h) (KH h) (V h) (S h)) := by
  refine IsB.trunc (IsB.solve (X := fun h => chunkX pos (AH h) (KH h) (V h) (S h)) (L := fun h => strictPart pos (AH h) (BH h)) ?_ ?_)
  · have h := IsB.add (IsB.top (Is22.ps ha hr hs)) (IsB.mmB (IsB.trunc (IsB.top (Is22.pk (bh := bh) ht ha hr hk))) hv)
    exact fun r g j => h r g j
  · have h := IsB.trunc (IsB.top (Is22.pb (kh := kh) ht ha hr hb))
    exact fun r g j => h r g j

/-- The chunk's outputs, head by head. -/
theorem IsB.chainY (ht : IsTri tri pos) (ha : IsB ah AH) (hr : IsB rh RH) (hb : IsB bh BH) (hk : IsB kh KH) (hv : IsB v V)
    (hs : Is22 s (fun g h => if g = h then S h else 0)) :
    IsB (chainY tri ah rh bh kh v s) (fun h => chunkY pos (AH h) (RH h) (BH h) (KH h) (V h) (S h)) := by
  have hu := IsB.chainU ht ha hr hb hk hv hs
  have h1 := IsB.bot (Is22.ps ha hr hs)
  have h2 : IsB (Chain.bot (Chain.pb tri (pbk ah rh bh kh))) (fun h => lowerPart pos (RH h) (BH h)) := IsB.bot (Is22.pb (kh := kh) ht ha hr hb)
  have h3 : IsB (Chain.bot (Chain.pk tri (pbk ah rh bh kh))) (fun h => lowerPart pos (RH h) (KH h)) := IsB.bot (Is22.pk (bh := bh) ht ha hr hk)
  have h4 : IsB (matmul dot_S64x256_S256x128_S64x128_1_0_0_1_n_n none
      (truncf .bf16 (concatenate S64x256 1 [⟨S64x128, Chain.bot (Chain.pb tri (pbk ah rh bh kh))⟩, ⟨S64x128, Chain.bot (Chain.pk tri (pbk ah rh bh kh))⟩]
        concatenates_S64x128_S64x128_S64x256_d1) bitsLt_bf16_f32)
      (concatenate S256x128 0 [⟨S128x128, Chain.bd (Chain.chainU tri ah rh bh kh v s)⟩, ⟨S128x128, Chain.bd v⟩] concatenates_S128x128_S128x128_S256x128_d0)
      (constant S64x128 .f32 0x00000000#32))
      (fun h => lowerPart pos (RH h) (BH h) * chunkU pos (AH h) (BH h) (KH h) (V h) (S h) + lowerPart pos (RH h) (KH h) * V h) := fun r h i => by
    refine (mm_over256 _ _ r _).trans ?_
    show _ = (((lowerPart pos (RH h) (BH h) * chunkU pos (AH h) (BH h) (KH h) (V h) (S h)) r i + (lowerPart pos (RH h) (KH h) * V h) r i : ℝ) : EReal)
    rw [sum256, EReal.coe_add, ← dot_bd (IsB.trunc h2) hu r h i, ← dot_bd (IsB.trunc h3) hv r h i]
    refine congrArg₂ (· + ·) (Finset.sum_congr rfl fun k _ => congrArg₂ (· * ·) ?_ ?_) (Finset.sum_congr rfl fun k _ => congrArg₂ (· * ·) ?_ ?_)
    · exact side64_left _ _ r k _ rfl
    · exact stack_left _ _ k (lane2 h i) _ rfl rfl
    · exact side64_right _ _ r k _ rfl
    · exact stack_right _ _ k (lane2 h i) _ rfl rfl
  have h := IsB.add h1 h4
  exact fun r g j => h r g j

/-- The state the chunk leaves, head by head; off the heads it stays zero. -/
theorem Is22.chainS (ht : IsTri tri pos) (ha : IsB ah AH) (hr : IsB rh RH) (hb : IsB bh BH) (hk : IsB kh KH) (hv : IsB v V)
    (hbt : IsB bt BT) (hkt : IsB kt KT) {pt : FVec Ideal S1x128 .f32} {PT : Fin 2 → Fin 64 → ℝ}
    (hpt : ∀ h j, pt (ix2 0 (lane2 h j)) = ((PT h j : ℝ) : EReal)) (hs : Is22 s (fun g h => if g = h then S h else 0)) :
    Is22 (chainS tri sameHead ah rh bh kh v bt kt pt s)
      (fun g h => if g = h then chunkS pos (AH h) (BH h) (KH h) (V h) (BT h) (KT h) (PT h) (S h) else 0) := fun g i h j => by
  have hu := IsB.chainU ht ha hr hb hk hv hs
  show s (ix2 (lane2 g i) (lane2 h j)) * broadcastTo S128x128 pt broadcasts_S1x128_S128x128 (ix2 (lane2 g i) (lane2 h j))
    + Scalar.select (sameHead (ix2 (lane2 g i) (lane2 h j)))
      (matmul dot_S128x128_S128x128_S128x128_0_0_1_1_n_n none (Chain.over (Chain.chainU tri ah rh bh kh v s) v) (Chain.over bt kt)
        (constant S128x128 .f32 0x00000000#32) (ix2 (lane2 g i) (lane2 h j))) (Ideal.ofBits .f32 0x00000000#32) = _
  have e1 : broadcastTo S128x128 pt broadcasts_S1x128_S128x128 (ix2 (lane2 g i) (lane2 h j)) = ((PT h j : ℝ) : EReal) := by
    rw [← hpt]; simp only [pointwise]; rfl
  have e2 := dot128 (fun k => Chain.over (Chain.chainU tri ah rh bh kh v s) v (ix2 k (lane2 g i))) (fun k => Chain.over bt kt (ix2 k (lane2 h j)))
    (fun f t => if f = 0 then chunkU pos (AH g) (BH g) (KH g) (V g) (S g) t i else V g t i) (fun f t => if f = 0 then BT h t j else KT h t j)
    (fun f t => by rw [over_apply]; by_cases e : f = 0
                   · rw [if_pos e, if_pos e]; exact hu t g i
                   · rw [if_neg e, if_neg e]; exact hv t g i)
    (fun f t => by rw [over_apply]; by_cases e : f = 0
                   · rw [if_pos e, if_pos e]; exact hbt t h j
                   · rw [if_neg e, if_neg e]; exact hkt t h j)
  rw [Ideal.ofBits_zero, same_apply, mm_cols, e1, e2, hs g i h j]
  by_cases e : g = h
  · subst e
    simp only [if_true, Fin.sum_univ_two]
    simp only [show ¬ ((1 : Fin 2) = 0) by decide, if_false]
    show _ + (((_ : ℝ)) : EReal) = _
    rw [← EReal.coe_mul, ← EReal.coe_add]
    exact congrArg _ (by simp only [chunkS])
  · simp only [if_neg e]
    show ((0 : ℝ) : EReal) * _ + 0 = _
    simp

end

end Cert.KernelIdeal.Chain
-- ==== Proof.Points.lean ====
/- The kernel's grid points folded: what a point leaves in the carried state and in its output blocks, for arrays that hold
   real numbers. -/
module

public import proofs.«01_k».proof.Proof.Rep
public import proofs.«01_k».proof.Proof.Pieces
public import proofs.«01_k».proof.Proof.Gen.KernelIdeal.Value

@[expose] public section

set_option maxRecDepth 16384

noncomputable section

namespace Cert.KernelIdeal.Chain

open Idealize.ShloMosaic Idealize.ShloMosaic.TcCoe Idealize.SL.Sem
open Cert.KernelIdeal Cert.KernelIdeal.Gen
open DeltaRule (Mat strictPart lowerPart chunkX chunkU chunkY chunkS dbl)

section AnyFloat

variable {F : FTy → Type} [FloatOps F]
variable (m : (ℓ : Loc nD τ sig) → Buf (Elt F) ℓ) (c : Dev nD)

/-- What a point leaves, over the state `s` it starts from. -/
def pointOuts (t : Fin cfg0.N) (s : Vec F S2x8x128x128 .f32) : Vec F S64x1024 .f32 × Vec F S64x1024 .f32 × Vec F S2x8x128x128 .f32 :=
    (outPoint k0_pay5 0 (iblk m c 0 t) (iblk m c 1 t) (iblk m c 2 t) (iblk m c 3 t) (iblk m c 6 t) s,
      outPoint k0_pay6 1 (iblk m c 8 t) (iblk m c 9 t) (iblk m c 10 t) (iblk m c 11 t) (iblk m c 14 t) s,
      statePoint (iblk m c 0 t) (iblk m c 1 t) (iblk m c 2 t) (iblk m c 3 t) (iblk m c 4 t) (iblk m c 5 t) (iblk m c 6 t) (iblk m c 7 t)
        (iblk m c 8 t) (iblk m c 9 t) (iblk m c 10 t) (iblk m c 11 t) (iblk m c 12 t) (iblk m c 13 t) (iblk m c 14 t) (iblk m c 15 t) s)

/-- A sequence's first point starts from the zero state. -/
theorem outs_first (t : Fin cfg0.N) (h0 : t.val % 68 = 0) : outsAt0 m c t.val t.isLt = pointOuts m c t k0_pay3 := by
  rw [outsAt0_A m c t h0, outA16, outA17, outAS]; rfl

/-- Every other point starts from the state the point before left. -/
theorem outs_next (t : Fin cfg0.N) (h0 : ¬ t.val % 68 = 0) :
    outsAt0 m c t.val t.isLt = pointOuts m c t (outsAt0 m c (t.val - 1) (Nat.lt_of_le_of_lt (Nat.sub_le _ _) t.isLt)).2.2 := by
  rw [outsAt0_B m c t h0, outB16, outB17, outBS]; rfl

/-- The same, the point given by its number. -/
theorem outs_first_at (n : ℕ) (hn : n < cfg0.N) (h0 : n % 68 = 0) : outsAt0 m c n hn = pointOuts m c ⟨n, hn⟩ k0_pay3 :=
  outs_first m c ⟨n, hn⟩ h0

/-- The same, the point given by its number. -/
theorem outs_next_at (n : ℕ) (hn : n + 1 < cfg0.N) (h0 : ¬ (n + 1) % 68 = 0) :
    outsAt0 m c (n + 1) hn = pointOuts m c ⟨n + 1, hn⟩ (outsAt0 m c n (Nat.lt_of_succ_lt hn)).2.2 :=
  outs_next m c ⟨n + 1, hn⟩ h0

theorem pairOf_lane (q : Fin 8) (l : Fin 128) : pairOf (lane q l) = q := Fin.ext (by simp only [pairOf, lane]; omega)
theorem within_lane (q : Fin 8) (l : Fin 128) : within (lane q l) = l := Fin.ext (by simp only [within, lane]; omega)

/-- A point's outputs on one pair's lanes. -/
theorem outPoint_lane (tri : IVec S128x128 1) (d : Fin 2) (ah rh bh kh : Vec F S1x64x1024 .bf16) (v : Vec F S64x1024 .bf16)
    (s : Vec F S2x8x128x128 .f32) (r : Fin 64) (q : Fin 8) (l : Fin 128) :
    outPoint tri d ah rh bh kh v s (ix2 r (lane q l))
      = chainY tri (laneBlk ah q) (laneBlk rh q) (laneBlk bh q) (laneBlk kh q) (rowBlk v q) (stBlk s d q) (ix2 r l) := by
  show chainY tri (laneBlk ah (pairOf (lane q l))) (laneBlk rh (pairOf (lane q l))) (laneBlk bh (pairOf (lane q l)))
    (laneBlk kh (pairOf (lane q l))) (rowBlk v (pairOf (lane q l))) (stBlk s d (pairOf (lane q l))) (ix2 r (within (lane q l))) = _
  rw [pairOf_lane, within_lane]

/-- The chunk that direction `d` takes up at point `t`. -/
def ch (d : Fin 2) (t : ℕ) : ℕ := if d = 0 then t else 68 * (t / 68) + (if t % 68 < 4 then 3 - t % 68 else 71 - t % 68)

theorem ch_lt (d : Fin 2) (t : ℕ) (h : t < 136) : ch d t < 136 := by
  unfold ch; split_ifs <;> omega

/-- Token `r` of chunk `p`. -/
def tok (p : ℕ) (hp : p < 136) (r : Fin 64) : Fin 8704 := ⟨64 * p + r.val, by omega⟩

theorem point_lt (t : Fin cfg0.N) : t.val < 136 := (by decide : cfg0.N = 136) ▸ t.isLt

theorem idx0 : ∀ t : Fin cfg0.N, win0_0.index t (0 : Fin 3) = 0 ∧ win0_0.index t (1 : Fin 3) = ch 0 t.val ∧ win0_0.index t (2 : Fin 3) = 0 :=
  (by decide +kernel : ∀ t : Fin grid0.N, _)

/-- Window 0's block at a point. -/
theorem blk0 (t : Fin cfg0.N) (r : Fin 64) (l : Fin 1024) :
    (iblk m c 0 t : Vec F S1x64x1024 .bf16) (ix3 0 r l) = (V m c main_v47 : Vec F S2x8704x1024 .bf16) (ix3 0 (tok (ch 0 t.val) (ch_lt _ _ (point_lt t)) r) l) := by
  obtain ⟨e0, e1, e2⟩ := idx0 t
  refine congrArg (V m c main_v47 : Vec F S2x8704x1024 .bf16) (funext fun a => Fin.ext ?_)
  match a with
  | ⟨0, _⟩ => show win0_0.index t (0 : Fin 3) * 1 + 1 * 0 = 0; omega
  | ⟨1, _⟩ => show win0_0.index t (1 : Fin 3) * 64 + 1 * r.val = 64 * ch 0 t.val + r.val; omega
  | ⟨2, _⟩ => show win0_0.index t (2 : Fin 3) * 1024 + 1 * l.val = l.val; omega

theorem idx1 : ∀ t : Fin cfg0.N, win0_1.index t (0 : Fin 3) = 0 ∧ win0_1.index t (1 : Fin 3) = ch 0 t.val ∧ win0_1.index t (2 : Fin 3) = 0 :=
  (by decide +kernel : ∀ t : Fin grid0.N, _)

/-- Window 1's block at a point. -/
theorem blk1 (t : Fin cfg0.N) (r : Fin 64) (l : Fin 1024) :
    (iblk m c 1 t : Vec F S1x64x1024 .bf16) (ix3 0 r l) = (V m c main_v52 : Vec F S2x8704x1024 .bf16) (ix3 0 (tok (ch 0 t.val) (ch_lt _ _ (point_lt t)) r) l) := by
  obtain ⟨e0, e1, e2⟩ := idx1 t
  refine congrArg (V m c main_v52 : Vec F S2x8704x1024 .bf16) (funext fun a => Fin.ext ?_)
  match a with
  | ⟨0, _⟩ => show win0_1.index t (0 : Fin 3) * 1 + 1 * 0 = 0; omega
  | ⟨1, _⟩ => show win0_1.index t (1 : Fin 3) * 64 + 1 * r.val = 64 * ch 0 t.val + r.val; omega
  | ⟨2, _⟩ => show win0_1.index t (2 : Fin 3) * 1024 + 1 * l.val = l.val; omega

theorem idx2 : ∀ t : Fin cfg0.N, win0_2.index t (0 : Fin 3) = 0 ∧ win0_2.index t (1 : Fin 3) = ch 0 t.val ∧ win0_2.index t (2 : Fin 3) = 0 :=
  (by decide +kernel : ∀ t : Fin grid0.N, _)

/-- Window 2's block at a point. -/
theorem blk2 (t : Fin cfg0.N) (r : Fin 64) (l : Fin 1024) :
    (iblk m c 2 t : Vec F S1x64x1024 .bf16) (ix3 0 r l) = (V m c main_v55 : Vec F S2x8704x1024 .bf16) (ix3 0 (tok (ch 0 t.val) (ch_lt _ _ (point_lt t)) r) l) := by
  obtain ⟨e0, e1, e2⟩ := idx2 t
  refine congrArg (V m c main_v55 : Vec F S2x8704x1024 .bf16) (funext fun a => Fin.ext ?_)
  match a with
  | ⟨0, _⟩ => show win0_2.index t (0 : Fin 3) * 1 + 1 * 0 = 0; omega
  | ⟨1, _⟩ => show win0_2.index t (1 : Fin 3) * 64 + 1 * r.val = 64 * ch 0 t.val + r.val; omega
  | ⟨2, _⟩ => show win0_2.index t (2 : Fin 3) * 1024 + 1 * l.val = l.val; omega

theorem idx3 : ∀ t : Fin cfg0.N, win0_3.index t (0 : Fin 3) = 0 ∧ win0_3.index t (1 : Fin 3) = ch 0 t.val ∧ win0_3.index t (2 : Fin 3) = 0 :=
  (by decide +kernel : ∀ t : Fin grid0.N, _)

/-- Window 3's block at a point. -/
theorem blk3 (t : Fin cfg0.N) (r : Fin 64) (l : Fin 1024) :
    (iblk m c 3 t : Vec F S1x64x1024 .bf16) (ix3 0 r l) = (V m c main_v58 : Vec F S2x8704x1024 .bf16) (ix3 0 (tok (ch 0 t.val) (ch_lt _ _ (point_lt t)) r) l) := by
  obtain ⟨e0, e1, e2⟩ := idx3 t
  refine congrArg (V m c main_v58 : Vec F S2x8704x1024 .bf16) (funext fun a => Fin.ext ?_)
  match a with
  | ⟨0, _⟩ => show win0_3.index t (0 : Fin 3) * 1 + 1 * 0 = 0; omega
  | ⟨1, _⟩ => show win0_3.index t (1 : Fin 3) * 64 + 1 * r.val = 64 * ch 0 t.val + r.val; omega
  | ⟨2, _⟩ => show win0_3.index t (2 : Fin 3) * 1024 + 1 * l.val = l.val; omega

theorem idx4 : ∀ t : Fin cfg0.N, win0_4.index t (0 : Fin 3) = 0 ∧ win0_4.index t (1 : Fin 3) = ch 0 t.val ∧ win0_4.index t (2 : Fin 3) = 0 :=
  (by decide +kernel : ∀ t : Fin grid0.N, _)

/-- Window 4's block at a point. -/
theorem blk4 (t : Fin cfg0.N) (r : Fin 64) (l : Fin 1024) :
    (iblk m c 4 t : Vec F S1x64x1024 .bf16) (ix3 0 r l) = (V m c main_v61 : Vec F S2x8704x1024 .bf16) (ix3 0 (tok (ch 0 t.val) (ch_lt _ _ (point_lt t)) r) l) := by
  obtain ⟨e0, e1, e2⟩ := idx4 t
  refine congrArg (V m c main_v61 : Vec F S2x8704x1024 .bf16) (funext fun a => Fin.ext ?_)
  match a with
  | ⟨0, _⟩ => show win0_4.index t (0 : Fin 3) * 1 + 1 * 0 = 0; omega
  | ⟨1, _⟩ => show win0_4.index t (1 : Fin 3) * 64 + 1 * r.val = 64 * ch 0 t.val + r.val; omega
  | ⟨2, _⟩ => show win0_4.index t (2 : Fin 3) * 1024 + 1 * l.val = l.val; omega

theorem idx5 : ∀ t : Fin cfg0.N, win0_5.index t (0 : Fin 3) = 0 ∧ win0_5.index t (1 : Fin 3) = ch 0 t.val ∧ win0_5.index t (2 : Fin 3) = 0 :=
  (by decide +kernel : ∀ t : Fin grid0.N, _)

/-- Window 5's block at a point. -/
theorem blk5 (t : Fin cfg0.N) (r : Fin 64) (l : Fin 1024) :
    (iblk m c 5 t : Vec F S1x64x1024 .bf16) (ix3 0 r l) = (V m c main_v64 : Vec F S2x8704x1024 .bf16) (ix3 0 (tok (ch 0 t.val) (ch_lt _ _ (point_lt t)) r) l) := by
  obtain ⟨e0, e1, e2⟩ := idx5 t
  refine congrArg (V m c main_v64 : Vec F S2x8704x1024 .bf16) (funext fun a => Fin.ext ?_)
  match a with
  | ⟨0, _⟩ => show win0_5.index t (0 : Fin 3) * 1 + 1 * 0 = 0; omega
  | ⟨1, _⟩ => show win0_5.index t (1 : Fin 3) * 64 + 1 * r.val = 64 * ch 0 t.val + r.val; omega
  | ⟨2, _⟩ => show win0_5.index t (2 : Fin 3) * 1024 + 1 * l.val = l.val; omega

theorem idx6 : ∀ t : Fin cfg0.N, win0_6.index t (0 : Fin 2) = ch 0 t.val ∧ win0_6.index t (1 : Fin 2) = 0 :=
  (by decide +kernel : ∀ t : Fin grid0.N, _)

/-- Window 6's block at a point. -/
theorem blk6 (t : Fin cfg0.N) (r : Fin 64) (l : Fin 1024) :
    (iblk m c 6 t : Vec F S64x1024 .bf16) (ix2 r l) = (V m c main_v69 : Vec F S8704x1024 .bf16) (ix2 (tok (ch 0 t.val) (ch_lt _ _ (point_lt t)) r) l) := by
  obtain ⟨e1, e2⟩ := idx6 t
  refine congrArg (V m c main_v69 : Vec F S8704x1024 .bf16) (funext fun a => Fin.ext ?_)
  match a with
  | ⟨0, _⟩ => show win0_6.index t (0 : Fin 2) * 64 + 1 * r.val = 64 * ch 0 t.val + r.val; omega
  | ⟨1, _⟩ => show win0_6.index t (1 : Fin 2) * 1024 + 1 * l.val = l.val; omega

theorem idx7 : ∀ t : Fin cfg0.N, win0_7.index t (0 : Fin 4) = 0 ∧ win0_7.index t (1 : Fin 4) = ch 0 t.val ∧ win0_7.index t (2 : Fin 4) = 0 ∧ win0_7.index t (3 : Fin 4) = 0 :=
  (by decide +kernel : ∀ t : Fin grid0.N, _)

/-- Window 7's block at a point. -/
theorem blk7 (t : Fin cfg0.N) (l : Fin 1024) :
    (iblk m c 7 t : Vec F S1x1x1x1024 .f32) (ix4 0 0 0 l) = (V m c main_v67 : Vec F S2x136x1x1024 .f32) (ix4 0 ⟨ch 0 t.val, ch_lt _ _ (point_lt t)⟩ 0 l) := by
  obtain ⟨e0, e1, e2, e3⟩ := idx7 t
  refine congrArg (V m c main_v67 : Vec F S2x136x1x1024 .f32) (funext fun a => Fin.ext ?_)
  match a with
  | ⟨0, _⟩ => show win0_7.index t (0 : Fin 4) * 1 + 1 * 0 = 0; omega
  | ⟨1, _⟩ => show win0_7.index t (1 : Fin 4) * 1 + 1 * 0 = ch 0 t.val; omega
  | ⟨2, _⟩ => show win0_7.index t (2 : Fin 4) * 1 + 1 * 0 = 0; omega
  | ⟨3, _⟩ => show win0_7.index t (3 : Fin 4) * 1024 + 1 * l.val = l.val; omega

theorem idx8 : ∀ t : Fin cfg0.N, win0_8.index t (0 : Fin 3) = 1 ∧ win0_8.index t (1 : Fin 3) = ch 1 t.val ∧ win0_8.index t (2 : Fin 3) = 0 :=
  (by decide +kernel : ∀ t : Fin grid0.N, _)

/-- Window 8's block at a point. -/
theorem blk8 (t : Fin cfg0.N) (r : Fin 64) (l : Fin 1024) :
    (iblk m c 8 t : Vec F S1x64x1024 .bf16) (ix3 0 r l) = (V m c main_v47 : Vec F S2x8704x1024 .bf16) (ix3 1 (tok (ch 1 t.val) (ch_lt _ _ (point_lt t)) r) l) := by
  obtain ⟨e0, e1, e2⟩ := idx8 t
  refine congrArg (V m c main_v47 : Vec F S2x8704x1024 .bf16) (funext fun a => Fin.ext ?_)
  match a with
  | ⟨0, _⟩ => show win0_8.index t (0 : Fin 3) * 1 + 1 * 0 = 1; omega
  | ⟨1, _⟩ => show win0_8.index t (1 : Fin 3) * 64 + 1 * r.val = 64 * ch 1 t.val + r.val; omega
  | ⟨2, _⟩ => show win0_8.index t (2 : Fin 3) * 1024 + 1 * l.val = l.val; omega

theorem idx9 : ∀ t : Fin cfg0.N, win0_9.index t (0 : Fin 3) = 1 ∧ win0_9.index t (1 : Fin 3) = ch 1 t.val ∧ win0_9.index t (2 : Fin 3) = 0 :=
  (by decide +kernel : ∀ t : Fin grid0.N, _)

/-- Window 9's block at a point. -/
theorem blk9 (t : Fin cfg0.N) (r : Fin 64) (l : Fin 1024) :
    (iblk m c 9 t : Vec F S1x64x1024 .bf16) (ix3 0 r l) = (V m c main_v52 : Vec F S2x8704x1024 .bf16) (ix3 1 (tok (ch 1 t.val) (ch_lt _ _ (point_lt t)) r) l) := by
  obtain ⟨e0, e1, e2⟩ := idx9 t
  refine congrArg (V m c main_v52 : Vec F S2x8704x1024 .bf16) (funext fun a => Fin.ext ?_)
  match a with
  | ⟨0, _⟩ => show win0_9.index t (0 : Fin 3) * 1 + 1 * 0 = 1; omega
  | ⟨1, _⟩ => show win0_9.index t (1 : Fin 3) * 64 + 1 * r.val = 64 * ch 1 t.val + r.val; omega
  | ⟨2, _⟩ => show win0_9.index t (2 : Fin 3) * 1024 + 1 * l.val = l.val; omega

theorem idx10 : ∀ t : Fin cfg0.N, win0_10.index t (0 : Fin 3) = 1 ∧ win0_10.index t (1 : Fin 3) = ch 1 t.val ∧ win0_10.index t (2 : Fin 3) = 0 :=
  (by decide +kernel : ∀ t : Fin grid0.N, _)

/-- Window 10's block at a point. -/
theorem blk10 (t : Fin cfg0.N) (r : Fin 64) (l : Fin 1024) :
    (iblk m c 10 t : Vec F S1x64x1024 .bf16) (ix3 0 r l) = (V m c main_v55 : Vec F S2x8704x1024 .bf16) (ix3 1 (tok (ch 1 t.val) (ch_lt _ _ (point_lt t)) r) l) := by
  obtain ⟨e0, e1, e2⟩ := idx10 t
  refine congrArg (V m c main_v55 : Vec F S2x8704x1024 .bf16) (funext fun a => Fin.ext ?_)
  match a with
  | ⟨0, _⟩ => show win0_10.index t (0 : Fin 3) * 1 + 1 * 0 = 1; omega
  | ⟨1, _⟩ => show win0_10.index t (1 : Fin 3) * 64 + 1 * r.val = 64 * ch 1 t.val + r.val; omega
  | ⟨2, _⟩ => show win0_10.index t (2 : Fin 3) * 1024 + 1 * l.val = l.val; omega

theorem idx11 : ∀ t : Fin cfg0.N, win0_11.index t (0 : Fin 3) = 1 ∧ win0_11.index t (1 : Fin 3) = ch 1 t.val ∧ win0_11.index t (2 : Fin 3) = 0 :=
  (by decide +kernel : ∀ t : Fin grid0.N, _)

/-- Window 11's block at a point. -/
theorem blk11 (t : Fin cfg0.N) (r : Fin 64) (l : Fin 1024) :
    (iblk m c 11 t : Vec F S1x64x1024 .bf16) (ix3 0 r l) = (V m c main_v58 : Vec F S2x8704x1024 .bf16) (ix3 1 (tok (ch 1 t.val) (ch_lt _ _ (point_lt t)) r) l) := by
  obtain ⟨e0, e1, e2⟩ := idx11 t
  refine congrArg (V m c main_v58 : Vec F S2x8704x1024 .bf16) (funext fun a => Fin.ext ?_)
  match a with
  | ⟨0, _⟩ => show win0_11.index t (0 : Fin 3) * 1 + 1 * 0 = 1; omega
  | ⟨1, _⟩ => show win0_11.index t (1 : Fin 3) * 64 + 1 * r.val = 64 * ch 1 t.val + r.val; omega
  | ⟨2, _⟩ => show win0_11.index t (2 : Fin 3) * 1024 + 1 * l.val = l.val; omega

theorem idx12 : ∀ t : Fin cfg0.N, win0_12.index t (0 : Fin 3) = 1 ∧ win0_12.index t (1 : Fin 3) = ch 1 t.val ∧ win0_12.index t (2 : Fin 3) = 0 :=
  (by decide +kernel : ∀ t : Fin grid0.N, _)

/-- Window 12's block at a point. -/
theorem blk12 (t : Fin cfg0.N) (r : Fin 64) (l : Fin 1024) :
    (iblk m c 12 t : Vec F S1x64x1024 .bf16) (ix3 0 r l) = (V m c main_v61 : Vec F S2x8704x1024 .bf16) (ix3 1 (tok (ch 1 t.val) (ch_lt _ _ (point_lt t)) r) l) := by
  obtain ⟨e0, e1, e2⟩ := idx12 t
  refine congrArg (V m c main_v61 : Vec F S2x8704x1024 .bf16) (funext fun a => Fin.ext ?_)
  match a with
  | ⟨0, _⟩ => show win0_12.index t (0 : Fin 3) * 1 + 1 * 0 = 1; omega
  | ⟨1, _⟩ => show win0_12.index t (1 : Fin 3) * 64 + 1 * r.val = 64 * ch 1 t.val + r.val; omega
  | ⟨2, _⟩ => show win0_12.index t (2 : Fin 3) * 1024 + 1 * l.val = l.val; omega

theorem idx13 : ∀ t : Fin cfg0.N, win0_13.index t (0 : Fin 3) = 1 ∧ win0_13.index t (1 : Fin 3) = ch 1 t.val ∧ win0_13.index t (2 : Fin 3) = 0 :=
  (by decide +kernel : ∀ t : Fin grid0.N, _)

/-- Window 13's block at a point. -/
theorem blk13 (t : Fin cfg0.N) (r : Fin 64) (l : Fin 1024) :
    (iblk m c 13 t : Vec F S1x64x1024 .bf16) (ix3 0 r l) = (V m c main_v64 : Vec F S2x8704x1024 .bf16) (ix3 1 (tok (ch 1 t.val) (ch_lt _ _ (point_lt t)) r) l) := by
  obtain ⟨e0, e1, e2⟩ := idx13 t
  refine congrArg (V m c main_v64 : Vec F S2x8704x1024 .bf16) (funext fun a => Fin.ext ?_)
  match a with
  | ⟨0, _⟩ => show win0_13.index t (0 : Fin 3) * 1 + 1 * 0 = 1; omega
  | ⟨1, _⟩ => show win0_13.index t (1 : Fin 3) * 64 + 1 * r.val = 64 * ch 1 t.val + r.val; omega
  | ⟨2, _⟩ => show win0_13.index t (2 : Fin 3) * 1024 + 1 * l.val = l.val; omega

theorem idx14 : ∀ t : Fin cfg0.N, win0_14.index t (0 : Fin 2) = ch 1 t.val ∧ win0_14.index t (1 : Fin 2) = 0 :=
  (by decide +kernel : ∀ t : Fin grid0.N, _)

/-- Window 14's block at a point. -/
theorem blk14 (t : Fin cfg0.N) (r : Fin 64) (l : Fin 1024) :
    (iblk m c 14 t : Vec F S64x1024 .bf16) (ix2 r l) = (V m c main_v69 : Vec F S8704x1024 .bf16) (ix2 (tok (ch 1 t.val) (ch_lt _ _ (point_lt t)) r) l) := by
  obtain ⟨e1, e2⟩ := idx14 t
  refine congrArg (V m c main_v69 : Vec F S8704x1024 .bf16) (funext fun a => Fin.ext ?_)
  match a with
  | ⟨0, _⟩ => show win0_14.index t (0 : Fin 2) * 64 + 1 * r.val = 64 * ch 1 t.val + r.val; omega
  | ⟨1, _⟩ => show win0_14.index t (1 : Fin 2) * 1024 + 1 * l.val = l.val; omega

theorem idx15 : ∀ t : Fin cfg0.N, win0_15.index t (0 : Fin 4) = 1 ∧ win0_15.index t (1 : Fin 4) = ch 1 t.val ∧ win0_15.index t (2 : Fin 4) = 0 ∧ win0_15.index t (3 : Fin 4) = 0 :=
  (by decide +kernel : ∀ t : Fin grid0.N, _)

/-- Window 15's block at a point. -/
theorem blk15 (t : Fin cfg0.N) (l : Fin 1024) :
    (iblk m c 15 t : Vec F S1x1x1x1024 .f32) (ix4 0 0 0 l) = (V m c main_v67 : Vec F S2x136x1x1024 .f32) (ix4 1 ⟨ch 1 t.val, ch_lt _ _ (point_lt t)⟩ 0 l) := by
  obtain ⟨e0, e1, e2, e3⟩ := idx15 t
  refine congrArg (V m c main_v67 : Vec F S2x136x1x1024 .f32) (funext fun a => Fin.ext ?_)
  match a with
  | ⟨0, _⟩ => show win0_15.index t (0 : Fin 4) * 1 + 1 * 0 = 1; omega
  | ⟨1, _⟩ => show win0_15.index t (1 : Fin 4) * 1 + 1 * 0 = ch 1 t.val; omega
  | ⟨2, _⟩ => show win0_15.index t (2 : Fin 4) * 1 + 1 * 0 = 0; omega
  | ⟨3, _⟩ => show win0_15.index t (3 : Fin 4) * 1024 + 1 * l.val = l.val; omega

theorem idx16 : ∀ t : Fin cfg0.N, win0_16.index t (0 : Fin 2) = ch 0 t.val ∧ win0_16.index t (1 : Fin 2) = 0 :=
  (by decide +kernel : ∀ t : Fin grid0.N, _)

/-- The result array of direction 0 at a point's block: what the point left. -/
theorem final16 (t : Fin cfg0.N) (r : Fin 64) (l : Fin 1024) :
    ((dats m 0 c).arrAt 16 cfg0.N : Vec F S8704x1024 .f32) (ix2 (tok (ch 0 t.val) (ch_lt _ _ (point_lt t)) r) l)
      = (outsAt0 m c t.val t.isLt).1 (ix2 r l) := by
  obtain ⟨e1, e2⟩ := idx16 t
  have h := congrFun ((Value.blocks16 m c t (flush0_16 t)).trans (Value.flushed16 m c t)) (ix2 r l)
  refine Eq.trans (congrArg ((dats m 0 c).arrAt 16 cfg0.N : Vec F S8704x1024 .f32) (funext fun a => Fin.ext ?_)) (h.trans rfl)
  match a with
  | ⟨0, _⟩ => show 64 * ch 0 t.val + r.val = win0_16.index t (0 : Fin 2) * 64 + 1 * r.val; omega
  | ⟨1, _⟩ => show l.val = win0_16.index t (1 : Fin 2) * 1024 + 1 * l.val; omega

theorem idx17 : ∀ t : Fin cfg0.N, win0_17.index t (0 : Fin 2) = ch 1 t.val ∧ win0_17.index t (1 : Fin 2) = 0 :=
  (by decide +kernel : ∀ t : Fin grid0.N, _)

/-- The result array of direction 1 at a point's block: what the point left. -/
theorem final17 (t : Fin cfg0.N) (r : Fin 64) (l : Fin 1024) :
    ((dats m 0 c).arrAt 17 cfg0.N : Vec F S8704x1024 .f32) (ix2 (tok (ch 1 t.val) (ch_lt _ _ (point_lt t)) r) l)
      = (outsAt0 m c t.val t.isLt).2.1 (ix2 r l) := by
  obtain ⟨e1, e2⟩ := idx17 t
  have h := congrFun ((Value.blocks17 m c t (flush0_17 t)).trans (Value.flushed17 m c t)) (ix2 r l)
  refine Eq.trans (congrArg ((dats m 0 c).arrAt 17 cfg0.N : Vec F S8704x1024 .f32) (funext fun a => Fin.ext ?_)) (h.trans rfl)
  match a with
  | ⟨0, _⟩ => show 64 * ch 1 t.val + r.val = win0_17.index t (0 : Fin 2) * 64 + 1 * r.val; omega
  | ⟨1, _⟩ => show l.val = win0_17.index t (1 : Fin 2) * 1024 + 1 * l.val; omega

end AnyFloat

end Cert.KernelIdeal.Chain
-- ==== Proof.Fold.lean ====
/- The kernel's real chain folded: what a point leaves in the carried state and in its output blocks, for arrays that hold
   real numbers. -/
module

public import proofs.«01_k».proof.Proof.Points
public import proofs.«01_k».proof.Proof.Pieces
public import proofs.«01_k».proof.Proof.Gen.KernelIdeal.Value

@[expose] public section

set_option maxRecDepth 16384

noncomputable section

namespace Cert.KernelIdeal.Chain

open Idealize.ShloMosaic Idealize.ShloMosaic.TcCoe Idealize.SL.Sem
open Cert.KernelIdeal Cert.KernelIdeal.Gen
open DeltaRule (Mat strictPart lowerPart chunkX chunkU chunkY chunkS dbl)

variable (m : (ℓ : Loc nD τ sig) → Buf (Elt Idealize.ShloMosaic.Ideal) ℓ) (c : Dev nD)

/-- A chunk's factors, as real matrices per direction, chunk, pair and head. -/
structure Factors where
  AH : Fin 2 → ℕ → Fin 8 → Fin 2 → Mat
  RH : Fin 2 → ℕ → Fin 8 → Fin 2 → Mat
  BH : Fin 2 → ℕ → Fin 8 → Fin 2 → Mat
  KH : Fin 2 → ℕ → Fin 8 → Fin 2 → Mat
  BT : Fin 2 → ℕ → Fin 8 → Fin 2 → Mat
  KT : Fin 2 → ℕ → Fin 8 → Fin 2 → Mat
  V : ℕ → Fin 8 → Fin 2 → Mat
  PT : Fin 2 → ℕ → Fin 8 → Fin 2 → Fin 64 → ℝ

/-- The arrays the kernel is called on hold the factors. -/
structure Holds (f : Factors) : Prop where
  ah : ∀ d p (hp : p < 136) q h r j, (Gen.V m c main_v47 : S2x8704x1024.Idx → EReal) (ix3 d (tok p hp r) (lane q (lane2 h j))) = ((f.AH d p q h r j : ℝ) : EReal)
  rh : ∀ d p (hp : p < 136) q h r j, (Gen.V m c main_v52 : S2x8704x1024.Idx → EReal) (ix3 d (tok p hp r) (lane q (lane2 h j))) = ((f.RH d p q h r j : ℝ) : EReal)
  bh : ∀ d p (hp : p < 136) q h r j, (Gen.V m c main_v55 : S2x8704x1024.Idx → EReal) (ix3 d (tok p hp r) (lane q (lane2 h j))) = ((f.BH d p q h r j : ℝ) : EReal)
  kh : ∀ d p (hp : p < 136) q h r j, (Gen.V m c main_v58 : S2x8704x1024.Idx → EReal) (ix3 d (tok p hp r) (lane q (lane2 h j))) = ((f.KH d p q h r j : ℝ) : EReal)
  bt : ∀ d p (hp : p < 136) q h r j, (Gen.V m c main_v61 : S2x8704x1024.Idx → EReal) (ix3 d (tok p hp r) (lane q (lane2 h j))) = ((f.BT d p q h r j : ℝ) : EReal)
  kt : ∀ d p (hp : p < 136) q h r j, (Gen.V m c main_v64 : S2x8704x1024.Idx → EReal) (ix3 d (tok p hp r) (lane q (lane2 h j))) = ((f.KT d p q h r j : ℝ) : EReal)
  v : ∀ p (hp : p < 136) q h r j, (Gen.V m c main_v69 : S8704x1024.Idx → EReal) (ix2 (tok p hp r) (lane q (lane2 h j))) = ((f.V p q h r j : ℝ) : EReal)
  pt : ∀ d p (hp : p < 136) q h j, (Gen.V m c main_v67 : S2x136x1x1024.Idx → EReal) (ix4 d ⟨p, hp⟩ 0 (lane q (lane2 h j))) = ((f.PT d p q h j : ℝ) : EReal)

/-- The order of a chunk's tokens in direction `d`. -/
def pos (d : Fin 2) (r : Fin 64) : Fin 64 := if d = 0 then r else Fin.rev r

/-- The state a point leaves over the state it starts from. -/
def nextState (f : Factors) (d : Fin 2) (q : Fin 8) (h : Fin 2) (t : ℕ) (S : Mat) : Mat :=
  chunkS (pos d) (f.AH d (ch d t) q h) (f.BH d (ch d t) q h) (f.KH d (ch d t) q h) (f.V (ch d t) q h) (f.BT d (ch d t) q h)
    (f.KT d (ch d t) q h) (f.PT d (ch d t) q h) S

/-- The state point `t` starts from. -/
def before (f : Factors) (d : Fin 2) (q : Fin 8) (h : Fin 2) : ℕ → Mat
  | 0 => 0
  | t + 1 => if (t + 1) % 68 = 0 then 0 else nextState f d q h t (before f d q h t)

/-- The outputs of point `t`. -/
def pointY (f : Factors) (d : Fin 2) (q : Fin 8) (h : Fin 2) (t : ℕ) : Mat :=
  chunkY (pos d) (f.AH d (ch d t) q h) (f.RH d (ch d t) q h) (f.BH d (ch d t) q h) (f.KH d (ch d t) q h) (f.V (ch d t) q h)
    (before f d q h t)

/-- A carried state holds real matrices, head by head and zero off the heads. -/
def IsState (s : S2x8x128x128.Idx → EReal) (S : Fin 2 → Fin 8 → Fin 2 → Mat) : Prop :=
  ∀ d q, Is22 (stBlk (F := Idealize.ShloMosaic.Ideal) s d q) (fun g h => if g = h then S d q h else 0)

theorem tri_fwd : IsTri k0_pay5 (pos 0) := fun g r h j => fwd_apply g r h j
theorem tri_bwd : IsTri k0_pay6 (pos 1) := fun g r h j => bwd_apply g r h j

variable {m c} {f : Factors}

/-- Direction 0's outputs at a point, over a real state. -/
theorem point_y0 (H : Holds m c f) (t : Fin cfg0.N) {s : S2x8x128x128.Idx → EReal} {S : Fin 2 → Fin 8 → Fin 2 → Mat} (hs : IsState s S)
    (q : Fin 8) (h : Fin 2) (r j : Fin 64) :
    (pointOuts m c t s).1 (ix2 r (lane q (lane2 h j)))
      = ((chunkY (pos 0) (f.AH 0 (ch 0 t.val) q h) (f.RH 0 (ch 0 t.val) q h) (f.BH 0 (ch 0 t.val) q h) (f.KH 0 (ch 0 t.val) q h)
          (f.V (ch 0 t.val) q h) (S 0 q h) r j : ℝ) : EReal) := by
  have e := IsB.chainY tri_fwd (show IsB (laneBlk (F := Idealize.ShloMosaic.Ideal) (iblk m c 0 t) q) (f.AH 0 (ch 0 t.val) q) from fun r h j => (blk0 m c t r (lane q (lane2 h j))).trans (H.ah 0 _ (ch_lt _ _ (point_lt t)) q h r j)) (show IsB (laneBlk (F := Idealize.ShloMosaic.Ideal) (iblk m c 1 t) q) (f.RH 0 (ch 0 t.val) q) from fun r h j => (blk1 m c t r (lane q (lane2 h j))).trans (H.rh 0 _ (ch_lt _ _ (point_lt t)) q h r j)) (show IsB (laneBlk (F := Idealize.ShloMosaic.Ideal) (iblk m c 2 t) q) (f.BH 0 (ch 0 t.val) q) from fun r h j => (blk2 m c t r (lane q (lane2 h j))).trans (H.bh 0 _ (ch_lt _ _ (point_lt t)) q h r j)) (show IsB (laneBlk (F := Idealize.ShloMosaic.Ideal) (iblk m c 3 t) q) (f.KH 0 (ch 0 t.val) q) from fun r h j => (blk3 m c t r (lane q (lane2 h j))).trans (H.kh 0 _ (ch_lt _ _ (point_lt t)) q h r j)) (show IsB (rowBlk (F := Idealize.ShloMosaic.Ideal) (iblk m c 6 t) q) (f.V (ch 0 t.val) q) from fun r h j => (blk6 m c t r (lane q (lane2 h j))).trans (H.v _ (ch_lt _ _ (point_lt t)) q h r j)) (hs 0 q) r h j
  exact (outPoint_lane _ _ _ _ _ _ _ _ _ _ _).trans e

/-- Direction 0's state after a point, over a real state. -/
theorem point_s0 (H : Holds m c f) (t : Fin cfg0.N) {s : S2x8x128x128.Idx → EReal} {S : Fin 2 → Fin 8 → Fin 2 → Mat} (hs : IsState s S)
    (q : Fin 8) : Is22 (stBlk (F := Idealize.ShloMosaic.Ideal) (pointOuts m c t s).2.2 0 q) (fun g h => if g = h then nextState f 0 q h t.val (S 0 q h) else 0) := by
  have e := Is22.chainS tri_fwd (show IsB (laneBlk (F := Idealize.ShloMosaic.Ideal) (iblk m c 0 t) q) (f.AH 0 (ch 0 t.val) q) from fun r h j => (blk0 m c t r (lane q (lane2 h j))).trans (H.ah 0 _ (ch_lt _ _ (point_lt t)) q h r j)) (show IsB (laneBlk (F := Idealize.ShloMosaic.Ideal) (iblk m c 1 t) q) (f.RH 0 (ch 0 t.val) q) from fun r h j => (blk1 m c t r (lane q (lane2 h j))).trans (H.rh 0 _ (ch_lt _ _ (point_lt t)) q h r j)) (show IsB (laneBlk (F := Idealize.ShloMosaic.Ideal) (iblk m c 2 t) q) (f.BH 0 (ch 0 t.val) q) from fun r h j => (blk2 m c t r (lane q (lane2 h j))).trans (H.bh 0 _ (ch_lt _ _ (point_lt t)) q h r j)) (show IsB (laneBlk (F := Idealize.ShloMosaic.Ideal) (iblk m c 3 t) q) (f.KH 0 (ch 0 t.val) q) from fun r h j => (blk3 m c t r (lane q (lane2 h j))).trans (H.kh 0 _ (ch_lt _ _ (point_lt t)) q h r j)) (show IsB (rowBlk (F := Idealize.ShloMosaic.Ideal) (iblk m c 6 t) q) (f.V (ch 0 t.val) q) from fun r h j => (blk6 m c t r (lane q (lane2 h j))).trans (H.v _ (ch_lt _ _ (point_lt t)) q h r j))
    (show IsB (laneBlk (F := Idealize.ShloMosaic.Ideal) (iblk m c 4 t) q) (f.BT 0 (ch 0 t.val) q) from fun r h j => (blk4 m c t r (lane q (lane2 h j))).trans (H.bt 0 _ (ch_lt _ _ (point_lt t)) q h r j)) (show IsB (laneBlk (F := Idealize.ShloMosaic.Ideal) (iblk m c 5 t) q) (f.KT 0 (ch 0 t.val) q) from fun r h j => (blk5 m c t r (lane q (lane2 h j))).trans (H.kt 0 _ (ch_lt _ _ (point_lt t)) q h r j)) (pt := ptBlk (F := Idealize.ShloMosaic.Ideal) (iblk m c 7 t) q) (PT := f.PT 0 (ch 0 t.val) q) (fun h j => (blk7 m c t (lane q (lane2 h j))).trans (H.pt 0 _ (ch_lt _ _ (point_lt t)) q h j)) (hs 0 q)
  exact fun g r h j => e g r h j

/-- Direction 1's outputs at a point, over a real state. -/
theorem point_y1 (H : Holds m c f) (t : Fin cfg0.N) {s : S2x8x128x128.Idx → EReal} {S : Fin 2 → Fin 8 → Fin 2 → Mat} (hs : IsState s S)
    (q : Fin 8) (h : Fin 2) (r j : Fin 64) :
    (pointOuts m c t s).2.1 (ix2 r (lane q (lane2 h j)))
      = ((chunkY (pos 1) (f.AH 1 (ch 1 t.val) q h) (f.RH 1 (ch 1 t.val) q h) (f.BH 1 (ch 1 t.val) q h) (f.KH 1 (ch 1 t.val) q h)
          (f.V (ch 1 t.val) q h) (S 1 q h) r j : ℝ) : EReal) := by
  have e := IsB.chainY tri_bwd (show IsB (laneBlk (F := Idealize.ShloMosaic.Ideal) (iblk m c 8 t) q) (f.AH 1 (ch 1 t.val) q) from fun r h j => (blk8 m c t r (lane q (lane2 h j))).trans (H.ah 1 _ (ch_lt _ _ (point_lt t)) q h r j)) (show IsB (laneBlk (F := Idealize.ShloMosaic.Ideal) (iblk m c 9 t) q) (f.RH 1 (ch 1 t.val) q) from fun r h j => (blk9 m c t r (lane q (lane2 h j))).trans (H.rh 1 _ (ch_lt _ _ (point_lt t)) q h r j)) (show IsB (laneBlk (F := Idealize.ShloMosaic.Ideal) (iblk m c 10 t) q) (f.BH 1 (ch 1 t.val) q) from fun r h j => (blk10 m c t r (lane q (lane2 h j))).trans (H.bh 1 _ (ch_lt _ _ (point_lt t)) q h r j)) (show IsB (laneBlk (F := Idealize.ShloMosaic.Ideal) (iblk m c 11 t) q) (f.KH 1 (ch 1 t.val) q) from fun r h j => (blk11 m c t r (lane q (lane2 h j))).trans (H.kh 1 _ (ch_lt _ _ (point_lt t)) q h r j)) (show IsB (rowBlk (F := Idealize.ShloMosaic.Ideal) (iblk m c 14 t) q) (f.V (ch 1 t.val) q) from fun r h j => (blk14 m c t r (lane q (lane2 h j))).trans (H.v _ (ch_lt _ _ (point_lt t)) q h r j)) (hs 1 q) r h j
  exact (outPoint_lane _ _ _ _ _ _ _ _ _ _ _).trans e

/-- Direction 1's state after a point, over a real state. -/
theorem point_s1 (H : Holds m c f) (t : Fin cfg0.N) {s : S2x8x128x128.Idx → EReal} {S : Fin 2 → Fin 8 → Fin 2 → Mat} (hs : IsState s S)
    (q : Fin 8) : Is22 (stBlk (F := Idealize.ShloMosaic.Ideal) (pointOuts m c t s).2.2 1 q) (fun g h => if g = h then nextState f 1 q h t.val (S 1 q h) else 0) := by
  have e := Is22.chainS tri_bwd (show IsB (laneBlk (F := Idealize.ShloMosaic.Ideal) (iblk m c 8 t) q) (f.AH 1 (ch 1 t.val) q) from fun r h j => (blk8 m c t r (lane q (lane2 h j))).trans (H.ah 1 _ (ch_lt _ _ (point_lt t)) q h r j)) (show IsB (laneBlk (F := Idealize.ShloMosaic.Ideal) (iblk m c 9 t) q) (f.RH 1 (ch 1 t.val) q) from fun r h j => (blk9 m c t r (lane q (lane2 h j))).trans (H.rh 1 _ (ch_lt _ _ (point_lt t)) q h r j)) (show IsB (laneBlk (F := Idealize.ShloMosaic.Ideal) (iblk m c 10 t) q) (f.BH 1 (ch 1 t.val) q) from fun r h j => (blk10 m c t r (lane q (lane2 h j))).trans (H.bh 1 _ (ch_lt _ _ (point_lt t)) q h r j)) (show IsB (laneBlk (F := Idealize.ShloMosaic.Ideal) (iblk m c 11 t) q) (f.KH 1 (ch 1 t.val) q) from fun r h j => (blk11 m c t r (lane q (lane2 h j))).trans (H.kh 1 _ (ch_lt _ _ (point_lt t)) q h r j)) (show IsB (rowBlk (F := Idealize.ShloMosaic.Ideal) (iblk m c 14 t) q) (f.V (ch 1 t.val) q) from fun r h j => (blk14 m c t r (lane q (lane2 h j))).trans (H.v _ (ch_lt _ _ (point_lt t)) q h r j))
    (show IsB (laneBlk (F := Idealize.ShloMosaic.Ideal) (iblk m c 12 t) q) (f.BT 1 (ch 1 t.val) q) from fun r h j => (blk12 m c t r (lane q (lane2 h j))).trans (H.bt 1 _ (ch_lt _ _ (point_lt t)) q h r j)) (show IsB (laneBlk (F := Idealize.ShloMosaic.Ideal) (iblk m c 13 t) q) (f.KT 1 (ch 1 t.val) q) from fun r h j => (blk13 m c t r (lane q (lane2 h j))).trans (H.kt 1 _ (ch_lt _ _ (point_lt t)) q h r j)) (pt := ptBlk (F := Idealize.ShloMosaic.Ideal) (iblk m c 15 t) q) (PT := f.PT 1 (ch 1 t.val) q) (fun h j => (blk15 m c t (lane q (lane2 h j))).trans (H.pt 1 _ (ch_lt _ _ (point_lt t)) q h j)) (hs 1 q)
  exact fun g r h j => e g r h j

/-- The state after a point. -/
theorem point_state (H : Holds m c f) (t : Fin cfg0.N) {s : S2x8x128x128.Idx → EReal} {S : Fin 2 → Fin 8 → Fin 2 → Mat} (hs : IsState s S) :
    IsState (pointOuts m c t s).2.2 (fun d q h => nextState f d q h t.val (S d q h)) := fun d q =>
  match d with
  | ⟨0, _⟩ => point_s0 H t hs q
  | ⟨1, _⟩ => point_s1 H t hs q

/-- The zero state. -/
theorem zero_state : IsState (k0_pay3 (F := Idealize.ShloMosaic.Ideal)) (fun _ _ _ => 0) := fun d q g r h j => by
  show Idealize.ShloMosaic.Ideal.ofBits .f32 0x00000000#32 = _
  rw [Ideal.ofBits_zero]; simp

/-- What every point leaves, over the real state it starts from. -/
theorem outs_eq (H : Holds m c f) (t : ℕ) : ∀ (ht : t < cfg0.N),
    ∃ s, outsAt0 m c t ht = pointOuts m c ⟨t, ht⟩ s ∧ IsState s (fun d q h => before f d q h t) := by
  induction t with
  | zero =>
    intro ht
    refine ⟨k0_pay3 (F := Idealize.ShloMosaic.Ideal), ?_, ?_⟩
    · exact outs_first_at m c 0 ht (Nat.zero_mod 68)
    · simp only [before]
      exact zero_state
  | succ t ih =>
    intro ht
    obtain ⟨s, e, hs⟩ := ih (Nat.lt_of_succ_lt ht)
    by_cases h0 : (t + 1) % 68 = 0
    · refine ⟨k0_pay3 (F := Idealize.ShloMosaic.Ideal), outs_first_at m c (t + 1) ht h0, ?_⟩
      simp only [before, if_pos h0]
      exact zero_state
    · refine ⟨_, outs_next_at m c t ht h0, ?_⟩
      simp only [before, if_neg h0]
      rw [e]
      exact point_state H ⟨t, Nat.lt_of_succ_lt ht⟩ hs

/-- The result array of direction 0, token by token. -/
theorem result0 (H : Holds m c f) (t : ℕ) (ht : t < 136) (q : Fin 8) (h : Fin 2) (r j : Fin 64) :
    ((dats m 0 c).arrAt 16 cfg0.N : S8704x1024.Idx → EReal) (ix2 (tok (ch 0 t) (ch_lt _ _ ht) r) (lane q (lane2 h j)))
      = ((pointY f 0 q h t r j : ℝ) : EReal) := by
  have ht' : t < cfg0.N := (by decide : cfg0.N = 136) ▸ ht
  obtain ⟨s, e, hs⟩ := outs_eq H t ht'
  refine (final16 m c ⟨t, ht'⟩ r (lane q (lane2 h j))).trans ?_
  show (outsAt0 m c t ht').1 _ = _
  rw [e]
  exact point_y0 H ⟨t, ht'⟩ hs q h r j

/-- The result array of direction 1, token by token. -/
theorem result1 (H : Holds m c f) (t : ℕ) (ht : t < 136) (q : Fin 8) (h : Fin 2) (r j : Fin 64) :
    ((dats m 0 c).arrAt 17 cfg0.N : S8704x1024.Idx → EReal) (ix2 (tok (ch 1 t) (ch_lt _ _ ht) r) (lane q (lane2 h j)))
      = ((pointY f 1 q h t r j : ℝ) : EReal) := by
  have ht' : t < cfg0.N := (by decide : cfg0.N = 136) ▸ ht
  obtain ⟨s, e, hs⟩ := outs_eq H t ht'
  refine (final17 m c ⟨t, ht'⟩ r (lane q (lane2 h j))).trans ?_
  show (outsAt0 m c t ht').2.1 _ = _
  rw [e]
  exact point_y1 H ⟨t, ht'⟩ hs q h r j

end Cert.KernelIdeal.Chain
-- ==== Proof.Recurrence.lean ====
/- The delta-rule scan over real numbers, as both programs' arguments give it: per direction, sequence and head, the state
   after each token and the token's output. -/
module

public import proofs.«01_k».proof.Proof.ChunkReal
public import Idealize.ShloMosaic.PureOps.Ideal
public import Idealize.ShloMosaic.Lib.Pointwise
public import Mathlib.Tactic.NormNum
public import Mathlib.Data.EReal.Operations

@[expose] public section

noncomputable section

namespace DeltaRule

open Idealize.ShloMosaic

/-- The arguments as real numbers, a token of the two sequences laid end to end, a head as its pair and its place there. -/
structure Args where
  r : ℕ → Fin 8 → Fin 2 → Fin 64 → ℝ
  v : ℕ → Fin 8 → Fin 2 → Fin 64 → ℝ
  kk : ℕ → Fin 8 → Fin 2 → Fin 64 → ℝ
  lw : Fin 2 → ℕ → Fin 8 → Fin 2 → Fin 64 → ℝ
  a : Fin 2 → ℕ → Fin 8 → Fin 2 → Fin 64 → ℝ
  kd : Fin 2 → ℕ → Fin 8 → Fin 2 → Fin 64 → ℝ

/-- The constant both programs multiply an exponent of two by: what its float word denotes. -/
def ln2 : ℝ := (Idealize.ShloMosaic.Ideal.ofBits .f32 1060205080#32 : EReal).toReal

/-- That constant is a real number. -/
theorem ofBits_ln2 : (Idealize.ShloMosaic.Ideal.ofBits .f32 1060205080#32 : EReal) = (ln2 : EReal) := by
  refine (EReal.coe_toReal ?_ ?_).symm <;>
  · simp [Idealize.ShloMosaic.Ideal.ofBits, Idealize.ShloMosaic.Ideal.ieee, -EReal.coe_mul]

/-- Token `T`, head `2 q + h`, place `j` of an argument with no axis of directions. -/
def at4 (T : ℕ) (hT : T < 8704) (q : Fin 8) (h : Fin 2) (j : Fin 64) : (⟨4, ![2, 4352, 16, 64]⟩ : Shape).Idx :=
  ix4 ⟨T / 4352, by omega⟩ ⟨T % 4352, by omega⟩ ⟨2 * q.val + h.val, by omega⟩ j

/-- The same of an argument with an axis of directions. -/
def at5 (d : Fin 2) (T : ℕ) (hT : T < 8704) (q : Fin 8) (h : Fin 2) (j : Fin 64) : (⟨5, ![2, 2, 4352, 16, 64]⟩ : Shape).Idx :=
  ix5 d ⟨T / 4352, by omega⟩ ⟨T % 4352, by omega⟩ ⟨2 * q.val + h.val, by omega⟩ j

/-- Argument arrays that hold the real arguments. -/
structure Reads (A : Args) (x0 x1 x2 : (⟨4, ![2, 4352, 16, 64]⟩ : Shape).Idx → EReal)
    (x3 x4 x5 : (⟨5, ![2, 2, 4352, 16, 64]⟩ : Shape).Idx → EReal) : Prop where
  r : ∀ T hT q h j, x0 (at4 T hT q h j) = ((A.r T q h j : ℝ) : EReal)
  v : ∀ T hT q h j, x1 (at4 T hT q h j) = ((A.v T q h j : ℝ) : EReal)
  kk : ∀ T hT q h j, x2 (at4 T hT q h j) = ((A.kk T q h j : ℝ) : EReal)
  lw : ∀ d T hT q h j, x3 (at5 d T hT q h j) = ((A.lw d T q h j : ℝ) : EReal)
  a : ∀ d T hT q h j, x4 (at5 d T hT q h j) = ((A.a d T q h j : ℝ) : EReal)
  kd : ∀ d T hT q h j, x5 (at5 d T hT q h j) = ((A.kd d T q h j : ℝ) : EReal)

/-- The token that direction `d` reads at time `τ` of sequence `b`: in order, or the context backwards and then the latents
    backwards. -/
def tokAt (d : Fin 2) (b τ : ℕ) : ℕ := 4352 * b + (if d = 0 then τ else if τ < 256 then 255 - τ else 4607 - τ)

theorem tokAt_lt (d : Fin 2) (b τ : ℕ) (hb : b < 2) (hτ : τ < 4352) : tokAt d b τ < 8704 := by
  unfold tokAt; split_ifs <;> omega

/-- Every token of a sequence is read at some time. -/
theorem exists_time (d : Fin 2) (T : ℕ) (hT : T < 8704) : ∃ b τ, b < 2 ∧ τ < 4352 ∧ tokAt d b τ = T := by
  refine ⟨T / 4352, if d = 0 then T % 4352 else if T % 4352 < 256 then 255 - T % 4352 else 4607 - T % 4352, by omega, ?_, ?_⟩
  · split_ifs <;> omega
  · unfold tokAt; split_ifs <;> omega

variable (A : Args) (d : Fin 2) (b : ℕ) (q : Fin 8) (h : Fin 2)

/-- The decays, in reading order. -/
def wSeq (τ : ℕ) : Fin 64 → ℝ := fun j => Real.exp (ln2 * A.lw d (tokAt d b τ) q h j)
/-- The keys. -/
def kSeq (τ : ℕ) : Fin 64 → ℝ := A.kd d (tokAt d b τ) q h
/-- The values. -/
def vSeq (τ : ℕ) : Fin 64 → ℝ := A.v (tokAt d b τ) q h
/-- The keys to remove. -/
def aSeq (τ : ℕ) : Fin 64 → ℝ := fun j => -A.kk (tokAt d b τ) q h j
/-- What replaces them. -/
def bSeq (τ : ℕ) : Fin 64 → ℝ := fun j => A.kk (tokAt d b τ) q h j * A.a d (tokAt d b τ) q h j
/-- The receptances. -/
def rSeq (τ : ℕ) : Fin 64 → ℝ := A.r (tokAt d b τ) q h

/-- The state after `n` tokens. -/
def stateAt (n : ℕ) : Mat := seqState (wSeq A d b q h) (kSeq A d b q h) (vSeq A d b q h) (aSeq A d b q h) (bSeq A d b q h) 0 n

/-- The output of the token read at time `τ`. -/
def outAt (τ : ℕ) (i : Fin 64) : ℝ := ∑ j, stateAt A d b q h (τ + 1) i j * rSeq A d b q h τ j

end DeltaRule
-- ==== Proof.Scan.lean ====
/- The kernel's chunked outputs over real arguments are the sequential scan's. -/
module

public import proofs.«01_k».proof.Proof.Fold
public import proofs.«01_k».proof.Proof.Recurrence
public import Mathlib.Tactic.Ring

@[expose] public section

noncomputable section

namespace Cert.KernelIdeal.Chain

open DeltaRule Finset

/-- Which token of a chunk direction `d` reads at step `n`. -/
def posN (d : Fin 2) (n : ℕ) : ℕ := if d = 0 then n else 63 - n

/-- The decays' exponents of a chunk summed over its first `n` steps. -/
def cum (A : Args) (d : Fin 2) (p : ℕ) (q : Fin 8) (h : Fin 2) (n : ℕ) (j : Fin 64) : ℝ :=
  ∑ m ∈ range n, A.lw d (64 * p + posN d m) q h j

/-- The decay over an exponent of two. -/
def decay (x : ℝ) : ℝ := Real.exp (ln2 * x)

theorem decay_zero : decay 0 = 1 := by unfold decay; rw [mul_zero, Real.exp_zero]
theorem decay_add (x y : ℝ) : decay (x + y) = decay x * decay y := by unfold decay; rw [mul_add, Real.exp_add]
theorem decay_neg (x : ℝ) : decay (-x) * decay x = 1 := by rw [← decay_add, neg_add_cancel, decay_zero]
theorem decay_sub (x y : ℝ) : decay (x - y) = decay (-y) * decay x := by rw [← decay_add]; congr 1; ring

/-- The factors the kernel is called on, over real arguments. -/
def factors (A : Args) : Factors where
  AH d p q h r j := -A.kk (64 * p + r.val) q h j * decay (cum A d p q h (posN d r.val) j)
  RH d p q h r j := A.r (64 * p + r.val) q h j * decay (cum A d p q h (posN d r.val + 1) j)
  BH d p q h r j := A.kk (64 * p + r.val) q h j * A.a d (64 * p + r.val) q h j * decay (-cum A d p q h (posN d r.val + 1) j)
  KH d p q h r j := A.kd d (64 * p + r.val) q h j * decay (-cum A d p q h (posN d r.val + 1) j)
  BT d p q h r j := A.kk (64 * p + r.val) q h j * A.a d (64 * p + r.val) q h j
    * decay (cum A d p q h 64 j - cum A d p q h (posN d r.val + 1) j)
  KT d p q h r j := A.kd d (64 * p + r.val) q h j * decay (cum A d p q h 64 j - cum A d p q h (posN d r.val + 1) j)
  V p q h r j := A.v (64 * p + r.val) q h j
  PT d p q h j := decay (cum A d p q h 64 j)

theorem pos_pos (d : Fin 2) (r : Fin 64) : pos d (pos d r) = r := by
  unfold pos; split_ifs
  · rfl
  · exact Fin.rev_rev r

theorem pos_val (d : Fin 2) (r : Fin 64) : (pos d r).val = posN d r.val := by
  unfold pos posN; split_ifs
  · rfl
  · rw [Fin.val_rev]; omega

theorem posN_posN (d : Fin 2) (n : ℕ) (hn : n < 64) : posN d (posN d n) = n := by
  unfold posN; split_ifs
  · rfl
  · omega

/-- The tokens of a point's chunk are 64 steps of the direction's reading order. -/
theorem tokAt_chunk (d : Fin 2) (b n x : ℕ) (hn : n < 68) (hx : x < 64) :
    64 * ch d (68 * b + n) + posN d x = tokAt d b (64 * n + x) := by
  unfold ch posN tokAt
  have e1 : (68 * b + n) / 68 = b := by omega
  have e2 : (68 * b + n) % 68 = n := by omega
  rw [e1, e2]
  split_ifs <;> omega

variable (A : Args) (d : Fin 2) (q : Fin 8) (h : Fin 2)

/-- A point's chunk holds 64 steps of the scan. -/
theorem isChunk (b n : ℕ) (hn : n < 68) :
    IsChunk (pos d) (fun x => wSeq A d b q h (64 * n + x)) (fun x => kSeq A d b q h (64 * n + x)) (fun x => vSeq A d b q h (64 * n + x))
      (fun x => aSeq A d b q h (64 * n + x)) (fun x => bSeq A d b q h (64 * n + x)) (fun x => rSeq A d b q h (64 * n + x))
      (fun x j => decay (cum A d (ch d (68 * b + n)) q h x j))
      ((factors A).AH d (ch d (68 * b + n)) q h) ((factors A).RH d (ch d (68 * b + n)) q h) ((factors A).BH d (ch d (68 * b + n)) q h)
      ((factors A).KH d (ch d (68 * b + n)) q h) ((factors A).V (ch d (68 * b + n)) q h) ((factors A).BT d (ch d (68 * b + n)) q h)
      ((factors A).KT d (ch d (68 * b + n)) q h) ((factors A).PT d (ch d (68 * b + n)) q h) where
  inv := pos_pos d
  q0 j := by show decay (∑ m ∈ range 0, _) = 1; rw [sum_range_zero, decay_zero]
  qs x j := by
    show decay (∑ m ∈ range (x.val + 1), _) = decay (∑ m ∈ range x.val, _) * _
    rw [sum_range_succ, decay_add, tokAt_chunk d b n x.val hn x.isLt]; rfl
  ah x j := by
    dsimp only [factors]
    rw [pos_val, posN_posN d _ x.isLt, tokAt_chunk d b n x.val hn x.isLt]; rfl
  rh x j := by
    dsimp only [factors]
    rw [pos_val, posN_posN d _ x.isLt, tokAt_chunk d b n x.val hn x.isLt]; rfl
  bh x j := by
    dsimp only [factors]
    rw [pos_val, posN_posN d _ x.isLt, tokAt_chunk d b n x.val hn x.isLt, mul_assoc, decay_neg, mul_one]; rfl
  kh x j := by
    dsimp only [factors]
    rw [pos_val, posN_posN d _ x.isLt, tokAt_chunk d b n x.val hn x.isLt, mul_assoc, decay_neg, mul_one]; rfl
  hv x j := by
    dsimp only [factors]
    rw [pos_val, tokAt_chunk d b n x.val hn x.isLt]; rfl
  bt x j := by dsimp only [factors]; rw [decay_sub]; ring
  kt x j := by dsimp only [factors]; rw [decay_sub]; ring
  pt j := rfl

/-- A point starts from the scan's state. -/
theorem before_eq (b : ℕ) (hb : b < 2) (n : ℕ) (hn : n < 68) :
    before (factors A) d q h (68 * b + n) = stateAt A d b q h (64 * n) := by
  induction n with
  | zero =>
    have h0 : stateAt A d b q h (64 * 0) = 0 := rfl
    rw [h0]
    match b with
    | 0 => rfl
    | b + 1 =>
      show before (factors A) d q h (68 * b + 67 + 1) = 0
      rw [before]
      exact if_pos (by omega)
  | succ n ih =>
    show before (factors A) d q h (68 * b + n + 1) = _
    rw [before, if_neg (by omega), ih (by omega)]
    refine (chunk_state (isChunk A d q h b n (by omega))).trans ?_
    show _ = seqState _ _ _ _ _ _ (64 * n + 64)
    rw [seqState_add]; rfl

/-- A point's outputs are the scan's. -/
theorem pointY_eq (b n : ℕ) (hb : b < 2) (hn : n < 68) (x i : Fin 64) :
    pointY (factors A) d q h (68 * b + n) (pos d x) i = outAt A d b q h (64 * n + x.val) i := by
  unfold pointY
  rw [before_eq A d q h b hb n hn]
  refine (chunk_out (isChunk A d q h b n hn) x i).trans ?_
  unfold outAt
  refine (sum_congr rfl fun j _ => ?_).symm
  exact congrArg (· * _) (congrFun (congrFun (seqState_add _ _ _ _ _ _ (64 * n) (x.val + 1)) i) j)

end Cert.KernelIdeal.Chain
-- ==== Proof.Window.lean ====
/- The host's windowed sums along a chunk, forwards and backwards, over real numbers. -/
module

public import proofs.«01_k».proof.Proof.Fold
public import proofs.«01_k».proof.Proof.Scan
public import Mathlib.Algebra.BigOperators.Fin

@[expose] public section

set_option maxRecDepth 16384

noncomputable section

namespace Cert.KernelIdeal.Chain

open Idealize.ShloMosaic Idealize.ShloMosaic.TcCoe Idealize.SL.Sem
open Cert.KernelIdeal Cert.KernelIdeal.Gen
open Finset

/-- A list folded by adding is its sum over the start. -/
theorem foldl_add {ι : Type} (g : ι → EReal) (l : List ι) (v : EReal) : l.foldl (fun r n => r + g n) v = v + (l.map g).sum := by
  induction l generalizing v with
  | nil => rw [List.foldl_nil, List.map_nil, List.sum_nil, add_zero]
  | cons a l ih => rw [List.foldl_cons, ih, List.map_cons, List.sum_cons, add_assoc]

/-- The window of 64 along the chunk. -/
abbrev Win : Shape := ⟨3, ![1, 64, 1]⟩

/-- A place of the window is its middle coordinate. -/
def winEquiv : Win.Idx ≃ Fin 64 where
  toFun k := k 1
  invFun w := ix3 (0 : Fin 1) w (0 : Fin 1)
  left_inv k := funext fun a => by
    match a with
    | ⟨0, _⟩ => exact Subsingleton.elim (α := Fin 1) _ _
    | ⟨1, _⟩ => rfl
    | ⟨2, _⟩ => exact Subsingleton.elim (α := Fin 1) _ _
  right_inv _ := rfl

/-- A fold over the window in row-major order is a sum over its 64 places. -/
theorem fold_win (G : Win.Idx → EReal) (v : EReal) :
    (List.finRange Win.numel).foldl (fun r n => r + G (Win.rowMajor.symm n)) v = v + ∑ w : Fin 64, G (ix3 (0 : Fin 1) w (0 : Fin 1)) := by
  rw [foldl_add, ← Fin.sum_univ_def, Equiv.sum_comp Win.rowMajor.symm G]
  congr 1
  exact Fintype.sum_equiv winEquiv _ _ fun k => congrArg G (winEquiv.left_inv k).symm

/-- The sum of all up to a place. -/
abbrev cumF (x : S136x64x1024.Idx → EReal) : S136x64x1024.Idx → EReal :=
  Host.reduceWindowAdd (F := Idealize.ShloMosaic.Ideal) (φ := .f32) ![1, 64, 1] ![1, 1, 1] ![0, 63, 0] ![0, 0, 0] x
    (broadcastInDim S_ ![] bcast_S_S_ (constant (F := Idealize.ShloMosaic.Ideal) S_ .f32 0x00000000#32))
    reduceWindows_S136x64x1024_S136x64x1024_w1s1p0_0_w64s1p63_0_w1s1p0_0 h_S_

/-- The sum of all from a place on. -/
abbrev cumB (x : S136x64x1024.Idx → EReal) : S136x64x1024.Idx → EReal :=
  Host.reduceWindowAdd (F := Idealize.ShloMosaic.Ideal) (φ := .f32) ![1, 64, 1] ![1, 1, 1] ![0, 0, 0] ![0, 63, 0] x
    (broadcastInDim S_ ![] bcast_S_S_ (constant (F := Idealize.ShloMosaic.Ideal) S_ .f32 0x00000000#32))
    reduceWindows_S136x64x1024_S136x64x1024_w1s1p0_0_w64s1p0_63_w1s1p0_0 h_S_

/-- The windows' initial value. -/
theorem init_zero (i : S_.Idx) : broadcastInDim S_ ![] bcast_S_S_ (constant (F := Idealize.ShloMosaic.Ideal) S_ .f32 0x00000000#32) i = (0 : EReal) :=
  Idealize.ShloMosaic.Ideal.ofBits_zero .f32

/-- A real sum as a sum of extended reals. -/
theorem coe_sum64 (f : Fin 64 → ℝ) : ((∑ j, f j : ℝ) : EReal) = ∑ j, ((f j : ℝ) : EReal) := by
  have : ∀ s : Finset (Fin 64), ((∑ j ∈ s, f j : ℝ) : EReal) = ∑ j ∈ s, ((f j : ℝ) : EReal) := by
    intro s
    induction s using Finset.cons_induction with
    | empty => simp
    | cons a s ha ih => rw [Finset.sum_cons, Finset.sum_cons, EReal.coe_add, ih]
  exact this _

theorem sum_forward (x : ℕ → ℝ) (r : Fin 64) : ∑ w : Fin 64, (if 63 ≤ r.val + w.val then x (r.val + w.val - 63) else 0) = ∑ m ∈ range (r.val + 1), x m := by
  rw [Fin.sum_univ_eq_sum_range (fun w => if 63 ≤ r.val + w then x (r.val + w - 63) else 0) 64,
    show range 64 = range ((63 - r.val) + (r.val + 1)) from congrArg range (by omega), sum_range_add, sum_eq_zero, zero_add]
  · refine sum_congr rfl fun m _ => ?_
    rw [if_pos (by omega)]
    congr 1; omega
  · intro m hm
    have := mem_range.mp hm
    exact if_neg (by omega)

theorem sum_backward (x : ℕ → ℝ) (r : Fin 64) : ∑ w : Fin 64, (if r.val + w.val < 64 then x (r.val + w.val) else 0) = ∑ m ∈ range (63 - r.val + 1), x (63 - m) := by
  rw [Fin.sum_univ_eq_sum_range (fun w => if r.val + w < 64 then x (r.val + w) else 0) 64,
    ← sum_range_reflect (fun m => x (63 - m)) (63 - r.val + 1)]
  have e : (64 : ℕ) = (63 - r.val + 1) + r.val := by omega
  rw [show range 64 = range ((63 - r.val + 1) + r.val) from congrArg range e, sum_range_add]
  rw [show ∑ y ∈ range r.val, (if r.val + (63 - r.val + 1 + y) < 64 then x (r.val + (63 - r.val + 1 + y)) else 0) = 0 from
    sum_eq_zero fun m hm => if_neg (by omega), add_zero]
  refine sum_congr rfl fun m hm => ?_
  have := mem_range.mp hm
  rw [if_pos (by omega)]
  congr 1; omega

/-- One place of a window over the chunk at `p`, `r`, `l`: the entry there, or the initial value off the chunk. -/
def place (lo : Fin 3 → ℕ) (X : S136x64x1024.Idx → EReal) (v : EReal) (p : Fin 136) (r : Fin 64) (l : Fin 1024) (k : Win.Idx) : EReal :=
  if hin : ∀ a : Fin 3, lo a ≤ ((ix3 p r l : S136x64x1024.Idx) a).val * (![1, 1, 1] : Fin 3 → ℕ) a + (k a).val
      ∧ ((ix3 p r l : S136x64x1024.Idx) a).val * (![1, 1, 1] : Fin 3 → ℕ) a + (k a).val - lo a < S136x64x1024.size a
    then X (fun a => ⟨((ix3 p r l : S136x64x1024.Idx) a).val * (![1, 1, 1] : Fin 3 → ℕ) a + (k a).val - lo a, (hin a).2⟩)
    else v

/-- A place on the chunk. -/
theorem place_pos (lo1 : ℕ) (X : S136x64x1024.Idx → EReal) (v : EReal) (p : Fin 136) (r : Fin 64) (l : Fin 1024) (w : Fin 64) (s : Fin 64)
    (hs : s.val + lo1 = r.val + w.val) : place ![0, lo1, 0] X v p r l (ix3 (0 : Fin 1) w (0 : Fin 1)) = X (ix3 p s l) := by
  have hin : ∀ a : Fin 3, (![0, lo1, 0] : Fin 3 → ℕ) a ≤ ((ix3 p r l : S136x64x1024.Idx) a).val * (![1, 1, 1] : Fin 3 → ℕ) a + ((ix3 (0 : Fin 1) w (0 : Fin 1) : Win.Idx) a).val
      ∧ ((ix3 p r l : S136x64x1024.Idx) a).val * (![1, 1, 1] : Fin 3 → ℕ) a + ((ix3 (0 : Fin 1) w (0 : Fin 1) : Win.Idx) a).val - (![0, lo1, 0] : Fin 3 → ℕ) a < S136x64x1024.size a := fun a => by
    match a with
    | ⟨0, _⟩ => show 0 ≤ p.val * 1 + 0 ∧ p.val * 1 + 0 - 0 < 136; omega
    | ⟨1, _⟩ => show lo1 ≤ r.val * 1 + w.val ∧ r.val * 1 + w.val - lo1 < 64; omega
    | ⟨2, _⟩ => show 0 ≤ l.val * 1 + 0 ∧ l.val * 1 + 0 - 0 < 1024; omega
  unfold place
  rw [dif_pos hin]
  refine congrArg X (funext fun a => Fin.ext ?_)
  match a with
  | ⟨0, _⟩ => show p.val * 1 + 0 - 0 = p.val; omega
  | ⟨1, _⟩ => show r.val * 1 + w.val - lo1 = s.val; omega
  | ⟨2, _⟩ => show l.val * 1 + 0 - 0 = l.val; omega

/-- A place off the chunk. -/
theorem place_neg (lo1 : ℕ) (X : S136x64x1024.Idx → EReal) (v : EReal) (p : Fin 136) (r : Fin 64) (l : Fin 1024) (w : Fin 64)
    (hs : ¬ (lo1 ≤ r.val + w.val ∧ r.val + w.val - lo1 < 64)) : place ![0, lo1, 0] X v p r l (ix3 (0 : Fin 1) w (0 : Fin 1)) = v := by
  unfold place
  refine dif_neg fun hin => ?_
  have h1 : lo1 ≤ r.val * 1 + w.val ∧ r.val * 1 + w.val - lo1 < 64 := hin 1
  omega

theorem cumF_fold (X : S136x64x1024.Idx → EReal) (p : Fin 136) (r : Fin 64) (l : Fin 1024) :
    cumF X (ix3 p r l) = (List.finRange Win.numel).foldl (fun s n => s + place ![0, 63, 0] X
      (broadcastInDim S_ ![] bcast_S_S_ (constant (F := Idealize.ShloMosaic.Ideal) S_ .f32 0x00000000#32) (Shape.Idx.first h_S_)) p r l (Win.rowMajor.symm n))
      (broadcastInDim S_ ![] bcast_S_S_ (constant (F := Idealize.ShloMosaic.Ideal) S_ .f32 0x00000000#32) (Shape.Idx.first h_S_)) := by
  unfold cumF Host.reduceWindowAdd
  rw [Idealize.ShloMosaic.Ideal.hostReduceWindowAdd_def]
  unfold Idealize.ShloMosaic.Ideal.hostReduceWindowAdd Host.reduceWindow
  dsimp only
  refine congrArg (fun f => List.foldl f _ _) (funext fun s => funext fun n => ?_)
  refine congrArg (s + ·) ?_
  unfold place
  split_ifs with h1 h2 h2
  · rfl
  · exact absurd h1 h2
  · exact absurd h2 h1
  · rfl

theorem cumF_real (X : S136x64x1024.Idx → EReal) (x : ℕ → ℝ) (p : Fin 136) (r : Fin 64) (l : Fin 1024)
    (h : ∀ s : Fin 64, X (ix3 p s l) = ((x s.val : ℝ) : EReal)) : cumF X (ix3 p r l) = ((∑ m ∈ range (r.val + 1), x m : ℝ) : EReal) := by
  rw [cumF_fold, init_zero, fold_win (place ![0, 63, 0] X 0 p r l), zero_add, ← sum_forward, coe_sum64]
  refine sum_congr rfl fun w _ => ?_
  by_cases e : 63 ≤ r.val + w.val
  · rw [if_pos e]
    exact (place_pos 63 X 0 p r l w ⟨r.val + w.val - 63, by omega⟩ (by show r.val + w.val - 63 + 63 = r.val + w.val; omega)).trans (h _)
  · rw [if_neg e]
    exact place_neg 63 X 0 p r l w (by omega)

theorem cumB_fold (X : S136x64x1024.Idx → EReal) (p : Fin 136) (r : Fin 64) (l : Fin 1024) :
    cumB X (ix3 p r l) = (List.finRange Win.numel).foldl (fun s n => s + place ![0, 0, 0] X
      (broadcastInDim S_ ![] bcast_S_S_ (constant (F := Idealize.ShloMosaic.Ideal) S_ .f32 0x00000000#32) (Shape.Idx.first h_S_)) p r l (Win.rowMajor.symm n))
      (broadcastInDim S_ ![] bcast_S_S_ (constant (F := Idealize.ShloMosaic.Ideal) S_ .f32 0x00000000#32) (Shape.Idx.first h_S_)) := by
  unfold cumB Host.reduceWindowAdd
  rw [Idealize.ShloMosaic.Ideal.hostReduceWindowAdd_def]
  unfold Idealize.ShloMosaic.Ideal.hostReduceWindowAdd Host.reduceWindow
  dsimp only
  refine congrArg (fun f => List.foldl f _ _) (funext fun s => funext fun n => ?_)
  refine congrArg (s + ·) ?_
  unfold place
  split_ifs with h1 h2 h2
  · rfl
  · exact absurd h1 h2
  · exact absurd h2 h1
  · rfl

theorem cumB_real (X : S136x64x1024.Idx → EReal) (x : ℕ → ℝ) (p : Fin 136) (r : Fin 64) (l : Fin 1024)
    (h : ∀ s : Fin 64, X (ix3 p s l) = ((x s.val : ℝ) : EReal)) : cumB X (ix3 p r l) = ((∑ m ∈ range (63 - r.val + 1), x (63 - m) : ℝ) : EReal) := by
  rw [cumB_fold, init_zero, fold_win (place ![0, 0, 0] X 0 p r l), zero_add, ← sum_backward, coe_sum64]
  refine sum_congr rfl fun w _ => ?_
  by_cases e : r.val + w.val < 64
  · rw [if_pos e]
    exact (place_pos 0 X 0 p r l w ⟨r.val + w.val, by omega⟩ (by show r.val + w.val + 0 = r.val + w.val; omega)).trans (h _)
  · rw [if_neg e]
    exact place_neg 0 X 0 p r l w (by omega)

end Cert.KernelIdeal.Chain
-- ==== Proof.Prep.lean ====
/- What the host makes of the arguments for the kernel, read off the host's operations. -/
module

public import proofs.«01_k».proof.Proof.Window
public import Idealize.ShloMosaic.Lib.StableHlo.RunRead
public import Idealize.ShloMosaic.Lib.StableHlo.RunLoop
public import Idealize.ShloMosaic.Lib.Pointwise

@[expose] public section

set_option maxRecDepth 16384

noncomputable section

namespace Cert.KernelIdeal.Chain

open Idealize.ShloMosaic Idealize.ShloMosaic.TcCoe Idealize.SL.Sem
open Cert.KernelIdeal Cert.KernelIdeal.Gen
open DeltaRule Finset

/-- An argument's tokens in chunks. -/
abbrev chk (x : S2x4352x16x64.Idx → EReal) : S136x64x1024.Idx → EReal := shapeCast S136x64x1024 x shapeCasts_S2x4352x16x64_S136x64x1024

/-- The same with an axis of directions. -/
abbrev chk2 (x : S2x2x4352x16x64.Idx → EReal) : S2x136x64x1024.Idx → EReal := shapeCast S2x136x64x1024 x shapeCasts_S2x2x4352x16x64_S2x136x64x1024

/-- A chunk array as a batch of one. -/
abbrev up (x : S136x64x1024.Idx → EReal) : S1x136x64x1024.Idx → EReal :=
  broadcastInDim S1x136x64x1024 ![1, 2, 3] bcast_S136x64x1024_S1x136x64x1024_1_2_3 x

/-- A chunk array repeated over the directions. -/
abbrev bothDirs (x : S136x64x1024.Idx → EReal) : S2x136x64x1024.Idx → EReal :=
  broadcastInDim S2x136x64x1024 ![0, 1, 2, 3] bcast_S1x136x64x1024_S2x136x64x1024_0_1_2_3 (up x)

/-- The exponents summed along each chunk in each direction's order. -/
abbrev cl (lw : S2x136x64x1024.Idx → EReal) : S2x136x64x1024.Idx → EReal :=
  concatenate S2x136x64x1024 0 [⟨S1x136x64x1024, up (cumF (shapeCast S136x64x1024 (extractStridedSlice S1x136x64x1024 ![0, 0, 0, 0] lw slices_S2x136x64x1024_S1x136x64x1024_0_0_0_0) shapeCasts_S1x136x64x1024_S136x64x1024))⟩,
    ⟨S1x136x64x1024, up (cumB (shapeCast S136x64x1024 (extractStridedSlice S1x136x64x1024 ![1, 0, 0, 0] lw slices_S2x136x64x1024_S1x136x64x1024_1_0_0_0) shapeCasts_S1x136x64x1024_S136x64x1024))⟩]
    concatenates_S1x136x64x1024_S1x136x64x1024_S2x136x64x1024_d0

/-- The exponents summed over the whole chunk. -/
abbrev total (z : S2x136x64x1024.Idx → EReal) : S2x136x1x1024.Idx → EReal :=
  broadcastInDim S2x136x1x1024 ![0, 1, 3] bcast_S2x136x1024_S2x136x1x1024_0_1_3
    (concatenate S2x136x1024 0 [⟨S1x136x1024, broadcastInDim S1x136x1024 ![1, 2] bcast_S136x1024_S1x136x1024_1_2
        (shapeCast S136x1024 (extractStridedSlice S1x136x1x1024 ![0, 0, 63, 0] z slices_S2x136x64x1024_S1x136x1x1024_0_0_63_0) shapeCasts_S1x136x1x1024_S136x1024)⟩,
      ⟨S1x136x1024, broadcastInDim S1x136x1024 ![1, 2] bcast_S136x1024_S1x136x1024_1_2
        (shapeCast S136x1024 (extractStridedSlice S1x136x1x1024 ![1, 0, 0, 0] z slices_S2x136x64x1024_S1x136x1x1024_1_0_0_0) shapeCasts_S1x136x1x1024_S136x1024)⟩]
      concatenates_S1x136x1024_S1x136x1024_S2x136x1024_d0)

/-- The whole chunk's sum at each token. -/
abbrev spread (z : S2x136x1x1024.Idx → EReal) : S2x136x64x1024.Idx → EReal :=
  broadcastInDim S2x136x64x1024 ![0, 1, 2, 3] bcast_S2x136x1x1024_S2x136x64x1024_0_1_2_3 z

/-- Two to an exponent. -/
abbrev pow2 (z : S2x136x64x1024.Idx → EReal) : S2x136x64x1024.Idx → EReal :=
  Host.exp (F := Idealize.ShloMosaic.Ideal) (φ := .f32) (mulf (F := Idealize.ShloMosaic.Ideal) (φ := .f32)
    (broadcastInDim S2x136x64x1024 ![] bcast_S_S2x136x64x1024 (constant S_ .f32 0x3F317218#32)) z)

/-- The same of a chunk's sum. -/
abbrev pow2t (z : S2x136x1x1024.Idx → EReal) : S2x136x1x1024.Idx → EReal :=
  Host.exp (F := Idealize.ShloMosaic.Ideal) (φ := .f32) (mulf (F := Idealize.ShloMosaic.Ideal) (φ := .f32)
    (broadcastInDim S2x136x1x1024 ![] bcast_S_S2x136x1x1024 (constant S_ .f32 0x3F317218#32)) z)

/-- A product of chunk arrays. -/
abbrev mul2 (x y : S2x136x64x1024.Idx → EReal) : S2x136x64x1024.Idx → EReal := mulf (F := Idealize.ShloMosaic.Ideal) (φ := .f32) x y
/-- A difference of chunk arrays. -/
abbrev sub2 (x y : S2x136x64x1024.Idx → EReal) : S2x136x64x1024.Idx → EReal := subf (F := Idealize.ShloMosaic.Ideal) (φ := .f32) x y
/-- A chunk array negated. -/
abbrev neg2 (x : S2x136x64x1024.Idx → EReal) : S2x136x64x1024.Idx → EReal := Host.negf (F := Idealize.ShloMosaic.Ideal) (φ := .f32) x
/-- The same with no axis of directions. -/
abbrev neg1 (x : S136x64x1024.Idx → EReal) : S136x64x1024.Idx → EReal := Host.negf (F := Idealize.ShloMosaic.Ideal) (φ := .f32) x

/-- A chunk array's rows end to end. -/
abbrev rows2 (x : S2x136x64x1024.Idx → EReal) : S2x8704x1024.Idx → EReal :=
  shapeCast S2x8704x1024 (truncf (F := Idealize.ShloMosaic.Ideal) (φ := .f32) .bf16 x bitsLt_bf16_f32) shapeCasts_S2x136x64x1024_S2x8704x1024

/-- The same with no axis of directions. -/
abbrev rows1 (x : S136x64x1024.Idx → EReal) : S8704x1024.Idx → EReal :=
  shapeCast S8704x1024 (truncf (F := Idealize.ShloMosaic.Ideal) (φ := .f32) .bf16 x bitsLt_bf16_f32) shapeCasts_S136x64x1024_S8704x1024

variable (m : (ℓ : Loc nD τ sig) → Buf (Elt Idealize.ShloMosaic.Ideal) ℓ) (c : Dev nD)

set_option maxHeartbeats 4000000 in
/-- What the kernel is called on for `main_v47`. -/
theorem read_v47 : (Gen.V m c main_v47 : S2x8704x1024.Idx → EReal) = rows2 (mul2 (bothDirs (neg1 (chk (m ((c.tc : Thread nD τ).loc main_arg2))))) (pow2 (sub2 (cl (chk2 (m ((c.tc : Thread nD τ).loc main_arg3)))) (chk2 (m ((c.tc : Thread nD τ).loc main_arg3)))))) := by
  simp only [Gen.V, hostOps0, hostOps0_1, hostOps0_2, hostOps0_3, hostOps0_4, List.flatten_cons, List.flatten_nil, List.append_nil, List.cons_append,
      List.nil_append]
  after_results_entrywise []

set_option maxHeartbeats 4000000 in
/-- What the kernel is called on for `main_v52`. -/
theorem read_v52 : (Gen.V m c main_v52 : S2x8704x1024.Idx → EReal) = rows2 (mul2 (bothDirs (chk (m ((c.tc : Thread nD τ).loc main_arg0)))) (pow2 (cl (chk2 (m ((c.tc : Thread nD τ).loc main_arg3)))))) := by
  simp only [Gen.V, hostOps0, hostOps0_1, hostOps0_2, hostOps0_3, hostOps0_4, List.flatten_cons, List.flatten_nil, List.append_nil, List.cons_append,
      List.nil_append]
  after_results_entrywise []

set_option maxHeartbeats 4000000 in
/-- What the kernel is called on for `main_v55`. -/
theorem read_v55 : (Gen.V m c main_v55 : S2x8704x1024.Idx → EReal) = rows2 (mul2 (mul2 (bothDirs (chk (m ((c.tc : Thread nD τ).loc main_arg2)))) (chk2 (m ((c.tc : Thread nD τ).loc main_arg4)))) (pow2 (neg2 (cl (chk2 (m ((c.tc : Thread nD τ).loc main_arg3))))))) := by
  simp only [Gen.V, hostOps0, hostOps0_1, hostOps0_2, hostOps0_3, hostOps0_4, List.flatten_cons, List.flatten_nil, List.append_nil, List.cons_append,
      List.nil_append]
  after_results_entrywise []

set_option maxHeartbeats 4000000 in
/-- What the kernel is called on for `main_v58`. -/
theorem read_v58 : (Gen.V m c main_v58 : S2x8704x1024.Idx → EReal) = rows2 (mul2 (chk2 (m ((c.tc : Thread nD τ).loc main_arg5))) (pow2 (neg2 (cl (chk2 (m ((c.tc : Thread nD τ).loc main_arg3))))))) := by
  simp only [Gen.V, hostOps0, hostOps0_1, hostOps0_2, hostOps0_3, hostOps0_4, List.flatten_cons, List.flatten_nil, List.append_nil, List.cons_append,
      List.nil_append]
  after_results_entrywise []

set_option maxHeartbeats 4000000 in
/-- What the kernel is called on for `main_v61`. -/
theorem read_v61 : (Gen.V m c main_v61 : S2x8704x1024.Idx → EReal) = rows2 (mul2 (mul2 (bothDirs (chk (m ((c.tc : Thread nD τ).loc main_arg2)))) (chk2 (m ((c.tc : Thread nD τ).loc main_arg4)))) (pow2 (sub2 (spread (total (cl (chk2 (m ((c.tc : Thread nD τ).loc main_arg3)))))) (cl (chk2 (m ((c.tc : Thread nD τ).loc main_arg3))))))) := by
  simp only [Gen.V, hostOps0, hostOps0_1, hostOps0_2, hostOps0_3, hostOps0_4, List.flatten_cons, List.flatten_nil, List.append_nil, List.cons_append,
      List.nil_append]
  after_results_entrywise []

set_option maxHeartbeats 4000000 in
/-- What the kernel is called on for `main_v64`. -/
theorem read_v64 : (Gen.V m c main_v64 : S2x8704x1024.Idx → EReal) = rows2 (mul2 (chk2 (m ((c.tc : Thread nD τ).loc main_arg5))) (pow2 (sub2 (spread (total (cl (chk2 (m ((c.tc : Thread nD τ).loc main_arg3)))))) (cl (chk2 (m ((c.tc : Thread nD τ).loc main_arg3))))))) := by
  simp only [Gen.V, hostOps0, hostOps0_1, hostOps0_2, hostOps0_3, hostOps0_4, List.flatten_cons, List.flatten_nil, List.append_nil, List.cons_append,
      List.nil_append]
  after_results_entrywise []

set_option maxHeartbeats 4000000 in
/-- What the kernel is called on for `main_v69`. -/
theorem read_v69 : (Gen.V m c main_v69 : S8704x1024.Idx → EReal) = rows1 (chk (m ((c.tc : Thread nD τ).loc main_arg1))) := by
  simp only [Gen.V, hostOps0, hostOps0_1, hostOps0_2, hostOps0_3, hostOps0_4, List.flatten_cons, List.flatten_nil, List.append_nil, List.cons_append,
      List.nil_append]
  after_results_entrywise []

set_option maxHeartbeats 4000000 in
/-- What the kernel is called on for `main_v67`. -/
theorem read_v67 : (Gen.V m c main_v67 : S2x136x1x1024.Idx → EReal) = pow2t (total (cl (chk2 (m ((c.tc : Thread nD τ).loc main_arg3))))) := by
  simp only [Gen.V, hostOps0, hostOps0_1, hostOps0_2, hostOps0_3, hostOps0_4, List.flatten_cons, List.flatten_nil, List.append_nil, List.cons_append,
      List.nil_append]
  after_results_entrywise []

end Cert.KernelIdeal.Chain
-- ==== Proof.PrepReal.lean ====
/- What the kernel is called on holds the scan's factors, over real arguments. -/
module

public import proofs.«01_k».proof.Proof.Prep

@[expose] public section

set_option maxRecDepth 16384

noncomputable section

namespace Cert.KernelIdeal.Chain

open Idealize.ShloMosaic Idealize.ShloMosaic.TcCoe Idealize.SL.Sem
open Cert.KernelIdeal Cert.KernelIdeal.Gen
open DeltaRule Finset

/-! ## The host's pieces at an index -/

theorem tokens_lt (p : ℕ) (hp : p < 136) (r : Fin 64) : 64 * p + r.val < 8704 := by omega

theorem chk_apply (x : S2x4352x16x64.Idx → EReal) (p : ℕ) (hp : p < 136) (r : Fin 64) (q : Fin 8) (h : Fin 2) (j : Fin 64) :
    chk x (ix3 ⟨p, hp⟩ r (lane q (lane2 h j))) = x (at4 (64 * p + r.val) (tokens_lt p hp r) q h j) := by
  refine shapeCast_apply _ _ _ _ ?_
  unfold at4
  rw [Shape.rowMajor_val_four, Shape.rowMajor_val_three]
  show (((64 * p + r.val) / 4352 * 4352 + (64 * p + r.val) % 4352) * 16 + (2 * q.val + h.val)) * 64 + j.val
    = (p * 64 + r.val) * 1024 + (128 * q.val + (64 * h.val + j.val))
  omega

theorem chk2_apply (x : S2x2x4352x16x64.Idx → EReal) (d : Fin 2) (p : ℕ) (hp : p < 136) (r : Fin 64) (q : Fin 8) (h : Fin 2) (j : Fin 64) :
    chk2 x (ix4 d ⟨p, hp⟩ r (lane q (lane2 h j))) = x (at5 d (64 * p + r.val) (tokens_lt p hp r) q h j) := by
  refine shapeCast_apply _ _ _ _ ?_
  unfold at5
  rw [Shape.rowMajor_val_four, Shape.rowMajor_val_five]
  show (((d.val * 2 + (64 * p + r.val) / 4352) * 4352 + (64 * p + r.val) % 4352) * 16 + (2 * q.val + h.val)) * 64 + j.val
    = ((d.val * 136 + p) * 64 + r.val) * 1024 + (128 * q.val + (64 * h.val + j.val))
  omega

theorem rows2_apply (x : S2x136x64x1024.Idx → EReal) (d : Fin 2) (p : ℕ) (hp : p < 136) (r : Fin 64) (l : Fin 1024) :
    rows2 x (ix3 d (tok p hp r) l) = x (ix4 d ⟨p, hp⟩ r l) := by
  refine (shapeCast_apply _ _ _ (ix4 d ⟨p, hp⟩ r l) ?_).trans rfl
  rw [Shape.rowMajor_val_four, Shape.rowMajor_val_three]
  show ((d.val * 136 + p) * 64 + r.val) * 1024 + l.val = (d.val * 8704 + (64 * p + r.val)) * 1024 + l.val
  omega

theorem rows1_apply (x : S136x64x1024.Idx → EReal) (p : ℕ) (hp : p < 136) (r : Fin 64) (l : Fin 1024) :
    rows1 x (ix2 (tok p hp r) l) = x (ix3 ⟨p, hp⟩ r l) := by
  refine (shapeCast_apply _ _ _ (ix3 ⟨p, hp⟩ r l) ?_).trans rfl
  rw [Shape.rowMajor_val_three, Shape.rowMajor_val_two]
  show (p * 64 + r.val) * 1024 + l.val = (64 * p + r.val) * 1024 + l.val
  omega

theorem bothDirs_apply (x : S136x64x1024.Idx → EReal) (d : Fin 2) (p : Fin 136) (r : Fin 64) (l : Fin 1024) :
    bothDirs x (ix4 d p r l) = x (ix3 p r l) := by
  simp only [bothDirs, up, pointwise]
  rfl

theorem pick0_apply (x : S2x136x64x1024.Idx → EReal) (p : Fin 136) (r : Fin 64) (l : Fin 1024) :
    shapeCast S136x64x1024 (extractStridedSlice S1x136x64x1024 ![0, 0, 0, 0] x slices_S2x136x64x1024_S1x136x64x1024_0_0_0_0) shapeCasts_S1x136x64x1024_S136x64x1024
      (ix3 p r l) = x (ix4 0 p r l) := by
  refine (shapeCast_apply _ _ _ (ix4 0 p r l) ?_).trans ?_
  · rw [Shape.rowMajor_val_four, Shape.rowMajor_val_three]
    show ((0 * 136 + p.val) * 64 + r.val) * 1024 + l.val = (p.val * 64 + r.val) * 1024 + l.val
    omega
  · unfold extractStridedSlice
    refine congrArg x (funext fun a => Fin.ext ?_)
    match a with
    | ⟨0, _⟩ => rfl
    | ⟨1, _⟩ => show 0 + p.val = p.val; omega
    | ⟨2, _⟩ => show 0 + r.val = r.val; omega
    | ⟨3, _⟩ => show 0 + l.val = l.val; omega

theorem pick1_apply (x : S2x136x64x1024.Idx → EReal) (p : Fin 136) (r : Fin 64) (l : Fin 1024) :
    shapeCast S136x64x1024 (extractStridedSlice S1x136x64x1024 ![1, 0, 0, 0] x slices_S2x136x64x1024_S1x136x64x1024_1_0_0_0) shapeCasts_S1x136x64x1024_S136x64x1024
      (ix3 p r l) = x (ix4 1 p r l) := by
  refine (shapeCast_apply _ _ _ (ix4 0 p r l) ?_).trans ?_
  · rw [Shape.rowMajor_val_four, Shape.rowMajor_val_three]
    show ((0 * 136 + p.val) * 64 + r.val) * 1024 + l.val = (p.val * 64 + r.val) * 1024 + l.val
    omega
  · unfold extractStridedSlice
    refine congrArg x (funext fun a => Fin.ext ?_)
    match a with
    | ⟨0, _⟩ => rfl
    | ⟨1, _⟩ => show 0 + p.val = p.val; omega
    | ⟨2, _⟩ => show 0 + r.val = r.val; omega
    | ⟨3, _⟩ => show 0 + l.val = l.val; omega

/-- Two chunk arrays as the two directions, at direction 0. -/
theorem cat_apply0 (x y : S136x64x1024.Idx → EReal) (p : Fin 136) (r : Fin 64) (l : Fin 1024) :
    concatenate S2x136x64x1024 0 [⟨S1x136x64x1024, up x⟩, ⟨S1x136x64x1024, up y⟩] concatenates_S1x136x64x1024_S1x136x64x1024_S2x136x64x1024_d0 (ix4 0 p r l)
      = x (ix3 p r l) := by
  simp only [up, pointwise]
  rfl

theorem cat_apply (x y : S136x64x1024.Idx → EReal) (g : Fin 2) (hg : ¬ g.val < 1) (p : Fin 136) (r : Fin 64) (l : Fin 1024) :
    concatenate S2x136x64x1024 0 [⟨S1x136x64x1024, up x⟩, ⟨S1x136x64x1024, up y⟩] concatenates_S1x136x64x1024_S1x136x64x1024_S2x136x64x1024_d0 (ix4 g p r l)
      = y (ix3 p r l) := by
  simp only [up, pointwise]
  exact dif_neg hg

/-- The same at direction 1. -/
theorem cat_apply1 (x y : S136x64x1024.Idx → EReal) (p : Fin 136) (r : Fin 64) (l : Fin 1024) :
    concatenate S2x136x64x1024 0 [⟨S1x136x64x1024, up x⟩, ⟨S1x136x64x1024, up y⟩] concatenates_S1x136x64x1024_S1x136x64x1024_S2x136x64x1024_d0 (ix4 1 p r l)
      = y (ix3 p r l) := cat_apply x y 1 (by decide) p r l

/-- The summed exponents of direction 0. -/
theorem cl_apply0 (lw : S2x136x64x1024.Idx → EReal) (p : Fin 136) (r : Fin 64) (l : Fin 1024) (x : ℕ → ℝ)
    (h : ∀ s : Fin 64, lw (ix4 0 p s l) = ((x s.val : ℝ) : EReal)) : cl lw (ix4 0 p r l) = ((∑ m ∈ range (r.val + 1), x m : ℝ) : EReal) := by
  refine (cat_apply0 _ _ _ _ _).trans (cumF_real _ _ _ _ _ fun s => ?_)
  exact (pick0_apply _ _ _ _).trans (h s)

/-- The summed exponents of direction 1. -/
theorem cl_apply1 (lw : S2x136x64x1024.Idx → EReal) (p : Fin 136) (r : Fin 64) (l : Fin 1024) (x : ℕ → ℝ)
    (h : ∀ s : Fin 64, lw (ix4 1 p s l) = ((x s.val : ℝ) : EReal)) : cl lw (ix4 1 p r l) = ((∑ m ∈ range (63 - r.val + 1), x (63 - m) : ℝ) : EReal) := by
  refine (cat_apply1 _ _ _ _ _).trans (cumB_real _ _ _ _ _ fun s => ?_)
  exact (pick1_apply _ _ _ _).trans (h s)

theorem last_apply (z : S2x136x64x1024.Idx → EReal) (p : Fin 136) (l : Fin 1024) :
    shapeCast S136x1024 (extractStridedSlice S1x136x1x1024 ![0, 0, 63, 0] z slices_S2x136x64x1024_S1x136x1x1024_0_0_63_0) shapeCasts_S1x136x1x1024_S136x1024
      (ix2 p l) = z (ix4 0 p 63 l) := by
  refine (shapeCast_apply _ _ _ (ix4 0 p 0 l) ?_).trans ?_
  · rw [Shape.rowMajor_val_four, Shape.rowMajor_val_two]
    show ((0 * 136 + p.val) * 1 + 0) * 1024 + l.val = p.val * 1024 + l.val
    omega
  · unfold extractStridedSlice
    refine congrArg z (funext fun a => Fin.ext ?_)
    match a with
    | ⟨0, _⟩ => rfl
    | ⟨1, _⟩ => show 0 + p.val = p.val; omega
    | ⟨2, _⟩ => rfl
    | ⟨3, _⟩ => show 0 + l.val = l.val; omega

theorem first_apply (z : S2x136x64x1024.Idx → EReal) (p : Fin 136) (l : Fin 1024) :
    shapeCast S136x1024 (extractStridedSlice S1x136x1x1024 ![1, 0, 0, 0] z slices_S2x136x64x1024_S1x136x1x1024_1_0_0_0) shapeCasts_S1x136x1x1024_S136x1024
      (ix2 p l) = z (ix4 1 p 0 l) := by
  refine (shapeCast_apply _ _ _ (ix4 0 p 0 l) ?_).trans ?_
  · rw [Shape.rowMajor_val_four, Shape.rowMajor_val_two]
    show ((0 * 136 + p.val) * 1 + 0) * 1024 + l.val = p.val * 1024 + l.val
    omega
  · unfold extractStridedSlice
    refine congrArg z (funext fun a => Fin.ext ?_)
    match a with
    | ⟨0, _⟩ => rfl
    | ⟨1, _⟩ => show 0 + p.val = p.val; omega
    | ⟨2, _⟩ => rfl
    | ⟨3, _⟩ => show 0 + l.val = l.val; omega

/-- Two sums as the two directions'. -/
theorem pair_apply0 (x y : S136x1024.Idx → EReal) (p : Fin 136) (l : Fin 1024) :
    broadcastInDim S2x136x1x1024 ![0, 1, 3] bcast_S2x136x1024_S2x136x1x1024_0_1_3
      (concatenate S2x136x1024 0 [⟨S1x136x1024, broadcastInDim S1x136x1024 ![1, 2] bcast_S136x1024_S1x136x1024_1_2 x⟩,
        ⟨S1x136x1024, broadcastInDim S1x136x1024 ![1, 2] bcast_S136x1024_S1x136x1024_1_2 y⟩] concatenates_S1x136x1024_S1x136x1024_S2x136x1024_d0) (ix4 0 p 0 l)
      = x (ix2 p l) := by
  simp only [pointwise]
  rfl

theorem pair_apply (x y : S136x1024.Idx → EReal) (g : Fin 2) (hg : ¬ g.val < 1) (p : Fin 136) (l : Fin 1024) :
    broadcastInDim S2x136x1x1024 ![0, 1, 3] bcast_S2x136x1024_S2x136x1x1024_0_1_3
      (concatenate S2x136x1024 0 [⟨S1x136x1024, broadcastInDim S1x136x1024 ![1, 2] bcast_S136x1024_S1x136x1024_1_2 x⟩,
        ⟨S1x136x1024, broadcastInDim S1x136x1024 ![1, 2] bcast_S136x1024_S1x136x1024_1_2 y⟩] concatenates_S1x136x1024_S1x136x1024_S2x136x1024_d0) (ix4 g p 0 l)
      = y (ix2 p l) := by
  simp only [pointwise]
  exact dif_neg hg

/-- The same at direction 1. -/
theorem pair_apply1 (x y : S136x1024.Idx → EReal) (p : Fin 136) (l : Fin 1024) :
    broadcastInDim S2x136x1x1024 ![0, 1, 3] bcast_S2x136x1024_S2x136x1x1024_0_1_3
      (concatenate S2x136x1024 0 [⟨S1x136x1024, broadcastInDim S1x136x1024 ![1, 2] bcast_S136x1024_S1x136x1024_1_2 x⟩,
        ⟨S1x136x1024, broadcastInDim S1x136x1024 ![1, 2] bcast_S136x1024_S1x136x1024_1_2 y⟩] concatenates_S1x136x1024_S1x136x1024_S2x136x1024_d0) (ix4 1 p 0 l)
      = y (ix2 p l) := pair_apply x y 1 (by decide) p l

theorem total_apply0 (z : S2x136x64x1024.Idx → EReal) (p : Fin 136) (l : Fin 1024) : total z (ix4 0 p 0 l) = z (ix4 0 p 63 l) :=
  (pair_apply0 _ _ p l).trans (last_apply z p l)

theorem total_apply1 (z : S2x136x64x1024.Idx → EReal) (p : Fin 136) (l : Fin 1024) : total z (ix4 1 p 0 l) = z (ix4 1 p 0 l) :=
  (pair_apply1 _ _ p l).trans (first_apply z p l)

theorem spread_apply (z : S2x136x1x1024.Idx → EReal) (d : Fin 2) (p : Fin 136) (r : Fin 64) (l : Fin 1024) : spread z (ix4 d p r l) = z (ix4 d p 0 l) := by
  simp only [spread, pointwise]
  rfl

theorem pow2_real (z : S2x136x64x1024.Idx → EReal) (i : S2x136x64x1024.Idx) (y : ℝ) (h : z i = ((y : ℝ) : EReal)) :
    pow2 z i = ((decay y : ℝ) : EReal) := by
  show Idealize.ShloMosaic.Ideal.exp ((Idealize.ShloMosaic.Ideal.ofBits .f32 1060205080#32 : EReal) * z i) = _
  rw [h, ofBits_ln2, ← EReal.coe_mul]
  rfl

theorem pow2t_real (z : S2x136x1x1024.Idx → EReal) (i : S2x136x1x1024.Idx) (y : ℝ) (h : z i = ((y : ℝ) : EReal)) :
    pow2t z i = ((decay y : ℝ) : EReal) := by
  show Idealize.ShloMosaic.Ideal.exp ((Idealize.ShloMosaic.Ideal.ofBits .f32 1060205080#32 : EReal) * z i) = _
  rw [h, ofBits_ln2, ← EReal.coe_mul]
  rfl

theorem mul2_real (x y : S2x136x64x1024.Idx → EReal) (i : S2x136x64x1024.Idx) (a b : ℝ) (hx : x i = ((a : ℝ) : EReal)) (hy : y i = ((b : ℝ) : EReal)) :
    mul2 x y i = ((a * b : ℝ) : EReal) := by
  show x i * y i = _
  rw [hx, hy, EReal.coe_mul]

theorem sub2_real (x y : S2x136x64x1024.Idx → EReal) (i : S2x136x64x1024.Idx) (a b : ℝ) (hx : x i = ((a : ℝ) : EReal)) (hy : y i = ((b : ℝ) : EReal)) :
    sub2 x y i = ((a - b : ℝ) : EReal) := by
  show x i - y i = _
  rw [hx, hy, EReal.coe_sub]

theorem neg2_real (x : S2x136x64x1024.Idx → EReal) (i : S2x136x64x1024.Idx) (a : ℝ) (hx : x i = ((a : ℝ) : EReal)) :
    neg2 x i = ((-a : ℝ) : EReal) := by
  show -(x i) = _
  rw [hx, EReal.coe_neg]

theorem neg1_real (x : S136x64x1024.Idx → EReal) (i : S136x64x1024.Idx) (a : ℝ) (hx : x i = ((a : ℝ) : EReal)) :
    neg1 x i = ((-a : ℝ) : EReal) := by
  show -(x i) = _
  rw [hx, EReal.coe_neg]

/-! ## The factors -/

/-- A chunk array holds real numbers. -/
def IsChk (x : S2x136x64x1024.Idx → EReal) (f : Fin 2 → ℕ → Fin 8 → Fin 2 → Mat) : Prop :=
  ∀ d p (hp : p < 136) q h r j, x (ix4 d ⟨p, hp⟩ r (lane q (lane2 h j))) = ((f d p q h r j : ℝ) : EReal)

variable {A : Args} {x0 x1 x2 : S2x4352x16x64.Idx → EReal} {x3 x4 x5 : S2x2x4352x16x64.Idx → EReal}

theorem isChk_r (H : Reads A x0 x1 x2 x3 x4 x5) : IsChk (bothDirs (chk x0)) (fun _ p q h r j => A.r (64 * p + r.val) q h j) :=
  fun _ p hp q h r j => (bothDirs_apply _ _ _ _ _).trans ((chk_apply x0 p hp r q h j).trans (H.r _ _ q h j))

theorem isChk_kk (H : Reads A x0 x1 x2 x3 x4 x5) : IsChk (bothDirs (chk x2)) (fun _ p q h r j => A.kk (64 * p + r.val) q h j) :=
  fun _ p hp q h r j => (bothDirs_apply _ _ _ _ _).trans ((chk_apply x2 p hp r q h j).trans (H.kk _ _ q h j))

theorem isChk_nkk (H : Reads A x0 x1 x2 x3 x4 x5) : IsChk (bothDirs (neg1 (chk x2))) (fun _ p q h r j => -A.kk (64 * p + r.val) q h j) :=
  fun _ p hp q h r j => (bothDirs_apply _ _ _ _ _).trans (neg1_real _ _ _ ((chk_apply x2 p hp r q h j).trans (H.kk _ _ q h j)))

theorem isChk_bb (H : Reads A x0 x1 x2 x3 x4 x5) :
    IsChk (mul2 (bothDirs (chk x2)) (chk2 x4)) (fun d p q h r j => A.kk (64 * p + r.val) q h j * A.a d (64 * p + r.val) q h j) :=
  fun d p hp q h r j => mul2_real _ _ _ _ _ (isChk_kk H d p hp q h r j) ((chk2_apply x4 d p hp r q h j).trans (H.a _ _ _ q h j))

theorem isChk_kd (H : Reads A x0 x1 x2 x3 x4 x5) : IsChk (chk2 x5) (fun d p q h r j => A.kd d (64 * p + r.val) q h j) :=
  fun d p hp q h r j => (chk2_apply x5 d p hp r q h j).trans (H.kd _ _ _ q h j)

theorem isChk_lw (H : Reads A x0 x1 x2 x3 x4 x5) : IsChk (chk2 x3) (fun d p q h r j => A.lw d (64 * p + r.val) q h j) :=
  fun d p hp q h r j => (chk2_apply x3 d p hp r q h j).trans (H.lw _ _ _ q h j)

/-- The summed exponents. -/
theorem isChk_cl (H : Reads A x0 x1 x2 x3 x4 x5) : IsChk (cl (chk2 x3)) (fun d p q h r j => cum A d p q h (posN d r.val + 1) j) := by
  intro d p hp q h r j
  match d with
  | ⟨0, _⟩ => exact cl_apply0 _ _ _ _ (fun m => A.lw 0 (64 * p + m) q h j) fun s => isChk_lw H 0 p hp q h s j
  | ⟨1, _⟩ => exact cl_apply1 _ _ _ _ (fun m => A.lw 1 (64 * p + m) q h j) fun s => isChk_lw H 1 p hp q h s j

/-- The whole chunk's sum. -/
theorem total_real (H : Reads A x0 x1 x2 x3 x4 x5) (d : Fin 2) (p : ℕ) (hp : p < 136) (q : Fin 8) (h : Fin 2) (j : Fin 64) :
    total (cl (chk2 x3)) (ix4 d ⟨p, hp⟩ 0 (lane q (lane2 h j))) = ((cum A d p q h 64 j : ℝ) : EReal) := by
  match d with
  | ⟨0, _⟩ => exact (total_apply0 _ _ _).trans (isChk_cl H 0 p hp q h 63 j)
  | ⟨1, _⟩ => exact (total_apply1 _ _ _).trans (isChk_cl H 1 p hp q h 0 j)

/-- What remains of the chunk's sum after a token. -/
theorem isChk_rem (H : Reads A x0 x1 x2 x3 x4 x5) : IsChk (sub2 (spread (total (cl (chk2 x3)))) (cl (chk2 x3)))
    (fun d p q h r j => cum A d p q h 64 j - cum A d p q h (posN d r.val + 1) j) :=
  fun d p hp q h r j => sub2_real _ _ _ _ _ ((spread_apply _ _ _ _ _).trans (total_real H d p hp q h j)) (isChk_cl H d p hp q h r j)

/-- The sum before a token. -/
theorem isChk_before (H : Reads A x0 x1 x2 x3 x4 x5) : IsChk (sub2 (cl (chk2 x3)) (chk2 x3)) (fun d p q h r j => cum A d p q h (posN d r.val) j) := by
  intro d p hp q h r j
  refine (sub2_real _ _ _ _ _ (isChk_cl H d p hp q h r j) (isChk_lw H d p hp q h r j)).trans ?_
  refine congrArg _ ?_
  show (∑ m ∈ range (posN d r.val + 1), _) - _ = ∑ m ∈ range (posN d r.val), _
  rw [sum_range_succ, posN_posN d _ r.isLt]
  exact add_sub_cancel_right _ _

variable {m : (ℓ : Loc nD τ sig) → Buf (Elt Idealize.ShloMosaic.Ideal) ℓ} {c : Dev nD}

/-- The arrays the kernel is called on hold the scan's factors. -/
theorem holds (H : Reads A (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5))) : Holds m c (factors A) where
  ah d p hp q h r j := by
    rw [read_v47]
    exact (rows2_apply _ d p hp r _).trans (mul2_real _ _ _ _ _ (isChk_nkk H d p hp q h r j) (pow2_real _ _ _ (isChk_before H d p hp q h r j)))
  rh d p hp q h r j := by
    rw [read_v52]
    exact (rows2_apply _ d p hp r _).trans (mul2_real _ _ _ _ _ (isChk_r H d p hp q h r j) (pow2_real _ _ _ (isChk_cl H d p hp q h r j)))
  bh d p hp q h r j := by
    rw [read_v55]
    exact (rows2_apply _ d p hp r _).trans (mul2_real _ _ _ _ _ (isChk_bb H d p hp q h r j) (pow2_real _ _ _ (neg2_real _ _ _ (isChk_cl H d p hp q h r j))))
  kh d p hp q h r j := by
    rw [read_v58]
    exact (rows2_apply _ d p hp r _).trans (mul2_real _ _ _ _ _ (isChk_kd H d p hp q h r j) (pow2_real _ _ _ (neg2_real _ _ _ (isChk_cl H d p hp q h r j))))
  bt d p hp q h r j := by
    rw [read_v61]
    exact (rows2_apply _ d p hp r _).trans (mul2_real _ _ _ _ _ (isChk_bb H d p hp q h r j) (pow2_real _ _ _ (isChk_rem H d p hp q h r j)))
  kt d p hp q h r j := by
    rw [read_v64]
    exact (rows2_apply _ d p hp r _).trans (mul2_real _ _ _ _ _ (isChk_kd H d p hp q h r j) (pow2_real _ _ _ (isChk_rem H d p hp q h r j)))
  v p hp q h r j := by
    rw [read_v69]
    exact (rows1_apply _ p hp r _).trans ((chk_apply _ p hp r q h j).trans (H.v _ _ q h j))
  pt d p hp q h j := by
    rw [read_v67]
    exact pow2t_real _ _ _ (total_real H d p hp q h j)

/-- Direction 0's result of the kernel is the scan's output. -/
theorem scan0 (H : Reads A (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5)))
    (b t : ℕ) (hb : b < 2) (ht : t < 4352) (q : Fin 8) (h : Fin 2) (j : Fin 64) :
    ((dats m 0 c).arrAt 16 cfg0.N : S8704x1024.Idx → EReal) (ix2 ⟨tokAt 0 b t, tokAt_lt 0 b t hb ht⟩ (lane q (lane2 h j)))
      = ((outAt A 0 b q h t j : ℝ) : EReal) := by
  have hn : t / 64 < 68 := by omega
  have hx : t % 64 < 64 := by omega
  have e := result0 (holds H) (68 * b + t / 64) (by omega) q h (pos 0 ⟨t % 64, hx⟩) j
  rw [pointY_eq A 0 q h b (t / 64) hb hn ⟨t % 64, hx⟩ j] at e
  have et : 64 * (t / 64) + t % 64 = t := by omega
  have e' : ((outAt A 0 b q h (64 * (t / 64) + t % 64) j : ℝ) : EReal) = ((outAt A 0 b q h t j : ℝ) : EReal) := by rw [et]
  refine Eq.trans ?_ (e.trans e')
  refine congrArg (fun T => ((dats m 0 c).arrAt 16 cfg0.N : S8704x1024.Idx → EReal) (ix2 T (lane q (lane2 h j)))) (Fin.ext ?_)
  show tokAt 0 b t = 64 * ch 0 (68 * b + t / 64) + (pos 0 ⟨t % 64, hx⟩).val
  rw [pos_val, tokAt_chunk 0 b (t / 64) (t % 64) hn hx, et]

/-- Direction 1's result of the kernel is the scan's output. -/
theorem scan1 (H : Reads A (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5)))
    (b t : ℕ) (hb : b < 2) (ht : t < 4352) (q : Fin 8) (h : Fin 2) (j : Fin 64) :
    ((dats m 0 c).arrAt 17 cfg0.N : S8704x1024.Idx → EReal) (ix2 ⟨tokAt 1 b t, tokAt_lt 1 b t hb ht⟩ (lane q (lane2 h j)))
      = ((outAt A 1 b q h t j : ℝ) : EReal) := by
  have hn : t / 64 < 68 := by omega
  have hx : t % 64 < 64 := by omega
  have e := result1 (holds H) (68 * b + t / 64) (by omega) q h (pos 1 ⟨t % 64, hx⟩) j
  rw [pointY_eq A 1 q h b (t / 64) hb hn ⟨t % 64, hx⟩ j] at e
  have et : 64 * (t / 64) + t % 64 = t := by omega
  have e' : ((outAt A 1 b q h (64 * (t / 64) + t % 64) j : ℝ) : EReal) = ((outAt A 1 b q h t j : ℝ) : EReal) := by rw [et]
  refine Eq.trans ?_ (e.trans e')
  refine congrArg (fun T => ((dats m 0 c).arrAt 17 cfg0.N : S8704x1024.Idx → EReal) (ix2 T (lane q (lane2 h j)))) (Fin.ext ?_)
  show tokAt 1 b t = 64 * ch 1 (68 * b + t / 64) + (pos 1 ⟨t % 64, hx⟩).val
  rw [pos_val, tokAt_chunk 1 b (t / 64) (t % 64) hn hx, et]

end Cert.KernelIdeal.Chain
-- ==== Proof.RefStep.lean ====
/- One trip of the reference's loop over real numbers: the state steps by the delta rule and the trip's token gets its output. -/
module

public import proofs.«01_k».proof.Proof.Recurrence
public import proofs.«01_k».proof.Proof.Gen.ReferenceIdeal.Run
public import Idealize.ShloMosaic.Lib.WordCmp
public import Idealize.ShloMosaic.Lib.Pointwise

@[expose] public section

set_option maxRecDepth 16384

noncomputable section

namespace Cert.ReferenceIdeal.Scan

open Idealize.ShloMosaic Idealize.ShloMosaic.TcCoe Idealize.SL.Sem
open Cert.ReferenceIdeal Cert.ReferenceIdeal.Gen Cert.ReferenceIdeal.Value
open DeltaRule Idealize.ShloMosaic.StableHlo Idealize.ShloMosaic.WordCmp

/-- A loop index and three zeros: where a trip's token starts. -/
abbrev starts (i : S_.Idx → BitVec 32) : Fin 4 → Int :=
  fun k => (((![i, constantI S_ 32 0#32, constantI S_ 32 0#32, constantI S_ 32 0#32] : Fin 4 → (⟨S_, .i32⟩ : BufTy).Contents (Elt Idealize.ShloMosaic.Ideal))) k (Shape.Idx.first h_S_)).toInt

/-- The token a trip reads of a sequence. -/
abbrev slab (x : S4352x4x16x64.Idx → EReal) (i : S_.Idx → BitVec 32) : S4x16x64.Idx → EReal :=
  shapeCast S4x16x64 (Host.dynamicSlice S1x4x16x64 x (starts i) sliceFits_S4352x4x16x64_S1x4x16x64) shapeCasts_S1x4x16x64_S4x16x64

theorem starts_eq (t : ℕ) (ht : t < 4352) : ∀ a, starts (fun _ => BitVec.ofNat 32 t) a = ((![t, 0, 0, 0] : Fin 4 → ℕ) a : Int) := by
  intro a
  match a with
  | ⟨0, _⟩ =>
    show (BitVec.ofNat 32 t).toInt = (t : Int)
    have e : (BitVec.ofNat 32 t).toNat = t := by rw [BitVec.toNat_ofNat]; omega
    rw [BitVec.toInt_eq_toNat_of_lt (by omega), e]
  | ⟨1, _⟩ => rfl
  | ⟨2, _⟩ => rfl
  | ⟨3, _⟩ => rfl

theorem slices_at (t : ℕ) (ht : t < 4352) : S4352x4x16x64.Slices (![t, 0, 0, 0] : Fin 4 → ℕ) S1x4x16x64 := by
  refine ⟨rfl, fun a => ?_⟩
  match a with
  | ⟨0, _⟩ => show t + 1 ≤ 4352; omega
  | ⟨1, _⟩ => show 0 + 4 ≤ 4; omega
  | ⟨2, _⟩ => show 0 + 16 ≤ 16; omega
  | ⟨3, _⟩ => show 0 + 64 ≤ 64; omega

theorem slab_apply (x : S4352x4x16x64.Idx → EReal) (t : ℕ) (ht : t < 4352) (g : Fin 4) (hd : Fin 16) (j : Fin 64) :
    slab x (fun _ => BitVec.ofNat 32 t) (ix3 g hd j) = x (ix4 ⟨t, ht⟩ g hd j) := by
  unfold slab
  rw [dynamicSlice_eq_extract S1x4x16x64 x _ _ _ (slices_at t ht) (starts_eq t ht)]
  refine (shapeCast_apply _ _ _ (ix4 0 g hd j) ?_).trans ?_
  · rw [Shape.rowMajor_val_three, Shape.rowMajor_val_four]
    show ((0 * 4 + g.val) * 16 + hd.val) * 64 + j.val = (g.val * 16 + hd.val) * 64 + j.val
    omega
  · unfold extractStridedSlice
    refine congrArg x (funext fun a => Fin.ext ?_)
    match a with
    | ⟨0, _⟩ => show t + 0 = t; omega
    | ⟨1, _⟩ => show 0 + g.val = g.val; omega
    | ⟨2, _⟩ => show 0 + hd.val = hd.val; omega
    | ⟨3, _⟩ => show 0 + j.val = j.val; omega

/-- The state after a trip, of the state before and the trip's tokens. -/
abbrev newState (S : S4x16x64x64.Idx → EReal) (w k v a b : S4x16x64.Idx → EReal) : S4x16x64x64.Idx → EReal :=
  addf (F := Idealize.ShloMosaic.Ideal) (φ := .f32) (addf (F := Idealize.ShloMosaic.Ideal) (φ := .f32) (mulf (F := Idealize.ShloMosaic.Ideal) (φ := .f32) S (broadcastInDim S4x16x64x64 ![0, 1, 2, 3] bcast_S4x16x1x64_S4x16x64x64_0_1_2_3 (broadcastInDim S4x16x1x64 ![0, 1, 3] bcast_S4x16x64_S4x16x1x64_0_1_3 w)))
      (mulf (F := Idealize.ShloMosaic.Ideal) (φ := .f32) (broadcastInDim S4x16x64x64 ![0, 1, 2, 3] bcast_S4x16x64x1_S4x16x64x64_0_1_2_3 (broadcastInDim S4x16x64x1 ![0, 1, 2] bcast_S4x16x64_S4x16x64x1_0_1_2
          (Host.dotGeneral (F := Idealize.ShloMosaic.Ideal) (φ₁ := .f32) (φ₂ := .f32) dot_S4x16x64x64_S4x16x64_S4x16x64_3_2_2_n_01_01 none S a)))
        (broadcastInDim S4x16x64x64 ![0, 1, 2, 3] bcast_S4x16x1x64_S4x16x64x64_0_1_2_3 (broadcastInDim S4x16x1x64 ![0, 1, 3] bcast_S4x16x64_S4x16x1x64_0_1_3 b))))
    (mulf (F := Idealize.ShloMosaic.Ideal) (φ := .f32) (broadcastInDim S4x16x64x64 ![0, 1, 2, 3] bcast_S4x16x64x1_S4x16x64x64_0_1_2_3 (broadcastInDim S4x16x64x1 ![0, 1, 2] bcast_S4x16x64_S4x16x64x1_0_1_2 v))
      (broadcastInDim S4x16x64x64 ![0, 1, 2, 3] bcast_S4x16x1x64_S4x16x64x64_0_1_2_3 (broadcastInDim S4x16x1x64 ![0, 1, 3] bcast_S4x16x64_S4x16x1x64_0_1_3 k)))

theorem dot_apply (S : S4x16x64x64.Idx → EReal) (a : S4x16x64.Idx → EReal) (g : Fin 4) (hd : Fin 16) (i : Fin 64) :
    Host.dotGeneral (F := Idealize.ShloMosaic.Ideal) (φ₁ := .f32) (φ₂ := .f32) dot_S4x16x64x64_S4x16x64_S4x16x64_3_2_2_n_01_01 none S a (ix3 g hd i)
      = ∑ m : Fin 64, S (ix4 g hd i m) * a (ix3 g hd m) := by
  simp only [pointwise, zero_add]

theorem newState_apply (S : S4x16x64x64.Idx → EReal) (w k v a b : S4x16x64.Idx → EReal) (g : Fin 4) (hd : Fin 16) (i j : Fin 64) :
    newState S w k v a b (ix4 g hd i j) = S (ix4 g hd i j) * w (ix3 g hd j)
      + (∑ m : Fin 64, S (ix4 g hd i m) * a (ix3 g hd m)) * b (ix3 g hd j) + v (ix3 g hd i) * k (ix3 g hd j) := by
  simp only [newState, pointwise, zero_add]
  rfl

/-- The outputs with a trip's token put in. -/
abbrev newOut (y : S4352x4x16x64.Idx → EReal) (i : S_.Idx → BitVec 32) (o : S4x16x64.Idx → EReal) : S4352x4x16x64.Idx → EReal :=
  Host.dynamicUpdateSlice y (broadcastInDim S1x4x16x64 ![1, 2, 3] bcast_S4x16x64_S1x4x16x64_1_2_3 o) (starts i) updateFits_S4352x4x16x64_S1x4x16x64

theorem newOut_apply (y : S4352x4x16x64.Idx → EReal) (t : ℕ) (ht : t < 4352) (o : S4x16x64.Idx → EReal) (u : Fin 4352) (g : Fin 4) (hd : Fin 16)
    (j : Fin 64) : newOut y (fun _ => BitVec.ofNat 32 t) o (ix4 u g hd j) = if u.val = t then o (ix3 g hd j) else y (ix4 u g hd j) := by
  unfold newOut
  rw [dynamicUpdateSlice_eq_update y _ _ _ _ (slices_at t ht) (starts_eq t ht)]
  unfold updateSlice
  by_cases e : u.val = t
  · rw [if_pos e]
    refine (dif_pos fun a => ?_).trans ?_
    · match a with
      | ⟨0, _⟩ => show t ≤ u.val ∧ u.val < t + 1; omega
      | ⟨1, _⟩ => show 0 ≤ g.val ∧ g.val < 0 + 4; omega
      | ⟨2, _⟩ => show 0 ≤ hd.val ∧ hd.val < 0 + 16; omega
      | ⟨3, _⟩ => show 0 ≤ j.val ∧ j.val < 0 + 64; omega
    · unfold broadcastInDim
      refine congrArg o (funext fun a => Fin.ext ?_)
      match a with
      | ⟨0, _⟩ => rfl
      | ⟨1, _⟩ => rfl
      | ⟨2, _⟩ => rfl
  · rw [if_neg e]
    refine dif_neg fun h => ?_
    have h0 : t ≤ u.val ∧ u.val < t + 1 := h 0
    omega

/-- The six sequences as real numbers: time, sequence, head and place. -/
structure Seqs where
  r : ℕ → Fin 4 → Fin 16 → Fin 64 → ℝ
  w : ℕ → Fin 4 → Fin 16 → Fin 64 → ℝ
  k : ℕ → Fin 4 → Fin 16 → Fin 64 → ℝ
  v : ℕ → Fin 4 → Fin 16 → Fin 64 → ℝ
  a : ℕ → Fin 4 → Fin 16 → Fin 64 → ℝ
  b : ℕ → Fin 4 → Fin 16 → Fin 64 → ℝ

/-- The state of a sequence's head after `n` tokens. -/
def Seqs.state (Q : Seqs) (g : Fin 4) (hd : Fin 16) (n : ℕ) : Mat :=
  seqState (fun t => Q.w t g hd) (fun t => Q.k t g hd) (fun t => Q.v t g hd) (fun t => Q.a t g hd) (fun t => Q.b t g hd) 0 n

/-- The output at time `t`. -/
def Seqs.out (Q : Seqs) (g : Fin 4) (hd : Fin 16) (t : ℕ) (i : Fin 64) : ℝ := ∑ j, Q.state g hd (t + 1) i j * Q.r t g hd j

/-- An array holds a sequence. -/
def IsSeq (x : S4352x4x16x64.Idx → EReal) (f : ℕ → Fin 4 → Fin 16 → Fin 64 → ℝ) : Prop :=
  ∀ t (ht : t < 4352) g hd j, x (ix4 ⟨t, ht⟩ g hd j) = ((f t g hd j : ℝ) : EReal)

/-- The loop's buffers before trip `n`. -/
structure AtTrip (Q : Seqs) (n : ℕ) (V : Valuation τ sig (Elt Idealize.ShloMosaic.Ideal)) : Prop where
  r : IsSeq (V (Proc.devRef .tc main_v66_0)) Q.r
  w : IsSeq (V (Proc.devRef .tc main_v66_1)) Q.w
  k : IsSeq (V (Proc.devRef .tc main_v66_2)) Q.k
  v : IsSeq (V (Proc.devRef .tc main_v66_3)) Q.v
  a : IsSeq (V (Proc.devRef .tc main_v66_4)) Q.a
  b : IsSeq (V (Proc.devRef .tc main_v66_5)) Q.b
  ctr : V (Proc.devRef .tc main_v66_6) = fun _ => BitVec.ofNat 32 n
  state : ∀ g hd i j, (V (Proc.devRef .tc main_v66_7) : S4x16x64x64.Idx → EReal) (ix4 g hd i j) = ((Q.state g hd n i j : ℝ) : EReal)
  out : ∀ t (ht : t < 4352), t < n → ∀ g hd i, (V (Proc.devRef .tc main_v66_8) : S4352x4x16x64.Idx → EReal) (ix4 ⟨t, ht⟩ g hd i)
    = ((Q.out g hd t i : ℝ) : EReal)

/-- A real sum as a sum of extended reals. -/
theorem coe_sum64 (f : Fin 64 → ℝ) : ((∑ j, f j : ℝ) : EReal) = ∑ j, ((f j : ℝ) : EReal) := by
  have : ∀ s : Finset (Fin 64), ((∑ j ∈ s, f j : ℝ) : EReal) = ∑ j ∈ s, ((f j : ℝ) : EReal) := by
    intro s
    induction s using Finset.cons_induction with
    | empty => simp
    | cons a s ha ih => rw [Finset.sum_cons, Finset.sum_cons, EReal.coe_add, ih]
  exact this _

theorem newState_real {Q : Seqs} {n : ℕ} {V : Valuation τ sig (Elt Idealize.ShloMosaic.Ideal)} (H : AtTrip Q n V) (hn : n < 4352) (g : Fin 4) (hd : Fin 16)
    (i j : Fin 64) :
    newState (V (Proc.devRef .tc main_v66_7)) (slab (V (Proc.devRef .tc main_v66_1)) (fun _ => BitVec.ofNat 32 n)) (slab (V (Proc.devRef .tc main_v66_2)) (fun _ => BitVec.ofNat 32 n))
      (slab (V (Proc.devRef .tc main_v66_3)) (fun _ => BitVec.ofNat 32 n)) (slab (V (Proc.devRef .tc main_v66_4)) (fun _ => BitVec.ofNat 32 n))
      (slab (V (Proc.devRef .tc main_v66_5)) (fun _ => BitVec.ofNat 32 n)) (ix4 g hd i j) = ((Q.state g hd (n + 1) i j : ℝ) : EReal) := by
  refine (newState_apply _ _ _ _ _ _ g hd i j).trans ?_
  simp only [slab_apply _ n hn]
  rw [H.w n hn, H.b n hn, H.v n hn, H.k n hn]
  simp only [H.state, H.a n hn]
  show _ = ((Q.state g hd n i j * Q.w n g hd j + (∑ m, Q.state g hd n i m * Q.a n g hd m) * Q.b n g hd j + Q.v n g hd i * Q.k n g hd j : ℝ) : EReal)
  rw [EReal.coe_add, EReal.coe_add, EReal.coe_mul, EReal.coe_mul, EReal.coe_mul, coe_sum64]
  simp only [EReal.coe_mul]

/-- What a trip writes to the state is the new state of the trip's tokens. -/
theorem step_state (V : Valuation τ sig (Elt Idealize.ShloMosaic.Ideal)) :
    step_main_v66_7 V = newState (V (Proc.devRef .tc main_v66_7)) (slab (V (Proc.devRef .tc main_v66_1)) (V (Proc.devRef .tc main_v66_6))) (slab (V (Proc.devRef .tc main_v66_2)) (V (Proc.devRef .tc main_v66_6)))
      (slab (V (Proc.devRef .tc main_v66_3)) (V (Proc.devRef .tc main_v66_6))) (slab (V (Proc.devRef .tc main_v66_4)) (V (Proc.devRef .tc main_v66_6)))
      (slab (V (Proc.devRef .tc main_v66_5)) (V (Proc.devRef .tc main_v66_6))) := rfl

/-- What a trip writes to the outputs is its token's product with the new state. -/
theorem step_out (V : Valuation τ sig (Elt Idealize.ShloMosaic.Ideal)) :
    step_main_v66_8 V = newOut (V (Proc.devRef .tc main_v66_8)) (V (Proc.devRef .tc main_v66_6))
      (Host.dotGeneral (F := Idealize.ShloMosaic.Ideal) (φ₁ := .f32) (φ₂ := .f32) dot_S4x16x64x64_S4x16x64_S4x16x64_3_2_2_n_01_01 none (step_main_v66_7 V)
        (slab (V (Proc.devRef .tc main_v66_0)) (V (Proc.devRef .tc main_v66_6)))) := by
  rw [show step_main_v66_7 V = res_main_while0b_v98 V from rfl]
  rfl

/-- One trip. -/
theorem AtTrip.step {Q : Seqs} {n : ℕ} {V : Valuation τ sig (Elt Idealize.ShloMosaic.Ideal)} (H : AtTrip Q n V) (hn : n < 4352) :
    AtTrip Q (n + 1) (STEP V) where
  r := by rw [STEP_main_v66_0]; exact H.r
  w := by rw [STEP_main_v66_1]; exact H.w
  k := by rw [STEP_main_v66_2]; exact H.k
  v := by rw [STEP_main_v66_3]; exact H.v
  a := by rw [STEP_main_v66_4]; exact H.a
  b := by rw [STEP_main_v66_5]; exact H.b
  ctr := by
    rw [STEP_main_v66_6]
    show addi (V (Proc.devRef .tc main_v66_6)) (constantI S_ 32 1#32) = _
    rw [H.ctr]
    funext _
    show BitVec.ofNat 32 n + 1#32 = BitVec.ofNat 32 (n + 1)
    exact (BitVec.ofNat_add n 1).symm
  state g hd i j := by
    rw [STEP_main_v66_7, step_state V, H.ctr]
    exact newState_real H hn g hd i j
  out t ht htn g hd i := by
    rw [STEP_main_v66_8, step_out V, H.ctr]
    refine (newOut_apply _ n hn _ _ _ _ _).trans ?_
    by_cases e : t = n
    · subst e
      rw [if_pos rfl, dot_apply, step_state V, H.ctr]
      unfold Seqs.out
      rw [coe_sum64]
      refine Finset.sum_congr rfl fun j _ => ?_
      exact (congrArg₂ (· * ·) (newState_real H hn g hd i j) ((slab_apply _ t hn g hd j).trans (H.r t hn g hd j))).trans (EReal.coe_mul _ _).symm
    · rw [if_neg e]
      exact H.out t ht (by omega) g hd i

/-- All trips. -/
theorem AtTrip.iterate {Q : Seqs} {V : Valuation τ sig (Elt Idealize.ShloMosaic.Ideal)} (H : AtTrip Q 0 V) (n : ℕ) (hn : n ≤ 4352) :
    AtTrip Q n (STEP^[n] V) := by
  induction n with
  | zero => exact H
  | succ n ih =>
    rw [Function.iterate_succ_apply']
    exact (ih (by omega)).step (by omega)

end Cert.ReferenceIdeal.Scan
-- ==== Proof.RefEntry.lean ====
/- What the reference's loop starts from, and what its results make of the outputs: the tokens in each direction's order. -/
module

public import proofs.«01_k».proof.Proof.RefStep

@[expose] public section

set_option maxRecDepth 16384

noncomputable section

namespace Cert.ReferenceIdeal.Scan

open Idealize.ShloMosaic Idealize.ShloMosaic.TcCoe Idealize.SL.Sem
open Cert.ReferenceIdeal Cert.ReferenceIdeal.Gen Cert.ReferenceIdeal.Value
open DeltaRule Idealize.ShloMosaic.StableHlo

variable (m : (ℓ : Loc nD τ sig) → Buf (Elt Idealize.ShloMosaic.Ideal) ℓ) (c : Dev nD)

/-- Two stretches of tokens end to end. -/
abbrev cat1 (a : S2x256x16x64.Idx → EReal) (b : S2x4096x16x64.Idx → EReal) : S2x4352x16x64.Idx → EReal :=
  concatenate S2x4352x16x64 1 [⟨S2x256x16x64, a⟩, ⟨S2x4096x16x64, b⟩] concatenates_S2x256x16x64_S2x4096x16x64_S2x4352x16x64_d1

/-- A direction's order of the tokens: the context's backwards and then the latents' backwards. -/
abbrev ord (x : S2x4352x16x64.Idx → EReal) : S2x4352x16x64.Idx → EReal :=
  cat1 (Host.reverse [1] (extractStridedSlice S2x256x16x64 ![0, 0, 0, 0] x slices_S2x4352x16x64_S2x256x16x64_0_0_0_0))
    (Host.reverse [1] (extractStridedSlice S2x4096x16x64 ![0, 256, 0, 0] x slices_S2x4352x16x64_S2x4096x16x64_0_256_0_0))

/-- The two directions as one batch. -/
abbrev both (a b : S2x4352x16x64.Idx → EReal) : S4x4352x16x64.Idx → EReal :=
  concatenate S4x4352x16x64 0 [⟨S2x4352x16x64, a⟩, ⟨S2x4352x16x64, b⟩] concatenates_S2x4352x16x64_S2x4352x16x64_S4x4352x16x64_d0

/-- The time as the leading axis. -/
abbrev timeFirst (x : S4x4352x16x64.Idx → EReal) : S4352x4x16x64.Idx → EReal :=
  transpose S4352x4x16x64 [1, 0, 2, 3] x transposes_S4x4352x16x64_S4352x4x16x64_1_0_2_3

/-- Direction 0 of an argument with an axis of directions. -/
abbrev dir0 (x : S2x2x4352x16x64.Idx → EReal) : S2x4352x16x64.Idx → EReal :=
  shapeCast S2x4352x16x64 (extractStridedSlice S1x2x4352x16x64 ![0, 0, 0, 0, 0] x slices_S2x2x4352x16x64_S1x2x4352x16x64_0_0_0_0_0) shapeCasts_S1x2x4352x16x64_S2x4352x16x64

/-- Direction 1 of it. -/
abbrev dir1 (x : S2x2x4352x16x64.Idx → EReal) : S2x4352x16x64.Idx → EReal :=
  shapeCast S2x4352x16x64 (extractStridedSlice S1x2x4352x16x64 ![1, 0, 0, 0, 0] x slices_S2x2x4352x16x64_S1x2x4352x16x64_1_0_0_0_0) shapeCasts_S1x2x4352x16x64_S2x4352x16x64

/-- Two to an exponent. -/
abbrev exp2 (x : S2x4352x16x64.Idx → EReal) : S2x4352x16x64.Idx → EReal :=
  Host.exp (F := Idealize.ShloMosaic.Ideal) (φ := .f32) (mulf (F := Idealize.ShloMosaic.Ideal) (φ := .f32)
    (broadcastInDim S2x4352x16x64 ![] bcast_S_S2x4352x16x64 (constant S_ .f32 0x3F317218#32)) x)

/-- A product. -/
abbrev times (x y : S2x4352x16x64.Idx → EReal) : S2x4352x16x64.Idx → EReal := mulf (F := Idealize.ShloMosaic.Ideal) (φ := .f32) x y

/-- An argument negated. -/
abbrev minus (x : S2x4352x16x64.Idx → EReal) : S2x4352x16x64.Idx → EReal := Host.negf (F := Idealize.ShloMosaic.Ideal) (φ := .f32) x

set_option maxHeartbeats 4000000 in
/-- The sequence `r` at the loop's entry. -/
theorem entry_r : entryContents preI m c (Proc.devRef .tc main_v66_0) = timeFirst (both ((m ((c.tc : Thread nD τ).loc main_arg0))) (ord ((m ((c.tc : Thread nD τ).loc main_arg0))))) := by
  simp only [entryContents, afterL_cons, afterL_nil]
  after_results_entrywise []

set_option maxHeartbeats 4000000 in
/-- The sequence `w` at the loop's entry. -/
theorem entry_w : entryContents preI m c (Proc.devRef .tc main_v66_1) = timeFirst (both (exp2 (dir0 (m ((c.tc : Thread nD τ).loc main_arg3)))) (ord (exp2 (dir1 (m ((c.tc : Thread nD τ).loc main_arg3)))))) := by
  simp only [entryContents, afterL_cons, afterL_nil]
  after_results_entrywise []

set_option maxHeartbeats 4000000 in
/-- The sequence `k` at the loop's entry. -/
theorem entry_k : entryContents preI m c (Proc.devRef .tc main_v66_2) = timeFirst (both (dir0 (m ((c.tc : Thread nD τ).loc main_arg5))) (ord (dir1 (m ((c.tc : Thread nD τ).loc main_arg5))))) := by
  simp only [entryContents, afterL_cons, afterL_nil]
  after_results_entrywise []

set_option maxHeartbeats 4000000 in
/-- The sequence `v` at the loop's entry. -/
theorem entry_v : entryContents preI m c (Proc.devRef .tc main_v66_3) = timeFirst (both ((m ((c.tc : Thread nD τ).loc main_arg1))) (ord ((m ((c.tc : Thread nD τ).loc main_arg1))))) := by
  simp only [entryContents, afterL_cons, afterL_nil]
  after_results_entrywise []

set_option maxHeartbeats 4000000 in
/-- The sequence `a` at the loop's entry. -/
theorem entry_a : entryContents preI m c (Proc.devRef .tc main_v66_4) = timeFirst (both (minus (m ((c.tc : Thread nD τ).loc main_arg2))) (ord (minus (m ((c.tc : Thread nD τ).loc main_arg2))))) := by
  simp only [entryContents, afterL_cons, afterL_nil]
  after_results_entrywise []

set_option maxHeartbeats 4000000 in
/-- The sequence `b` at the loop's entry. -/
theorem entry_b : entryContents preI m c (Proc.devRef .tc main_v66_5) = timeFirst (both (times (m ((c.tc : Thread nD τ).loc main_arg2)) (dir0 (m ((c.tc : Thread nD τ).loc main_arg4)))) (ord (times (m ((c.tc : Thread nD τ).loc main_arg2)) (dir1 (m ((c.tc : Thread nD τ).loc main_arg4)))))) := by
  simp only [entryContents, afterL_cons, afterL_nil]
  after_results_entrywise []

set_option maxHeartbeats 4000000 in
/-- The state at the loop's entry is zero. -/
theorem entry_state : entryContents preI m c (Proc.devRef .tc main_v66_7)
    = broadcastInDim S4x16x64x64 ![] bcast_S_S4x16x64x64 (constant (F := Idealize.ShloMosaic.Ideal) S_ .f32 0x00000000#32) := by
  simp only [entryContents, afterL_cons, afterL_nil]
  after_results_entrywise []

/-! ## The pieces at an index -/

/-- Where a direction-1 time lies in the sequence. -/
def turn (t : ℕ) : ℕ := if t < 256 then 255 - t else 4607 - t

theorem turn_lt (t : ℕ) (ht : t < 4352) : turn t < 4352 := by unfold turn; split_ifs <;> omega

theorem turn_turn (t : ℕ) (ht : t < 4352) : turn (turn t) = t := by unfold turn; split_ifs <;> omega

set_option maxHeartbeats 1000000 in
theorem ord_apply (x : S2x4352x16x64.Idx → EReal) (b : Fin 2) (t : Fin 4352) (hd : Fin 16) (j : Fin 64) :
    ord x (ix4 b t hd j) = x (ix4 b ⟨turn t.val, turn_lt _ t.isLt⟩ hd j) := by
  simp only [ord, cat1, pointwise]
  by_cases h : t.val < 256
  · refine (dif_pos h).trans ?_
    refine congrArg x (funext fun a => Fin.ext ?_)
    have e : turn t.val = 255 - t.val := if_pos h
    match a with
    | ⟨0, _⟩ => show 0 + b.val = b.val; omega
    | ⟨1, _⟩ => show 0 + (256 - (t.val + 1)) = turn t.val; rw [e]; omega
    | ⟨2, _⟩ => show 0 + hd.val = hd.val; omega
    | ⟨3, _⟩ => show 0 + j.val = j.val; omega
  · refine (dif_neg h).trans ?_
    refine congrArg x (funext fun a => Fin.ext ?_)
    have e : turn t.val = 4607 - t.val := if_neg h
    match a with
    | ⟨0, _⟩ => show 0 + b.val = b.val; omega
    | ⟨1, _⟩ => show 256 + (4096 - (t.val - 256 + 1)) = turn t.val; rw [e]; omega
    | ⟨2, _⟩ => show 0 + hd.val = hd.val; omega
    | ⟨3, _⟩ => show 0 + j.val = j.val; omega

theorem both_apply0 (x y : S2x4352x16x64.Idx → EReal) (g : Fin 4) (hg : g.val < 2) (t : Fin 4352) (hd : Fin 16) (j : Fin 64) :
    timeFirst (both x y) (ix4 t g hd j) = x (ix4 ⟨g.val, hg⟩ t hd j) := by
  simp only [timeFirst, both, pointwise]
  exact dif_pos hg

theorem both_apply1 (x y : S2x4352x16x64.Idx → EReal) (g : Fin 4) (hg : ¬ g.val < 2) (t : Fin 4352) (hd : Fin 16) (j : Fin 64) :
    timeFirst (both x y) (ix4 t g hd j) = y (ix4 ⟨g.val - 2, by omega⟩ t hd j) := by
  simp only [timeFirst, both, pointwise]
  exact dif_neg hg

theorem dir0_apply (x : S2x2x4352x16x64.Idx → EReal) (b : Fin 2) (t : Fin 4352) (hd : Fin 16) (j : Fin 64) :
    dir0 x (ix4 b t hd j) = x (ix5 0 b t hd j) := by
  unfold dir0
  refine (shapeCast_apply _ _ _ (ix5 0 b t hd j) ?_).trans ?_
  · rw [Shape.rowMajor_val_four, Shape.rowMajor_val_five]
    show (((0 * 2 + b.val) * 4352 + t.val) * 16 + hd.val) * 64 + j.val = ((b.val * 4352 + t.val) * 16 + hd.val) * 64 + j.val
    omega
  · unfold extractStridedSlice
    refine congrArg x (funext fun a => Fin.ext ?_)
    match a with
    | ⟨0, _⟩ => rfl
    | ⟨1, _⟩ => show 0 + b.val = b.val; omega
    | ⟨2, _⟩ => show 0 + t.val = t.val; omega
    | ⟨3, _⟩ => show 0 + hd.val = hd.val; omega
    | ⟨4, _⟩ => show 0 + j.val = j.val; omega

theorem dir1_apply (x : S2x2x4352x16x64.Idx → EReal) (b : Fin 2) (t : Fin 4352) (hd : Fin 16) (j : Fin 64) :
    dir1 x (ix4 b t hd j) = x (ix5 1 b t hd j) := by
  unfold dir1
  refine (shapeCast_apply _ _ _ (ix5 0 b t hd j) ?_).trans ?_
  · rw [Shape.rowMajor_val_four, Shape.rowMajor_val_five]
    show (((0 * 2 + b.val) * 4352 + t.val) * 16 + hd.val) * 64 + j.val = ((b.val * 4352 + t.val) * 16 + hd.val) * 64 + j.val
    omega
  · unfold extractStridedSlice
    refine congrArg x (funext fun a => Fin.ext ?_)
    match a with
    | ⟨0, _⟩ => rfl
    | ⟨1, _⟩ => show 0 + b.val = b.val; omega
    | ⟨2, _⟩ => show 0 + t.val = t.val; omega
    | ⟨3, _⟩ => show 0 + hd.val = hd.val; omega
    | ⟨4, _⟩ => show 0 + j.val = j.val; omega

theorem exp2_apply (x : S2x4352x16x64.Idx → EReal) (i : S2x4352x16x64.Idx) (y : ℝ) (h : x i = ((y : ℝ) : EReal)) :
    exp2 x i = ((Real.exp (ln2 * y) : ℝ) : EReal) := by
  show Idealize.ShloMosaic.Ideal.exp ((Idealize.ShloMosaic.Ideal.ofBits .f32 1060205080#32 : EReal) * x i) = _
  rw [h, ofBits_ln2, ← EReal.coe_mul]
  rfl

/-! ## The sequences over real arguments -/

/-- The direction of a member of the batch. -/
def dirOf (g : Fin 4) : Fin 2 := ⟨g.val / 2, by omega⟩
/-- The pair of a head. -/
def pairOf (hd : Fin 16) : Fin 8 := ⟨hd.val / 2, by omega⟩
/-- The head's place in its pair. -/
def halfOf (hd : Fin 16) : Fin 2 := ⟨hd.val % 2, by omega⟩

/-- An array holds a real argument with no axis of directions. -/
def IsTok (x : S2x4352x16x64.Idx → EReal) (f : ℕ → Fin 8 → Fin 2 → Fin 64 → ℝ) : Prop :=
  ∀ (b : Fin 2) (t : Fin 4352) (hd : Fin 16) (j : Fin 64), x (ix4 b t hd j) = ((f (4352 * b.val + t.val) (pairOf hd) (halfOf hd) j : ℝ) : EReal)

theorem isTok_of_at4 {x : S2x4352x16x64.Idx → EReal} {f : ℕ → Fin 8 → Fin 2 → Fin 64 → ℝ}
    (h : ∀ T hT q h j, x (at4 T hT q h j) = ((f T q h j : ℝ) : EReal)) : IsTok x f := fun b t hd j => by
  refine Eq.trans (congrArg x (funext fun a => Fin.ext ?_)) (h (4352 * b.val + t.val) (by omega) (pairOf hd) (halfOf hd) j)
  match a with
  | ⟨0, _⟩ => show b.val = (4352 * b.val + t.val) / 4352; omega
  | ⟨1, _⟩ => show t.val = (4352 * b.val + t.val) % 4352; omega
  | ⟨2, _⟩ => show hd.val = 2 * (hd.val / 2) + hd.val % 2; omega
  | ⟨3, _⟩ => rfl

theorem isTok_of_at5 {x : S2x2x4352x16x64.Idx → EReal} {f : Fin 2 → ℕ → Fin 8 → Fin 2 → Fin 64 → ℝ}
    (h : ∀ d T hT q h j, x (at5 d T hT q h j) = ((f d T q h j : ℝ) : EReal)) (d : Fin 2) (b : Fin 2) (t : Fin 4352) (hd : Fin 16) (j : Fin 64) :
    x (ix5 d b t hd j) = ((f d (4352 * b.val + t.val) (pairOf hd) (halfOf hd) j : ℝ) : EReal) := by
  refine Eq.trans (congrArg x (funext fun a => Fin.ext ?_)) (h d (4352 * b.val + t.val) (by omega) (pairOf hd) (halfOf hd) j)
  match a with
  | ⟨0, _⟩ => rfl
  | ⟨1, _⟩ => show b.val = (4352 * b.val + t.val) / 4352; omega
  | ⟨2, _⟩ => show t.val = (4352 * b.val + t.val) % 4352; omega
  | ⟨3, _⟩ => show hd.val = 2 * (hd.val / 2) + hd.val % 2; omega
  | ⟨4, _⟩ => rfl

/-- Both directions' orders of a token. -/
theorem isSeq_both {x y : S2x4352x16x64.Idx → EReal} {f : Fin 2 → ℕ → Fin 8 → Fin 2 → Fin 64 → ℝ} (hx : IsTok x (f 0)) (hy : IsTok y (f 1)) :
    IsSeq (timeFirst (both x (ord y))) (fun t g hd j => f (dirOf g) (tokAt (dirOf g) (g.val % 2) t) (pairOf hd) (halfOf hd) j) := by
  intro t ht g hd j
  by_cases hg : g.val < 2
  · have e : dirOf g = 0 := Fin.ext (by show g.val / 2 = 0; omega)
    have e2 : g.val % 2 = g.val := by omega
    show _ = ((f (dirOf g) (tokAt (dirOf g) (g.val % 2) t) (pairOf hd) (halfOf hd) j : ℝ) : EReal)
    rw [both_apply0 _ _ g hg, hx, e, e2]; rfl
  · have e : dirOf g = 1 := Fin.ext (by show g.val / 2 = 1; omega)
    have e2 : g.val % 2 = g.val - 2 := by omega
    show _ = ((f (dirOf g) (tokAt (dirOf g) (g.val % 2) t) (pairOf hd) (halfOf hd) j : ℝ) : EReal)
    rw [both_apply1 _ _ g hg, ord_apply, hy, e, e2]; rfl

variable (A : Args)

/-- The reference's sequences. -/
def seqs : Seqs where
  r t g hd j := rSeq A (dirOf g) (g.val % 2) (pairOf hd) (halfOf hd) t j
  w t g hd j := wSeq A (dirOf g) (g.val % 2) (pairOf hd) (halfOf hd) t j
  k t g hd j := kSeq A (dirOf g) (g.val % 2) (pairOf hd) (halfOf hd) t j
  v t g hd j := vSeq A (dirOf g) (g.val % 2) (pairOf hd) (halfOf hd) t j
  a t g hd j := aSeq A (dirOf g) (g.val % 2) (pairOf hd) (halfOf hd) t j
  b t g hd j := bSeq A (dirOf g) (g.val % 2) (pairOf hd) (halfOf hd) t j

variable {m c A}

/-- The loop starts on the sequences. -/
theorem entry (H : Reads A (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))) :
    AtTrip (seqs A) 0 (entryContents preI m c) where
  r := by rw [entry_r]; exact isSeq_both (f := fun _ => A.r) (isTok_of_at4 H.r) (isTok_of_at4 H.r)
  w := by
    rw [entry_w]
    exact isSeq_both (f := fun d T q h j => Real.exp (ln2 * A.lw d T q h j))
      (fun b t hd j => exp2_apply _ _ _ ((dir0_apply _ b t hd j).trans (isTok_of_at5 H.lw 0 b t hd j)))
      (fun b t hd j => exp2_apply _ _ _ ((dir1_apply _ b t hd j).trans (isTok_of_at5 H.lw 1 b t hd j)))
  k := by
    rw [entry_k]
    exact isSeq_both (f := A.kd) (fun b t hd j => (dir0_apply _ b t hd j).trans (isTok_of_at5 H.kd 0 b t hd j))
      (fun b t hd j => (dir1_apply _ b t hd j).trans (isTok_of_at5 H.kd 1 b t hd j))
  v := by rw [entry_v]; exact isSeq_both (f := fun _ => A.v) (isTok_of_at4 H.v) (isTok_of_at4 H.v)
  a := by
    rw [entry_a]
    have e : IsTok (minus (m ((c.tc : Thread nD τ).loc main_arg2))) (fun T q h j => -A.kk T q h j) := fun b t hd j => by
      show -(_ : EReal) = _
      rw [isTok_of_at4 H.kk b t hd j, EReal.coe_neg]
    exact isSeq_both (f := fun _ T q h j => -A.kk T q h j) e e
  b := by
    rw [entry_b]
    refine isSeq_both (f := fun d T q h j => A.kk T q h j * A.a d T q h j) (fun b t hd j => ?_) (fun b t hd j => ?_)
    · exact (congrArg₂ (· * ·) (isTok_of_at4 H.kk b t hd j) ((dir0_apply _ b t hd j).trans (isTok_of_at5 H.a 0 b t hd j))).trans (EReal.coe_mul _ _).symm
    · exact (congrArg₂ (· * ·) (isTok_of_at4 H.kk b t hd j) ((dir1_apply _ b t hd j).trans (isTok_of_at5 H.a 1 b t hd j))).trans (EReal.coe_mul _ _).symm
  ctr := ctr_entry m c
  state g hd i j := by
    rw [entry_state]
    show (Idealize.ShloMosaic.Ideal.ofBits .f32 0x00000000#32 : EReal) = ((0 : ℝ) : EReal)
    rw [Idealize.ShloMosaic.Ideal.ofBits_zero]; rfl
  out t ht h0 := absurd h0 (Nat.not_lt_zero t)

/-! ## The results -/

/-- Column `128 q + 64 h + j` of a result's row. -/
def col (q : Fin 8) (h : Fin 2) (j : Fin 64) : Fin 1024 := ⟨128 * q.val + (64 * h.val + j.val), by omega⟩

theorem flat_apply (z : S2x4352x16x64.Idx → EReal) (T : ℕ) (hT : T < 8704) (q : Fin 8) (h : Fin 2) (j : Fin 64) :
    shapeCast S8704x1024 z shapeCasts_S2x4352x16x64_S8704x1024 (ix2 ⟨T, hT⟩ (col q h j)) = z (at4 T hT q h j) := by
  refine shapeCast_apply _ _ _ _ ?_
  unfold at4 col
  rw [Shape.rowMajor_val_four, Shape.rowMajor_val_two]
  show ((T / 4352 * 4352 + T % 4352) * 16 + (2 * q.val + h.val)) * 64 + j.val = T * 1024 + (128 * q.val + (64 * h.val + j.val))
  omega

theorem half0_apply (y : S4352x4x16x64.Idx → EReal) (b : Fin 2) (t : Fin 4352) (hd : Fin 16) (j : Fin 64) :
    extractStridedSlice S2x4352x16x64 ![0, 0, 0, 0] (transpose S4x4352x16x64 [1, 0, 2, 3] y transposes_S4352x4x16x64_S4x4352x16x64_1_0_2_3) slices_S4x4352x16x64_S2x4352x16x64_0_0_0_0
      (ix4 b t hd j) = y (ix4 t ⟨b.val, by omega⟩ hd j) := by
  simp only [pointwise]
  refine congrArg y (funext fun a => Fin.ext ?_)
  match a with
  | ⟨0, _⟩ => show 0 + t.val = t.val; omega
  | ⟨1, _⟩ => show 0 + b.val = b.val; omega
  | ⟨2, _⟩ => show 0 + hd.val = hd.val; omega
  | ⟨3, _⟩ => show 0 + j.val = j.val; omega

theorem half1_apply (y : S4352x4x16x64.Idx → EReal) (b : Fin 2) (t : Fin 4352) (hd : Fin 16) (j : Fin 64) :
    extractStridedSlice S2x4352x16x64 ![2, 0, 0, 0] (transpose S4x4352x16x64 [1, 0, 2, 3] y transposes_S4352x4x16x64_S4x4352x16x64_1_0_2_3) slices_S4x4352x16x64_S2x4352x16x64_2_0_0_0
      (ix4 b t hd j) = y (ix4 t ⟨2 + b.val, by omega⟩ hd j) := by
  simp only [pointwise]
  refine congrArg y (funext fun a => Fin.ext ?_)
  match a with
  | ⟨0, _⟩ => show 0 + t.val = t.val; omega
  | ⟨1, _⟩ => show 2 + b.val = 2 + b.val; rfl
  | ⟨2, _⟩ => show 0 + hd.val = hd.val; omega
  | ⟨3, _⟩ => show 0 + j.val = j.val; omega

theorem state_seqs (g : Fin 4) (hd : Fin 16) (n : ℕ) : (seqs A).state g hd n = stateAt A (dirOf g) (g.val % 2) (pairOf hd) (halfOf hd) n := rfl

theorem out_seqs (g : Fin 4) (hd : Fin 16) (t : ℕ) (i : Fin 64) : (seqs A).out g hd t i = outAt A (dirOf g) (g.val % 2) (pairOf hd) (halfOf hd) t i := rfl

/-- Direction 0's result is the scan's output. -/
theorem result0 {V : Valuation τ sig (Elt Idealize.ShloMosaic.Ideal)} (H : AtTrip (seqs A) 4352 V) (b t : ℕ) (hb : b < 2) (ht : t < 4352) (q : Fin 8)
    (h : Fin 2) (j : Fin 64) : (out_main_v69 V : S8704x1024.Idx → EReal) (ix2 ⟨tokAt 0 b t, tokAt_lt 0 b t hb ht⟩ (col q h j)) = ((outAt A 0 b q h t j : ℝ) : EReal) := by
  refine (flat_apply _ _ (tokAt_lt 0 b t hb ht) q h j).trans ?_
  refine (half0_apply _ _ _ _ _).trans ?_
  refine (H.out _ (Nat.mod_lt _ (by omega)) (Nat.mod_lt _ (by omega)) _ _ _).trans ?_
  rw [out_seqs]
  have e0 : tokAt 0 b t = 4352 * b + t := rfl
  have e1 : tokAt 0 b t / 4352 = b := by rw [e0]; omega
  have e2 : tokAt 0 b t % 4352 = t := by rw [e0]; omega
  have e3 : dirOf ⟨tokAt 0 b t / 4352, by omega⟩ = 0 := Fin.ext (by show tokAt 0 b t / 4352 / 2 = 0; omega)
  have e4 : pairOf ⟨2 * q.val + h.val, by omega⟩ = q := Fin.ext (by show (2 * q.val + h.val) / 2 = q.val; omega)
  have e5 : halfOf ⟨2 * q.val + h.val, by omega⟩ = h := Fin.ext (by show (2 * q.val + h.val) % 2 = h.val; omega)
  have e6 : tokAt 0 b t / 4352 % 2 = b := by omega
  show ((outAt A (dirOf ⟨tokAt 0 b t / 4352, _⟩) (tokAt 0 b t / 4352 % 2) (pairOf ⟨2 * q.val + h.val, _⟩) (halfOf ⟨2 * q.val + h.val, _⟩) (tokAt 0 b t % 4352) j : ℝ) : EReal) = _
  rw [e3, e4, e5, e6, e2]

/-- Direction 1's result is the scan's output. -/
theorem result1 {V : Valuation τ sig (Elt Idealize.ShloMosaic.Ideal)} (H : AtTrip (seqs A) 4352 V) (b t : ℕ) (hb : b < 2) (ht : t < 4352) (q : Fin 8)
    (h : Fin 2) (j : Fin 64) : (out_main_v76 V : S8704x1024.Idx → EReal) (ix2 ⟨tokAt 1 b t, tokAt_lt 1 b t hb ht⟩ (col q h j)) = ((outAt A 1 b q h t j : ℝ) : EReal) := by
  refine (flat_apply _ _ (tokAt_lt 1 b t hb ht) q h j).trans ?_
  refine (ord_apply _ _ _ _ _).trans ?_
  refine (half1_apply _ _ _ _ _).trans ?_
  refine (H.out _ (turn_lt _ (Nat.mod_lt _ (by omega))) (turn_lt _ (Nat.mod_lt _ (by omega))) _ _ _).trans ?_
  rw [out_seqs]
  have e0 : tokAt 1 b t = 4352 * b + turn t := rfl
  have el := turn_lt t ht
  have e1 : tokAt 1 b t / 4352 = b := by rw [e0]; omega
  have e2 : tokAt 1 b t % 4352 = turn t := by rw [e0]; omega
  have e3 : dirOf ⟨2 + tokAt 1 b t / 4352, by omega⟩ = 1 := Fin.ext (by show (2 + tokAt 1 b t / 4352) / 2 = 1; omega)
  have e4 : pairOf ⟨2 * q.val + h.val, by omega⟩ = q := Fin.ext (by show (2 * q.val + h.val) / 2 = q.val; omega)
  have e5 : halfOf ⟨2 * q.val + h.val, by omega⟩ = h := Fin.ext (by show (2 * q.val + h.val) % 2 = h.val; omega)
  have e6 : (2 + tokAt 1 b t / 4352) % 2 = b := by omega
  show ((outAt A (dirOf ⟨2 + tokAt 1 b t / 4352, _⟩) ((2 + tokAt 1 b t / 4352) % 2) (pairOf ⟨2 * q.val + h.val, _⟩) (halfOf ⟨2 * q.val + h.val, _⟩) (turn (tokAt 1 b t % 4352)) j : ℝ) : EReal) = _
  rw [e3, e4, e5, e6, e2, turn_turn t ht]

end Cert.ReferenceIdeal.Scan
-- ==== Proof.Finite.lean ====
/- Real arguments: the precondition says of every entry that it is a real number. -/
module

public import proofs.«01_k».proof.Proof.Recurrence
public import proofs.«01_k».proof.Proof.Gen.Pre_finite

@[expose] public section

set_option maxRecDepth 16384

noncomputable section

namespace DeltaRule

open Idealize.ShloMosaic
open Cert.Pre_finite

/-- Both bits of a conjunction are set when it is. -/
theorem both_bits : ∀ a b : BitVec 1, a &&& b = 1#1 → a = 1#1 ∧ b = 1#1 := by decide

/-- The float word of infinity denotes the greatest extended real. -/
theorem ofBits_top : (Idealize.ShloMosaic.Ideal.ofBits .f32 0x7F800000#32 : EReal) = ⊤ := by
  simp [Idealize.ShloMosaic.Ideal.ofBits, Idealize.ShloMosaic.Ideal.ieee]

/-- An extended real of absolute value below infinity is a real number. -/
theorem real_of_abs (x : EReal) (h : Idealize.ShloMosaic.Ideal.cmp .olt (max x (-x)) (Idealize.ShloMosaic.Ideal.ofBits .f32 0x7F800000#32 : EReal) = 1#1) :
    x = ((x.toReal : ℝ) : EReal) := by
  rw [ofBits_top] at h
  have h' : max x (-x) < ⊤ := by
    by_contra hn
    simp [Idealize.ShloMosaic.Ideal.cmp, hn] at h
  refine (EReal.coe_toReal ?_ ?_).symm
  · rintro rfl
    simp at h'
  · rintro rfl
    simp at h'

variable (x0 x1 x2 : S2x4352x16x64.Idx → EReal) (x3 x4 x5 : S2x2x4352x16x64.Idx → EReal)

/-- What the precondition says at one entry. -/
theorem entry_real [Facts] (e : fn (F := Ideal) x0 x1 x2 x3 x4 x5 = fun _ => 1#1) (d : Fin 2) (b : Fin 2) (t : Fin 4352) (hd : Fin 16) (j : Fin 64) :
    (x0 (ix4 b t hd j) = (((x0 (ix4 b t hd j)).toReal : ℝ) : EReal) ∧ x1 (ix4 b t hd j) = (((x1 (ix4 b t hd j)).toReal : ℝ) : EReal)
      ∧ x2 (ix4 b t hd j) = (((x2 (ix4 b t hd j)).toReal : ℝ) : EReal))
    ∧ x3 (ix5 d b t hd j) = (((x3 (ix5 d b t hd j)).toReal : ℝ) : EReal) ∧ x4 (ix5 d b t hd j) = (((x4 (ix5 d b t hd j)).toReal : ℝ) : EReal)
      ∧ x5 (ix5 d b t hd j) = (((x5 (ix5 d b t hd j)).toReal : ℝ) : EReal) := by
  have e' := congrFun e (ix5 d b t hd j)
  simp only [fn, fn_part1, andi, IntOp.andi, cmpf, Host.absf, constant, pointwise] at e'
  obtain ⟨e', h5⟩ := both_bits _ _ e'
  obtain ⟨e', h4⟩ := both_bits _ _ e'
  obtain ⟨e', h3⟩ := both_bits _ _ e'
  obtain ⟨e', h2⟩ := both_bits _ _ e'
  obtain ⟨h0, h1⟩ := both_bits _ _ e'
  exact ⟨⟨real_of_abs _ h0, real_of_abs _ h1, real_of_abs _ h2⟩, real_of_abs _ h3, real_of_abs _ h4, real_of_abs _ h5⟩

/-- The arguments' real numbers. -/
def argsOf : Args where
  r T q h j := if hT : T < 8704 then (x0 (at4 T hT q h j)).toReal else 0
  v T q h j := if hT : T < 8704 then (x1 (at4 T hT q h j)).toReal else 0
  kk T q h j := if hT : T < 8704 then (x2 (at4 T hT q h j)).toReal else 0
  lw d T q h j := if hT : T < 8704 then (x3 (at5 d T hT q h j)).toReal else 0
  a d T q h j := if hT : T < 8704 then (x4 (at5 d T hT q h j)).toReal else 0
  kd d T q h j := if hT : T < 8704 then (x5 (at5 d T hT q h j)).toReal else 0

/-- Under the precondition the arguments are those real numbers. -/
theorem reads [Facts] (e : fn (F := Ideal) x0 x1 x2 x3 x4 x5 = fun _ => 1#1) : Reads (argsOf x0 x1 x2 x3 x4 x5) x0 x1 x2 x3 x4 x5 where
  r T hT q h j := by
    show _ = ((dite _ _ _ : ℝ) : EReal)
    rw [dif_pos hT]; exact (entry_real x0 x1 x2 x3 x4 x5 e 0 _ _ _ _).1.1
  v T hT q h j := by
    show _ = ((dite _ _ _ : ℝ) : EReal)
    rw [dif_pos hT]; exact (entry_real x0 x1 x2 x3 x4 x5 e 0 _ _ _ _).1.2.1
  kk T hT q h j := by
    show _ = ((dite _ _ _ : ℝ) : EReal)
    rw [dif_pos hT]; exact (entry_real x0 x1 x2 x3 x4 x5 e 0 _ _ _ _).1.2.2
  lw d T hT q h j := by
    show _ = ((dite _ _ _ : ℝ) : EReal)
    rw [dif_pos hT]; exact (entry_real x0 x1 x2 x3 x4 x5 e d _ _ _ _).2.1
  a d T hT q h j := by
    show _ = ((dite _ _ _ : ℝ) : EReal)
    rw [dif_pos hT]; exact (entry_real x0 x1 x2 x3 x4 x5 e d _ _ _ _).2.2.1
  kd d T hT q h j := by
    show _ = ((dite _ _ _ : ℝ) : EReal)
    rw [dif_pos hT]; exact (entry_real x0 x1 x2 x3 x4 x5 e d _ _ _ _).2.2.2

end DeltaRule
-- ==== Proof.Dense.lean ====
/- What the dense calls share: whole stores and loads, a plain product read at an index, and the logistic function in its
   two forms. -/
module

public import Idealize.ShloMosaic.Lib.Pipeline.Value
public import Idealize.ShloMosaic.Lib.MatmulPlain
public import Idealize.ShloMosaic.Lib.Pointwise.Contract
public import Mathlib.Analysis.SpecialFunctions.Trigonometric.Basic

@[expose] public section

noncomputable section

namespace Cert.Dense

open Idealize.ShloMosaic
open Idealize.ShloMosaic (Ideal)

/-- Offsets of a whole plane. -/
theorem off2 : (![0, 0] : Fin 2 → ℕ) = fun _ => 0 := by funext a; match a with | ⟨0, _⟩ => rfl | ⟨1, _⟩ => rfl

/-- Offsets of a whole stack of planes. -/
theorem off3 : (![0, 0, 0] : Fin 3 → ℕ) = fun _ => 0 := by
  funext a; match a with | ⟨0, _⟩ => rfl | ⟨1, _⟩ => rfl | ⟨2, _⟩ => rfl

/-- A load of a whole buffer reads its contents. -/
theorem readAt_whole {Val : EltTy → Type} {sig : RefSig} {sp : Space} {S : Shape} {e : EltTy} (arg : Memref sig .tc sp S e)
    (harg : arg.IsWhole) {off : Fin S.rank → ℕ} (h : off = fun _ => 0) (inb : ∀ a, off a + S.size a ≤ S.size a) (x : S.Idx → Val e) :
    View.readAt Val arg.view (Rect.unit off S.size inb).toLoadRect (harg.unread x) = x := by
  rw [View.readAt_eq_ld, harg.read_unread]
  exact View.ld_unit_zero h inb x

/-- A store through a whole buffer, read back, is what was stored. -/
theorem read_whole {Val : EltTy → Type} [∀ e, Nonempty (Val e)] {sig : RefSig} {sp : Space} {S : Shape} {e : EltTy}
    (v : View sig .tc sp S e) {off : Fin S.rank → ℕ} (h : off = fun _ => 0) (inb : ∀ a, off a + S.size a ≤ S.size a)
    (f : v.ty.Contents Val) (w : S.Idx → Val e) :
    v.read Val (v.writes Val f [(⟨Rect.unit off S.size inb, w⟩ : View.Piece Val S e)]) = w := by
  rw [View.read_writes_eq_canon _ _ _ (fun y => ⟨_, List.mem_singleton_self _, View.mem_set_unit_zero h inb y⟩)]
  exact View.canon_unit_zero h inb w

/-- The sum of products that a row and a column give. -/
def dotv {K : ℕ} (x y : Fin K → EReal) : EReal := ∑ k : Fin K, x k * y k

/-- Equal rows and columns give equal sums. -/
theorem dotv_congr {K : ℕ} {x x' y y' : Fin K → EReal} (hx : ∀ k, x k = x' k) (hy : ∀ k, y k = y' k) : dotv x y = dotv x' y' :=
  congrArg₂ dotv (funext hx) (funext hy)

/-- A product over a zero accumulator, at a row and a column. -/
theorem dot_apply {M K N : ℕ} {φ₁ φ₂ : FTy} (d : DotDims ⟨2, ![M, K]⟩ ⟨2, ![K, N]⟩ ⟨2, ![M, N]⟩) (hd : d = DotDims.plain M K N)
    (prec : Option ContractPrecision) (lhs : FVec Ideal ⟨2, ![M, K]⟩ φ₁) (rhs : FVec Ideal ⟨2, ![K, N]⟩ φ₂) (r : Fin M) (c : Fin N) :
    matmul d prec lhs rhs (constant ⟨2, ![M, N]⟩ .f32 0x00000000#32) (ix2 r c) = dotv (fun k => lhs (ix2 r k)) (fun k => rhs (ix2 k c)) := by
  subst hd
  refine (Ideal.matmul_plain_apply prec lhs rhs _ r c).trans ?_
  have h0 : constant (F := Ideal) ⟨2, ![M, N]⟩ .f32 0x00000000#32 (ix2 r c) = (0 : EReal) := Idealize.ShloMosaic.Ideal.ofBits_zero_f32
  exact (congrArg (· + _) h0).trans (zero_add _)

/-- The same product on the host. -/
theorem host_dot_apply {M K N : ℕ} {φ₁ φ₂ : FTy} (d : DotDims ⟨2, ![M, K]⟩ ⟨2, ![K, N]⟩ ⟨2, ![M, N]⟩) (hd : d = DotDims.plain M K N)
    (prec : Option ContractPrecision) (lhs : FVec Ideal ⟨2, ![M, K]⟩ φ₁) (rhs : FVec Ideal ⟨2, ![K, N]⟩ φ₂) (r : Fin M) (c : Fin N) :
    Host.dotGeneral d prec lhs rhs (ix2 r c) = dotv (fun k => lhs (ix2 r k)) (fun k => rhs (ix2 k c)) := by
  refine Eq.trans ?_ (dot_apply d hd prec lhs rhs r c)
  simp only [Host.dotGeneral]
  rw [Ideal.dotGeneral_apply]
  refine ((Ideal.matmul_apply d prec lhs rhs _ (ix2 r c)).trans ?_).symm
  have h0 : constant (F := Ideal) ⟨2, ![M, N]⟩ .f32 0x00000000#32 (ix2 r c) = (0 : EReal) := Idealize.ShloMosaic.Ideal.ofBits_zero_f32
  rw [h0]; exact zero_add _

/-- A stack of one plane cast to its plane. -/
theorem plane_apply {α : Type} {K N : ℕ} (x : (⟨3, ![1, K, N]⟩ : Shape).Idx → α)
    (h : Shape.ShapeCasts ⟨3, ![1, K, N]⟩ ⟨2, ![K, N]⟩) (k : Fin K) (l : Fin N) :
    shapeCast ⟨2, ![K, N]⟩ x h (ix2 k l) = x (ix3 0 k l) := by
  refine shapeCast_apply _ _ _ (ix3 0 k l) ?_
  rw [Shape.rowMajor_val_three, Shape.rowMajor_val_two]
  show (0 * K + k.val) * N + l.val = k.val * N + l.val
  rw [Nat.zero_mul, Nat.zero_add]

/-- A plane sliced out of a stack from a column on. -/
theorem slice_plane {α : Type} {L K N N' : ℕ} (o : ℕ) (x : (⟨3, ![L, K, N]⟩ : Shape).Idx → α)
    (hs : Shape.Slices ⟨3, ![L, K, N]⟩ ![0, 0, o] ⟨3, ![1, K, N']⟩) (h : Shape.ShapeCasts ⟨3, ![1, K, N']⟩ ⟨2, ![K, N']⟩)
    (z : Fin L) (hz : z.val = 0) (k : Fin K) (l : Fin N') (l' : Fin N) (hl : l'.val = o + l.val) :
    shapeCast ⟨2, ![K, N']⟩ (extractStridedSlice ⟨3, ![1, K, N']⟩ ![0, 0, o] x hs) h (ix2 k l) = x (ix3 z k l') := by
  refine (plane_apply _ h k l).trans ?_
  unfold extractStridedSlice
  refine congrArg x (funext fun a => Fin.ext ?_)
  match a with
  | ⟨0, _⟩ => show 0 + 0 = z.val; omega
  | ⟨1, _⟩ => show 0 + k.val = k.val; omega
  | ⟨2, _⟩ => show o + l.val = l'.val; omega

/-- The kernel's logistic function, by the hyperbolic tangent. -/
def sigT (x : EReal) : EReal :=
  Idealize.ShloMosaic.Ideal.ofBits .f32 0x3F000000#32
    * Idealize.ShloMosaic.Ideal.tanh (Idealize.ShloMosaic.Ideal.ofBits .f32 0x3F000000#32 * x)
    + Idealize.ShloMosaic.Ideal.ofBits .f32 0x3F000000#32

/-- The reference's logistic function, by the exponential. -/
def sigE (x : EReal) : EReal :=
  Idealize.ShloMosaic.Ideal.div (Idealize.ShloMosaic.Ideal.ofBits .f32 0x3F800000#32)
    (Idealize.ShloMosaic.Ideal.ofBits .f32 0x3F800000#32 + Idealize.ShloMosaic.Ideal.exp (-x))

/-- The kernel's constant is one half. -/
theorem ofBits_half : (Idealize.ShloMosaic.Ideal.ofBits .f32 0x3F000000#32 : EReal) = ((1 / 2 : ℝ) : EReal) := by
  simp [Idealize.ShloMosaic.Ideal.ofBits, Idealize.ShloMosaic.Ideal.ieee]
  rw [← EReal.coe_mul]; norm_num

/-- The reference's constant is one. -/
theorem ofBits_one : (Idealize.ShloMosaic.Ideal.ofBits .f32 0x3F800000#32 : EReal) = ((1 : ℝ) : EReal) := by
  simp [Idealize.ShloMosaic.Ideal.ofBits, Idealize.ShloMosaic.Ideal.ieee]
  rw [← EReal.coe_mul]; norm_num

/-- The two forms over the real numbers. -/
theorem sig_real (x : ℝ) : 1 / 2 * Real.tanh (1 / 2 * x) + 1 / 2 = 1 * (1 + Real.exp (-x))⁻¹ := by
  have e : Real.exp (-x) = Real.exp (-(1 / 2 * x)) * Real.exp (-(1 / 2 * x)) := by rw [← Real.exp_add]; congr 1; ring
  have h : Real.exp (1 / 2 * x) * Real.exp (-(1 / 2 * x)) = 1 := by rw [← Real.exp_add, add_neg_cancel, Real.exp_zero]
  rw [Real.tanh_eq_sinh_div_cosh, Real.sinh_eq, Real.cosh_eq, e]
  generalize Real.exp (1 / 2 * x) = a at h
  have hb : 0 < Real.exp (-(1 / 2 * x)) := Real.exp_pos _
  generalize Real.exp (-(1 / 2 * x)) = b at h hb
  have ha : 0 < a := by
    by_contra hc
    have := mul_nonpos_of_nonpos_of_nonneg (not_lt.mp hc) hb.le
    linarith
  have h1 : a + b ≠ 0 := (add_pos ha hb).ne'
  have h2 : 1 + b * b ≠ 0 := (by positivity : (0:ℝ) < 1 + b * b).ne'
  field_simp
  linear_combination (2 * b) * h

/-- The two forms of the logistic function agree, at the infinities too. -/
theorem sig_eq (x : EReal) : sigT x = sigE x := by
  unfold sigT sigE
  rw [ofBits_half, ofBits_one]
  induction x with
  | bot =>
    rw [EReal.coe_mul_bot_of_pos (by norm_num), EReal.neg_bot, Idealize.ShloMosaic.Ideal.tanh_bot]
    show _ = Idealize.ShloMosaic.Ideal.div _ (_ + ⊤)
    rw [EReal.coe_add_top]
    unfold Idealize.ShloMosaic.Ideal.div
    rw [if_neg (by simp), EReal.inv_top, mul_zero, mul_neg, mul_one, ← EReal.coe_neg, ← EReal.coe_add]
    norm_num
  | top =>
    rw [EReal.coe_mul_top_of_pos (by norm_num), EReal.neg_top, Idealize.ShloMosaic.Ideal.tanh_top]
    show _ = Idealize.ShloMosaic.Ideal.div _ (_ + 0)
    rw [add_zero]
    unfold Idealize.ShloMosaic.Ideal.div
    rw [if_neg (by simp), mul_one, ← EReal.coe_add]
    norm_num
  | coe r =>
    rw [← EReal.coe_mul, Idealize.ShloMosaic.Ideal.tanh_coe, ← EReal.coe_neg]
    show _ = Idealize.ShloMosaic.Ideal.div _ (_ + ((Real.exp (-r) : ℝ) : EReal))
    unfold Idealize.ShloMosaic.Ideal.div
    have hp : (0 : ℝ) < 1 + Real.exp (-r) := by positivity
    rw [← EReal.coe_add, if_neg (by rw [EReal.coe_eq_zero]; exact hp.ne'), ← EReal.coe_inv, ← EReal.coe_mul, ← EReal.coe_mul, ← EReal.coe_add]
    rw [sig_real]

end Cert.Dense
-- ==== Proof.Up.lean ====
/- The dense layer's up projections: the kernel's array after the run, and the reference's, entry by entry. -/
module

public import proofs.«01_k».proof.Proof.Dense
public import proofs.«01_k».proof.Proof.Gen.UpIdeal.Value
public import proofs.«01_k».proof.Proof.Gen.RefUpIdeal.Run
public import proofs.«01_k».proof.Defs

@[expose] public section

set_option maxRecDepth 16384

noncomputable section

namespace Cert.UpIdeal.Blocks

open Idealize.ShloMosaic Idealize.ShloMosaic.TcCoe Idealize.SL.Sem
open Cert.UpIdeal Cert.UpIdeal.Gen Cert.Dense

section AnyFloat

variable {F : FTy → Type} [FloatOps F]
variable (m : (ℓ : Loc nD τ sig) → Buf (Elt F) ℓ) (c : Dev nD)

/-- What a point leaves: its output block, and the column blocks of the two weights that it keeps. -/
def left (t : Fin cfg0.N) : Vec F S1088x512 .bf16 × Vec F S2048x512 .bf16 × Vec F S2048x512 .bf16 :=
  (k0_pay3 (iblk m c 0 t) (k0_pay1 (iblk m c 1 t)) (k0_pay2 (iblk m c 2 t)), k0_pay1 (iblk m c 1 t), k0_pay2 (iblk m c 2 t))

/-- A first row block loads the weights. -/
theorem outs_first (t : Fin cfg0.N) (h0 : t.val % 8 = 0) : outsAt0 m c t.val t.isLt = left m c t := by
  rw [outsAt0_A m c t h0]
  unfold out0_A_3 sout0_A_0 sout0_A_1 kernelRun0_A left
  dsimp only [kernelRun0_A.sl.v5, kernelRun0_A.sl.v7, kernelRun0_A.sl.HS0_1, kernelRun0_A.sl.HS1_1]
  have e1 := readAt_whole (ms0_1 t) (hs0_1 t) off3 inb_S1x2048x512_S1x2048x512_0_0_0 (iblk m c 1 t)
  have e2 := readAt_whole (ms0_2 t) (hs0_2 t) off3 inb_S1x2048x512_S1x2048x512_0_0_0 (iblk m c 2 t)
  rw [read_whole _ off2, read_whole _ off2, read_whole _ off2, View.readCov_unit_zero _ off2, View.readCov_unit_zero _ off2,
    readAt_whole _ _ off2]
  have e := congrArg₂ (fun a b => (k0_pay3 (iblk m c 0 t) (k0_pay1 a) (k0_pay2 b), k0_pay1 a, k0_pay2 b)) e1 e2
  exact e

/-- Every other row block computes with the weights the point before kept. -/
theorem outs_next (t : Fin cfg0.N) (h0 : ¬ t.val % 8 = 0) (W : Vec F S2048x512 .bf16 × Vec F S2048x512 .bf16)
    (hW : (outsAt0 m c (t.val - 1) (Nat.lt_of_le_of_lt (Nat.sub_le _ _) t.isLt)).2 = W) :
    outsAt0 m c t.val t.isLt = (k0_pay3 (iblk m c 0 t) W.1 W.2, W.1, W.2) := by
  subst hW
  rw [outsAt0_B m c t h0]
  unfold out0_B_3 sout0_B_0 sout0_B_1 kernelRun0_B
  dsimp only
  rw [read_whole _ off2, readAt_whole _ _ off2]
  have e1 := readAt_whole (Memref.whole cc0_scratch0) (Memref.isWhole_whole _) off2 inb_S2048x512_S2048x512_0_0
    (outsAt0 m c (t.val - 1) (Nat.lt_of_le_of_lt (Nat.sub_le _ _) t.isLt)).2.1
  have e2 := readAt_whole (Memref.whole cc0_scratch1) (Memref.isWhole_whole _) off2 inb_S2048x512_S2048x512_0_0
    (outsAt0 m c (t.val - 1) (Nat.lt_of_le_of_lt (Nat.sub_le _ _) t.isLt)).2.2
  have e := congrArg₂ (fun a b => k0_pay3 (iblk m c 0 t) a b) e1 e2
  exact Prod.ext e rfl

theorem point_lt (t : Fin cfg0.N) : t.val < 88 := (by decide : cfg0.N = 88) ▸ t.isLt

theorem idx0 : ∀ t : Fin cfg0.N, win0_0.index t (0 : Fin 2) = t.val % 8 ∧ win0_0.index t (1 : Fin 2) = 0 :=
  (by decide +kernel : ∀ t : Fin grid0.N, _)
theorem idx1 : ∀ t : Fin cfg0.N, win0_1.index t (0 : Fin 3) = 0 ∧ win0_1.index t (1 : Fin 3) = 0 ∧ win0_1.index t (2 : Fin 3) = t.val / 8 :=
  (by decide +kernel : ∀ t : Fin grid0.N, _)
theorem idx2 : ∀ t : Fin cfg0.N, win0_2.index t (0 : Fin 3) = 0 ∧ win0_2.index t (1 : Fin 3) = 0 ∧ win0_2.index t (2 : Fin 3) = t.val / 8 :=
  (by decide +kernel : ∀ t : Fin grid0.N, _)

/-- Row `r` of a point's row block. -/
def row (n : ℕ) (r : Fin 1088) : Fin 8704 := ⟨1088 * (n % 8) + r.val, by omega⟩
/-- Column `l` of a point's column block. -/
def col (n : ℕ) (hn : n < 88) (l : Fin 512) : Fin 5632 := ⟨512 * (n / 8) + l.val, by omega⟩

/-- The activations' block at a point. -/
theorem blk0 (t : Fin cfg0.N) (r : Fin 1088) (k : Fin 2048) :
    (iblk m c 0 t : Vec F S1088x2048 .bf16) (ix2 r k) = (V m c main_v0 : Vec F S8704x2048 .bf16) (ix2 (row t.val r) k) := by
  obtain ⟨e0, e1⟩ := idx0 t
  refine congrArg (V m c main_v0 : Vec F S8704x2048 .bf16) (funext fun a => Fin.ext ?_)
  match a with
  | ⟨0, _⟩ => show win0_0.index t (0 : Fin 2) * 1088 + 1 * r.val = 1088 * (t.val % 8) + r.val; omega
  | ⟨1, _⟩ => show win0_0.index t (1 : Fin 2) * 2048 + 1 * k.val = k.val; omega

/-- The first weight's block at a point. -/
theorem blk1 (t : Fin cfg0.N) (k : Fin 2048) (l : Fin 512) :
    (iblk m c 1 t : Vec F S1x2048x512 .f32) (ix3 0 k l) = (V m c main_arg1 : Vec F S2x2048x5632 .f32) (ix3 0 k (col t.val (point_lt t) l)) := by
  obtain ⟨e0, e1, e2⟩ := idx1 t
  refine congrArg (V m c main_arg1 : Vec F S2x2048x5632 .f32) (funext fun a => Fin.ext ?_)
  match a with
  | ⟨0, _⟩ => show win0_1.index t (0 : Fin 3) * 1 + 1 * 0 = 0; omega
  | ⟨1, _⟩ => show win0_1.index t (1 : Fin 3) * 2048 + 1 * k.val = k.val; omega
  | ⟨2, _⟩ => show win0_1.index t (2 : Fin 3) * 512 + 1 * l.val = 512 * (t.val / 8) + l.val; omega

/-- The second weight's block at a point. -/
theorem blk2 (t : Fin cfg0.N) (k : Fin 2048) (l : Fin 512) :
    (iblk m c 2 t : Vec F S1x2048x512 .f32) (ix3 0 k l) = (V m c main_arg2 : Vec F S2x2048x5632 .f32) (ix3 0 k (col t.val (point_lt t) l)) := by
  obtain ⟨e0, e1, e2⟩ := idx2 t
  refine congrArg (V m c main_arg2 : Vec F S2x2048x5632 .f32) (funext fun a => Fin.ext ?_)
  match a with
  | ⟨0, _⟩ => show win0_2.index t (0 : Fin 3) * 1 + 1 * 0 = 0; omega
  | ⟨1, _⟩ => show win0_2.index t (1 : Fin 3) * 2048 + 1 * k.val = k.val; omega
  | ⟨2, _⟩ => show win0_2.index t (2 : Fin 3) * 512 + 1 * l.val = 512 * (t.val / 8) + l.val; omega

/-- Within a column block the first weight's block stays. -/
theorem same1 (t t' : Fin cfg0.N) (h : t.val / 8 = t'.val / 8) : iblk m c 1 t = iblk m c 1 t' := by
  funext y
  have e : (y : S1x2048x512.Idx) = ix3 0 (y 1) (y 2) := by rw [eq_ix3 y]; exact congrArg (ix3 · _ _) (Subsingleton.elim (α := Fin 1) _ _)
  rw [e]
  refine (blk1 m c t _ _).trans (Eq.trans ?_ (blk1 m c t' _ _).symm)
  refine congrArg _ (congrArg _ (Fin.ext ?_))
  show 512 * (t.val / 8) + _ = 512 * (t'.val / 8) + _
  rw [h]

/-- Within a column block the second weight's block stays. -/
theorem same2 (t t' : Fin cfg0.N) (h : t.val / 8 = t'.val / 8) : iblk m c 2 t = iblk m c 2 t' := by
  funext y
  have e : (y : S1x2048x512.Idx) = ix3 0 (y 1) (y 2) := by rw [eq_ix3 y]; exact congrArg (ix3 · _ _) (Subsingleton.elim (α := Fin 1) _ _)
  rw [e]
  refine (blk2 m c t _ _).trans (Eq.trans ?_ (blk2 m c t' _ _).symm)
  refine congrArg _ (congrArg _ (Fin.ext ?_))
  show 512 * (t.val / 8) + _ = 512 * (t'.val / 8) + _
  rw [h]

/-- Every point leaves what it would leave had it loaded the weights itself. -/
theorem outs_eq (n : ℕ) (hn : n < cfg0.N) : outsAt0 m c n hn = left m c ⟨n, hn⟩ := by
  induction n with
  | zero => exact outs_first m c ⟨0, hn⟩ rfl
  | succ n ih =>
    by_cases h0 : (n + 1) % 8 = 0
    · exact outs_first m c ⟨n + 1, hn⟩ h0
    · have hW : (outsAt0 m c n (Nat.lt_of_succ_lt hn)).2 = (left m c ⟨n + 1, hn⟩).2 := by
        rw [ih]
        have hq : n / 8 = (n + 1) / 8 := by omega
        unfold left
        rw [same1 m c ⟨n, Nat.lt_of_succ_lt hn⟩ ⟨n + 1, hn⟩ hq, same2 m c ⟨n, Nat.lt_of_succ_lt hn⟩ ⟨n + 1, hn⟩ hq]
      exact outs_next m c ⟨n + 1, hn⟩ h0 _ hW

/-- The array after the run, at the place that point `t` writes. -/
theorem array_at (t : Fin cfg0.N) (r : Fin 1088) (l : Fin 512) :
    ((dats m 0 c).arrAt 3 cfg0.N : Vec F S8704x5632 .bf16) (ix2 (row t.val r) (col t.val (point_lt t) l)) = (left m c t).1 (ix2 r l) := by
  have ht := point_lt t
  rw [Value.final3]
  have hp : Value.pt3Of (ix2 (row t.val r) (col t.val (point_lt t) l)) = t.val := by
    show 1 * ((1088 * (t.val % 8) + r.val) / 1088 - 0) + 8 * ((512 * (t.val / 8) + l.val) / 512 - 0) = t.val
    omega
  have hl : Value.loc3Of (ix2 (row t.val r) (col t.val (point_lt t) l)) = ix2 r l := by
    funext a; apply Fin.ext
    match a with
    | ⟨0, _⟩ => show (1088 * (t.val % 8) + r.val) % 1088 = r.val; omega
    | ⟨1, _⟩ => show (512 * (t.val / 8) + l.val) % 512 = l.val; omega
  unfold Value.G3
  rw [dif_pos (by rw [hp]; exact t.isLt), hl, Value.fold0_congr m c _ _ _ (by rw [Nat.zero_add]; exact t.isLt) hp,
    ← Value.outsAt0_sweep, outs_eq]

/-- Every place of the array is a point's. -/
theorem place (R : Fin 8704) (C : Fin 5632) : ∃ (t : Fin cfg0.N) (r : Fin 1088) (l : Fin 512),
    R = row t.val r ∧ C = col t.val (point_lt t) l := by
  refine ⟨⟨8 * (C.val / 512) + R.val / 1088, lt_of_lt_of_eq (by omega) (by decide : 88 = cfg0.N)⟩, ⟨R.val % 1088, by omega⟩, ⟨C.val % 512, by omega⟩, Fin.ext ?_, Fin.ext ?_⟩
  · show R.val = 1088 * ((8 * (C.val / 512) + R.val / 1088) % 8) + R.val % 1088; omega
  · show C.val = 512 * ((8 * (C.val / 512) + R.val / 1088) / 8) + C.val % 512; omega

end AnyFloat

variable (m : (ℓ : Loc nD τ sig) → Buf (Elt Idealize.ShloMosaic.Ideal) ℓ) (c : Dev nD)

/-- The activations at region entry are the caller's. -/
theorem entry_v0 (i : S8704x2048.Idx) : (V m c main_v0 : S8704x2048.Idx → EReal) i = m ((c : Thread nD τ).loc main_arg0) i := by
  have h : V m c main_v0 = truncf (F := Idealize.ShloMosaic.Ideal) .bf16 (m ((c : Thread nD τ).loc main_arg0)) bitsLt_bf16_f32 := by
    simp only [Gen.V, hostOps0]; after_results
  rw [h]; rfl

/-- The sums of one entry: the activations' row with a weight's column. -/
def dotAt (h : S8704x2048.Idx → EReal) (w : S2x2048x5632.Idx → EReal) (R : Fin 8704) (C : Fin 5632) : EReal :=
  dotv (fun k : Fin 2048 => h (ix2 R k)) (fun k => w (ix3 0 k C))

/-- A weight's block as kept. -/
theorem pay1_apply (x : Vec Idealize.ShloMosaic.Ideal S1x2048x512 .f32) (k : Fin 2048) (l : Fin 512) :
    (k0_pay1 x : S2048x512.Idx → EReal) (ix2 k l) = x (ix3 0 k l) := by
  unfold k0_pay1
  rw [shapeCast_self]
  have e := plane_apply x shapeCasts_S1x2048x512_S2048x512 k l
  exact e

/-- A weight's block as kept. -/
theorem pay2_apply (x : Vec Idealize.ShloMosaic.Ideal S1x2048x512 .f32) (k : Fin 2048) (l : Fin 512) :
    (k0_pay2 x : S2048x512.Idx → EReal) (ix2 k l) = x (ix3 0 k l) := pay1_apply x k l

/-- A point's output block. -/
theorem pay3_apply (x : Vec Idealize.ShloMosaic.Ideal S1088x2048 .bf16) (a b : Vec Idealize.ShloMosaic.Ideal S2048x512 .bf16) (r : Fin 1088) (l : Fin 512) :
    (k0_pay3 x a b : S1088x512.Idx → EReal) (ix2 r l)
      = (dotv (fun k : Fin 2048 => x (ix2 r k)) (fun k => a (ix2 k l))) * sigT (dotv (fun k : Fin 2048 => x (ix2 r k)) (fun k => a (ix2 k l)))
        * dotv (fun k : Fin 2048 => x (ix2 r k)) (fun k => b (ix2 k l)) := by
  have hd := dot_apply (φ₁ := .bf16) (φ₂ := .bf16) dot_S1088x2048_S2048x512_S1088x512_1_0_0_1_n_n rfl none x a r l
  have hd' := dot_apply (φ₁ := .bf16) (φ₂ := .bf16) dot_S1088x2048_S2048x512_S1088x512_1_0_0_1_n_n rfl none x b r l
  unfold k0_pay3
  rw [shapeCast_self]
  refine Eq.trans ?_ (congr (congrArg (fun g u : EReal => g * sigT g * u) hd) hd')
  rfl

/-- One entry of the kernel's array. -/
theorem kernel_entry (R : Fin 8704) (C : Fin 5632) :
    ((dats m 0 c).arrAt 3 cfg0.N : S8704x5632.Idx → EReal) (ix2 R C)
      = dotAt (m ((c : Thread nD τ).loc main_arg0)) (m ((c : Thread nD τ).loc main_arg1)) R C
        * sigT (dotAt (m ((c : Thread nD τ).loc main_arg0)) (m ((c : Thread nD τ).loc main_arg1)) R C)
        * dotAt (m ((c : Thread nD τ).loc main_arg0)) (m ((c : Thread nD τ).loc main_arg2)) R C := by
  obtain ⟨t, r, l, rfl, rfl⟩ := place R C
  refine (array_at m c t r l).trans ((pay3_apply _ _ _ r l).trans ?_)
  have e1 : dotv (fun k : Fin 2048 => (iblk m c 0 t : S1088x2048.Idx → EReal) (ix2 r k)) (fun k => (k0_pay1 (iblk m c 1 t) : S2048x512.Idx → EReal) (ix2 k l))
      = dotAt (m ((c : Thread nD τ).loc main_arg0)) (m ((c : Thread nD τ).loc main_arg1)) (row t.val r) (col t.val (point_lt t) l) := by
    refine dotv_congr (fun k => ?_) (fun k => ?_)
    · exact (blk0 m c t r k).trans (entry_v0 m c _)
    · exact (pay1_apply _ k l).trans ((blk1 m c t k l).trans (congrFun (V_main_arg1 m c) _))
  have e2 : dotv (fun k : Fin 2048 => (iblk m c 0 t : S1088x2048.Idx → EReal) (ix2 r k)) (fun k => (k0_pay2 (iblk m c 2 t) : S2048x512.Idx → EReal) (ix2 k l))
      = dotAt (m ((c : Thread nD τ).loc main_arg0)) (m ((c : Thread nD τ).loc main_arg2)) (row t.val r) (col t.val (point_lt t) l) := by
    refine dotv_congr (fun k => ?_) (fun k => ?_)
    · exact (blk0 m c t r k).trans (entry_v0 m c _)
    · exact (pay2_apply _ k l).trans ((blk2 m c t k l).trans (congrFun (V_main_arg2 m c) _))
  exact congrArg₂ (fun g u : EReal => g * sigT g * u) e1 e2

end Cert.UpIdeal.Blocks

namespace Cert.RefUpIdeal.Blocks

open Idealize.ShloMosaic Idealize.ShloMosaic.TcCoe Idealize.SL.Sem
open Cert.RefUpIdeal Cert.RefUpIdeal.Gen Cert.Dense

/-- One of the reference's products, at an entry. -/
theorem product (h : FVec Idealize.ShloMosaic.Ideal S8704x2048 .f32) (w : FVec Idealize.ShloMosaic.Ideal S2x2048x5632 .f32) (R : Fin 8704) (C : Fin 5632) :
    (Host.dotGeneral (F := Idealize.ShloMosaic.Ideal) dot_S8704x2048_S2048x5632_S8704x5632_1_0_0_1_n_n none h
      (shapeCast _ (extractStridedSlice S1x2048x5632 ![0, 0, 0] w slices_S2x2048x5632_S1x2048x5632_0_0_0) shapeCasts_S1x2048x5632_S2048x5632) : S8704x5632.Idx → EReal) (ix2 R C)
      = Cert.UpIdeal.Blocks.dotAt h w R C := by
  refine (host_dot_apply (φ₁ := .f32) (φ₂ := .f32) _ rfl none h _ R C).trans ?_
  exact dotv_congr (fun k => rfl) fun k =>
    (slice_plane 0 w slices_S2x2048x5632_S1x2048x5632_0_0_0 shapeCasts_S1x2048x5632_S2048x5632 0 rfl k C C (Nat.zero_add _).symm)

/-- One entry of the reference's result. -/
theorem entry (h : FVec Idealize.ShloMosaic.Ideal S8704x2048 .f32) (wg wu : FVec Idealize.ShloMosaic.Ideal S2x2048x5632 .f32) (R : Fin 8704) (C : Fin 5632) :
    (truncf (F := Idealize.ShloMosaic.Ideal) .bf16 (mulf (mulf (Host.dotGeneral dot_S8704x2048_S2048x5632_S8704x5632_1_0_0_1_n_n none h (shapeCast _ (extractStridedSlice S1x2048x5632 ![0, 0, 0] wg slices_S2x2048x5632_S1x2048x5632_0_0_0) shapeCasts_S1x2048x5632_S2048x5632)) (Host.divf (broadcastInDim S8704x5632 ![] bcast_S_S8704x5632 (constant S_ .f32 0x3F800000#32)) (addf (broadcastInDim S8704x5632 ![] bcast_S_S8704x5632 (constant S_ .f32 0x3F800000#32)) (Host.exp (Host.negf (Host.dotGeneral dot_S8704x2048_S2048x5632_S8704x5632_1_0_0_1_n_n none h (shapeCast _ (extractStridedSlice S1x2048x5632 ![0, 0, 0] wg slices_S2x2048x5632_S1x2048x5632_0_0_0) shapeCasts_S1x2048x5632_S2048x5632))))))) (Host.dotGeneral dot_S8704x2048_S2048x5632_S8704x5632_1_0_0_1_n_n none h (shapeCast _ (extractStridedSlice S1x2048x5632 ![0, 0, 0] wu slices_S2x2048x5632_S1x2048x5632_0_0_0) shapeCasts_S1x2048x5632_S2048x5632))) bitsLt_bf16_f32 : S8704x5632.Idx → EReal) (ix2 R C)
      = Cert.UpIdeal.Blocks.dotAt h wg R C * sigE (Cert.UpIdeal.Blocks.dotAt h wg R C) * Cert.UpIdeal.Blocks.dotAt h wu R C := by
  refine Eq.trans ?_ (congrArg₂ (fun g u : EReal => g * sigE g * u) (product h wg R C) (product h wu R C))
  rfl

end Cert.RefUpIdeal.Blocks

namespace Cert.UpIdeal.Blocks

open Idealize.ShloMosaic Idealize.ShloMosaic.TcCoe Idealize.SL.Sem

/-- The up projections' value claim. -/
theorem value : Cert.algebraic_UpIdeal_RefUpIdeal := fun m ρ m' ρ' _ hag =>
  ⟨fun c => (Cert.UpIdeal.Gen.dats m 0 c).arrAt 3 Cert.UpIdeal.cfg0.N, Cert.UpIdeal.Value.run_blocks m ρ,
    (θ_run _ _ _).mono (fun r h c => by
      refine ⟨(h c).1.trans ?_, (h c).2⟩
      obtain ⟨e0, e1, e2⟩ := hag c
      funext i
      obtain ⟨R, C, rfl⟩ : ∃ R C, i = ix2 R C := ⟨i 0, i 1, eq_ix2 i⟩
      refine (Cert.RefUpIdeal.Blocks.entry _ _ _ R C).trans (Eq.trans ?_ (kernel_entry m c R C).symm)
      rw [e0, e1, e2, Cert.Dense.sig_eq])
      (Cert.RefUpIdeal.Value.run (F := Idealize.ShloMosaic.Ideal) m' ρ')⟩

end Cert.UpIdeal.Blocks
-- ==== Proof.Gate.lean ====
/- What the calls with a residual share: which row of the modulation a row of the batch takes, in the kernel and in the
   reference. -/
module

public import proofs.«01_k».proof.Proof.Dense
public import Idealize.ShloMosaic.Lib.Pointwise

@[expose] public section

set_option maxRecDepth 16384

noncomputable section

namespace Cert.Dense

open Idealize.ShloMosaic

/-- The row of the modulation that a row takes: the shared one within the first 256 of a sequence, then its sequence's. -/
def pick (R : Fin 8704) : Fin 8 := if R.val % 4352 < 256 then 0 else ⟨1 + R.val / 4352, by omega⟩

/-- The kernel's comparison of a row's number with 256. -/
theorem early (a r : ℕ) (h : a + r < 8704) :
    IntOp.cmpi CmpIPredicate.slt (IntOp.addi (BitVec.ofNat 32 a) (BitVec.ofNat 32 r)) 256#32 = if a + r < 256 then 1#1 else 0#1 := by
  have e : IntOp.addi (BitVec.ofNat 32 a) (BitVec.ofNat 32 r) = BitVec.ofNat 32 (a + r) := (BitVec.ofNat_add a r).symm
  rw [e]
  generalize a + r = n at h
  have hn : (BitVec.ofNat 32 n).toNat = n := by rw [BitVec.toNat_ofNat]; exact Nat.mod_eq_of_lt (by omega)
  have hi : (BitVec.ofNat 32 n).toInt = n := by rw [BitVec.toInt_eq_toNat_of_lt (by omega), hn]
  show BitVec.ofBool ((BitVec.ofNat 32 n).slt 256#32) = _
  have hs : (BitVec.ofNat 32 n).slt 256#32 = decide (n < 256) := by
    unfold BitVec.slt
    rw [hi]
    have h256 : (256#32).toInt = (256 : ℕ) := by decide
    rw [h256]
    exact decide_eq_decide.mpr Nat.cast_lt
  rw [hs]
  by_cases hc : n < 256
  · rw [if_pos hc, decide_eq_true hc]; rfl
  · rw [if_neg hc, decide_eq_false hc]; rfl

/-- A row of a loaded block. -/
theorem readAt_row {Val : EltTy → Type} {sig : RefSig} {sp : Space} {N : ℕ} {e : EltTy} (arg : Memref sig .tc sp ⟨2, ![8, N]⟩ e)
    (harg : arg.IsWhole) (off : Fin 2 → ℕ) (inb : ∀ a, off a + (![1, N] : Fin 2 → ℕ) a ≤ (⟨2, ![8, N]⟩ : Shape).size a)
    (x : (⟨2, ![8, N]⟩ : Shape).Idx → Val e) (p : Fin 8) (h0 : off 0 = p.val) (h1 : off 1 = 0) (l : Fin N) :
    View.readAt Val arg.view (Rect.unit (s := ⟨2, ![8, N]⟩) off ![1, N] inb).toLoadRect (harg.unread x) (ix2 (0 : Fin 1) l) = x (ix2 p l) := by
  rw [View.readAt_eq_ld, harg.read_unread]
  refine congrArg x (funext fun a => Fin.ext ?_)
  match a with
  | ⟨0, _⟩ => show off 0 + 1 * 0 = p.val; omega
  | ⟨1, _⟩ => show off 1 + 1 * l.val = l.val; omega

section Ref

variable (o : ℕ) (g : (⟨2, ![8, 12288]⟩ : Shape).Idx → EReal)
variable (hs : Shape.Slices ⟨2, ![8, 12288]⟩ ![0, o] ⟨2, ![8, 2048]⟩)
variable (hs0 : Shape.Slices ⟨2, ![8, 2048]⟩ ![0, 0] ⟨2, ![1, 2048]⟩) (hc0 : Shape.ShapeCasts ⟨2, ![1, 2048]⟩ ⟨1, ![2048]⟩)
variable (hb0 : Shape.BroadcastsInDim ⟨1, ![2048]⟩ ⟨3, ![2, 256, 2048]⟩ ![2])
variable (hs1 : Shape.Slices ⟨2, ![8, 2048]⟩ ![1, 0] ⟨2, ![2, 2048]⟩) (hb1 : Shape.BroadcastsInDim ⟨2, ![2, 2048]⟩ ⟨3, ![2, 1, 2048]⟩ ![0, 2])
variable (hb2 : Shape.BroadcastsInDim ⟨3, ![2, 1, 2048]⟩ ⟨3, ![2, 4096, 2048]⟩ ![0, 1, 2])
variable (hcc : Shape.Concatenates [⟨3, ![2, 256, 2048]⟩, ⟨3, ![2, 4096, 2048]⟩] ⟨3, ![2, 4352, 2048]⟩ 1)
variable (hc : Shape.ShapeCasts ⟨3, ![2, 4352, 2048]⟩ ⟨2, ![8704, 2048]⟩)

/-- The shared row, laid along the first 256 rows of each sequence. -/
def early256 : (⟨3, ![2, 256, 2048]⟩ : Shape).Idx → EReal :=
  broadcastInDim ⟨3, ![2, 256, 2048]⟩ ![2] hb0 (shapeCast ⟨1, ![2048]⟩ (extractStridedSlice ⟨2, ![1, 2048]⟩ ![0, 0] (extractStridedSlice ⟨2, ![8, 2048]⟩ ![0, o] g hs) hs0) hc0)

/-- Each sequence's own row, laid along its other 4096 rows. -/
def late4096 : (⟨3, ![2, 4096, 2048]⟩ : Shape).Idx → EReal :=
  broadcastInDim ⟨3, ![2, 4096, 2048]⟩ ![0, 1, 2] hb2 (broadcastInDim ⟨3, ![2, 1, 2048]⟩ ![0, 2] hb1
    (extractStridedSlice ⟨2, ![2, 2048]⟩ ![1, 0] (extractStridedSlice ⟨2, ![8, 2048]⟩ ![0, o] g hs) hs1))

/-- The shared row at an index. -/
theorem early256_apply (ho : o + 2048 ≤ 12288) (b : Fin 2) (p : Fin 256) (C : Fin 2048) :
    early256 o g hs hs0 hc0 hb0 (ix3 b p C) = g (ix2 0 ⟨o + C.val, by omega⟩) := by
  unfold early256
  have e : ∀ y : (⟨1, ![2048]⟩ : Shape).Idx → EReal, broadcastInDim ⟨3, ![2, 256, 2048]⟩ ![2] hb0 y (ix3 b p C) = y (ix1 C) := fun y => by
    unfold broadcastInDim
    refine congrArg y (funext fun a => Fin.ext ?_)
    match a with
    | ⟨0, _⟩ => rfl
  rw [e]
  refine (shapeCast_apply _ _ _ (ix2 (0 : Fin 1) C) ?_).trans ?_
  · rw [Shape.rowMajor_val_two, Shape.rowMajor_val_one]
    show 0 * 2048 + C.val = C.val
    omega
  · unfold extractStridedSlice
    refine congrArg g (funext fun a => Fin.ext ?_)
    match a with
    | ⟨0, _⟩ => rfl
    | ⟨1, _⟩ => show o + (0 + C.val) = o + C.val; omega

/-- A sequence's own row at an index. -/
theorem late4096_apply (ho : o + 2048 ≤ 12288) (b : Fin 2) (p : Fin 4096) (C : Fin 2048) :
    late4096 o g hs hs1 hb1 hb2 (ix3 b p C) = g (ix2 ⟨1 + b.val, by omega⟩ ⟨o + C.val, by omega⟩) := by
  unfold late4096 broadcastInDim extractStridedSlice
  refine congrArg g (funext fun a => Fin.ext ?_)
  match a with
  | ⟨0, _⟩ => show 0 + (1 + b.val) = 1 + b.val; omega
  | ⟨1, _⟩ => show o + (0 + C.val) = o + C.val; omega

/-- The reference's gate at an entry. -/
theorem gate_apply (ho : o + 2048 ≤ 12288) (R : Fin 8704) (C : Fin 2048) :
    shapeCast ⟨2, ![8704, 2048]⟩ (concatenate ⟨3, ![2, 4352, 2048]⟩ 1 [⟨⟨3, ![2, 256, 2048]⟩, early256 o g hs hs0 hc0 hb0⟩,
      ⟨⟨3, ![2, 4096, 2048]⟩, late4096 o g hs hs1 hb1 hb2⟩] hcc) hc (ix2 R C) = g (ix2 (pick R) ⟨o + C.val, by omega⟩) := by
  refine (shapeCast_apply _ _ _ (ix3 (⟨R.val / 4352, by omega⟩ : Fin 2) (⟨R.val % 4352, by omega⟩ : Fin 4352) C) ?_).trans ?_
  · rw [Shape.rowMajor_val_three, Shape.rowMajor_val_two]
    show ((R.val / 4352) * 4352 + R.val % 4352) * 2048 + C.val = R.val * 2048 + C.val
    omega
  · by_cases h : R.val % 4352 < 256
    · refine (concatenate_pair_apply_left 1 _ _ hcc _ rfl (ix3 (⟨R.val / 4352, by omega⟩ : Fin 2) (⟨R.val % 4352, h⟩ : Fin 256) C) fun a => ?_).trans ?_
      · match a with
        | ⟨0, _⟩ => rfl
        | ⟨1, _⟩ => rfl
        | ⟨2, _⟩ => rfl
      · rw [early256_apply o g hs hs0 hc0 hb0 ho]
        unfold pick
        rw [if_pos h]
    · refine (concatenate_pair_apply_right 1 _ _ hcc _ rfl rfl (ix3 (⟨R.val / 4352, by omega⟩ : Fin 2) (⟨R.val % 4352 - 256, by omega⟩ : Fin 4096) C) (fun a ha => ?_) ?_).trans ?_
      · match a with
        | ⟨0, _⟩ => rfl
        | ⟨1, _⟩ => exact absurd rfl ha
        | ⟨2, _⟩ => rfl
      · show R.val % 4352 - 256 + 256 = R.val % 4352
        omega
      · rw [late4096_apply o g hs hs1 hb1 hb2 ho]
        unfold pick
        rw [if_neg h]

end Ref

end Cert.Dense
-- ==== Proof.Down.lean ====
/- The down projection: the residual and the gated product: the kernel's array after the run, and the reference's, entry by entry. -/
module

public import proofs.«01_k».proof.Proof.Gate
public import proofs.«01_k».proof.Proof.Gen.DownIdeal.Value
public import proofs.«01_k».proof.Proof.Gen.RefDownIdeal.Run
public import proofs.«01_k».proof.Defs

@[expose] public section

set_option maxRecDepth 16384

noncomputable section

namespace Cert.DownIdeal.Blocks

open Idealize.ShloMosaic Idealize.ShloMosaic.TcCoe Idealize.SL.Sem
open Cert.DownIdeal Cert.DownIdeal.Gen Cert.Dense

section AnyFloat

variable {F : FTy → Type} [FloatOps F]
variable (m : (ℓ : Loc nD τ sig) → Buf (Elt F) ℓ) (c : Dev nD)

/-- The modulation's shared row at a point. -/
def shared (t : Fin cfg0.N) : Vec F S1x512 .f32 := kernelRun0_A.sl.r_1 c (ms0_3 t) (hs0_3 t) (iblk m c 3 t)

/-- The modulation's row of a point's sequence. -/
def own (t : Fin cfg0.N) : Vec F S1x512 .f32 := kernelRun0_A.sl.r_2 c (grid0.coords t) (ms0_3 t) (hs0_3 t) (iblk m c 3 t)

/-- What a point leaves: its output block, and the column block of the weight that it keeps. -/
def left (t : Fin cfg0.N) : Vec F S544x512 .f32 × Vec F S5632x512 .bf16 :=
  (k0_pay1 (k0_pay3 (iblk m c 0 t) (k0_pay2 (iblk m c 1 t))) (shared m c t) (own m c t) (k0_pay4 (grid0.coords t)) (iblk m c 2 t),
    k0_pay2 (iblk m c 1 t))

/-- The output block is a function of its activations, its weight and its residual. -/
theorem three_congr {x x' : Vec F S544x5632 .bf16} {w w' : Vec F S5632x512 .bf16} {y y' : Vec F S544x512 .f32}
    (hx : x = x') (hw : w = w') (hy : y = y') (a b : Vec F S1x512 .f32) (k : IVec S544x1 1) :
    k0_pay1 (k0_pay3 x w) a b k y = k0_pay1 (k0_pay3 x' w') a b k y' := by
  rw [hx, hw, hy]

/-- A first row block loads the weight. -/
theorem outs_first (t : Fin cfg0.N) (h0 : t.val % 16 = 0) : outsAt0 m c t.val t.isLt = left m c t := by
  rw [outsAt0_A m c t h0]
  unfold out0_A_4 sout0_A_0 kernelRun0_A left
  dsimp only [kernelRun0_A.sl.r, kernelRun0_A.sl.v5, kernelRun0_A.sl.HS0_1]
  have e1 := readAt_whole (ms0_1 t) (hs0_1 t) off3 inb_S1x5632x512_S1x5632x512_0_0_0 (iblk m c 1 t)
  have f0 := readAt_whole (ms0_0 t) (hs0_0 t) off2 inb_S544x5632_S544x5632_0_0 (iblk m c 0 t)
  have f2 := readAt_whole (ms0_2 t) (hs0_2 t) off2 inb_S544x512_S544x512_0_0 (iblk m c 2 t)
  rw [read_whole _ off2, read_whole _ off2, View.readCov_unit_zero _ off2]
  have e := congrArg (fun a => (k0_pay2 a : Vec F S5632x512 .bf16)) e1
  exact Prod.ext (three_congr f0 e f2 _ _ _) e

/-- Every other row block computes with the weight the point before kept. -/
theorem outs_next (t : Fin cfg0.N) (h0 : ¬ t.val % 16 = 0) (W : Vec F S5632x512 .bf16)
    (hW : (outsAt0 m c (t.val - 1) (Nat.lt_of_le_of_lt (Nat.sub_le _ _) t.isLt)).2 = W) :
    outsAt0 m c t.val t.isLt = (k0_pay1 (k0_pay3 (iblk m c 0 t) W) (shared m c t) (own m c t) (k0_pay4 (grid0.coords t)) (iblk m c 2 t), W) := by
  subst hW
  rw [outsAt0_B m c t h0]
  unfold out0_B_4 sout0_B_0 kernelRun0_B
  dsimp only [kernelRun0_B.sl.r]
  rw [read_whole _ off2]
  have f0 := readAt_whole (ms0_0 t) (hs0_0 t) off2 inb_S544x5632_S544x5632_0_0 (iblk m c 0 t)
  have f2 := readAt_whole (ms0_2 t) (hs0_2 t) off2 inb_S544x512_S544x512_0_0 (iblk m c 2 t)
  have e1 := readAt_whole (Memref.whole cc0_scratch0) (Memref.isWhole_whole _) off2 inb_S5632x512_S5632x512_0_0
    (outsAt0 m c (t.val - 1) (Nat.lt_of_le_of_lt (Nat.sub_le _ _) t.isLt)).2
  exact Prod.ext (three_congr f0 e1 f2 _ _ _) rfl

theorem point_lt (t : Fin cfg0.N) : t.val < 64 := (by decide : cfg0.N = 64) ▸ t.isLt

theorem idx0 : ∀ t : Fin cfg0.N, win0_0.index t (0 : Fin 2) = t.val % 16 ∧ win0_0.index t (1 : Fin 2) = 0 :=
  (by decide +kernel : ∀ t : Fin grid0.N, _)
theorem idx1 : ∀ t : Fin cfg0.N, win0_1.index t (0 : Fin 3) = 0 ∧ win0_1.index t (1 : Fin 3) = 0 ∧ win0_1.index t (2 : Fin 3) = t.val / 16 :=
  (by decide +kernel : ∀ t : Fin grid0.N, _)
theorem idx2 : ∀ t : Fin cfg0.N, win0_2.index t (0 : Fin 2) = t.val % 16 ∧ win0_2.index t (1 : Fin 2) = t.val / 16 :=
  (by decide +kernel : ∀ t : Fin grid0.N, _)
theorem idx3 : ∀ t : Fin cfg0.N, win0_3.index t (0 : Fin 2) = 0 ∧ win0_3.index t (1 : Fin 2) = 20 + t.val / 16 :=
  (by decide +kernel : ∀ t : Fin grid0.N, _)

/-- The row of the modulation that a point's own row is loaded from. -/
theorem off_own : ∀ t : Fin cfg0.N, k0_off1 (grid0.coords t) (0 : Fin 2) = 1 + t.val % 16 / 8 ∧ k0_off1 (grid0.coords t) (1 : Fin 2) = 0 :=
  (by decide +kernel : ∀ t : Fin grid0.N, _)

/-- Row `r` of a point's row block. -/
def row (n : ℕ) (r : Fin 544) : Fin 8704 := ⟨544 * (n % 16) + r.val, by omega⟩
/-- Column `l` of a point's column block. -/
def col (n : ℕ) (hn : n < 64) (l : Fin 512) : Fin 2048 := ⟨512 * (n / 16) + l.val, by omega⟩
/-- A result's column among the modulation's. -/
def modcol (C : Fin 2048) : Fin 12288 := ⟨10240 + C.val, by omega⟩

/-- The activations' block at a point. -/
theorem blk0 (t : Fin cfg0.N) (r : Fin 544) (k : Fin 5632) :
    (iblk m c 0 t : Vec F S544x5632 .bf16) (ix2 r k) = (V m c main_v0 : Vec F S8704x5632 .bf16) (ix2 (row t.val r) k) := by
  obtain ⟨e0, e1⟩ := idx0 t
  refine congrArg (V m c main_v0 : Vec F S8704x5632 .bf16) (funext fun a => Fin.ext ?_)
  match a with
  | ⟨0, _⟩ => show win0_0.index t (0 : Fin 2) * 544 + 1 * r.val = 544 * (t.val % 16) + r.val; omega
  | ⟨1, _⟩ => show win0_0.index t (1 : Fin 2) * 5632 + 1 * k.val = k.val; omega

/-- The weight's block at a point. -/
theorem blk1 (t : Fin cfg0.N) (k : Fin 5632) (l : Fin 512) :
    (iblk m c 1 t : Vec F S1x5632x512 .f32) (ix3 0 k l) = (V m c main_arg1 : Vec F S2x5632x2048 .f32) (ix3 0 k (col t.val (point_lt t) l)) := by
  obtain ⟨e0, e1, e2⟩ := idx1 t
  refine congrArg (V m c main_arg1 : Vec F S2x5632x2048 .f32) (funext fun a => Fin.ext ?_)
  match a with
  | ⟨0, _⟩ => show win0_1.index t (0 : Fin 3) * 1 + 1 * 0 = 0; omega
  | ⟨1, _⟩ => show win0_1.index t (1 : Fin 3) * 5632 + 1 * k.val = k.val; omega
  | ⟨2, _⟩ => show win0_1.index t (2 : Fin 3) * 512 + 1 * l.val = 512 * (t.val / 16) + l.val; omega

/-- Within a column block the weight's block stays. -/
theorem same1 (t t' : Fin cfg0.N) (h : t.val / 16 = t'.val / 16) : iblk m c 1 t = iblk m c 1 t' := by
  funext y
  have e : (y : S1x5632x512.Idx) = ix3 0 (y 1) (y 2) := by rw [eq_ix3 y]; exact congrArg (ix3 · _ _) (Subsingleton.elim (α := Fin 1) _ _)
  rw [e]
  refine (blk1 m c t _ _).trans (Eq.trans ?_ (blk1 m c t' _ _).symm)
  refine congrArg _ (congrArg _ (Fin.ext ?_))
  show 512 * (t.val / 16) + _ = 512 * (t'.val / 16) + _
  rw [h]

/-- The residual's block at a point. -/
theorem blk2 (t : Fin cfg0.N) (r : Fin 544) (l : Fin 512) :
    (iblk m c 2 t : Vec F S544x512 .f32) (ix2 r l) = (V m c main_arg2 : Vec F S8704x2048 .f32) (ix2 (row t.val r) (col t.val (point_lt t) l)) := by
  obtain ⟨e0, e1⟩ := idx2 t
  refine congrArg (V m c main_arg2 : Vec F S8704x2048 .f32) (funext fun a => Fin.ext ?_)
  match a with
  | ⟨0, _⟩ => show win0_2.index t (0 : Fin 2) * 544 + 1 * r.val = 544 * (t.val % 16) + r.val; omega
  | ⟨1, _⟩ => show win0_2.index t (1 : Fin 2) * 512 + 1 * l.val = 512 * (t.val / 16) + l.val; omega

/-- The modulation's block at a point. -/
theorem blk3 (t : Fin cfg0.N) (p : Fin 8) (l : Fin 512) :
    (iblk m c 3 t : Vec F S8x512 .f32) (ix2 p l) = (V m c main_arg3 : Vec F S8x12288 .f32) (ix2 p (modcol (col t.val (point_lt t) l))) := by
  obtain ⟨e0, e1⟩ := idx3 t
  refine congrArg (V m c main_arg3 : Vec F S8x12288 .f32) (funext fun a => Fin.ext ?_)
  match a with
  | ⟨0, _⟩ => show win0_3.index t (0 : Fin 2) * 8 + 1 * p.val = p.val; omega
  | ⟨1, _⟩ => show win0_3.index t (1 : Fin 2) * 512 + 1 * l.val = 10240 + (512 * (t.val / 16) + l.val); omega

/-- The shared row, entry by entry. -/
theorem shared_apply (t : Fin cfg0.N) (l : Fin 512) :
    shared m c t (ix2 0 l) = (V m c main_arg3 : Vec F S8x12288 .f32) (ix2 0 (modcol (col t.val (point_lt t) l))) := by
  have h := readAt_row (ms0_3 t) (hs0_3 t) ![0, 0] inb_S8x512_S1x512_0_0 (iblk m c 3 t) 0 rfl rfl l
  exact h.trans (blk3 m c t 0 l)

/-- The row of a point's sequence, entry by entry. -/
theorem own_apply (t : Fin cfg0.N) (l : Fin 512) :
    own m c t (ix2 0 l) = (V m c main_arg3 : Vec F S8x12288 .f32) (ix2 ⟨1 + t.val % 16 / 8, by omega⟩ (modcol (col t.val (point_lt t) l))) := by
  have h := readAt_row (ms0_3 t) (hs0_3 t) (k0_off1 (grid0.coords t)) (k0_off1_inb (grid0.coords t)) (iblk m c 3 t)
    ⟨1 + t.val % 16 / 8, by omega⟩ (off_own t).1 (off_own t).2 l
  exact h.trans (blk3 m c t _ l)

/-- Every point leaves what it would leave had it loaded the weight itself. -/
theorem outs_eq (n : ℕ) (hn : n < cfg0.N) : outsAt0 m c n hn = left m c ⟨n, hn⟩ := by
  induction n with
  | zero => exact outs_first m c ⟨0, hn⟩ rfl
  | succ n ih =>
    by_cases h0 : (n + 1) % 16 = 0
    · exact outs_first m c ⟨n + 1, hn⟩ h0
    · have hW : (outsAt0 m c n (Nat.lt_of_succ_lt hn)).2 = (left m c ⟨n + 1, hn⟩).2 := by
        rw [ih]
        have hq : n / 16 = (n + 1) / 16 := by omega
        unfold left
        rw [same1 m c ⟨n, Nat.lt_of_succ_lt hn⟩ ⟨n + 1, hn⟩ hq]
      exact outs_next m c ⟨n + 1, hn⟩ h0 _ hW

/-- The array after the run, at the place that point `t` writes. -/
theorem array_at (t : Fin cfg0.N) (r : Fin 544) (l : Fin 512) :
    ((dats m 0 c).arrAt 4 cfg0.N : Vec F S8704x2048 .f32) (ix2 (row t.val r) (col t.val (point_lt t) l)) = (left m c t).1 (ix2 r l) := by
  have ht := point_lt t
  rw [Value.final4]
  have hp : Value.pt4Of (ix2 (row t.val r) (col t.val (point_lt t) l)) = t.val := by
    show 1 * ((544 * (t.val % 16) + r.val) / 544 - 0) + 16 * ((512 * (t.val / 16) + l.val) / 512 - 0) = t.val
    omega
  have hl : Value.loc4Of (ix2 (row t.val r) (col t.val (point_lt t) l)) = ix2 r l := by
    funext a; apply Fin.ext
    match a with
    | ⟨0, _⟩ => show (544 * (t.val % 16) + r.val) % 544 = r.val; omega
    | ⟨1, _⟩ => show (512 * (t.val / 16) + l.val) % 512 = l.val; omega
  unfold Value.G4
  rw [dif_pos (by rw [hp]; exact t.isLt), hl, Value.fold0_congr m c _ _ _ (by rw [Nat.zero_add]; exact t.isLt) hp,
    ← Value.outsAt0_sweep, outs_eq]

/-- Every place of the array is a point's. -/
theorem place (R : Fin 8704) (C : Fin 2048) : ∃ (t : Fin cfg0.N) (r : Fin 544) (l : Fin 512),
    R = row t.val r ∧ C = col t.val (point_lt t) l := by
  refine ⟨⟨16 * (C.val / 512) + R.val / 544, lt_of_lt_of_eq (by omega) (by decide : 64 = cfg0.N)⟩, ⟨R.val % 544, by omega⟩, ⟨C.val % 512, by omega⟩, Fin.ext ?_, Fin.ext ?_⟩
  · show R.val = 544 * ((16 * (C.val / 512) + R.val / 544) % 16) + R.val % 544; omega
  · show C.val = 512 * ((16 * (C.val / 512) + R.val / 544) / 16) + C.val % 512; omega

/-- The number, within its sequence, of the first row of a point. -/
def start (i : grid0.Coords) : BitVec 32 :=
  let arg1 : BitVec 32 := BitVec.ofNat 32 (i 1).val
  let v7 : BitVec 32 := Scalar.muli arg1 544#32
  let v8 : BitVec 32 := Scalar.divsi v7 4352#32
  let v9 : BitVec 1 := Scalar.cmpi .sgt v7 0#32
  let v10 : BitVec 32 := Scalar.extui v9
  let v11 : BitVec 1 := Scalar.cmpi .slt v7 0#32
  let v12 : BitVec 32 := Scalar.extui v11
  let v13 : BitVec 32 := Scalar.subi v10 v12
  let v14 : BitVec 1 := Scalar.cmpi .sgt 4352#32 0#32
  let v15 : BitVec 32 := Scalar.extui v14
  let v16 : BitVec 1 := Scalar.cmpi .slt 4352#32 0#32
  let v17 : BitVec 32 := Scalar.extui v16
  let v18 : BitVec 32 := Scalar.subi v15 v17
  let v19 : BitVec 1 := Scalar.cmpi .ne v13 v18
  let v20 : BitVec 32 := Scalar.remsi v7 4352#32
  let v21 : BitVec 1 := Scalar.cmpi .ne v20 0#32
  let v22 : BitVec 1 := Scalar.andi v19 v21
  let v23 : BitVec 32 := Scalar.subi v8 1#32
  let v24 : BitVec 32 := Scalar.select v22 v23 v8
  let v25 : BitVec 32 := Scalar.muli v24 4352#32
  let v26 : BitVec 32 := Scalar.subi v7 v25
  v26

/-- The mask at a point: the first 256 rows of a sequence. -/
theorem mask_apply (t : Fin cfg0.N) (r : Fin 544) :
    k0_pay4 (grid0.coords t) (ix2 r 0) = if (row t.val r).val % 4352 < 256 then 1#1 else 0#1 := by
  have hb : ∀ t : Fin grid0.N, start (grid0.coords t) = BitVec.ofNat 32 (544 * (t.val % 8)) := by decide +kernel
  have e : k0_pay4 (grid0.coords t) (ix2 r 0) = IntOp.cmpi CmpIPredicate.slt (IntOp.addi (start (grid0.coords t)) (BitVec.ofNat 32 (0 * 544 + r.val))) 256#32 := rfl
  rw [e, hb t, Nat.zero_mul, Nat.zero_add, early _ _ (by omega)]
  have hr : (row t.val r).val % 4352 = 544 * (t.val % 8) + r.val := by
    show (544 * (t.val % 16) + r.val) % 4352 = _
    omega
  rw [hr]

end AnyFloat

variable (m : (ℓ : Loc nD τ sig) → Buf (Elt Idealize.ShloMosaic.Ideal) ℓ) (c : Dev nD)

/-- The activations at region entry are the caller's. -/
theorem entry_v0 (i : S8704x5632.Idx) : (V m c main_v0 : S8704x5632.Idx → EReal) i = m ((c : Thread nD τ).loc main_arg0) i := by
  have h : V m c main_v0 = truncf (F := Idealize.ShloMosaic.Ideal) .bf16 (m ((c : Thread nD τ).loc main_arg0)) bitsLt_bf16_f32 := by
    simp only [Gen.V, hostOps0]; after_results
  rw [h]; rfl

/-- The sum of one entry: the activations' row with a column of the weight. -/
def dotAt (h : S8704x5632.Idx → EReal) (w : S2x5632x2048.Idx → EReal) (R : Fin 8704) (C : Fin 2048) : EReal :=
  dotv (fun k : Fin 5632 => h (ix2 R k)) (fun k => w (ix3 0 k C))

/-- One entry of the result: the residual and the gated sum. -/
def resid (h : S8704x5632.Idx → EReal) (w : S2x5632x2048.Idx → EReal) (y : S8704x2048.Idx → EReal) (g : S8x12288.Idx → EReal)
    (R : Fin 8704) (C : Fin 2048) : EReal :=
  y (ix2 R C) + g (ix2 (pick R) (modcol C)) * dotAt h w R C

/-- A weight's block as kept. -/
theorem pay2_apply (x : Vec Idealize.ShloMosaic.Ideal S1x5632x512 .f32) (k : Fin 5632) (l : Fin 512) :
    (k0_pay2 x : S5632x512.Idx → EReal) (ix2 k l) = x (ix3 0 k l) := by
  unfold k0_pay2
  rw [shapeCast_self]
  have e := plane_apply x shapeCasts_S1x5632x512_S5632x512 k l
  exact e

/-- A point's product. -/
theorem pay3_apply (x : Vec Idealize.ShloMosaic.Ideal S544x5632 .bf16) (a : Vec Idealize.ShloMosaic.Ideal S5632x512 .bf16) (r : Fin 544) (l : Fin 512) :
    (k0_pay3 x a : S544x512.Idx → EReal) (ix2 r l) = dotv (fun k : Fin 5632 => x (ix2 r k)) (fun k => a (ix2 k l)) := by
  have hd := dot_apply (φ₁ := .bf16) (φ₂ := .bf16) dot_S544x5632_S5632x512_S544x512_1_0_0_1_n_n rfl none x a r l
  unfold k0_pay3
  rw [shapeCast_self]
  exact hd

/-- A point's output block: the residual and the gated product. -/
theorem pay1_apply (v : FVec Idealize.ShloMosaic.Ideal S544x512 .f32) (a b : Vec Idealize.ShloMosaic.Ideal S1x512 .f32) (k : IVec S544x1 1)
    (y : Vec Idealize.ShloMosaic.Ideal S544x512 .f32) (r : Fin 544) (l : Fin 512) :
    (k0_pay1 v a b k y : S544x512.Idx → EReal) (ix2 r l)
      = (y (ix2 r l) : EReal) + Scalar.select (k (ix2 r 0)) (a (ix2 0 l) : EReal) (b (ix2 0 l)) * v (ix2 r l) := by
  unfold k0_pay1
  rw [shapeCast_self, shapeCast_self, shapeCast_self]
  have hk : broadcastTo S544x512 k broadcasts_S544x1_S544x512 (ix2 r l) = k (ix2 r 0) := by
    unfold broadcastTo
    refine congrArg k (funext fun a => Fin.ext ?_)
    match a with
    | ⟨0, _⟩ => rfl
    | ⟨1, _⟩ => rfl
  have ha : ∀ a : Vec Idealize.ShloMosaic.Ideal S1x512 .f32, broadcastTo S544x512 a broadcasts_S1x512_S544x512 (ix2 r l) = a (ix2 0 l) := fun a => by
    unfold broadcastTo
    refine congrArg a (funext fun a => Fin.ext ?_)
    match a with
    | ⟨0, _⟩ => rfl
    | ⟨1, _⟩ => rfl
  rw [← hk, ← ha a, ← ha b]
  rfl

/-- One entry of the kernel's array. -/
theorem kernel_entry (R : Fin 8704) (C : Fin 2048) :
    ((dats m 0 c).arrAt 4 cfg0.N : S8704x2048.Idx → EReal) (ix2 R C)
      = resid (m ((c : Thread nD τ).loc main_arg0)) (m ((c : Thread nD τ).loc main_arg1)) (m ((c : Thread nD τ).loc main_arg2))
          (m ((c : Thread nD τ).loc main_arg3)) R C := by
  obtain ⟨t, r, l, rfl, rfl⟩ := place R C
  refine (array_at m c t r l).trans ((pay1_apply _ _ _ _ _ r l).trans ?_)
  have ed : (k0_pay3 (iblk m c 0 t) (k0_pay2 (iblk m c 1 t)) : S544x512.Idx → EReal) (ix2 r l)
      = dotAt (m ((c : Thread nD τ).loc main_arg0)) (m ((c : Thread nD τ).loc main_arg1)) (row t.val r) (col t.val (point_lt t) l) := by
    refine (pay3_apply _ _ r l).trans (dotv_congr (fun k => ?_) (fun k => ?_))
    · exact (blk0 m c t r k).trans (entry_v0 m c _)
    · exact (pay2_apply _ k l).trans ((blk1 m c t k l).trans (congrFun (V_main_arg1 m c) _))
  have ey := (blk2 m c t r l).trans (congrFun (V_main_arg2 m c) _)
  have eg : (Scalar.select (k0_pay4 (grid0.coords t) (ix2 r 0)) (shared m c t (ix2 0 l) : EReal) (own m c t (ix2 0 l)) : EReal)
      = (m ((c : Thread nD τ).loc main_arg3) : S8x12288.Idx → EReal) (ix2 (pick (row t.val r)) (modcol (col t.val (point_lt t) l))) := by
    have es := (shared_apply m c t l).trans (congrFun (V_main_arg3 m c) _)
    have eo := (own_apply m c t l).trans (congrFun (V_main_arg3 m c) _)
    rw [mask_apply t r]
    unfold pick
    by_cases h : (row t.val r).val % 4352 < 256
    · rw [if_pos h, if_pos h]
      exact es
    · rw [if_neg h, if_neg h]
      refine eo.trans ?_
      refine congrArg (fun p : Fin 8 => (m ((c : Thread nD τ).loc main_arg3) : S8x12288.Idx → EReal) (ix2 p (modcol (col t.val (point_lt t) l)))) (Fin.ext ?_)
      show 1 + t.val % 16 / 8 = 1 + (544 * (t.val % 16) + r.val) / 4352
      omega
  have p := congrArg₂ (fun g d : EReal => g * d) eg ed
  exact congrArg₂ (fun y q : EReal => y + q) ey p

end Cert.DownIdeal.Blocks

namespace Cert.RefDownIdeal.Blocks

open Idealize.ShloMosaic Idealize.ShloMosaic.TcCoe Idealize.SL.Sem
open Cert.RefDownIdeal Cert.RefDownIdeal.Gen Cert.Dense

/-- The reference's product, at an entry. -/
theorem product (h : FVec Idealize.ShloMosaic.Ideal S8704x5632 .f32) (w : FVec Idealize.ShloMosaic.Ideal S2x5632x2048 .f32) (R : Fin 8704) (C : Fin 2048) :
    (Host.dotGeneral (F := Idealize.ShloMosaic.Ideal) dot_S8704x5632_S5632x2048_S8704x2048_1_0_0_1_n_n none h
      (shapeCast _ (extractStridedSlice S1x5632x2048 ![0, 0, 0] w slices_S2x5632x2048_S1x5632x2048_0_0_0) shapeCasts_S1x5632x2048_S5632x2048) : S8704x2048.Idx → EReal) (ix2 R C)
      = Cert.DownIdeal.Blocks.dotAt h w R C := by
  refine (host_dot_apply (φ₁ := .f32) (φ₂ := .f32) _ rfl none h _ R C).trans ?_
  exact dotv_congr (fun k => rfl) fun k =>
    (slice_plane 0 w slices_S2x5632x2048_S1x5632x2048_0_0_0 shapeCasts_S1x5632x2048_S5632x2048 0 rfl k C C (Nat.zero_add _).symm)

/-- One entry of the reference's result. -/
theorem entry (h : FVec Idealize.ShloMosaic.Ideal S8704x5632 .f32) (w : FVec Idealize.ShloMosaic.Ideal S2x5632x2048 .f32) (y : FVec Idealize.ShloMosaic.Ideal S8704x2048 .f32) (g : FVec Idealize.ShloMosaic.Ideal S8x12288 .f32) (R : Fin 8704) (C : Fin 2048) :
    (addf (F := Idealize.ShloMosaic.Ideal) y (mulf (shapeCast _ (concatenate S2x4352x2048 1 [⟨S2x256x2048, (broadcastInDim S2x256x2048 ![2] bcast_S2048_S2x256x2048_2 (shapeCast _ (extractStridedSlice S1x2048 ![0, 0] (extractStridedSlice S8x2048 ![0, 10240] g slices_S8x12288_S8x2048_0_10240) slices_S8x2048_S1x2048_0_0) shapeCasts_S1x2048_S2048))⟩, ⟨S2x4096x2048, (broadcastInDim S2x4096x2048 ![0, 1, 2] bcast_S2x1x2048_S2x4096x2048_0_1_2 (broadcastInDim S2x1x2048 ![0, 2] bcast_S2x2048_S2x1x2048_0_2 (extractStridedSlice S2x2048 ![1, 0] (extractStridedSlice S8x2048 ![0, 10240] g slices_S8x12288_S8x2048_0_10240) slices_S8x2048_S2x2048_1_0)))⟩] concatenates_S2x256x2048_S2x4096x2048_S2x4352x2048_d1) shapeCasts_S2x4352x2048_S8704x2048) (Host.dotGeneral dot_S8704x5632_S5632x2048_S8704x2048_1_0_0_1_n_n none h (shapeCast _ (extractStridedSlice S1x5632x2048 ![0, 0, 0] w slices_S2x5632x2048_S1x5632x2048_0_0_0) shapeCasts_S1x5632x2048_S5632x2048))) : S8704x2048.Idx → EReal) (ix2 R C)
      = Cert.DownIdeal.Blocks.resid h w y g R C := by
  have e := gate_apply 10240 g slices_S8x12288_S8x2048_0_10240 slices_S8x2048_S1x2048_0_0 shapeCasts_S1x2048_S2048 bcast_S2048_S2x256x2048_2
    slices_S8x2048_S2x2048_1_0 bcast_S2x2048_S2x1x2048_0_2 bcast_S2x1x2048_S2x4096x2048_0_1_2
    concatenates_S2x256x2048_S2x4096x2048_S2x4352x2048_d1 shapeCasts_S2x4352x2048_S8704x2048 (by decide) R C
  have p := congrArg₂ (fun a d : EReal => (y (ix2 R C) : EReal) + a * d) e (product h w R C)
  exact p

end Cert.RefDownIdeal.Blocks

namespace Cert.DownIdeal.Blocks

open Idealize.ShloMosaic Idealize.ShloMosaic.TcCoe Idealize.SL.Sem

/-- The down projection's value claim. -/
theorem value : Cert.algebraic_DownIdeal_RefDownIdeal := fun m ρ m' ρ' _ hag =>
  ⟨fun c => (Cert.DownIdeal.Gen.dats m 0 c).arrAt 4 Cert.DownIdeal.cfg0.N, Cert.DownIdeal.Value.run_blocks m ρ,
    (θ_run _ _ _).mono (fun r h c => by
      refine ⟨(h c).1.trans ?_, (h c).2⟩
      obtain ⟨e0, e1, e2, e3⟩ := hag c
      funext i
      obtain ⟨R, C, rfl⟩ : ∃ R C, i = ix2 R C := ⟨i 0, i 1, eq_ix2 i⟩
      refine (Cert.RefDownIdeal.Blocks.entry _ _ _ _ R C).trans (Eq.trans ?_ (kernel_entry m c R C).symm)
      rw [e0, e1, e2, e3])
      (Cert.RefDownIdeal.Value.run (F := Idealize.ShloMosaic.Ideal) m' ρ')⟩

end Cert.DownIdeal.Blocks
-- ==== Proof.Out.lean ====
/- The output projection: the residual and the gated product: the kernel's array after the run, and the reference's, entry by entry. -/
module

public import proofs.«01_k».proof.Proof.Gate
public import proofs.«01_k».proof.Proof.Gen.OutIdeal.Value
public import proofs.«01_k».proof.Proof.Gen.RefOutIdeal.Run
public import proofs.«01_k».proof.Defs

@[expose] public section

set_option maxRecDepth 16384

noncomputable section

namespace Cert.OutIdeal.Blocks

open Idealize.ShloMosaic Idealize.ShloMosaic.TcCoe Idealize.SL.Sem
open Cert.OutIdeal Cert.OutIdeal.Gen Cert.Dense

section AnyFloat

variable {F : FTy → Type} [FloatOps F]
variable (m : (ℓ : Loc nD τ sig) → Buf (Elt F) ℓ) (c : Dev nD)

/-- The modulation's shared row at a point. -/
def shared (t : Fin cfg0.N) : Vec F S1x1024 .f32 := kernelRun0_A.sl.r_1 c (ms0_3 t) (hs0_3 t) (iblk m c 3 t)

/-- The modulation's row of a point's sequence. -/
def own (t : Fin cfg0.N) : Vec F S1x1024 .f32 := kernelRun0_A.sl.r_2 c (grid0.coords t) (ms0_3 t) (hs0_3 t) (iblk m c 3 t)

/-- What a point leaves: its output block, and the column block of the weight that it keeps. -/
def left (t : Fin cfg0.N) : Vec F S1088x1024 .f32 × Vec F S2048x1024 .bf16 :=
  (k0_pay1 (k0_pay3 (iblk m c 0 t) (k0_pay2 (iblk m c 1 t))) (shared m c t) (own m c t) (k0_pay4 (grid0.coords t)) (iblk m c 2 t),
    k0_pay2 (iblk m c 1 t))

/-- The output block is a function of its activations, its weight and its residual. -/
theorem three_congr {x x' : Vec F S1088x2048 .bf16} {w w' : Vec F S2048x1024 .bf16} {y y' : Vec F S1088x1024 .f32}
    (hx : x = x') (hw : w = w') (hy : y = y') (a b : Vec F S1x1024 .f32) (k : IVec S1088x1 1) :
    k0_pay1 (k0_pay3 x w) a b k y = k0_pay1 (k0_pay3 x' w') a b k y' := by
  rw [hx, hw, hy]

/-- A first row block loads the weight. -/
theorem outs_first (t : Fin cfg0.N) (h0 : t.val % 8 = 0) : outsAt0 m c t.val t.isLt = left m c t := by
  rw [outsAt0_A m c t h0]
  unfold out0_A_4 sout0_A_0 kernelRun0_A left
  dsimp only [kernelRun0_A.sl.r, kernelRun0_A.sl.v5, kernelRun0_A.sl.HS0_1]
  have e1 := readAt_whole (ms0_1 t) (hs0_1 t) off3 inb_S1x2048x1024_S1x2048x1024_0_0_0 (iblk m c 1 t)
  have f0 := readAt_whole (ms0_0 t) (hs0_0 t) off2 inb_S1088x2048_S1088x2048_0_0 (iblk m c 0 t)
  have f2 := readAt_whole (ms0_2 t) (hs0_2 t) off2 inb_S1088x1024_S1088x1024_0_0 (iblk m c 2 t)
  rw [read_whole _ off2, read_whole _ off2, View.readCov_unit_zero _ off2]
  have e := congrArg (fun a => (k0_pay2 a : Vec F S2048x1024 .bf16)) e1
  exact Prod.ext (three_congr f0 e f2 _ _ _) e

/-- Every other row block computes with the weight the point before kept. -/
theorem outs_next (t : Fin cfg0.N) (h0 : ¬ t.val % 8 = 0) (W : Vec F S2048x1024 .bf16)
    (hW : (outsAt0 m c (t.val - 1) (Nat.lt_of_le_of_lt (Nat.sub_le _ _) t.isLt)).2 = W) :
    outsAt0 m c t.val t.isLt = (k0_pay1 (k0_pay3 (iblk m c 0 t) W) (shared m c t) (own m c t) (k0_pay4 (grid0.coords t)) (iblk m c 2 t), W) := by
  subst hW
  rw [outsAt0_B m c t h0]
  unfold out0_B_4 sout0_B_0 kernelRun0_B
  dsimp only [kernelRun0_B.sl.r]
  rw [read_whole _ off2]
  have f0 := readAt_whole (ms0_0 t) (hs0_0 t) off2 inb_S1088x2048_S1088x2048_0_0 (iblk m c 0 t)
  have f2 := readAt_whole (ms0_2 t) (hs0_2 t) off2 inb_S1088x1024_S1088x1024_0_0 (iblk m c 2 t)
  have e1 := readAt_whole (Memref.whole cc0_scratch0) (Memref.isWhole_whole _) off2 inb_S2048x1024_S2048x1024_0_0
    (outsAt0 m c (t.val - 1) (Nat.lt_of_le_of_lt (Nat.sub_le _ _) t.isLt)).2
  exact Prod.ext (three_congr f0 e1 f2 _ _ _) rfl

theorem point_lt (t : Fin cfg0.N) : t.val < 16 := (by decide : cfg0.N = 16) ▸ t.isLt

theorem idx0 : ∀ t : Fin cfg0.N, win0_0.index t (0 : Fin 2) = t.val % 8 ∧ win0_0.index t (1 : Fin 2) = 0 :=
  (by decide +kernel : ∀ t : Fin grid0.N, _)
theorem idx1 : ∀ t : Fin cfg0.N, win0_1.index t (0 : Fin 3) = 0 ∧ win0_1.index t (1 : Fin 3) = 0 ∧ win0_1.index t (2 : Fin 3) = t.val / 8 :=
  (by decide +kernel : ∀ t : Fin grid0.N, _)
theorem idx2 : ∀ t : Fin cfg0.N, win0_2.index t (0 : Fin 2) = t.val % 8 ∧ win0_2.index t (1 : Fin 2) = t.val / 8 :=
  (by decide +kernel : ∀ t : Fin grid0.N, _)
theorem idx3 : ∀ t : Fin cfg0.N, win0_3.index t (0 : Fin 2) = 0 ∧ win0_3.index t (1 : Fin 2) = 4 + t.val / 8 :=
  (by decide +kernel : ∀ t : Fin grid0.N, _)

/-- The row of the modulation that a point's own row is loaded from. -/
theorem off_own : ∀ t : Fin cfg0.N, k0_off1 (grid0.coords t) (0 : Fin 2) = 1 + t.val % 8 / 4 ∧ k0_off1 (grid0.coords t) (1 : Fin 2) = 0 :=
  (by decide +kernel : ∀ t : Fin grid0.N, _)

/-- Row `r` of a point's row block. -/
def row (n : ℕ) (r : Fin 1088) : Fin 8704 := ⟨1088 * (n % 8) + r.val, by omega⟩
/-- Column `l` of a point's column block. -/
def col (n : ℕ) (hn : n < 16) (l : Fin 1024) : Fin 2048 := ⟨1024 * (n / 8) + l.val, by omega⟩
/-- A result's column among the modulation's. -/
def modcol (C : Fin 2048) : Fin 12288 := ⟨4096 + C.val, by omega⟩

/-- The activations' block at a point. -/
theorem blk0 (t : Fin cfg0.N) (r : Fin 1088) (k : Fin 2048) :
    (iblk m c 0 t : Vec F S1088x2048 .bf16) (ix2 r k) = (V m c main_v0 : Vec F S8704x2048 .bf16) (ix2 (row t.val r) k) := by
  obtain ⟨e0, e1⟩ := idx0 t
  refine congrArg (V m c main_v0 : Vec F S8704x2048 .bf16) (funext fun a => Fin.ext ?_)
  match a with
  | ⟨0, _⟩ => show win0_0.index t (0 : Fin 2) * 1088 + 1 * r.val = 1088 * (t.val % 8) + r.val; omega
  | ⟨1, _⟩ => show win0_0.index t (1 : Fin 2) * 2048 + 1 * k.val = k.val; omega

/-- The weight's block at a point. -/
theorem blk1 (t : Fin cfg0.N) (k : Fin 2048) (l : Fin 1024) :
    (iblk m c 1 t : Vec F S1x2048x1024 .f32) (ix3 0 k l) = (V m c main_arg1 : Vec F S4x2048x2048 .f32) (ix3 0 k (col t.val (point_lt t) l)) := by
  obtain ⟨e0, e1, e2⟩ := idx1 t
  refine congrArg (V m c main_arg1 : Vec F S4x2048x2048 .f32) (funext fun a => Fin.ext ?_)
  match a with
  | ⟨0, _⟩ => show win0_1.index t (0 : Fin 3) * 1 + 1 * 0 = 0; omega
  | ⟨1, _⟩ => show win0_1.index t (1 : Fin 3) * 2048 + 1 * k.val = k.val; omega
  | ⟨2, _⟩ => show win0_1.index t (2 : Fin 3) * 1024 + 1 * l.val = 1024 * (t.val / 8) + l.val; omega

/-- Within a column block the weight's block stays. -/
theorem same1 (t t' : Fin cfg0.N) (h : t.val / 8 = t'.val / 8) : iblk m c 1 t = iblk m c 1 t' := by
  funext y
  have e : (y : S1x2048x1024.Idx) = ix3 0 (y 1) (y 2) := by rw [eq_ix3 y]; exact congrArg (ix3 · _ _) (Subsingleton.elim (α := Fin 1) _ _)
  rw [e]
  refine (blk1 m c t _ _).trans (Eq.trans ?_ (blk1 m c t' _ _).symm)
  refine congrArg _ (congrArg _ (Fin.ext ?_))
  show 1024 * (t.val / 8) + _ = 1024 * (t'.val / 8) + _
  rw [h]

/-- The residual's block at a point. -/
theorem blk2 (t : Fin cfg0.N) (r : Fin 1088) (l : Fin 1024) :
    (iblk m c 2 t : Vec F S1088x1024 .f32) (ix2 r l) = (V m c main_arg2 : Vec F S8704x2048 .f32) (ix2 (row t.val r) (col t.val (point_lt t) l)) := by
  obtain ⟨e0, e1⟩ := idx2 t
  refine congrArg (V m c main_arg2 : Vec F S8704x2048 .f32) (funext fun a => Fin.ext ?_)
  match a with
  | ⟨0, _⟩ => show win0_2.index t (0 : Fin 2) * 1088 + 1 * r.val = 1088 * (t.val % 8) + r.val; omega
  | ⟨1, _⟩ => show win0_2.index t (1 : Fin 2) * 1024 + 1 * l.val = 1024 * (t.val / 8) + l.val; omega

/-- The modulation's block at a point. -/
theorem blk3 (t : Fin cfg0.N) (p : Fin 8) (l : Fin 1024) :
    (iblk m c 3 t : Vec F S8x1024 .f32) (ix2 p l) = (V m c main_arg3 : Vec F S8x12288 .f32) (ix2 p (modcol (col t.val (point_lt t) l))) := by
  obtain ⟨e0, e1⟩ := idx3 t
  refine congrArg (V m c main_arg3 : Vec F S8x12288 .f32) (funext fun a => Fin.ext ?_)
  match a with
  | ⟨0, _⟩ => show win0_3.index t (0 : Fin 2) * 8 + 1 * p.val = p.val; omega
  | ⟨1, _⟩ => show win0_3.index t (1 : Fin 2) * 1024 + 1 * l.val = 4096 + (1024 * (t.val / 8) + l.val); omega

/-- The shared row, entry by entry. -/
theorem shared_apply (t : Fin cfg0.N) (l : Fin 1024) :
    shared m c t (ix2 0 l) = (V m c main_arg3 : Vec F S8x12288 .f32) (ix2 0 (modcol (col t.val (point_lt t) l))) := by
  have h := readAt_row (ms0_3 t) (hs0_3 t) ![0, 0] inb_S8x1024_S1x1024_0_0 (iblk m c 3 t) 0 rfl rfl l
  exact h.trans (blk3 m c t 0 l)

/-- The row of a point's sequence, entry by entry. -/
theorem own_apply (t : Fin cfg0.N) (l : Fin 1024) :
    own m c t (ix2 0 l) = (V m c main_arg3 : Vec F S8x12288 .f32) (ix2 ⟨1 + t.val % 8 / 4, by omega⟩ (modcol (col t.val (point_lt t) l))) := by
  have h := readAt_row (ms0_3 t) (hs0_3 t) (k0_off1 (grid0.coords t)) (k0_off1_inb (grid0.coords t)) (iblk m c 3 t)
    ⟨1 + t.val % 8 / 4, by omega⟩ (off_own t).1 (off_own t).2 l
  exact h.trans (blk3 m c t _ l)

/-- Every point leaves what it would leave had it loaded the weight itself. -/
theorem outs_eq (n : ℕ) (hn : n < cfg0.N) : outsAt0 m c n hn = left m c ⟨n, hn⟩ := by
  induction n with
  | zero => exact outs_first m c ⟨0, hn⟩ rfl
  | succ n ih =>
    by_cases h0 : (n + 1) % 8 = 0
    · exact outs_first m c ⟨n + 1, hn⟩ h0
    · have hW : (outsAt0 m c n (Nat.lt_of_succ_lt hn)).2 = (left m c ⟨n + 1, hn⟩).2 := by
        rw [ih]
        have hq : n / 8 = (n + 1) / 8 := by omega
        unfold left
        rw [same1 m c ⟨n, Nat.lt_of_succ_lt hn⟩ ⟨n + 1, hn⟩ hq]
      exact outs_next m c ⟨n + 1, hn⟩ h0 _ hW

/-- The array after the run, at the place that point `t` writes. -/
theorem array_at (t : Fin cfg0.N) (r : Fin 1088) (l : Fin 1024) :
    ((dats m 0 c).arrAt 4 cfg0.N : Vec F S8704x2048 .f32) (ix2 (row t.val r) (col t.val (point_lt t) l)) = (left m c t).1 (ix2 r l) := by
  have ht := point_lt t
  rw [Value.final4]
  have hp : Value.pt4Of (ix2 (row t.val r) (col t.val (point_lt t) l)) = t.val := by
    show 1 * ((1088 * (t.val % 8) + r.val) / 1088 - 0) + 8 * ((1024 * (t.val / 8) + l.val) / 1024 - 0) = t.val
    omega
  have hl : Value.loc4Of (ix2 (row t.val r) (col t.val (point_lt t) l)) = ix2 r l := by
    funext a; apply Fin.ext
    match a with
    | ⟨0, _⟩ => show (1088 * (t.val % 8) + r.val) % 1088 = r.val; omega
    | ⟨1, _⟩ => show (1024 * (t.val / 8) + l.val) % 1024 = l.val; omega
  unfold Value.G4
  rw [dif_pos (by rw [hp]; exact t.isLt), hl, Value.fold0_congr m c _ _ _ (by rw [Nat.zero_add]; exact t.isLt) hp,
    ← Value.outsAt0_sweep, outs_eq]

/-- Every place of the array is a point's. -/
theorem place (R : Fin 8704) (C : Fin 2048) : ∃ (t : Fin cfg0.N) (r : Fin 1088) (l : Fin 1024),
    R = row t.val r ∧ C = col t.val (point_lt t) l := by
  refine ⟨⟨8 * (C.val / 1024) + R.val / 1088, lt_of_lt_of_eq (by omega) (by decide : 16 = cfg0.N)⟩, ⟨R.val % 1088, by omega⟩, ⟨C.val % 1024, by omega⟩, Fin.ext ?_, Fin.ext ?_⟩
  · show R.val = 1088 * ((8 * (C.val / 1024) + R.val / 1088) % 8) + R.val % 1088; omega
  · show C.val = 1024 * ((8 * (C.val / 1024) + R.val / 1088) / 8) + C.val % 1024; omega

/-- The number, within its sequence, of the first row of a point. -/
def start (i : grid0.Coords) : BitVec 32 :=
  let arg1 : BitVec 32 := BitVec.ofNat 32 (i 1).val
  let v7 : BitVec 32 := Scalar.muli arg1 1088#32
  let v8 : BitVec 32 := Scalar.divsi v7 4352#32
  let v9 : BitVec 1 := Scalar.cmpi .sgt v7 0#32
  let v10 : BitVec 32 := Scalar.extui v9
  let v11 : BitVec 1 := Scalar.cmpi .slt v7 0#32
  let v12 : BitVec 32 := Scalar.extui v11
  let v13 : BitVec 32 := Scalar.subi v10 v12
  let v14 : BitVec 1 := Scalar.cmpi .sgt 4352#32 0#32
  let v15 : BitVec 32 := Scalar.extui v14
  let v16 : BitVec 1 := Scalar.cmpi .slt 4352#32 0#32
  let v17 : BitVec 32 := Scalar.extui v16
  let v18 : BitVec 32 := Scalar.subi v15 v17
  let v19 : BitVec 1 := Scalar.cmpi .ne v13 v18
  let v20 : BitVec 32 := Scalar.remsi v7 4352#32
  let v21 : BitVec 1 := Scalar.cmpi .ne v20 0#32
  let v22 : BitVec 1 := Scalar.andi v19 v21
  let v23 : BitVec 32 := Scalar.subi v8 1#32
  let v24 : BitVec 32 := Scalar.select v22 v23 v8
  let v25 : BitVec 32 := Scalar.muli v24 4352#32
  let v26 : BitVec 32 := Scalar.subi v7 v25
  v26

/-- The mask at a point: the first 256 rows of a sequence. -/
theorem mask_apply (t : Fin cfg0.N) (r : Fin 1088) :
    k0_pay4 (grid0.coords t) (ix2 r 0) = if (row t.val r).val % 4352 < 256 then 1#1 else 0#1 := by
  have hb : ∀ t : Fin grid0.N, start (grid0.coords t) = BitVec.ofNat 32 (1088 * (t.val % 4)) := by decide +kernel
  have e : k0_pay4 (grid0.coords t) (ix2 r 0) = IntOp.cmpi CmpIPredicate.slt (IntOp.addi (start (grid0.coords t)) (BitVec.ofNat 32 (0 * 1088 + r.val))) 256#32 := rfl
  rw [e, hb t, Nat.zero_mul, Nat.zero_add, early _ _ (by omega)]
  have hr : (row t.val r).val % 4352 = 1088 * (t.val % 4) + r.val := by
    show (1088 * (t.val % 8) + r.val) % 4352 = _
    omega
  rw [hr]

end AnyFloat

variable (m : (ℓ : Loc nD τ sig) → Buf (Elt Idealize.ShloMosaic.Ideal) ℓ) (c : Dev nD)

/-- The activations at region entry are the caller's. -/
theorem entry_v0 (i : S8704x2048.Idx) : (V m c main_v0 : S8704x2048.Idx → EReal) i = m ((c : Thread nD τ).loc main_arg0) i := by
  have h : V m c main_v0 = truncf (F := Idealize.ShloMosaic.Ideal) .bf16 (m ((c : Thread nD τ).loc main_arg0)) bitsLt_bf16_f32 := by
    simp only [Gen.V, hostOps0]; after_results
  rw [h]; rfl

/-- The sum of one entry: the activations' row with a column of the weight. -/
def dotAt (h : S8704x2048.Idx → EReal) (w : S4x2048x2048.Idx → EReal) (R : Fin 8704) (C : Fin 2048) : EReal :=
  dotv (fun k : Fin 2048 => h (ix2 R k)) (fun k => w (ix3 0 k C))

/-- One entry of the result: the residual and the gated sum. -/
def resid (h : S8704x2048.Idx → EReal) (w : S4x2048x2048.Idx → EReal) (y : S8704x2048.Idx → EReal) (g : S8x12288.Idx → EReal)
    (R : Fin 8704) (C : Fin 2048) : EReal :=
  y (ix2 R C) + g (ix2 (pick R) (modcol C)) * dotAt h w R C

/-- A weight's block as kept. -/
theorem pay2_apply (x : Vec Idealize.ShloMosaic.Ideal S1x2048x1024 .f32) (k : Fin 2048) (l : Fin 1024) :
    (k0_pay2 x : S2048x1024.Idx → EReal) (ix2 k l) = x (ix3 0 k l) := by
  unfold k0_pay2
  rw [shapeCast_self]
  have e := plane_apply x shapeCasts_S1x2048x1024_S2048x1024 k l
  exact e

/-- A point's product. -/
theorem pay3_apply (x : Vec Idealize.ShloMosaic.Ideal S1088x2048 .bf16) (a : Vec Idealize.ShloMosaic.Ideal S2048x1024 .bf16) (r : Fin 1088) (l : Fin 1024) :
    (k0_pay3 x a : S1088x1024.Idx → EReal) (ix2 r l) = dotv (fun k : Fin 2048 => x (ix2 r k)) (fun k => a (ix2 k l)) := by
  have hd := dot_apply (φ₁ := .bf16) (φ₂ := .bf16) dot_S1088x2048_S2048x1024_S1088x1024_1_0_0_1_n_n rfl none x a r l
  unfold k0_pay3
  rw [shapeCast_self]
  exact hd

/-- A point's output block: the residual and the gated product. -/
theorem pay1_apply (v : FVec Idealize.ShloMosaic.Ideal S1088x1024 .f32) (a b : Vec Idealize.ShloMosaic.Ideal S1x1024 .f32) (k : IVec S1088x1 1)
    (y : Vec Idealize.ShloMosaic.Ideal S1088x1024 .f32) (r : Fin 1088) (l : Fin 1024) :
    (k0_pay1 v a b k y : S1088x1024.Idx → EReal) (ix2 r l)
      = (y (ix2 r l) : EReal) + Scalar.select (k (ix2 r 0)) (a (ix2 0 l) : EReal) (b (ix2 0 l)) * v (ix2 r l) := by
  unfold k0_pay1
  rw [shapeCast_self, shapeCast_self, shapeCast_self]
  have hk : broadcastTo S1088x1024 k broadcasts_S1088x1_S1088x1024 (ix2 r l) = k (ix2 r 0) := by
    unfold broadcastTo
    refine congrArg k (funext fun a => Fin.ext ?_)
    match a with
    | ⟨0, _⟩ => rfl
    | ⟨1, _⟩ => rfl
  have ha : ∀ a : Vec Idealize.ShloMosaic.Ideal S1x1024 .f32, broadcastTo S1088x1024 a broadcasts_S1x1024_S1088x1024 (ix2 r l) = a (ix2 0 l) := fun a => by
    unfold broadcastTo
    refine congrArg a (funext fun a => Fin.ext ?_)
    match a with
    | ⟨0, _⟩ => rfl
    | ⟨1, _⟩ => rfl
  rw [← hk, ← ha a, ← ha b]
  rfl

/-- One entry of the kernel's array. -/
theorem kernel_entry (R : Fin 8704) (C : Fin 2048) :
    ((dats m 0 c).arrAt 4 cfg0.N : S8704x2048.Idx → EReal) (ix2 R C)
      = resid (m ((c : Thread nD τ).loc main_arg0)) (m ((c : Thread nD τ).loc main_arg1)) (m ((c : Thread nD τ).loc main_arg2))
          (m ((c : Thread nD τ).loc main_arg3)) R C := by
  obtain ⟨t, r, l, rfl, rfl⟩ := place R C
  refine (array_at m c t r l).trans ((pay1_apply _ _ _ _ _ r l).trans ?_)
  have ed : (k0_pay3 (iblk m c 0 t) (k0_pay2 (iblk m c 1 t)) : S1088x1024.Idx → EReal) (ix2 r l)
      = dotAt (m ((c : Thread nD τ).loc main_arg0)) (m ((c : Thread nD τ).loc main_arg1)) (row t.val r) (col t.val (point_lt t) l) := by
    refine (pay3_apply _ _ r l).trans (dotv_congr (fun k => ?_) (fun k => ?_))
    · exact (blk0 m c t r k).trans (entry_v0 m c _)
    · exact (pay2_apply _ k l).trans ((blk1 m c t k l).trans (congrFun (V_main_arg1 m c) _))
  have ey := (blk2 m c t r l).trans (congrFun (V_main_arg2 m c) _)
  have eg : (Scalar.select (k0_pay4 (grid0.coords t) (ix2 r 0)) (shared m c t (ix2 0 l) : EReal) (own m c t (ix2 0 l)) : EReal)
      = (m ((c : Thread nD τ).loc main_arg3) : S8x12288.Idx → EReal) (ix2 (pick (row t.val r)) (modcol (col t.val (point_lt t) l))) := by
    have es := (shared_apply m c t l).trans (congrFun (V_main_arg3 m c) _)
    have eo := (own_apply m c t l).trans (congrFun (V_main_arg3 m c) _)
    rw [mask_apply t r]
    unfold pick
    by_cases h : (row t.val r).val % 4352 < 256
    · rw [if_pos h, if_pos h]
      exact es
    · rw [if_neg h, if_neg h]
      refine eo.trans ?_
      refine congrArg (fun p : Fin 8 => (m ((c : Thread nD τ).loc main_arg3) : S8x12288.Idx → EReal) (ix2 p (modcol (col t.val (point_lt t) l)))) (Fin.ext ?_)
      show 1 + t.val % 8 / 4 = 1 + (1088 * (t.val % 8) + r.val) / 4352
      omega
  have p := congrArg₂ (fun g d : EReal => g * d) eg ed
  exact congrArg₂ (fun y q : EReal => y + q) ey p

end Cert.OutIdeal.Blocks

namespace Cert.RefOutIdeal.Blocks

open Idealize.ShloMosaic Idealize.ShloMosaic.TcCoe Idealize.SL.Sem
open Cert.RefOutIdeal Cert.RefOutIdeal.Gen Cert.Dense

/-- The reference's product, at an entry. -/
theorem product (h : FVec Idealize.ShloMosaic.Ideal S8704x2048 .f32) (w : FVec Idealize.ShloMosaic.Ideal S4x2048x2048 .f32) (R : Fin 8704) (C : Fin 2048) :
    (Host.dotGeneral (F := Idealize.ShloMosaic.Ideal) dot_S8704x2048_S2048x2048_S8704x2048_1_0_0_1_n_n none h
      (shapeCast _ (extractStridedSlice S1x2048x2048 ![0, 0, 0] w slices_S4x2048x2048_S1x2048x2048_0_0_0) shapeCasts_S1x2048x2048_S2048x2048) : S8704x2048.Idx → EReal) (ix2 R C)
      = Cert.OutIdeal.Blocks.dotAt h w R C := by
  refine (host_dot_apply (φ₁ := .f32) (φ₂ := .f32) _ rfl none h _ R C).trans ?_
  exact dotv_congr (fun k => rfl) fun k =>
    (slice_plane 0 w slices_S4x2048x2048_S1x2048x2048_0_0_0 shapeCasts_S1x2048x2048_S2048x2048 0 rfl k C C (Nat.zero_add _).symm)

/-- One entry of the reference's result. -/
theorem entry (h : FVec Idealize.ShloMosaic.Ideal S8704x2048 .f32) (w : FVec Idealize.ShloMosaic.Ideal S4x2048x2048 .f32) (y : FVec Idealize.ShloMosaic.Ideal S8704x2048 .f32) (g : FVec Idealize.ShloMosaic.Ideal S8x12288 .f32) (R : Fin 8704) (C : Fin 2048) :
    (addf (F := Idealize.ShloMosaic.Ideal) y (mulf (shapeCast _ (concatenate S2x4352x2048 1 [⟨S2x256x2048, (broadcastInDim S2x256x2048 ![2] bcast_S2048_S2x256x2048_2 (shapeCast _ (extractStridedSlice S1x2048 ![0, 0] (extractStridedSlice S8x2048 ![0, 4096] g slices_S8x12288_S8x2048_0_4096) slices_S8x2048_S1x2048_0_0) shapeCasts_S1x2048_S2048))⟩, ⟨S2x4096x2048, (broadcastInDim S2x4096x2048 ![0, 1, 2] bcast_S2x1x2048_S2x4096x2048_0_1_2 (broadcastInDim S2x1x2048 ![0, 2] bcast_S2x2048_S2x1x2048_0_2 (extractStridedSlice S2x2048 ![1, 0] (extractStridedSlice S8x2048 ![0, 4096] g slices_S8x12288_S8x2048_0_4096) slices_S8x2048_S2x2048_1_0)))⟩] concatenates_S2x256x2048_S2x4096x2048_S2x4352x2048_d1) shapeCasts_S2x4352x2048_S8704x2048) (Host.dotGeneral dot_S8704x2048_S2048x2048_S8704x2048_1_0_0_1_n_n none h (shapeCast _ (extractStridedSlice S1x2048x2048 ![0, 0, 0] w slices_S4x2048x2048_S1x2048x2048_0_0_0) shapeCasts_S1x2048x2048_S2048x2048))) : S8704x2048.Idx → EReal) (ix2 R C)
      = Cert.OutIdeal.Blocks.resid h w y g R C := by
  have e := gate_apply 4096 g slices_S8x12288_S8x2048_0_4096 slices_S8x2048_S1x2048_0_0 shapeCasts_S1x2048_S2048 bcast_S2048_S2x256x2048_2
    slices_S8x2048_S2x2048_1_0 bcast_S2x2048_S2x1x2048_0_2 bcast_S2x1x2048_S2x4096x2048_0_1_2
    concatenates_S2x256x2048_S2x4096x2048_S2x4352x2048_d1 shapeCasts_S2x4352x2048_S8704x2048 (by decide) R C
  have p := congrArg₂ (fun a d : EReal => (y (ix2 R C) : EReal) + a * d) e (product h w R C)
  exact p

end Cert.RefOutIdeal.Blocks

namespace Cert.OutIdeal.Blocks

open Idealize.ShloMosaic Idealize.ShloMosaic.TcCoe Idealize.SL.Sem

/-- The output projection's value claim. -/
theorem value : Cert.algebraic_OutIdeal_RefOutIdeal := fun m ρ m' ρ' _ hag =>
  ⟨fun c => (Cert.OutIdeal.Gen.dats m 0 c).arrAt 4 Cert.OutIdeal.cfg0.N, Cert.OutIdeal.Value.run_blocks m ρ,
    (θ_run _ _ _).mono (fun r h c => by
      refine ⟨(h c).1.trans ?_, (h c).2⟩
      obtain ⟨e0, e1, e2, e3⟩ := hag c
      funext i
      obtain ⟨R, C, rfl⟩ : ∃ R C, i = ix2 R C := ⟨i 0, i 1, eq_ix2 i⟩
      refine (Cert.RefOutIdeal.Blocks.entry _ _ _ _ R C).trans (Eq.trans ?_ (kernel_entry m c R C).symm)
      rw [e0, e1, e2, e3])
      (Cert.RefOutIdeal.Value.run (F := Idealize.ShloMosaic.Ideal) m' ρ')⟩

end Cert.OutIdeal.Blocks
-- ==== Proof.In.lean ====
/- The input projection's first columns: the kernel's array after the run, and the reference's, entry by entry. -/
module

public import proofs.«01_k».proof.Proof.Dense
public import proofs.«01_k».proof.Proof.Gen.InIdeal.Value
public import proofs.«01_k».proof.Proof.Gen.RefInIdeal.Run
public import proofs.«01_k».proof.Defs

@[expose] public section

set_option maxRecDepth 16384

noncomputable section

namespace Cert.InIdeal.Blocks

open Idealize.ShloMosaic Idealize.ShloMosaic.TcCoe Idealize.SL.Sem
open Cert.InIdeal Cert.InIdeal.Gen Cert.Dense

section AnyFloat

variable {F : FTy → Type} [FloatOps F]
variable (m : (ℓ : Loc nD τ sig) → Buf (Elt F) ℓ) (c : Dev nD)

/-- What a point leaves: its output block, and the column block of the weight that it keeps. -/
def left (t : Fin cfg0.N) : Vec F S1088x1024 .f32 × Vec F S2048x1024 .bf16 :=
  (k0_pay2 (iblk m c 0 t) (k0_pay1 (X0_1 m c t)), k0_pay1 (X0_1 m c t))

/-- A first row block loads the weight. -/
theorem outs_first (t : Fin cfg0.N) (h0 : t.val % 8 = 0) : outsAt0 m c t.val t.isLt = left m c t := by
  rw [outsAt0_A m c t h0]
  unfold out0_A_2 sout0_A_0 kernelRun0_A left
  dsimp only [kernelRun0_A.sl.v5, kernelRun0_A.sl.HS0_1]
  have e1 := readAt_whole (ms0_1 t) (hs0_1 t) off3 inb_S1x2048x1024_S1x2048x1024_0_0_0 (X0_1 m c t)
  rw [read_whole _ off2, read_whole _ off2, View.readCov_unit_zero _ off2, readAt_whole _ _ off2]
  have e := congrArg (fun a => (k0_pay2 (iblk m c 0 t) (k0_pay1 a), k0_pay1 a)) e1
  exact e

/-- Every other row block computes with the weight the point before kept. -/
theorem outs_next (t : Fin cfg0.N) (h0 : ¬ t.val % 8 = 0) (W : Vec F S2048x1024 .bf16)
    (hW : (outsAt0 m c (t.val - 1) (Nat.lt_of_le_of_lt (Nat.sub_le _ _) t.isLt)).2 = W) :
    outsAt0 m c t.val t.isLt = (k0_pay2 (iblk m c 0 t) W, W) := by
  subst hW
  rw [outsAt0_B m c t h0]
  unfold out0_B_2 sout0_B_0 kernelRun0_B
  dsimp only
  rw [read_whole _ off2, readAt_whole _ _ off2]
  have e1 := readAt_whole (Memref.whole cc0_scratch0) (Memref.isWhole_whole _) off2 inb_S2048x1024_S2048x1024_0_0
    (outsAt0 m c (t.val - 1) (Nat.lt_of_le_of_lt (Nat.sub_le _ _) t.isLt)).2
  have e := congrArg (fun a => k0_pay2 (iblk m c 0 t) a) e1
  exact Prod.ext e rfl

theorem point_lt (t : Fin cfg0.N) : t.val < 32 := (by decide : cfg0.N = 32) ▸ t.isLt

theorem idx0 : ∀ t : Fin cfg0.N, win0_0.index t (0 : Fin 2) = t.val % 8 ∧ win0_0.index t (1 : Fin 2) = 0 :=
  (by decide +kernel : ∀ t : Fin grid0.N, _)
theorem idx1 : ∀ t : Fin cfg0.N, win0_1.index t (0 : Fin 3) = 0 ∧ win0_1.index t (1 : Fin 3) = 0 ∧ win0_1.index t (2 : Fin 3) = t.val / 8 :=
  (by decide +kernel : ∀ t : Fin grid0.N, _)

/-- Row `r` of a point's row block. -/
def row (n : ℕ) (r : Fin 1088) : Fin 8704 := ⟨1088 * (n % 8) + r.val, by omega⟩
/-- Column `l` of a point's column block. -/
def col (n : ℕ) (hn : n < 32) (l : Fin 1024) : Fin 4096 := ⟨1024 * (n / 8) + l.val, by omega⟩

/-- A result's column, as a column of the whole weight. -/
def wide (C : Fin 4096) : Fin 8096 := ⟨C.val, by omega⟩

/-- The activations' block at a point. -/
theorem blk0 (t : Fin cfg0.N) (r : Fin 1088) (k : Fin 2048) :
    (iblk m c 0 t : Vec F S1088x2048 .bf16) (ix2 r k) = (V m c main_v0 : Vec F S8704x2048 .bf16) (ix2 (row t.val r) k) := by
  obtain ⟨e0, e1⟩ := idx0 t
  refine congrArg (V m c main_v0 : Vec F S8704x2048 .bf16) (funext fun a => Fin.ext ?_)
  match a with
  | ⟨0, _⟩ => show win0_0.index t (0 : Fin 2) * 1088 + 1 * r.val = 1088 * (t.val % 8) + r.val; omega
  | ⟨1, _⟩ => show win0_0.index t (1 : Fin 2) * 2048 + 1 * k.val = k.val; omega

/-- The weight's block at a point. -/
theorem blk1 (t : Fin cfg0.N) (k : Fin 2048) (l : Fin 1024) :
    (X0_1 m c t : Vec F S1x2048x1024 .f32) (ix3 0 k l) = (V m c main_arg1 : Vec F S4x2048x8096 .f32) (ix3 0 k (wide (col t.val (point_lt t) l))) := by
  obtain ⟨e0, e1, e2⟩ := idx1 t
  unfold X0_1 Pipeline.Window.fill
  rw [dif_pos (moved0_1 t _)]
  refine congrArg (V m c main_arg1 : Vec F S4x2048x8096 .f32) (funext fun a => Fin.ext ?_)
  match a with
  | ⟨0, _⟩ => show win0_1.index t (0 : Fin 3) * 1 + 1 * 0 = 0; omega
  | ⟨1, _⟩ => show win0_1.index t (1 : Fin 3) * 2048 + 1 * k.val = k.val; omega
  | ⟨2, _⟩ => show win0_1.index t (2 : Fin 3) * 1024 + 1 * l.val = 1024 * (t.val / 8) + l.val; omega

/-- Within a column block the weight's block stays. -/
theorem same1 (t t' : Fin cfg0.N) (h : t.val / 8 = t'.val / 8) : X0_1 m c t = X0_1 m c t' := by
  funext y
  have e : (y : S1x2048x1024.Idx) = ix3 0 (y 1) (y 2) := by rw [eq_ix3 y]; exact congrArg (ix3 · _ _) (Subsingleton.elim (α := Fin 1) _ _)
  rw [e]
  refine (blk1 m c t _ _).trans (Eq.trans ?_ (blk1 m c t' _ _).symm)
  refine congrArg _ (congrArg _ (Fin.ext ?_))
  show 1024 * (t.val / 8) + _ = 1024 * (t'.val / 8) + _
  rw [h]

/-- Every point leaves what it would leave had it loaded the weight itself. -/
theorem outs_eq (n : ℕ) (hn : n < cfg0.N) : outsAt0 m c n hn = left m c ⟨n, hn⟩ := by
  induction n with
  | zero => exact outs_first m c ⟨0, hn⟩ rfl
  | succ n ih =>
    by_cases h0 : (n + 1) % 8 = 0
    · exact outs_first m c ⟨n + 1, hn⟩ h0
    · have hW : (outsAt0 m c n (Nat.lt_of_succ_lt hn)).2 = (left m c ⟨n + 1, hn⟩).2 := by
        rw [ih]
        have hq : n / 8 = (n + 1) / 8 := by omega
        unfold left
        rw [same1 m c ⟨n, Nat.lt_of_succ_lt hn⟩ ⟨n + 1, hn⟩ hq]
      exact outs_next m c ⟨n + 1, hn⟩ h0 _ hW

/-- The array after the run, at the place that point `t` writes. -/
theorem array_at (t : Fin cfg0.N) (r : Fin 1088) (l : Fin 1024) :
    ((dats m 0 c).arrAt 2 cfg0.N : Vec F S8704x4096 .f32) (ix2 (row t.val r) (col t.val (point_lt t) l)) = (left m c t).1 (ix2 r l) := by
  have ht := point_lt t
  rw [Value.final2]
  have hp : Value.pt2Of (ix2 (row t.val r) (col t.val (point_lt t) l)) = t.val := by
    show 1 * ((1088 * (t.val % 8) + r.val) / 1088 - 0) + 8 * ((1024 * (t.val / 8) + l.val) / 1024 - 0) = t.val
    omega
  have hl : Value.loc2Of (ix2 (row t.val r) (col t.val (point_lt t) l)) = ix2 r l := by
    funext a; apply Fin.ext
    match a with
    | ⟨0, _⟩ => show (1088 * (t.val % 8) + r.val) % 1088 = r.val; omega
    | ⟨1, _⟩ => show (1024 * (t.val / 8) + l.val) % 1024 = l.val; omega
  unfold Value.G2
  rw [dif_pos (by rw [hp]; exact t.isLt), hl, Value.fold0_congr m c _ _ _ (by rw [Nat.zero_add]; exact t.isLt) hp,
    ← Value.outsAt0_sweep, outs_eq]

/-- Every place of the array is a point's. -/
theorem place (R : Fin 8704) (C : Fin 4096) : ∃ (t : Fin cfg0.N) (r : Fin 1088) (l : Fin 1024),
    R = row t.val r ∧ C = col t.val (point_lt t) l := by
  refine ⟨⟨8 * (C.val / 1024) + R.val / 1088, lt_of_lt_of_eq (by omega) (by decide : 32 = cfg0.N)⟩, ⟨R.val % 1088, by omega⟩, ⟨C.val % 1024, by omega⟩, Fin.ext ?_, Fin.ext ?_⟩
  · show R.val = 1088 * ((8 * (C.val / 1024) + R.val / 1088) % 8) + R.val % 1088; omega
  · show C.val = 1024 * ((8 * (C.val / 1024) + R.val / 1088) / 8) + C.val % 1024; omega

end AnyFloat

variable (m : (ℓ : Loc nD τ sig) → Buf (Elt Idealize.ShloMosaic.Ideal) ℓ) (c : Dev nD)

/-- The activations at region entry are the caller's. -/
theorem entry_h (i : S8704x2048.Idx) : (V m c main_v0 : S8704x2048.Idx → EReal) i = m ((c : Thread nD τ).loc main_arg0) i := by
  have h : V m c main_v0 = truncf (F := Idealize.ShloMosaic.Ideal) .bf16 (m ((c : Thread nD τ).loc main_arg0)) bitsLt_bf16_f32 := by
    simp only [Gen.V, hostOps0]; after_results
  rw [h]; rfl

/-- The weight at region entry is the caller's. -/
theorem entry_w (k : Fin 2048) (C : Fin 8096) : (V m c main_arg1 : S4x2048x8096.Idx → EReal) (ix3 0 k C)
    = m ((c : Thread nD τ).loc main_arg1) (ix3 0 k C) := by
  have h : V m c main_arg1 = m ((c : Thread nD τ).loc main_arg1) := by
    simp only [Gen.V, hostOps0]; after_results
  rw [h]

/-- The sum of one entry: the activations' row with a column of the weight. -/
def dotAt (h : S8704x2048.Idx → EReal) (w : S4x2048x8096.Idx → EReal) (R : Fin 8704) (C : Fin 4096) : EReal :=
  dotv (fun k : Fin 2048 => h (ix2 R k)) (fun k => w (ix3 0 k (wide C)))

/-- A weight's block as kept. -/
theorem pay1_apply (x : Vec Idealize.ShloMosaic.Ideal S1x2048x1024 .f32) (k : Fin 2048) (l : Fin 1024) :
    (k0_pay1 x : S2048x1024.Idx → EReal) (ix2 k l) = x (ix3 0 k l) := by
  unfold k0_pay1
  rw [shapeCast_self]
  have e := plane_apply x shapeCasts_S1x2048x1024_S2048x1024 k l
  exact e

/-- A point's output block. -/
theorem pay2_apply (x : Vec Idealize.ShloMosaic.Ideal S1088x2048 .bf16) (a : Vec Idealize.ShloMosaic.Ideal S2048x1024 .bf16) (r : Fin 1088) (l : Fin 1024) :
    (k0_pay2 x a : S1088x1024.Idx → EReal) (ix2 r l) = dotv (fun k : Fin 2048 => x (ix2 r k)) (fun k => a (ix2 k l)) := by
  have hd := dot_apply (φ₁ := .bf16) (φ₂ := .bf16) dot_S1088x2048_S2048x1024_S1088x1024_1_0_0_1_n_n rfl none x a r l
  unfold k0_pay2
  rw [shapeCast_self]
  exact hd

/-- One entry of the kernel's array. -/
theorem kernel_entry (R : Fin 8704) (C : Fin 4096) :
    ((dats m 0 c).arrAt 2 cfg0.N : S8704x4096.Idx → EReal) (ix2 R C)
      = dotAt (m ((c : Thread nD τ).loc main_arg0)) (m ((c : Thread nD τ).loc main_arg1)) R C := by
  obtain ⟨t, r, l, rfl, rfl⟩ := place R C
  refine (array_at m c t r l).trans ((pay2_apply _ _ r l).trans ?_)
  refine dotv_congr (fun k => ?_) (fun k => ?_)
  · exact (blk0 m c t r k).trans (entry_h m c _)
  · exact (pay1_apply _ k l).trans ((blk1 m c t k l).trans (entry_w m c k _))

end Cert.InIdeal.Blocks

namespace Cert.RefInIdeal.Blocks

open Idealize.ShloMosaic Idealize.ShloMosaic.TcCoe Idealize.SL.Sem
open Cert.RefInIdeal Cert.RefInIdeal.Gen Cert.Dense

/-- One entry of the reference's result. -/
theorem entry (h : FVec Idealize.ShloMosaic.Ideal S8704x2048 .f32) (w : FVec Idealize.ShloMosaic.Ideal S4x2048x8096 .f32) (R : Fin 8704) (C : Fin 4096) :
    (Host.dotGeneral (F := Idealize.ShloMosaic.Ideal) dot_S8704x2048_S2048x4096_S8704x4096_1_0_0_1_n_n none h
      (shapeCast _ (extractStridedSlice S1x2048x4096 ![0, 0, 0] w slices_S4x2048x8096_S1x2048x4096_0_0_0) shapeCasts_S1x2048x4096_S2048x4096) : S8704x4096.Idx → EReal) (ix2 R C)
      = Cert.InIdeal.Blocks.dotAt h w R C := by
  refine (host_dot_apply (φ₁ := .f32) (φ₂ := .f32) _ rfl none h _ R C).trans ?_
  exact dotv_congr (fun k => rfl) fun k =>
    (slice_plane 0 w slices_S4x2048x8096_S1x2048x4096_0_0_0 shapeCasts_S1x2048x4096_S2048x4096 0 rfl k C (Cert.InIdeal.Blocks.wide C) (by show C.val = 0 + C.val; omega))

end Cert.RefInIdeal.Blocks

namespace Cert.InIdeal.Blocks

open Idealize.ShloMosaic Idealize.ShloMosaic.TcCoe Idealize.SL.Sem

/-- The first columns' value claim. -/
theorem value : Cert.algebraic_InIdeal_RefInIdeal := fun m ρ m' ρ' _ hag =>
  ⟨fun c => (Cert.InIdeal.Gen.dats m 0 c).arrAt 2 Cert.InIdeal.cfg0.N, Cert.InIdeal.Value.run_blocks m ρ,
    (θ_run _ _ _).mono (fun r h c => by
      refine ⟨(h c).1.trans ?_, (h c).2⟩
      obtain ⟨e0, e1⟩ := hag c
      funext i
      obtain ⟨R, C, rfl⟩ : ∃ R C, i = ix2 R C := ⟨i 0, i 1, eq_ix2 i⟩
      refine (Cert.RefInIdeal.Blocks.entry _ _ R C).trans (Eq.trans ?_ (kernel_entry m c R C).symm)
      rw [e0, e1])
      (Cert.RefInIdeal.Value.run (F := Idealize.ShloMosaic.Ideal) m' ρ')⟩

end Cert.InIdeal.Blocks
-- ==== Proof.Gates.lean ====
/- The input projection's gate columns: the kernel's array after the run, and the reference's, entry by entry. -/
module

public import proofs.«01_k».proof.Proof.Dense
public import proofs.«01_k».proof.Proof.Gen.GatesIdeal.Value
public import proofs.«01_k».proof.Proof.Gen.RefGatesIdeal.Run
public import proofs.«01_k».proof.Defs

@[expose] public section

set_option maxRecDepth 16384

noncomputable section

namespace Cert.GatesIdeal.Blocks

open Idealize.ShloMosaic Idealize.ShloMosaic.TcCoe Idealize.SL.Sem
open Cert.GatesIdeal Cert.GatesIdeal.Gen Cert.Dense

section AnyFloat

variable {F : FTy → Type} [FloatOps F]
variable (m : (ℓ : Loc nD τ sig) → Buf (Elt F) ℓ) (c : Dev nD)

/-- What a point leaves: its output block, and the column block of the weight that it keeps. -/
def left (t : Fin cfg0.N) : Vec F S1088x1024 .f32 × Vec F S2048x1024 .bf16 :=
  (k0_pay2 (iblk m c 0 t) (k0_pay1 (iblk m c 1 t)), k0_pay1 (iblk m c 1 t))

/-- A first row block loads the weight. -/
theorem outs_first (t : Fin cfg0.N) (h0 : t.val % 8 = 0) : outsAt0 m c t.val t.isLt = left m c t := by
  rw [outsAt0_A m c t h0]
  unfold out0_A_2 sout0_A_0 kernelRun0_A left
  dsimp only [kernelRun0_A.sl.v5, kernelRun0_A.sl.HS0_1]
  have e1 := readAt_whole (ms0_1 t) (hs0_1 t) off3 inb_S1x2048x1024_S1x2048x1024_0_0_0 (iblk m c 1 t)
  rw [read_whole _ off2, read_whole _ off2, View.readCov_unit_zero _ off2, readAt_whole _ _ off2]
  have e := congrArg (fun a => (k0_pay2 (iblk m c 0 t) (k0_pay1 a), k0_pay1 a)) e1
  exact e

/-- Every other row block computes with the weight the point before kept. -/
theorem outs_next (t : Fin cfg0.N) (h0 : ¬ t.val % 8 = 0) (W : Vec F S2048x1024 .bf16)
    (hW : (outsAt0 m c (t.val - 1) (Nat.lt_of_le_of_lt (Nat.sub_le _ _) t.isLt)).2 = W) :
    outsAt0 m c t.val t.isLt = (k0_pay2 (iblk m c 0 t) W, W) := by
  subst hW
  rw [outsAt0_B m c t h0]
  unfold out0_B_2 sout0_B_0 kernelRun0_B
  dsimp only
  rw [read_whole _ off2, readAt_whole _ _ off2]
  have e1 := readAt_whole (Memref.whole cc0_scratch0) (Memref.isWhole_whole _) off2 inb_S2048x1024_S2048x1024_0_0
    (outsAt0 m c (t.val - 1) (Nat.lt_of_le_of_lt (Nat.sub_le _ _) t.isLt)).2
  have e := congrArg (fun a => k0_pay2 (iblk m c 0 t) a) e1
  exact Prod.ext e rfl

theorem point_lt (t : Fin cfg0.N) : t.val < 32 := (by decide : cfg0.N = 32) ▸ t.isLt

theorem idx0 : ∀ t : Fin cfg0.N, win0_0.index t (0 : Fin 2) = t.val % 8 ∧ win0_0.index t (1 : Fin 2) = 0 :=
  (by decide +kernel : ∀ t : Fin grid0.N, _)
theorem idx1 : ∀ t : Fin cfg0.N, win0_1.index t (0 : Fin 3) = 0 ∧ win0_1.index t (1 : Fin 3) = 0 ∧ win0_1.index t (2 : Fin 3) = t.val / 8 :=
  (by decide +kernel : ∀ t : Fin grid0.N, _)

/-- Row `r` of a point's row block. -/
def row (n : ℕ) (r : Fin 1088) : Fin 8704 := ⟨1088 * (n % 8) + r.val, by omega⟩
/-- Column `l` of a point's column block. -/
def col (n : ℕ) (hn : n < 32) (l : Fin 1024) : Fin 4096 := ⟨1024 * (n / 8) + l.val, by omega⟩

/-- The activations' block at a point. -/
theorem blk0 (t : Fin cfg0.N) (r : Fin 1088) (k : Fin 2048) :
    (iblk m c 0 t : Vec F S1088x2048 .bf16) (ix2 r k) = (V m c main_v2 : Vec F S8704x2048 .bf16) (ix2 (row t.val r) k) := by
  obtain ⟨e0, e1⟩ := idx0 t
  refine congrArg (V m c main_v2 : Vec F S8704x2048 .bf16) (funext fun a => Fin.ext ?_)
  match a with
  | ⟨0, _⟩ => show win0_0.index t (0 : Fin 2) * 1088 + 1 * r.val = 1088 * (t.val % 8) + r.val; omega
  | ⟨1, _⟩ => show win0_0.index t (1 : Fin 2) * 2048 + 1 * k.val = k.val; omega

/-- The weight's block at a point. -/
theorem blk1 (t : Fin cfg0.N) (k : Fin 2048) (l : Fin 1024) :
    (iblk m c 1 t : Vec F S1x2048x1024 .bf16) (ix3 0 k l) = (V m c main_v1 : Vec F S4x2048x4096 .bf16) (ix3 0 k (col t.val (point_lt t) l)) := by
  obtain ⟨e0, e1, e2⟩ := idx1 t
  refine congrArg (V m c main_v1 : Vec F S4x2048x4096 .bf16) (funext fun a => Fin.ext ?_)
  match a with
  | ⟨0, _⟩ => show win0_1.index t (0 : Fin 3) * 1 + 1 * 0 = 0; omega
  | ⟨1, _⟩ => show win0_1.index t (1 : Fin 3) * 2048 + 1 * k.val = k.val; omega
  | ⟨2, _⟩ => show win0_1.index t (2 : Fin 3) * 1024 + 1 * l.val = 1024 * (t.val / 8) + l.val; omega

/-- Within a column block the weight's block stays. -/
theorem same1 (t t' : Fin cfg0.N) (h : t.val / 8 = t'.val / 8) : iblk m c 1 t = iblk m c 1 t' := by
  funext y
  have e : (y : S1x2048x1024.Idx) = ix3 0 (y 1) (y 2) := by rw [eq_ix3 y]; exact congrArg (ix3 · _ _) (Subsingleton.elim (α := Fin 1) _ _)
  rw [e]
  refine (blk1 m c t _ _).trans (Eq.trans ?_ (blk1 m c t' _ _).symm)
  refine congrArg _ (congrArg _ (Fin.ext ?_))
  show 1024 * (t.val / 8) + _ = 1024 * (t'.val / 8) + _
  rw [h]

/-- Every point leaves what it would leave had it loaded the weight itself. -/
theorem outs_eq (n : ℕ) (hn : n < cfg0.N) : outsAt0 m c n hn = left m c ⟨n, hn⟩ := by
  induction n with
  | zero => exact outs_first m c ⟨0, hn⟩ rfl
  | succ n ih =>
    by_cases h0 : (n + 1) % 8 = 0
    · exact outs_first m c ⟨n + 1, hn⟩ h0
    · have hW : (outsAt0 m c n (Nat.lt_of_succ_lt hn)).2 = (left m c ⟨n + 1, hn⟩).2 := by
        rw [ih]
        have hq : n / 8 = (n + 1) / 8 := by omega
        unfold left
        rw [same1 m c ⟨n, Nat.lt_of_succ_lt hn⟩ ⟨n + 1, hn⟩ hq]
      exact outs_next m c ⟨n + 1, hn⟩ h0 _ hW

/-- The array after the run, at the place that point `t` writes. -/
theorem array_at (t : Fin cfg0.N) (r : Fin 1088) (l : Fin 1024) :
    ((dats m 0 c).arrAt 2 cfg0.N : Vec F S8704x4096 .f32) (ix2 (row t.val r) (col t.val (point_lt t) l)) = (left m c t).1 (ix2 r l) := by
  have ht := point_lt t
  rw [Value.final2]
  have hp : Value.pt2Of (ix2 (row t.val r) (col t.val (point_lt t) l)) = t.val := by
    show 1 * ((1088 * (t.val % 8) + r.val) / 1088 - 0) + 8 * ((1024 * (t.val / 8) + l.val) / 1024 - 0) = t.val
    omega
  have hl : Value.loc2Of (ix2 (row t.val r) (col t.val (point_lt t) l)) = ix2 r l := by
    funext a; apply Fin.ext
    match a with
    | ⟨0, _⟩ => show (1088 * (t.val % 8) + r.val) % 1088 = r.val; omega
    | ⟨1, _⟩ => show (1024 * (t.val / 8) + l.val) % 1024 = l.val; omega
  unfold Value.G2
  rw [dif_pos (by rw [hp]; exact t.isLt), hl, Value.fold0_congr m c _ _ _ (by rw [Nat.zero_add]; exact t.isLt) hp,
    ← Value.outsAt0_sweep, outs_eq]

/-- Every place of the array is a point's. -/
theorem place (R : Fin 8704) (C : Fin 4096) : ∃ (t : Fin cfg0.N) (r : Fin 1088) (l : Fin 1024),
    R = row t.val r ∧ C = col t.val (point_lt t) l := by
  refine ⟨⟨8 * (C.val / 1024) + R.val / 1088, lt_of_lt_of_eq (by omega) (by decide : 32 = cfg0.N)⟩, ⟨R.val % 1088, by omega⟩, ⟨C.val % 1024, by omega⟩, Fin.ext ?_, Fin.ext ?_⟩
  · show R.val = 1088 * ((8 * (C.val / 1024) + R.val / 1088) % 8) + R.val % 1088; omega
  · show C.val = 1024 * ((8 * (C.val / 1024) + R.val / 1088) / 8) + C.val % 1024; omega

end AnyFloat

variable (m : (ℓ : Loc nD τ sig) → Buf (Elt Idealize.ShloMosaic.Ideal) ℓ) (c : Dev nD)

/-- The activations at region entry are the caller's. -/
theorem entry_h (i : S8704x2048.Idx) : (V m c main_v2 : S8704x2048.Idx → EReal) i = m ((c : Thread nD τ).loc main_arg0) i := by
  have h : V m c main_v2 = truncf (F := Idealize.ShloMosaic.Ideal) .bf16 (m ((c : Thread nD τ).loc main_arg0)) bitsLt_bf16_f32 := by
    simp only [Gen.V, hostOps0]; after_results
  rw [h]; rfl

/-- The weight at region entry is the caller's from column 4000 on. -/
theorem entry_w (k : Fin 2048) (C : Fin 4096) : (V m c main_v1 : S4x2048x4096.Idx → EReal) (ix3 0 k C)
    = m ((c : Thread nD τ).loc main_arg1) (ix3 0 k ⟨4000 + C.val, by omega⟩) := by
  have h : V m c main_v1 = truncf (F := Idealize.ShloMosaic.Ideal) .bf16 (extractStridedSlice S4x2048x4096 ![0, 0, 4000]
      (m ((c : Thread nD τ).loc main_arg1)) slices_S4x2048x8096_S4x2048x4096_0_0_4000) bitsLt_bf16_f32 := by
    simp only [Gen.V, hostOps0]; after_results
  rw [h]
  show extractStridedSlice S4x2048x4096 ![0, 0, 4000] (m ((c : Thread nD τ).loc main_arg1)) slices_S4x2048x8096_S4x2048x4096_0_0_4000 (ix3 0 k C) = _
  unfold extractStridedSlice
  refine congrArg (m ((c : Thread nD τ).loc main_arg1)) (funext fun a => Fin.ext ?_)
  match a with
  | ⟨0, _⟩ => rfl
  | ⟨1, _⟩ => show 0 + k.val = k.val; omega
  | ⟨2, _⟩ => rfl

/-- The sum of one entry: the activations' row with a column of the weight from column 4000 on. -/
def dotAt (h : S8704x2048.Idx → EReal) (w : S4x2048x8096.Idx → EReal) (R : Fin 8704) (C : Fin 4096) : EReal :=
  dotv (fun k : Fin 2048 => h (ix2 R k)) (fun k => w (ix3 0 k ⟨4000 + C.val, by omega⟩))

/-- A weight's block as kept. -/
theorem pay1_apply (x : Vec Idealize.ShloMosaic.Ideal S1x2048x1024 .bf16) (k : Fin 2048) (l : Fin 1024) :
    (k0_pay1 x : S2048x1024.Idx → EReal) (ix2 k l) = x (ix3 0 k l) := by
  unfold k0_pay1
  rw [shapeCast_self]
  have e := plane_apply x shapeCasts_S1x2048x1024_S2048x1024 k l
  exact e

/-- A point's output block. -/
theorem pay2_apply (x : Vec Idealize.ShloMosaic.Ideal S1088x2048 .bf16) (a : Vec Idealize.ShloMosaic.Ideal S2048x1024 .bf16) (r : Fin 1088) (l : Fin 1024) :
    (k0_pay2 x a : S1088x1024.Idx → EReal) (ix2 r l) = dotv (fun k : Fin 2048 => x (ix2 r k)) (fun k => a (ix2 k l)) := by
  have hd := dot_apply (φ₁ := .bf16) (φ₂ := .bf16) dot_S1088x2048_S2048x1024_S1088x1024_1_0_0_1_n_n rfl none x a r l
  unfold k0_pay2
  rw [shapeCast_self]
  exact hd

/-- One entry of the kernel's array. -/
theorem kernel_entry (R : Fin 8704) (C : Fin 4096) :
    ((dats m 0 c).arrAt 2 cfg0.N : S8704x4096.Idx → EReal) (ix2 R C)
      = dotAt (m ((c : Thread nD τ).loc main_arg0)) (m ((c : Thread nD τ).loc main_arg1)) R C := by
  obtain ⟨t, r, l, rfl, rfl⟩ := place R C
  refine (array_at m c t r l).trans ((pay2_apply _ _ r l).trans ?_)
  refine dotv_congr (fun k => ?_) (fun k => ?_)
  · exact (blk0 m c t r k).trans (entry_h m c _)
  · exact (pay1_apply _ k l).trans ((blk1 m c t k l).trans (entry_w m c k _))

end Cert.GatesIdeal.Blocks

namespace Cert.RefGatesIdeal.Blocks

open Idealize.ShloMosaic Idealize.ShloMosaic.TcCoe Idealize.SL.Sem
open Cert.RefGatesIdeal Cert.RefGatesIdeal.Gen Cert.Dense

/-- One entry of the reference's result. -/
theorem entry (h : FVec Idealize.ShloMosaic.Ideal S8704x2048 .f32) (w : FVec Idealize.ShloMosaic.Ideal S4x2048x8096 .f32) (R : Fin 8704) (C : Fin 4096) :
    (Host.dotGeneral (F := Idealize.ShloMosaic.Ideal) dot_S8704x2048_S2048x4096_S8704x4096_1_0_0_1_n_n none h
      (shapeCast _ (extractStridedSlice S1x2048x4096 ![0, 0, 4000] w slices_S4x2048x8096_S1x2048x4096_0_0_4000) shapeCasts_S1x2048x4096_S2048x4096) : S8704x4096.Idx → EReal) (ix2 R C)
      = Cert.GatesIdeal.Blocks.dotAt h w R C := by
  refine (host_dot_apply (φ₁ := .f32) (φ₂ := .f32) _ rfl none h _ R C).trans ?_
  exact dotv_congr (fun k => rfl) fun k =>
    (slice_plane 4000 w slices_S4x2048x8096_S1x2048x4096_0_0_4000 shapeCasts_S1x2048x4096_S2048x4096 0 rfl k C ⟨4000 + C.val, by omega⟩ rfl)

end Cert.RefGatesIdeal.Blocks

namespace Cert.GatesIdeal.Blocks

open Idealize.ShloMosaic Idealize.ShloMosaic.TcCoe Idealize.SL.Sem

/-- The gate columns' value claim. -/
theorem value : Cert.algebraic_GatesIdeal_RefGatesIdeal := fun m ρ m' ρ' _ hag =>
  ⟨fun c => (Cert.GatesIdeal.Gen.dats m 0 c).arrAt 2 Cert.GatesIdeal.cfg0.N, Cert.GatesIdeal.Value.run_blocks m ρ,
    (θ_run _ _ _).mono (fun r h c => by
      refine ⟨(h c).1.trans ?_, (h c).2⟩
      obtain ⟨e0, e1⟩ := hag c
      funext i
      obtain ⟨R, C, rfl⟩ : ∃ R C, i = ix2 R C := ⟨i 0, i 1, eq_ix2 i⟩
      refine (Cert.RefGatesIdeal.Blocks.entry _ _ R C).trans (Eq.trans ?_ (kernel_entry m c R C).symm)
      rw [e0, e1])
      (Cert.RefGatesIdeal.Value.run (F := Idealize.ShloMosaic.Ideal) m' ρ')⟩

end Cert.GatesIdeal.Blocks
-- ==== Proof.Merge.lean ====
/- The gated merge of the two branches: the kernel's array after the run, and the reference's, entry by entry. -/
module

public import proofs.«01_k».proof.Proof.Dense
public import proofs.«01_k».proof.Proof.Gen.MergeIdeal.Value
public import proofs.«01_k».proof.Proof.Gen.RefMergeIdeal.Run
public import proofs.«01_k».proof.Defs

@[expose] public section

set_option maxRecDepth 16384

noncomputable section

namespace Cert.MergeIdeal.Blocks

open Idealize.ShloMosaic Idealize.ShloMosaic.TcCoe Idealize.SL.Sem
open Cert.MergeIdeal Cert.MergeIdeal.Gen Cert.Dense

section AnyFloat

variable {F : FTy → Type} [FloatOps F]
variable (m : (ℓ : Loc nD τ sig) → Buf (Elt F) ℓ) (c : Dev nD)

/-- What a point leaves: its output block, and the column blocks of the two weights that it keeps. -/
def left (t : Fin cfg0.N) : Vec F S1088x1024 .bf16 × Vec F S512x1024 .bf16 × Vec F S1024x1024 .bf16 :=
  (k0_pay3 (iblk m c 0 t) (k0_pay1 (iblk m c 2 t)) (iblk m c 1 t) (k0_pay2 (iblk m c 3 t)) (iblk m c 4 t) (iblk m c 5 t),
    k0_pay1 (iblk m c 2 t), k0_pay2 (iblk m c 3 t))

/-- The output block is a function of its activations and gates. -/
theorem six_congr {x x' : Vec F S1088x512 .bf16} {y y' : Vec F S1088x1024 .bf16} {z z' u u' : Vec F S1088x1024 .f32}
    (hx : x = x') (hy : y = y') (hz : z = z') (hu : u = u') (a : Vec F S512x1024 .bf16) (b : Vec F S1024x1024 .bf16) :
    k0_pay3 x a y b z u = k0_pay3 x' a y' b z' u' := by
  rw [hx, hy, hz, hu]

/-- A first row block loads the weights. -/
theorem outs_first (t : Fin cfg0.N) (h0 : t.val % 8 = 0) : outsAt0 m c t.val t.isLt = left m c t := by
  rw [outsAt0_A m c t h0]
  unfold out0_A_6 sout0_A_0 sout0_A_1 kernelRun0_A left
  dsimp only [kernelRun0_A.sl.v5, kernelRun0_A.sl.v9, kernelRun0_A.sl.HS0_1, kernelRun0_A.sl.HS1_1]
  have e1 := readAt_whole (ms0_2 t) (hs0_2 t) off3 inb_S1x512x1024_S1x512x1024_0_0_0 (iblk m c 2 t)
  have e2 := readAt_whole (ms0_3 t) (hs0_3 t) off3 inb_S1x1024x1024_S1x1024x1024_0_0_0 (iblk m c 3 t)
  have f0 := readAt_whole (ms0_0 t) (hs0_0 t) off2 inb_S1088x512_S1088x512_0_0 (iblk m c 0 t)
  have f1 := readAt_whole (ms0_1 t) (hs0_1 t) off2 inb_S1088x1024_S1088x1024_0_0 (iblk m c 1 t)
  have f4 := readAt_whole (ms0_4 t) (hs0_4 t) off2 inb_S1088x1024_S1088x1024_0_0 (iblk m c 4 t)
  have f5 := readAt_whole (ms0_5 t) (hs0_5 t) off2 inb_S1088x1024_S1088x1024_0_0 (iblk m c 5 t)
  rw [read_whole _ off2, read_whole _ off2, read_whole _ off2, View.readCov_unit_zero _ off2, View.readCov_unit_zero _ off2]
  have e := congrArg₂ (fun a b => (k0_pay3 (iblk m c 0 t) (k0_pay1 a) (iblk m c 1 t) (k0_pay2 b) (iblk m c 4 t) (iblk m c 5 t), k0_pay1 a, k0_pay2 b)) e1 e2
  refine Eq.trans ?_ e
  refine Prod.ext ?_ rfl
  exact six_congr f0 f1 f4 f5 _ _

/-- Every other row block computes with the weights the point before kept. -/
theorem outs_next (t : Fin cfg0.N) (h0 : ¬ t.val % 8 = 0) (W : Vec F S512x1024 .bf16 × Vec F S1024x1024 .bf16)
    (hW : (outsAt0 m c (t.val - 1) (Nat.lt_of_le_of_lt (Nat.sub_le _ _) t.isLt)).2 = W) :
    outsAt0 m c t.val t.isLt = (k0_pay3 (iblk m c 0 t) W.1 (iblk m c 1 t) W.2 (iblk m c 4 t) (iblk m c 5 t), W.1, W.2) := by
  subst hW
  rw [outsAt0_B m c t h0]
  unfold out0_B_6 sout0_B_0 sout0_B_1 kernelRun0_B
  dsimp only
  rw [read_whole _ off2]
  have f0 := readAt_whole (ms0_0 t) (hs0_0 t) off2 inb_S1088x512_S1088x512_0_0 (iblk m c 0 t)
  have f1 := readAt_whole (ms0_1 t) (hs0_1 t) off2 inb_S1088x1024_S1088x1024_0_0 (iblk m c 1 t)
  have f4 := readAt_whole (ms0_4 t) (hs0_4 t) off2 inb_S1088x1024_S1088x1024_0_0 (iblk m c 4 t)
  have f5 := readAt_whole (ms0_5 t) (hs0_5 t) off2 inb_S1088x1024_S1088x1024_0_0 (iblk m c 5 t)
  have e1 := readAt_whole (Memref.whole cc0_scratch0) (Memref.isWhole_whole _) off2 inb_S512x1024_S512x1024_0_0
    (outsAt0 m c (t.val - 1) (Nat.lt_of_le_of_lt (Nat.sub_le _ _) t.isLt)).2.1
  have e2 := readAt_whole (Memref.whole cc0_scratch1) (Memref.isWhole_whole _) off2 inb_S1024x1024_S1024x1024_0_0
    (outsAt0 m c (t.val - 1) (Nat.lt_of_le_of_lt (Nat.sub_le _ _) t.isLt)).2.2
  have e := congrArg₂ (fun a b => k0_pay3 (iblk m c 0 t) a (iblk m c 1 t) b (iblk m c 4 t) (iblk m c 5 t)) e1 e2
  refine Prod.ext (Eq.trans ?_ e) rfl
  exact six_congr f0 f1 f4 f5 _ _

theorem point_lt (t : Fin cfg0.N) : t.val < 16 := (by decide : cfg0.N = 16) ▸ t.isLt

theorem idx0 : ∀ t : Fin cfg0.N, win0_0.index t (0 : Fin 2) = t.val % 8 ∧ win0_0.index t (1 : Fin 2) = 0 :=
  (by decide +kernel : ∀ t : Fin grid0.N, _)
theorem idx1 : ∀ t : Fin cfg0.N, win0_1.index t (0 : Fin 2) = t.val % 8 ∧ win0_1.index t (1 : Fin 2) = 0 :=
  (by decide +kernel : ∀ t : Fin grid0.N, _)
theorem idx2 : ∀ t : Fin cfg0.N, win0_2.index t (0 : Fin 3) = 0 ∧ win0_2.index t (1 : Fin 3) = 0 ∧ win0_2.index t (2 : Fin 3) = t.val / 8 :=
  (by decide +kernel : ∀ t : Fin grid0.N, _)
theorem idx3 : ∀ t : Fin cfg0.N, win0_3.index t (0 : Fin 3) = 0 ∧ win0_3.index t (1 : Fin 3) = 0 ∧ win0_3.index t (2 : Fin 3) = t.val / 8 :=
  (by decide +kernel : ∀ t : Fin grid0.N, _)
theorem idx4 : ∀ t : Fin cfg0.N, win0_4.index t (0 : Fin 2) = t.val % 8 ∧ win0_4.index t (1 : Fin 2) = t.val / 8 :=
  (by decide +kernel : ∀ t : Fin grid0.N, _)
theorem idx5 : ∀ t : Fin cfg0.N, win0_5.index t (0 : Fin 2) = t.val % 8 ∧ win0_5.index t (1 : Fin 2) = 2 + t.val / 8 :=
  (by decide +kernel : ∀ t : Fin grid0.N, _)

/-- Row `r` of a point's row block. -/
def row (n : ℕ) (r : Fin 1088) : Fin 8704 := ⟨1088 * (n % 8) + r.val, by omega⟩
/-- Column `l` of a point's column block. -/
def col (n : ℕ) (hn : n < 16) (l : Fin 1024) : Fin 2048 := ⟨1024 * (n / 8) + l.val, by omega⟩
/-- A result's column among the first gate's. -/
def gate0 (C : Fin 2048) : Fin 4096 := ⟨C.val, by omega⟩
/-- A result's column among the second gate's. -/
def gate1 (C : Fin 2048) : Fin 4096 := ⟨2048 + C.val, by omega⟩

/-- The block of window 0 at a point: the rows of a branch. -/
theorem blk0 (t : Fin cfg0.N) (r : Fin 1088) (k : Fin 512) :
    (iblk m c 0 t : Vec F S1088x512 .bf16) (ix2 r k) = (V m c main_v0 : Vec F S8704x512 .bf16) (ix2 (row t.val r) k) := by
  obtain ⟨e0, e1⟩ := idx0 t
  refine congrArg (V m c main_v0 : Vec F S8704x512 .bf16) (funext fun a => Fin.ext ?_)
  match a with
  | ⟨0, _⟩ => show win0_0.index t (0 : Fin 2) * 1088 + 1 * r.val = 1088 * (t.val % 8) + r.val; omega
  | ⟨1, _⟩ => show win0_0.index t (1 : Fin 2) * 512 + 1 * k.val = k.val; omega

/-- The block of window 1 at a point: the rows of a branch. -/
theorem blk1 (t : Fin cfg0.N) (r : Fin 1088) (k : Fin 1024) :
    (iblk m c 1 t : Vec F S1088x1024 .bf16) (ix2 r k) = (V m c main_v1 : Vec F S8704x1024 .bf16) (ix2 (row t.val r) k) := by
  obtain ⟨e0, e1⟩ := idx1 t
  refine congrArg (V m c main_v1 : Vec F S8704x1024 .bf16) (funext fun a => Fin.ext ?_)
  match a with
  | ⟨0, _⟩ => show win0_1.index t (0 : Fin 2) * 1088 + 1 * r.val = 1088 * (t.val % 8) + r.val; omega
  | ⟨1, _⟩ => show win0_1.index t (1 : Fin 2) * 1024 + 1 * k.val = k.val; omega

/-- The block of window 2 at a point: a weight's columns. -/
theorem blk2 (t : Fin cfg0.N) (k : Fin 512) (l : Fin 1024) :
    (iblk m c 2 t : Vec F S1x512x1024 .f32) (ix3 0 k l) = (V m c main_arg2 : Vec F S4x512x2048 .f32) (ix3 0 k (col t.val (point_lt t) l)) := by
  obtain ⟨e0, e1, e2⟩ := idx2 t
  refine congrArg (V m c main_arg2 : Vec F S4x512x2048 .f32) (funext fun a => Fin.ext ?_)
  match a with
  | ⟨0, _⟩ => show win0_2.index t (0 : Fin 3) * 1 + 1 * 0 = 0; omega
  | ⟨1, _⟩ => show win0_2.index t (1 : Fin 3) * 512 + 1 * k.val = k.val; omega
  | ⟨2, _⟩ => show win0_2.index t (2 : Fin 3) * 1024 + 1 * l.val = 1024 * (t.val / 8) + l.val; omega

/-- Within a column block the block of window 2 stays. -/
theorem same2 (t t' : Fin cfg0.N) (h : t.val / 8 = t'.val / 8) : iblk m c 2 t = iblk m c 2 t' := by
  funext y
  have e : (y : S1x512x1024.Idx) = ix3 0 (y 1) (y 2) := by rw [eq_ix3 y]; exact congrArg (ix3 · _ _) (Subsingleton.elim (α := Fin 1) _ _)
  rw [e]
  refine (blk2 m c t _ _).trans (Eq.trans ?_ (blk2 m c t' _ _).symm)
  refine congrArg _ (congrArg _ (Fin.ext ?_))
  show 1024 * (t.val / 8) + _ = 1024 * (t'.val / 8) + _
  rw [h]

/-- The block of window 3 at a point: a weight's columns. -/
theorem blk3 (t : Fin cfg0.N) (k : Fin 1024) (l : Fin 1024) :
    (iblk m c 3 t : Vec F S1x1024x1024 .f32) (ix3 0 k l) = (V m c main_arg3 : Vec F S4x1024x2048 .f32) (ix3 0 k (col t.val (point_lt t) l)) := by
  obtain ⟨e0, e1, e2⟩ := idx3 t
  refine congrArg (V m c main_arg3 : Vec F S4x1024x2048 .f32) (funext fun a => Fin.ext ?_)
  match a with
  | ⟨0, _⟩ => show win0_3.index t (0 : Fin 3) * 1 + 1 * 0 = 0; omega
  | ⟨1, _⟩ => show win0_3.index t (1 : Fin 3) * 1024 + 1 * k.val = k.val; omega
  | ⟨2, _⟩ => show win0_3.index t (2 : Fin 3) * 1024 + 1 * l.val = 1024 * (t.val / 8) + l.val; omega

/-- Within a column block the block of window 3 stays. -/
theorem same3 (t t' : Fin cfg0.N) (h : t.val / 8 = t'.val / 8) : iblk m c 3 t = iblk m c 3 t' := by
  funext y
  have e : (y : S1x1024x1024.Idx) = ix3 0 (y 1) (y 2) := by rw [eq_ix3 y]; exact congrArg (ix3 · _ _) (Subsingleton.elim (α := Fin 1) _ _)
  rw [e]
  refine (blk3 m c t _ _).trans (Eq.trans ?_ (blk3 m c t' _ _).symm)
  refine congrArg _ (congrArg _ (Fin.ext ?_))
  show 1024 * (t.val / 8) + _ = 1024 * (t'.val / 8) + _
  rw [h]

/-- The block of window 4 at a point: a gate's argument. -/
theorem blk4 (t : Fin cfg0.N) (r : Fin 1088) (l : Fin 1024) :
    (iblk m c 4 t : Vec F S1088x1024 .f32) (ix2 r l) = (V m c main_arg4 : Vec F S8704x4096 .f32) (ix2 (row t.val r) (gate0 (col t.val (point_lt t) l))) := by
  obtain ⟨e0, e1⟩ := idx4 t
  refine congrArg (V m c main_arg4 : Vec F S8704x4096 .f32) (funext fun a => Fin.ext ?_)
  match a with
  | ⟨0, _⟩ => show win0_4.index t (0 : Fin 2) * 1088 + 1 * r.val = 1088 * (t.val % 8) + r.val; omega
  | ⟨1, _⟩ => show win0_4.index t (1 : Fin 2) * 1024 + 1 * l.val = (1024 * (t.val / 8) + l.val); omega

/-- The block of window 5 at a point: a gate's argument. -/
theorem blk5 (t : Fin cfg0.N) (r : Fin 1088) (l : Fin 1024) :
    (iblk m c 5 t : Vec F S1088x1024 .f32) (ix2 r l) = (V m c main_arg4 : Vec F S8704x4096 .f32) (ix2 (row t.val r) (gate1 (col t.val (point_lt t) l))) := by
  obtain ⟨e0, e1⟩ := idx5 t
  refine congrArg (V m c main_arg4 : Vec F S8704x4096 .f32) (funext fun a => Fin.ext ?_)
  match a with
  | ⟨0, _⟩ => show win0_5.index t (0 : Fin 2) * 1088 + 1 * r.val = 1088 * (t.val % 8) + r.val; omega
  | ⟨1, _⟩ => show win0_5.index t (1 : Fin 2) * 1024 + 1 * l.val = 2048 + (1024 * (t.val / 8) + l.val); omega

/-- Every point leaves what it would leave had it loaded the weights itself. -/
theorem outs_eq (n : ℕ) (hn : n < cfg0.N) : outsAt0 m c n hn = left m c ⟨n, hn⟩ := by
  induction n with
  | zero => exact outs_first m c ⟨0, hn⟩ rfl
  | succ n ih =>
    by_cases h0 : (n + 1) % 8 = 0
    · exact outs_first m c ⟨n + 1, hn⟩ h0
    · have hW : (outsAt0 m c n (Nat.lt_of_succ_lt hn)).2 = (left m c ⟨n + 1, hn⟩).2 := by
        rw [ih]
        have hq : n / 8 = (n + 1) / 8 := by omega
        unfold left
        rw [same2 m c ⟨n, Nat.lt_of_succ_lt hn⟩ ⟨n + 1, hn⟩ hq, same3 m c ⟨n, Nat.lt_of_succ_lt hn⟩ ⟨n + 1, hn⟩ hq]
      exact outs_next m c ⟨n + 1, hn⟩ h0 _ hW

/-- The array after the run, at the place that point `t` writes. -/
theorem array_at (t : Fin cfg0.N) (r : Fin 1088) (l : Fin 1024) :
    ((dats m 0 c).arrAt 6 cfg0.N : Vec F S8704x2048 .bf16) (ix2 (row t.val r) (col t.val (point_lt t) l)) = (left m c t).1 (ix2 r l) := by
  have ht := point_lt t
  rw [Value.final6]
  have hp : Value.pt6Of (ix2 (row t.val r) (col t.val (point_lt t) l)) = t.val := by
    show 1 * ((1088 * (t.val % 8) + r.val) / 1088 - 0) + 8 * ((1024 * (t.val / 8) + l.val) / 1024 - 0) = t.val
    omega
  have hl : Value.loc6Of (ix2 (row t.val r) (col t.val (point_lt t) l)) = ix2 r l := by
    funext a; apply Fin.ext
    match a with
    | ⟨0, _⟩ => show (1088 * (t.val % 8) + r.val) % 1088 = r.val; omega
    | ⟨1, _⟩ => show (1024 * (t.val / 8) + l.val) % 1024 = l.val; omega
  unfold Value.G6
  rw [dif_pos (by rw [hp]; exact t.isLt), hl, Value.fold0_congr m c _ _ _ (by rw [Nat.zero_add]; exact t.isLt) hp,
    ← Value.outsAt0_sweep, outs_eq]

/-- Every place of the array is a point's. -/
theorem place (R : Fin 8704) (C : Fin 2048) : ∃ (t : Fin cfg0.N) (r : Fin 1088) (l : Fin 1024),
    R = row t.val r ∧ C = col t.val (point_lt t) l := by
  refine ⟨⟨8 * (C.val / 1024) + R.val / 1088, lt_of_lt_of_eq (by omega) (by decide : 16 = cfg0.N)⟩, ⟨R.val % 1088, by omega⟩, ⟨C.val % 1024, by omega⟩, Fin.ext ?_, Fin.ext ?_⟩
  · show R.val = 1088 * ((8 * (C.val / 1024) + R.val / 1088) % 8) + R.val % 1088; omega
  · show C.val = 1024 * ((8 * (C.val / 1024) + R.val / 1088) / 8) + C.val % 1024; omega

end AnyFloat

variable (m : (ℓ : Loc nD τ sig) → Buf (Elt Idealize.ShloMosaic.Ideal) ℓ) (c : Dev nD)

/-- A branch at region entry is the caller's. -/
theorem entry_v0 (i : S8704x512.Idx) : (V m c main_v0 : S8704x512.Idx → EReal) i = m ((c : Thread nD τ).loc main_arg0) i := by
  have h : V m c main_v0 = truncf (F := Idealize.ShloMosaic.Ideal) .bf16 (m ((c : Thread nD τ).loc main_arg0)) bitsLt_bf16_f32 := by
    simp only [Gen.V, hostOps0]; after_results
  rw [h]; rfl

/-- A branch at region entry is the caller's. -/
theorem entry_v1 (i : S8704x1024.Idx) : (V m c main_v1 : S8704x1024.Idx → EReal) i = m ((c : Thread nD τ).loc main_arg1) i := by
  have h : V m c main_v1 = truncf (F := Idealize.ShloMosaic.Ideal) .bf16 (m ((c : Thread nD τ).loc main_arg1)) bitsLt_bf16_f32 := by
    simp only [Gen.V, hostOps0]; after_results
  rw [h]; rfl

/-- The sum of one entry of the first branch's product. -/
def dotA (h : S8704x512.Idx → EReal) (w : S4x512x2048.Idx → EReal) (R : Fin 8704) (C : Fin 2048) : EReal :=
  dotv (fun k : Fin 512 => h (ix2 R k)) (fun k => w (ix3 0 k C))

/-- The sum of one entry of the second branch's product. -/
def dotB (h : S8704x1024.Idx → EReal) (w : S4x1024x2048.Idx → EReal) (R : Fin 8704) (C : Fin 2048) : EReal :=
  dotv (fun k : Fin 1024 => h (ix2 R k)) (fun k => w (ix3 0 k C))

/-- A weight's block as kept. -/
theorem pay1_apply (x : Vec Idealize.ShloMosaic.Ideal S1x512x1024 .f32) (k : Fin 512) (l : Fin 1024) :
    (k0_pay1 x : S512x1024.Idx → EReal) (ix2 k l) = x (ix3 0 k l) := by
  unfold k0_pay1
  rw [shapeCast_self]
  have e := plane_apply x shapeCasts_S1x512x1024_S512x1024 k l
  exact e

/-- A weight's block as kept. -/
theorem pay2_apply (x : Vec Idealize.ShloMosaic.Ideal S1x1024x1024 .f32) (k : Fin 1024) (l : Fin 1024) :
    (k0_pay2 x : S1024x1024.Idx → EReal) (ix2 k l) = x (ix3 0 k l) := by
  unfold k0_pay2
  rw [shapeCast_self]
  have e := plane_apply x shapeCasts_S1x1024x1024_S1024x1024 k l
  exact e

/-- A point's output block. -/
theorem pay3_apply (x : Vec Idealize.ShloMosaic.Ideal S1088x512 .bf16) (a : Vec Idealize.ShloMosaic.Ideal S512x1024 .bf16)
    (y : Vec Idealize.ShloMosaic.Ideal S1088x1024 .bf16) (b : Vec Idealize.ShloMosaic.Ideal S1024x1024 .bf16)
    (z u : Vec Idealize.ShloMosaic.Ideal S1088x1024 .f32) (r : Fin 1088) (l : Fin 1024) :
    (k0_pay3 x a y b z u : S1088x1024.Idx → EReal) (ix2 r l)
      = sigT (z (ix2 r l)) * dotv (fun k : Fin 512 => x (ix2 r k)) (fun k => a (ix2 k l))
        + sigT (u (ix2 r l)) * dotv (fun k : Fin 1024 => y (ix2 r k)) (fun k => b (ix2 k l)) := by
  have hd := dot_apply (φ₁ := .bf16) (φ₂ := .bf16) dot_S1088x512_S512x1024_S1088x1024_1_0_0_1_n_n rfl none x a r l
  have hd' := dot_apply (φ₁ := .bf16) (φ₂ := .bf16) dot_S1088x1024_S1024x1024_S1088x1024_1_0_0_1_n_n rfl none y b r l
  unfold k0_pay3
  rw [shapeCast_self, shapeCast_self]
  refine Eq.trans ?_ (congrArg₂ (fun p q : EReal => sigT (z (ix2 r l)) * p + sigT (u (ix2 r l)) * q) hd hd')
  rfl

/-- One entry of the kernel's array. -/
theorem kernel_entry (R : Fin 8704) (C : Fin 2048) :
    ((dats m 0 c).arrAt 6 cfg0.N : S8704x2048.Idx → EReal) (ix2 R C)
      = (sigT ((m ((c : Thread nD τ).loc main_arg4) : S8704x4096.Idx → EReal) (ix2 R (gate0 C))) : EReal)
          * dotA (m ((c : Thread nD τ).loc main_arg0)) (m ((c : Thread nD τ).loc main_arg2)) R C
        + sigT ((m ((c : Thread nD τ).loc main_arg4) : S8704x4096.Idx → EReal) (ix2 R (gate1 C)))
          * dotB (m ((c : Thread nD τ).loc main_arg1)) (m ((c : Thread nD τ).loc main_arg3)) R C := by
  obtain ⟨t, r, l, rfl, rfl⟩ := place R C
  refine (array_at m c t r l).trans ((pay3_apply _ _ _ _ _ _ r l).trans ?_)
  have e1 : dotv (fun k : Fin 512 => (iblk m c 0 t : S1088x512.Idx → EReal) (ix2 r k)) (fun k => (k0_pay1 (iblk m c 2 t) : S512x1024.Idx → EReal) (ix2 k l))
      = dotA (m ((c : Thread nD τ).loc main_arg0)) (m ((c : Thread nD τ).loc main_arg2)) (row t.val r) (col t.val (point_lt t) l) := by
    refine dotv_congr (fun k => ?_) (fun k => ?_)
    · exact (blk0 m c t r k).trans (entry_v0 m c _)
    · exact (pay1_apply _ k l).trans ((blk2 m c t k l).trans (congrFun (V_main_arg2 m c) _))
  have e2 : dotv (fun k : Fin 1024 => (iblk m c 1 t : S1088x1024.Idx → EReal) (ix2 r k)) (fun k => (k0_pay2 (iblk m c 3 t) : S1024x1024.Idx → EReal) (ix2 k l))
      = dotB (m ((c : Thread nD τ).loc main_arg1)) (m ((c : Thread nD τ).loc main_arg3)) (row t.val r) (col t.val (point_lt t) l) := by
    refine dotv_congr (fun k => ?_) (fun k => ?_)
    · exact (blk1 m c t r k).trans (entry_v1 m c _)
    · exact (pay2_apply _ k l).trans ((blk3 m c t k l).trans (congrFun (V_main_arg3 m c) _))
  have g1 := (blk4 m c t r l).trans (congrFun (V_main_arg4 m c) _)
  have g2 := (blk5 m c t r l).trans (congrFun (V_main_arg4 m c) _)
  have p1 := congrArg₂ (fun g d : EReal => sigT g * d) g1 e1
  have p2 := congrArg₂ (fun g d : EReal => sigT g * d) g2 e2
  exact congrArg₂ (fun p q : EReal => p + q) p1 p2

end Cert.MergeIdeal.Blocks

namespace Cert.RefMergeIdeal.Blocks

open Idealize.ShloMosaic Idealize.ShloMosaic.TcCoe Idealize.SL.Sem
open Cert.RefMergeIdeal Cert.RefMergeIdeal.Gen Cert.Dense

/-- One of the reference's products, at an entry. -/
theorem productA (h : FVec Idealize.ShloMosaic.Ideal S8704x512 .f32) (w : FVec Idealize.ShloMosaic.Ideal S4x512x2048 .f32) (R : Fin 8704) (C : Fin 2048) :
    (Host.dotGeneral (F := Idealize.ShloMosaic.Ideal) dot_S8704x512_S512x2048_S8704x2048_1_0_0_1_n_n none h
      (shapeCast _ (extractStridedSlice S1x512x2048 ![0, 0, 0] w slices_S4x512x2048_S1x512x2048_0_0_0) shapeCasts_S1x512x2048_S512x2048) : S8704x2048.Idx → EReal) (ix2 R C)
      = Cert.MergeIdeal.Blocks.dotA h w R C := by
  refine (host_dot_apply (φ₁ := .f32) (φ₂ := .f32) _ rfl none h _ R C).trans ?_
  exact dotv_congr (fun k => rfl) fun k =>
    (slice_plane 0 w slices_S4x512x2048_S1x512x2048_0_0_0 shapeCasts_S1x512x2048_S512x2048 0 rfl k C C (Nat.zero_add _).symm)

/-- One of the reference's products, at an entry. -/
theorem productB (h : FVec Idealize.ShloMosaic.Ideal S8704x1024 .f32) (w : FVec Idealize.ShloMosaic.Ideal S4x1024x2048 .f32) (R : Fin 8704) (C : Fin 2048) :
    (Host.dotGeneral (F := Idealize.ShloMosaic.Ideal) dot_S8704x1024_S1024x2048_S8704x2048_1_0_0_1_n_n none h
      (shapeCast _ (extractStridedSlice S1x1024x2048 ![0, 0, 0] w slices_S4x1024x2048_S1x1024x2048_0_0_0) shapeCasts_S1x1024x2048_S1024x2048) : S8704x2048.Idx → EReal) (ix2 R C)
      = Cert.MergeIdeal.Blocks.dotB h w R C := by
  refine (host_dot_apply (φ₁ := .f32) (φ₂ := .f32) _ rfl none h _ R C).trans ?_
  exact dotv_congr (fun k => rfl) fun k =>
    (slice_plane 0 w slices_S4x1024x2048_S1x1024x2048_0_0_0 shapeCasts_S1x1024x2048_S1024x2048 0 rfl k C C (Nat.zero_add _).symm)

/-- One of the reference's gates' arguments, at an entry. -/
theorem arg_gate0 (z : FVec Idealize.ShloMosaic.Ideal S8704x4096 .f32) (R : Fin 8704) (C : Fin 2048) :
    (extractStridedSlice S8704x2048 ![0, 0] z slices_S8704x4096_S8704x2048_0_0 : S8704x2048.Idx → EReal) (ix2 R C)
      = z (ix2 R (Cert.MergeIdeal.Blocks.gate0 C)) := by
  unfold extractStridedSlice
  refine congrArg z (funext fun a => Fin.ext ?_)
  match a with
  | ⟨0, _⟩ => show 0 + R.val = R.val; omega
  | ⟨1, _⟩ => show 0 + C.val = C.val; omega

/-- One of the reference's gates' arguments, at an entry. -/
theorem arg_gate1 (z : FVec Idealize.ShloMosaic.Ideal S8704x4096 .f32) (R : Fin 8704) (C : Fin 2048) :
    (extractStridedSlice S8704x2048 ![0, 2048] z slices_S8704x4096_S8704x2048_0_2048 : S8704x2048.Idx → EReal) (ix2 R C)
      = z (ix2 R (Cert.MergeIdeal.Blocks.gate1 C)) := by
  unfold extractStridedSlice
  refine congrArg z (funext fun a => Fin.ext ?_)
  match a with
  | ⟨0, _⟩ => show 0 + R.val = R.val; omega
  | ⟨1, _⟩ => show 2048 + C.val = 2048 + C.val; omega

/-- One entry of the reference's result. -/
theorem entry (y0 : FVec Idealize.ShloMosaic.Ideal S8704x512 .f32) (y1 : FVec Idealize.ShloMosaic.Ideal S8704x1024 .f32) (w0 : FVec Idealize.ShloMosaic.Ideal S4x512x2048 .f32) (w1 : FVec Idealize.ShloMosaic.Ideal S4x1024x2048 .f32)
    (z : FVec Idealize.ShloMosaic.Ideal S8704x4096 .f32) (R : Fin 8704) (C : Fin 2048) :
    (truncf (F := Idealize.ShloMosaic.Ideal) .bf16 (addf (mulf (Host.divf (broadcastInDim S8704x2048 ![] bcast_S_S8704x2048 (constant S_ .f32 0x3F800000#32)) (addf (broadcastInDim S8704x2048 ![] bcast_S_S8704x2048 (constant S_ .f32 0x3F800000#32)) (Host.exp (Host.negf (extractStridedSlice S8704x2048 ![0, 0] z slices_S8704x4096_S8704x2048_0_0))))) (Host.dotGeneral dot_S8704x512_S512x2048_S8704x2048_1_0_0_1_n_n none y0 (shapeCast _ (extractStridedSlice S1x512x2048 ![0, 0, 0] w0 slices_S4x512x2048_S1x512x2048_0_0_0) shapeCasts_S1x512x2048_S512x2048))) (mulf (Host.divf (broadcastInDim S8704x2048 ![] bcast_S_S8704x2048 (constant S_ .f32 0x3F800000#32)) (addf (broadcastInDim S8704x2048 ![] bcast_S_S8704x2048 (constant S_ .f32 0x3F800000#32)) (Host.exp (Host.negf (extractStridedSlice S8704x2048 ![0, 2048] z slices_S8704x4096_S8704x2048_0_2048))))) (Host.dotGeneral dot_S8704x1024_S1024x2048_S8704x2048_1_0_0_1_n_n none y1 (shapeCast _ (extractStridedSlice S1x1024x2048 ![0, 0, 0] w1 slices_S4x1024x2048_S1x1024x2048_0_0_0) shapeCasts_S1x1024x2048_S1024x2048)))) bitsLt_bf16_f32 : S8704x2048.Idx → EReal) (ix2 R C)
      = (sigE (z (ix2 R (Cert.MergeIdeal.Blocks.gate0 C))) : EReal) * Cert.MergeIdeal.Blocks.dotA y0 w0 R C
        + sigE (z (ix2 R (Cert.MergeIdeal.Blocks.gate1 C))) * Cert.MergeIdeal.Blocks.dotB y1 w1 R C := by
  have p1 := congrArg₂ (fun g d : EReal => sigE g * d) (arg_gate0 z R C) (productA y0 w0 R C)
  have p2 := congrArg₂ (fun g d : EReal => sigE g * d) (arg_gate1 z R C) (productB y1 w1 R C)
  refine Eq.trans ?_ (congrArg₂ (fun p q : EReal => p + q) p1 p2)
  rfl

end Cert.RefMergeIdeal.Blocks

namespace Cert.MergeIdeal.Blocks

open Idealize.ShloMosaic Idealize.ShloMosaic.TcCoe Idealize.SL.Sem

/-- The merge's value claim. -/
theorem value : Cert.algebraic_MergeIdeal_RefMergeIdeal := fun m ρ m' ρ' _ hag =>
  ⟨fun c => (Cert.MergeIdeal.Gen.dats m 0 c).arrAt 6 Cert.MergeIdeal.cfg0.N, Cert.MergeIdeal.Value.run_blocks m ρ,
    (θ_run _ _ _).mono (fun r h c => by
      refine ⟨(h c).1.trans ?_, (h c).2⟩
      obtain ⟨e0, e1, e2, e3, e4⟩ := hag c
      funext i
      obtain ⟨R, C, rfl⟩ : ∃ R C, i = ix2 R C := ⟨i 0, i 1, eq_ix2 i⟩
      refine (Cert.RefMergeIdeal.Blocks.entry _ _ _ _ _ R C).trans (Eq.trans ?_ (kernel_entry m c R C).symm)
      rw [e0, e1, e2, e3, e4, Cert.Dense.sig_eq, Cert.Dense.sig_eq])
      (Cert.RefMergeIdeal.Value.run (F := Idealize.ShloMosaic.Ideal) m' ρ')⟩

end Cert.MergeIdeal.Blocks
-- ==== Proof.MoeBody.lean ====
/- The routed up projections: what the kernel's body does on its buffers, in each of its three cases. -/
module

public import proofs.«01_k».proof.Proof.Gen.MoeUpIdeal.Launch
public import proofs.«01_k».proof.Proof.Gen.MoeUpIdeal.Skeleton
public import proofs.«01_k».proof.Proof.Dense
public import Idealize.ShloMosaic.Lib.Pipeline.Kit
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.MoeUpIdeal.Blocks

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.MoeUpIdeal Cert.MoeUpIdeal.Gen Cert.Dense

variable {F : FTy → Type} [FloatOps F]

local notation "𝕄" => MT nD τ sig Unit (Elt F) ℕ (UR sig nD τ) ℕ

/-- Offsets of a whole block of a stack of stacks. -/
theorem off4 : (![0, 0, 0, 0] : Fin 4 → ℕ) = fun _ => 0 := by
  funext a; match a with | ⟨0, _⟩ => rfl | ⟨1, _⟩ => rfl | ⟨2, _⟩ => rfl | ⟨3, _⟩ => rfl

/-- The three tables in scalar memory: each tile's expert, whether a tile is its expert's first, and how many tiles there are. -/
abbrev experts : Memref sig .tc .smem S25 .i32 := Memref.whole main_v17
abbrev firsts : Memref sig .tc .smem S25 .i32 := Memref.whole main_v5
abbrev count : Memref sig .tc .smem S1 .i32 := Memref.whole main_arg4
/-- The buffers that keep the two weights' blocks. -/
abbrev kept0 : Memref sig .tc .vmem S2048x256 .bf16 := Memref.whole cc0_scratch0
abbrev kept1 : Memref sig .tc .vmem S2048x256 .bf16 := Memref.whole cc0_scratch1

/-- A table's contents on a core, and the half of it that the body may read. -/
abbrev Words (c : Dev nD) {S : Shape} {e : EltTy} (M : Memref sig .tc .smem S e) : Type := Buf (Elt F) (M.view.loc (c : Thread nD τ))
abbrev half (c : Dev nD) {S : Shape} {e : EltTy} (M : Memref sig .tc .smem S e) (f : Words (F := F) c M) : sProp 𝕄 :=
  M.view.loc (c : Thread nD τ) ↦{fullShare.right} f

/-- The number of tiles, as the body reads it. -/
abbrev countWord (c : Dev nD) (f : Words (F := F) c count) : BitVec 32 :=
  count.view.readAt (Elt F) (Rect.unit (s := S1) ![0] S1.size inb_S1_S1_0).toLoadRect f (Shape.Idx.first (numel1_S1.symm ▸ Nat.one_pos))
/-- A tile's first mark, as the body reads it. -/
abbrev firstWord (c : Dev nD) (i : grid0.Coords) (f : Words (F := F) c firsts) : BitVec 32 :=
  firsts.view.readAt (Elt F) (Rect.unit (s := S25) (k0_off2 i) S1.size (k0_off2_inb i)).toLoadRect f (Shape.Idx.first (numel1_S1.symm ▸ Nat.one_pos))
/-- The tile is in use; it is not; it is its expert's first. -/
abbrev InUse (c : Dev nD) (i : grid0.Coords) (f : Words (F := F) c count) : Prop := k0_cond1 i (countWord c f) = 1#1
abbrev Unused (c : Dev nD) (i : grid0.Coords) (f : Words (F := F) c count) : Prop := k0_cond3 i (countWord c f) = 1#1
abbrev IsFirst (c : Dev nD) (i : grid0.Coords) (f : Words (F := F) c firsts) : Prop :=
  (Scalar.cmpi .ne (Scalar.extui (Scalar.cmpi .eq (firstWord c i f) 1#32)) 0#32) = 1#1

section Bodies

variable (c : Dev nD) (i : grid0.Coords) (a5 : Memref sig .tc .vmem S1024x2048 .bf16) (h5 : a5.IsWhole)
  (a6 : Memref sig .tc .vmem S1x1x2048x256 .f32) (h6 : a6.IsWhole) (a7 : Memref sig .tc .vmem S1x1x2048x256 .f32) (h7 : a7.IsWhole)
  (a8 : Memref sig .tc .vmem S1024x256 .bf16) (h8 : a8.IsWhole) (x : Vec F S1024x2048 .bf16) (g u : Vec F S1x1x2048x256 .f32)
  (te : Words (F := F) c experts) (fi : Words (F := F) c firsts) (na : Words (F := F) c count)

/-- The body at a point: the inputs' blocks, the output's buffer, the kept blocks and the tables; afterwards the output block `o` and the kept
    blocks `k0`, `k1`. -/
def Step (p q : Vec F S2048x256 .bf16) (o : Vec F S1024x256 .bf16) (k0 k1 : Vec F S2048x256 .bf16) : Prop :=
  ∀ (E : Set ℕ) (K : PUnit → sProp 𝕄),
    iprop(owns (c : Thread nD τ) a5 fullShare x ∗ owns (c : Thread nD τ) a6 fullShare g ∗ owns (c : Thread nD τ) a7 fullShare u
        ∗ (∃ d, owns (c : Thread nD τ) a8 fullShare d) ∗ owns (c : Thread nD τ) kept0 fullShare p ∗ owns (c : Thread nD τ) kept1 fullShare q
        ∗ half c experts te ∗ half c firsts fi ∗ half c count na
        ∗ (iprop(owns (c : Thread nD τ) a5 fullShare x ∗ owns (c : Thread nD τ) a6 fullShare g ∗ owns (c : Thread nD τ) a7 fullShare u
          ∗ owns (c : Thread nD τ) a8 fullShare o ∗ owns (c : Thread nD τ) kept0 fullShare k0 ∗ owns (c : Thread nD τ) kept1 fullShare k1
          ∗ half c experts te ∗ half c firsts fi ∗ half c count na) -∗ K ⟨⟩))
      ⊢ wp frame (wpE (defs₀ (F := F)) Variants.none c none) E
          (cc0__moe_up_body i experts (Memref.isWhole_whole _) firsts (Memref.isWhole_whole _) count (Memref.isWhole_whole _) a5 h5 a6 h6 a7 h7 a8 h8
            kept0 (Memref.isWhole_whole _) kept1 (Memref.isWhole_whole _)) K

set_option maxHeartbeats 1000000 in
/-- A first tile keeps its expert's blocks and computes with them. -/
theorem step_first (p q : Vec F S2048x256 .bf16) (hn : InUse c i na) (hf : IsFirst c i fi) (hu : ¬ Unused c i na) :
    Step c i a5 h5 a6 h6 a7 h7 a8 h8 x g u te fi na p q (k0_pay3 x (k0_pay1 g) (k0_pay2 u)) (k0_pay1 g) (k0_pay2 u) := by
  intro E K
  simp only [cc0__moe_up_body_eq_skeleton]; unfold cc0__moe_up_body_skel
  unfold owns
  iintro ⟨⟨%f0, %hf0, H0⟩, ⟨%f1, %hf1, H1⟩, ⟨%f2, %hf2, H2⟩, ⟨%d3, %f3, -, H3⟩, ⟨%fs0, %hs0, HS0⟩, ⟨%fs1, %hs1, HS1⟩, HT0, HT1, HT2, Hk⟩
  obtain rfl := h5.eq_unread hf0; obtain rfl := h6.eq_unread hf1; obtain rfl := h7.eq_unread hf2
  sl_exec (disch := first | sl_exact hn | sl_exact hf | sl_exact hu)
  sl_step
  iapply Hk
  isplitl [H0]
  · iexists _; isplitr; · ipureintro; exact h5.read_unread _
    iexact H0
  isplitl [H1]
  · iexists _; isplitr; · ipureintro; exact h6.read_unread _
    iexact H1
  isplitl [H2]
  · iexists _; isplitr; · ipureintro; exact h7.read_unread _
    iexact H2
  isplitl [H3]
  · iexists _; isplitr; swap; · iexact H3
    ipureintro
    dsimp only [step_first.sl.v15, step_first.sl.v17, step_first.sl.HS0_1, step_first.sl.HS1_1]
    rw [read_whole _ off2, View.readCov_unit_zero _ off2, View.readCov_unit_zero _ off2, readAt_whole _ _ off2, readAt_whole _ _ off4, readAt_whole _ _ off4]
  isplitl [HS0]
  · iexists _; isplitr; swap; · iexact HS0
    ipureintro
    dsimp only [step_first.sl.HS0_1]
    rw [read_whole _ off2, readAt_whole _ _ off4]
  isplitl [HS1]
  · iexists _; isplitr; swap; · iexact HS1
    ipureintro
    dsimp only [step_first.sl.HS1_1]
    rw [read_whole _ off2, readAt_whole _ _ off4]
  isplitl [HT0]; · iexact HT0
  isplitl [HT1]; · iexact HT1
  iexact HT2

set_option maxHeartbeats 1000000 in
/-- Every other tile in use computes with the blocks kept. -/
theorem step_next (p q : Vec F S2048x256 .bf16) (hn : InUse c i na) (hf : ¬ IsFirst c i fi) (hu : ¬ Unused c i na) :
    Step c i a5 h5 a6 h6 a7 h7 a8 h8 x g u te fi na p q (k0_pay3 x p q) p q := by
  intro E K
  simp only [cc0__moe_up_body_eq_skeleton]; unfold cc0__moe_up_body_skel
  unfold owns
  iintro ⟨⟨%f0, %hf0, H0⟩, ⟨%f1, %hf1, H1⟩, ⟨%f2, %hf2, H2⟩, ⟨%d3, %f3, -, H3⟩, ⟨%fs0, %hs0, HS0⟩, ⟨%fs1, %hs1, HS1⟩, HT0, HT1, HT2, Hk⟩
  obtain rfl := h5.eq_unread hf0; obtain rfl := h6.eq_unread hf1; obtain rfl := h7.eq_unread hf2
  obtain rfl := (Memref.isWhole_whole _ : kept0.IsWhole).eq_unread hs0; obtain rfl := (Memref.isWhole_whole _ : kept1.IsWhole).eq_unread hs1
  sl_exec (disch := first | sl_exact hn | sl_exact hf | sl_exact hu)
  sl_step
  iapply Hk
  isplitl [H0]
  · iexists _; isplitr; · ipureintro; exact h5.read_unread _
    iexact H0
  isplitl [H1]
  · iexists _; isplitr; · ipureintro; exact h6.read_unread _
    iexact H1
  isplitl [H2]
  · iexists _; isplitr; · ipureintro; exact h7.read_unread _
    iexact H2
  isplitl [H3]
  · iexists _; isplitr; swap; · iexact H3
    ipureintro
    rw [read_whole _ off2, readAt_whole _ _ off2]
    have e0 := readAt_whole kept0 (Memref.isWhole_whole _) off2 inb_S2048x256_S2048x256_0_0 p
    have e1 := readAt_whole kept1 (Memref.isWhole_whole _) off2 inb_S2048x256_S2048x256_0_0 q
    exact congrArg₂ (fun a b => k0_pay3 x a b) e0 e1
  isplitl [HS0]
  · iexists _; isplitr; swap; · iexact HS0
    ipureintro; exact (Memref.isWhole_whole _ : kept0.IsWhole).read_unread _
  isplitl [HS1]
  · iexists _; isplitr; swap; · iexact HS1
    ipureintro; exact (Memref.isWhole_whole _ : kept1.IsWhole).read_unread _
  isplitl [HT0]; · iexact HT0
  isplitl [HT1]; · iexact HT1
  iexact HT2

set_option maxHeartbeats 1000000 in
/-- A tile that is not in use leaves a block of zeros. -/
theorem step_unused (p q : Vec F S2048x256 .bf16) (hn : ¬ InUse c i na) (hu : Unused c i na) :
    Step c i a5 h5 a6 h6 a7 h7 a8 h8 x g u te fi na p q k0_pay4 p q := by
  intro E K
  simp only [cc0__moe_up_body_eq_skeleton]; unfold cc0__moe_up_body_skel
  unfold owns
  iintro ⟨⟨%f0, %hf0, H0⟩, ⟨%f1, %hf1, H1⟩, ⟨%f2, %hf2, H2⟩, ⟨%d3, %f3, -, H3⟩, ⟨%fs0, %hs0, HS0⟩, ⟨%fs1, %hs1, HS1⟩, HT0, HT1, HT2, Hk⟩
  obtain rfl := h5.eq_unread hf0; obtain rfl := h6.eq_unread hf1; obtain rfl := h7.eq_unread hf2
  obtain rfl := (Memref.isWhole_whole _ : kept0.IsWhole).eq_unread hs0; obtain rfl := (Memref.isWhole_whole _ : kept1.IsWhole).eq_unread hs1
  sl_exec (disch := first | sl_exact hn | sl_exact hu)
  sl_step
  iapply Hk
  isplitl [H0]
  · iexists _; isplitr; · ipureintro; exact h5.read_unread _
    iexact H0
  isplitl [H1]
  · iexists _; isplitr; · ipureintro; exact h6.read_unread _
    iexact H1
  isplitl [H2]
  · iexists _; isplitr; · ipureintro; exact h7.read_unread _
    iexact H2
  isplitl [H3]
  · iexists _; isplitr; swap; · iexact H3
    ipureintro
    exact read_whole _ off2 _ _ _
  isplitl [HS0]
  · iexists _; isplitr; swap; · iexact HS0
    ipureintro; exact (Memref.isWhole_whole _ : kept0.IsWhole).read_unread _
  isplitl [HS1]
  · iexists _; isplitr; swap; · iexact HS1
    ipureintro; exact (Memref.isWhole_whole _ : kept1.IsWhole).read_unread _
  isplitl [HT0]; · iexact HT0
  isplitl [HT1]; · iexact HT1
  iexact HT2

end Bodies

end Cert.MoeUpIdeal.Blocks
-- ==== Proof.MoeRun.lean ====
/- The routed up projections: the run of the whole program, point by point, from the body's three cases. -/
module

public import proofs.«01_k».proof.Proof.MoeBody
public import Idealize.ShloMosaic.Lib.Claim

@[expose] public section

set_option maxRecDepth 16384

noncomputable section

namespace Cert.MoeUpIdeal.Blocks

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)
open Cert.MoeUpIdeal Cert.MoeUpIdeal.Gen Cert.Dense

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What a core's buffers hold when the call starts: after the host operations. -/
abbrev V (c : Dev nD) (b : Ref sig .tc) : Buf (Elt F) ((c : Thread nD τ).loc b) := StableHlo.after hostOps0 (fun b => m (c, b)) b

/-- No host operation needs a fresh buffer. -/
theorem hostOps0_fresh : (hostOps0 : List (HloOp τ sig (Elt F))).Forall fun op => op.fresh = ∅ := by
  simp only [List.Forall]; repeat' constructor

set_option maxHeartbeats 800000 in
/-- The program up to the call: its host operations, then the call. -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub hostOps0_fresh main_chain

/-- No host operation writes an argument. -/
theorem V_arg (c : Dev nD) (b : Ref sig .tc) (hb : b ∈ [main_arg0, main_arg1, main_arg2, main_arg3, main_arg4]) :
    V m c b = m ((c : Thread nD τ).loc b) :=
  StableHlo.after_of_forall_not_mem (b := Proc.devRef .tc b) _ _ (List.forall_iff_forall_mem.mp (by
    simp only [List.Forall, StableHlo.nullary_writes, StableHlo.unary_writes, StableHlo.binary_writes, StableHlo.ternary_writes,
      StableHlo.reshape_writes, Finset.mem_singleton]
    repeat' apply And.intro
    all_goals exact StableHlo.devRef_ne_of_ne (fun e => by rw [e] at hb; revert hb; decide)))

/-- The tables' contents when the call starts. -/
def tbl : pre0.Contents (Elt F) := fun j => V m (0 : Dev nD) (pre0.ref j)
/-- Every device's tables hold those contents, there being one device. -/
theorem V_pre (c : Dev nD) (j : Fin 3) : V m c (pre0.ref j) = tbl m j := by
  obtain rfl : c = 0 := Subsingleton.elim _ _; rfl
/-- The words in the tables name blocks inside the arrays. -/
abbrev Ok : Prop := ok0 (F := F) (tbl m)
/-- The pipeline at the tables' contents. -/
abbrev adm (hO : Ok m) : (pcfg0 (F := F)).Adm := ⟨tbl m, hO⟩
abbrev cfgM (hO : Ok m) : Pipeline.Cfg sig Λ₀ := cfg0 (adm m hO)

/-- The tables' halves that the body may read, one by one. -/
theorem tables_eq (c : Dev nD) : (Pipeline.ΦT pre0 (tbl m) c : sProp 𝕄) = iprop(half c experts (tbl m 0) ∗ half c firsts (tbl m 1) ∗ half c count (tbl m 2)) := by
  unfold Pipeline.ΦT Pipeline.prefHeld
  rw [show (Finset.univ : Finset (Fin 3)) = insert (0 : Fin 3) (insert (1 : Fin 3) {(2 : Fin 3)}) from by decide,
    bigSep_insert (by decide), bigSep_insert (by decide), bigSep_singleton]
  rfl

/-- The buffers no window stages, at any contents, and the generator's register. -/
theorem scoped_eq (c : Dev nD) :
    (Pipeline.ΦA spec0 c : sProp 𝕄)
      = iprop(iprop((∃ d, owns (c : Thread nD τ) kept0 fullShare d) ∗ (∃ d, owns (c : Thread nD τ) kept1 fullShare d)) ∗ (∃ r, prngReg c r)) := by
  unfold Pipeline.ΦA; rw [scopedRest0_eq]; simp only [kept0, kept1, owns_whole]; try rfl

/-- A window's block at a point, in its array as the call finds it. -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- Input 0's staging buffer holds its block at every point. -/
theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input 1's staging buffer holds its block at every point. -/
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input 2's staging buffer holds its block at every point. -/
theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Each window's staging buffer at a point. -/
abbrev ms0_0 (hO : Ok m) (t : Fin (cfgM m hO).N) : Memref sig .tc .vmem S1024x2048 .bf16 := spec0_0.stage ((cfgM m hO).slots t 0)
abbrev ms0_1 (hO : Ok m) (t : Fin (cfgM m hO).N) : Memref sig .tc .vmem S1x1x2048x256 .f32 := spec0_1.stage ((cfgM m hO).slots t 1)
abbrev ms0_2 (hO : Ok m) (t : Fin (cfgM m hO).N) : Memref sig .tc .vmem S1x1x2048x256 .f32 := spec0_2.stage ((cfgM m hO).slots t 2)
abbrev ms0_3 (hO : Ok m) (t : Fin (cfgM m hO).N) : Memref sig .tc .vmem S1024x256 .bf16 := spec0_3.stage ((cfgM m hO).slots t 3)

/-- The body as the pipeline calls it at a point. -/
abbrev bodyAt (hO : Ok m) (t : Fin (cfgM m hO).N) : Prog (TpuEff nD τ sig (Elt F) Λ₀ .tc) PUnit :=
  cc0__moe_up_body (grid0.coords t) experts (Memref.isWhole_whole _) firsts (Memref.isWhole_whole _) count (Memref.isWhole_whole _)
    (ms0_0 m hO t) (hstage0_0 (((cfgM m hO).slots t 0).cast nbuf0_0)) (ms0_1 m hO t) (hstage0_1 (((cfgM m hO).slots t 1).cast nbuf0_1))
    (ms0_2 m hO t) (hstage0_2 (((cfgM m hO).slots t 2).cast nbuf0_2)) (ms0_3 m hO t) (hstage0_3 (((cfgM m hO).slots t 3).cast nbuf0_3))
    kept0 (Memref.isWhole_whole _) kept1 (Memref.isWhole_whole _)

/-- What the body leaves in the output's buffer at a point: the tile's product, or zeros when the tile is not in use. -/
def made (hO : Ok m) (c : Dev nD) (t : Fin (cfgM m hO).N) : Vec F S1024x256 .bf16 :=
  if InUse c (grid0.coords t) (tbl m 2) then k0_pay3 (iblk m hO c 0 t) (k0_pay1 (iblk m hO c 1 t)) (k0_pay2 (iblk m hO c 2 t)) else k0_pay4

/-- After a point in use the kept buffers hold that point's two weight blocks. -/
def Held (hO : Ok m) (c : Dev nD) (t : Fin ((cfgM m hO).N + 1)) (p q : Vec F S2048x256 .bf16) : Prop :=
  ∀ s : Fin (cfgM m hO).N, s.val + 1 = t.val → InUse c (grid0.coords s) (tbl m 2) → p = k0_pay1 (iblk m hO c 1 s) ∧ q = k0_pay2 (iblk m hO c 2 s)

/-- A point in use that is not its expert's first comes after a point in use with the same weight blocks. -/
def Steady (hO : Ok m) : Prop :=
  ∀ (c : Dev nD) (t : Fin (cfgM m hO).N), InUse c (grid0.coords t) (tbl m 2) → ¬ IsFirst c (grid0.coords t) (tbl m 1) →
    ∃ s : Fin (cfgM m hO).N, s.val + 1 = t.val ∧ InUse c (grid0.coords s) (tbl m 2)
      ∧ k0_pay1 (iblk m hO c 1 s) = k0_pay1 (iblk m hO c 1 t) ∧ k0_pay2 (iblk m hO c 2 s) = k0_pay2 (iblk m hO c 2 t)

/-- What holds between the points: the kept buffers, the generator's register and the tables. -/
def between (hO : Ok m) (c : Dev nD) (t : Fin ((cfgM m hO).N + 1)) : sProp 𝕄 :=
  iprop((∃ p, ∃ q, ⌜Held m hO c t p q⌝ ∗ owns (c : Thread nD τ) kept0 fullShare p ∗ owns (c : Thread nD τ) kept1 fullShare q)
    ∗ (∃ r, prngReg c r) ∗ Pipeline.ΦT pre0 (tbl m) c)

/-- The run's data: the arrays as the call finds them, what each point leaves, and what holds between the points. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => made m hO c t
  Φ t := between m hO c t
  q _ := fullShare
  owed _ := 0

/-- The data's arrays are those the call finds. -/
theorem A_eq (hO : Ok m) (c : Dev nD) (w : Fin (cfgM m hO).W) : (dats m hO 0 c).A w = V m c (Pipeline.arrRef spec0 w) := by
  dsimp only [dats]

/-- What the body leaves, window by window. -/
theorem after_0 (hO : Ok m) (c : Dev nD) (t : Fin (cfgM m hO).N) : (dats m hO 0 c).after 0 t = iblk m hO c 0 t := by dsimp only [dats]; try rfl
theorem after_1 (hO : Ok m) (c : Dev nD) (t : Fin (cfgM m hO).N) : (dats m hO 0 c).after 1 t = iblk m hO c 1 t := by dsimp only [dats]; try rfl
theorem after_2 (hO : Ok m) (c : Dev nD) (t : Fin (cfgM m hO).N) : (dats m hO 0 c).after 2 t = iblk m hO c 2 t := by dsimp only [dats]; try rfl
theorem after_3 (hO : Ok m) (c : Dev nD) (t : Fin (cfgM m hO).N) : (dats m hO 0 c).after 3 t = made m hO c t := by dsimp only [dats]; try rfl

/-- What the body finds, window by window. -/
theorem before_0 (hO : Ok m) (c : Dev nD) (t : Fin (cfgM m hO).N) (d) : (dats m hO 0 c).before 0 t d = iblk m hO c 0 t :=
  before0_0_of m hO (dats m hO 0 c) (A_eq m hO c 0) (after_0 m hO c) t d
theorem before_1 (hO : Ok m) (c : Dev nD) (t : Fin (cfgM m hO).N) (d) : (dats m hO 0 c).before 1 t d = iblk m hO c 1 t :=
  before0_1_of m hO (dats m hO 0 c) (A_eq m hO c 1) (after_1 m hO c) t d
theorem before_2 (hO : Ok m) (c : Dev nD) (t : Fin (cfgM m hO).N) (d) : (dats m hO 0 c).before 2 t d = iblk m hO c 2 t :=
  before0_2_of m hO (dats m hO 0 c) (A_eq m hO c 2) (after_2 m hO c) t d

/-- A tile is in use or it is not, and the body's two conditions say which. -/
theorem unused_iff (i : grid0.Coords) (w : BitVec 32) : k0_cond3 i w = 1#1 ↔ ¬ k0_cond1 i w = 1#1 := by
  unfold k0_cond3 k0_cond1
  show Scalar.cmpi .ne (Scalar.extui (BitVec.ofBool (decide (w.toInt ≤ (BitVec.ofNat 32 (i 1).val).toInt)))) 0#32 = 1#1
    ↔ ¬ Scalar.cmpi .ne (Scalar.extui (BitVec.ofBool (decide ((BitVec.ofNat 32 (i 1).val).toInt < w.toInt)))) 0#32 = 1#1
  by_cases h : w.toInt ≤ (BitVec.ofNat 32 (i 1).val).toInt
  · rw [decide_eq_true h, decide_eq_false (not_lt.mpr h)]; decide
  · rw [decide_eq_false h, decide_eq_true (not_le.mp h)]; decide

/-- At no point is the output's buffer left as it was, whatever the tables hold. -/
theorem idle_table (T : pre0.Contents (Elt F)) (i : grid0.Coords) : idle0 T 3 i = false := by
  dsimp only [idle0]
  simp only [Bool.and_eq_false_iff, Bool.not_eq_false', beq_iff_eq]
  exact or_iff_not_imp_left.mpr fun h => (unused_iff _ _).mpr h

/-- No point leaves the output's buffer as it was. -/
theorem idle_at (a : (pcfg0 (F := F)).Adm) (i : grid0.Coords) : (cfg0 a).idle 3 i = false := by
  rw [show (cfg0 a).idle 3 i = idle0 a.1 3 i from rfl]
  exact idle_table a.1 i

/-- No point of this run leaves the output's buffer as it was. -/
theorem never_idle (hO : Ok m) (i : grid0.Coords) : (cfgM m hO).idle 3 i = false := idle_at (adm m hO) i

/-- What the body is called with at a point. -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare ((dats m hO 0 c).before 3 t d)))

/-- And what it returns. -/
def bodyPost (hO : Ok m) (c : Dev nD) (t : Fin (cfgM m hO).N) : sProp 𝕄 :=
  iprop((dats m hO 0 c).Φ t.succ ∗ (dats m hO 0 c).owesAt () t.succ
    ∗ owns (c : Thread nD τ) (ms0_0 m hO t) fullShare ((dats m hO 0 c).after 0 t)
    ∗ owns (c : Thread nD τ) (ms0_1 m hO t) fullShare ((dats m hO 0 c).after 1 t)
    ∗ owns (c : Thread nD τ) (ms0_2 m hO t) fullShare ((dats m hO 0 c).after 2 t)
    ∗ owns (c : Thread nD τ) (ms0_3 m hO t) fullShare ((dats m hO 0 c).after 3 t))

/-- The body at a point, from the case the point is in: whatever the kept buffers held, it makes the point's block and keeps what the
    next point may need. -/
theorem body_of_step (hO : Ok m) (c : Dev nD) (t : Fin (cfgM m hO).N)
    (h : ∀ p q, Held m hO c t.castSucc p q → ∃ k0 k1, Held m hO c t.succ k0 k1
      ∧ Step c (grid0.coords t) (ms0_0 m hO t) (hstage0_0 (((cfgM m hO).slots t 0).cast nbuf0_0)) (ms0_1 m hO t) (hstage0_1 (((cfgM m hO).slots t 1).cast nbuf0_1))
        (ms0_2 m hO t) (hstage0_2 (((cfgM m hO).slots t 2).cast nbuf0_2)) (ms0_3 m hO t) (hstage0_3 (((cfgM m hO).slots t 3).cast nbuf0_3))
        (iblk m hO c 0 t) (iblk m hO c 1 t) (iblk m hO c 2 t) (tbl m 0) (tbl m 1) (tbl m 2) p q (made m hO c t) k0 k1) :
    bodyPre m hO c t ⊢ wp frame (wpE (defs₀ (F := F)) Variants.none c none) Set.univ (bodyAt m hO t) (fun _ => bodyPost m hO c t) := by
  unfold bodyPre bodyPost bodyAt
  simp only [before_0, before_1, before_2]
  rw [show (dats m hO 0 c).owesAt () t.succ = (dats m hO 0 c).owesAt () t.castSucc from rfl, after_0, after_1, after_2, after_3]
  rw [show (dats m hO 0 c).Φ t.castSucc = between m hO c t.castSucc from rfl, show (dats m hO 0 c).Φ t.succ = between m hO c t.succ from rfl]
  unfold between
  rw [tables_eq]
  iintro ⟨⟨⟨%p, %q, %hpq, HS0, HS1⟩, Hg, HT0, HT1, HT2⟩, Ho, ⟨%d0, H0⟩, ⟨%d1, H1⟩, ⟨%d2, H2⟩, ⟨%d3, H3⟩⟩
  obtain ⟨k0, k1, hk, hs⟩ := h p q hpq
  iapply (hs Set.univ _)
  isplitl [H0]; · iexact H0
  isplitl [H1]; · iexact H1
  isplitl [H2]; · iexact H2
  isplitl [H3]; · iexists _; iexact H3
  isplitl [HS0]; · iexact HS0
  isplitl [HS1]; · iexact HS1
  isplitl [HT0]; · iexact HT0
  isplitl [HT1]; · iexact HT1
  isplitl [HT2]; · iexact HT2
  iintro ⟨H0, H1, H2, H3, HS0, HS1, HT0, HT1, HT2⟩
  isplitl [HS0 HS1 Hg HT0 HT1 HT2]
  · isplitl [HS0 HS1]
    · iexists k0; iexists k1
      isplitr; · ipureintro; exact hk
      isplitl [HS0]; · iexact HS0
      iexact HS1
    isplitl [Hg]; · iexact Hg
    isplitl [HT0]; · iexact HT0
    isplitl [HT1]; · iexact HT1
    iexact HT2
  isplitl [Ho]; · iexact Ho
  isplitl [H0]; · iexact H0
  isplitl [H1]; · iexact H1
  isplitl [H2]; · iexact H2
  iexact H3

set_option maxHeartbeats 1600000 in
/-- The body at every point, by the three cases. -/
theorem sound_body (hO : Ok m) (hS : Steady m hO) (c : Dev nD) (t : Fin (cfgM m hO).N) :
    bodyPre m hO c t ⊢ wp frame (wpE (defs₀ (F := F)) Variants.none c none) Set.univ (bodyAt m hO t) (fun _ => bodyPost m hO c t) := by
  refine body_of_step m hO c t fun p q hpq => ?_
  by_cases hn : InUse c (grid0.coords t) (tbl m 2)
  · have hu : ¬ Unused c (grid0.coords t) (tbl m 2) := fun h => (unused_iff _ _).mp h hn
    have hmade : made m hO c t = k0_pay3 (iblk m hO c 0 t) (k0_pay1 (iblk m hO c 1 t)) (k0_pay2 (iblk m hO c 2 t)) := if_pos hn
    have hheld : Held m hO c t.succ (k0_pay1 (iblk m hO c 1 t)) (k0_pay2 (iblk m hO c 2 t)) := fun s hs _ => by
      obtain rfl : s = t := Fin.ext (Nat.succ.inj hs)
      exact ⟨rfl, rfl⟩
    refine ⟨_, _, hheld, ?_⟩
    rw [hmade]
    by_cases hf : IsFirst c (grid0.coords t) (tbl m 1)
    · exact step_first c _ _ _ _ _ _ _ _ _ _ _ _ _ _ _ p q hn hf hu
    · obtain ⟨s, hs, hsn, e1, e2⟩ := hS c t hn hf
      have hk := hpq s (hs.trans (Fin.val_castSucc t).symm) hsn
      obtain rfl : p = _ := hk.1.trans e1
      obtain rfl : q = _ := hk.2.trans e2
      exact step_next c _ _ _ _ _ _ _ _ _ _ _ _ _ _ _ _ _ hn hf hu
  · refine ⟨p, q, fun s hs hsn => absurd ?_ hn, ?_⟩
    · obtain rfl : s = t := Fin.ext (Nat.succ.inj hs)
      exact hsn
    · rw [show made m hO c t = k0_pay4 from if_neg hn]
      exact step_unused c _ _ _ _ _ _ _ _ _ _ _ _ _ _ _ p q hn ((unused_iff _ _).mpr hn)

/-- The pipeline's row for the body is the body at the point. -/
theorem defs₀_row (hO : Ok m) (t : Fin (cfgM m hO).N) :
    defs₀ (F := F) .tc (cfgM m hO).body ((cfgM m hO).bodyArgs t ((cfgM m hO).slots t)) = bodyAt m hO t := by
  unfold defs₀; rw [Defs.onTc_tc]

/-- What the run asks of the body, at every point. -/
theorem body_obligation (hO : Ok m) (hS : Steady m hO) (c : Dev nD) :
    BodyObligation (dats (F := F) m hO 0 c) (defs₀ (F := F)) Variants.none () Set.univ := fun t => by
  rw [bigSep_W0, bigSep_W0, defs₀_row m hO]
  refine triple_restated (sound_body m hO hS c t) rfl .rfl fun _ => ?_
  unfold bodyPost
  rw [never_idle]

/-- The kept buffers at any contents hold what nothing has asked of them yet. -/
theorem starts (hO : Ok m) (c : Dev nD) : iprop(Pipeline.ΦA spec0 c ∗ Pipeline.ΦT pre0 (tbl m) c) ⊢ (dats m hO 0 c).Φ 0 := by
  rw [show (dats m hO 0 c).Φ 0 = between m hO c 0 from rfl, scoped_eq]
  unfold between
  iintro ⟨⟨⟨⟨%p, HS0⟩, ⟨%q, HS1⟩⟩, Hg⟩, HT⟩
  isplitl [HS0 HS1]
  · iexists p; iexists q
    isplitr; · ipureintro; exact fun s hs => absurd hs (Nat.succ_ne_zero _)
    isplitl [HS0]; · iexact HS0
    iexact HS1
  isplitl [Hg]; · iexact Hg
  iexact HT

/-- After the last point the kept buffers are given back. -/
theorem ends (hO : Ok m) (c : Dev nD) : (dats m hO 0 c).Φ (Fin.last (cfgM m hO).N) ⊢ Pipeline.ΦA spec0 c := by
  rw [show (dats m hO 0 c).Φ (Fin.last (cfgM m hO).N) = between m hO c (Fin.last _) from rfl, scoped_eq]
  unfold between
  iintro ⟨⟨%p, %q, %hpq, HS0, HS1⟩, Hg, HT⟩
  isplitl [HS0 HS1]
  · isplitl [HS0]; · iexists p; iexact HS0
    iexists q; iexact HS1
  iexact Hg

set_option backward.isDefEq.respectTransparency.types false in
/-- The whole run: every array ends as the data says, every other buffer as the call found it, every counter at zero. -/
theorem run_main (hO : Ok m) (hS : Steady m hO) : θ_run defs (onTc (τ := τ) (main (F := F))) (s₀ m ρ)
    (fun r => Pipeline.FramePost (Pipeline.pin pcfgs fun _ => adm m hO) (dats m hO) 0 (V m) r ∧ r.2.sem = fun _ => 0) :=
  Pipeline.θ_run_frameP_track (Q' := _) pcfgs (fun _ => adm m hO) (dats m hO) (0 : Fin 1) launch0 defs₀ Variants.none m ρ main
    (hbody := fun c => (body_obligation m hO hS c).loose) (hshare := fun c => (dats m hO 0 c).share_full fun _ => rfl)
    (howed := fun _ _ => rfl) (V := V m) (hmain := hmain m Variants.none) (hA := A_eq m hO) (hpf := V_pre m)
    (hin := starts m hO) (hout := ends m hO) (hQ' := fun _ h => h)

end Cert.MoeUpIdeal.Blocks

end
-- ==== Proof.MoeTables.lean ====
/- The routed up projections: what the three tables hold, and the conditions the run asks of them. -/
module

public import proofs.«01_k».proof.Proof.MoeRun
public import proofs.«01_k».proof.Pre_routed
public import Idealize.ShloMosaic.Lib.Routing.OpsSearch
public import Idealize.ShloMosaic.Lib.Pipeline.Value
public import Idealize.ShloMosaic.Lib.WordCmp
public import Idealize.ShloMosaic.Lib.Affine

@[expose] public section

set_option maxRecDepth 16384

noncomputable section

namespace Cert.MoeUpIdeal.Blocks

open Idealize.ShloMosaic Idealize.ShloMosaic.TcCoe Idealize.ShloMosaic.Tactic Idealize.SL.Sem
open Cert.MoeUpIdeal Cert.MoeUpIdeal.Gen

/-- The index of a vector's entry. -/
abbrev at25 (i : Fin 25) : S25.Idx := ValueIdx.ix1 i
abbrev at1 : S1.Idx := ValueIdx.ix1 (0 : Fin 1)

/-- The tables a caller may give: every tile's expert is one of the eight, and between one and all of the tiles are in use. -/
structure Routed (te : IVec S25 32) (na : IVec S1 32) : Prop where
  expert : ∀ i : Fin 25, (te (at25 i)).toNat < 8
  pos : 1 ≤ (na at1).toNat
  le : (na at1).toNat ≤ 25

theorem word_range (x : BitVec 32) (a b : BitVec 32) (ha : a.toNat < 100) (hb : b.toNat < 100)
    (h1 : a.toInt ≤ x.toInt) (h2 : x.toInt ≤ b.toInt) : a.toNat ≤ x.toNat ∧ x.toNat ≤ b.toNat := by
  rw [BitVec.toInt_eq_toNat_cond] at h1 h2
  rw [BitVec.toInt_eq_toNat_cond] at h1 h2
  have := x.isLt
  split at h1 <;> split at h1 <;> split at h2 <;> omega

theorem bits_both : ∀ a b : BitVec 1, a &&& b = 1#1 → a = 1#1 ∧ b = 1#1 := by decide
theorem one_of (p : Prop) [Decidable p] (h : BitVec.ofBool (decide p) = 1#1) : p := (WordCmp.ofBool_decide_eq_one_iff p).mp h

section Pre
variable {F : FTy → Type} [FloatOps F] [Cert.Pre_routed.Facts]

/-- The stated precondition says so. -/
theorem routed_of_pre {x0 : FVec F Cert.Pre_routed.S25600x2048 .f32} {x1 x2 : FVec F Cert.Pre_routed.S2x8x2048x2816 .f32} {te : IVec S25 32}
    {na : IVec S1 32} (h : Cert.Pre_routed.fn x0 x1 x2 te na = fun _ => 1#1) : Routed te na := by
  have hi : ∀ i : Fin 25, (0 ≤ (te (at25 i)).toInt ∧ (te (at25 i)).toInt < 8) ∧ (1 ≤ (na at1).toInt ∧ (na at1).toInt ≤ 25) := fun i => by
    have e := congrFun h (at25 i)
    obtain ⟨e1, e2⟩ := bits_both _ _ e
    obtain ⟨a, b⟩ := bits_both _ _ e1
    rw [broadcastInDim_apply _ _ _ _ at1 (fun a => by match a with | ⟨0, _⟩ => rfl)] at e2
    obtain ⟨p, q⟩ := bits_both _ _ e2
    exact ⟨⟨one_of _ a, one_of _ b⟩, one_of _ p, one_of _ q⟩
  refine ⟨fun i => ?_, ?_, ?_⟩
  · have := (word_range (te (at25 i)) 0#32 7#32 (by decide) (by decide) (hi i).1.1 (by have := (hi i).1.2; show _ ≤ (7 : Int); omega)).2
    exact Nat.lt_succ_of_le this
  · exact (word_range (na at1) 1#32 25#32 (by decide) (by decide) (hi 0).2.1 (hi 0).2.2).1
  · exact (word_range (na at1) 1#32 25#32 (by decide) (by decide) (hi 0).2.1 (hi 0).2.2).2

end Pre

/-! ## Words -/

/-- The last tile in use, as a word. -/
theorem last_word (na : BitVec 32) (h1 : 1 ≤ na.toNat) (h2 : na.toNat ≤ 25) : na - 1#32 = BitVec.ofNat 32 (na.toNat - 1) := by
  apply BitVec.eq_of_toNat_eq
  have e : (BitVec.ofNat 32 (na.toNat - 1)).toNat = na.toNat - 1 := by rw [BitVec.toNat_ofNat]; omega
  rw [e, BitVec.toNat_sub]
  show (2 ^ 32 - 1 + na.toNat) % 2 ^ 32 = _
  omega

/-- The smaller of two small words. -/
theorem min_word (a b : ℕ) (ha : a < 100) (hb : b < 100) : IntOp.minsi (BitVec.ofNat 32 a) (BitVec.ofNat 32 b) = BitVec.ofNat 32 (min a b) := by
  have hs : (BitVec.ofNat 32 a).slt (BitVec.ofNat 32 b) = decide (a < b) := by
    show decide ((BitVec.ofNat 32 a).toInt < (BitVec.ofNat 32 b).toInt) = _
    rw [WordCmp.toInt_ofNat_of_lt (by omega), WordCmp.toInt_ofNat_of_lt (by omega)]
    simp
  show (if (BitVec.ofNat 32 a).slt (BitVec.ofNat 32 b) then _ else _) = _
  rw [hs]
  by_cases h : a < b
  · rw [if_pos (by simpa using h), Nat.min_eq_left (by omega)]
  · rw [if_neg (by simpa using h), Nat.min_eq_right (by omega)]

/-- A small number's word holds it. -/
theorem toNat_word (a : ℕ) (ha : a < 4096) : (BitVec.ofNat 32 a).toNat = a := by rw [BitVec.toNat_ofNat]; omega

/-- A small number's word is not negative. -/
theorem not_neg_word (a : ℕ) (ha : a < 100) : IntOp.cmpi .slt (BitVec.ofNat 32 a) 0#32 = 0#1 := by
  rw [WordCmp.cmpi_slt_eq, WordCmp.ofBool_decide_eq_zero_iff, WordCmp.toInt_ofNat_of_lt (by omega)]
  show ¬ ((a : Int) < 0)
  omega

/-- The tile whose blocks a point reads: its own, or the last one in use. -/
def tileOf (na : IVec S1 32) (i : ℕ) : ℕ := min i ((na at1).toNat - 1)
theorem tileOf_lt (na : IVec S1 32) (i : ℕ) (hi : i < 25) : tileOf na i < 25 := by unfold tileOf; omega

section Tables
variable {F : FTy → Type} [FloatOps F]
variable (m : (ℓ : Loc nD τ sig) → Buf (Elt F) ℓ) (c : Dev nD)

abbrev teOf : IVec S25 32 := m ((c : Thread nD τ).loc main_arg3)
abbrev naOf : IVec S1 32 := m ((c : Thread nD τ).loc main_arg4)

/-- The table of experts: a tile's expert, for a tile past the last one in use the last one's. -/
theorem entry_experts (hR : Routed (teOf m c) (naOf m c)) (i : Fin 25) :
    (V m c main_v17 : IVec S25 32) (at25 i) = teOf m c (at25 ⟨tileOf (naOf m c) i.val, tileOf_lt _ _ i.isLt⟩) := by
  have h : (V m c main_v17 : IVec S25 32) = Host.gather gather_S25_S25x1_S25_n_0_n_n_0_1_1 (teOf m c) (broadcastInDim S25x1 ![0] bcast_S25_S25x1_0
      (select (cmpi .slt (minsi (iotaInDim S25 32 0) (broadcastInDim S25 ![] bcast_S_S25 (subi (shapeCast S_ (naOf m c) shapeCasts_S1_S_) (constantI S_ 32 1#32))))
          (broadcastInDim S25 ![] bcast_S_S25 (constantI S_ 32 0#32)))
        (addi (minsi (iotaInDim S25 32 0) (broadcastInDim S25 ![] bcast_S_S25 (subi (shapeCast S_ (naOf m c) shapeCasts_S1_S_) (constantI S_ 32 1#32))))
          (broadcastInDim S25 ![] bcast_S_S25 (constantI S_ 32 25#32)))
        (minsi (iotaInDim S25 32 0) (broadcastInDim S25 ![] bcast_S_S25 (subi (shapeCast S_ (naOf m c) shapeCasts_S1_S_) (constantI S_ 32 1#32)))))) := by
    simp only [V, hostOps0]; after_results; rfl
  rw [h]
  have hlt := tileOf_lt (naOf m c) i.val i.isLt
  have hm : minsi (iotaInDim S25 32 0) (broadcastInDim S25 ![] bcast_S_S25 (subi (shapeCast S_ (naOf m c) shapeCasts_S1_S_) (constantI S_ 32 1#32))) (at25 i)
      = BitVec.ofNat 32 (tileOf (naOf m c) i.val) := by
    refine Eq.trans ?_ (min_word i.val ((naOf m c at1).toNat - 1) (by omega) (by have := hR.le; omega))
    refine congrArg (IntOp.minsi (BitVec.ofNat 32 i.val)) ?_
    refine Eq.trans ?_ (last_word _ hR.pos hR.le)
    refine congrArg (fun j => naOf m c j - 1#32) ?_
    exact funext fun a => by match a with | ⟨0, _⟩ => exact Subsingleton.elim (α := Fin 1) _ _
  refine Idealize.ShloMosaic.Routing.take_ap _ rfl rfl rfl rfl (teOf m c) _ i hlt (by omega) ?_
  refine (broadcastInDim_apply _ _ _ _ (at25 i) (fun a => by match a with | ⟨0, _⟩ => rfl)).trans ?_
  rw [WordCmp.select_at, WordCmp.cmpi_at, hm]
  rw [show broadcastInDim S25 ![] bcast_S_S25 (constantI S_ 32 0#32) (at25 i) = 0#32 from rfl, not_neg_word _ (by omega)]
  rfl

/-- The table of firsts at a tile after the first: the marks of a change of expert. -/
theorem entry_firsts (i : Fin 24) : (V m c main_v5 : IVec S25 32) (at25 ⟨i.val + 1, by omega⟩)
    = (IntOp.cmpi .ne (teOf m c (at25 ⟨i.val + 1, by omega⟩)) (teOf m c (at25 ⟨i.val, by omega⟩))).setWidth 32 := by
  have h : (V m c main_v5 : IVec S25 32) = concatenate S25 0 [⟨S1, broadcastInDim S1 ![] bcast_S_S1 (constantI S_ 32 1#32)⟩,
      ⟨S24, extui 32 (cmpi .ne (extractStridedSlice S24 ![1] (teOf m c) slices_S25_S24_1) (extractStridedSlice S24 ![0] (teOf m c) slices_S25_S24_0)) natLt_1_32⟩]
      concatenates_S1_S24_S25_d0 := by
    simp only [V, hostOps0]; after_results
  rw [h, concatenate_pair_apply_right (t := S25) 0 _ _ concatenates_S1_S24_S25_d0 _ rfl rfl (ValueIdx.ix1 i : S24.Idx)
    (fun b hb => by match b with | ⟨0, _⟩ => exact absurd rfl hb) rfl]
  refine congrArg₂ (fun a b => (IntOp.cmpi .ne (teOf m c a) (teOf m c b)).setWidth 32) ?_ ?_
  · exact funext fun a => by match a with | ⟨0, _⟩ => exact Fin.ext (Nat.add_comm _ _)
  · exact funext fun a => by match a with | ⟨0, _⟩ => exact Fin.ext (Nat.zero_add _)

/-- The first tile is its expert's first. -/
theorem entry_first : (V m c main_v5 : IVec S25 32) (at25 0) = 1#32 := by
  have h : (V m c main_v5 : IVec S25 32) = concatenate S25 0 [⟨S1, broadcastInDim S1 ![] bcast_S_S1 (constantI S_ 32 1#32)⟩,
      ⟨S24, extui 32 (cmpi .ne (extractStridedSlice S24 ![1] (teOf m c) slices_S25_S24_1) (extractStridedSlice S24 ![0] (teOf m c) slices_S25_S24_0)) natLt_1_32⟩]
      concatenates_S1_S24_S25_d0 := by
    simp only [V, hostOps0]; after_results
  rw [h, concatenate_pair_apply_left (t := S25) 0 _ _ concatenates_S1_S24_S25_d0 _ rfl at1 (fun b => by match b with | ⟨0, _⟩ => rfl)]
  rfl

theorem coords_eq : ∀ t : Fin grid0.N, (grid0.coords t 0).val = t.val / 25 ∧ (grid0.coords t 1).val = t.val % 25 := by decide +kernel
theorem coord0_lt (i : grid0.Coords) : (i 0).val < 11 := (i 0).isLt
theorem coord1_lt (i : grid0.Coords) : (i 1).val < 25 := (i 1).isLt

/-- The tile a point's blocks belong to, and its expert. -/
def tileAt (i : grid0.Coords) : Fin 25 := ⟨tileOf (naOf m 0) (i 1).val, tileOf_lt _ _ (coord1_lt i)⟩
def expertAt (i : grid0.Coords) : ℕ := (teOf m 0 (at25 (tileAt m i))).toNat

/-- The smaller of a tile and the last one before a count, as the index map computes it. -/
def lastOf (w : BitVec 32) (i : ℕ) : ℕ := (IntOp.minsi (BitVec.ofNat 32 i) (w - 1#32)).toNat
abbrev wordOf (f : IVec S1 32) : BitVec 32 := f at1
theorem map0_word (T : pre0.Contents (Elt F)) (i : grid0.Coords) : cc0_transform_0 inb_S1_S1_0 numel1_S1 T i = ![lastOf (wordOf (T 2)) (i 1).val, 0] := by
  have h : ∀ f : IVec S1 32, f ((Rect.unit (s := S1) ![0] S1.size inb_S1_S1_0).emb (Shape.Idx.first (numel1_S1.symm ▸ Nat.one_pos))) = wordOf f := fun f =>
    congrArg f (funext fun a => by match a with | ⟨0, _⟩ => exact Subsingleton.elim (α := Fin 1) _ _)
  exact congrArg (fun w => ![lastOf w (i 1).val, 0]) (h (T 2))

/-- The row block of the activations at a point. -/
theorem map0 (hR : Routed (teOf m 0) (naOf m 0)) (i : grid0.Coords) : cc0_transform_0 inb_S1_S1_0 numel1_S1 (tbl m) i = ![(tileAt m i).val, 0] := by
  have h1 := coord1_lt i
  have e : lastOf (naOf m 0 at1) (i 1).val = (tileAt m i).val := by
    have e := (congrArg (IntOp.minsi (BitVec.ofNat 32 (i 1).val)) (last_word _ hR.pos hR.le)).trans
      (min_word (i 1).val ((naOf m 0 at1).toNat - 1) (by omega) (by have := hR.le; omega))
    exact (congrArg BitVec.toNat e).trans (toNat_word _ (by have := (tileAt m i).isLt; exact Nat.lt_trans this (by decide)))
  have ew : wordOf (tbl m 2) = naOf m 0 at1 := congrFun (V_arg m 0 main_arg4 (by simp)) at1
  rw [map0_word, ew, e]

/-- The experts' table at a point. -/
theorem map_expert (hR : Routed (teOf m 0) (naOf m 0)) (i : grid0.Coords) (j : S25.Idx) (hj : (j 0).val = (i 1).val) :
    ((V m 0 main_v17 : IVec S25 32) j).toNat = expertAt m i := by
  have e : j = at25 ⟨(i 1).val, coord1_lt i⟩ := funext fun a => by match a with | ⟨0, _⟩ => exact Fin.ext hj
  rw [e, entry_experts m 0 hR]
  rfl

theorem at_index (n : ℕ) (hn : n < 25) (a : ℕ) (ha : a < 1) : (Scalar.indexCast (BitVec.ofNat 32 n)).toNat + 1 * a = n := by
  have : (BitVec.ofNat 32 n).toNat = n := toNat_word n (by omega)
  show (BitVec.ofNat 32 n).toNat + 1 * a = n
  omega

/-- The weights' blocks at a point. -/
theorem map1 (hR : Routed (teOf m 0) (naOf m 0)) (i : grid0.Coords) :
    cc0_transform_1 k0_off1_inb numel1_S1 (tbl m) i = ![0, expertAt m i, 0, (i 0).val] := by
  have h0 := coord0_lt i
  refine Eq.trans (b := ![0, expertAt m i, 0, (BitVec.ofNat 32 (i 0).val).toNat]) ?_ (congrArg (fun a => ![0, expertAt m i, 0, a]) (toNat_word _ (by omega)))
  refine congrArg (fun a => ![0, a, 0, (BitVec.ofNat 32 (i 0).val).toNat]) (map_expert m hR i _ ?_)
  exact at_index _ (coord1_lt i) _ (Nat.zero_lt_one)
theorem map2 (hR : Routed (teOf m 0) (naOf m 0)) (i : grid0.Coords) :
    cc0_transform_2 k0_off1_inb numel1_S1 (tbl m) i = ![0, expertAt m i, 0, (i 0).val] := map1 m hR i

/-- Every block is inside its array. -/
theorem ok_of_routed (hR : Routed (teOf m 0) (naOf m 0)) : Ok m := by
  refine ⟨fun i => ?_, fun i => ?_, fun i => ?_⟩
  · have h : ∀ a, (cc0_transform_0 inb_S1_S1_0 numel1_S1 (tbl m) i a + 1) * S1024x2048.size a ≤ S25600x2048.size a := by
      rw [map0 m hR i]
      intro a
      have := (tileAt m i).isLt
      match a with
      | ⟨0, _⟩ => show ((tileAt m i).val + 1) * 1024 ≤ 25600; omega
      | ⟨1, _⟩ => show (0 + 1) * 2048 ≤ 2048; omega
    exact ⟨h, .inr (Affine.block_words_dvd (of_decide_eq_true rfl) (by decide))⟩
  · have h : ∀ a, (cc0_transform_1 k0_off1_inb numel1_S1 (tbl m) i a + 1) * S1x1x2048x256.size a ≤ S2x8x2048x2816.size a := by
      rw [map1 m hR i]
      intro a
      have he : expertAt m i < 8 := hR.expert _
      have h0 := coord0_lt i
      match a with
      | ⟨0, _⟩ => show (0 + 1) * 1 ≤ 2; omega
      | ⟨1, _⟩ => show (expertAt m i + 1) * 1 ≤ 8; omega
      | ⟨2, _⟩ => show (0 + 1) * 2048 ≤ 2048; omega
      | ⟨3, _⟩ => show ((i 0).val + 1) * 256 ≤ 2816; omega
    exact ⟨h, .inl rfl⟩
  · have h : ∀ a, (cc0_transform_2 k0_off1_inb numel1_S1 (tbl m) i a + 1) * S1x1x2048x256.size a ≤ S2x8x2048x2816.size a := by
      rw [map2 m hR i]
      intro a
      have he : expertAt m i < 8 := hR.expert _
      have h0 := coord0_lt i
      match a with
      | ⟨0, _⟩ => show (0 + 1) * 1 ≤ 2; omega
      | ⟨1, _⟩ => show (expertAt m i + 1) * 1 ≤ 8; omega
      | ⟨2, _⟩ => show (0 + 1) * 2048 ≤ 2048; omega
      | ⟨3, _⟩ => show ((i 0).val + 1) * 256 ≤ 2816; omega
    exact ⟨h, .inl rfl⟩

/-! ## The points in use, and the blocks -/

theorem countWord_eq (f : Words (F := F) c count) : countWord c f = (f : IVec S1 32) at1 :=
  congrArg (f : IVec S1 32) (funext fun a => by match a with | ⟨0, _⟩ => exact Subsingleton.elim (α := Fin 1) _ _)
theorem firstWord_eq (i : grid0.Coords) (f : Words (F := F) c firsts) : firstWord c i f = (f : IVec S25 32) (at25 ⟨(i 1).val, coord1_lt i⟩) :=
  congrArg (f : IVec S25 32) (funext fun a => by match a with | ⟨0, _⟩ => exact Fin.ext (at_index _ (coord1_lt i) _ Nat.zero_lt_one))

/-- A mark widened and compared with zero is the mark. -/
theorem mark_eq : ∀ b : BitVec 1, Scalar.cmpi .ne (Scalar.extui b : BitVec 32) 0#32 = 1#1 ↔ b = 1#1 := by decide

/-- A point is in use when its tile is before the count. -/
theorem inUse_iff (hR : Routed (teOf m 0) (naOf m 0)) (i : grid0.Coords) : InUse c i (tbl m 2) ↔ (i 1).val < (naOf m 0 at1).toNat := by
  have h1 := coord1_lt i
  have hle := hR.le
  have e : countWord c (tbl m 2) = naOf m 0 at1 := (countWord_eq c _).trans (congrFun (V_arg m 0 main_arg4 (by simp)) at1)
  have hn : naOf m 0 at1 = BitVec.ofNat 32 (naOf m 0 at1).toNat := BitVec.eq_of_toNat_eq (by rw [BitVec.toNat_ofNat]; omega)
  unfold InUse k0_cond1
  rw [e]
  refine (mark_eq _).trans ?_
  show IntOp.cmpi .slt (BitVec.ofNat 32 (i 1).val) (naOf m 0 at1) = 1#1 ↔ _
  generalize naOf m 0 at1 = w at *
  rw [hn, WordCmp.cmpi_slt_ofNat_eq_one_iff (by omega) (by omega), ← hn]

/-- A tile that is not marked as a first has a tile of the same expert before it. -/
theorem not_first (i : grid0.Coords) (h : ¬ IsFirst c i (tbl m 1)) :
    ∃ k : Fin 24, (i 1).val = k.val + 1 ∧ teOf m 0 (at25 ⟨k.val + 1, by omega⟩) = teOf m 0 (at25 ⟨k.val, by omega⟩) := by
  have e : firstWord c i (tbl m 1) = (V m 0 main_v5 : IVec S25 32) (at25 ⟨(i 1).val, coord1_lt i⟩) := firstWord_eq c i _
  unfold IsFirst at h
  rw [mark_eq, e] at h
  by_cases h0 : (i 1).val = 0
  · refine absurd ?_ h
    rw [show (at25 ⟨(i 1).val, coord1_lt i⟩) = at25 0 from congrArg at25 (Fin.ext h0), entry_first]
    decide
  · have hk := coord1_lt i
    refine ⟨⟨(i 1).val - 1, by omega⟩, by show _ = _ - 1 + 1; omega, ?_⟩
    by_contra hne
    refine h ?_
    rw [show (at25 ⟨(i 1).val, coord1_lt i⟩) = at25 ⟨(i 1).val - 1 + 1, by omega⟩ from congrArg at25 (Fin.ext (Nat.succ_pred h0).symm),
      entry_firsts m 0 ⟨(i 1).val - 1, by omega⟩]
    rw [show IntOp.cmpi .ne (teOf m 0 (at25 ⟨(i 1).val - 1 + 1, by omega⟩)) (teOf m 0 (at25 ⟨(i 1).val - 1, by omega⟩)) = 1#1 from by
      rw [WordCmp.cmpi_ne_eq, WordCmp.ofBool_decide_eq_one_iff]; exact hne]
    decide

/-- Row `r` of a tile, column `l` of a column block. -/
def row (T : Fin 25) (r : Fin 1024) : Fin 25600 := ⟨1024 * T.val + r.val, by omega⟩
def col (i : grid0.Coords) (l : Fin 256) : Fin 2816 := ⟨256 * (i 0).val + l.val, by have := coord0_lt i; omega⟩
/-- A point's expert. -/
def expert (hR : Routed (teOf m 0) (naOf m 0)) (i : grid0.Coords) : Fin 8 := ⟨expertAt m i, hR.expert _⟩

/-- The activations' block under an index map that names a tile. -/
theorem read0 (a : (pcfg0 (F := F)).Adm) (A : S25600x2048.Idx → Elt F .bf16) (t : Fin (cfg0 a).N) (T : Fin 25)
    (h : cc0_transform_0 inb_S1_S1_0 numel1_S1 a.1 (grid0.coords t) = ![T.val, 0]) (r : Fin 1024) (k : Fin 2048) :
    ((((cfg0 a).win 0).blk t).view.read (Elt F) A : Vec F S1024x2048 .bf16) (ValueIdx.ix2 r k) = A (ValueIdx.ix2 (row T r) k) := by
  have e0 := congrFun h 0
  have e1 := congrFun h 1
  refine congrArg A (funext fun b => Fin.ext ?_)
  generalize hg : cc0_transform_0 inb_S1_S1_0 numel1_S1 a.1 (grid0.coords t) = g at e0 e1
  match b with
  | ⟨0, _⟩ =>
    refine Eq.trans (b := g 0 * 1024 + 1 * r.val) (by rw [← hg]; rfl) ?_
    rw [e0]; show T.val * 1024 + 1 * r.val = 1024 * T.val + r.val; omega
  | ⟨1, _⟩ =>
    refine Eq.trans (b := g 1 * 2048 + 1 * k.val) (by rw [← hg]; rfl) ?_
    rw [e1]; show 0 * 2048 + 1 * k.val = k.val; omega

/-- The activations' block at a point. -/
theorem blk0 (hR : Routed (teOf m 0) (naOf m 0)) (hO : Ok m) (t : Fin (cfgM m hO).N) (r : Fin 1024) (k : Fin 2048) :
    (iblk m hO c 0 t : Vec F S1024x2048 .bf16) (ValueIdx.ix2 r k) = (V m c main_v18 : Vec F S25600x2048 .bf16) (ValueIdx.ix2 (row (tileAt m (grid0.coords t)) r) k) :=
  read0 (adm m hO) (V m c main_v18) t _ (map0 m hR (grid0.coords t)) r k

theorem eq_ix4 (y : S1x1x2048x256.Idx) : y = ValueIdx.ix4 (0 : Fin 1) (0 : Fin 1) (y 2) (y 3) :=
  funext fun a => by
    match a with
    | ⟨0, _⟩ => exact Subsingleton.elim (α := Fin 1) _ _
    | ⟨1, _⟩ => exact Subsingleton.elim (α := Fin 1) _ _
    | ⟨2, _⟩ => rfl
    | ⟨3, _⟩ => rfl

/-- The first weight's block at a point. -/
theorem blk1 (hR : Routed (teOf m 0) (naOf m 0)) (hO : Ok m) (t : Fin (cfgM m hO).N) (k : Fin 2048) (l : Fin 256) :
    (iblk m hO c 1 t : Vec F S1x1x2048x256 .f32) (ValueIdx.ix4 0 0 k l)
      = (V m c main_arg1 : Vec F S2x8x2048x2816 .f32) (ValueIdx.ix4 0 (expert m hR (grid0.coords t)) k (col (grid0.coords t) l)) := by
  have e := map1 m hR (grid0.coords t)
  have e0 := congrFun e 0
  have e1 := congrFun e 1
  have e2 := congrFun e 2
  have e3 := congrFun e 3
  refine congrArg (V m c main_arg1 : Vec F S2x8x2048x2816 .f32) (funext fun a => Fin.ext ?_)
  match a with
  | ⟨0, _⟩ =>
    show cc0_transform_1 k0_off1_inb numel1_S1 (tbl m) (grid0.coords t) 0 * 1 + 1 * 0 = 0
    rw [e0]; rfl
  | ⟨1, _⟩ =>
    show cc0_transform_1 k0_off1_inb numel1_S1 (tbl m) (grid0.coords t) 1 * 1 + 1 * 0 = expertAt m (grid0.coords t)
    rw [e1]; show expertAt m (grid0.coords t) * 1 + 1 * 0 = _; omega
  | ⟨2, _⟩ =>
    show cc0_transform_1 k0_off1_inb numel1_S1 (tbl m) (grid0.coords t) 2 * 2048 + 1 * k.val = k.val
    rw [e2]; show 0 * 2048 + 1 * k.val = _; omega
  | ⟨3, _⟩ =>
    show cc0_transform_1 k0_off1_inb numel1_S1 (tbl m) (grid0.coords t) 3 * 256 + 1 * l.val = 256 * (grid0.coords t 0).val + l.val
    rw [e3]; show (grid0.coords t 0).val * 256 + 1 * l.val = _; omega

/-- The second weight's block at a point. -/
theorem blk2 (hR : Routed (teOf m 0) (naOf m 0)) (hO : Ok m) (t : Fin (cfgM m hO).N) (k : Fin 2048) (l : Fin 256) :
    (iblk m hO c 2 t : Vec F S1x1x2048x256 .f32) (ValueIdx.ix4 0 0 k l)
      = (V m c main_arg2 : Vec F S2x8x2048x2816 .f32) (ValueIdx.ix4 0 (expert m hR (grid0.coords t)) k (col (grid0.coords t) l)) := by
  have e := map2 m hR (grid0.coords t)
  have e0 := congrFun e 0
  have e1 := congrFun e 1
  have e2 := congrFun e 2
  have e3 := congrFun e 3
  refine congrArg (V m c main_arg2 : Vec F S2x8x2048x2816 .f32) (funext fun a => Fin.ext ?_)
  match a with
  | ⟨0, _⟩ =>
    show cc0_transform_2 k0_off1_inb numel1_S1 (tbl m) (grid0.coords t) 0 * 1 + 1 * 0 = 0
    rw [e0]; rfl
  | ⟨1, _⟩ =>
    show cc0_transform_2 k0_off1_inb numel1_S1 (tbl m) (grid0.coords t) 1 * 1 + 1 * 0 = expertAt m (grid0.coords t)
    rw [e1]; show expertAt m (grid0.coords t) * 1 + 1 * 0 = _; omega
  | ⟨2, _⟩ =>
    show cc0_transform_2 k0_off1_inb numel1_S1 (tbl m) (grid0.coords t) 2 * 2048 + 1 * k.val = k.val
    rw [e2]; show 0 * 2048 + 1 * k.val = _; omega
  | ⟨3, _⟩ =>
    show cc0_transform_2 k0_off1_inb numel1_S1 (tbl m) (grid0.coords t) 3 * 256 + 1 * l.val = 256 * (grid0.coords t 0).val + l.val
    rw [e3]; show (grid0.coords t 0).val * 256 + 1 * l.val = _; omega

/-- Points of one column block and one expert have the same weight blocks. -/
theorem same1 (hR : Routed (teOf m 0) (naOf m 0)) (hO : Ok m) (s t : Fin (cfgM m hO).N) (h : (grid0.coords s 0).val = (grid0.coords t 0).val)
    (he : expertAt m (grid0.coords s) = expertAt m (grid0.coords t)) :
    (iblk m hO c 1 s : Vec F S1x1x2048x256 .f32) = iblk m hO c 1 t := by
  refine funext fun (y : S1x1x2048x256.Idx) => ?_
  rw [eq_ix4 y]
  refine (blk1 m c hR hO s _ _).trans (Eq.trans ?_ (blk1 m c hR hO t _ _).symm)
  rw [show expert m hR (grid0.coords s) = expert m hR (grid0.coords t) from Fin.ext he,
    show col (grid0.coords s) (y 3) = col (grid0.coords t) (y 3) from Fin.ext (by show 256 * (grid0.coords s 0).val + _ = 256 * (grid0.coords t 0).val + _; rw [h])]
theorem same2 (hR : Routed (teOf m 0) (naOf m 0)) (hO : Ok m) (s t : Fin (cfgM m hO).N) (h : (grid0.coords s 0).val = (grid0.coords t 0).val)
    (he : expertAt m (grid0.coords s) = expertAt m (grid0.coords t)) :
    (iblk m hO c 2 s : Vec F S1x1x2048x256 .f32) = iblk m hO c 2 t := by
  refine funext fun (y : S1x1x2048x256.Idx) => ?_
  rw [eq_ix4 y]
  refine (blk2 m c hR hO s _ _).trans (Eq.trans ?_ (blk2 m c hR hO t _ _).symm)
  rw [show expert m hR (grid0.coords s) = expert m hR (grid0.coords t) from Fin.ext he,
    show col (grid0.coords s) (y 3) = col (grid0.coords t) (y 3) from Fin.ext (by show 256 * (grid0.coords s 0).val + _ = 256 * (grid0.coords t 0).val + _; rw [h])]

/-- A point's expert, when its tile is in use, is the one the caller names for the tile. -/
theorem tileAt_inUse (i : grid0.Coords) (h : (i 1).val < (naOf m 0 at1).toNat) : (tileAt m i).val = (i 1).val := by
  show min (i 1).val ((naOf m 0 at1).toNat - 1) = _; omega

/-- The kept blocks stay right. -/
theorem steady_of_routed (hR : Routed (teOf m 0) (naOf m 0)) (hO : Ok m) : Steady m hO := by
  intro c t hu hf
  obtain ⟨k, hk, he⟩ := not_first m c _ hf
  rw [inUse_iff m c hR] at hu
  obtain ⟨c0, c1⟩ := coords_eq t
  have ht : t.val < 275 := (by decide : grid0.N = 275) ▸ t.isLt
  have hs : t.val - 1 < grid0.N := (by decide : grid0.N = 275) ▸ (by omega)
  obtain ⟨d0, d1⟩ := coords_eq ⟨t.val - 1, hs⟩
  have h0 : (grid0.coords ⟨t.val - 1, hs⟩ 0).val = (grid0.coords t 0).val := by rw [d0, c0]; show (t.val - 1) / 25 = _; omega
  have h1 : (grid0.coords ⟨t.val - 1, hs⟩ 1).val = k.val := by rw [d1]; show (t.val - 1) % 25 = _; omega
  have hus : (grid0.coords ⟨t.val - 1, hs⟩ 1).val < (naOf m 0 at1).toNat := by omega
  have hx : expertAt m (grid0.coords ⟨t.val - 1, hs⟩) = expertAt m (grid0.coords t) := by
    unfold expertAt
    rw [show tileAt m (grid0.coords ⟨t.val - 1, hs⟩) = ⟨k.val, by omega⟩ from Fin.ext ((tileAt_inUse m _ hus).trans h1),
      show tileAt m (grid0.coords t) = ⟨k.val + 1, by omega⟩ from Fin.ext ((tileAt_inUse m _ hu).trans hk), he]
  refine ⟨⟨t.val - 1, hs⟩, by show t.val - 1 + 1 = t.val; omega, (inUse_iff m c hR _).mpr hus, ?_, ?_⟩
  · exact congrArg k0_pay1 (same1 m c hR hO ⟨t.val - 1, hs⟩ t h0 hx)
  · exact congrArg k0_pay2 (same2 m c hR hO ⟨t.val - 1, hs⟩ t h0 hx)

end Tables

end Cert.MoeUpIdeal.Blocks
-- ==== Proof.MoeRef.lean ====
/- The routed up projections' reference, entry by entry. -/
module

public import proofs.«01_k».proof.Proof.Dense
public import proofs.«01_k».proof.Proof.MoeTables
public import proofs.«01_k».proof.Proof.Gen.RefMoeUpIdeal.Run
public import proofs.«01_k».proof.Proof.Gen.RefMoeUpIdeal.Read

@[expose] public section

set_option maxRecDepth 16384

noncomputable section

namespace Cert.Dense

open Idealize.ShloMosaic

/-- A pile of one plane, two axes deep, cast to its plane. -/
theorem plane4_apply {α : Type} {K N : ℕ} (x : (⟨4, ![1, 1, K, N]⟩ : Shape).Idx → α)
    (h : Shape.ShapeCasts ⟨4, ![1, 1, K, N]⟩ ⟨2, ![K, N]⟩) (k : Fin K) (l : Fin N) :
    shapeCast ⟨2, ![K, N]⟩ x h (ix2 k l) = x (ValueIdx.ix4 0 0 k l) := by
  refine shapeCast_apply _ _ _ (ValueIdx.ix4 0 0 k l) ?_
  rw [Shape.rowMajor_val_four, Shape.rowMajor_val_two]
  show ((0 * 1 + 0) * K + k.val) * N + l.val = k.val * N + l.val
  rw [Nat.zero_mul, Nat.zero_add]

/-- One expert's plane, sliced out of the first layer's. -/
theorem slice_plane4 {α : Type} {L E K N : ℕ} (o : ℕ) (x : (⟨4, ![L, E, K, N]⟩ : Shape).Idx → α)
    (hs : Shape.Slices ⟨4, ![L, E, K, N]⟩ ![0, o, 0, 0] ⟨4, ![1, 1, K, N]⟩) (h : Shape.ShapeCasts ⟨4, ![1, 1, K, N]⟩ ⟨2, ![K, N]⟩)
    (z : Fin L) (hz : z.val = 0) (e : Fin E) (he : e.val = o) (k : Fin K) (l : Fin N) :
    shapeCast ⟨2, ![K, N]⟩ (extractStridedSlice ⟨4, ![1, 1, K, N]⟩ ![0, o, 0, 0] x hs) h (ix2 k l) = x (ValueIdx.ix4 z e k l) := by
  refine (plane4_apply _ h k l).trans ?_
  unfold extractStridedSlice
  refine congrArg x (funext fun a => Fin.ext ?_)
  match a with
  | ⟨0, _⟩ => show 0 + 0 = z.val; omega
  | ⟨1, _⟩ => show o + 0 = e.val; omega
  | ⟨2, _⟩ => show 0 + k.val = k.val; omega
  | ⟨3, _⟩ => show 0 + l.val = l.val; omega

end Cert.Dense

namespace Cert.RefMoeUpIdeal.Blocks

open Idealize.ShloMosaic
open Cert.RefMoeUpIdeal Cert.RefMoeUpIdeal.Gen Cert.RefMoeUpIdeal.Read Cert.Dense

/-- The sums of one entry: a row of the activations with a column of an expert's weight. -/
def dotAt (h : S25600x2048.Idx → EReal) (w : S2x8x2048x2816.Idx → EReal) (e : Fin 8) (R : Fin 25600) (C : Fin 2816) : EReal :=
  dotv (fun k : Fin 2048 => h (ix2 R k)) (fun k => w (ValueIdx.ix4 0 e k C))

/-- What an expert makes of a row: the gated product of its two projections. -/
def gated (h : S25600x2048.Idx → EReal) (wg wu : S2x8x2048x2816.Idx → EReal) (R : Fin 25600) (C : Fin 2816) (e : Fin 8) : EReal :=
  dotAt h wg e R C * sigE (dotAt h wg e R C) * dotAt h wu e R C

/-- The tile a row belongs to. -/
def tile (R : Fin 25600) : Fin 25 := ⟨R.val / 1024, by omega⟩

variable (h : FVec Idealize.ShloMosaic.Ideal S25600x2048 .f32) (wg wu : FVec Idealize.ShloMosaic.Ideal S2x8x2048x2816 .f32)
  (te : IVec S25 32) (na : IVec S1 32) (R : Fin 25600) (C : Fin 2816)

/-- One of the reference's products, at an entry. -/
theorem product (w : FVec Idealize.ShloMosaic.Ideal S2x8x2048x2816 .f32) (o : ℕ) (hs : S2x8x2048x2816.Slices ![0, o, 0, 0] S1x1x2048x2816)
    (e : Fin 8) (he : e.val = o) :
    (Host.dotGeneral (F := Idealize.ShloMosaic.Ideal) dot_S25600x2048_S2048x2816_S25600x2816_1_0_0_1_n_n none h
      (shapeCast S2048x2816 (extractStridedSlice S1x1x2048x2816 ![0, o, 0, 0] w hs) shapeCasts_S1x1x2048x2816_S2048x2816) : S25600x2816.Idx → EReal) (ix2 R C)
      = dotAt h w e R C := by
  refine (host_dot_apply (φ₁ := .f32) (φ₂ := .f32) _ rfl none h _ R C).trans ?_
  exact dotv_congr (fun k => rfl) fun k => slice_plane4 o w hs shapeCasts_S1x1x2048x2816_S2048x2816 0 rfl e he k C

/-- The experts' numbers, row by row: a row's is its tile's. -/
theorem row_expert (j : S25600x1.Idx) (hj : (j 0).val = R.val) :
    val_main_v2 (F := Idealize.ShloMosaic.Ideal) te j = te (ValueIdx.ix1 (tile R)) := by
  refine (val_main_v2_apply te j).trans ((val_main_v1_apply te _).trans ((val_main_v0_apply te _).trans (congrArg te (funext fun a => ?_))))
  match a with
  | ⟨0, _⟩ =>
    refine Fin.ext ?_
    have h1 : (j 1).val < 1 := (j 1).isLt
    show ((j 0).val * 1 + (j 1).val) / 1024 = R.val / 1024
    omega

/-- The marks of the rows in use: a row's is its tile's. -/
theorem row_used : val_main_call16_v1 (F := Idealize.ShloMosaic.Ideal) na (ix2 R C)
    = IntOp.cmpi .slt (BitVec.ofNat 32 (R.val / 1024)) (na (ValueIdx.ix1 (0 : Fin 1))) := by
  refine (val_main_call16_v1_apply na _).trans ((val_main_v98_apply na _).trans ((val_main_v97_apply na _).trans ((val_main_v96_apply na _).trans ?_)))
  refine congrArg₂ (IntOp.cmpi .slt) ?_ ?_
  · refine congrArg (BitVec.ofNat 32) ?_
    show (R.val * 1 + 0) / 1024 = R.val / 1024
    omega
  · refine (val_main_v94_apply na _).trans ?_
    unfold val_main_v93
    refine shapeCast_apply _ _ _ (ValueIdx.ix1 (0 : Fin 1)) ?_
    exact (congrArg Fin.val (Subsingleton.elim (α := Fin 1) _ _))

/-- Expert 0's rows. -/
theorem mask0 : val_main_call1_v0 (F := Idealize.ShloMosaic.Ideal) te (ix2 R C) = IntOp.cmpi .eq (te (ValueIdx.ix1 (tile R))) 0#32 :=
  (val_main_call1_v0_apply te _).trans (congrArg (fun w => IntOp.cmpi .eq w 0#32) (row_expert te R _ rfl))
/-- Expert 0's result. -/
theorem made0 : (val_main_v13 (F := Idealize.ShloMosaic.Ideal) h wg wu : S25600x2816.Idx → EReal) (ix2 R C) = gated h wg wu R C 0 :=
  Eq.trans (by rfl) (congrArg₂ (fun g u : EReal => g * sigE g * u) (product h R C wg 0 slices_S2x8x2048x2816_S1x1x2048x2816_0_0_0_0 0 rfl)
    (product h R C wu 0 slices_S2x8x2048x2816_S1x1x2048x2816_0_0_0_0 0 rfl))
/-- Expert 1's rows. -/
theorem mask1 : val_main_call3_v0 (F := Idealize.ShloMosaic.Ideal) te (ix2 R C) = IntOp.cmpi .eq (te (ValueIdx.ix1 (tile R))) 1#32 :=
  (val_main_call3_v0_apply te _).trans (congrArg (fun w => IntOp.cmpi .eq w 1#32) (row_expert te R _ rfl))
/-- Expert 1's result. -/
theorem made1 : (val_main_v24 (F := Idealize.ShloMosaic.Ideal) h wg wu : S25600x2816.Idx → EReal) (ix2 R C) = gated h wg wu R C 1 :=
  Eq.trans (by rfl) (congrArg₂ (fun g u : EReal => g * sigE g * u) (product h R C wg 1 slices_S2x8x2048x2816_S1x1x2048x2816_0_1_0_0 1 rfl)
    (product h R C wu 1 slices_S2x8x2048x2816_S1x1x2048x2816_0_1_0_0 1 rfl))
/-- Expert 2's rows. -/
theorem mask2 : val_main_call5_v0 (F := Idealize.ShloMosaic.Ideal) te (ix2 R C) = IntOp.cmpi .eq (te (ValueIdx.ix1 (tile R))) 2#32 :=
  (val_main_call5_v0_apply te _).trans (congrArg (fun w => IntOp.cmpi .eq w 2#32) (row_expert te R _ rfl))
/-- Expert 2's result. -/
theorem made2 : (val_main_v35 (F := Idealize.ShloMosaic.Ideal) h wg wu : S25600x2816.Idx → EReal) (ix2 R C) = gated h wg wu R C 2 :=
  Eq.trans (by rfl) (congrArg₂ (fun g u : EReal => g * sigE g * u) (product h R C wg 2 slices_S2x8x2048x2816_S1x1x2048x2816_0_2_0_0 2 rfl)
    (product h R C wu 2 slices_S2x8x2048x2816_S1x1x2048x2816_0_2_0_0 2 rfl))
/-- Expert 3's rows. -/
theorem mask3 : val_main_call7_v0 (F := Idealize.ShloMosaic.Ideal) te (ix2 R C) = IntOp.cmpi .eq (te (ValueIdx.ix1 (tile R))) 3#32 :=
  (val_main_call7_v0_apply te _).trans (congrArg (fun w => IntOp.cmpi .eq w 3#32) (row_expert te R _ rfl))
/-- Expert 3's result. -/
theorem made3 : (val_main_v46 (F := Idealize.ShloMosaic.Ideal) h wg wu : S25600x2816.Idx → EReal) (ix2 R C) = gated h wg wu R C 3 :=
  Eq.trans (by rfl) (congrArg₂ (fun g u : EReal => g * sigE g * u) (product h R C wg 3 slices_S2x8x2048x2816_S1x1x2048x2816_0_3_0_0 3 rfl)
    (product h R C wu 3 slices_S2x8x2048x2816_S1x1x2048x2816_0_3_0_0 3 rfl))
/-- Expert 4's rows. -/
theorem mask4 : val_main_call9_v0 (F := Idealize.ShloMosaic.Ideal) te (ix2 R C) = IntOp.cmpi .eq (te (ValueIdx.ix1 (tile R))) 4#32 :=
  (val_main_call9_v0_apply te _).trans (congrArg (fun w => IntOp.cmpi .eq w 4#32) (row_expert te R _ rfl))
/-- Expert 4's result. -/
theorem made4 : (val_main_v57 (F := Idealize.ShloMosaic.Ideal) h wg wu : S25600x2816.Idx → EReal) (ix2 R C) = gated h wg wu R C 4 :=
  Eq.trans (by rfl) (congrArg₂ (fun g u : EReal => g * sigE g * u) (product h R C wg 4 slices_S2x8x2048x2816_S1x1x2048x2816_0_4_0_0 4 rfl)
    (product h R C wu 4 slices_S2x8x2048x2816_S1x1x2048x2816_0_4_0_0 4 rfl))
/-- Expert 5's rows. -/
theorem mask5 : val_main_call11_v0 (F := Idealize.ShloMosaic.Ideal) te (ix2 R C) = IntOp.cmpi .eq (te (ValueIdx.ix1 (tile R))) 5#32 :=
  (val_main_call11_v0_apply te _).trans (congrArg (fun w => IntOp.cmpi .eq w 5#32) (row_expert te R _ rfl))
/-- Expert 5's result. -/
theorem made5 : (val_main_v68 (F := Idealize.ShloMosaic.Ideal) h wg wu : S25600x2816.Idx → EReal) (ix2 R C) = gated h wg wu R C 5 :=
  Eq.trans (by rfl) (congrArg₂ (fun g u : EReal => g * sigE g * u) (product h R C wg 5 slices_S2x8x2048x2816_S1x1x2048x2816_0_5_0_0 5 rfl)
    (product h R C wu 5 slices_S2x8x2048x2816_S1x1x2048x2816_0_5_0_0 5 rfl))
/-- Expert 6's rows. -/
theorem mask6 : val_main_call13_v0 (F := Idealize.ShloMosaic.Ideal) te (ix2 R C) = IntOp.cmpi .eq (te (ValueIdx.ix1 (tile R))) 6#32 :=
  (val_main_call13_v0_apply te _).trans (congrArg (fun w => IntOp.cmpi .eq w 6#32) (row_expert te R _ rfl))
/-- Expert 6's result. -/
theorem made6 : (val_main_v79 (F := Idealize.ShloMosaic.Ideal) h wg wu : S25600x2816.Idx → EReal) (ix2 R C) = gated h wg wu R C 6 :=
  Eq.trans (by rfl) (congrArg₂ (fun g u : EReal => g * sigE g * u) (product h R C wg 6 slices_S2x8x2048x2816_S1x1x2048x2816_0_6_0_0 6 rfl)
    (product h R C wu 6 slices_S2x8x2048x2816_S1x1x2048x2816_0_6_0_0 6 rfl))
/-- Expert 7's rows. -/
theorem mask7 : val_main_call15_v0 (F := Idealize.ShloMosaic.Ideal) te (ix2 R C) = IntOp.cmpi .eq (te (ValueIdx.ix1 (tile R))) 7#32 :=
  (val_main_call15_v0_apply te _).trans (congrArg (fun w => IntOp.cmpi .eq w 7#32) (row_expert te R _ rfl))
/-- Expert 7's result. -/
theorem made7 : (val_main_v90 (F := Idealize.ShloMosaic.Ideal) h wg wu : S25600x2816.Idx → EReal) (ix2 R C) = gated h wg wu R C 7 :=
  Eq.trans (by rfl) (congrArg₂ (fun g u : EReal => g * sigE g * u) (product h R C wg 7 slices_S2x8x2048x2816_S1x1x2048x2816_0_7_0_0 7 rfl)
    (product h R C wu 7 slices_S2x8x2048x2816_S1x1x2048x2816_0_7_0_0 7 rfl))

/-- One expert after another takes the rows that are its own. -/
def chain (w : BitVec 32) (f : Fin 8 → EReal) (z : EReal) : EReal :=
  Scalar.select (IntOp.cmpi .eq w 7#32) (f 7) (Scalar.select (IntOp.cmpi .eq w 6#32) (f 6) (Scalar.select (IntOp.cmpi .eq w 5#32) (f 5) (Scalar.select (IntOp.cmpi .eq w 4#32) (f 4) (Scalar.select (IntOp.cmpi .eq w 3#32) (f 3) (Scalar.select (IntOp.cmpi .eq w 2#32) (f 2) (Scalar.select (IntOp.cmpi .eq w 1#32) (f 1) (Scalar.select (IntOp.cmpi .eq w 0#32) (f 0) z)))))))

/-- In the end a row holds what its own expert makes of it. -/
theorem chain_eq (w : BitVec 32) (f : Fin 8 → EReal) (z : EReal) (hw : w.toNat < 8) : chain w f z = f ⟨w.toNat, hw⟩ := by
  have hc : w = 0#32 ∨ w = 1#32 ∨ w = 2#32 ∨ w = 3#32 ∨ w = 4#32 ∨ w = 5#32 ∨ w = 6#32 ∨ w = 7#32 := by
    have e : w = BitVec.ofNat 32 w.toNat := BitVec.eq_of_toNat_eq (by rw [BitVec.toNat_ofNat]; omega)
    generalize w.toNat = n at e hw
    subst e
    interval_cases n <;> simp
  rcases hc with rfl | rfl | rfl | rfl | rfl | rfl | rfl | rfl <;> rfl

/-- The row's expert has made it. -/
theorem chosen (hw : (te (ValueIdx.ix1 (tile R))).toNat < 8) :
    (val_main_v91 (F := Idealize.ShloMosaic.Ideal) h wg wu te : S25600x2816.Idx → EReal) (ix2 R C)
      = gated h wg wu R C ⟨(te (ValueIdx.ix1 (tile R))).toNat, hw⟩ := by
  refine Eq.trans ?_ (chain_eq _ (gated h wg wu R C) (val_main_v3 (F := Idealize.ShloMosaic.Ideal) (ix2 R C)) hw)
  unfold chain
  rw [val_main_v91_apply, mask7 te R C, made7 h wg wu R C]
  rw [val_main_v80_apply, mask6 te R C, made6 h wg wu R C]
  rw [val_main_v69_apply, mask5 te R C, made5 h wg wu R C]
  rw [val_main_v58_apply, mask4 te R C, made4 h wg wu R C]
  rw [val_main_v47_apply, mask3 te R C, made3 h wg wu R C]
  rw [val_main_v36_apply, mask2 te R C, made2 h wg wu R C]
  rw [val_main_v25_apply, mask1 te R C, made1 h wg wu R C]
  rw [val_main_v14_apply, mask0 te R C, made0 h wg wu R C]

/-- A choice by a comparison of small numbers. -/
theorem select_lt (a n : ℕ) (ha : a < 100) (w : BitVec 32) (hw : w.toNat = n) (hn : n < 100) (x y : EReal) :
    Scalar.select (IntOp.cmpi .slt (BitVec.ofNat 32 a) w) x y = if a < n then x else y := by
  have e : w = BitVec.ofNat 32 n := BitVec.eq_of_toNat_eq (by rw [BitVec.toNat_ofNat]; omega)
  have h1 := WordCmp.cmpi_slt_ofNat_eq_one_iff (a := a) (b := n) (w := 32) (by omega) (by omega)
  subst e
  unfold Scalar.select
  by_cases hlt : a < n
  · rw [if_pos hlt, h1.mpr hlt]; rfl
  · rw [if_neg hlt]; exact if_neg (fun hc => hlt (h1.mp hc))

/-- One entry of the reference's result: in a tile in use what its expert makes, past the last one zero. -/
theorem entry (hw : (te (ValueIdx.ix1 (tile R))).toNat < 8) (hn : (na (ValueIdx.ix1 (0 : Fin 1))).toNat ≤ 25) :
    (val_main_v100 (F := Idealize.ShloMosaic.Ideal) h wg wu te na : S25600x2816.Idx → EReal) (ix2 R C)
      = if R.val / 1024 < (na (ValueIdx.ix1 (0 : Fin 1))).toNat then gated h wg wu R C ⟨(te (ValueIdx.ix1 (tile R))).toNat, hw⟩ else 0 := by
  refine (val_main_v99_apply (F := Idealize.ShloMosaic.Ideal) h wg wu te na (ix2 R C)).trans ?_
  rw [row_used na R C, chosen h wg wu te R C hw]
  have hz : (val_main_call16_v2 (F := Idealize.ShloMosaic.Ideal) : S25600x2816.Idx → EReal) (ix2 R C) = 0 :=
    (val_main_call16_v2_apply _).trans Idealize.ShloMosaic.Ideal.ofBits_zero_f32
  have hR := R.isLt
  exact (congrArg _ hz).trans (select_lt _ _ (by omega) _ rfl (by omega) _ _)

end Cert.RefMoeUpIdeal.Blocks
-- ==== Proof.MoeValue.lean ====
/- The routed up projections: the two frames, the kernel's array after the run, and the value claim. -/
module

public import proofs.«01_k».proof.Proof.MoeRef
public import proofs.«01_k».proof.Proof.Gen.MoeUp
public import proofs.«01_k».proof.Proof.Gen.Pre_routed
public import proofs.«01_k».proof.Defs

@[expose] public section

set_option maxRecDepth 16384

noncomputable section

namespace Cert.MoeUpIdeal.Blocks

open Idealize.ShloMosaic Idealize.ShloMosaic.TcCoe Idealize.ShloMosaic.Tactic Idealize.SL.Sem
open Cert.MoeUpIdeal Cert.MoeUpIdeal.Gen Cert.Dense

section AnyFloat

variable {F : FTy → Type} [FloatOps F]
variable (m : (ℓ : Loc nD τ sig) → Buf (Elt F) ℓ) (ρ : Dev nD → PrngReg)

/-- What the run leaves: the output's array after every write-back, the arguments as they were, and no semaphore held. -/
theorem run_all (hO : Ok m) (hS : Steady m hO) : θ_run defs (onTc (τ := τ) (main (F := F))) ⟨m, fun _ => 0, ρ⟩ (fun r => (∀ c : Dev nD,
      r.2.mem ((c.tc : Thread nD τ).loc main_v19) = (dats m hO 0 c).arrAt 3 (cfgM m hO).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) ∧ r.2.sem = fun _ => 0) :=
  (θ_run _ _ _).mono (fun r h => ⟨fun c =>
    ⟨(h.1 c).1 3,
     ((h.1 c).2 main_arg0 (show main_arg0 ∈ Pipeline.restRefs sig spec0 by decide)).trans (V_arg m c main_arg0 (by simp)),
     ((h.1 c).1 1).trans (((dats m hO 0 c).arrAt_in 1 rfl _).trans ((A_eq m hO c 1).trans (V_arg m c main_arg1 (by simp)))),
     ((h.1 c).1 2).trans (((dats m hO 0 c).arrAt_in 2 rfl _).trans ((A_eq m hO c 2).trans (V_arg m c main_arg2 (by simp)))),
     ((h.1 c).2 main_arg3 (show main_arg3 ∈ Pipeline.restRefs sig spec0 by decide)).trans (V_arg m c main_arg3 (by simp)),
     ((h.1 c).2 main_arg4 (show main_arg4 ∈ Pipeline.restRefs sig spec0 by decide)).trans (V_arg m c main_arg4 (by simp))⟩, h.2⟩) (run_main m ρ hO hS)

/-- The output is written back at every point. -/
theorem flush3 (a : (pcfg0 (F := F)).Adm) : ∀ t : Fin (cfg0 a).N, ((cfg0 a).win 3).flush t = true :=
  (fun t => (Pipeline.Window.flushOf_reads cc0_transform_3 reads0_3 Facts₀.hreads0_3 1 (by decide) (by decide)
    (Pipeline.Window.sep_of_coord cc0_transform_3 1 0 (fun _ => rfl) (by decide)) (P := 1) (m := 0) (by decide) rfl t).mpr (Nat.mod_one _) :
    ∀ t : Fin grid0.N, Pipeline.Window.flushOf grid0 true cc0_transform_3 t = true)

/-- A point's tile, when it is in use or not. -/
def own (i : grid0.Coords) : Fin 25 := ⟨(i 1).val, coord1_lt i⟩

/-- The output's block at a point, as a place of the array. -/
theorem emb3 (a : (pcfg0 (F := F)).Adm) (t : Fin (cfg0 a).N) (r : Fin 1024) (l : Fin 256) :
    ((((cfg0 a).win 3).blk t).view.emb (ValueIdx.ix2 r l : S1024x256.Idx) : S25600x2816.Idx)
      = ValueIdx.ix2 (row (own (grid0.coords t)) r) (col (grid0.coords t) l) := by
  have h0 := coord0_lt (grid0.coords t)
  have h1 := coord1_lt (grid0.coords t)
  have e0 := toNat_word (grid0.coords t 0).val (by omega)
  have e1 := toNat_word (grid0.coords t 1).val (by omega)
  refine funext fun b => Fin.ext ?_
  match b with
  | ⟨0, _⟩ =>
    refine Eq.trans (b := (BitVec.ofNat 32 (grid0.coords t 1).val).toNat * 1024 + 1 * r.val) rfl ?_
    rw [e1]; show (grid0.coords t 1).val * 1024 + 1 * r.val = 1024 * (grid0.coords t 1).val + r.val; omega
  | ⟨1, _⟩ =>
    refine Eq.trans (b := (BitVec.ofNat 32 (grid0.coords t 0).val).toNat * 256 + 1 * l.val) rfl ?_
    rw [e0]; show (grid0.coords t 0).val * 256 + 1 * l.val = 256 * (grid0.coords t 0).val + l.val; omega

/-- Every place of the array is a point's. -/
theorem place (R : Fin 25600) (C : Fin 2816) : ∃ (t : Fin grid0.N) (r : Fin 1024) (l : Fin 256),
    R = row (own (grid0.coords t)) r ∧ C = col (grid0.coords t) l := by
  let t : Fin grid0.N := ⟨25 * (C.val / 256) + R.val / 1024, lt_of_lt_of_eq (by omega) (by decide : 275 = grid0.N)⟩
  obtain ⟨e0, e1⟩ := coords_eq t
  have ht : t.val = 25 * (C.val / 256) + R.val / 1024 := rfl
  refine ⟨t, ⟨R.val % 1024, by omega⟩, ⟨C.val % 256, by omega⟩, Fin.ext ?_, Fin.ext ?_⟩
  · show R.val = 1024 * (grid0.coords t 1).val + R.val % 1024; omega
  · show C.val = 256 * (grid0.coords t 0).val + C.val % 256; omega

end AnyFloat

/-- The two programs have the same text, so at the bit-exact reading they have the same body, the same body table, -/
theorem body_bits : Cert.MoeUp.cc0__moe_up_body (F := Bits) = Cert.MoeUpIdeal.cc0__moe_up_body (F := Bits) := rfl
set_option maxHeartbeats 2000000 in
theorem table_tc (t : Fin grid0.N) (s : (w : Fin 4) → Fin (spec0 w).nbuf) :
    Cert.MoeUp.defs₀ (F := Bits) .tc (0 : Fin 1) (t, s) = Cert.MoeUpIdeal.defs₀ (F := Bits) .tc (0 : Fin 1) (t, s) := rfl
theorem table_bits : Cert.MoeUp.defs₀ (F := Bits) = Cert.MoeUpIdeal.defs₀ (F := Bits) := by
  funext p ℓ a
  cases p with
  | tc => match ℓ, a with | ⟨0, _⟩, (t, s) => exact table_tc t s
  | scScalar k => rfl
  | scVector k l => rfl
theorem defs_bits : Cert.MoeUp.defs (F := Bits) = Cert.MoeUpIdeal.defs (F := Bits) :=
  congrArg (Pipeline.defs (Cert.MoeUpIdeal.pcfgs (F := Bits))) table_bits
set_option maxHeartbeats 4000000 in
/-- and the same main function. -/
theorem main_bits : Cert.MoeUp.main (F := Bits) = Cert.MoeUpIdeal.main (F := Bits) := rfl

/-- The kernel program's frame, at the bit-exact reading. -/
theorem frame_bits : Cert.quiescent_MoeUp := fun m ρ hpre => by
  have hR : Routed (teOf (F := Bits) m 0) (naOf (F := Bits) m 0) := routed_of_pre (hpre 0)
  have H := (θ_run (Cert.MoeUpIdeal.defs (F := Bits)) _ _).mono (fun r h => (⟨fun c => (h.1 c).2, h.2⟩ : _ ∧ _))
    (run_all (F := Bits) m ρ (ok_of_routed m hR) (steady_of_routed m hR _))
  rw [defs_bits, main_bits]
  exact H

/-- The idealized kernel program's frame. -/
theorem frame_ideal : Cert.quiescent_MoeUpIdeal := fun m ρ hpre => by
  have hR : Routed (teOf m 0) (naOf m 0) := routed_of_pre (hpre 0)
  exact (θ_run Cert.MoeUpIdeal.defs _ _).mono (fun r h => ⟨fun c => (h.1 c).2, h.2⟩)
    (run_all m ρ (ok_of_routed m hR) (steady_of_routed m hR _))

variable (m : (ℓ : Loc nD τ sig) → Buf (Elt Idealize.ShloMosaic.Ideal) ℓ) (c : Dev nD)

/-- The activations at region entry are the caller's. -/
theorem entry_acts (i : S25600x2048.Idx) : (V m c main_v18 : S25600x2048.Idx → EReal) i = m ((c : Thread nD τ).loc main_arg0) i := by
  have h : V m c main_v18 = truncf (F := Idealize.ShloMosaic.Ideal) .bf16 (m ((c : Thread nD τ).loc main_arg0)) bitsLt_bf16_f32 := by
    simp only [V, hostOps0]; after_results
  rw [h]; rfl

/-- A weight's block as kept. -/
theorem pay1_apply (x : Vec Idealize.ShloMosaic.Ideal S1x1x2048x256 .f32) (k : Fin 2048) (l : Fin 256) :
    (k0_pay1 x : S2048x256.Idx → EReal) (ix2 k l) = x (ValueIdx.ix4 0 0 k l) := by
  unfold k0_pay1
  rw [shapeCast_self]
  have e := plane4_apply x shapeCasts_S1x1x2048x256_S2048x256 k l
  exact e

/-- A weight's block as kept. -/
theorem pay2_apply (x : Vec Idealize.ShloMosaic.Ideal S1x1x2048x256 .f32) (k : Fin 2048) (l : Fin 256) :
    (k0_pay2 x : S2048x256.Idx → EReal) (ix2 k l) = x (ValueIdx.ix4 0 0 k l) := pay1_apply x k l

/-- The output block of a point in use. -/
theorem pay3_apply (x : Vec Idealize.ShloMosaic.Ideal S1024x2048 .bf16) (a b : Vec Idealize.ShloMosaic.Ideal S2048x256 .bf16) (r : Fin 1024) (l : Fin 256) :
    (k0_pay3 x a b : S1024x256.Idx → EReal) (ix2 r l)
      = (dotv (fun k : Fin 2048 => x (ix2 r k)) (fun k => a (ix2 k l))) * sigT (dotv (fun k : Fin 2048 => x (ix2 r k)) (fun k => a (ix2 k l)))
        * dotv (fun k : Fin 2048 => x (ix2 r k)) (fun k => b (ix2 k l)) := by
  have hd := dot_apply (φ₁ := .bf16) (φ₂ := .bf16) dot_S1024x2048_S2048x256_S1024x256_1_0_0_1_n_n rfl none x a r l
  have hd' := dot_apply (φ₁ := .bf16) (φ₂ := .bf16) dot_S1024x2048_S2048x256_S1024x256_1_0_0_1_n_n rfl none x b r l
  unfold k0_pay3
  rw [shapeCast_self]
  refine Eq.trans ?_ (congr (congrArg (fun g u : EReal => g * sigT g * u) hd) hd')
  rfl

/-- The zero that a point past the last tile in use stores. -/
theorem zero_bf16 : (Idealize.ShloMosaic.Ideal.ofBits .bf16 0x0000#16 : EReal) = 0 := by
  simp [Idealize.ShloMosaic.Ideal.ofBits, Idealize.ShloMosaic.Ideal.ieee]

/-- A routed row's expert. -/
def expertOf (hR : Routed (teOf m 0) (naOf m 0)) (R : Fin 25600) : Fin 8 :=
  ⟨(teOf m 0 (at25 (Cert.RefMoeUpIdeal.Blocks.tile R))).toNat, hR.expert _⟩

/-- What the array is to hold: in a tile in use what the row's expert makes, past the last one zero. -/
def target (hR : Routed (teOf m 0) (naOf m 0)) (i : S25600x2816.Idx) : EReal :=
  if (i 0).val / 1024 < (naOf m 0 at1).toNat then
    Cert.RefMoeUpIdeal.Blocks.gated (m ((c : Thread nD τ).loc main_arg0)) (m ((c : Thread nD τ).loc main_arg1)) (m ((c : Thread nD τ).loc main_arg2))
      (i 0) (i 1) (expertOf m hR (i 0))
  else 0

/-- A point leaves its block of it. -/
theorem made_eq (hR : Routed (teOf m 0) (naOf m 0)) (hO : Ok m) (t : Fin (cfgM m hO).N) (r : Fin 1024) (l : Fin 256) :
    (made m hO c t : S1024x256.Idx → EReal) (ix2 r l)
      = target m c hR (ValueIdx.ix2 (row (own (grid0.coords t)) r) (col (grid0.coords t) l)) := by
  have hq : (row (own (grid0.coords t)) r).val / 1024 = (grid0.coords t 1).val := by
    show (1024 * (grid0.coords t 1).val + r.val) / 1024 = _; omega
  have hu := inUse_iff m c hR (grid0.coords t)
  unfold made target
  by_cases h : (grid0.coords t 1).val < (naOf m 0 at1).toNat
  · have hT : tileAt m (grid0.coords t) = own (grid0.coords t) := Fin.ext (tileAt_inUse m _ h)
    have hE : expert m hR (grid0.coords t) = expertOf m hR (row (own (grid0.coords t)) r) := by
      refine Fin.ext ?_
      show (teOf m 0 (at25 (tileAt m (grid0.coords t)))).toNat = _
      rw [hT]
      exact congrArg (fun T => (teOf m 0 (at25 T)).toNat) (Fin.ext hq.symm)
    rw [if_pos (hu.mpr h), if_pos (lt_of_eq_of_lt hq h)]
    refine (pay3_apply _ _ _ r l).trans ?_
    have e1 : dotv (fun k : Fin 2048 => (iblk m hO c 0 t : S1024x2048.Idx → EReal) (ix2 r k)) (fun k => (k0_pay1 (iblk m hO c 1 t) : S2048x256.Idx → EReal) (ix2 k l))
        = Cert.RefMoeUpIdeal.Blocks.dotAt (m ((c : Thread nD τ).loc main_arg0)) (m ((c : Thread nD τ).loc main_arg1))
          (expertOf m hR (row (own (grid0.coords t)) r)) (row (own (grid0.coords t)) r) (col (grid0.coords t) l) := by
      refine dotv_congr (fun k => ?_) (fun k => ?_)
      · refine (blk0 m c hR hO t r k).trans ((entry_acts m c _).trans ?_)
        rw [hT]; rfl
      · refine (pay1_apply _ k l).trans ((blk1 m c hR hO t k l).trans ((congrFun (V_arg m c main_arg1 (by simp)) _).trans ?_))
        rw [hE]
    have e2 : dotv (fun k : Fin 2048 => (iblk m hO c 0 t : S1024x2048.Idx → EReal) (ix2 r k)) (fun k => (k0_pay2 (iblk m hO c 2 t) : S2048x256.Idx → EReal) (ix2 k l))
        = Cert.RefMoeUpIdeal.Blocks.dotAt (m ((c : Thread nD τ).loc main_arg0)) (m ((c : Thread nD τ).loc main_arg2))
          (expertOf m hR (row (own (grid0.coords t)) r)) (row (own (grid0.coords t)) r) (col (grid0.coords t) l) := by
      refine dotv_congr (fun k => ?_) (fun k => ?_)
      · refine (blk0 m c hR hO t r k).trans ((entry_acts m c _).trans ?_)
        rw [hT]; rfl
      · refine (pay2_apply _ k l).trans ((blk2 m c hR hO t k l).trans ((congrFun (V_arg m c main_arg2 (by simp)) _).trans ?_))
        rw [hE]
    refine (congrArg₂ (fun g u : EReal => g * sigT g * u) e1 e2).trans ?_
    rw [sig_eq]; rfl
  · rw [if_neg (fun h' => h (hu.mp h')), if_neg (fun h' => h (lt_of_eq_of_lt hq.symm h'))]
    exact zero_bf16

/-- The kernel's array after the run. -/
theorem array_eq (hR : Routed (teOf m 0) (naOf m 0)) (hO : Ok m) :
    ((dats m hO 0 c).arrAt 3 (cfgM m hO).N : S25600x2816.Idx → EReal) = target m c hR := by
  refine (dats m hO 0 c).arrAt_eq_of_cover 3 (target m c hR) (fun t _ => ?_) (fun (i : S25600x2816.Idx) => ?_)
  · refine funext fun (y : S1024x256.Idx) => ?_
    obtain ⟨r, l, rfl⟩ : ∃ (r : Fin 1024) (l : Fin 256), y = ix2 r l := ⟨y 0, y 1, eq_ix2 y⟩
    refine (congrFun (after_3 m hO c t) (ix2 r l)).trans ((made_eq m c hR hO t r l).trans ?_)
    exact congrArg (target m c hR) (emb3 (adm m hO) t r l).symm
  · obtain ⟨t, r, l, hr, hl⟩ := place (i 0) (i 1)
    refine ⟨t, flush3 (adm m hO) t, ?_⟩
    have e : i = (((cfgM m hO).win 3).blk t).view.emb (ValueIdx.ix2 r l : S1024x256.Idx) := by
      refine Eq.trans ?_ (emb3 (adm m hO) t r l).symm
      rw [← hr, ← hl]; exact eq_ix2 i
    rw [e]
    exact View.emb_mem_set _ _

/-- The routed up projections' value claim. -/
theorem value : Cert.algebraic_MoeUpIdeal_RefMoeUpIdeal := fun m ρ m' ρ' hpre hag => by
  have hR : Routed (teOf m 0) (naOf m 0) := routed_of_pre (hpre 0)
  have hO := ok_of_routed m hR
  refine ⟨fun c => (dats m hO 0 c).arrAt 3 (cfgM m hO).N, (θ_run _ _ _).mono (fun r h => h.1) (run_all m ρ hO (steady_of_routed m hR hO)),
    (θ_run _ _ _).mono (fun r h c => ?_) (Cert.RefMoeUpIdeal.Value.run (F := Idealize.ShloMosaic.Ideal) m' ρ')⟩
  refine ⟨(h c).1.trans ?_, (h c).2⟩
  obtain ⟨e0, e1, e2, e3, e4⟩ := hag c
  have hc : c = 0 := Subsingleton.elim (α := Fin 1) _ _
  subst hc
  refine Eq.trans ?_ (array_eq m 0 hR hO).symm
  funext i
  obtain ⟨R, C, rfl⟩ : ∃ R C, i = ix2 R C := ⟨i 0, i 1, eq_ix2 i⟩
  refine (congrFun (Cert.RefMoeUpIdeal.Read.val_main_v100_eq (F := Idealize.ShloMosaic.Ideal) (fun b => m' ((0 : Dev Cert.RefMoeUpIdeal.nD), b))) (ix2 R C)).trans ?_
  have H := Cert.RefMoeUpIdeal.Blocks.entry (m (((0 : Dev nD) : Thread nD τ).loc main_arg0)) (m (((0 : Dev nD) : Thread nD τ).loc main_arg1)) (m (((0 : Dev nD) : Thread nD τ).loc main_arg2))
    (teOf m 0) (naOf m 0) R C (hR.expert _) hR.le
  have E := congr (congr (congr (congr (congrArg (Cert.RefMoeUpIdeal.Read.val_main_v100 (F := Idealize.ShloMosaic.Ideal)) e0) e1) e2) e3) e4
  exact (congrFun E (ix2 R C)).trans H

end Cert.MoeUpIdeal.Blocks
-- ==== Proof.MoeDownRef.lean ====
/- The routed down projection's reference, entry by entry. -/
module

public import proofs.«01_k».proof.Proof.MoeRef
public import proofs.«01_k».proof.Proof.Gen.RefMoeDownIdeal.Run
public import proofs.«01_k».proof.Proof.Gen.RefMoeDownIdeal.Read

@[expose] public section

set_option maxRecDepth 16384

noncomputable section

namespace Cert.RefMoeDownIdeal.Blocks

open Idealize.ShloMosaic
open Cert.RefMoeDownIdeal Cert.RefMoeDownIdeal.Gen Cert.RefMoeDownIdeal.Read Cert.Dense
open Cert.RefMoeUpIdeal.Blocks (tile chain chain_eq select_lt)

/-- The sums of one entry: a row of the activations with a column of an expert's weight. -/
def dotAt (h : S25600x2816.Idx → EReal) (w : S2x8x2816x2048.Idx → EReal) (e : Fin 8) (R : Fin 25600) (C : Fin 2048) : EReal :=
  dotv (fun k : Fin 2816 => h (ix2 R k)) (fun k => w (ValueIdx.ix4 0 e k C))

/-- What an expert makes of a row: its projection times the row's weight. -/
def weighted (h : S25600x2816.Idx → EReal) (w : S2x8x2816x2048.Idx → EReal) (g : S25600x1.Idx → EReal) (R : Fin 25600) (C : Fin 2048) (e : Fin 8) : EReal :=
  g (ix2 R 0) * dotAt h w e R C

variable (h : FVec Idealize.ShloMosaic.Ideal S25600x2816 .f32) (wd : FVec Idealize.ShloMosaic.Ideal S2x8x2816x2048 .f32)
  (g : FVec Idealize.ShloMosaic.Ideal S25600x1 .f32) (te : IVec S25 32) (na : IVec S1 32) (R : Fin 25600) (C : Fin 2048)

/-- One of the reference's products, at an entry. -/
theorem product (w : FVec Idealize.ShloMosaic.Ideal S2x8x2816x2048 .f32) (o : ℕ) (hs : S2x8x2816x2048.Slices ![0, o, 0, 0] S1x1x2816x2048)
    (e : Fin 8) (he : e.val = o) :
    (Host.dotGeneral (F := Idealize.ShloMosaic.Ideal) dot_S25600x2816_S2816x2048_S25600x2048_1_0_0_1_n_n none h
      (shapeCast S2816x2048 (extractStridedSlice S1x1x2816x2048 ![0, o, 0, 0] w hs) shapeCasts_S1x1x2816x2048_S2816x2048) : S25600x2048.Idx → EReal) (ix2 R C)
      = dotAt h w e R C := by
  refine (host_dot_apply (φ₁ := .f32) (φ₂ := .f32) _ rfl none h _ R C).trans ?_
  exact dotv_congr (fun k => rfl) fun k => slice_plane4 o w hs shapeCasts_S1x1x2816x2048_S2816x2048 0 rfl e he k C

/-- The experts' numbers, row by row: a row's is its tile's. -/
theorem row_expert (j : S25600x1.Idx) (hj : (j 0).val = R.val) :
    val_main_v2 (F := Idealize.ShloMosaic.Ideal) te j = te (ValueIdx.ix1 (tile R)) := by
  refine (val_main_v2_apply te j).trans ((val_main_v1_apply te _).trans ((val_main_v0_apply te _).trans (congrArg te (funext fun a => ?_))))
  match a with
  | ⟨0, _⟩ =>
    refine Fin.ext ?_
    have h1 : (j 1).val < 1 := (j 1).isLt
    show ((j 0).val * 1 + (j 1).val) / 1024 = R.val / 1024
    omega

/-- The marks of the rows in use: a row's is its tile's. -/
theorem row_used : val_main_call8_v1 (F := Idealize.ShloMosaic.Ideal) na (ix2 R C)
    = IntOp.cmpi .slt (BitVec.ofNat 32 (R.val / 1024)) (na (ValueIdx.ix1 (0 : Fin 1))) := by
  refine (val_main_call8_v1_apply na _).trans ((val_main_v74_apply na _).trans ((val_main_v73_apply na _).trans ((val_main_v72_apply na _).trans ?_)))
  refine congrArg₂ (IntOp.cmpi .slt) ?_ ?_
  · refine congrArg (BitVec.ofNat 32) ?_
    show (R.val * 1 + 0) / 1024 = R.val / 1024
    omega
  · refine (val_main_v70_apply na _).trans ?_
    unfold val_main_v69
    refine shapeCast_apply _ _ _ (ValueIdx.ix1 (0 : Fin 1)) ?_
    exact (congrArg Fin.val (Subsingleton.elim (α := Fin 1) _ _))

/-- Expert 0's rows. -/
theorem mask0 : val_main_call0_v0 (F := Idealize.ShloMosaic.Ideal) te (ix2 R C) = IntOp.cmpi .eq (te (ValueIdx.ix1 (tile R))) 0#32 :=
  (val_main_call0_v0_apply te _).trans (congrArg (fun w => IntOp.cmpi .eq w 0#32) (row_expert te R _ rfl))
/-- The rows' weights, as expert 0's product takes them. -/
theorem rows0 : (val_main_v9 (F := Idealize.ShloMosaic.Ideal) g : S25600x2048.Idx → EReal) (ix2 R C) = g (ix2 R 0) :=
  (val_main_v9_apply (F := Idealize.ShloMosaic.Ideal) g (ix2 R C)).trans (congrArg g (funext fun b => match b with | ⟨0, _⟩ => rfl | ⟨1, _⟩ => rfl))
/-- Expert 0's result. -/
theorem made0 : (val_main_v10 (F := Idealize.ShloMosaic.Ideal) h wd g : S25600x2048.Idx → EReal) (ix2 R C) = weighted h wd g R C 0 :=
  Eq.trans (by rfl) (congrArg₂ (fun a b : EReal => a * b) (rows0 g R C) (product h R C wd 0 slices_S2x8x2816x2048_S1x1x2816x2048_0_0_0_0 0 rfl))
/-- Expert 1's rows. -/
theorem mask1 : val_main_call1_v0 (F := Idealize.ShloMosaic.Ideal) te (ix2 R C) = IntOp.cmpi .eq (te (ValueIdx.ix1 (tile R))) 1#32 :=
  (val_main_call1_v0_apply te _).trans (congrArg (fun w => IntOp.cmpi .eq w 1#32) (row_expert te R _ rfl))
/-- The rows' weights, as expert 1's product takes them. -/
theorem rows1 : (val_main_v17 (F := Idealize.ShloMosaic.Ideal) g : S25600x2048.Idx → EReal) (ix2 R C) = g (ix2 R 0) :=
  (val_main_v17_apply (F := Idealize.ShloMosaic.Ideal) g (ix2 R C)).trans (congrArg g (funext fun b => match b with | ⟨0, _⟩ => rfl | ⟨1, _⟩ => rfl))
/-- Expert 1's result. -/
theorem made1 : (val_main_v18 (F := Idealize.ShloMosaic.Ideal) h wd g : S25600x2048.Idx → EReal) (ix2 R C) = weighted h wd g R C 1 :=
  Eq.trans (by rfl) (congrArg₂ (fun a b : EReal => a * b) (rows1 g R C) (product h R C wd 1 slices_S2x8x2816x2048_S1x1x2816x2048_0_1_0_0 1 rfl))
/-- Expert 2's rows. -/
theorem mask2 : val_main_call2_v0 (F := Idealize.ShloMosaic.Ideal) te (ix2 R C) = IntOp.cmpi .eq (te (ValueIdx.ix1 (tile R))) 2#32 :=
  (val_main_call2_v0_apply te _).trans (congrArg (fun w => IntOp.cmpi .eq w 2#32) (row_expert te R _ rfl))
/-- The rows' weights, as expert 2's product takes them. -/
theorem rows2 : (val_main_v25 (F := Idealize.ShloMosaic.Ideal) g : S25600x2048.Idx → EReal) (ix2 R C) = g (ix2 R 0) :=
  (val_main_v25_apply (F := Idealize.ShloMosaic.Ideal) g (ix2 R C)).trans (congrArg g (funext fun b => match b with | ⟨0, _⟩ => rfl | ⟨1, _⟩ => rfl))
/-- Expert 2's result. -/
theorem made2 : (val_main_v26 (F := Idealize.ShloMosaic.Ideal) h wd g : S25600x2048.Idx → EReal) (ix2 R C) = weighted h wd g R C 2 :=
  Eq.trans (by rfl) (congrArg₂ (fun a b : EReal => a * b) (rows2 g R C) (product h R C wd 2 slices_S2x8x2816x2048_S1x1x2816x2048_0_2_0_0 2 rfl))
/-- Expert 3's rows. -/
theorem mask3 : val_main_call3_v0 (F := Idealize.ShloMosaic.Ideal) te (ix2 R C) = IntOp.cmpi .eq (te (ValueIdx.ix1 (tile R))) 3#32 :=
  (val_main_call3_v0_apply te _).trans (congrArg (fun w => IntOp.cmpi .eq w 3#32) (row_expert te R _ rfl))
/-- The rows' weights, as expert 3's product takes them. -/
theorem rows3 : (val_main_v33 (F := Idealize.ShloMosaic.Ideal) g : S25600x2048.Idx → EReal) (ix2 R C) = g (ix2 R 0) :=
  (val_main_v33_apply (F := Idealize.ShloMosaic.Ideal) g (ix2 R C)).trans (congrArg g (funext fun b => match b with | ⟨0, _⟩ => rfl | ⟨1, _⟩ => rfl))
/-- Expert 3's result. -/
theorem made3 : (val_main_v34 (F := Idealize.ShloMosaic.Ideal) h wd g : S25600x2048.Idx → EReal) (ix2 R C) = weighted h wd g R C 3 :=
  Eq.trans (by rfl) (congrArg₂ (fun a b : EReal => a * b) (rows3 g R C) (product h R C wd 3 slices_S2x8x2816x2048_S1x1x2816x2048_0_3_0_0 3 rfl))
/-- Expert 4's rows. -/
theorem mask4 : val_main_call4_v0 (F := Idealize.ShloMosaic.Ideal) te (ix2 R C) = IntOp.cmpi .eq (te (ValueIdx.ix1 (tile R))) 4#32 :=
  (val_main_call4_v0_apply te _).trans (congrArg (fun w => IntOp.cmpi .eq w 4#32) (row_expert te R _ rfl))
/-- The rows' weights, as expert 4's product takes them. -/
theorem rows4 : (val_main_v41 (F := Idealize.ShloMosaic.Ideal) g : S25600x2048.Idx → EReal) (ix2 R C) = g (ix2 R 0) :=
  (val_main_v41_apply (F := Idealize.ShloMosaic.Ideal) g (ix2 R C)).trans (congrArg g (funext fun b => match b with | ⟨0, _⟩ => rfl | ⟨1, _⟩ => rfl))
/-- Expert 4's result. -/
theorem made4 : (val_main_v42 (F := Idealize.ShloMosaic.Ideal) h wd g : S25600x2048.Idx → EReal) (ix2 R C) = weighted h wd g R C 4 :=
  Eq.trans (by rfl) (congrArg₂ (fun a b : EReal => a * b) (rows4 g R C) (product h R C wd 4 slices_S2x8x2816x2048_S1x1x2816x2048_0_4_0_0 4 rfl))
/-- Expert 5's rows. -/
theorem mask5 : val_main_call5_v0 (F := Idealize.ShloMosaic.Ideal) te (ix2 R C) = IntOp.cmpi .eq (te (ValueIdx.ix1 (tile R))) 5#32 :=
  (val_main_call5_v0_apply te _).trans (congrArg (fun w => IntOp.cmpi .eq w 5#32) (row_expert te R _ rfl))
/-- The rows' weights, as expert 5's product takes them. -/
theorem rows5 : (val_main_v49 (F := Idealize.ShloMosaic.Ideal) g : S25600x2048.Idx → EReal) (ix2 R C) = g (ix2 R 0) :=
  (val_main_v49_apply (F := Idealize.ShloMosaic.Ideal) g (ix2 R C)).trans (congrArg g (funext fun b => match b with | ⟨0, _⟩ => rfl | ⟨1, _⟩ => rfl))
/-- Expert 5's result. -/
theorem made5 : (val_main_v50 (F := Idealize.ShloMosaic.Ideal) h wd g : S25600x2048.Idx → EReal) (ix2 R C) = weighted h wd g R C 5 :=
  Eq.trans (by rfl) (congrArg₂ (fun a b : EReal => a * b) (rows5 g R C) (product h R C wd 5 slices_S2x8x2816x2048_S1x1x2816x2048_0_5_0_0 5 rfl))
/-- Expert 6's rows. -/
theorem mask6 : val_main_call6_v0 (F := Idealize.ShloMosaic.Ideal) te (ix2 R C) = IntOp.cmpi .eq (te (ValueIdx.ix1 (tile R))) 6#32 :=
  (val_main_call6_v0_apply te _).trans (congrArg (fun w => IntOp.cmpi .eq w 6#32) (row_expert te R _ rfl))
/-- The rows' weights, as expert 6's product takes them. -/
theorem rows6 : (val_main_v57 (F := Idealize.ShloMosaic.Ideal) g : S25600x2048.Idx → EReal) (ix2 R C) = g (ix2 R 0) :=
  (val_main_v57_apply (F := Idealize.ShloMosaic.Ideal) g (ix2 R C)).trans (congrArg g (funext fun b => match b with | ⟨0, _⟩ => rfl | ⟨1, _⟩ => rfl))
/-- Expert 6's result. -/
theorem made6 : (val_main_v58 (F := Idealize.ShloMosaic.Ideal) h wd g : S25600x2048.Idx → EReal) (ix2 R C) = weighted h wd g R C 6 :=
  Eq.trans (by rfl) (congrArg₂ (fun a b : EReal => a * b) (rows6 g R C) (product h R C wd 6 slices_S2x8x2816x2048_S1x1x2816x2048_0_6_0_0 6 rfl))
/-- Expert 7's rows. -/
theorem mask7 : val_main_call7_v0 (F := Idealize.ShloMosaic.Ideal) te (ix2 R C) = IntOp.cmpi .eq (te (ValueIdx.ix1 (tile R))) 7#32 :=
  (val_main_call7_v0_apply te _).trans (congrArg (fun w => IntOp.cmpi .eq w 7#32) (row_expert te R _ rfl))
/-- The rows' weights, as expert 7's product takes them. -/
theorem rows7 : (val_main_v65 (F := Idealize.ShloMosaic.Ideal) g : S25600x2048.Idx → EReal) (ix2 R C) = g (ix2 R 0) :=
  (val_main_v65_apply (F := Idealize.ShloMosaic.Ideal) g (ix2 R C)).trans (congrArg g (funext fun b => match b with | ⟨0, _⟩ => rfl | ⟨1, _⟩ => rfl))
/-- Expert 7's result. -/
theorem made7 : (val_main_v66 (F := Idealize.ShloMosaic.Ideal) h wd g : S25600x2048.Idx → EReal) (ix2 R C) = weighted h wd g R C 7 :=
  Eq.trans (by rfl) (congrArg₂ (fun a b : EReal => a * b) (rows7 g R C) (product h R C wd 7 slices_S2x8x2816x2048_S1x1x2816x2048_0_7_0_0 7 rfl))

/-- The row's expert has made it. -/
theorem chosen (hw : (te (ValueIdx.ix1 (tile R))).toNat < 8) :
    (val_main_v67 (F := Idealize.ShloMosaic.Ideal) h wd g te : S25600x2048.Idx → EReal) (ix2 R C)
      = weighted h wd g R C ⟨(te (ValueIdx.ix1 (tile R))).toNat, hw⟩ := by
  refine Eq.trans ?_ (chain_eq _ (weighted h wd g R C) (val_main_v3 (F := Idealize.ShloMosaic.Ideal) (ix2 R C)) hw)
  unfold chain
  rw [val_main_v67_apply, mask7 te R C, made7 h wd g R C]
  rw [val_main_v59_apply, mask6 te R C, made6 h wd g R C]
  rw [val_main_v51_apply, mask5 te R C, made5 h wd g R C]
  rw [val_main_v43_apply, mask4 te R C, made4 h wd g R C]
  rw [val_main_v35_apply, mask3 te R C, made3 h wd g R C]
  rw [val_main_v27_apply, mask2 te R C, made2 h wd g R C]
  rw [val_main_v19_apply, mask1 te R C, made1 h wd g R C]
  rw [val_main_v11_apply, mask0 te R C, made0 h wd g R C]

/-- One entry of the reference's result: in a tile in use what its expert makes, past the last one zero. -/
theorem entry (hw : (te (ValueIdx.ix1 (tile R))).toNat < 8) (hn : (na (ValueIdx.ix1 (0 : Fin 1))).toNat ≤ 25) :
    (val_main_v75 (F := Idealize.ShloMosaic.Ideal) h wd g te na : S25600x2048.Idx → EReal) (ix2 R C)
      = if R.val / 1024 < (na (ValueIdx.ix1 (0 : Fin 1))).toNat then weighted h wd g R C ⟨(te (ValueIdx.ix1 (tile R))).toNat, hw⟩ else 0 := by
  refine (val_main_v75_apply (F := Idealize.ShloMosaic.Ideal) h wd g te na (ix2 R C)).trans ?_
  rw [row_used na R C, chosen h wd g te R C hw]
  have hz : (val_main_call8_v2 (F := Idealize.ShloMosaic.Ideal) : S25600x2048.Idx → EReal) (ix2 R C) = 0 :=
    (val_main_call8_v2_apply _).trans Idealize.ShloMosaic.Ideal.ofBits_zero_f32
  have hR := R.isLt
  exact (congrArg _ hz).trans (select_lt _ _ (by omega) _ rfl (by omega) _ _)

end Cert.RefMoeDownIdeal.Blocks
-- ==== Proof.MoeDownBody.lean ====
/- The routed down projection: what the kernel's body does on its buffers, in each of its three cases. -/
module

public import proofs.«01_k».proof.Proof.Gen.MoeDownIdeal.Launch
public import proofs.«01_k».proof.Proof.Gen.MoeDownIdeal.Skeleton
public import proofs.«01_k».proof.Proof.Dense
public import Idealize.ShloMosaic.Lib.Pipeline.Kit
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.MoeDownIdeal.Blocks

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.MoeDownIdeal Cert.MoeDownIdeal.Gen Cert.Dense

variable {F : FTy → Type} [FloatOps F]

local notation "𝕄" => MT nD τ sig Unit (Elt F) ℕ (UR sig nD τ) ℕ

/-- Offsets of a whole block of a stack of stacks. -/
theorem off4 : (![0, 0, 0, 0] : Fin 4 → ℕ) = fun _ => 0 := by
  funext a; match a with | ⟨0, _⟩ => rfl | ⟨1, _⟩ => rfl | ⟨2, _⟩ => rfl | ⟨3, _⟩ => rfl

/-- The three tables in scalar memory: each tile's expert, whether a tile is its expert's first, and how many tiles there are. -/
abbrev experts : Memref sig .tc .smem S25 .i32 := Memref.whole main_v17
abbrev firsts : Memref sig .tc .smem S25 .i32 := Memref.whole main_v5
abbrev count : Memref sig .tc .smem S1 .i32 := Memref.whole main_arg4
/-- The buffer that keeps the weight's block. -/
abbrev kept0 : Memref sig .tc .vmem S2816x512 .bf16 := Memref.whole cc0_scratch0

/-- A table's contents on a core, and the half of it that the body may read. -/
abbrev Words (c : Dev nD) {S : Shape} {e : EltTy} (M : Memref sig .tc .smem S e) : Type := Buf (Elt F) (M.view.loc (c : Thread nD τ))
abbrev half (c : Dev nD) {S : Shape} {e : EltTy} (M : Memref sig .tc .smem S e) (f : Words (F := F) c M) : sProp 𝕄 :=
  M.view.loc (c : Thread nD τ) ↦{fullShare.right} f

/-- The number of tiles, as the body reads it. -/
abbrev countWord (c : Dev nD) (f : Words (F := F) c count) : BitVec 32 :=
  count.view.readAt (Elt F) (Rect.unit (s := S1) ![0] S1.size inb_S1_S1_0).toLoadRect f (Shape.Idx.first (numel1_S1.symm ▸ Nat.one_pos))
/-- A tile's first mark, as the body reads it. -/
abbrev firstWord (c : Dev nD) (i : grid0.Coords) (f : Words (F := F) c firsts) : BitVec 32 :=
  firsts.view.readAt (Elt F) (Rect.unit (s := S25) (k0_off2 i) S1.size (k0_off2_inb i)).toLoadRect f (Shape.Idx.first (numel1_S1.symm ▸ Nat.one_pos))
/-- The tile is in use; it is not; it is its expert's first. -/
abbrev InUse (c : Dev nD) (i : grid0.Coords) (f : Words (F := F) c count) : Prop := k0_cond1 i (countWord c f) = 1#1
abbrev Unused (c : Dev nD) (i : grid0.Coords) (f : Words (F := F) c count) : Prop := k0_cond3 i (countWord c f) = 1#1
abbrev IsFirst (c : Dev nD) (i : grid0.Coords) (f : Words (F := F) c firsts) : Prop :=
  (Scalar.cmpi .ne (Scalar.extui (Scalar.cmpi .eq (firstWord c i f) 1#32)) 0#32) = 1#1

section Bodies

variable (c : Dev nD) (i : grid0.Coords) (a5 : Memref sig .tc .vmem S1024x2816 .bf16) (h5 : a5.IsWhole)
  (a6 : Memref sig .tc .vmem S1x1x2816x512 .f32) (h6 : a6.IsWhole) (a7 : Memref sig .tc .vmem S1024x1 .f32) (h7 : a7.IsWhole)
  (a8 : Memref sig .tc .vmem S1024x512 .f32) (h8 : a8.IsWhole) (x : Vec F S1024x2816 .bf16) (g : Vec F S1x1x2816x512 .f32) (u : Vec F S1024x1 .f32)
  (te : Words (F := F) c experts) (fi : Words (F := F) c firsts) (na : Words (F := F) c count)

/-- The body at a point: the inputs' blocks, the output's buffer, the kept block and the tables; afterwards the output block `o` and the kept
    block `k0`. -/
def Step (p : Vec F S2816x512 .bf16) (o : Vec F S1024x512 .f32) (k0 : Vec F S2816x512 .bf16) : Prop :=
  ∀ (E : Set ℕ) (K : PUnit → sProp 𝕄),
    iprop(owns (c : Thread nD τ) a5 fullShare x ∗ owns (c : Thread nD τ) a6 fullShare g ∗ owns (c : Thread nD τ) a7 fullShare u
        ∗ (∃ d, owns (c : Thread nD τ) a8 fullShare d) ∗ owns (c : Thread nD τ) kept0 fullShare p
        ∗ half c experts te ∗ half c firsts fi ∗ half c count na
        ∗ (iprop(owns (c : Thread nD τ) a5 fullShare x ∗ owns (c : Thread nD τ) a6 fullShare g ∗ owns (c : Thread nD τ) a7 fullShare u
          ∗ owns (c : Thread nD τ) a8 fullShare o ∗ owns (c : Thread nD τ) kept0 fullShare k0
          ∗ half c experts te ∗ half c firsts fi ∗ half c count na) -∗ K ⟨⟩))
      ⊢ wp frame (wpE (defs₀ (F := F)) Variants.none c none) E
          (cc0__moe_down_body i experts (Memref.isWhole_whole _) firsts (Memref.isWhole_whole _) count (Memref.isWhole_whole _) a5 h5 a6 h6 a7 h7 a8 h8
            kept0 (Memref.isWhole_whole _)) K

set_option maxHeartbeats 1000000 in
/-- A first tile keeps its expert's block and computes with it. -/
theorem step_first (p : Vec F S2816x512 .bf16) (hn : InUse c i na) (hf : IsFirst c i fi) (hu : ¬ Unused c i na) :
    Step c i a5 h5 a6 h6 a7 h7 a8 h8 x g u te fi na p (k0_pay2 u x (k0_pay1 g)) (k0_pay1 g) := by
  intro E K
  simp only [cc0__moe_down_body_eq_skeleton]; unfold cc0__moe_down_body_skel
  unfold owns
  iintro ⟨⟨%f0, %hf0, H0⟩, ⟨%f1, %hf1, H1⟩, ⟨%f2, %hf2, H2⟩, ⟨%d3, %f3, -, H3⟩, ⟨%fs0, %hs0, HS0⟩, HT0, HT1, HT2, Hk⟩
  obtain rfl := h5.eq_unread hf0; obtain rfl := h6.eq_unread hf1; obtain rfl := h7.eq_unread hf2
  sl_exec (disch := first | sl_exact hn | sl_exact hf | sl_exact hu)
  sl_step
  iapply Hk
  isplitl [H0]
  · iexists _; isplitr; · ipureintro; exact h5.read_unread _
    iexact H0
  isplitl [H1]
  · iexists _; isplitr; · ipureintro; exact h6.read_unread _
    iexact H1
  isplitl [H2]
  · iexists _; isplitr; · ipureintro; exact h7.read_unread _
    iexact H2
  isplitl [H3]
  · iexists _; isplitr; swap; · iexact H3
    ipureintro
    dsimp only [step_first.sl.v16, step_first.sl.HS0_1]
    rw [read_whole _ off2, View.readCov_unit_zero _ off2, readAt_whole _ _ off2, readAt_whole _ _ off2, readAt_whole _ _ off4]
  isplitl [HS0]
  · iexists _; isplitr; swap; · iexact HS0
    ipureintro
    dsimp only [step_first.sl.HS0_1]
    rw [read_whole _ off2, readAt_whole _ _ off4]
  isplitl [HT0]; · iexact HT0
  isplitl [HT1]; · iexact HT1
  iexact HT2

set_option maxHeartbeats 1000000 in
/-- Every other tile in use computes with the block kept. -/
theorem step_next (p : Vec F S2816x512 .bf16) (hn : InUse c i na) (hf : ¬ IsFirst c i fi) (hu : ¬ Unused c i na) :
    Step c i a5 h5 a6 h6 a7 h7 a8 h8 x g u te fi na p (k0_pay2 u x p) p := by
  intro E K
  simp only [cc0__moe_down_body_eq_skeleton]; unfold cc0__moe_down_body_skel
  unfold owns
  iintro ⟨⟨%f0, %hf0, H0⟩, ⟨%f1, %hf1, H1⟩, ⟨%f2, %hf2, H2⟩, ⟨%d3, %f3, -, H3⟩, ⟨%fs0, %hs0, HS0⟩, HT0, HT1, HT2, Hk⟩
  obtain rfl := h5.eq_unread hf0; obtain rfl := h6.eq_unread hf1; obtain rfl := h7.eq_unread hf2
  obtain rfl := (Memref.isWhole_whole _ : kept0.IsWhole).eq_unread hs0
  sl_exec (disch := first | sl_exact hn | sl_exact hf | sl_exact hu)
  sl_step
  iapply Hk
  isplitl [H0]
  · iexists _; isplitr; · ipureintro; exact h5.read_unread _
    iexact H0
  isplitl [H1]
  · iexists _; isplitr; · ipureintro; exact h6.read_unread _
    iexact H1
  isplitl [H2]
  · iexists _; isplitr; · ipureintro; exact h7.read_unread _
    iexact H2
  isplitl [H3]
  · iexists _; isplitr; swap; · iexact H3
    ipureintro
    rw [read_whole _ off2, readAt_whole _ _ off2, readAt_whole _ _ off2]
    have e0 := readAt_whole kept0 (Memref.isWhole_whole _) off2 inb_S2816x512_S2816x512_0_0 p
    exact congrArg (fun a => k0_pay2 u x a) e0
  isplitl [HS0]
  · iexists _; isplitr; swap; · iexact HS0
    ipureintro; exact (Memref.isWhole_whole _ : kept0.IsWhole).read_unread _
  isplitl [HT0]; · iexact HT0
  isplitl [HT1]; · iexact HT1
  iexact HT2

set_option maxHeartbeats 1000000 in
/-- A tile that is not in use leaves a block of zeros. -/
theorem step_unused (p : Vec F S2816x512 .bf16) (hn : ¬ InUse c i na) (hu : Unused c i na) :
    Step c i a5 h5 a6 h6 a7 h7 a8 h8 x g u te fi na p k0_pay3 p := by
  intro E K
  simp only [cc0__moe_down_body_eq_skeleton]; unfold cc0__moe_down_body_skel
  unfold owns
  iintro ⟨⟨%f0, %hf0, H0⟩, ⟨%f1, %hf1, H1⟩, ⟨%f2, %hf2, H2⟩, ⟨%d3, %f3, -, H3⟩, ⟨%fs0, %hs0, HS0⟩, HT0, HT1, HT2, Hk⟩
  obtain rfl := h5.eq_unread hf0; obtain rfl := h6.eq_unread hf1; obtain rfl := h7.eq_unread hf2
  obtain rfl := (Memref.isWhole_whole _ : kept0.IsWhole).eq_unread hs0
  sl_exec (disch := first | sl_exact hn | sl_exact hu)
  sl_step
  iapply Hk
  isplitl [H0]
  · iexists _; isplitr; · ipureintro; exact h5.read_unread _
    iexact H0
  isplitl [H1]
  · iexists _; isplitr; · ipureintro; exact h6.read_unread _
    iexact H1
  isplitl [H2]
  · iexists _; isplitr; · ipureintro; exact h7.read_unread _
    iexact H2
  isplitl [H3]
  · iexists _; isplitr; swap; · iexact H3
    ipureintro
    exact read_whole _ off2 _ _ _
  isplitl [HS0]
  · iexists _; isplitr; swap; · iexact HS0
    ipureintro; exact (Memref.isWhole_whole _ : kept0.IsWhole).read_unread _
  isplitl [HT0]; · iexact HT0
  isplitl [HT1]; · iexact HT1
  iexact HT2

end Bodies

end Cert.MoeDownIdeal.Blocks
-- ==== Proof.MoeDownRun.lean ====
/- The routed down projection: the run of the whole program, point by point, from the body's three cases. -/
module

public import proofs.«01_k».proof.Proof.MoeDownBody
public import Idealize.ShloMosaic.Lib.Claim

@[expose] public section

set_option maxRecDepth 16384

noncomputable section

namespace Cert.MoeDownIdeal.Blocks

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)
open Cert.MoeDownIdeal Cert.MoeDownIdeal.Gen Cert.Dense

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What a core's buffers hold when the call starts: after the host operations. -/
abbrev V (c : Dev nD) (b : Ref sig .tc) : Buf (Elt F) ((c : Thread nD τ).loc b) := StableHlo.after hostOps0 (fun b => m (c, b)) b

/-- No host operation needs a fresh buffer. -/
theorem hostOps0_fresh : (hostOps0 : List (HloOp τ sig (Elt F))).Forall fun op => op.fresh = ∅ := by
  simp only [List.Forall]; repeat' constructor

set_option maxHeartbeats 800000 in
/-- The program up to the call: its host operations, then the call. -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub hostOps0_fresh main_chain

/-- No host operation writes an argument. -/
theorem V_arg (c : Dev nD) (b : Ref sig .tc) (hb : b ∈ [main_arg0, main_arg1, main_arg2, main_arg3, main_arg4]) :
    V m c b = m ((c : Thread nD τ).loc b) :=
  StableHlo.after_of_forall_not_mem (b := Proc.devRef .tc b) _ _ (List.forall_iff_forall_mem.mp (by
    simp only [List.Forall, StableHlo.nullary_writes, StableHlo.unary_writes, StableHlo.binary_writes, StableHlo.ternary_writes,
      StableHlo.reshape_writes, Finset.mem_singleton]
    repeat' apply And.intro
    all_goals exact StableHlo.devRef_ne_of_ne (fun e => by rw [e] at hb; revert hb; decide)))

/-- The tables' contents when the call starts. -/
def tbl : pre0.Contents (Elt F) := fun j => V m (0 : Dev nD) (pre0.ref j)
/-- Every device's tables hold those contents, there being one device. -/
theorem V_pre (c : Dev nD) (j : Fin 3) : V m c (pre0.ref j) = tbl m j := by
  obtain rfl : c = 0 := Subsingleton.elim _ _; rfl
/-- The words in the tables name blocks inside the arrays. -/
abbrev Ok : Prop := ok0 (F := F) (tbl m)
/-- The pipeline at the tables' contents. -/
abbrev adm (hO : Ok m) : (pcfg0 (F := F)).Adm := ⟨tbl m, hO⟩
abbrev cfgM (hO : Ok m) : Pipeline.Cfg sig Λ₀ := cfg0 (adm m hO)

/-- The tables' halves that the body may read, one by one. -/
theorem tables_eq (c : Dev nD) : (Pipeline.ΦT pre0 (tbl m) c : sProp 𝕄) = iprop(half c experts (tbl m 0) ∗ half c firsts (tbl m 1) ∗ half c count (tbl m 2)) := by
  unfold Pipeline.ΦT Pipeline.prefHeld
  rw [show (Finset.univ : Finset (Fin 3)) = insert (0 : Fin 3) (insert (1 : Fin 3) {(2 : Fin 3)}) from by decide,
    bigSep_insert (by decide), bigSep_insert (by decide), bigSep_singleton]
  rfl

/-- The buffers no window stages, at any contents, and the generator's register. -/
theorem scoped_eq (c : Dev nD) :
    (Pipeline.ΦA spec0 c : sProp 𝕄)
      = iprop(iprop((∃ d, owns (c : Thread nD τ) kept0 fullShare d)) ∗ (∃ r, prngReg c r)) := by
  unfold Pipeline.ΦA; rw [scopedRest0_eq]; simp only [kept0, owns_whole]; try rfl

/-- A window's block at a point, in its array as the call finds it. -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- Input 0's staging buffer holds its block at every point. -/
theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input 1's staging buffer holds its block at every point. -/
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input 2's staging buffer holds its block at every point. -/
theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Each window's staging buffer at a point. -/
abbrev ms0_0 (hO : Ok m) (t : Fin (cfgM m hO).N) : Memref sig .tc .vmem S1024x2816 .bf16 := spec0_0.stage ((cfgM m hO).slots t 0)
abbrev ms0_1 (hO : Ok m) (t : Fin (cfgM m hO).N) : Memref sig .tc .vmem S1x1x2816x512 .f32 := spec0_1.stage ((cfgM m hO).slots t 1)
abbrev ms0_2 (hO : Ok m) (t : Fin (cfgM m hO).N) : Memref sig .tc .vmem S1024x1 .f32 := spec0_2.stage ((cfgM m hO).slots t 2)
abbrev ms0_3 (hO : Ok m) (t : Fin (cfgM m hO).N) : Memref sig .tc .vmem S1024x512 .f32 := spec0_3.stage ((cfgM m hO).slots t 3)

/-- The body as the pipeline calls it at a point. -/
abbrev bodyAt (hO : Ok m) (t : Fin (cfgM m hO).N) : Prog (TpuEff nD τ sig (Elt F) Λ₀ .tc) PUnit :=
  cc0__moe_down_body (grid0.coords t) experts (Memref.isWhole_whole _) firsts (Memref.isWhole_whole _) count (Memref.isWhole_whole _)
    (ms0_0 m hO t) (hstage0_0 (((cfgM m hO).slots t 0).cast nbuf0_0)) (ms0_1 m hO t) (hstage0_1 (((cfgM m hO).slots t 1).cast nbuf0_1))
    (ms0_2 m hO t) (hstage0_2 (((cfgM m hO).slots t 2).cast nbuf0_2)) (ms0_3 m hO t) (hstage0_3 (((cfgM m hO).slots t 3).cast nbuf0_3))
    kept0 (Memref.isWhole_whole _)

/-- What the body leaves in the output's buffer at a point: the tile's product with the rows' weights, or zeros when the tile is not in use. -/
def made (hO : Ok m) (c : Dev nD) (t : Fin (cfgM m hO).N) : Vec F S1024x512 .f32 :=
  if InUse c (grid0.coords t) (tbl m 2) then k0_pay2 (iblk m hO c 2 t) (iblk m hO c 0 t) (k0_pay1 (iblk m hO c 1 t)) else k0_pay3

/-- After a point in use the kept buffer holds that point's weight block. -/
def Held (hO : Ok m) (c : Dev nD) (t : Fin ((cfgM m hO).N + 1)) (p : Vec F S2816x512 .bf16) : Prop :=
  ∀ s : Fin (cfgM m hO).N, s.val + 1 = t.val → InUse c (grid0.coords s) (tbl m 2) → p = k0_pay1 (iblk m hO c 1 s)

/-- A point in use that is not its expert's first comes after a point in use with the same weight block. -/
def Steady (hO : Ok m) : Prop :=
  ∀ (c : Dev nD) (t : Fin (cfgM m hO).N), InUse c (grid0.coords t) (tbl m 2) → ¬ IsFirst c (grid0.coords t) (tbl m 1) →
    ∃ s : Fin (cfgM m hO).N, s.val + 1 = t.val ∧ InUse c (grid0.coords s) (tbl m 2)
      ∧ k0_pay1 (iblk m hO c 1 s) = k0_pay1 (iblk m hO c 1 t)

/-- What holds between the points: the kept buffer, the generator's register and the tables. -/
def between (hO : Ok m) (c : Dev nD) (t : Fin ((cfgM m hO).N + 1)) : sProp 𝕄 :=
  iprop((∃ p, ⌜Held m hO c t p⌝ ∗ owns (c : Thread nD τ) kept0 fullShare p)
    ∗ (∃ r, prngReg c r) ∗ Pipeline.ΦT pre0 (tbl m) c)

/-- The run's data: the arrays as the call finds them, what each point leaves, and what holds between the points. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => made m hO c t
  Φ t := between m hO c t
  q _ := fullShare
  owed _ := 0

/-- The data's arrays are those the call finds. -/
theorem A_eq (hO : Ok m) (c : Dev nD) (w : Fin (cfgM m hO).W) : (dats m hO 0 c).A w = V m c (Pipeline.arrRef spec0 w) := by
  dsimp only [dats]

/-- What the body leaves, window by window. -/
theorem after_0 (hO : Ok m) (c : Dev nD) (t : Fin (cfgM m hO).N) : (dats m hO 0 c).after 0 t = iblk m hO c 0 t := by dsimp only [dats]; try rfl
theorem after_1 (hO : Ok m) (c : Dev nD) (t : Fin (cfgM m hO).N) : (dats m hO 0 c).after 1 t = iblk m hO c 1 t := by dsimp only [dats]; try rfl
theorem after_2 (hO : Ok m) (c : Dev nD) (t : Fin (cfgM m hO).N) : (dats m hO 0 c).after 2 t = iblk m hO c 2 t := by dsimp only [dats]; try rfl
theorem after_3 (hO : Ok m) (c : Dev nD) (t : Fin (cfgM m hO).N) : (dats m hO 0 c).after 3 t = made m hO c t := by dsimp only [dats]; try rfl

/-- What the body finds, window by window. -/
theorem before_0 (hO : Ok m) (c : Dev nD) (t : Fin (cfgM m hO).N) (d) : (dats m hO 0 c).before 0 t d = iblk m hO c 0 t :=
  before0_0_of m hO (dats m hO 0 c) (A_eq m hO c 0) (after_0 m hO c) t d
theorem before_1 (hO : Ok m) (c : Dev nD) (t : Fin (cfgM m hO).N) (d) : (dats m hO 0 c).before 1 t d = iblk m hO c 1 t :=
  before0_1_of m hO (dats m hO 0 c) (A_eq m hO c 1) (after_1 m hO c) t d
theorem before_2 (hO : Ok m) (c : Dev nD) (t : Fin (cfgM m hO).N) (d) : (dats m hO 0 c).before 2 t d = iblk m hO c 2 t :=
  before0_2_of m hO (dats m hO 0 c) (A_eq m hO c 2) (after_2 m hO c) t d

/-- A tile is in use or it is not, and the body's two conditions say which. -/
theorem unused_iff (i : grid0.Coords) (w : BitVec 32) : k0_cond3 i w = 1#1 ↔ ¬ k0_cond1 i w = 1#1 := by
  unfold k0_cond3 k0_cond1
  show Scalar.cmpi .ne (Scalar.extui (BitVec.ofBool (decide (w.toInt ≤ (BitVec.ofNat 32 (i 1).val).toInt)))) 0#32 = 1#1
    ↔ ¬ Scalar.cmpi .ne (Scalar.extui (BitVec.ofBool (decide ((BitVec.ofNat 32 (i 1).val).toInt < w.toInt)))) 0#32 = 1#1
  by_cases h : w.toInt ≤ (BitVec.ofNat 32 (i 1).val).toInt
  · rw [decide_eq_true h, decide_eq_false (not_lt.mpr h)]; decide
  · rw [decide_eq_false h, decide_eq_true (not_le.mp h)]; decide

/-- At no point is the output's buffer left as it was, whatever the tables hold. -/
theorem idle_table (T : pre0.Contents (Elt F)) (i : grid0.Coords) : idle0 T 3 i = false := by
  dsimp only [idle0]
  simp only [Bool.and_eq_false_iff, Bool.not_eq_false', beq_iff_eq]
  exact or_iff_not_imp_left.mpr fun h => (unused_iff _ _).mpr h

/-- No point leaves the output's buffer as it was. -/
theorem idle_at (a : (pcfg0 (F := F)).Adm) (i : grid0.Coords) : (cfg0 a).idle 3 i = false := by
  rw [show (cfg0 a).idle 3 i = idle0 a.1 3 i from rfl]
  exact idle_table a.1 i

/-- No point of this run leaves the output's buffer as it was. -/
theorem never_idle (hO : Ok m) (i : grid0.Coords) : (cfgM m hO).idle 3 i = false := idle_at (adm m hO) i

/-- What the body is called with at a point. -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare ((dats m hO 0 c).before 3 t d)))

/-- And what it returns. -/
def bodyPost (hO : Ok m) (c : Dev nD) (t : Fin (cfgM m hO).N) : sProp 𝕄 :=
  iprop((dats m hO 0 c).Φ t.succ ∗ (dats m hO 0 c).owesAt () t.succ
    ∗ owns (c : Thread nD τ) (ms0_0 m hO t) fullShare ((dats m hO 0 c).after 0 t)
    ∗ owns (c : Thread nD τ) (ms0_1 m hO t) fullShare ((dats m hO 0 c).after 1 t)
    ∗ owns (c : Thread nD τ) (ms0_2 m hO t) fullShare ((dats m hO 0 c).after 2 t)
    ∗ owns (c : Thread nD τ) (ms0_3 m hO t) fullShare ((dats m hO 0 c).after 3 t))

/-- The body at a point, from the case the point is in: whatever the kept buffer held, it makes the point's block and keeps what the
    next point may need. -/
theorem body_of_step (hO : Ok m) (c : Dev nD) (t : Fin (cfgM m hO).N)
    (h : ∀ p, Held m hO c t.castSucc p → ∃ k0, Held m hO c t.succ k0
      ∧ Step c (grid0.coords t) (ms0_0 m hO t) (hstage0_0 (((cfgM m hO).slots t 0).cast nbuf0_0)) (ms0_1 m hO t) (hstage0_1 (((cfgM m hO).slots t 1).cast nbuf0_1))
        (ms0_2 m hO t) (hstage0_2 (((cfgM m hO).slots t 2).cast nbuf0_2)) (ms0_3 m hO t) (hstage0_3 (((cfgM m hO).slots t 3).cast nbuf0_3))
        (iblk m hO c 0 t) (iblk m hO c 1 t) (iblk m hO c 2 t) (tbl m 0) (tbl m 1) (tbl m 2) p (made m hO c t) k0) :
    bodyPre m hO c t ⊢ wp frame (wpE (defs₀ (F := F)) Variants.none c none) Set.univ (bodyAt m hO t) (fun _ => bodyPost m hO c t) := by
  unfold bodyPre bodyPost bodyAt
  simp only [before_0, before_1, before_2]
  rw [show (dats m hO 0 c).owesAt () t.succ = (dats m hO 0 c).owesAt () t.castSucc from rfl, after_0, after_1, after_2, after_3]
  rw [show (dats m hO 0 c).Φ t.castSucc = between m hO c t.castSucc from rfl, show (dats m hO 0 c).Φ t.succ = between m hO c t.succ from rfl]
  unfold between
  rw [tables_eq]
  iintro ⟨⟨⟨%p, %hp, HS0⟩, Hg, HT0, HT1, HT2⟩, Ho, ⟨%d0, H0⟩, ⟨%d1, H1⟩, ⟨%d2, H2⟩, ⟨%d3, H3⟩⟩
  obtain ⟨k0, hk, hs⟩ := h p hp
  iapply (hs Set.univ _)
  isplitl [H0]; · iexact H0
  isplitl [H1]; · iexact H1
  isplitl [H2]; · iexact H2
  isplitl [H3]; · iexists _; iexact H3
  isplitl [HS0]; · iexact HS0
  isplitl [HT0]; · iexact HT0
  isplitl [HT1]; · iexact HT1
  isplitl [HT2]; · iexact HT2
  iintro ⟨H0, H1, H2, H3, HS0, HT0, HT1, HT2⟩
  isplitl [HS0 Hg HT0 HT1 HT2]
  · isplitl [HS0]
    · iexists k0
      isplitr; · ipureintro; exact hk
      iexact HS0
    isplitl [Hg]; · iexact Hg
    isplitl [HT0]; · iexact HT0
    isplitl [HT1]; · iexact HT1
    iexact HT2
  isplitl [Ho]; · iexact Ho
  isplitl [H0]; · iexact H0
  isplitl [H1]; · iexact H1
  isplitl [H2]; · iexact H2
  iexact H3

set_option maxHeartbeats 1600000 in
/-- The body at every point, by the three cases. -/
theorem sound_body (hO : Ok m) (hS : Steady m hO) (c : Dev nD) (t : Fin (cfgM m hO).N) :
    bodyPre m hO c t ⊢ wp frame (wpE (defs₀ (F := F)) Variants.none c none) Set.univ (bodyAt m hO t) (fun _ => bodyPost m hO c t) := by
  refine body_of_step m hO c t fun p hp => ?_
  by_cases hn : InUse c (grid0.coords t) (tbl m 2)
  · have hu : ¬ Unused c (grid0.coords t) (tbl m 2) := fun h => (unused_iff _ _).mp h hn
    have hmade : made m hO c t = k0_pay2 (iblk m hO c 2 t) (iblk m hO c 0 t) (k0_pay1 (iblk m hO c 1 t)) := if_pos hn
    have hheld : Held m hO c t.succ (k0_pay1 (iblk m hO c 1 t)) := fun s hs _ => by
      obtain rfl : s = t := Fin.ext (Nat.succ.inj hs)
      exact rfl
    refine ⟨_, hheld, ?_⟩
    rw [hmade]
    by_cases hf : IsFirst c (grid0.coords t) (tbl m 1)
    · exact step_first c _ _ _ _ _ _ _ _ _ _ _ _ _ _ _ p hn hf hu
    · obtain ⟨s, hs, hsn, e1⟩ := hS c t hn hf
      have hk := hp s (hs.trans (Fin.val_castSucc t).symm) hsn
      obtain rfl : p = _ := hk.trans e1
      exact step_next c _ _ _ _ _ _ _ _ _ _ _ _ _ _ _ _ hn hf hu
  · refine ⟨p, fun s hs hsn => absurd ?_ hn, ?_⟩
    · obtain rfl : s = t := Fin.ext (Nat.succ.inj hs)
      exact hsn
    · rw [show made m hO c t = k0_pay3 from if_neg hn]
      exact step_unused c _ _ _ _ _ _ _ _ _ _ _ _ _ _ _ p hn ((unused_iff _ _).mpr hn)

/-- The pipeline's row for the body is the body at the point. -/
theorem defs₀_row (hO : Ok m) (t : Fin (cfgM m hO).N) :
    defs₀ (F := F) .tc (cfgM m hO).body ((cfgM m hO).bodyArgs t ((cfgM m hO).slots t)) = bodyAt m hO t := by
  unfold defs₀; rw [Defs.onTc_tc]

/-- What the run asks of the body, at every point. -/
theorem body_obligation (hO : Ok m) (hS : Steady m hO) (c : Dev nD) :
    BodyObligation (dats (F := F) m hO 0 c) (defs₀ (F := F)) Variants.none () Set.univ := fun t => by
  rw [bigSep_W0, bigSep_W0, defs₀_row m hO]
  refine triple_restated (sound_body m hO hS c t) rfl .rfl fun _ => ?_
  unfold bodyPost
  rw [never_idle]

/-- The kept buffer at any contents holds what nothing has asked of it yet. -/
theorem starts (hO : Ok m) (c : Dev nD) : iprop(Pipeline.ΦA spec0 c ∗ Pipeline.ΦT pre0 (tbl m) c) ⊢ (dats m hO 0 c).Φ 0 := by
  rw [show (dats m hO 0 c).Φ 0 = between m hO c 0 from rfl, scoped_eq]
  unfold between
  iintro ⟨⟨⟨%p, HS0⟩, Hg⟩, HT⟩
  isplitl [HS0]
  · iexists p
    isplitr; · ipureintro; exact fun s hs => absurd hs (Nat.succ_ne_zero _)
    iexact HS0
  isplitl [Hg]; · iexact Hg
  iexact HT

/-- After the last point the kept buffer is given back. -/
theorem ends (hO : Ok m) (c : Dev nD) : (dats m hO 0 c).Φ (Fin.last (cfgM m hO).N) ⊢ Pipeline.ΦA spec0 c := by
  rw [show (dats m hO 0 c).Φ (Fin.last (cfgM m hO).N) = between m hO c (Fin.last _) from rfl, scoped_eq]
  unfold between
  iintro ⟨⟨%p, %hp, HS0⟩, Hg, HT⟩
  isplitl [HS0]
  · iexists p; iexact HS0
  iexact Hg

set_option backward.isDefEq.respectTransparency.types false in
/-- The whole run: every array ends as the data says, every other buffer as the call found it, every counter at zero. -/
theorem run_main (hO : Ok m) (hS : Steady m hO) : θ_run defs (onTc (τ := τ) (main (F := F))) (s₀ m ρ)
    (fun r => Pipeline.FramePost (Pipeline.pin pcfgs fun _ => adm m hO) (dats m hO) 0 (V m) r ∧ r.2.sem = fun _ => 0) :=
  Pipeline.θ_run_frameP_track (Q' := _) pcfgs (fun _ => adm m hO) (dats m hO) (0 : Fin 1) launch0 defs₀ Variants.none m ρ main
    (hbody := fun c => (body_obligation m hO hS c).loose) (hshare := fun c => (dats m hO 0 c).share_full fun _ => rfl)
    (howed := fun _ _ => rfl) (V := V m) (hmain := hmain m Variants.none) (hA := A_eq m hO) (hpf := V_pre m)
    (hin := starts m hO) (hout := ends m hO) (hQ' := fun _ h => h)

end Cert.MoeDownIdeal.Blocks

end
-- ==== Proof.MoeDownTables.lean ====
/- The routed down projection: what the three tables hold, and the conditions the run asks of them. -/
module

public import proofs.«01_k».proof.Proof.MoeDownRun
public import proofs.«01_k».proof.Proof.MoeTables
public import proofs.«01_k».proof.Pre_routed_down
public import Idealize.ShloMosaic.Lib.Routing.OpsSearch
public import Idealize.ShloMosaic.Lib.Pipeline.Value
public import Idealize.ShloMosaic.Lib.WordCmp
public import Idealize.ShloMosaic.Lib.Affine

@[expose] public section

set_option maxRecDepth 16384

noncomputable section

namespace Cert.MoeDownIdeal.Blocks

open Idealize.ShloMosaic Idealize.ShloMosaic.TcCoe Idealize.ShloMosaic.Tactic Idealize.SL.Sem
open Cert.MoeDownIdeal Cert.MoeDownIdeal.Gen
open Cert.MoeUpIdeal.Blocks (at25 at1 Routed word_range bits_both one_of last_word min_word toNat_word not_neg_word tileOf tileOf_lt lastOf wordOf
  at_index mark_eq)

section Pre
variable {F : FTy → Type} [FloatOps F] [Cert.Pre_routed_down.Facts]

/-- The stated precondition says so. -/
theorem routed_of_pre {x0 : FVec F Cert.Pre_routed_down.S25600x2816 .f32} {x1 : FVec F Cert.Pre_routed_down.S2x8x2816x2048 .f32} {x2 : FVec F Cert.Pre_routed_down.S25600x1 .f32} {te : IVec S25 32}
    {na : IVec S1 32} (h : Cert.Pre_routed_down.fn x0 x1 x2 te na = fun _ => 1#1) : Routed te na := by
  have hi : ∀ i : Fin 25, (0 ≤ (te (at25 i)).toInt ∧ (te (at25 i)).toInt < 8) ∧ (1 ≤ (na at1).toInt ∧ (na at1).toInt ≤ 25) := fun i => by
    have e := congrFun h (at25 i)
    obtain ⟨e1, e2⟩ := bits_both _ _ e
    obtain ⟨a, b⟩ := bits_both _ _ e1
    rw [broadcastInDim_apply _ _ _ _ at1 (fun a => by match a with | ⟨0, _⟩ => rfl)] at e2
    obtain ⟨p, q⟩ := bits_both _ _ e2
    exact ⟨⟨one_of _ a, one_of _ b⟩, one_of _ p, one_of _ q⟩
  refine ⟨fun i => ?_, ?_, ?_⟩
  · have := (word_range (te (at25 i)) 0#32 7#32 (by decide) (by decide) (hi i).1.1 (by have := (hi i).1.2; show _ ≤ (7 : Int); omega)).2
    exact Nat.lt_succ_of_le this
  · exact (word_range (na at1) 1#32 25#32 (by decide) (by decide) (hi 0).2.1 (hi 0).2.2).1
  · exact (word_range (na at1) 1#32 25#32 (by decide) (by decide) (hi 0).2.1 (hi 0).2.2).2

end Pre

section Tables
variable {F : FTy → Type} [FloatOps F]
variable (m : (ℓ : Loc nD τ sig) → Buf (Elt F) ℓ) (c : Dev nD)

abbrev teOf : IVec S25 32 := m ((c : Thread nD τ).loc main_arg3)
abbrev naOf : IVec S1 32 := m ((c : Thread nD τ).loc main_arg4)

/-- The table of experts: a tile's expert, for a tile past the last one in use the last one's. -/
theorem entry_experts (hR : Routed (teOf m c) (naOf m c)) (i : Fin 25) :
    (V m c main_v17 : IVec S25 32) (at25 i) = teOf m c (at25 ⟨tileOf (naOf m c) i.val, tileOf_lt _ _ i.isLt⟩) := by
  have h : (V m c main_v17 : IVec S25 32) = Host.gather gather_S25_S25x1_S25_n_0_n_n_0_1_1 (teOf m c) (broadcastInDim S25x1 ![0] bcast_S25_S25x1_0
      (select (cmpi .slt (minsi (iotaInDim S25 32 0) (broadcastInDim S25 ![] bcast_S_S25 (subi (shapeCast S_ (naOf m c) shapeCasts_S1_S_) (constantI S_ 32 1#32))))
          (broadcastInDim S25 ![] bcast_S_S25 (constantI S_ 32 0#32)))
        (addi (minsi (iotaInDim S25 32 0) (broadcastInDim S25 ![] bcast_S_S25 (subi (shapeCast S_ (naOf m c) shapeCasts_S1_S_) (constantI S_ 32 1#32))))
          (broadcastInDim S25 ![] bcast_S_S25 (constantI S_ 32 25#32)))
        (minsi (iotaInDim S25 32 0) (broadcastInDim S25 ![] bcast_S_S25 (subi (shapeCast S_ (naOf m c) shapeCasts_S1_S_) (constantI S_ 32 1#32)))))) := by
    simp only [V, hostOps0]; after_results; rfl
  rw [h]
  have hlt := tileOf_lt (naOf m c) i.val i.isLt
  have hm : minsi (iotaInDim S25 32 0) (broadcastInDim S25 ![] bcast_S_S25 (subi (shapeCast S_ (naOf m c) shapeCasts_S1_S_) (constantI S_ 32 1#32))) (at25 i)
      = BitVec.ofNat 32 (tileOf (naOf m c) i.val) := by
    refine Eq.trans ?_ (min_word i.val ((naOf m c at1).toNat - 1) (by omega) (by have := hR.le; omega))
    refine congrArg (IntOp.minsi (BitVec.ofNat 32 i.val)) ?_
    refine Eq.trans ?_ (last_word _ hR.pos hR.le)
    refine congrArg (fun j => naOf m c j - 1#32) ?_
    exact funext fun a => by match a with | ⟨0, _⟩ => exact Subsingleton.elim (α := Fin 1) _ _
  refine Idealize.ShloMosaic.Routing.take_ap _ rfl rfl rfl rfl (teOf m c) _ i hlt (by omega) ?_
  refine (broadcastInDim_apply _ _ _ _ (at25 i) (fun a => by match a with | ⟨0, _⟩ => rfl)).trans ?_
  rw [WordCmp.select_at, WordCmp.cmpi_at, hm]
  rw [show broadcastInDim S25 ![] bcast_S_S25 (constantI S_ 32 0#32) (at25 i) = 0#32 from rfl, not_neg_word _ (by omega)]
  rfl

/-- The table of firsts at a tile after the first: the marks of a change of expert. -/
theorem entry_firsts (i : Fin 24) : (V m c main_v5 : IVec S25 32) (at25 ⟨i.val + 1, by omega⟩)
    = (IntOp.cmpi .ne (teOf m c (at25 ⟨i.val + 1, by omega⟩)) (teOf m c (at25 ⟨i.val, by omega⟩))).setWidth 32 := by
  have h : (V m c main_v5 : IVec S25 32) = concatenate S25 0 [⟨S1, broadcastInDim S1 ![] bcast_S_S1 (constantI S_ 32 1#32)⟩,
      ⟨S24, extui 32 (cmpi .ne (extractStridedSlice S24 ![1] (teOf m c) slices_S25_S24_1) (extractStridedSlice S24 ![0] (teOf m c) slices_S25_S24_0)) natLt_1_32⟩]
      concatenates_S1_S24_S25_d0 := by
    simp only [V, hostOps0]; after_results
  rw [h, concatenate_pair_apply_right (t := S25) 0 _ _ concatenates_S1_S24_S25_d0 _ rfl rfl (ValueIdx.ix1 i : S24.Idx)
    (fun b hb => by match b with | ⟨0, _⟩ => exact absurd rfl hb) rfl]
  refine congrArg₂ (fun a b => (IntOp.cmpi .ne (teOf m c a) (teOf m c b)).setWidth 32) ?_ ?_
  · exact funext fun a => by match a with | ⟨0, _⟩ => exact Fin.ext (Nat.add_comm _ _)
  · exact funext fun a => by match a with | ⟨0, _⟩ => exact Fin.ext (Nat.zero_add _)

/-- The first tile is its expert's first. -/
theorem entry_first : (V m c main_v5 : IVec S25 32) (at25 0) = 1#32 := by
  have h : (V m c main_v5 : IVec S25 32) = concatenate S25 0 [⟨S1, broadcastInDim S1 ![] bcast_S_S1 (constantI S_ 32 1#32)⟩,
      ⟨S24, extui 32 (cmpi .ne (extractStridedSlice S24 ![1] (teOf m c) slices_S25_S24_1) (extractStridedSlice S24 ![0] (teOf m c) slices_S25_S24_0)) natLt_1_32⟩]
      concatenates_S1_S24_S25_d0 := by
    simp only [V, hostOps0]; after_results
  rw [h, concatenate_pair_apply_left (t := S25) 0 _ _ concatenates_S1_S24_S25_d0 _ rfl at1 (fun b => by match b with | ⟨0, _⟩ => rfl)]
  rfl

theorem coords_eq : ∀ t : Fin grid0.N, (grid0.coords t 0).val = t.val / 25 ∧ (grid0.coords t 1).val = t.val % 25 := by decide +kernel
theorem coord0_lt (i : grid0.Coords) : (i 0).val < 4 := (i 0).isLt
theorem coord1_lt (i : grid0.Coords) : (i 1).val < 25 := (i 1).isLt

/-- The tile a point's blocks belong to, and its expert. -/
def tileAt (i : grid0.Coords) : Fin 25 := ⟨tileOf (naOf m 0) (i 1).val, tileOf_lt _ _ (coord1_lt i)⟩
def expertAt (i : grid0.Coords) : ℕ := (teOf m 0 (at25 (tileAt m i))).toNat

theorem map0_word (T : pre0.Contents (Elt F)) (i : grid0.Coords) : cc0_transform_0 inb_S1_S1_0 numel1_S1 T i = ![lastOf (wordOf (T 2)) (i 1).val, 0] := by
  have h : ∀ f : IVec S1 32, f ((Rect.unit (s := S1) ![0] S1.size inb_S1_S1_0).emb (Shape.Idx.first (numel1_S1.symm ▸ Nat.one_pos))) = wordOf f := fun f =>
    congrArg f (funext fun a => by match a with | ⟨0, _⟩ => exact Subsingleton.elim (α := Fin 1) _ _)
  exact congrArg (fun w => ![lastOf w (i 1).val, 0]) (h (T 2))

/-- The row block of the activations at a point. -/
theorem map0 (hR : Routed (teOf m 0) (naOf m 0)) (i : grid0.Coords) : cc0_transform_0 inb_S1_S1_0 numel1_S1 (tbl m) i = ![(tileAt m i).val, 0] := by
  have h1 := coord1_lt i
  have e : lastOf (naOf m 0 at1) (i 1).val = (tileAt m i).val := by
    have e := (congrArg (IntOp.minsi (BitVec.ofNat 32 (i 1).val)) (last_word _ hR.pos hR.le)).trans
      (min_word (i 1).val ((naOf m 0 at1).toNat - 1) (by omega) (by have := hR.le; omega))
    exact (congrArg BitVec.toNat e).trans (toNat_word _ (by have := (tileAt m i).isLt; exact Nat.lt_trans this (by decide)))
  have ew : wordOf (tbl m 2) = naOf m 0 at1 := congrFun (V_arg m 0 main_arg4 (by simp)) at1
  rw [map0_word, ew, e]

/-- The experts' table at a point. -/
theorem map_expert (hR : Routed (teOf m 0) (naOf m 0)) (i : grid0.Coords) (j : S25.Idx) (hj : (j 0).val = (i 1).val) :
    ((V m 0 main_v17 : IVec S25 32) j).toNat = expertAt m i := by
  have e : j = at25 ⟨(i 1).val, coord1_lt i⟩ := funext fun a => by match a with | ⟨0, _⟩ => exact Fin.ext hj
  rw [e, entry_experts m 0 hR]
  rfl

/-- The weight's block at a point. -/
theorem map1 (hR : Routed (teOf m 0) (naOf m 0)) (i : grid0.Coords) :
    cc0_transform_1 k0_off1_inb numel1_S1 (tbl m) i = ![0, expertAt m i, 0, (i 0).val] := by
  have h0 := coord0_lt i
  refine Eq.trans (b := ![0, expertAt m i, 0, (BitVec.ofNat 32 (i 0).val).toNat]) ?_ (congrArg (fun a => ![0, expertAt m i, 0, a]) (toNat_word _ (by omega)))
  refine congrArg (fun a => ![0, a, 0, (BitVec.ofNat 32 (i 0).val).toNat]) (map_expert m hR i _ ?_)
  exact at_index _ (coord1_lt i) _ (Nat.zero_lt_one)
/-- The block of the rows' weights at a point. -/
theorem map2 (hR : Routed (teOf m 0) (naOf m 0)) (i : grid0.Coords) : cc0_transform_2 inb_S1_S1_0 numel1_S1 (tbl m) i = ![(tileAt m i).val, 0] :=
  map0 m hR i

/-- Every block is inside its array. -/
theorem ok_of_routed (hR : Routed (teOf m 0) (naOf m 0)) : Ok m := by
  refine ⟨fun i => ?_, fun i => ?_, fun i => ?_⟩
  · have h : ∀ a, (cc0_transform_0 inb_S1_S1_0 numel1_S1 (tbl m) i a + 1) * S1024x2816.size a ≤ S25600x2816.size a := by
      rw [map0 m hR i]
      intro a
      have := (tileAt m i).isLt
      match a with
      | ⟨0, _⟩ => show ((tileAt m i).val + 1) * 1024 ≤ 25600; omega
      | ⟨1, _⟩ => show (0 + 1) * 2816 ≤ 2816; omega
    exact ⟨h, .inr (Affine.block_words_dvd (of_decide_eq_true rfl) (by decide))⟩
  · have h : ∀ a, (cc0_transform_1 k0_off1_inb numel1_S1 (tbl m) i a + 1) * S1x1x2816x512.size a ≤ S2x8x2816x2048.size a := by
      rw [map1 m hR i]
      intro a
      have he : expertAt m i < 8 := hR.expert _
      have h0 := coord0_lt i
      match a with
      | ⟨0, _⟩ => show (0 + 1) * 1 ≤ 2; omega
      | ⟨1, _⟩ => show (expertAt m i + 1) * 1 ≤ 8; omega
      | ⟨2, _⟩ => show (0 + 1) * 2816 ≤ 2816; omega
      | ⟨3, _⟩ => show ((i 0).val + 1) * 512 ≤ 2048; omega
    exact ⟨h, .inl rfl⟩
  · have h : ∀ a, (cc0_transform_2 inb_S1_S1_0 numel1_S1 (tbl m) i a + 1) * S1024x1.size a ≤ S25600x1.size a := by
      rw [map2 m hR i]
      intro a
      have := (tileAt m i).isLt
      match a with
      | ⟨0, _⟩ => show ((tileAt m i).val + 1) * 1024 ≤ 25600; omega
      | ⟨1, _⟩ => show (0 + 1) * 1 ≤ 1; omega
    exact ⟨h, .inl rfl⟩

/-! ## The points in use, and the blocks -/

theorem countWord_eq (f : Words (F := F) c count) : countWord c f = (f : IVec S1 32) at1 :=
  congrArg (f : IVec S1 32) (funext fun a => by match a with | ⟨0, _⟩ => exact Subsingleton.elim (α := Fin 1) _ _)
theorem firstWord_eq (i : grid0.Coords) (f : Words (F := F) c firsts) : firstWord c i f = (f : IVec S25 32) (at25 ⟨(i 1).val, coord1_lt i⟩) :=
  congrArg (f : IVec S25 32) (funext fun a => by match a with | ⟨0, _⟩ => exact Fin.ext (at_index _ (coord1_lt i) _ Nat.zero_lt_one))

/-- A point is in use when its tile is before the count. -/
theorem inUse_iff (hR : Routed (teOf m 0) (naOf m 0)) (i : grid0.Coords) : InUse c i (tbl m 2) ↔ (i 1).val < (naOf m 0 at1).toNat := by
  have h1 := coord1_lt i
  have hle := hR.le
  have e : countWord c (tbl m 2) = naOf m 0 at1 := (countWord_eq c _).trans (congrFun (V_arg m 0 main_arg4 (by simp)) at1)
  have hn : naOf m 0 at1 = BitVec.ofNat 32 (naOf m 0 at1).toNat := BitVec.eq_of_toNat_eq (by rw [BitVec.toNat_ofNat]; omega)
  unfold InUse k0_cond1
  rw [e]
  refine (mark_eq _).trans ?_
  show IntOp.cmpi .slt (BitVec.ofNat 32 (i 1).val) (naOf m 0 at1) = 1#1 ↔ _
  generalize naOf m 0 at1 = w at *
  rw [hn, WordCmp.cmpi_slt_ofNat_eq_one_iff (by omega) (by omega), ← hn]

/-- A tile that is not marked as a first has a tile of the same expert before it. -/
theorem not_first (i : grid0.Coords) (h : ¬ IsFirst c i (tbl m 1)) :
    ∃ k : Fin 24, (i 1).val = k.val + 1 ∧ teOf m 0 (at25 ⟨k.val + 1, by omega⟩) = teOf m 0 (at25 ⟨k.val, by omega⟩) := by
  have e : firstWord c i (tbl m 1) = (V m 0 main_v5 : IVec S25 32) (at25 ⟨(i 1).val, coord1_lt i⟩) := firstWord_eq c i _
  unfold IsFirst at h
  rw [mark_eq, e] at h
  by_cases h0 : (i 1).val = 0
  · refine absurd ?_ h
    rw [show (at25 ⟨(i 1).val, coord1_lt i⟩) = at25 0 from congrArg at25 (Fin.ext h0), entry_first]
    decide
  · have hk := coord1_lt i
    refine ⟨⟨(i 1).val - 1, by omega⟩, by show _ = _ - 1 + 1; omega, ?_⟩
    by_contra hne
    refine h ?_
    rw [show (at25 ⟨(i 1).val, coord1_lt i⟩) = at25 ⟨(i 1).val - 1 + 1, by omega⟩ from congrArg at25 (Fin.ext (Nat.succ_pred h0).symm),
      entry_firsts m 0 ⟨(i 1).val - 1, by omega⟩]
    rw [show IntOp.cmpi .ne (teOf m 0 (at25 ⟨(i 1).val - 1 + 1, by omega⟩)) (teOf m 0 (at25 ⟨(i 1).val - 1, by omega⟩)) = 1#1 from by
      rw [WordCmp.cmpi_ne_eq, WordCmp.ofBool_decide_eq_one_iff]; exact hne]
    decide

/-- Row `r` of a tile, column `l` of a column block. -/
def row (T : Fin 25) (r : Fin 1024) : Fin 25600 := ⟨1024 * T.val + r.val, by omega⟩
def col (i : grid0.Coords) (l : Fin 512) : Fin 2048 := ⟨512 * (i 0).val + l.val, by have := coord0_lt i; omega⟩
/-- A point's expert. -/
def expert (hR : Routed (teOf m 0) (naOf m 0)) (i : grid0.Coords) : Fin 8 := ⟨expertAt m i, hR.expert _⟩

/-- The activations' block under an index map that names a tile. -/
theorem read0 (a : (pcfg0 (F := F)).Adm) (A : S25600x2816.Idx → Elt F .bf16) (t : Fin (cfg0 a).N) (T : Fin 25)
    (h : cc0_transform_0 inb_S1_S1_0 numel1_S1 a.1 (grid0.coords t) = ![T.val, 0]) (r : Fin 1024) (k : Fin 2816) :
    ((((cfg0 a).win 0).blk t).view.read (Elt F) A : Vec F S1024x2816 .bf16) (ValueIdx.ix2 r k) = A (ValueIdx.ix2 (row T r) k) := by
  have e0 := congrFun h 0
  have e1 := congrFun h 1
  refine congrArg A (funext fun b => Fin.ext ?_)
  generalize hg : cc0_transform_0 inb_S1_S1_0 numel1_S1 a.1 (grid0.coords t) = g at e0 e1
  match b with
  | ⟨0, _⟩ =>
    refine Eq.trans (b := g 0 * 1024 + 1 * r.val) (by rw [← hg]; rfl) ?_
    rw [e0]; show T.val * 1024 + 1 * r.val = 1024 * T.val + r.val; omega
  | ⟨1, _⟩ =>
    refine Eq.trans (b := g 1 * 2816 + 1 * k.val) (by rw [← hg]; rfl) ?_
    rw [e1]; show 0 * 2816 + 1 * k.val = k.val; omega

/-- The activations' block at a point. -/
theorem blk0 (hR : Routed (teOf m 0) (naOf m 0)) (hO : Ok m) (t : Fin (cfgM m hO).N) (r : Fin 1024) (k : Fin 2816) :
    (iblk m hO c 0 t : Vec F S1024x2816 .bf16) (ValueIdx.ix2 r k) = (V m c main_v18 : Vec F S25600x2816 .bf16) (ValueIdx.ix2 (row (tileAt m (grid0.coords t)) r) k) :=
  read0 (adm m hO) (V m c main_v18) t _ (map0 m hR (grid0.coords t)) r k

theorem eq_ix4 (y : S1x1x2816x512.Idx) : y = ValueIdx.ix4 (0 : Fin 1) (0 : Fin 1) (y 2) (y 3) :=
  funext fun a => by
    match a with
    | ⟨0, _⟩ => exact Subsingleton.elim (α := Fin 1) _ _
    | ⟨1, _⟩ => exact Subsingleton.elim (α := Fin 1) _ _
    | ⟨2, _⟩ => rfl
    | ⟨3, _⟩ => rfl

/-- The weight's block at a point. -/
theorem blk1 (hR : Routed (teOf m 0) (naOf m 0)) (hO : Ok m) (t : Fin (cfgM m hO).N) (k : Fin 2816) (l : Fin 512) :
    (iblk m hO c 1 t : Vec F S1x1x2816x512 .f32) (ValueIdx.ix4 0 0 k l)
      = (V m c main_arg1 : Vec F S2x8x2816x2048 .f32) (ValueIdx.ix4 0 (expert m hR (grid0.coords t)) k (col (grid0.coords t) l)) := by
  have e := map1 m hR (grid0.coords t)
  have e0 := congrFun e 0
  have e1 := congrFun e 1
  have e2 := congrFun e 2
  have e3 := congrFun e 3
  refine congrArg (V m c main_arg1 : Vec F S2x8x2816x2048 .f32) (funext fun a => Fin.ext ?_)
  match a with
  | ⟨0, _⟩ =>
    show cc0_transform_1 k0_off1_inb numel1_S1 (tbl m) (grid0.coords t) 0 * 1 + 1 * 0 = 0
    rw [e0]; rfl
  | ⟨1, _⟩ =>
    show cc0_transform_1 k0_off1_inb numel1_S1 (tbl m) (grid0.coords t) 1 * 1 + 1 * 0 = expertAt m (grid0.coords t)
    rw [e1]; show expertAt m (grid0.coords t) * 1 + 1 * 0 = _; omega
  | ⟨2, _⟩ =>
    show cc0_transform_1 k0_off1_inb numel1_S1 (tbl m) (grid0.coords t) 2 * 2816 + 1 * k.val = k.val
    rw [e2]; show 0 * 2816 + 1 * k.val = _; omega
  | ⟨3, _⟩ =>
    show cc0_transform_1 k0_off1_inb numel1_S1 (tbl m) (grid0.coords t) 3 * 512 + 1 * l.val = 512 * (grid0.coords t 0).val + l.val
    rw [e3]; show (grid0.coords t 0).val * 512 + 1 * l.val = _; omega

/-- The block of the rows' weights under an index map that names a tile. -/
theorem read2 (a : (pcfg0 (F := F)).Adm) (A : S25600x1.Idx → Elt F .f32) (t : Fin (cfg0 a).N) (T : Fin 25)
    (h : cc0_transform_2 inb_S1_S1_0 numel1_S1 a.1 (grid0.coords t) = ![T.val, 0]) (r : Fin 1024) :
    ((((cfg0 a).win 2).blk t).view.read (Elt F) A : Vec F S1024x1 .f32) (ValueIdx.ix2 r 0) = A (ValueIdx.ix2 (row T r) 0) := by
  have e0 := congrFun h 0
  have e1 := congrFun h 1
  refine congrArg A (funext fun b => Fin.ext ?_)
  generalize hg : cc0_transform_2 inb_S1_S1_0 numel1_S1 a.1 (grid0.coords t) = g at e0 e1
  match b with
  | ⟨0, _⟩ =>
    refine Eq.trans (b := g 0 * 1024 + 1 * r.val) (by rw [← hg]; rfl) ?_
    rw [e0]; show T.val * 1024 + 1 * r.val = 1024 * T.val + r.val; omega
  | ⟨1, _⟩ =>
    refine Eq.trans (b := g 1 * 1 + 1 * 0) (by rw [← hg]; rfl) ?_
    rw [e1]; rfl

/-- The block of the rows' weights at a point. -/
theorem blk2 (hR : Routed (teOf m 0) (naOf m 0)) (hO : Ok m) (t : Fin (cfgM m hO).N) (r : Fin 1024) :
    (iblk m hO c 2 t : Vec F S1024x1 .f32) (ValueIdx.ix2 r 0) = (V m c main_arg2 : Vec F S25600x1 .f32) (ValueIdx.ix2 (row (tileAt m (grid0.coords t)) r) 0) :=
  read2 (adm m hO) (V m c main_arg2) t _ (map2 m hR (grid0.coords t)) r

/-- Points of one column block and one expert have the same weight block. -/
theorem same1 (hR : Routed (teOf m 0) (naOf m 0)) (hO : Ok m) (s t : Fin (cfgM m hO).N) (h : (grid0.coords s 0).val = (grid0.coords t 0).val)
    (he : expertAt m (grid0.coords s) = expertAt m (grid0.coords t)) :
    (iblk m hO c 1 s : Vec F S1x1x2816x512 .f32) = iblk m hO c 1 t := by
  refine funext fun (y : S1x1x2816x512.Idx) => ?_
  rw [eq_ix4 y]
  refine (blk1 m c hR hO s _ _).trans (Eq.trans ?_ (blk1 m c hR hO t _ _).symm)
  rw [show expert m hR (grid0.coords s) = expert m hR (grid0.coords t) from Fin.ext he,
    show col (grid0.coords s) (y 3) = col (grid0.coords t) (y 3) from Fin.ext (by show 512 * (grid0.coords s 0).val + _ = 512 * (grid0.coords t 0).val + _; rw [h])]
/-- A point's expert, when its tile is in use, is the one the caller names for the tile. -/
theorem tileAt_inUse (i : grid0.Coords) (h : (i 1).val < (naOf m 0 at1).toNat) : (tileAt m i).val = (i 1).val := by
  show min (i 1).val ((naOf m 0 at1).toNat - 1) = _; omega

/-- The kept block stays right. -/
theorem steady_of_routed (hR : Routed (teOf m 0) (naOf m 0)) (hO : Ok m) : Steady m hO := by
  intro c t hu hf
  obtain ⟨k, hk, he⟩ := not_first m c _ hf
  rw [inUse_iff m c hR] at hu
  obtain ⟨c0, c1⟩ := coords_eq t
  have ht : t.val < 100 := (by decide : grid0.N = 100) ▸ t.isLt
  have hs : t.val - 1 < grid0.N := (by decide : grid0.N = 100) ▸ (by omega)
  obtain ⟨d0, d1⟩ := coords_eq ⟨t.val - 1, hs⟩
  have h0 : (grid0.coords ⟨t.val - 1, hs⟩ 0).val = (grid0.coords t 0).val := by rw [d0, c0]; show (t.val - 1) / 25 = _; omega
  have h1 : (grid0.coords ⟨t.val - 1, hs⟩ 1).val = k.val := by rw [d1]; show (t.val - 1) % 25 = _; omega
  have hus : (grid0.coords ⟨t.val - 1, hs⟩ 1).val < (naOf m 0 at1).toNat := by omega
  have hx : expertAt m (grid0.coords ⟨t.val - 1, hs⟩) = expertAt m (grid0.coords t) := by
    unfold expertAt
    rw [show tileAt m (grid0.coords ⟨t.val - 1, hs⟩) = ⟨k.val, by omega⟩ from Fin.ext ((tileAt_inUse m _ hus).trans h1),
      show tileAt m (grid0.coords t) = ⟨k.val + 1, by omega⟩ from Fin.ext ((tileAt_inUse m _ hu).trans hk), he]
  refine ⟨⟨t.val - 1, hs⟩, by show t.val - 1 + 1 = t.val; omega, (inUse_iff m c hR _).mpr hus, ?_⟩
  exact congrArg k0_pay1 (same1 m c hR hO ⟨t.val - 1, hs⟩ t h0 hx)

end Tables

end Cert.MoeDownIdeal.Blocks
-- ==== Proof.MoeDownValue.lean ====
/- The routed down projection: the two frames, the kernel's array after the run, and the value claim. -/
module

public import proofs.«01_k».proof.Proof.MoeDownRef
public import proofs.«01_k».proof.Proof.MoeDownTables
public import proofs.«01_k».proof.Proof.Gen.MoeDown
public import proofs.«01_k».proof.Proof.Gen.Pre_routed_down
public import proofs.«01_k».proof.Defs

@[expose] public section

set_option maxRecDepth 16384

noncomputable section

namespace Cert.MoeDownIdeal.Blocks

open Idealize.ShloMosaic Idealize.ShloMosaic.TcCoe Idealize.ShloMosaic.Tactic Idealize.SL.Sem
open Cert.MoeDownIdeal Cert.MoeDownIdeal.Gen Cert.Dense
open Cert.MoeUpIdeal.Blocks (at25 at1 Routed toNat_word)

section AnyFloat

variable {F : FTy → Type} [FloatOps F]
variable (m : (ℓ : Loc nD τ sig) → Buf (Elt F) ℓ) (ρ : Dev nD → PrngReg)

/-- What the run leaves: the output's array after every write-back, the arguments as they were, and no semaphore held. -/
theorem run_all (hO : Ok m) (hS : Steady m hO) : θ_run defs (onTc (τ := τ) (main (F := F))) ⟨m, fun _ => 0, ρ⟩ (fun r => (∀ c : Dev nD,
      r.2.mem ((c.tc : Thread nD τ).loc main_v19) = (dats m hO 0 c).arrAt 3 (cfgM m hO).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) ∧ r.2.sem = fun _ => 0) :=
  (θ_run _ _ _).mono (fun r h => ⟨fun c =>
    ⟨(h.1 c).1 3,
     ((h.1 c).2 main_arg0 (show main_arg0 ∈ Pipeline.restRefs sig spec0 by decide)).trans (V_arg m c main_arg0 (by simp)),
     ((h.1 c).1 1).trans (((dats m hO 0 c).arrAt_in 1 rfl _).trans ((A_eq m hO c 1).trans (V_arg m c main_arg1 (by simp)))),
     ((h.1 c).1 2).trans (((dats m hO 0 c).arrAt_in 2 rfl _).trans ((A_eq m hO c 2).trans (V_arg m c main_arg2 (by simp)))),
     ((h.1 c).2 main_arg3 (show main_arg3 ∈ Pipeline.restRefs sig spec0 by decide)).trans (V_arg m c main_arg3 (by simp)),
     ((h.1 c).2 main_arg4 (show main_arg4 ∈ Pipeline.restRefs sig spec0 by decide)).trans (V_arg m c main_arg4 (by simp))⟩, h.2⟩) (run_main m ρ hO hS)

/-- The output is written back at every point. -/
theorem flush3 (a : (pcfg0 (F := F)).Adm) : ∀ t : Fin (cfg0 a).N, ((cfg0 a).win 3).flush t = true :=
  (fun t => (Pipeline.Window.flushOf_reads cc0_transform_3 reads0_3 Facts₀.hreads0_3 1 (by decide) (by decide)
    (Pipeline.Window.sep_of_coord cc0_transform_3 1 0 (fun _ => rfl) (by decide)) (P := 1) (m := 0) (by decide) rfl t).mpr (Nat.mod_one _) :
    ∀ t : Fin grid0.N, Pipeline.Window.flushOf grid0 true cc0_transform_3 t = true)

/-- A point's tile, when it is in use or not. -/
def own (i : grid0.Coords) : Fin 25 := ⟨(i 1).val, coord1_lt i⟩

/-- The output's block at a point, as a place of the array. -/
theorem emb3 (a : (pcfg0 (F := F)).Adm) (t : Fin (cfg0 a).N) (r : Fin 1024) (l : Fin 512) :
    ((((cfg0 a).win 3).blk t).view.emb (ValueIdx.ix2 r l : S1024x512.Idx) : S25600x2048.Idx)
      = ValueIdx.ix2 (row (own (grid0.coords t)) r) (col (grid0.coords t) l) := by
  have h0 := coord0_lt (grid0.coords t)
  have h1 := coord1_lt (grid0.coords t)
  have e0 := toNat_word (grid0.coords t 0).val (by omega)
  have e1 := toNat_word (grid0.coords t 1).val (by omega)
  refine funext fun b => Fin.ext ?_
  match b with
  | ⟨0, _⟩ =>
    refine Eq.trans (b := (BitVec.ofNat 32 (grid0.coords t 1).val).toNat * 1024 + 1 * r.val) rfl ?_
    rw [e1]; show (grid0.coords t 1).val * 1024 + 1 * r.val = 1024 * (grid0.coords t 1).val + r.val; omega
  | ⟨1, _⟩ =>
    refine Eq.trans (b := (BitVec.ofNat 32 (grid0.coords t 0).val).toNat * 512 + 1 * l.val) rfl ?_
    rw [e0]; show (grid0.coords t 0).val * 512 + 1 * l.val = 512 * (grid0.coords t 0).val + l.val; omega

/-- Every place of the array is a point's. -/
theorem place (R : Fin 25600) (C : Fin 2048) : ∃ (t : Fin grid0.N) (r : Fin 1024) (l : Fin 512),
    R = row (own (grid0.coords t)) r ∧ C = col (grid0.coords t) l := by
  let t : Fin grid0.N := ⟨25 * (C.val / 512) + R.val / 1024, lt_of_lt_of_eq (by omega) (by decide : 100 = grid0.N)⟩
  obtain ⟨e0, e1⟩ := coords_eq t
  have ht : t.val = 25 * (C.val / 512) + R.val / 1024 := rfl
  refine ⟨t, ⟨R.val % 1024, by omega⟩, ⟨C.val % 512, by omega⟩, Fin.ext ?_, Fin.ext ?_⟩
  · show R.val = 1024 * (grid0.coords t 1).val + R.val % 1024; omega
  · show C.val = 512 * (grid0.coords t 0).val + C.val % 512; omega

end AnyFloat

/-- The two programs have the same text, so at the bit-exact reading they have the same body, the same body table, -/
theorem body_bits : Cert.MoeDown.cc0__moe_down_body (F := Bits) = Cert.MoeDownIdeal.cc0__moe_down_body (F := Bits) := rfl
set_option maxHeartbeats 2000000 in
theorem table_tc (t : Fin grid0.N) (s : (w : Fin 4) → Fin (spec0 w).nbuf) :
    Cert.MoeDown.defs₀ (F := Bits) .tc (0 : Fin 1) (t, s) = Cert.MoeDownIdeal.defs₀ (F := Bits) .tc (0 : Fin 1) (t, s) := rfl
theorem table_bits : Cert.MoeDown.defs₀ (F := Bits) = Cert.MoeDownIdeal.defs₀ (F := Bits) := by
  funext p ℓ a
  cases p with
  | tc => match ℓ, a with | ⟨0, _⟩, (t, s) => exact table_tc t s
  | scScalar k => rfl
  | scVector k l => rfl
theorem defs_bits : Cert.MoeDown.defs (F := Bits) = Cert.MoeDownIdeal.defs (F := Bits) :=
  congrArg (Pipeline.defs (Cert.MoeDownIdeal.pcfgs (F := Bits))) table_bits
set_option maxHeartbeats 4000000 in
/-- and the same main function. -/
theorem main_bits : Cert.MoeDown.main (F := Bits) = Cert.MoeDownIdeal.main (F := Bits) := rfl

/-- The kernel program's frame, at the bit-exact reading. -/
theorem frame_bits : Cert.quiescent_MoeDown := fun m ρ hpre => by
  have hR : Routed (teOf (F := Bits) m 0) (naOf (F := Bits) m 0) := routed_of_pre (hpre 0)
  have H := (θ_run (Cert.MoeDownIdeal.defs (F := Bits)) _ _).mono (fun r h => (⟨fun c => (h.1 c).2, h.2⟩ : _ ∧ _))
    (run_all (F := Bits) m ρ (ok_of_routed m hR) (steady_of_routed m hR _))
  rw [defs_bits, main_bits]
  exact H

/-- The idealized kernel program's frame. -/
theorem frame_ideal : Cert.quiescent_MoeDownIdeal := fun m ρ hpre => by
  have hR : Routed (teOf m 0) (naOf m 0) := routed_of_pre (hpre 0)
  exact (θ_run Cert.MoeDownIdeal.defs _ _).mono (fun r h => ⟨fun c => (h.1 c).2, h.2⟩)
    (run_all m ρ (ok_of_routed m hR) (steady_of_routed m hR _))

variable (m : (ℓ : Loc nD τ sig) → Buf (Elt Idealize.ShloMosaic.Ideal) ℓ) (c : Dev nD)

/-- The activations at region entry are the caller's. -/
theorem entry_acts (i : S25600x2816.Idx) : (V m c main_v18 : S25600x2816.Idx → EReal) i = m ((c : Thread nD τ).loc main_arg0) i := by
  have h : V m c main_v18 = truncf (F := Idealize.ShloMosaic.Ideal) .bf16 (m ((c : Thread nD τ).loc main_arg0)) bitsLt_bf16_f32 := by
    simp only [V, hostOps0]; after_results
  rw [h]; rfl

/-- A weight's block as kept. -/
theorem pay1_apply (x : Vec Idealize.ShloMosaic.Ideal S1x1x2816x512 .f32) (k : Fin 2816) (l : Fin 512) :
    (k0_pay1 x : S2816x512.Idx → EReal) (ix2 k l) = x (ValueIdx.ix4 0 0 k l) := by
  unfold k0_pay1
  rw [shapeCast_self]
  have e := plane4_apply x shapeCasts_S1x1x2816x512_S2816x512 k l
  exact e

/-- The output block of a point in use. -/
theorem pay2_apply (g : Vec Idealize.ShloMosaic.Ideal S1024x1 .f32) (x : Vec Idealize.ShloMosaic.Ideal S1024x2816 .bf16) (a : Vec Idealize.ShloMosaic.Ideal S2816x512 .bf16)
    (r : Fin 1024) (l : Fin 512) :
    (k0_pay2 g x a : S1024x512.Idx → EReal) (ix2 r l) = g (ix2 r 0) * dotv (fun k : Fin 2816 => x (ix2 r k)) (fun k => a (ix2 k l)) := by
  have hd := dot_apply (φ₁ := .bf16) (φ₂ := .bf16) dot_S1024x2816_S2816x512_S1024x512_1_0_0_1_n_n rfl none x a r l
  have hg : (broadcastTo S1024x512 g broadcasts_S1024x1_S1024x512 : S1024x512.Idx → EReal) (ix2 r l) = g (ix2 r 0) := by
    refine congrArg g (funext fun b => ?_)
    match b with
    | ⟨0, _⟩ => rfl
    | ⟨1, _⟩ => exact Subsingleton.elim (α := Fin 1) _ _
  unfold k0_pay2
  rw [shapeCast_self]
  refine Eq.trans ?_ (congrArg₂ (fun g u : EReal => g * u) hg hd)
  rfl

/-- A routed row's expert. -/
def expertOf (hR : Routed (teOf m 0) (naOf m 0)) (R : Fin 25600) : Fin 8 :=
  ⟨(teOf m 0 (at25 (Cert.RefMoeUpIdeal.Blocks.tile R))).toNat, hR.expert _⟩

/-- What the array is to hold: in a tile in use what the row's expert makes, past the last one zero. -/
def target (hR : Routed (teOf m 0) (naOf m 0)) (i : S25600x2048.Idx) : EReal :=
  if (i 0).val / 1024 < (naOf m 0 at1).toNat then
    Cert.RefMoeDownIdeal.Blocks.weighted (m ((c : Thread nD τ).loc main_arg0)) (m ((c : Thread nD τ).loc main_arg1)) (m ((c : Thread nD τ).loc main_arg2))
      (i 0) (i 1) (expertOf m hR (i 0))
  else 0

/-- A point leaves its block of it. -/
theorem made_eq (hR : Routed (teOf m 0) (naOf m 0)) (hO : Ok m) (t : Fin (cfgM m hO).N) (r : Fin 1024) (l : Fin 512) :
    (made m hO c t : S1024x512.Idx → EReal) (ix2 r l)
      = target m c hR (ValueIdx.ix2 (row (own (grid0.coords t)) r) (col (grid0.coords t) l)) := by
  have hq : (row (own (grid0.coords t)) r).val / 1024 = (grid0.coords t 1).val := by
    show (1024 * (grid0.coords t 1).val + r.val) / 1024 = _; omega
  have hu := inUse_iff m c hR (grid0.coords t)
  unfold made target
  by_cases h : (grid0.coords t 1).val < (naOf m 0 at1).toNat
  · have hT : tileAt m (grid0.coords t) = own (grid0.coords t) := Fin.ext (tileAt_inUse m _ h)
    have hE : expert m hR (grid0.coords t) = expertOf m hR (row (own (grid0.coords t)) r) := by
      refine Fin.ext ?_
      show (teOf m 0 (at25 (tileAt m (grid0.coords t)))).toNat = _
      rw [hT]
      exact congrArg (fun T => (teOf m 0 (at25 T)).toNat) (Fin.ext hq.symm)
    rw [if_pos (hu.mpr h), if_pos (lt_of_eq_of_lt hq h)]
    refine (pay2_apply _ _ _ r l).trans ?_
    have e1 : dotv (fun k : Fin 2816 => (iblk m hO c 0 t : S1024x2816.Idx → EReal) (ix2 r k)) (fun k => (k0_pay1 (iblk m hO c 1 t) : S2816x512.Idx → EReal) (ix2 k l))
        = Cert.RefMoeDownIdeal.Blocks.dotAt (m ((c : Thread nD τ).loc main_arg0)) (m ((c : Thread nD τ).loc main_arg1))
          (expertOf m hR (row (own (grid0.coords t)) r)) (row (own (grid0.coords t)) r) (col (grid0.coords t) l) := by
      refine dotv_congr (fun k => ?_) (fun k => ?_)
      · refine (blk0 m c hR hO t r k).trans ((entry_acts m c _).trans ?_)
        rw [hT]; rfl
      · refine (pay1_apply _ k l).trans ((blk1 m c hR hO t k l).trans ((congrFun (V_arg m c main_arg1 (by simp)) _).trans ?_))
        rw [hE]
    have e2 : (iblk m hO c 2 t : S1024x1.Idx → EReal) (ix2 r 0) = m ((c : Thread nD τ).loc main_arg2) (ix2 (row (own (grid0.coords t)) r) 0) := by
      refine (blk2 m c hR hO t r).trans ((congrFun (V_arg m c main_arg2 (by simp)) _).trans ?_)
      rw [hT]; rfl
    exact congrArg₂ (fun g u : EReal => g * u) e2 e1
  · rw [if_neg (fun h' => h (hu.mp h')), if_neg (fun h' => h (lt_of_eq_of_lt hq.symm h'))]
    exact Idealize.ShloMosaic.Ideal.ofBits_zero_f32

/-- The kernel's array after the run. -/
theorem array_eq (hR : Routed (teOf m 0) (naOf m 0)) (hO : Ok m) :
    ((dats m hO 0 c).arrAt 3 (cfgM m hO).N : S25600x2048.Idx → EReal) = target m c hR := by
  refine (dats m hO 0 c).arrAt_eq_of_cover 3 (target m c hR) (fun t _ => ?_) (fun (i : S25600x2048.Idx) => ?_)
  · refine funext fun (y : S1024x512.Idx) => ?_
    obtain ⟨r, l, rfl⟩ : ∃ (r : Fin 1024) (l : Fin 512), y = ix2 r l := ⟨y 0, y 1, eq_ix2 y⟩
    refine (congrFun (after_3 m hO c t) (ix2 r l)).trans ((made_eq m c hR hO t r l).trans ?_)
    exact congrArg (target m c hR) (emb3 (adm m hO) t r l).symm
  · obtain ⟨t, r, l, hr, hl⟩ := place (i 0) (i 1)
    refine ⟨t, flush3 (adm m hO) t, ?_⟩
    have e : i = (((cfgM m hO).win 3).blk t).view.emb (ValueIdx.ix2 r l : S1024x512.Idx) := by
      refine Eq.trans ?_ (emb3 (adm m hO) t r l).symm
      rw [← hr, ← hl]; exact eq_ix2 i
    rw [e]
    exact View.emb_mem_set _ _

/-- The routed down projection's value claim. -/
theorem value : Cert.algebraic_MoeDownIdeal_RefMoeDownIdeal := fun m ρ m' ρ' hpre hag => by
  have hR : Routed (teOf m 0) (naOf m 0) := routed_of_pre (hpre 0)
  have hO := ok_of_routed m hR
  refine ⟨fun c => (dats m hO 0 c).arrAt 3 (cfgM m hO).N, (θ_run _ _ _).mono (fun r h => h.1) (run_all m ρ hO (steady_of_routed m hR hO)),
    (θ_run _ _ _).mono (fun r h c => ?_) (Cert.RefMoeDownIdeal.Value.run (F := Idealize.ShloMosaic.Ideal) m' ρ')⟩
  refine ⟨(h c).1.trans ?_, (h c).2⟩
  obtain ⟨e0, e1, e2, e3, e4⟩ := hag c
  have hc : c = 0 := Subsingleton.elim (α := Fin 1) _ _
  subst hc
  refine Eq.trans ?_ (array_eq m 0 hR hO).symm
  funext i
  obtain ⟨R, C, rfl⟩ : ∃ R C, i = ix2 R C := ⟨i 0, i 1, eq_ix2 i⟩
  refine (congrFun (Cert.RefMoeDownIdeal.Read.val_main_v75_eq (F := Idealize.ShloMosaic.Ideal) m' 0) (ix2 R C)).trans ?_
  have H := Cert.RefMoeDownIdeal.Blocks.entry (m (((0 : Dev nD) : Thread nD τ).loc main_arg0)) (m (((0 : Dev nD) : Thread nD τ).loc main_arg1)) (m (((0 : Dev nD) : Thread nD τ).loc main_arg2))
    (teOf m 0) (naOf m 0) R C (hR.expert _) hR.le
  have E := congr (congr (congr (congr (congrArg (Cert.RefMoeDownIdeal.Read.val_main_v75 (F := Idealize.ShloMosaic.Ideal)) e0) e1) e2) e3) e4
  exact (congrFun E (ix2 R C)).trans H

end Cert.MoeDownIdeal.Blocks
-- ==== Proof.lean ====
/-
  The chunked delta-rule scan of the RWKV-7 layer and eight of its dense and routed calls, and what is claimed of them. `Cert.Kernel` is the layer's scan call with its host
  preparation; `Cert.ReferenceIdeal` is the recurrence token by token. Over the reals both give, for every direction, sequence,
  head and token, the output of one recurrence (`DeltaRule.outAt`): the kernel by chunks of 64 tokens (`Chain.scan0`, `Chain.scan1`),
  the reference by its loop of 4352 trips (`Scan.result0`, `Scan.result1`). The dense calls' proofs are in `Up`, `Down`, `Out`, `In`,
  `Gates` and `Merge`: entry by entry, what the run of a call's blocks leaves and what its reference computes. The routed calls' are
  in `MoeValue` and `MoeDownValue`.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Pre_finite
public import proofs.«01_k».proof.Proof.Gen.Kernel.Frame
public import proofs.«01_k».proof.Proof.Gen.KernelIdeal.Value
public import proofs.«01_k».proof.Proof.Gen.ReferenceIdeal.Run
public import proofs.«01_k».proof.Proof.Gen.Up.Frame
public import proofs.«01_k».proof.Proof.Gen.UpIdeal.Value
public import proofs.«01_k».proof.Proof.Gen.RefUpIdeal.Run
public import proofs.«01_k».proof.Proof.Gen.Down.Frame
public import proofs.«01_k».proof.Proof.Gen.DownIdeal.Value
public import proofs.«01_k».proof.Proof.Gen.RefDownIdeal.Run
public import proofs.«01_k».proof.Proof.Gen.Out.Frame
public import proofs.«01_k».proof.Proof.Gen.OutIdeal.Value
public import proofs.«01_k».proof.Proof.Gen.RefOutIdeal.Run
public import proofs.«01_k».proof.Proof.Gen.In.Frame
public import proofs.«01_k».proof.Proof.Gen.InIdeal.Value
public import proofs.«01_k».proof.Proof.Gen.RefInIdeal.Run
public import proofs.«01_k».proof.Proof.Gen.Gates.Frame
public import proofs.«01_k».proof.Proof.Gen.GatesIdeal.Value
public import proofs.«01_k».proof.Proof.Gen.RefGatesIdeal.Run
public import proofs.«01_k».proof.Proof.Gen.Merge.Frame
public import proofs.«01_k».proof.Proof.Gen.MergeIdeal.Value
public import proofs.«01_k».proof.Proof.Gen.RefMergeIdeal.Run
public import proofs.«01_k».proof.Proof.Gen.MoeUp
public import proofs.«01_k».proof.Proof.Gen.MoeUpIdeal.Skeleton
public import proofs.«01_k».proof.Proof.Gen.MoeUpIdeal.Launch
public import proofs.«01_k».proof.Proof.Gen.RefMoeUpIdeal.Run
public import proofs.«01_k».proof.Proof.Gen.RefMoeUpIdeal.Read
public import proofs.«01_k».proof.Proof.Gen.Pre_routed
public import proofs.«01_k».proof.Proof.Gen.MoeDown
public import proofs.«01_k».proof.Proof.Gen.MoeDownIdeal.Skeleton
public import proofs.«01_k».proof.Proof.Gen.MoeDownIdeal.Launch
public import proofs.«01_k».proof.Proof.Gen.RefMoeDownIdeal.Run
public import proofs.«01_k».proof.Proof.Gen.RefMoeDownIdeal.Read
public import proofs.«01_k».proof.Proof.Gen.Pre_routed_down
public import proofs.«01_k».proof.Proof.PrepReal
public import proofs.«01_k».proof.Proof.RefEntry
public import proofs.«01_k».proof.Proof.Finite
public import proofs.«01_k».proof.Proof.Up
public import proofs.«01_k».proof.Proof.Down
public import proofs.«01_k».proof.Proof.Out
public import proofs.«01_k».proof.Proof.In
public import proofs.«01_k».proof.Proof.Gates
public import proofs.«01_k».proof.Proof.Merge
public import proofs.«01_k».proof.Proof.MoeValue
public import proofs.«01_k».proof.Proof.MoeDownValue

@[expose] public section

noncomputable section

namespace Cert.Proof

open Idealize.ShloMosaic Idealize.ShloMosaic.TcCoe Idealize.SL.Sem
open DeltaRule

/-- The kernel program's frame, at the bit-exact reading. -/
theorem frame_kernel : Cert.quiescent_Kernel := fun m ρ _ => Cert.Kernel.Gen.frame m ρ

/-- The idealized kernel program's frame. -/
theorem frame_kernelIdeal : Cert.quiescent_KernelIdeal := fun m ρ _ => Cert.KernelIdeal.Gen.frame m ρ

/-- The reference's frame: its run leaves the arguments, and it declares no semaphore. -/
theorem frame_referenceIdeal : Cert.quiescent_ReferenceIdeal := fun m ρ _ =>
  (θ_run Cert.ReferenceIdeal.defs _ _).mono (fun r h => ⟨fun c => (h c).2.2,
      Idealize.ShloMosaic.sem_eq_zero_of_no_sems (by decide) r.2⟩)
    (Cert.ReferenceIdeal.Value.run (F := Ideal) m ρ)

/-- Every column is one head's place. -/
theorem column (l : Fin 1024) : ∃ (q : Fin 8) (h : Fin 2) (j : Fin 64), l = Cert.ReferenceIdeal.Scan.col q h j :=
  ⟨⟨l.val / 128, by omega⟩, ⟨l.val % 128 / 64, by omega⟩, ⟨l.val % 64, by omega⟩, Fin.ext (by
    show l.val = 128 * (l.val / 128) + (64 * (l.val % 128 / 64) + l.val % 64); omega)⟩

/-- Two results that agree at every token read and every column are equal. -/
theorem results_ext (d : Fin 2) (X Y : (⟨2, ![8704, 1024]⟩ : Shape).Idx → EReal)
    (e : ∀ b t (hb : b < 2) (ht : t < 4352) q h j, X (ix2 ⟨tokAt d b t, tokAt_lt d b t hb ht⟩ (Cert.ReferenceIdeal.Scan.col q h j))
      = Y (ix2 ⟨tokAt d b t, tokAt_lt d b t hb ht⟩ (Cert.ReferenceIdeal.Scan.col q h j))) : X = Y := by
  funext i
  obtain ⟨b, t, hb, ht, hT⟩ := exists_time d (i 0).val (i 0).isLt
  obtain ⟨q, h, j, hl⟩ := column (i 1)
  have hi : i = ix2 ⟨tokAt d b t, tokAt_lt d b t hb ht⟩ (Cert.ReferenceIdeal.Scan.col q h j) := by
    funext a
    match a with
    | ⟨0, _⟩ => exact Fin.ext hT.symm
    | ⟨1, _⟩ => exact hl
  rw [hi]
  exact e b t hb ht q h j

/-- The kernel's two results are the reference's, on finite arguments. -/
theorem scan_value : Cert.algebraic_KernelIdeal_ReferenceIdeal_pre_finite := fun m ρ m' ρ' hpre hag =>
  ⟨fun c => (Cert.KernelIdeal.Gen.dats m 0 c).arrAt 16 Cert.KernelIdeal.cfg0.N, fun c => (Cert.KernelIdeal.Gen.dats m 0 c).arrAt 17 Cert.KernelIdeal.cfg0.N,
    Cert.KernelIdeal.Value.run_blocks m ρ,
    (θ_run _ _ _).mono (fun r h c => by
      obtain ⟨A, H⟩ : ∃ A, Reads A _ _ _ _ _ _ := ⟨_, reads _ _ _ _ _ _ (hpre c)⟩
      have H' := H
      obtain ⟨e0, e1, e2, e3, e4, e5⟩ := hag c
      rw [← e0, ← e1, ← e2, ← e3, ← e4, ← e5] at H'
      have T := (Cert.ReferenceIdeal.Scan.entry H').iterate 4352 le_rfl
      refine ⟨(h c).1.trans ?_, (h c).2.1.trans ?_, (h c).2.2⟩
      · exact results_ext 0 _ _ fun b t hb ht q h j => (Cert.ReferenceIdeal.Scan.result0 T b t hb ht q h j).trans (Cert.KernelIdeal.Chain.scan0 H b t hb ht q h j).symm
      · exact results_ext 1 _ _ fun b t hb ht q h j => (Cert.ReferenceIdeal.Scan.result1 T b t hb ht q h j).trans (Cert.KernelIdeal.Chain.scan1 H b t hb ht q h j).symm)
      (Cert.ReferenceIdeal.Value.run (F := Ideal) m' ρ')⟩

/-- The frame of a dense call's reference: its run leaves the arguments, and it declares no semaphore. -/
theorem frame_refUp : Cert.quiescent_RefUpIdeal := fun m ρ _ =>
  (θ_run Cert.RefUpIdeal.defs _ _).mono (fun r h => ⟨fun c => (h c).2,
      Idealize.ShloMosaic.sem_eq_zero_of_no_sems (by decide) r.2⟩)
    (Cert.RefUpIdeal.Value.run (F := Ideal) m ρ)

/-- The frame of a dense call's reference: its run leaves the arguments, and it declares no semaphore. -/
theorem frame_refDown : Cert.quiescent_RefDownIdeal := fun m ρ _ =>
  (θ_run Cert.RefDownIdeal.defs _ _).mono (fun r h => ⟨fun c => (h c).2,
      Idealize.ShloMosaic.sem_eq_zero_of_no_sems (by decide) r.2⟩)
    (Cert.RefDownIdeal.Value.run (F := Ideal) m ρ)

/-- The frame of a dense call's reference: its run leaves the arguments, and it declares no semaphore. -/
theorem frame_refOut : Cert.quiescent_RefOutIdeal := fun m ρ _ =>
  (θ_run Cert.RefOutIdeal.defs _ _).mono (fun r h => ⟨fun c => (h c).2,
      Idealize.ShloMosaic.sem_eq_zero_of_no_sems (by decide) r.2⟩)
    (Cert.RefOutIdeal.Value.run (F := Ideal) m ρ)

/-- The frame of a dense call's reference: its run leaves the arguments, and it declares no semaphore. -/
theorem frame_refIn : Cert.quiescent_RefInIdeal := fun m ρ _ =>
  (θ_run Cert.RefInIdeal.defs _ _).mono (fun r h => ⟨fun c => (h c).2,
      Idealize.ShloMosaic.sem_eq_zero_of_no_sems (by decide) r.2⟩)
    (Cert.RefInIdeal.Value.run (F := Ideal) m ρ)

/-- The frame of a dense call's reference: its run leaves the arguments, and it declares no semaphore. -/
theorem frame_refGates : Cert.quiescent_RefGatesIdeal := fun m ρ _ =>
  (θ_run Cert.RefGatesIdeal.defs _ _).mono (fun r h => ⟨fun c => (h c).2,
      Idealize.ShloMosaic.sem_eq_zero_of_no_sems (by decide) r.2⟩)
    (Cert.RefGatesIdeal.Value.run (F := Ideal) m ρ)

/-- The frame of a dense call's reference: its run leaves the arguments, and it declares no semaphore. -/
theorem frame_refMerge : Cert.quiescent_RefMergeIdeal := fun m ρ _ =>
  (θ_run Cert.RefMergeIdeal.defs _ _).mono (fun r h => ⟨fun c => (h c).2,
      Idealize.ShloMosaic.sem_eq_zero_of_no_sems (by decide) r.2⟩)
    (Cert.RefMergeIdeal.Value.run (F := Ideal) m ρ)

/-- The frame of the routed up projections' reference: its run leaves the arguments, and it declares no semaphore. -/
theorem frame_refMoeUp : Cert.quiescent_RefMoeUpIdeal := fun m ρ _ =>
  (θ_run Cert.RefMoeUpIdeal.defs _ _).mono (fun r h => ⟨fun c => (h c).2,
      Idealize.ShloMosaic.sem_eq_zero_of_no_sems (by decide) r.2⟩)
    (Cert.RefMoeUpIdeal.Value.run (F := Ideal) m ρ)

/-- The frame of the routed down projection's reference: its run leaves the arguments, and it declares no semaphore. -/
theorem frame_refMoeDown : Cert.quiescent_RefMoeDownIdeal := fun m ρ _ =>
  (θ_run Cert.RefMoeDownIdeal.defs _ _).mono (fun r h => ⟨fun c => (h c).2,
      Idealize.ShloMosaic.sem_eq_zero_of_no_sems (by decide) r.2⟩)
    (Cert.RefMoeDownIdeal.Value.run (F := Ideal) m ρ)

/-- Every claim of the certificate. -/
theorem claim : Cert.Claim := ⟨Cert.Kernel.Gen.facts, Cert.KernelIdeal.Gen.facts, Cert.ReferenceIdeal.Gen.facts,
  Cert.Up.Gen.facts, Cert.UpIdeal.Gen.facts, Cert.RefUpIdeal.Gen.facts, Cert.Down.Gen.facts, Cert.DownIdeal.Gen.facts, Cert.RefDownIdeal.Gen.facts, Cert.Out.Gen.facts, Cert.OutIdeal.Gen.facts, Cert.RefOutIdeal.Gen.facts, Cert.In.Gen.facts, Cert.InIdeal.Gen.facts, Cert.RefInIdeal.Gen.facts, Cert.Gates.Gen.facts, Cert.GatesIdeal.Gen.facts, Cert.RefGatesIdeal.Gen.facts, Cert.Merge.Gen.facts, Cert.MergeIdeal.Gen.facts, Cert.RefMergeIdeal.Gen.facts, Cert.MoeUp.Gen.facts, Cert.MoeUpIdeal.Gen.facts, Cert.RefMoeUpIdeal.Gen.facts, Cert.MoeDown.Gen.facts, Cert.MoeDownIdeal.Gen.facts, Cert.RefMoeDownIdeal.Gen.facts, Cert.Pre_finite.Gen.facts, Cert.Pre_routed.Gen.facts, Cert.Pre_routed_down.Gen.facts,
  frame_kernel, frame_kernelIdeal, fun m ρ _ => frame_kernelIdeal m ρ trivial, frame_referenceIdeal,
  fun m ρ _ => frame_referenceIdeal m ρ trivial,
  fun m ρ _ => Cert.Up.Gen.frame m ρ, fun m ρ _ => Cert.UpIdeal.Gen.frame m ρ, frame_refUp,
  fun m ρ _ => Cert.Down.Gen.frame m ρ, fun m ρ _ => Cert.DownIdeal.Gen.frame m ρ, frame_refDown,
  fun m ρ _ => Cert.Out.Gen.frame m ρ, fun m ρ _ => Cert.OutIdeal.Gen.frame m ρ, frame_refOut,
  fun m ρ _ => Cert.In.Gen.frame m ρ, fun m ρ _ => Cert.InIdeal.Gen.frame m ρ, frame_refIn,
  fun m ρ _ => Cert.Gates.Gen.frame m ρ, fun m ρ _ => Cert.GatesIdeal.Gen.frame m ρ, frame_refGates,
  fun m ρ _ => Cert.Merge.Gen.frame m ρ, fun m ρ _ => Cert.MergeIdeal.Gen.frame m ρ, frame_refMerge,
  Cert.MoeUpIdeal.Blocks.frame_bits, Cert.MoeUpIdeal.Blocks.frame_ideal, frame_refMoeUp, fun m ρ _ => frame_refMoeUp m ρ trivial,
  Cert.MoeDownIdeal.Blocks.frame_bits, Cert.MoeDownIdeal.Blocks.frame_ideal, frame_refMoeDown, fun m ρ _ => frame_refMoeDown m ρ trivial,
  trivial, scan_value,
  trivial, Cert.UpIdeal.Blocks.value, trivial, Cert.DownIdeal.Blocks.value, trivial, Cert.OutIdeal.Blocks.value, trivial, Cert.InIdeal.Blocks.value, trivial, Cert.GatesIdeal.Blocks.value, trivial, Cert.MergeIdeal.Blocks.value, trivial, Cert.MoeUpIdeal.Blocks.value, trivial, Cert.MoeDownIdeal.Blocks.value⟩

end Cert.Proof

end
